-- ==== Defs.lean ====
def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_FfnHidden (m : (ℓ : Loc Cert.FfnHidden.nD Cert.FfnHidden.τ Cert.FfnHidden.sig) → Buf (Elt Bits) ℓ) : Prop :=
  True

def Pre_FfnHiddenIdeal (m : (ℓ : Loc Cert.FfnHiddenIdeal.nD Cert.FfnHiddenIdeal.τ Cert.FfnHiddenIdeal.sig) → Buf (Elt Ideal) ℓ) : Prop :=
  True

def Pre_FfnHiddenIdeal_finite_hidden [hPre_finite_hidden : Cert.Pre_finite_hidden.Facts] (m : (ℓ : Loc Cert.FfnHiddenIdeal.nD Cert.FfnHiddenIdeal.τ Cert.FfnHiddenIdeal.sig) → Buf (Elt Ideal) ℓ) : Prop :=
  ∀ c : Dev Cert.FfnHiddenIdeal.nD,
    (Cert.Pre_finite_hidden.fn (F := Ideal) (m ((c.tc : Thread Cert.FfnHiddenIdeal.nD Cert.FfnHiddenIdeal.τ).loc Cert.FfnHiddenIdeal.main_arg0)) (m ((c.tc : Thread Cert.FfnHiddenIdeal.nD Cert.FfnHiddenIdeal.τ).loc Cert.FfnHiddenIdeal.main_arg1)) (m ((c.tc : Thread Cert.FfnHiddenIdeal.nD Cert.FfnHiddenIdeal.τ).loc Cert.FfnHiddenIdeal.main_arg2)) (m ((c.tc : Thread Cert.FfnHiddenIdeal.nD Cert.FfnHiddenIdeal.τ).loc Cert.FfnHiddenIdeal.main_arg3)) (m ((c.tc : Thread Cert.FfnHiddenIdeal.nD Cert.FfnHiddenIdeal.τ).loc Cert.FfnHiddenIdeal.main_arg4)) (m ((c.tc : Thread Cert.FfnHiddenIdeal.nD Cert.FfnHiddenIdeal.τ).loc Cert.FfnHiddenIdeal.main_arg5))).1 = (fun _ => 1#1)
    ∧ (Cert.Pre_finite_hidden.fn (F := Ideal) (m ((c.tc : Thread Cert.FfnHiddenIdeal.nD Cert.FfnHiddenIdeal.τ).loc Cert.FfnHiddenIdeal.main_arg0)) (m ((c.tc : Thread Cert.FfnHiddenIdeal.nD Cert.FfnHiddenIdeal.τ).loc Cert.FfnHiddenIdeal.main_arg1)) (m ((c.tc : Thread Cert.FfnHiddenIdeal.nD Cert.FfnHiddenIdeal.τ).loc Cert.FfnHiddenIdeal.main_arg2)) (m ((c.tc : Thread Cert.FfnHiddenIdeal.nD Cert.FfnHiddenIdeal.τ).loc Cert.FfnHiddenIdeal.main_arg3)) (m ((c.tc : Thread Cert.FfnHiddenIdeal.nD Cert.FfnHiddenIdeal.τ).loc Cert.FfnHiddenIdeal.main_arg4)) (m ((c.tc : Thread Cert.FfnHiddenIdeal.nD Cert.FfnHiddenIdeal.τ).loc Cert.FfnHiddenIdeal.main_arg5))).2.1 = (fun _ => 1#1)
    ∧ (Cert.Pre_finite_hidden.fn (F := Ideal) (m ((c.tc : Thread Cert.FfnHiddenIdeal.nD Cert.FfnHiddenIdeal.τ).loc Cert.FfnHiddenIdeal.main_arg0)) (m ((c.tc : Thread Cert.FfnHiddenIdeal.nD Cert.FfnHiddenIdeal.τ).loc Cert.FfnHiddenIdeal.main_arg1)) (m ((c.tc : Thread Cert.FfnHiddenIdeal.nD Cert.FfnHiddenIdeal.τ).loc Cert.FfnHiddenIdeal.main_arg2)) (m ((c.tc : Thread Cert.FfnHiddenIdeal.nD Cert.FfnHiddenIdeal.τ).loc Cert.FfnHiddenIdeal.main_arg3)) (m ((c.tc : Thread Cert.FfnHiddenIdeal.nD Cert.FfnHiddenIdeal.τ).loc Cert.FfnHiddenIdeal.main_arg4)) (m ((c.tc : Thread Cert.FfnHiddenIdeal.nD Cert.FfnHiddenIdeal.τ).loc Cert.FfnHiddenIdeal.main_arg5))).2.2.1 = (fun _ => 1#1)
    ∧ (Cert.Pre_finite_hidden.fn (F := Ideal) (m ((c.tc : Thread Cert.FfnHiddenIdeal.nD Cert.FfnHiddenIdeal.τ).loc Cert.FfnHiddenIdeal.main_arg0)) (m ((c.tc : Thread Cert.FfnHiddenIdeal.nD Cert.FfnHiddenIdeal.τ).loc Cert.FfnHiddenIdeal.main_arg1)) (m ((c.tc : Thread Cert.FfnHiddenIdeal.nD Cert.FfnHiddenIdeal.τ).loc Cert.FfnHiddenIdeal.main_arg2)) (m ((c.tc : Thread Cert.FfnHiddenIdeal.nD Cert.FfnHiddenIdeal.τ).loc Cert.FfnHiddenIdeal.main_arg3)) (m ((c.tc : Thread Cert.FfnHiddenIdeal.nD Cert.FfnHiddenIdeal.τ).loc Cert.FfnHiddenIdeal.main_arg4)) (m ((c.tc : Thread Cert.FfnHiddenIdeal.nD Cert.FfnHiddenIdeal.τ).loc Cert.FfnHiddenIdeal.main_arg5))).2.2.2.1 = (fun _ => 1#1)
    ∧ (Cert.Pre_finite_hidden.fn (F := Ideal) (m ((c.tc : Thread Cert.FfnHiddenIdeal.nD Cert.FfnHiddenIdeal.τ).loc Cert.FfnHiddenIdeal.main_arg0)) (m ((c.tc : Thread Cert.FfnHiddenIdeal.nD Cert.FfnHiddenIdeal.τ).loc Cert.FfnHiddenIdeal.main_arg1)) (m ((c.tc : Thread Cert.FfnHiddenIdeal.nD Cert.FfnHiddenIdeal.τ).loc Cert.FfnHiddenIdeal.main_arg2)) (m ((c.tc : Thread Cert.FfnHiddenIdeal.nD Cert.FfnHiddenIdeal.τ).loc Cert.FfnHiddenIdeal.main_arg3)) (m ((c.tc : Thread Cert.FfnHiddenIdeal.nD Cert.FfnHiddenIdeal.τ).loc Cert.FfnHiddenIdeal.main_arg4)) (m ((c.tc : Thread Cert.FfnHiddenIdeal.nD Cert.FfnHiddenIdeal.τ).loc Cert.FfnHiddenIdeal.main_arg5))).2.2.2.2 = (fun _ => 1#1)

def Pre_FfnHiddenRefIdeal (m : (ℓ : Loc Cert.FfnHiddenRefIdeal.nD Cert.FfnHiddenRefIdeal.τ Cert.FfnHiddenRefIdeal.sig) → Buf (Elt Ideal) ℓ) : Prop :=
  True

def Pre_FfnHiddenRefIdeal_finite_hidden [hPre_finite_hidden : Cert.Pre_finite_hidden.Facts] (m : (ℓ : Loc Cert.FfnHiddenRefIdeal.nD Cert.FfnHiddenRefIdeal.τ Cert.FfnHiddenRefIdeal.sig) → Buf (Elt Ideal) ℓ) : Prop :=
  ∀ c : Dev Cert.FfnHiddenRefIdeal.nD,
    (Cert.Pre_finite_hidden.fn (F := Ideal) (m ((c.tc : Thread Cert.FfnHiddenRefIdeal.nD Cert.FfnHiddenRefIdeal.τ).loc Cert.FfnHiddenRefIdeal.main_arg0)) (m ((c.tc : Thread Cert.FfnHiddenRefIdeal.nD Cert.FfnHiddenRefIdeal.τ).loc Cert.FfnHiddenRefIdeal.main_arg1)) (m ((c.tc : Thread Cert.FfnHiddenRefIdeal.nD Cert.FfnHiddenRefIdeal.τ).loc Cert.FfnHiddenRefIdeal.main_arg2)) (m ((c.tc : Thread Cert.FfnHiddenRefIdeal.nD Cert.FfnHiddenRefIdeal.τ).loc Cert.FfnHiddenRefIdeal.main_arg3)) (m ((c.tc : Thread Cert.FfnHiddenRefIdeal.nD Cert.FfnHiddenRefIdeal.τ).loc Cert.FfnHiddenRefIdeal.main_arg4)) (m ((c.tc : Thread Cert.FfnHiddenRefIdeal.nD Cert.FfnHiddenRefIdeal.τ).loc Cert.FfnHiddenRefIdeal.main_arg5))).1 = (fun _ => 1#1)
    ∧ (Cert.Pre_finite_hidden.fn (F := Ideal) (m ((c.tc : Thread Cert.FfnHiddenRefIdeal.nD Cert.FfnHiddenRefIdeal.τ).loc Cert.FfnHiddenRefIdeal.main_arg0)) (m ((c.tc : Thread Cert.FfnHiddenRefIdeal.nD Cert.FfnHiddenRefIdeal.τ).loc Cert.FfnHiddenRefIdeal.main_arg1)) (m ((c.tc : Thread Cert.FfnHiddenRefIdeal.nD Cert.FfnHiddenRefIdeal.τ).loc Cert.FfnHiddenRefIdeal.main_arg2)) (m ((c.tc : Thread Cert.FfnHiddenRefIdeal.nD Cert.FfnHiddenRefIdeal.τ).loc Cert.FfnHiddenRefIdeal.main_arg3)) (m ((c.tc : Thread Cert.FfnHiddenRefIdeal.nD Cert.FfnHiddenRefIdeal.τ).loc Cert.FfnHiddenRefIdeal.main_arg4)) (m ((c.tc : Thread Cert.FfnHiddenRefIdeal.nD Cert.FfnHiddenRefIdeal.τ).loc Cert.FfnHiddenRefIdeal.main_arg5))).2.1 = (fun _ => 1#1)
    ∧ (Cert.Pre_finite_hidden.fn (F := Ideal) (m ((c.tc : Thread Cert.FfnHiddenRefIdeal.nD Cert.FfnHiddenRefIdeal.τ).loc Cert.FfnHiddenRefIdeal.main_arg0)) (m ((c.tc : Thread Cert.FfnHiddenRefIdeal.nD Cert.FfnHiddenRefIdeal.τ).loc Cert.FfnHiddenRefIdeal.main_arg1)) (m ((c.tc : Thread Cert.FfnHiddenRefIdeal.nD Cert.FfnHiddenRefIdeal.τ).loc Cert.FfnHiddenRefIdeal.main_arg2)) (m ((c.tc : Thread Cert.FfnHiddenRefIdeal.nD Cert.FfnHiddenRefIdeal.τ).loc Cert.FfnHiddenRefIdeal.main_arg3)) (m ((c.tc : Thread Cert.FfnHiddenRefIdeal.nD Cert.FfnHiddenRefIdeal.τ).loc Cert.FfnHiddenRefIdeal.main_arg4)) (m ((c.tc : Thread Cert.FfnHiddenRefIdeal.nD Cert.FfnHiddenRefIdeal.τ).loc Cert.FfnHiddenRefIdeal.main_arg5))).2.2.1 = (fun _ => 1#1)
    ∧ (Cert.Pre_finite_hidden.fn (F := Ideal) (m ((c.tc : Thread Cert.FfnHiddenRefIdeal.nD Cert.FfnHiddenRefIdeal.τ).loc Cert.FfnHiddenRefIdeal.main_arg0)) (m ((c.tc : Thread Cert.FfnHiddenRefIdeal.nD Cert.FfnHiddenRefIdeal.τ).loc Cert.FfnHiddenRefIdeal.main_arg1)) (m ((c.tc : Thread Cert.FfnHiddenRefIdeal.nD Cert.FfnHiddenRefIdeal.τ).loc Cert.FfnHiddenRefIdeal.main_arg2)) (m ((c.tc : Thread Cert.FfnHiddenRefIdeal.nD Cert.FfnHiddenRefIdeal.τ).loc Cert.FfnHiddenRefIdeal.main_arg3)) (m ((c.tc : Thread Cert.FfnHiddenRefIdeal.nD Cert.FfnHiddenRefIdeal.τ).loc Cert.FfnHiddenRefIdeal.main_arg4)) (m ((c.tc : Thread Cert.FfnHiddenRefIdeal.nD Cert.FfnHiddenRefIdeal.τ).loc Cert.FfnHiddenRefIdeal.main_arg5))).2.2.2.1 = (fun _ => 1#1)
    ∧ (Cert.Pre_finite_hidden.fn (F := Ideal) (m ((c.tc : Thread Cert.FfnHiddenRefIdeal.nD Cert.FfnHiddenRefIdeal.τ).loc Cert.FfnHiddenRefIdeal.main_arg0)) (m ((c.tc : Thread Cert.FfnHiddenRefIdeal.nD Cert.FfnHiddenRefIdeal.τ).loc Cert.FfnHiddenRefIdeal.main_arg1)) (m ((c.tc : Thread Cert.FfnHiddenRefIdeal.nD Cert.FfnHiddenRefIdeal.τ).loc Cert.FfnHiddenRefIdeal.main_arg2)) (m ((c.tc : Thread Cert.FfnHiddenRefIdeal.nD Cert.FfnHiddenRefIdeal.τ).loc Cert.FfnHiddenRefIdeal.main_arg3)) (m ((c.tc : Thread Cert.FfnHiddenRefIdeal.nD Cert.FfnHiddenRefIdeal.τ).loc Cert.FfnHiddenRefIdeal.main_arg4)) (m ((c.tc : Thread Cert.FfnHiddenRefIdeal.nD Cert.FfnHiddenRefIdeal.τ).loc Cert.FfnHiddenRefIdeal.main_arg5))).2.2.2.2 = (fun _ => 1#1)

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutIdeal_finite_merge [hPre_finite_merge : Cert.Pre_finite_merge.Facts] (m : (ℓ : Loc Cert.MixOutIdeal.nD Cert.MixOutIdeal.τ Cert.MixOutIdeal.sig) → Buf (Elt Ideal) ℓ) : Prop :=
  ∀ c : Dev Cert.MixOutIdeal.nD,
    (Cert.Pre_finite_merge.fn (F := Ideal) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) (m ((c.tc : Thread Cert.MixOutIdeal.nD Cert.MixOutIdeal.τ).loc Cert.MixOutIdeal.main_arg3)) (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5)) (m ((c.tc : Thread Cert.MixOutIdeal.nD Cert.MixOutIdeal.τ).loc Cert.MixOutIdeal.main_arg6)) (m ((c.tc : Thread Cert.MixOutIdeal.nD Cert.MixOutIdeal.τ).loc Cert.MixOutIdeal.main_arg7)) (m ((c.tc : Thread Cert.MixOutIdeal.nD Cert.MixOutIdeal.τ).loc Cert.MixOutIdeal.main_arg8))).1 = (fun _ => 1#1)
    ∧ (Cert.Pre_finite_merge.fn (F := Ideal) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) (m ((c.tc : Thread Cert.MixOutIdeal.nD Cert.MixOutIdeal.τ).loc Cert.MixOutIdeal.main_arg3)) (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5)) (m ((c.tc : Thread Cert.MixOutIdeal.nD Cert.MixOutIdeal.τ).loc Cert.MixOutIdeal.main_arg6)) (m ((c.tc : Thread Cert.MixOutIdeal.nD Cert.MixOutIdeal.τ).loc Cert.MixOutIdeal.main_arg7)) (m ((c.tc : Thread Cert.MixOutIdeal.nD Cert.MixOutIdeal.τ).loc Cert.MixOutIdeal.main_arg8))).2.1 = (fun _ => 1#1)
    ∧ (Cert.Pre_finite_merge.fn (F := Ideal) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) (m ((c.tc : Thread Cert.MixOutIdeal.nD Cert.MixOutIdeal.τ).loc Cert.MixOutIdeal.main_arg3)) (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5)) (m ((c.tc : Thread Cert.MixOutIdeal.nD Cert.MixOutIdeal.τ).loc Cert.MixOutIdeal.main_arg6)) (m ((c.tc : Thread Cert.MixOutIdeal.nD Cert.MixOutIdeal.τ).loc Cert.MixOutIdeal.main_arg7)) (m ((c.tc : Thread Cert.MixOutIdeal.nD Cert.MixOutIdeal.τ).loc Cert.MixOutIdeal.main_arg8))).2.2.1 = (fun _ => 1#1)
    ∧ (Cert.Pre_finite_merge.fn (F := Ideal) (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) (m ((c.tc : Thread Cert.MixOutIdeal.nD Cert.MixOutIdeal.τ).loc Cert.MixOutIdeal.main_arg3)) (m ((c.tc : Thread Cert.MixOutIdeal.nD Cert.MixOutIdeal.τ).loc Cert.MixOutIdeal.main_arg4)) (m ((c.tc : Thread Cert.MixOutIdeal.nD Cert.MixOutIdeal.τ).loc Cert.MixOutIdeal.main_arg5)) (m ((c.tc : Thread Cert.MixOutIdeal.nD Cert.MixOutIdeal.τ).loc Cert.MixOutIdeal.main_arg6)) (m ((c.tc : Thread Cert.MixOutIdeal.nD Cert.MixOutIdeal.τ).loc Cert.MixOutIdeal.main_arg7)) (m ((c.tc : Thread Cert.MixOutIdeal.nD Cert.MixOutIdeal.τ).loc Cert.MixOutIdeal.main_arg8))).2.2.2 = (fun _ => 1#1)

def Pre_MixOutRefIdeal (m : (ℓ : Loc Cert.MixOutRefIdeal.nD Cert.MixOutRefIdeal.τ Cert.MixOutRefIdeal.sig) → Buf (Elt Ideal) ℓ) : Prop :=
  True

def Pre_MixOutRefIdeal_finite_merge [hPre_finite_merge : Cert.Pre_finite_merge.Facts] (m : (ℓ : Loc Cert.MixOutRefIdeal.nD Cert.MixOutRefIdeal.τ Cert.MixOutRefIdeal.sig) → Buf (Elt Ideal) ℓ) : Prop :=
  ∀ c : Dev Cert.MixOutRefIdeal.nD,
    (Cert.Pre_finite_merge.fn (F := Ideal) (m ((c.tc : Thread Cert.MixOutRefIdeal.nD Cert.MixOutRefIdeal.τ).loc Cert.MixOutRefIdeal.main_arg0)) (m ((c.tc : Thread Cert.MixOutRefIdeal.nD Cert.MixOutRefIdeal.τ).loc Cert.MixOutRefIdeal.main_arg1)) (m ((c.tc : Thread Cert.MixOutRefIdeal.nD Cert.MixOutRefIdeal.τ).loc Cert.MixOutRefIdeal.main_arg2)) (m ((c.tc : Thread Cert.MixOutRefIdeal.nD Cert.MixOutRefIdeal.τ).loc Cert.MixOutRefIdeal.main_arg3)) (m ((c.tc : Thread Cert.MixOutRefIdeal.nD Cert.MixOutRefIdeal.τ).loc Cert.MixOutRefIdeal.main_arg4)) (m ((c.tc : Thread Cert.MixOutRefIdeal.nD Cert.MixOutRefIdeal.τ).loc Cert.MixOutRefIdeal.main_arg5)) (m ((c.tc : Thread Cert.MixOutRefIdeal.nD Cert.MixOutRefIdeal.τ).loc Cert.MixOutRefIdeal.main_arg6)) (m ((c.tc : Thread Cert.MixOutRefIdeal.nD Cert.MixOutRefIdeal.τ).loc Cert.MixOutRefIdeal.main_arg7)) (m ((c.tc : Thread Cert.MixOutRefIdeal.nD Cert.MixOutRefIdeal.τ).loc Cert.MixOutRefIdeal.main_arg8))).1 = (fun _ => 1#1)
    ∧ (Cert.Pre_finite_merge.fn (F := Ideal) (m ((c.tc : Thread Cert.MixOutRefIdeal.nD Cert.MixOutRefIdeal.τ).loc Cert.MixOutRefIdeal.main_arg0)) (m ((c.tc : Thread Cert.MixOutRefIdeal.nD Cert.MixOutRefIdeal.τ).loc Cert.MixOutRefIdeal.main_arg1)) (m ((c.tc : Thread Cert.MixOutRefIdeal.nD Cert.MixOutRefIdeal.τ).loc Cert.MixOutRefIdeal.main_arg2)) (m ((c.tc : Thread Cert.MixOutRefIdeal.nD Cert.MixOutRefIdeal.τ).loc Cert.MixOutRefIdeal.main_arg3)) (m ((c.tc : Thread Cert.MixOutRefIdeal.nD Cert.MixOutRefIdeal.τ).loc Cert.MixOutRefIdeal.main_arg4)) (m ((c.tc : Thread Cert.MixOutRefIdeal.nD Cert.MixOutRefIdeal.τ).loc Cert.MixOutRefIdeal.main_arg5)) (m ((c.tc : Thread Cert.MixOutRefIdeal.nD Cert.MixOutRefIdeal.τ).loc Cert.MixOutRefIdeal.main_arg6)) (m ((c.tc : Thread Cert.MixOutRefIdeal.nD Cert.MixOutRefIdeal.τ).loc Cert.MixOutRefIdeal.main_arg7)) (m ((c.tc : Thread Cert.MixOutRefIdeal.nD Cert.MixOutRefIdeal.τ).loc Cert.MixOutRefIdeal.main_arg8))).2.1 = (fun _ => 1#1)
    ∧ (Cert.Pre_finite_merge.fn (F := Ideal) (m ((c.tc : Thread Cert.MixOutRefIdeal.nD Cert.MixOutRefIdeal.τ).loc Cert.MixOutRefIdeal.main_arg0)) (m ((c.tc : Thread Cert.MixOutRefIdeal.nD Cert.MixOutRefIdeal.τ).loc Cert.MixOutRefIdeal.main_arg1)) (m ((c.tc : Thread Cert.MixOutRefIdeal.nD Cert.MixOutRefIdeal.τ).loc Cert.MixOutRefIdeal.main_arg2)) (m ((c.tc : Thread Cert.MixOutRefIdeal.nD Cert.MixOutRefIdeal.τ).loc Cert.MixOutRefIdeal.main_arg3)) (m ((c.tc : Thread Cert.MixOutRefIdeal.nD Cert.MixOutRefIdeal.τ).loc Cert.MixOutRefIdeal.main_arg4)) (m ((c.tc : Thread Cert.MixOutRefIdeal.nD Cert.MixOutRefIdeal.τ).loc Cert.MixOutRefIdeal.main_arg5)) (m ((c.tc : Thread Cert.MixOutRefIdeal.nD Cert.MixOutRefIdeal.τ).loc Cert.MixOutRefIdeal.main_arg6)) (m ((c.tc : Thread Cert.MixOutRefIdeal.nD Cert.MixOutRefIdeal.τ).loc Cert.MixOutRefIdeal.main_arg7)) (m ((c.tc : Thread Cert.MixOutRefIdeal.nD Cert.MixOutRefIdeal.τ).loc Cert.MixOutRefIdeal.main_arg8))).2.2.1 = (fun _ => 1#1)
    ∧ (Cert.Pre_finite_merge.fn (F := Ideal) (m ((c.tc : Thread Cert.MixOutRefIdeal.nD Cert.MixOutRefIdeal.τ).loc Cert.MixOutRefIdeal.main_arg0)) (m ((c.tc : Thread Cert.MixOutRefIdeal.nD Cert.MixOutRefIdeal.τ).loc Cert.MixOutRefIdeal.main_arg1)) (m ((c.tc : Thread Cert.MixOutRefIdeal.nD Cert.MixOutRefIdeal.τ).loc Cert.MixOutRefIdeal.main_arg2)) (m ((c.tc : Thread Cert.MixOutRefIdeal.nD Cert.MixOutRefIdeal.τ).loc Cert.MixOutRefIdeal.main_arg3)) (m ((c.tc : Thread Cert.MixOutRefIdeal.nD Cert.MixOutRefIdeal.τ).loc Cert.MixOutRefIdeal.main_arg4)) (m ((c.tc : Thread Cert.MixOutRefIdeal.nD Cert.MixOutRefIdeal.τ).loc Cert.MixOutRefIdeal.main_arg5)) (m ((c.tc : Thread Cert.MixOutRefIdeal.nD Cert.MixOutRefIdeal.τ).loc Cert.MixOutRefIdeal.main_arg6)) (m ((c.tc : Thread Cert.MixOutRefIdeal.nD Cert.MixOutRefIdeal.τ).loc Cert.MixOutRefIdeal.main_arg7)) (m ((c.tc : Thread Cert.MixOutRefIdeal.nD Cert.MixOutRefIdeal.τ).loc Cert.MixOutRefIdeal.main_arg8))).2.2.2 = (fun _ => 1#1)

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_FfnFirst (m : (ℓ : Loc Cert.FfnFirst.nD Cert.FfnFirst.τ Cert.FfnFirst.sig) → Buf (Elt Bits) ℓ) : Prop :=
  True

def Pre_FfnFirstIdeal (m : (ℓ : Loc Cert.FfnFirstIdeal.nD Cert.FfnFirstIdeal.τ Cert.FfnFirstIdeal.sig) → Buf (Elt Ideal) ℓ) : Prop :=
  True

def Pre_FfnFirstRefIdeal (m : (ℓ : Loc Cert.FfnFirstRefIdeal.nD Cert.FfnFirstRefIdeal.τ Cert.FfnFirstRefIdeal.sig) → Buf (Elt Ideal) ℓ) : Prop :=
  True

def Pre_FfnGrad (m : (ℓ : Loc Cert.FfnGrad.nD Cert.FfnGrad.τ Cert.FfnGrad.sig) → Buf (Elt Bits) ℓ) : Prop :=
  True

def Pre_FfnGradIdeal (m : (ℓ : Loc Cert.FfnGradIdeal.nD Cert.FfnGradIdeal.τ Cert.FfnGradIdeal.sig) → Buf (Elt Ideal) ℓ) : Prop :=
  True

def Pre_FfnGradRefIdeal (m : (ℓ : Loc Cert.FfnGradRefIdeal.nD Cert.FfnGradRefIdeal.τ Cert.FfnGradRefIdeal.sig) → Buf (Elt Ideal) ℓ) : Prop :=
  True

def Pre_InGrad (m : (ℓ : Loc Cert.InGrad.nD Cert.InGrad.τ Cert.InGrad.sig) → Buf (Elt Bits) ℓ) : Prop :=
  True

def Pre_InGradIdeal (m : (ℓ : Loc Cert.InGradIdeal.nD Cert.InGradIdeal.τ Cert.InGradIdeal.sig) → Buf (Elt Ideal) ℓ) : Prop :=
  True

def Pre_InGradRefIdeal (m : (ℓ : Loc Cert.InGradRefIdeal.nD Cert.InGradRefIdeal.τ Cert.InGradRefIdeal.sig) → Buf (Elt Ideal) ℓ) : Prop :=
  True

def Pre_Step (m : (ℓ : Loc Cert.Step.nD Cert.Step.τ Cert.Step.sig) → Buf (Elt Bits) ℓ) : Prop :=
  True

def Pre_StepIdeal (m : (ℓ : Loc Cert.StepIdeal.nD Cert.StepIdeal.τ Cert.StepIdeal.sig) → Buf (Elt Ideal) ℓ) : Prop :=
  True

def Pre_StepRefIdeal (m : (ℓ : Loc Cert.StepRefIdeal.nD Cert.StepRefIdeal.τ Cert.StepRefIdeal.sig) → Buf (Elt Ideal) ℓ) : Prop :=
  True

def Pre_MixGrad (m : (ℓ : Loc Cert.MixGrad.nD Cert.MixGrad.τ Cert.MixGrad.sig) → Buf (Elt Bits) ℓ) : Prop :=
  True

def Pre_MixGradIdeal (m : (ℓ : Loc Cert.MixGradIdeal.nD Cert.MixGradIdeal.τ Cert.MixGradIdeal.sig) → Buf (Elt Ideal) ℓ) : Prop :=
  True

def Pre_MixGradRefIdeal (m : (ℓ : Loc Cert.MixGradRefIdeal.nD Cert.MixGradRefIdeal.τ Cert.MixGradRefIdeal.sig) → Buf (Elt Ideal) ℓ) : Prop :=
  True

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4)
      ∧ r.2.mem ((c.tc : Thread Cert.FfnIn.nD Cert.FfnIn.τ).loc Cert.FfnIn.main_arg5) = m ((c.tc : Thread Cert.FfnIn.nD Cert.FfnIn.τ).loc Cert.FfnIn.main_arg5)
      ∧ r.2.mem ((c.tc : Thread Cert.FfnIn.nD Cert.FfnIn.τ).loc Cert.FfnIn.main_arg6) = m ((c.tc : Thread Cert.FfnIn.nD Cert.FfnIn.τ).loc Cert.FfnIn.main_arg6))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
      ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5)
      ∧ r.2.mem ((c.tc : Thread Cert.FfnInRefIdeal.nD Cert.FfnInRefIdeal.τ).loc Cert.FfnInRefIdeal.main_arg6) = m ((c.tc : Thread Cert.FfnInRefIdeal.nD Cert.FfnInRefIdeal.τ).loc Cert.FfnInRefIdeal.main_arg6))
      ∧ r.2.sem = fun _ => 0)

def quiescent_FfnHidden [hFfnHidden : Cert.FfnHidden.Facts] : Prop :=
  ∀ (m : (ℓ : Loc Cert.FfnHidden.nD Cert.FfnHidden.τ Cert.FfnHidden.sig) → Buf (Elt Bits) ℓ) (g : Dev Cert.FfnHidden.nD → PrngReg), Pre_FfnHidden m →
    θ_run (Cert.FfnHidden.defs (F := Bits)) (onTc (τ := Cert.FfnHidden.τ) (Cert.FfnHidden.main (F := Bits))) ⟨m, fun _ => 0, g⟩ (fun r => (∀ c : Dev Cert.FfnHidden.nD,
      r.2.mem ((c.tc : Thread Cert.FfnHidden.nD Cert.FfnHidden.τ).loc Cert.FfnHidden.main_arg0) = m ((c.tc : Thread Cert.FfnHidden.nD Cert.FfnHidden.τ).loc Cert.FfnHidden.main_arg0)
      ∧ r.2.mem ((c.tc : Thread Cert.FfnHidden.nD Cert.FfnHidden.τ).loc Cert.FfnHidden.main_arg1) = m ((c.tc : Thread Cert.FfnHidden.nD Cert.FfnHidden.τ).loc Cert.FfnHidden.main_arg1)
      ∧ r.2.mem ((c.tc : Thread Cert.FfnHidden.nD Cert.FfnHidden.τ).loc Cert.FfnHidden.main_arg2) = m ((c.tc : Thread Cert.FfnHidden.nD Cert.FfnHidden.τ).loc Cert.FfnHidden.main_arg2)
      ∧ r.2.mem ((c.tc : Thread Cert.FfnHidden.nD Cert.FfnHidden.τ).loc Cert.FfnHidden.main_arg3) = m ((c.tc : Thread Cert.FfnHidden.nD Cert.FfnHidden.τ).loc Cert.FfnHidden.main_arg3)
      ∧ r.2.mem ((c.tc : Thread Cert.FfnHidden.nD Cert.FfnHidden.τ).loc Cert.FfnHidden.main_arg4) = m ((c.tc : Thread Cert.FfnHidden.nD Cert.FfnHidden.τ).loc Cert.FfnHidden.main_arg4)
      ∧ r.2.mem ((c.tc : Thread Cert.FfnHidden.nD Cert.FfnHidden.τ).loc Cert.FfnHidden.main_arg5) = m ((c.tc : Thread Cert.FfnHidden.nD Cert.FfnHidden.τ).loc Cert.FfnHidden.main_arg5))
      ∧ r.2.sem = fun _ => 0)

def quiescent_FfnHiddenIdeal [hFfnHiddenIdeal : Cert.FfnHiddenIdeal.Facts] : Prop :=
  ∀ (m : (ℓ : Loc Cert.FfnHiddenIdeal.nD Cert.FfnHiddenIdeal.τ Cert.FfnHiddenIdeal.sig) → Buf (Elt Ideal) ℓ) (g : Dev Cert.FfnHiddenIdeal.nD → PrngReg), Pre_FfnHiddenIdeal m →
    θ_run (Cert.FfnHiddenIdeal.defs (F := Ideal)) (onTc (τ := Cert.FfnHiddenIdeal.τ) (Cert.FfnHiddenIdeal.main (F := Ideal))) ⟨m, fun _ => 0, g⟩ (fun r => (∀ c : Dev Cert.FfnHiddenIdeal.nD,
      r.2.mem ((c.tc : Thread Cert.FfnHiddenIdeal.nD Cert.FfnHiddenIdeal.τ).loc Cert.FfnHiddenIdeal.main_arg0) = m ((c.tc : Thread Cert.FfnHiddenIdeal.nD Cert.FfnHiddenIdeal.τ).loc Cert.FfnHiddenIdeal.main_arg0)
      ∧ r.2.mem ((c.tc : Thread Cert.FfnHiddenIdeal.nD Cert.FfnHiddenIdeal.τ).loc Cert.FfnHiddenIdeal.main_arg1) = m ((c.tc : Thread Cert.FfnHiddenIdeal.nD Cert.FfnHiddenIdeal.τ).loc Cert.FfnHiddenIdeal.main_arg1)
      ∧ r.2.mem ((c.tc : Thread Cert.FfnHiddenIdeal.nD Cert.FfnHiddenIdeal.τ).loc Cert.FfnHiddenIdeal.main_arg2) = m ((c.tc : Thread Cert.FfnHiddenIdeal.nD Cert.FfnHiddenIdeal.τ).loc Cert.FfnHiddenIdeal.main_arg2)
      ∧ r.2.mem ((c.tc : Thread Cert.FfnHiddenIdeal.nD Cert.FfnHiddenIdeal.τ).loc Cert.FfnHiddenIdeal.main_arg3) = m ((c.tc : Thread Cert.FfnHiddenIdeal.nD Cert.FfnHiddenIdeal.τ).loc Cert.FfnHiddenIdeal.main_arg3)
      ∧ r.2.mem ((c.tc : Thread Cert.FfnHiddenIdeal.nD Cert.FfnHiddenIdeal.τ).loc Cert.FfnHiddenIdeal.main_arg4) = m ((c.tc : Thread Cert.FfnHiddenIdeal.nD Cert.FfnHiddenIdeal.τ).loc Cert.FfnHiddenIdeal.main_arg4)
      ∧ r.2.mem ((c.tc : Thread Cert.FfnHiddenIdeal.nD Cert.FfnHiddenIdeal.τ).loc Cert.FfnHiddenIdeal.main_arg5) = m ((c.tc : Thread Cert.FfnHiddenIdeal.nD Cert.FfnHiddenIdeal.τ).loc Cert.FfnHiddenIdeal.main_arg5))
      ∧ r.2.sem = fun _ => 0)

def quiescent_FfnHiddenIdeal_pre_finite_hidden [hFfnHiddenIdeal : Cert.FfnHiddenIdeal.Facts] [hPre_finite_hidden : Cert.Pre_finite_hidden.Facts] : Prop :=
  ∀ (m : (ℓ : Loc Cert.FfnHiddenIdeal.nD Cert.FfnHiddenIdeal.τ Cert.FfnHiddenIdeal.sig) → Buf (Elt Ideal) ℓ) (g : Dev Cert.FfnHiddenIdeal.nD → PrngReg), Pre_FfnHiddenIdeal_finite_hidden m →
    θ_run (Cert.FfnHiddenIdeal.defs (F := Ideal)) (onTc (τ := Cert.FfnHiddenIdeal.τ) (Cert.FfnHiddenIdeal.main (F := Ideal))) ⟨m, fun _ => 0, g⟩ (fun r => (∀ c : Dev Cert.FfnHiddenIdeal.nD,
      r.2.mem ((c.tc : Thread Cert.FfnHiddenIdeal.nD Cert.FfnHiddenIdeal.τ).loc Cert.FfnHiddenIdeal.main_arg0) = m ((c.tc : Thread Cert.FfnHiddenIdeal.nD Cert.FfnHiddenIdeal.τ).loc Cert.FfnHiddenIdeal.main_arg0)
      ∧ r.2.mem ((c.tc : Thread Cert.FfnHiddenIdeal.nD Cert.FfnHiddenIdeal.τ).loc Cert.FfnHiddenIdeal.main_arg1) = m ((c.tc : Thread Cert.FfnHiddenIdeal.nD Cert.FfnHiddenIdeal.τ).loc Cert.FfnHiddenIdeal.main_arg1)
      ∧ r.2.mem ((c.tc : Thread Cert.FfnHiddenIdeal.nD Cert.FfnHiddenIdeal.τ).loc Cert.FfnHiddenIdeal.main_arg2) = m ((c.tc : Thread Cert.FfnHiddenIdeal.nD Cert.FfnHiddenIdeal.τ).loc Cert.FfnHiddenIdeal.main_arg2)
      ∧ r.2.mem ((c.tc : Thread Cert.FfnHiddenIdeal.nD Cert.FfnHiddenIdeal.τ).loc Cert.FfnHiddenIdeal.main_arg3) = m ((c.tc : Thread Cert.FfnHiddenIdeal.nD Cert.FfnHiddenIdeal.τ).loc Cert.FfnHiddenIdeal.main_arg3)
      ∧ r.2.mem ((c.tc : Thread Cert.FfnHiddenIdeal.nD Cert.FfnHiddenIdeal.τ).loc Cert.FfnHiddenIdeal.main_arg4) = m ((c.tc : Thread Cert.FfnHiddenIdeal.nD Cert.FfnHiddenIdeal.τ).loc Cert.FfnHiddenIdeal.main_arg4)
      ∧ r.2.mem ((c.tc : Thread Cert.FfnHiddenIdeal.nD Cert.FfnHiddenIdeal.τ).loc Cert.FfnHiddenIdeal.main_arg5) = m ((c.tc : Thread Cert.FfnHiddenIdeal.nD Cert.FfnHiddenIdeal.τ).loc Cert.FfnHiddenIdeal.main_arg5))
      ∧ r.2.sem = fun _ => 0)

def quiescent_FfnHiddenRefIdeal [hFfnHiddenRefIdeal : Cert.FfnHiddenRefIdeal.Facts] : Prop :=
  ∀ (m : (ℓ : Loc Cert.FfnHiddenRefIdeal.nD Cert.FfnHiddenRefIdeal.τ Cert.FfnHiddenRefIdeal.sig) → Buf (Elt Ideal) ℓ) (g : Dev Cert.FfnHiddenRefIdeal.nD → PrngReg), Pre_FfnHiddenRefIdeal m →
    θ_run (Cert.FfnHiddenRefIdeal.defs (F := Ideal)) (onTc (τ := Cert.FfnHiddenRefIdeal.τ) (Cert.FfnHiddenRefIdeal.main (F := Ideal))) ⟨m, fun _ => 0, g⟩ (fun r => (∀ c : Dev Cert.FfnHiddenRefIdeal.nD,
      r.2.mem ((c.tc : Thread Cert.FfnHiddenRefIdeal.nD Cert.FfnHiddenRefIdeal.τ).loc Cert.FfnHiddenRefIdeal.main_arg0) = m ((c.tc : Thread Cert.FfnHiddenRefIdeal.nD Cert.FfnHiddenRefIdeal.τ).loc Cert.FfnHiddenRefIdeal.main_arg0)
      ∧ r.2.mem ((c.tc : Thread Cert.FfnHiddenRefIdeal.nD Cert.FfnHiddenRefIdeal.τ).loc Cert.FfnHiddenRefIdeal.main_arg1) = m ((c.tc : Thread Cert.FfnHiddenRefIdeal.nD Cert.FfnHiddenRefIdeal.τ).loc Cert.FfnHiddenRefIdeal.main_arg1)
      ∧ r.2.mem ((c.tc : Thread Cert.FfnHiddenRefIdeal.nD Cert.FfnHiddenRefIdeal.τ).loc Cert.FfnHiddenRefIdeal.main_arg2) = m ((c.tc : Thread Cert.FfnHiddenRefIdeal.nD Cert.FfnHiddenRefIdeal.τ).loc Cert.FfnHiddenRefIdeal.main_arg2)
      ∧ r.2.mem ((c.tc : Thread Cert.FfnHiddenRefIdeal.nD Cert.FfnHiddenRefIdeal.τ).loc Cert.FfnHiddenRefIdeal.main_arg3) = m ((c.tc : Thread Cert.FfnHiddenRefIdeal.nD Cert.FfnHiddenRefIdeal.τ).loc Cert.FfnHiddenRefIdeal.main_arg3)
      ∧ r.2.mem ((c.tc : Thread Cert.FfnHiddenRefIdeal.nD Cert.FfnHiddenRefIdeal.τ).loc Cert.FfnHiddenRefIdeal.main_arg4) = m ((c.tc : Thread Cert.FfnHiddenRefIdeal.nD Cert.FfnHiddenRefIdeal.τ).loc Cert.FfnHiddenRefIdeal.main_arg4)
      ∧ r.2.mem ((c.tc : Thread Cert.FfnHiddenRefIdeal.nD Cert.FfnHiddenRefIdeal.τ).loc Cert.FfnHiddenRefIdeal.main_arg5) = m ((c.tc : Thread Cert.FfnHiddenRefIdeal.nD Cert.FfnHiddenRefIdeal.τ).loc Cert.FfnHiddenRefIdeal.main_arg5))
      ∧ r.2.sem = fun _ => 0)

def quiescent_FfnHiddenRefIdeal_pre_finite_hidden [hFfnHiddenRefIdeal : Cert.FfnHiddenRefIdeal.Facts] [hPre_finite_hidden : Cert.Pre_finite_hidden.Facts] : Prop :=
  ∀ (m : (ℓ : Loc Cert.FfnHiddenRefIdeal.nD Cert.FfnHiddenRefIdeal.τ Cert.FfnHiddenRefIdeal.sig) → Buf (Elt Ideal) ℓ) (g : Dev Cert.FfnHiddenRefIdeal.nD → PrngReg), Pre_FfnHiddenRefIdeal_finite_hidden m →
    θ_run (Cert.FfnHiddenRefIdeal.defs (F := Ideal)) (onTc (τ := Cert.FfnHiddenRefIdeal.τ) (Cert.FfnHiddenRefIdeal.main (F := Ideal))) ⟨m, fun _ => 0, g⟩ (fun r => (∀ c : Dev Cert.FfnHiddenRefIdeal.nD,
      r.2.mem ((c.tc : Thread Cert.FfnHiddenRefIdeal.nD Cert.FfnHiddenRefIdeal.τ).loc Cert.FfnHiddenRefIdeal.main_arg0) = m ((c.tc : Thread Cert.FfnHiddenRefIdeal.nD Cert.FfnHiddenRefIdeal.τ).loc Cert.FfnHiddenRefIdeal.main_arg0)
      ∧ r.2.mem ((c.tc : Thread Cert.FfnHiddenRefIdeal.nD Cert.FfnHiddenRefIdeal.τ).loc Cert.FfnHiddenRefIdeal.main_arg1) = m ((c.tc : Thread Cert.FfnHiddenRefIdeal.nD Cert.FfnHiddenRefIdeal.τ).loc Cert.FfnHiddenRefIdeal.main_arg1)
      ∧ r.2.mem ((c.tc : Thread Cert.FfnHiddenRefIdeal.nD Cert.FfnHiddenRefIdeal.τ).loc Cert.FfnHiddenRefIdeal.main_arg2) = m ((c.tc : Thread Cert.FfnHiddenRefIdeal.nD Cert.FfnHiddenRefIdeal.τ).loc Cert.FfnHiddenRefIdeal.main_arg2)
      ∧ r.2.mem ((c.tc : Thread Cert.FfnHiddenRefIdeal.nD Cert.FfnHiddenRefIdeal.τ).loc Cert.FfnHiddenRefIdeal.main_arg3) = m ((c.tc : Thread Cert.FfnHiddenRefIdeal.nD Cert.FfnHiddenRefIdeal.τ).loc Cert.FfnHiddenRefIdeal.main_arg3)
      ∧ r.2.mem ((c.tc : Thread Cert.FfnHiddenRefIdeal.nD Cert.FfnHiddenRefIdeal.τ).loc Cert.FfnHiddenRefIdeal.main_arg4) = m ((c.tc : Thread Cert.FfnHiddenRefIdeal.nD Cert.FfnHiddenRefIdeal.τ).loc Cert.FfnHiddenRefIdeal.main_arg4)
      ∧ r.2.mem ((c.tc : Thread Cert.FfnHiddenRefIdeal.nD Cert.FfnHiddenRefIdeal.τ).loc Cert.FfnHiddenRefIdeal.main_arg5) = m ((c.tc : Thread Cert.FfnHiddenRefIdeal.nD Cert.FfnHiddenRefIdeal.τ).loc Cert.FfnHiddenRefIdeal.main_arg5))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5)
      ∧ r.2.mem ((c.tc : Thread Cert.Head.nD Cert.Head.τ).loc Cert.Head.main_arg6) = m ((c.tc : Thread Cert.Head.nD Cert.Head.τ).loc Cert.Head.main_arg6))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2)
      ∧ r.2.mem ((c.tc : Thread Cert.MixIn.nD Cert.MixIn.τ).loc Cert.MixIn.main_arg3) = m ((c.tc : Thread Cert.MixIn.nD Cert.MixIn.τ).loc Cert.MixIn.main_arg3)
      ∧ r.2.mem ((c.tc : Thread Cert.MixIn.nD Cert.MixIn.τ).loc Cert.MixIn.main_arg4) = m ((c.tc : Thread Cert.MixIn.nD Cert.MixIn.τ).loc Cert.MixIn.main_arg4))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6)
      ∧ r.2.mem ((c.tc : Thread Cert.Conv.nD Cert.Conv.τ).loc Cert.Conv.main_arg7) = m ((c.tc : Thread Cert.Conv.nD Cert.Conv.τ).loc Cert.Conv.main_arg7)
      ∧ r.2.mem ((c.tc : Thread Cert.Conv.nD Cert.Conv.τ).loc Cert.Conv.main_arg8) = m ((c.tc : Thread Cert.Conv.nD Cert.Conv.τ).loc Cert.Conv.main_arg8))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
      ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7)
      ∧ r.2.mem ((c.tc : Thread Cert.ConvIdeal.nD Cert.ConvIdeal.τ).loc Cert.ConvIdeal.main_arg8) = m ((c.tc : Thread Cert.ConvIdeal.nD Cert.ConvIdeal.τ).loc Cert.ConvIdeal.main_arg8))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5)
      ∧ r.2.mem ((c.tc : Thread Cert.ConvRefIdeal.nD Cert.ConvRefIdeal.τ).loc Cert.ConvRefIdeal.main_arg6) = m ((c.tc : Thread Cert.ConvRefIdeal.nD Cert.ConvRefIdeal.τ).loc Cert.ConvRefIdeal.main_arg6)
      ∧ r.2.mem ((c.tc : Thread Cert.ConvRefIdeal.nD Cert.ConvRefIdeal.τ).loc Cert.ConvRefIdeal.main_arg7) = m ((c.tc : Thread Cert.ConvRefIdeal.nD Cert.ConvRefIdeal.τ).loc Cert.ConvRefIdeal.main_arg7)
      ∧ r.2.mem ((c.tc : Thread Cert.ConvRefIdeal.nD Cert.ConvRefIdeal.τ).loc Cert.ConvRefIdeal.main_arg8) = m ((c.tc : Thread Cert.ConvRefIdeal.nD Cert.ConvRefIdeal.τ).loc Cert.ConvRefIdeal.main_arg8))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6)
      ∧ r.2.mem ((c.tc : Thread Cert.MixOut.nD Cert.MixOut.τ).loc Cert.MixOut.main_arg7) = m ((c.tc : Thread Cert.MixOut.nD Cert.MixOut.τ).loc Cert.MixOut.main_arg7)
      ∧ r.2.mem ((c.tc : Thread Cert.MixOut.nD Cert.MixOut.τ).loc Cert.MixOut.main_arg8) = m ((c.tc : Thread Cert.MixOut.nD Cert.MixOut.τ).loc Cert.MixOut.main_arg8))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
      ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8))
      ∧ r.2.sem = fun _ => 0)

def quiescent_MixOutIdeal_pre_finite_merge [hMixOutIdeal : Cert.MixOutIdeal.Facts] [hPre_finite_merge : Cert.Pre_finite_merge.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal_finite_merge m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
      ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6)
      ∧ r.2.mem ((c.tc : Thread Cert.MixOutRefIdeal.nD Cert.MixOutRefIdeal.τ).loc Cert.MixOutRefIdeal.main_arg7) = m ((c.tc : Thread Cert.MixOutRefIdeal.nD Cert.MixOutRefIdeal.τ).loc Cert.MixOutRefIdeal.main_arg7)
      ∧ r.2.mem ((c.tc : Thread Cert.MixOutRefIdeal.nD Cert.MixOutRefIdeal.τ).loc Cert.MixOutRefIdeal.main_arg8) = m ((c.tc : Thread Cert.MixOutRefIdeal.nD Cert.MixOutRefIdeal.τ).loc Cert.MixOutRefIdeal.main_arg8))
      ∧ r.2.sem = fun _ => 0)

def quiescent_MixOutRefIdeal_pre_finite_merge [hMixOutRefIdeal : Cert.MixOutRefIdeal.Facts] [hPre_finite_merge : Cert.Pre_finite_merge.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal_finite_merge m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6)
      ∧ r.2.mem ((c.tc : Thread Cert.MixOutRefIdeal.nD Cert.MixOutRefIdeal.τ).loc Cert.MixOutRefIdeal.main_arg7) = m ((c.tc : Thread Cert.MixOutRefIdeal.nD Cert.MixOutRefIdeal.τ).loc Cert.MixOutRefIdeal.main_arg7)
      ∧ r.2.mem ((c.tc : Thread Cert.MixOutRefIdeal.nD Cert.MixOutRefIdeal.τ).loc Cert.MixOutRefIdeal.main_arg8) = m ((c.tc : Thread Cert.MixOutRefIdeal.nD Cert.MixOutRefIdeal.τ).loc Cert.MixOutRefIdeal.main_arg8))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2)
      ∧ r.2.mem ((c.tc : Thread Cert.ConvFwd.nD Cert.ConvFwd.τ).loc Cert.ConvFwd.main_arg3) = m ((c.tc : Thread Cert.ConvFwd.nD Cert.ConvFwd.τ).loc Cert.ConvFwd.main_arg3))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
      ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2)
      ∧ r.2.mem ((c.tc : Thread Cert.ConvFwdRefIdeal.nD Cert.ConvFwdRefIdeal.τ).loc Cert.ConvFwdRefIdeal.main_arg3) = m ((c.tc : Thread Cert.ConvFwdRefIdeal.nD Cert.ConvFwdRefIdeal.τ).loc Cert.ConvFwdRefIdeal.main_arg3))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5)
      ∧ r.2.mem ((c.tc : Thread Cert.MergeFwd.nD Cert.MergeFwd.τ).loc Cert.MergeFwd.main_arg6) = m ((c.tc : Thread Cert.MergeFwd.nD Cert.MergeFwd.τ).loc Cert.MergeFwd.main_arg6)
      ∧ r.2.mem ((c.tc : Thread Cert.MergeFwd.nD Cert.MergeFwd.τ).loc Cert.MergeFwd.main_arg7) = m ((c.tc : Thread Cert.MergeFwd.nD Cert.MergeFwd.τ).loc Cert.MergeFwd.main_arg7)
      ∧ r.2.mem ((c.tc : Thread Cert.MergeFwd.nD Cert.MergeFwd.τ).loc Cert.MergeFwd.main_arg8) = m ((c.tc : Thread Cert.MergeFwd.nD Cert.MergeFwd.τ).loc Cert.MergeFwd.main_arg8))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
      ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6)
      ∧ r.2.mem ((c.tc : Thread Cert.MergeFwdIdeal.nD Cert.MergeFwdIdeal.τ).loc Cert.MergeFwdIdeal.main_arg7) = m ((c.tc : Thread Cert.MergeFwdIdeal.nD Cert.MergeFwdIdeal.τ).loc Cert.MergeFwdIdeal.main_arg7)
      ∧ r.2.mem ((c.tc : Thread Cert.MergeFwdIdeal.nD Cert.MergeFwdIdeal.τ).loc Cert.MergeFwdIdeal.main_arg8) = m ((c.tc : Thread Cert.MergeFwdIdeal.nD Cert.MergeFwdIdeal.τ).loc Cert.MergeFwdIdeal.main_arg8))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5)
      ∧ r.2.mem ((c.tc : Thread Cert.MergeFwdRefIdeal.nD Cert.MergeFwdRefIdeal.τ).loc Cert.MergeFwdRefIdeal.main_arg6) = m ((c.tc : Thread Cert.MergeFwdRefIdeal.nD Cert.MergeFwdRefIdeal.τ).loc Cert.MergeFwdRefIdeal.main_arg6)
      ∧ r.2.mem ((c.tc : Thread Cert.MergeFwdRefIdeal.nD Cert.MergeFwdRefIdeal.τ).loc Cert.MergeFwdRefIdeal.main_arg7) = m ((c.tc : Thread Cert.MergeFwdRefIdeal.nD Cert.MergeFwdRefIdeal.τ).loc Cert.MergeFwdRefIdeal.main_arg7)
      ∧ r.2.mem ((c.tc : Thread Cert.MergeFwdRefIdeal.nD Cert.MergeFwdRefIdeal.τ).loc Cert.MergeFwdRefIdeal.main_arg8) = m ((c.tc : Thread Cert.MergeFwdRefIdeal.nD Cert.MergeFwdRefIdeal.τ).loc Cert.MergeFwdRefIdeal.main_arg8))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2))
      ∧ r.2.sem = fun _ => 0)

def quiescent_FfnFirst [hFfnFirst : Cert.FfnFirst.Facts] : Prop :=
  ∀ (m : (ℓ : Loc Cert.FfnFirst.nD Cert.FfnFirst.τ Cert.FfnFirst.sig) → Buf (Elt Bits) ℓ) (g : Dev Cert.FfnFirst.nD → PrngReg), Pre_FfnFirst m →
    θ_run (Cert.FfnFirst.defs (F := Bits)) (onTc (τ := Cert.FfnFirst.τ) (Cert.FfnFirst.main (F := Bits))) ⟨m, fun _ => 0, g⟩ (fun r => (∀ c : Dev Cert.FfnFirst.nD,
      r.2.mem ((c.tc : Thread Cert.FfnFirst.nD Cert.FfnFirst.τ).loc Cert.FfnFirst.main_arg0) = m ((c.tc : Thread Cert.FfnFirst.nD Cert.FfnFirst.τ).loc Cert.FfnFirst.main_arg0)
      ∧ r.2.mem ((c.tc : Thread Cert.FfnFirst.nD Cert.FfnFirst.τ).loc Cert.FfnFirst.main_arg1) = m ((c.tc : Thread Cert.FfnFirst.nD Cert.FfnFirst.τ).loc Cert.FfnFirst.main_arg1)
      ∧ r.2.mem ((c.tc : Thread Cert.FfnFirst.nD Cert.FfnFirst.τ).loc Cert.FfnFirst.main_arg2) = m ((c.tc : Thread Cert.FfnFirst.nD Cert.FfnFirst.τ).loc Cert.FfnFirst.main_arg2)
      ∧ r.2.mem ((c.tc : Thread Cert.FfnFirst.nD Cert.FfnFirst.τ).loc Cert.FfnFirst.main_arg3) = m ((c.tc : Thread Cert.FfnFirst.nD Cert.FfnFirst.τ).loc Cert.FfnFirst.main_arg3)
      ∧ r.2.mem ((c.tc : Thread Cert.FfnFirst.nD Cert.FfnFirst.τ).loc Cert.FfnFirst.main_arg4) = m ((c.tc : Thread Cert.FfnFirst.nD Cert.FfnFirst.τ).loc Cert.FfnFirst.main_arg4)
      ∧ r.2.mem ((c.tc : Thread Cert.FfnFirst.nD Cert.FfnFirst.τ).loc Cert.FfnFirst.main_arg5) = m ((c.tc : Thread Cert.FfnFirst.nD Cert.FfnFirst.τ).loc Cert.FfnFirst.main_arg5)
      ∧ r.2.mem ((c.tc : Thread Cert.FfnFirst.nD Cert.FfnFirst.τ).loc Cert.FfnFirst.main_arg6) = m ((c.tc : Thread Cert.FfnFirst.nD Cert.FfnFirst.τ).loc Cert.FfnFirst.main_arg6))
      ∧ r.2.sem = fun _ => 0)

def quiescent_FfnFirstIdeal [hFfnFirstIdeal : Cert.FfnFirstIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg), Pre_FfnFirstIdeal m →
    θ_run (Cert.FfnFirstIdeal.defs (F := Ideal)) (onTc (τ := Cert.FfnFirstIdeal.τ) (Cert.FfnFirstIdeal.main (F := Ideal))) ⟨m, fun _ => 0, g⟩ (fun r => (∀ c : Dev Cert.FfnFirstIdeal.nD,
      r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
      ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
      ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
      ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
      ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4)
      ∧ r.2.mem ((c.tc : Thread Cert.FfnFirstIdeal.nD Cert.FfnFirstIdeal.τ).loc Cert.FfnFirstIdeal.main_arg5) = m ((c.tc : Thread Cert.FfnFirstIdeal.nD Cert.FfnFirstIdeal.τ).loc Cert.FfnFirstIdeal.main_arg5)
      ∧ r.2.mem ((c.tc : Thread Cert.FfnFirstIdeal.nD Cert.FfnFirstIdeal.τ).loc Cert.FfnFirstIdeal.main_arg6) = m ((c.tc : Thread Cert.FfnFirstIdeal.nD Cert.FfnFirstIdeal.τ).loc Cert.FfnFirstIdeal.main_arg6))
      ∧ r.2.sem = fun _ => 0)

def quiescent_FfnFirstRefIdeal [hFfnFirstRefIdeal : Cert.FfnFirstRefIdeal.Facts] : Prop :=
  ∀ (m : (ℓ : Loc Cert.FfnFirstRefIdeal.nD Cert.FfnFirstRefIdeal.τ Cert.FfnFirstRefIdeal.sig) → Buf (Elt Ideal) ℓ) (g : Dev Cert.FfnFirstRefIdeal.nD → PrngReg), Pre_FfnFirstRefIdeal m →
    θ_run (Cert.FfnFirstRefIdeal.defs (F := Ideal)) (onTc (τ := Cert.FfnFirstRefIdeal.τ) (Cert.FfnFirstRefIdeal.main (F := Ideal))) ⟨m, fun _ => 0, g⟩ (fun r => (∀ c : Dev Cert.FfnFirstRefIdeal.nD,
      r.2.mem ((c.tc : Thread Cert.FfnFirstRefIdeal.nD Cert.FfnFirstRefIdeal.τ).loc Cert.FfnFirstRefIdeal.main_arg0) = m ((c.tc : Thread Cert.FfnFirstRefIdeal.nD Cert.FfnFirstRefIdeal.τ).loc Cert.FfnFirstRefIdeal.main_arg0)
      ∧ r.2.mem ((c.tc : Thread Cert.FfnFirstRefIdeal.nD Cert.FfnFirstRefIdeal.τ).loc Cert.FfnFirstRefIdeal.main_arg1) = m ((c.tc : Thread Cert.FfnFirstRefIdeal.nD Cert.FfnFirstRefIdeal.τ).loc Cert.FfnFirstRefIdeal.main_arg1)
      ∧ r.2.mem ((c.tc : Thread Cert.FfnFirstRefIdeal.nD Cert.FfnFirstRefIdeal.τ).loc Cert.FfnFirstRefIdeal.main_arg2) = m ((c.tc : Thread Cert.FfnFirstRefIdeal.nD Cert.FfnFirstRefIdeal.τ).loc Cert.FfnFirstRefIdeal.main_arg2)
      ∧ r.2.mem ((c.tc : Thread Cert.FfnFirstRefIdeal.nD Cert.FfnFirstRefIdeal.τ).loc Cert.FfnFirstRefIdeal.main_arg3) = m ((c.tc : Thread Cert.FfnFirstRefIdeal.nD Cert.FfnFirstRefIdeal.τ).loc Cert.FfnFirstRefIdeal.main_arg3)
      ∧ r.2.mem ((c.tc : Thread Cert.FfnFirstRefIdeal.nD Cert.FfnFirstRefIdeal.τ).loc Cert.FfnFirstRefIdeal.main_arg4) = m ((c.tc : Thread Cert.FfnFirstRefIdeal.nD Cert.FfnFirstRefIdeal.τ).loc Cert.FfnFirstRefIdeal.main_arg4)
      ∧ r.2.mem ((c.tc : Thread Cert.FfnFirstRefIdeal.nD Cert.FfnFirstRefIdeal.τ).loc Cert.FfnFirstRefIdeal.main_arg5) = m ((c.tc : Thread Cert.FfnFirstRefIdeal.nD Cert.FfnFirstRefIdeal.τ).loc Cert.FfnFirstRefIdeal.main_arg5)
      ∧ r.2.mem ((c.tc : Thread Cert.FfnFirstRefIdeal.nD Cert.FfnFirstRefIdeal.τ).loc Cert.FfnFirstRefIdeal.main_arg6) = m ((c.tc : Thread Cert.FfnFirstRefIdeal.nD Cert.FfnFirstRefIdeal.τ).loc Cert.FfnFirstRefIdeal.main_arg6))
      ∧ r.2.sem = fun _ => 0)

def quiescent_FfnGrad [hFfnGrad : Cert.FfnGrad.Facts] : Prop :=
  ∀ (m : (ℓ : Loc Cert.FfnGrad.nD Cert.FfnGrad.τ Cert.FfnGrad.sig) → Buf (Elt Bits) ℓ) (g : Dev Cert.FfnGrad.nD → PrngReg), Pre_FfnGrad m →
    θ_run (Cert.FfnGrad.defs (F := Bits)) (onTc (τ := Cert.FfnGrad.τ) (Cert.FfnGrad.main (F := Bits))) ⟨m, fun _ => 0, g⟩ (fun r => (∀ c : Dev Cert.FfnGrad.nD,
      r.2.mem ((c.tc : Thread Cert.FfnGrad.nD Cert.FfnGrad.τ).loc Cert.FfnGrad.main_arg0) = m ((c.tc : Thread Cert.FfnGrad.nD Cert.FfnGrad.τ).loc Cert.FfnGrad.main_arg0)
      ∧ r.2.mem ((c.tc : Thread Cert.FfnGrad.nD Cert.FfnGrad.τ).loc Cert.FfnGrad.main_arg1) = m ((c.tc : Thread Cert.FfnGrad.nD Cert.FfnGrad.τ).loc Cert.FfnGrad.main_arg1)
      ∧ r.2.mem ((c.tc : Thread Cert.FfnGrad.nD Cert.FfnGrad.τ).loc Cert.FfnGrad.main_arg2) = m ((c.tc : Thread Cert.FfnGrad.nD Cert.FfnGrad.τ).loc Cert.FfnGrad.main_arg2))
      ∧ r.2.sem = fun _ => 0)

def quiescent_FfnGradIdeal [hFfnGradIdeal : Cert.FfnGradIdeal.Facts] : Prop :=
  ∀ (m : (ℓ : Loc Cert.FfnGradIdeal.nD Cert.FfnGradIdeal.τ Cert.FfnGradIdeal.sig) → Buf (Elt Ideal) ℓ) (g : Dev Cert.FfnGradIdeal.nD → PrngReg), Pre_FfnGradIdeal m →
    θ_run (Cert.FfnGradIdeal.defs (F := Ideal)) (onTc (τ := Cert.FfnGradIdeal.τ) (Cert.FfnGradIdeal.main (F := Ideal))) ⟨m, fun _ => 0, g⟩ (fun r => (∀ c : Dev Cert.FfnGradIdeal.nD,
      r.2.mem ((c.tc : Thread Cert.FfnGradIdeal.nD Cert.FfnGradIdeal.τ).loc Cert.FfnGradIdeal.main_arg0) = m ((c.tc : Thread Cert.FfnGradIdeal.nD Cert.FfnGradIdeal.τ).loc Cert.FfnGradIdeal.main_arg0)
      ∧ r.2.mem ((c.tc : Thread Cert.FfnGradIdeal.nD Cert.FfnGradIdeal.τ).loc Cert.FfnGradIdeal.main_arg1) = m ((c.tc : Thread Cert.FfnGradIdeal.nD Cert.FfnGradIdeal.τ).loc Cert.FfnGradIdeal.main_arg1)
      ∧ r.2.mem ((c.tc : Thread Cert.FfnGradIdeal.nD Cert.FfnGradIdeal.τ).loc Cert.FfnGradIdeal.main_arg2) = m ((c.tc : Thread Cert.FfnGradIdeal.nD Cert.FfnGradIdeal.τ).loc Cert.FfnGradIdeal.main_arg2))
      ∧ r.2.sem = fun _ => 0)

def quiescent_FfnGradRefIdeal [hFfnGradRefIdeal : Cert.FfnGradRefIdeal.Facts] : Prop :=
  ∀ (m : (ℓ : Loc Cert.FfnGradRefIdeal.nD Cert.FfnGradRefIdeal.τ Cert.FfnGradRefIdeal.sig) → Buf (Elt Ideal) ℓ) (g : Dev Cert.FfnGradRefIdeal.nD → PrngReg), Pre_FfnGradRefIdeal m →
    θ_run (Cert.FfnGradRefIdeal.defs (F := Ideal)) (onTc (τ := Cert.FfnGradRefIdeal.τ) (Cert.FfnGradRefIdeal.main (F := Ideal))) ⟨m, fun _ => 0, g⟩ (fun r => (∀ c : Dev Cert.FfnGradRefIdeal.nD,
      r.2.mem ((c.tc : Thread Cert.FfnGradRefIdeal.nD Cert.FfnGradRefIdeal.τ).loc Cert.FfnGradRefIdeal.main_arg0) = m ((c.tc : Thread Cert.FfnGradRefIdeal.nD Cert.FfnGradRefIdeal.τ).loc Cert.FfnGradRefIdeal.main_arg0)
      ∧ r.2.mem ((c.tc : Thread Cert.FfnGradRefIdeal.nD Cert.FfnGradRefIdeal.τ).loc Cert.FfnGradRefIdeal.main_arg1) = m ((c.tc : Thread Cert.FfnGradRefIdeal.nD Cert.FfnGradRefIdeal.τ).loc Cert.FfnGradRefIdeal.main_arg1)
      ∧ r.2.mem ((c.tc : Thread Cert.FfnGradRefIdeal.nD Cert.FfnGradRefIdeal.τ).loc Cert.FfnGradRefIdeal.main_arg2) = m ((c.tc : Thread Cert.FfnGradRefIdeal.nD Cert.FfnGradRefIdeal.τ).loc Cert.FfnGradRefIdeal.main_arg2))
      ∧ r.2.sem = fun _ => 0)

def quiescent_InGrad [hInGrad : Cert.InGrad.Facts] : Prop :=
  ∀ (m : (ℓ : Loc Cert.InGrad.nD Cert.InGrad.τ Cert.InGrad.sig) → Buf (Elt Bits) ℓ) (g : Dev Cert.InGrad.nD → PrngReg), Pre_InGrad m →
    θ_run (Cert.InGrad.defs (F := Bits)) (onTc (τ := Cert.InGrad.τ) (Cert.InGrad.main (F := Bits))) ⟨m, fun _ => 0, g⟩ (fun r => (∀ c : Dev Cert.InGrad.nD,
      r.2.mem ((c.tc : Thread Cert.InGrad.nD Cert.InGrad.τ).loc Cert.InGrad.main_arg0) = m ((c.tc : Thread Cert.InGrad.nD Cert.InGrad.τ).loc Cert.InGrad.main_arg0)
      ∧ r.2.mem ((c.tc : Thread Cert.InGrad.nD Cert.InGrad.τ).loc Cert.InGrad.main_arg1) = m ((c.tc : Thread Cert.InGrad.nD Cert.InGrad.τ).loc Cert.InGrad.main_arg1)
      ∧ r.2.mem ((c.tc : Thread Cert.InGrad.nD Cert.InGrad.τ).loc Cert.InGrad.main_arg2) = m ((c.tc : Thread Cert.InGrad.nD Cert.InGrad.τ).loc Cert.InGrad.main_arg2))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
      ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2))
      ∧ r.2.sem = fun _ => 0)

def quiescent_InGradRefIdeal [hInGradRefIdeal : Cert.InGradRefIdeal.Facts] : Prop :=
  ∀ (m : (ℓ : Loc Cert.InGradRefIdeal.nD Cert.InGradRefIdeal.τ Cert.InGradRefIdeal.sig) → Buf (Elt Ideal) ℓ) (g : Dev Cert.InGradRefIdeal.nD → PrngReg), Pre_InGradRefIdeal m →
    θ_run (Cert.InGradRefIdeal.defs (F := Ideal)) (onTc (τ := Cert.InGradRefIdeal.τ) (Cert.InGradRefIdeal.main (F := Ideal))) ⟨m, fun _ => 0, g⟩ (fun r => (∀ c : Dev Cert.InGradRefIdeal.nD,
      r.2.mem ((c.tc : Thread Cert.InGradRefIdeal.nD Cert.InGradRefIdeal.τ).loc Cert.InGradRefIdeal.main_arg0) = m ((c.tc : Thread Cert.InGradRefIdeal.nD Cert.InGradRefIdeal.τ).loc Cert.InGradRefIdeal.main_arg0)
      ∧ r.2.mem ((c.tc : Thread Cert.InGradRefIdeal.nD Cert.InGradRefIdeal.τ).loc Cert.InGradRefIdeal.main_arg1) = m ((c.tc : Thread Cert.InGradRefIdeal.nD Cert.InGradRefIdeal.τ).loc Cert.InGradRefIdeal.main_arg1)
      ∧ r.2.mem ((c.tc : Thread Cert.InGradRefIdeal.nD Cert.InGradRefIdeal.τ).loc Cert.InGradRefIdeal.main_arg2) = m ((c.tc : Thread Cert.InGradRefIdeal.nD Cert.InGradRefIdeal.τ).loc Cert.InGradRefIdeal.main_arg2))
      ∧ r.2.sem = fun _ => 0)

def quiescent_Step [hStep : Cert.Step.Facts] : Prop :=
  ∀ (m : (ℓ : Loc Cert.Step.nD Cert.Step.τ Cert.Step.sig) → Buf (Elt Bits) ℓ) (g : Dev Cert.Step.nD → PrngReg), Pre_Step m →
    θ_run (Cert.Step.defs (F := Bits)) (onTc (τ := Cert.Step.τ) (Cert.Step.main (F := Bits))) ⟨m, fun _ => 0, g⟩ (fun r => (∀ c : Dev Cert.Step.nD,
      r.2.mem ((c.tc : Thread Cert.Step.nD Cert.Step.τ).loc Cert.Step.main_arg0) = m ((c.tc : Thread Cert.Step.nD Cert.Step.τ).loc Cert.Step.main_arg0)
      ∧ r.2.mem ((c.tc : Thread Cert.Step.nD Cert.Step.τ).loc Cert.Step.main_arg1) = m ((c.tc : Thread Cert.Step.nD Cert.Step.τ).loc Cert.Step.main_arg1)
      ∧ r.2.mem ((c.tc : Thread Cert.Step.nD Cert.Step.τ).loc Cert.Step.main_arg2) = m ((c.tc : Thread Cert.Step.nD Cert.Step.τ).loc Cert.Step.main_arg2)
      ∧ r.2.mem ((c.tc : Thread Cert.Step.nD Cert.Step.τ).loc Cert.Step.main_arg3) = m ((c.tc : Thread Cert.Step.nD Cert.Step.τ).loc Cert.Step.main_arg3))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3))
      ∧ r.2.sem = fun _ => 0)

def quiescent_StepRefIdeal [hStepRefIdeal : Cert.StepRefIdeal.Facts] : Prop :=
  ∀ (m : (ℓ : Loc Cert.StepRefIdeal.nD Cert.StepRefIdeal.τ Cert.StepRefIdeal.sig) → Buf (Elt Ideal) ℓ) (g : Dev Cert.StepRefIdeal.nD → PrngReg), Pre_StepRefIdeal m →
    θ_run (Cert.StepRefIdeal.defs (F := Ideal)) (onTc (τ := Cert.StepRefIdeal.τ) (Cert.StepRefIdeal.main (F := Ideal))) ⟨m, fun _ => 0, g⟩ (fun r => (∀ c : Dev Cert.StepRefIdeal.nD,
      r.2.mem ((c.tc : Thread Cert.StepRefIdeal.nD Cert.StepRefIdeal.τ).loc Cert.StepRefIdeal.main_arg0) = m ((c.tc : Thread Cert.StepRefIdeal.nD Cert.StepRefIdeal.τ).loc Cert.StepRefIdeal.main_arg0)
      ∧ r.2.mem ((c.tc : Thread Cert.StepRefIdeal.nD Cert.StepRefIdeal.τ).loc Cert.StepRefIdeal.main_arg1) = m ((c.tc : Thread Cert.StepRefIdeal.nD Cert.StepRefIdeal.τ).loc Cert.StepRefIdeal.main_arg1)
      ∧ r.2.mem ((c.tc : Thread Cert.StepRefIdeal.nD Cert.StepRefIdeal.τ).loc Cert.StepRefIdeal.main_arg2) = m ((c.tc : Thread Cert.StepRefIdeal.nD Cert.StepRefIdeal.τ).loc Cert.StepRefIdeal.main_arg2)
      ∧ r.2.mem ((c.tc : Thread Cert.StepRefIdeal.nD Cert.StepRefIdeal.τ).loc Cert.StepRefIdeal.main_arg3) = m ((c.tc : Thread Cert.StepRefIdeal.nD Cert.StepRefIdeal.τ).loc Cert.StepRefIdeal.main_arg3))
      ∧ r.2.sem = fun _ => 0)

def quiescent_MixGrad [hMixGrad : Cert.MixGrad.Facts] : Prop :=
  ∀ (m : (ℓ : Loc Cert.MixGrad.nD Cert.MixGrad.τ Cert.MixGrad.sig) → Buf (Elt Bits) ℓ) (g : Dev Cert.MixGrad.nD → PrngReg), Pre_MixGrad m →
    θ_run (Cert.MixGrad.defs (F := Bits)) (onTc (τ := Cert.MixGrad.τ) (Cert.MixGrad.main (F := Bits))) ⟨m, fun _ => 0, g⟩ (fun r => (∀ c : Dev Cert.MixGrad.nD,
      r.2.mem ((c.tc : Thread Cert.MixGrad.nD Cert.MixGrad.τ).loc Cert.MixGrad.main_arg0) = m ((c.tc : Thread Cert.MixGrad.nD Cert.MixGrad.τ).loc Cert.MixGrad.main_arg0)
      ∧ r.2.mem ((c.tc : Thread Cert.MixGrad.nD Cert.MixGrad.τ).loc Cert.MixGrad.main_arg1) = m ((c.tc : Thread Cert.MixGrad.nD Cert.MixGrad.τ).loc Cert.MixGrad.main_arg1)
      ∧ r.2.mem ((c.tc : Thread Cert.MixGrad.nD Cert.MixGrad.τ).loc Cert.MixGrad.main_arg2) = m ((c.tc : Thread Cert.MixGrad.nD Cert.MixGrad.τ).loc Cert.MixGrad.main_arg2)
      ∧ r.2.mem ((c.tc : Thread Cert.MixGrad.nD Cert.MixGrad.τ).loc Cert.MixGrad.main_arg3) = m ((c.tc : Thread Cert.MixGrad.nD Cert.MixGrad.τ).loc Cert.MixGrad.main_arg3)
      ∧ r.2.mem ((c.tc : Thread Cert.MixGrad.nD Cert.MixGrad.τ).loc Cert.MixGrad.main_arg4) = m ((c.tc : Thread Cert.MixGrad.nD Cert.MixGrad.τ).loc Cert.MixGrad.main_arg4)
      ∧ r.2.mem ((c.tc : Thread Cert.MixGrad.nD Cert.MixGrad.τ).loc Cert.MixGrad.main_arg5) = m ((c.tc : Thread Cert.MixGrad.nD Cert.MixGrad.τ).loc Cert.MixGrad.main_arg5)
      ∧ r.2.mem ((c.tc : Thread Cert.MixGrad.nD Cert.MixGrad.τ).loc Cert.MixGrad.main_arg6) = m ((c.tc : Thread Cert.MixGrad.nD Cert.MixGrad.τ).loc Cert.MixGrad.main_arg6)
      ∧ r.2.mem ((c.tc : Thread Cert.MixGrad.nD Cert.MixGrad.τ).loc Cert.MixGrad.main_arg7) = m ((c.tc : Thread Cert.MixGrad.nD Cert.MixGrad.τ).loc Cert.MixGrad.main_arg7)
      ∧ r.2.mem ((c.tc : Thread Cert.MixGrad.nD Cert.MixGrad.τ).loc Cert.MixGrad.main_arg8) = m ((c.tc : Thread Cert.MixGrad.nD Cert.MixGrad.τ).loc Cert.MixGrad.main_arg8)
      ∧ r.2.mem ((c.tc : Thread Cert.MixGrad.nD Cert.MixGrad.τ).loc Cert.MixGrad.main_arg9) = m ((c.tc : Thread Cert.MixGrad.nD Cert.MixGrad.τ).loc Cert.MixGrad.main_arg9))
      ∧ r.2.sem = fun _ => 0)

def quiescent_MixGradIdeal [hMixGradIdeal : Cert.MixGradIdeal.Facts] : Prop :=
  ∀ (m : (ℓ : Loc Cert.MixGradIdeal.nD Cert.MixGradIdeal.τ Cert.MixGradIdeal.sig) → Buf (Elt Ideal) ℓ) (g : Dev Cert.MixGradIdeal.nD → PrngReg), Pre_MixGradIdeal m →
    θ_run (Cert.MixGradIdeal.defs (F := Ideal)) (onTc (τ := Cert.MixGradIdeal.τ) (Cert.MixGradIdeal.main (F := Ideal))) ⟨m, fun _ => 0, g⟩ (fun r => (∀ c : Dev Cert.MixGradIdeal.nD,
      r.2.mem ((c.tc : Thread Cert.MixGradIdeal.nD Cert.MixGradIdeal.τ).loc Cert.MixGradIdeal.main_arg0) = m ((c.tc : Thread Cert.MixGradIdeal.nD Cert.MixGradIdeal.τ).loc Cert.MixGradIdeal.main_arg0)
      ∧ r.2.mem ((c.tc : Thread Cert.MixGradIdeal.nD Cert.MixGradIdeal.τ).loc Cert.MixGradIdeal.main_arg1) = m ((c.tc : Thread Cert.MixGradIdeal.nD Cert.MixGradIdeal.τ).loc Cert.MixGradIdeal.main_arg1)
      ∧ r.2.mem ((c.tc : Thread Cert.MixGradIdeal.nD Cert.MixGradIdeal.τ).loc Cert.MixGradIdeal.main_arg2) = m ((c.tc : Thread Cert.MixGradIdeal.nD Cert.MixGradIdeal.τ).loc Cert.MixGradIdeal.main_arg2)
      ∧ r.2.mem ((c.tc : Thread Cert.MixGradIdeal.nD Cert.MixGradIdeal.τ).loc Cert.MixGradIdeal.main_arg3) = m ((c.tc : Thread Cert.MixGradIdeal.nD Cert.MixGradIdeal.τ).loc Cert.MixGradIdeal.main_arg3)
      ∧ r.2.mem ((c.tc : Thread Cert.MixGradIdeal.nD Cert.MixGradIdeal.τ).loc Cert.MixGradIdeal.main_arg4) = m ((c.tc : Thread Cert.MixGradIdeal.nD Cert.MixGradIdeal.τ).loc Cert.MixGradIdeal.main_arg4)
      ∧ r.2.mem ((c.tc : Thread Cert.MixGradIdeal.nD Cert.MixGradIdeal.τ).loc Cert.MixGradIdeal.main_arg5) = m ((c.tc : Thread Cert.MixGradIdeal.nD Cert.MixGradIdeal.τ).loc Cert.MixGradIdeal.main_arg5)
      ∧ r.2.mem ((c.tc : Thread Cert.MixGradIdeal.nD Cert.MixGradIdeal.τ).loc Cert.MixGradIdeal.main_arg6) = m ((c.tc : Thread Cert.MixGradIdeal.nD Cert.MixGradIdeal.τ).loc Cert.MixGradIdeal.main_arg6)
      ∧ r.2.mem ((c.tc : Thread Cert.MixGradIdeal.nD Cert.MixGradIdeal.τ).loc Cert.MixGradIdeal.main_arg7) = m ((c.tc : Thread Cert.MixGradIdeal.nD Cert.MixGradIdeal.τ).loc Cert.MixGradIdeal.main_arg7)
      ∧ r.2.mem ((c.tc : Thread Cert.MixGradIdeal.nD Cert.MixGradIdeal.τ).loc Cert.MixGradIdeal.main_arg8) = m ((c.tc : Thread Cert.MixGradIdeal.nD Cert.MixGradIdeal.τ).loc Cert.MixGradIdeal.main_arg8)
      ∧ r.2.mem ((c.tc : Thread Cert.MixGradIdeal.nD Cert.MixGradIdeal.τ).loc Cert.MixGradIdeal.main_arg9) = m ((c.tc : Thread Cert.MixGradIdeal.nD Cert.MixGradIdeal.τ).loc Cert.MixGradIdeal.main_arg9))
      ∧ r.2.sem = fun _ => 0)

def quiescent_MixGradRefIdeal [hMixGradRefIdeal : Cert.MixGradRefIdeal.Facts] : Prop :=
  ∀ (m : (ℓ : Loc Cert.MixGradRefIdeal.nD Cert.MixGradRefIdeal.τ Cert.MixGradRefIdeal.sig) → Buf (Elt Ideal) ℓ) (g : Dev Cert.MixGradRefIdeal.nD → PrngReg), Pre_MixGradRefIdeal m →
    θ_run (Cert.MixGradRefIdeal.defs (F := Ideal)) (onTc (τ := Cert.MixGradRefIdeal.τ) (Cert.MixGradRefIdeal.main (F := Ideal))) ⟨m, fun _ => 0, g⟩ (fun r => (∀ c : Dev Cert.MixGradRefIdeal.nD,
      r.2.mem ((c.tc : Thread Cert.MixGradRefIdeal.nD Cert.MixGradRefIdeal.τ).loc Cert.MixGradRefIdeal.main_arg0) = m ((c.tc : Thread Cert.MixGradRefIdeal.nD Cert.MixGradRefIdeal.τ).loc Cert.MixGradRefIdeal.main_arg0)
      ∧ r.2.mem ((c.tc : Thread Cert.MixGradRefIdeal.nD Cert.MixGradRefIdeal.τ).loc Cert.MixGradRefIdeal.main_arg1) = m ((c.tc : Thread Cert.MixGradRefIdeal.nD Cert.MixGradRefIdeal.τ).loc Cert.MixGradRefIdeal.main_arg1)
      ∧ r.2.mem ((c.tc : Thread Cert.MixGradRefIdeal.nD Cert.MixGradRefIdeal.τ).loc Cert.MixGradRefIdeal.main_arg2) = m ((c.tc : Thread Cert.MixGradRefIdeal.nD Cert.MixGradRefIdeal.τ).loc Cert.MixGradRefIdeal.main_arg2)
      ∧ r.2.mem ((c.tc : Thread Cert.MixGradRefIdeal.nD Cert.MixGradRefIdeal.τ).loc Cert.MixGradRefIdeal.main_arg3) = m ((c.tc : Thread Cert.MixGradRefIdeal.nD Cert.MixGradRefIdeal.τ).loc Cert.MixGradRefIdeal.main_arg3)
      ∧ r.2.mem ((c.tc : Thread Cert.MixGradRefIdeal.nD Cert.MixGradRefIdeal.τ).loc Cert.MixGradRefIdeal.main_arg4) = m ((c.tc : Thread Cert.MixGradRefIdeal.nD Cert.MixGradRefIdeal.τ).loc Cert.MixGradRefIdeal.main_arg4)
      ∧ r.2.mem ((c.tc : Thread Cert.MixGradRefIdeal.nD Cert.MixGradRefIdeal.τ).loc Cert.MixGradRefIdeal.main_arg5) = m ((c.tc : Thread Cert.MixGradRefIdeal.nD Cert.MixGradRefIdeal.τ).loc Cert.MixGradRefIdeal.main_arg5)
      ∧ r.2.mem ((c.tc : Thread Cert.MixGradRefIdeal.nD Cert.MixGradRefIdeal.τ).loc Cert.MixGradRefIdeal.main_arg6) = m ((c.tc : Thread Cert.MixGradRefIdeal.nD Cert.MixGradRefIdeal.τ).loc Cert.MixGradRefIdeal.main_arg6)
      ∧ r.2.mem ((c.tc : Thread Cert.MixGradRefIdeal.nD Cert.MixGradRefIdeal.τ).loc Cert.MixGradRefIdeal.main_arg7) = m ((c.tc : Thread Cert.MixGradRefIdeal.nD Cert.MixGradRefIdeal.τ).loc Cert.MixGradRefIdeal.main_arg7)
      ∧ r.2.mem ((c.tc : Thread Cert.MixGradRefIdeal.nD Cert.MixGradRefIdeal.τ).loc Cert.MixGradRefIdeal.main_arg8) = m ((c.tc : Thread Cert.MixGradRefIdeal.nD Cert.MixGradRefIdeal.τ).loc Cert.MixGradRefIdeal.main_arg8)
      ∧ r.2.mem ((c.tc : Thread Cert.MixGradRefIdeal.nD Cert.MixGradRefIdeal.τ).loc Cert.MixGradRefIdeal.main_arg9) = m ((c.tc : Thread Cert.MixGradRefIdeal.nD Cert.MixGradRefIdeal.τ).loc Cert.MixGradRefIdeal.main_arg9))
      ∧ r.2.sem = fun _ => 0)

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)
      ∧ m' ((c.tc : Thread Cert.FfnInRefIdeal.nD Cert.FfnInRefIdeal.τ).loc Cert.FfnInRefIdeal.main_arg4) = m ((c.tc : Thread Cert.FfnInIdeal.nD Cert.FfnInIdeal.τ).loc Cert.FfnInIdeal.main_arg4)
      ∧ m' ((c.tc : Thread Cert.FfnInRefIdeal.nD Cert.FfnInRefIdeal.τ).loc Cert.FfnInRefIdeal.main_arg5) = m ((c.tc : Thread Cert.FfnInIdeal.nD Cert.FfnInIdeal.τ).loc Cert.FfnInIdeal.main_arg5)
      ∧ m' ((c.tc : Thread Cert.FfnInRefIdeal.nD Cert.FfnInRefIdeal.τ).loc Cert.FfnInRefIdeal.main_arg6) = m ((c.tc : Thread Cert.FfnInIdeal.nD Cert.FfnInIdeal.τ).loc Cert.FfnInIdeal.main_arg6)) →
    ∃ (v0 : (c : Dev Cert.FfnInIdeal.nD) → Buf (Elt Ideal) ((c.tc : Thread Cert.FfnInIdeal.nD Cert.FfnInIdeal.τ).loc Cert.FfnInIdeal.main_v8_0)) (v1 : (c : Dev Cert.FfnInIdeal.nD) → Buf (Elt Ideal) ((c.tc : Thread Cert.FfnInIdeal.nD Cert.FfnInIdeal.τ).loc Cert.FfnInIdeal.main_v8_1)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v8_0) = v0 c
          ∧ r.2.mem ((c.tc : Thread Cert.FfnInIdeal.nD Cert.FfnInIdeal.τ).loc Cert.FfnInIdeal.main_v8_1) = v1 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
          ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
          ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v44) = v0 c
          ∧ r.2.mem ((c.tc : Thread Cert.FfnInRefIdeal.nD Cert.FfnInRefIdeal.τ).loc Cert.FfnInRefIdeal.main_v45) = v1 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3)
          ∧ r.2.mem ((c.tc : Thread Cert.FfnInRefIdeal.nD Cert.FfnInRefIdeal.τ).loc Cert.FfnInRefIdeal.main_arg4) = m' ((c.tc : Thread Cert.FfnInRefIdeal.nD Cert.FfnInRefIdeal.τ).loc Cert.FfnInRefIdeal.main_arg4)
          ∧ r.2.mem ((c.tc : Thread Cert.FfnInRefIdeal.nD Cert.FfnInRefIdeal.τ).loc Cert.FfnInRefIdeal.main_arg5) = m' ((c.tc : Thread Cert.FfnInRefIdeal.nD Cert.FfnInRefIdeal.τ).loc Cert.FfnInRefIdeal.main_arg5)
          ∧ r.2.mem ((c.tc : Thread Cert.FfnInRefIdeal.nD Cert.FfnInRefIdeal.τ).loc Cert.FfnInRefIdeal.main_arg6) = m' ((c.tc : Thread Cert.FfnInRefIdeal.nD Cert.FfnInRefIdeal.τ).loc Cert.FfnInRefIdeal.main_arg6))

def preserves_FfnHidden_FfnHiddenIdeal : Prop :=
  True

def algebraic_FfnHiddenIdeal_FfnHiddenRefIdeal_pre_finite_hidden [hFfnHiddenIdeal : Cert.FfnHiddenIdeal.Facts] [hFfnHiddenRefIdeal : Cert.FfnHiddenRefIdeal.Facts] [hPre_finite_hidden : Cert.Pre_finite_hidden.Facts] : Prop :=
  ∀ (m : (ℓ : Loc Cert.FfnHiddenIdeal.nD Cert.FfnHiddenIdeal.τ Cert.FfnHiddenIdeal.sig) → Buf (Elt Ideal) ℓ) (g : Dev Cert.FfnHiddenIdeal.nD → PrngReg)
    (m' : (ℓ : Loc Cert.FfnHiddenRefIdeal.nD Cert.FfnHiddenRefIdeal.τ Cert.FfnHiddenRefIdeal.sig) → Buf (Elt Ideal) ℓ) (g' : Dev Cert.FfnHiddenRefIdeal.nD → PrngReg), Pre_FfnHiddenIdeal_finite_hidden m →
    (∀ c : Dev Cert.FfnHiddenIdeal.nD,
      m' ((c.tc : Thread Cert.FfnHiddenRefIdeal.nD Cert.FfnHiddenRefIdeal.τ).loc Cert.FfnHiddenRefIdeal.main_arg0) = m ((c.tc : Thread Cert.FfnHiddenIdeal.nD Cert.FfnHiddenIdeal.τ).loc Cert.FfnHiddenIdeal.main_arg0)
      ∧ m' ((c.tc : Thread Cert.FfnHiddenRefIdeal.nD Cert.FfnHiddenRefIdeal.τ).loc Cert.FfnHiddenRefIdeal.main_arg1) = m ((c.tc : Thread Cert.FfnHiddenIdeal.nD Cert.FfnHiddenIdeal.τ).loc Cert.FfnHiddenIdeal.main_arg1)
      ∧ m' ((c.tc : Thread Cert.FfnHiddenRefIdeal.nD Cert.FfnHiddenRefIdeal.τ).loc Cert.FfnHiddenRefIdeal.main_arg2) = m ((c.tc : Thread Cert.FfnHiddenIdeal.nD Cert.FfnHiddenIdeal.τ).loc Cert.FfnHiddenIdeal.main_arg2)
      ∧ m' ((c.tc : Thread Cert.FfnHiddenRefIdeal.nD Cert.FfnHiddenRefIdeal.τ).loc Cert.FfnHiddenRefIdeal.main_arg3) = m ((c.tc : Thread Cert.FfnHiddenIdeal.nD Cert.FfnHiddenIdeal.τ).loc Cert.FfnHiddenIdeal.main_arg3)
      ∧ m' ((c.tc : Thread Cert.FfnHiddenRefIdeal.nD Cert.FfnHiddenRefIdeal.τ).loc Cert.FfnHiddenRefIdeal.main_arg4) = m ((c.tc : Thread Cert.FfnHiddenIdeal.nD Cert.FfnHiddenIdeal.τ).loc Cert.FfnHiddenIdeal.main_arg4)
      ∧ m' ((c.tc : Thread Cert.FfnHiddenRefIdeal.nD Cert.FfnHiddenRefIdeal.τ).loc Cert.FfnHiddenRefIdeal.main_arg5) = m ((c.tc : Thread Cert.FfnHiddenIdeal.nD Cert.FfnHiddenIdeal.τ).loc Cert.FfnHiddenIdeal.main_arg5)) →
    ∃ (v0 : (c : Dev Cert.FfnHiddenIdeal.nD) → Buf (Elt Ideal) ((c.tc : Thread Cert.FfnHiddenIdeal.nD Cert.FfnHiddenIdeal.τ).loc Cert.FfnHiddenIdeal.main_v25_0)) (v1 : (c : Dev Cert.FfnHiddenIdeal.nD) → Buf (Elt Ideal) ((c.tc : Thread Cert.FfnHiddenIdeal.nD Cert.FfnHiddenIdeal.τ).loc Cert.FfnHiddenIdeal.main_v25_1)) (v2 : (c : Dev Cert.FfnHiddenIdeal.nD) → Buf (Elt Ideal) ((c.tc : Thread Cert.FfnHiddenIdeal.nD Cert.FfnHiddenIdeal.τ).loc Cert.FfnHiddenIdeal.main_v25_2)),
      θ_run (Cert.FfnHiddenIdeal.defs (F := Ideal)) (onTc (τ := Cert.FfnHiddenIdeal.τ) (Cert.FfnHiddenIdeal.main (F := Ideal))) ⟨m, fun _ => 0, g⟩ (fun r => ∀ c : Dev Cert.FfnHiddenIdeal.nD,
          r.2.mem ((c.tc : Thread Cert.FfnHiddenIdeal.nD Cert.FfnHiddenIdeal.τ).loc Cert.FfnHiddenIdeal.main_v25_0) = v0 c
          ∧ r.2.mem ((c.tc : Thread Cert.FfnHiddenIdeal.nD Cert.FfnHiddenIdeal.τ).loc Cert.FfnHiddenIdeal.main_v25_1) = v1 c
          ∧ r.2.mem ((c.tc : Thread Cert.FfnHiddenIdeal.nD Cert.FfnHiddenIdeal.τ).loc Cert.FfnHiddenIdeal.main_v25_2) = v2 c
          ∧ r.2.mem ((c.tc : Thread Cert.FfnHiddenIdeal.nD Cert.FfnHiddenIdeal.τ).loc Cert.FfnHiddenIdeal.main_arg0) = m ((c.tc : Thread Cert.FfnHiddenIdeal.nD Cert.FfnHiddenIdeal.τ).loc Cert.FfnHiddenIdeal.main_arg0)
          ∧ r.2.mem ((c.tc : Thread Cert.FfnHiddenIdeal.nD Cert.FfnHiddenIdeal.τ).loc Cert.FfnHiddenIdeal.main_arg1) = m ((c.tc : Thread Cert.FfnHiddenIdeal.nD Cert.FfnHiddenIdeal.τ).loc Cert.FfnHiddenIdeal.main_arg1)
          ∧ r.2.mem ((c.tc : Thread Cert.FfnHiddenIdeal.nD Cert.FfnHiddenIdeal.τ).loc Cert.FfnHiddenIdeal.main_arg2) = m ((c.tc : Thread Cert.FfnHiddenIdeal.nD Cert.FfnHiddenIdeal.τ).loc Cert.FfnHiddenIdeal.main_arg2)
          ∧ r.2.mem ((c.tc : Thread Cert.FfnHiddenIdeal.nD Cert.FfnHiddenIdeal.τ).loc Cert.FfnHiddenIdeal.main_arg3) = m ((c.tc : Thread Cert.FfnHiddenIdeal.nD Cert.FfnHiddenIdeal.τ).loc Cert.FfnHiddenIdeal.main_arg3)
          ∧ r.2.mem ((c.tc : Thread Cert.FfnHiddenIdeal.nD Cert.FfnHiddenIdeal.τ).loc Cert.FfnHiddenIdeal.main_arg4) = m ((c.tc : Thread Cert.FfnHiddenIdeal.nD Cert.FfnHiddenIdeal.τ).loc Cert.FfnHiddenIdeal.main_arg4)
          ∧ r.2.mem ((c.tc : Thread Cert.FfnHiddenIdeal.nD Cert.FfnHiddenIdeal.τ).loc Cert.FfnHiddenIdeal.main_arg5) = m ((c.tc : Thread Cert.FfnHiddenIdeal.nD Cert.FfnHiddenIdeal.τ).loc Cert.FfnHiddenIdeal.main_arg5))
      ∧ θ_run (Cert.FfnHiddenRefIdeal.defs (F := Ideal)) (onTc (τ := Cert.FfnHiddenRefIdeal.τ) (Cert.FfnHiddenRefIdeal.main (F := Ideal))) ⟨m', fun _ => 0, g'⟩ (fun r => ∀ c : Dev Cert.FfnHiddenRefIdeal.nD,
          r.2.mem ((c.tc : Thread Cert.FfnHiddenRefIdeal.nD Cert.FfnHiddenRefIdeal.τ).loc Cert.FfnHiddenRefIdeal.main_v30) = v0 c
          ∧ r.2.mem ((c.tc : Thread Cert.FfnHiddenRefIdeal.nD Cert.FfnHiddenRefIdeal.τ).loc Cert.FfnHiddenRefIdeal.main_v31) = v1 c
          ∧ r.2.mem ((c.tc : Thread Cert.FfnHiddenRefIdeal.nD Cert.FfnHiddenRefIdeal.τ).loc Cert.FfnHiddenRefIdeal.main_v32) = v2 c
          ∧ r.2.mem ((c.tc : Thread Cert.FfnHiddenRefIdeal.nD Cert.FfnHiddenRefIdeal.τ).loc Cert.FfnHiddenRefIdeal.main_arg0) = m' ((c.tc : Thread Cert.FfnHiddenRefIdeal.nD Cert.FfnHiddenRefIdeal.τ).loc Cert.FfnHiddenRefIdeal.main_arg0)
          ∧ r.2.mem ((c.tc : Thread Cert.FfnHiddenRefIdeal.nD Cert.FfnHiddenRefIdeal.τ).loc Cert.FfnHiddenRefIdeal.main_arg1) = m' ((c.tc : Thread Cert.FfnHiddenRefIdeal.nD Cert.FfnHiddenRefIdeal.τ).loc Cert.FfnHiddenRefIdeal.main_arg1)
          ∧ r.2.mem ((c.tc : Thread Cert.FfnHiddenRefIdeal.nD Cert.FfnHiddenRefIdeal.τ).loc Cert.FfnHiddenRefIdeal.main_arg2) = m' ((c.tc : Thread Cert.FfnHiddenRefIdeal.nD Cert.FfnHiddenRefIdeal.τ).loc Cert.FfnHiddenRefIdeal.main_arg2)
          ∧ r.2.mem ((c.tc : Thread Cert.FfnHiddenRefIdeal.nD Cert.FfnHiddenRefIdeal.τ).loc Cert.FfnHiddenRefIdeal.main_arg3) = m' ((c.tc : Thread Cert.FfnHiddenRefIdeal.nD Cert.FfnHiddenRefIdeal.τ).loc Cert.FfnHiddenRefIdeal.main_arg3)
          ∧ r.2.mem ((c.tc : Thread Cert.FfnHiddenRefIdeal.nD Cert.FfnHiddenRefIdeal.τ).loc Cert.FfnHiddenRefIdeal.main_arg4) = m' ((c.tc : Thread Cert.FfnHiddenRefIdeal.nD Cert.FfnHiddenRefIdeal.τ).loc Cert.FfnHiddenRefIdeal.main_arg4)
          ∧ r.2.mem ((c.tc : Thread Cert.FfnHiddenRefIdeal.nD Cert.FfnHiddenRefIdeal.τ).loc Cert.FfnHiddenRefIdeal.main_arg5) = m' ((c.tc : Thread Cert.FfnHiddenRefIdeal.nD Cert.FfnHiddenRefIdeal.τ).loc Cert.FfnHiddenRefIdeal.main_arg5))

def preserves_Head_HeadIdeal : Prop :=
  True

def algebraic_HeadIdeal_HeadRefIdeal [hHeadIdeal : Cert.HeadIdeal.Facts] [hHeadRefIdeal : Cert.HeadRefIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)
      ∧ m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)
      ∧ m' ((c.tc : Thread Cert.HeadRefIdeal.nD Cert.HeadRefIdeal.τ).loc Cert.HeadRefIdeal.main_arg6) = m ((c.tc : Thread Cert.HeadIdeal.nD Cert.HeadIdeal.τ).loc Cert.HeadIdeal.main_arg6)) →
    ∃ (v0 : (c : Dev Cert.HeadIdeal.nD) → Buf (Elt Ideal) ((c.tc : Thread Cert.HeadIdeal.nD Cert.HeadIdeal.τ).loc Cert.HeadIdeal.main_v9_0)) (v1 : (c : Dev Cert.HeadIdeal.nD) → Buf (Elt Ideal) ((c.tc : Thread Cert.HeadIdeal.nD Cert.HeadIdeal.τ).loc Cert.HeadIdeal.main_v9_1)) (v2 : (c : Dev Cert.HeadIdeal.nD) → Buf (Elt Ideal) ((c.tc : Thread Cert.HeadIdeal.nD Cert.HeadIdeal.τ).loc Cert.HeadIdeal.main_v9_2)) (v3 : (c : Dev Cert.HeadIdeal.nD) → Buf (Elt Ideal) ((c.tc : Thread Cert.HeadIdeal.nD Cert.HeadIdeal.τ).loc Cert.HeadIdeal.main_v9_3)) (v4 : (c : Dev Cert.HeadIdeal.nD) → Buf (Elt Ideal) ((c.tc : Thread Cert.HeadIdeal.nD Cert.HeadIdeal.τ).loc Cert.HeadIdeal.main_v9_4)) (v5 : (c : Dev Cert.HeadIdeal.nD) → Buf (Elt Ideal) ((c.tc : Thread Cert.HeadIdeal.nD Cert.HeadIdeal.τ).loc Cert.HeadIdeal.main_v9_5)) (v6 : (c : Dev Cert.HeadIdeal.nD) → Buf (Elt Ideal) ((c.tc : Thread Cert.HeadIdeal.nD Cert.HeadIdeal.τ).loc Cert.HeadIdeal.main_v9_6)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v9_0) = v0 c
          ∧ r.2.mem ((c.tc : Thread Cert.HeadIdeal.nD Cert.HeadIdeal.τ).loc Cert.HeadIdeal.main_v9_1) = v1 c
          ∧ r.2.mem ((c.tc : Thread Cert.HeadIdeal.nD Cert.HeadIdeal.τ).loc Cert.HeadIdeal.main_v9_2) = v2 c
          ∧ r.2.mem ((c.tc : Thread Cert.HeadIdeal.nD Cert.HeadIdeal.τ).loc Cert.HeadIdeal.main_v9_3) = v3 c
          ∧ r.2.mem ((c.tc : Thread Cert.HeadIdeal.nD Cert.HeadIdeal.τ).loc Cert.HeadIdeal.main_v9_4) = v4 c
          ∧ r.2.mem ((c.tc : Thread Cert.HeadIdeal.nD Cert.HeadIdeal.τ).loc Cert.HeadIdeal.main_v9_5) = v5 c
          ∧ r.2.mem ((c.tc : Thread Cert.HeadIdeal.nD Cert.HeadIdeal.τ).loc Cert.HeadIdeal.main_v9_6) = v6 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
          ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v75) = v0 c
          ∧ r.2.mem ((c.tc : Thread Cert.HeadRefIdeal.nD Cert.HeadRefIdeal.τ).loc Cert.HeadRefIdeal.main_v78) = v1 c
          ∧ r.2.mem ((c.tc : Thread Cert.HeadRefIdeal.nD Cert.HeadRefIdeal.τ).loc Cert.HeadRefIdeal.main_v79) = v2 c
          ∧ r.2.mem ((c.tc : Thread Cert.HeadRefIdeal.nD Cert.HeadRefIdeal.τ).loc Cert.HeadRefIdeal.main_v80) = v3 c
          ∧ r.2.mem ((c.tc : Thread Cert.HeadRefIdeal.nD Cert.HeadRefIdeal.τ).loc Cert.HeadRefIdeal.main_v81) = v4 c
          ∧ r.2.mem ((c.tc : Thread Cert.HeadRefIdeal.nD Cert.HeadRefIdeal.τ).loc Cert.HeadRefIdeal.main_v82) = v5 c
          ∧ r.2.mem ((c.tc : Thread Cert.HeadRefIdeal.nD Cert.HeadRefIdeal.τ).loc Cert.HeadRefIdeal.main_v83) = v6 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5)
          ∧ r.2.mem ((c.tc : Thread Cert.HeadRefIdeal.nD Cert.HeadRefIdeal.τ).loc Cert.HeadRefIdeal.main_arg6) = m' ((c.tc : Thread Cert.HeadRefIdeal.nD Cert.HeadRefIdeal.τ).loc Cert.HeadRefIdeal.main_arg6))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)
      ∧ m' ((c.tc : Thread Cert.MixInRefIdeal.nD Cert.MixInRefIdeal.τ).loc Cert.MixInRefIdeal.main_arg3) = m ((c.tc : Thread Cert.MixInIdeal.nD Cert.MixInIdeal.τ).loc Cert.MixInIdeal.main_arg3)
      ∧ m' ((c.tc : Thread Cert.MixInRefIdeal.nD Cert.MixInRefIdeal.τ).loc Cert.MixInRefIdeal.main_arg4) = m ((c.tc : Thread Cert.MixInIdeal.nD Cert.MixInIdeal.τ).loc Cert.MixInIdeal.main_arg4)) →
    ∃ (v0 : (c : Dev Cert.MixInIdeal.nD) → Buf (Elt Ideal) ((c.tc : Thread Cert.MixInIdeal.nD Cert.MixInIdeal.τ).loc Cert.MixInIdeal.main_v7_0)) (v1 : (c : Dev Cert.MixInIdeal.nD) → Buf (Elt Ideal) ((c.tc : Thread Cert.MixInIdeal.nD Cert.MixInIdeal.τ).loc Cert.MixInIdeal.main_v7_1)) (v2 : (c : Dev Cert.MixInIdeal.nD) → Buf (Elt Ideal) ((c.tc : Thread Cert.MixInIdeal.nD Cert.MixInIdeal.τ).loc Cert.MixInIdeal.main_v7_2)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v7_0) = v0 c
          ∧ r.2.mem ((c.tc : Thread Cert.MixInIdeal.nD Cert.MixInIdeal.τ).loc Cert.MixInIdeal.main_v7_1) = v1 c
          ∧ r.2.mem ((c.tc : Thread Cert.MixInIdeal.nD Cert.MixInIdeal.τ).loc Cert.MixInIdeal.main_v7_2) = v2 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
          ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
          ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v40) = v0 c
          ∧ r.2.mem ((c.tc : Thread Cert.MixInRefIdeal.nD Cert.MixInRefIdeal.τ).loc Cert.MixInRefIdeal.main_v41) = v1 c
          ∧ r.2.mem ((c.tc : Thread Cert.MixInRefIdeal.nD Cert.MixInRefIdeal.τ).loc Cert.MixInRefIdeal.main_v44) = v2 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2)
          ∧ r.2.mem ((c.tc : Thread Cert.MixInRefIdeal.nD Cert.MixInRefIdeal.τ).loc Cert.MixInRefIdeal.main_arg3) = m' ((c.tc : Thread Cert.MixInRefIdeal.nD Cert.MixInRefIdeal.τ).loc Cert.MixInRefIdeal.main_arg3)
          ∧ r.2.mem ((c.tc : Thread Cert.MixInRefIdeal.nD Cert.MixInRefIdeal.τ).loc Cert.MixInRefIdeal.main_arg4) = m' ((c.tc : Thread Cert.MixInRefIdeal.nD Cert.MixInRefIdeal.τ).loc Cert.MixInRefIdeal.main_arg4))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)
      ∧ m' ((c.tc : Thread Cert.ConvRefIdeal.nD Cert.ConvRefIdeal.τ).loc Cert.ConvRefIdeal.main_arg6) = m ((c.tc : Thread Cert.ConvIdeal.nD Cert.ConvIdeal.τ).loc Cert.ConvIdeal.main_arg6)
      ∧ m' ((c.tc : Thread Cert.ConvRefIdeal.nD Cert.ConvRefIdeal.τ).loc Cert.ConvRefIdeal.main_arg7) = m ((c.tc : Thread Cert.ConvIdeal.nD Cert.ConvIdeal.τ).loc Cert.ConvIdeal.main_arg7)
      ∧ m' ((c.tc : Thread Cert.ConvRefIdeal.nD Cert.ConvRefIdeal.τ).loc Cert.ConvRefIdeal.main_arg8) = m ((c.tc : Thread Cert.ConvIdeal.nD Cert.ConvIdeal.τ).loc Cert.ConvIdeal.main_arg8)) →
    ∃ (v0 : (c : Dev Cert.ConvIdeal.nD) → Buf (Elt Ideal) ((c.tc : Thread Cert.ConvIdeal.nD Cert.ConvIdeal.τ).loc Cert.ConvIdeal.main_v29_0)) (v1 : (c : Dev Cert.ConvIdeal.nD) → Buf (Elt Ideal) ((c.tc : Thread Cert.ConvIdeal.nD Cert.ConvIdeal.τ).loc Cert.ConvIdeal.main_v29_1)) (v2 : (c : Dev Cert.ConvIdeal.nD) → Buf (Elt Ideal) ((c.tc : Thread Cert.ConvIdeal.nD Cert.ConvIdeal.τ).loc Cert.ConvIdeal.main_v29_2)) (v3 : (c : Dev Cert.ConvIdeal.nD) → Buf (Elt Ideal) ((c.tc : Thread Cert.ConvIdeal.nD Cert.ConvIdeal.τ).loc Cert.ConvIdeal.main_v29_3)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v29_0) = v0 c
          ∧ r.2.mem ((c.tc : Thread Cert.ConvIdeal.nD Cert.ConvIdeal.τ).loc Cert.ConvIdeal.main_v29_1) = v1 c
          ∧ r.2.mem ((c.tc : Thread Cert.ConvIdeal.nD Cert.ConvIdeal.τ).loc Cert.ConvIdeal.main_v29_2) = v2 c
          ∧ r.2.mem ((c.tc : Thread Cert.ConvIdeal.nD Cert.ConvIdeal.τ).loc Cert.ConvIdeal.main_v29_3) = v3 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
          ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7)
          ∧ r.2.mem ((c.tc : Thread Cert.ConvIdeal.nD Cert.ConvIdeal.τ).loc Cert.ConvIdeal.main_arg8) = m ((c.tc : Thread Cert.ConvIdeal.nD Cert.ConvIdeal.τ).loc Cert.ConvIdeal.main_arg8))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v679) = v0 c
          ∧ r.2.mem ((c.tc : Thread Cert.ConvRefIdeal.nD Cert.ConvRefIdeal.τ).loc Cert.ConvRefIdeal.main_v682) = v1 c
          ∧ r.2.mem ((c.tc : Thread Cert.ConvRefIdeal.nD Cert.ConvRefIdeal.τ).loc Cert.ConvRefIdeal.main_v330) = v2 c
          ∧ r.2.mem ((c.tc : Thread Cert.ConvRefIdeal.nD Cert.ConvRefIdeal.τ).loc Cert.ConvRefIdeal.main_v685) = v3 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5)
          ∧ r.2.mem ((c.tc : Thread Cert.ConvRefIdeal.nD Cert.ConvRefIdeal.τ).loc Cert.ConvRefIdeal.main_arg6) = m' ((c.tc : Thread Cert.ConvRefIdeal.nD Cert.ConvRefIdeal.τ).loc Cert.ConvRefIdeal.main_arg6)
          ∧ r.2.mem ((c.tc : Thread Cert.ConvRefIdeal.nD Cert.ConvRefIdeal.τ).loc Cert.ConvRefIdeal.main_arg7) = m' ((c.tc : Thread Cert.ConvRefIdeal.nD Cert.ConvRefIdeal.τ).loc Cert.ConvRefIdeal.main_arg7)
          ∧ r.2.mem ((c.tc : Thread Cert.ConvRefIdeal.nD Cert.ConvRefIdeal.τ).loc Cert.ConvRefIdeal.main_arg8) = m' ((c.tc : Thread Cert.ConvRefIdeal.nD Cert.ConvRefIdeal.τ).loc Cert.ConvRefIdeal.main_arg8))

def preserves_MixOut_MixOutIdeal : Prop :=
  True

def algebraic_MixOutIdeal_MixOutRefIdeal_pre_finite_merge [hMixOutIdeal : Cert.MixOutIdeal.Facts] [hMixOutRefIdeal : Cert.MixOutRefIdeal.Facts] [hPre_finite_merge : Cert.Pre_finite_merge.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal_finite_merge m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)
      ∧ m' ((c.tc : Thread Cert.MixOutRefIdeal.nD Cert.MixOutRefIdeal.τ).loc Cert.MixOutRefIdeal.main_arg6) = m ((c.tc : Thread Cert.MixOutIdeal.nD Cert.MixOutIdeal.τ).loc Cert.MixOutIdeal.main_arg6)
      ∧ m' ((c.tc : Thread Cert.MixOutRefIdeal.nD Cert.MixOutRefIdeal.τ).loc Cert.MixOutRefIdeal.main_arg7) = m ((c.tc : Thread Cert.MixOutIdeal.nD Cert.MixOutIdeal.τ).loc Cert.MixOutIdeal.main_arg7)
      ∧ m' ((c.tc : Thread Cert.MixOutRefIdeal.nD Cert.MixOutRefIdeal.τ).loc Cert.MixOutRefIdeal.main_arg8) = m ((c.tc : Thread Cert.MixOutIdeal.nD Cert.MixOutIdeal.τ).loc Cert.MixOutIdeal.main_arg8)) →
    ∃ (v0 : (c : Dev Cert.MixOutIdeal.nD) → Buf (Elt Ideal) ((c.tc : Thread Cert.MixOutIdeal.nD Cert.MixOutIdeal.τ).loc Cert.MixOutIdeal.main_v42_0)) (v1 : (c : Dev Cert.MixOutIdeal.nD) → Buf (Elt Ideal) ((c.tc : Thread Cert.MixOutIdeal.nD Cert.MixOutIdeal.τ).loc Cert.MixOutIdeal.main_v42_1)) (v2 : (c : Dev Cert.MixOutIdeal.nD) → Buf (Elt Ideal) ((c.tc : Thread Cert.MixOutIdeal.nD Cert.MixOutIdeal.τ).loc Cert.MixOutIdeal.main_v42_2)) (v3 : (c : Dev Cert.MixOutIdeal.nD) → Buf (Elt Ideal) ((c.tc : Thread Cert.MixOutIdeal.nD Cert.MixOutIdeal.τ).loc Cert.MixOutIdeal.main_v42_3)) (v4 : (c : Dev Cert.MixOutIdeal.nD) → Buf (Elt Ideal) ((c.tc : Thread Cert.MixOutIdeal.nD Cert.MixOutIdeal.τ).loc Cert.MixOutIdeal.main_v42_4)) (v5 : (c : Dev Cert.MixOutIdeal.nD) → Buf (Elt Ideal) ((c.tc : Thread Cert.MixOutIdeal.nD Cert.MixOutIdeal.τ).loc Cert.MixOutIdeal.main_v42_5)) (v6 : (c : Dev Cert.MixOutIdeal.nD) → Buf (Elt Ideal) ((c.tc : Thread Cert.MixOutIdeal.nD Cert.MixOutIdeal.τ).loc Cert.MixOutIdeal.main_v42_6)) (v7 : (c : Dev Cert.MixOutIdeal.nD) → Buf (Elt Ideal) ((c.tc : Thread Cert.MixOutIdeal.nD Cert.MixOutIdeal.τ).loc Cert.MixOutIdeal.main_v42_7)) (v8 : (c : Dev Cert.MixOutIdeal.nD) → Buf (Elt Ideal) ((c.tc : Thread Cert.MixOutIdeal.nD Cert.MixOutIdeal.τ).loc Cert.MixOutIdeal.main_v42_8)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v42_0) = v0 c
          ∧ r.2.mem ((c.tc : Thread Cert.MixOutIdeal.nD Cert.MixOutIdeal.τ).loc Cert.MixOutIdeal.main_v42_1) = v1 c
          ∧ r.2.mem ((c.tc : Thread Cert.MixOutIdeal.nD Cert.MixOutIdeal.τ).loc Cert.MixOutIdeal.main_v42_2) = v2 c
          ∧ r.2.mem ((c.tc : Thread Cert.MixOutIdeal.nD Cert.MixOutIdeal.τ).loc Cert.MixOutIdeal.main_v42_3) = v3 c
          ∧ r.2.mem ((c.tc : Thread Cert.MixOutIdeal.nD Cert.MixOutIdeal.τ).loc Cert.MixOutIdeal.main_v42_4) = v4 c
          ∧ r.2.mem ((c.tc : Thread Cert.MixOutIdeal.nD Cert.MixOutIdeal.τ).loc Cert.MixOutIdeal.main_v42_5) = v5 c
          ∧ r.2.mem ((c.tc : Thread Cert.MixOutIdeal.nD Cert.MixOutIdeal.τ).loc Cert.MixOutIdeal.main_v42_6) = v6 c
          ∧ r.2.mem ((c.tc : Thread Cert.MixOutIdeal.nD Cert.MixOutIdeal.τ).loc Cert.MixOutIdeal.main_v42_7) = v7 c
          ∧ r.2.mem ((c.tc : Thread Cert.MixOutIdeal.nD Cert.MixOutIdeal.τ).loc Cert.MixOutIdeal.main_v42_8) = v8 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
          ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
          ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v111) = v0 c
          ∧ r.2.mem ((c.tc : Thread Cert.MixOutRefIdeal.nD Cert.MixOutRefIdeal.τ).loc Cert.MixOutRefIdeal.main_v112) = v1 c
          ∧ r.2.mem ((c.tc : Thread Cert.MixOutRefIdeal.nD Cert.MixOutRefIdeal.τ).loc Cert.MixOutRefIdeal.main_v113) = v2 c
          ∧ r.2.mem ((c.tc : Thread Cert.MixOutRefIdeal.nD Cert.MixOutRefIdeal.τ).loc Cert.MixOutRefIdeal.main_v114) = v3 c
          ∧ r.2.mem ((c.tc : Thread Cert.MixOutRefIdeal.nD Cert.MixOutRefIdeal.τ).loc Cert.MixOutRefIdeal.main_v115) = v4 c
          ∧ r.2.mem ((c.tc : Thread Cert.MixOutRefIdeal.nD Cert.MixOutRefIdeal.τ).loc Cert.MixOutRefIdeal.main_v116) = v5 c
          ∧ r.2.mem ((c.tc : Thread Cert.MixOutRefIdeal.nD Cert.MixOutRefIdeal.τ).loc Cert.MixOutRefIdeal.main_v117) = v6 c
          ∧ r.2.mem ((c.tc : Thread Cert.MixOutRefIdeal.nD Cert.MixOutRefIdeal.τ).loc Cert.MixOutRefIdeal.main_v110) = v7 c
          ∧ r.2.mem ((c.tc : Thread Cert.MixOutRefIdeal.nD Cert.MixOutRefIdeal.τ).loc Cert.MixOutRefIdeal.main_v109) = v8 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5)
          ∧ r.2.mem ((c.tc : Thread Cert.MixOutRefIdeal.nD Cert.MixOutRefIdeal.τ).loc Cert.MixOutRefIdeal.main_arg6) = m' ((c.tc : Thread Cert.MixOutRefIdeal.nD Cert.MixOutRefIdeal.τ).loc Cert.MixOutRefIdeal.main_arg6)
          ∧ r.2.mem ((c.tc : Thread Cert.MixOutRefIdeal.nD Cert.MixOutRefIdeal.τ).loc Cert.MixOutRefIdeal.main_arg7) = m' ((c.tc : Thread Cert.MixOutRefIdeal.nD Cert.MixOutRefIdeal.τ).loc Cert.MixOutRefIdeal.main_arg7)
          ∧ r.2.mem ((c.tc : Thread Cert.MixOutRefIdeal.nD Cert.MixOutRefIdeal.τ).loc Cert.MixOutRefIdeal.main_arg8) = m' ((c.tc : Thread Cert.MixOutRefIdeal.nD Cert.MixOutRefIdeal.τ).loc Cert.MixOutRefIdeal.main_arg8))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)
      ∧ m' ((c.tc : Thread Cert.ConvFwdRefIdeal.nD Cert.ConvFwdRefIdeal.τ).loc Cert.ConvFwdRefIdeal.main_arg3) = m ((c.tc : Thread Cert.ConvFwdIdeal.nD Cert.ConvFwdIdeal.τ).loc Cert.ConvFwdIdeal.main_arg3)) →
    ∃ (v0 : (c : Dev Cert.ConvFwdIdeal.nD) → Buf (Elt Ideal) ((c.tc : Thread Cert.ConvFwdIdeal.nD Cert.ConvFwdIdeal.τ).loc Cert.ConvFwdIdeal.main_v9_0)) (v1 : (c : Dev Cert.ConvFwdIdeal.nD) → Buf (Elt Ideal) ((c.tc : Thread Cert.ConvFwdIdeal.nD Cert.ConvFwdIdeal.τ).loc Cert.ConvFwdIdeal.main_v9_1)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v9_0) = v0 c
          ∧ r.2.mem ((c.tc : Thread Cert.ConvFwdIdeal.nD Cert.ConvFwdIdeal.τ).loc Cert.ConvFwdIdeal.main_v9_1) = v1 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
          ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v238) = v0 c
          ∧ r.2.mem ((c.tc : Thread Cert.ConvFwdRefIdeal.nD Cert.ConvFwdRefIdeal.τ).loc Cert.ConvFwdRefIdeal.main_v266) = v1 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2)
          ∧ r.2.mem ((c.tc : Thread Cert.ConvFwdRefIdeal.nD Cert.ConvFwdRefIdeal.τ).loc Cert.ConvFwdRefIdeal.main_arg3) = m' ((c.tc : Thread Cert.ConvFwdRefIdeal.nD Cert.ConvFwdRefIdeal.τ).loc Cert.ConvFwdRefIdeal.main_arg3))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)) →
    ∃ (v0 : (c : Dev Cert.FfnFwdIdeal.nD) → Buf (Elt Ideal) ((c.tc : Thread Cert.FfnFwdIdeal.nD Cert.FfnFwdIdeal.τ).loc Cert.FfnFwdIdeal.main_v8_0)) (v1 : (c : Dev Cert.FfnFwdIdeal.nD) → Buf (Elt Ideal) ((c.tc : Thread Cert.FfnFwdIdeal.nD Cert.FfnFwdIdeal.τ).loc Cert.FfnFwdIdeal.main_v8_1)) (v2 : (c : Dev Cert.FfnFwdIdeal.nD) → Buf (Elt Ideal) ((c.tc : Thread Cert.FfnFwdIdeal.nD Cert.FfnFwdIdeal.τ).loc Cert.FfnFwdIdeal.main_v8_2)) (v3 : (c : Dev Cert.FfnFwdIdeal.nD) → Buf (Elt Ideal) ((c.tc : Thread Cert.FfnFwdIdeal.nD Cert.FfnFwdIdeal.τ).loc Cert.FfnFwdIdeal.main_v8_3)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v8_0) = v0 c
          ∧ r.2.mem ((c.tc : Thread Cert.FfnFwdIdeal.nD Cert.FfnFwdIdeal.τ).loc Cert.FfnFwdIdeal.main_v8_1) = v1 c
          ∧ r.2.mem ((c.tc : Thread Cert.FfnFwdIdeal.nD Cert.FfnFwdIdeal.τ).loc Cert.FfnFwdIdeal.main_v8_2) = v2 c
          ∧ r.2.mem ((c.tc : Thread Cert.FfnFwdIdeal.nD Cert.FfnFwdIdeal.τ).loc Cert.FfnFwdIdeal.main_v8_3) = v3 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v24) = v0 c
          ∧ r.2.mem ((c.tc : Thread Cert.FfnFwdRefIdeal.nD Cert.FfnFwdRefIdeal.τ).loc Cert.FfnFwdRefIdeal.main_v25) = v1 c
          ∧ r.2.mem ((c.tc : Thread Cert.FfnFwdRefIdeal.nD Cert.FfnFwdRefIdeal.τ).loc Cert.FfnFwdRefIdeal.main_v26) = v2 c
          ∧ r.2.mem ((c.tc : Thread Cert.FfnFwdRefIdeal.nD Cert.FfnFwdRefIdeal.τ).loc Cert.FfnFwdRefIdeal.main_v27) = v3 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)
      ∧ m' ((c.tc : Thread Cert.MergeFwdRefIdeal.nD Cert.MergeFwdRefIdeal.τ).loc Cert.MergeFwdRefIdeal.main_arg6) = m ((c.tc : Thread Cert.MergeFwdIdeal.nD Cert.MergeFwdIdeal.τ).loc Cert.MergeFwdIdeal.main_arg6)
      ∧ m' ((c.tc : Thread Cert.MergeFwdRefIdeal.nD Cert.MergeFwdRefIdeal.τ).loc Cert.MergeFwdRefIdeal.main_arg7) = m ((c.tc : Thread Cert.MergeFwdIdeal.nD Cert.MergeFwdIdeal.τ).loc Cert.MergeFwdIdeal.main_arg7)
      ∧ m' ((c.tc : Thread Cert.MergeFwdRefIdeal.nD Cert.MergeFwdRefIdeal.τ).loc Cert.MergeFwdRefIdeal.main_arg8) = m ((c.tc : Thread Cert.MergeFwdIdeal.nD Cert.MergeFwdIdeal.τ).loc Cert.MergeFwdIdeal.main_arg8)) →
    ∃ (v0 : (c : Dev Cert.MergeFwdIdeal.nD) → Buf (Elt Ideal) ((c.tc : Thread Cert.MergeFwdIdeal.nD Cert.MergeFwdIdeal.τ).loc Cert.MergeFwdIdeal.main_v10_0)) (v1 : (c : Dev Cert.MergeFwdIdeal.nD) → Buf (Elt Ideal) ((c.tc : Thread Cert.MergeFwdIdeal.nD Cert.MergeFwdIdeal.τ).loc Cert.MergeFwdIdeal.main_v10_1)) (v2 : (c : Dev Cert.MergeFwdIdeal.nD) → Buf (Elt Ideal) ((c.tc : Thread Cert.MergeFwdIdeal.nD Cert.MergeFwdIdeal.τ).loc Cert.MergeFwdIdeal.main_v10_2)) (v3 : (c : Dev Cert.MergeFwdIdeal.nD) → Buf (Elt Ideal) ((c.tc : Thread Cert.MergeFwdIdeal.nD Cert.MergeFwdIdeal.τ).loc Cert.MergeFwdIdeal.main_v10_3)) (v4 : (c : Dev Cert.MergeFwdIdeal.nD) → Buf (Elt Ideal) ((c.tc : Thread Cert.MergeFwdIdeal.nD Cert.MergeFwdIdeal.τ).loc Cert.MergeFwdIdeal.main_v10_4)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v10_0) = v0 c
          ∧ r.2.mem ((c.tc : Thread Cert.MergeFwdIdeal.nD Cert.MergeFwdIdeal.τ).loc Cert.MergeFwdIdeal.main_v10_1) = v1 c
          ∧ r.2.mem ((c.tc : Thread Cert.MergeFwdIdeal.nD Cert.MergeFwdIdeal.τ).loc Cert.MergeFwdIdeal.main_v10_2) = v2 c
          ∧ r.2.mem ((c.tc : Thread Cert.MergeFwdIdeal.nD Cert.MergeFwdIdeal.τ).loc Cert.MergeFwdIdeal.main_v10_3) = v3 c
          ∧ r.2.mem ((c.tc : Thread Cert.MergeFwdIdeal.nD Cert.MergeFwdIdeal.τ).loc Cert.MergeFwdIdeal.main_v10_4) = v4 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
          ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6)
          ∧ r.2.mem ((c.tc : Thread Cert.MergeFwdIdeal.nD Cert.MergeFwdIdeal.τ).loc Cert.MergeFwdIdeal.main_arg7) = m ((c.tc : Thread Cert.MergeFwdIdeal.nD Cert.MergeFwdIdeal.τ).loc Cert.MergeFwdIdeal.main_arg7)
          ∧ r.2.mem ((c.tc : Thread Cert.MergeFwdIdeal.nD Cert.MergeFwdIdeal.τ).loc Cert.MergeFwdIdeal.main_arg8) = m ((c.tc : Thread Cert.MergeFwdIdeal.nD Cert.MergeFwdIdeal.τ).loc Cert.MergeFwdIdeal.main_arg8))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v55) = v0 c
          ∧ r.2.mem ((c.tc : Thread Cert.MergeFwdRefIdeal.nD Cert.MergeFwdRefIdeal.τ).loc Cert.MergeFwdRefIdeal.main_v56) = v1 c
          ∧ r.2.mem ((c.tc : Thread Cert.MergeFwdRefIdeal.nD Cert.MergeFwdRefIdeal.τ).loc Cert.MergeFwdRefIdeal.main_v57) = v2 c
          ∧ r.2.mem ((c.tc : Thread Cert.MergeFwdRefIdeal.nD Cert.MergeFwdRefIdeal.τ).loc Cert.MergeFwdRefIdeal.main_v58) = v3 c
          ∧ r.2.mem ((c.tc : Thread Cert.MergeFwdRefIdeal.nD Cert.MergeFwdRefIdeal.τ).loc Cert.MergeFwdRefIdeal.main_v59) = v4 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5)
          ∧ r.2.mem ((c.tc : Thread Cert.MergeFwdRefIdeal.nD Cert.MergeFwdRefIdeal.τ).loc Cert.MergeFwdRefIdeal.main_arg6) = m' ((c.tc : Thread Cert.MergeFwdRefIdeal.nD Cert.MergeFwdRefIdeal.τ).loc Cert.MergeFwdRefIdeal.main_arg6)
          ∧ r.2.mem ((c.tc : Thread Cert.MergeFwdRefIdeal.nD Cert.MergeFwdRefIdeal.τ).loc Cert.MergeFwdRefIdeal.main_arg7) = m' ((c.tc : Thread Cert.MergeFwdRefIdeal.nD Cert.MergeFwdRefIdeal.τ).loc Cert.MergeFwdRefIdeal.main_arg7)
          ∧ r.2.mem ((c.tc : Thread Cert.MergeFwdRefIdeal.nD Cert.MergeFwdRefIdeal.τ).loc Cert.MergeFwdRefIdeal.main_arg8) = m' ((c.tc : Thread Cert.MergeFwdRefIdeal.nD Cert.MergeFwdRefIdeal.τ).loc Cert.MergeFwdRefIdeal.main_arg8))

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)) →
    ∃ (v0 : (c : Dev Cert.MixFwdIdeal.nD) → Buf (Elt Ideal) ((c.tc : Thread Cert.MixFwdIdeal.nD Cert.MixFwdIdeal.τ).loc Cert.MixFwdIdeal.main_v4_0)) (v1 : (c : Dev Cert.MixFwdIdeal.nD) → Buf (Elt Ideal) ((c.tc : Thread Cert.MixFwdIdeal.nD Cert.MixFwdIdeal.τ).loc Cert.MixFwdIdeal.main_v4_1)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v4_0) = v0 c
          ∧ r.2.mem ((c.tc : Thread Cert.MixFwdIdeal.nD Cert.MixFwdIdeal.τ).loc Cert.MixFwdIdeal.main_v4_1) = v1 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v14) = v0 c
          ∧ r.2.mem ((c.tc : Thread Cert.MixFwdRefIdeal.nD Cert.MixFwdRefIdeal.τ).loc Cert.MixFwdRefIdeal.main_v19) = v1 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2))

def preserves_FfnFirst_FfnFirstIdeal : Prop :=
  True

def algebraic_FfnFirstIdeal_FfnFirstRefIdeal [hFfnFirstIdeal : Cert.FfnFirstIdeal.Facts] [hFfnFirstRefIdeal : Cert.FfnFirstRefIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg)
    (m' : (ℓ : Loc Cert.FfnFirstRefIdeal.nD Cert.FfnFirstRefIdeal.τ Cert.FfnFirstRefIdeal.sig) → Buf (Elt Ideal) ℓ) (g' : Dev Cert.FfnFirstRefIdeal.nD → PrngReg), Pre_FfnFirstIdeal m →
    (∀ c : Dev Cert.FfnFirstIdeal.nD,
      m' ((c.tc : Thread Cert.FfnFirstRefIdeal.nD Cert.FfnFirstRefIdeal.τ).loc Cert.FfnFirstRefIdeal.main_arg0) = m ((c.tc : Thread Cert.FfnFirstIdeal.nD Cert.FfnFirstIdeal.τ).loc Cert.FfnFirstIdeal.main_arg0)
      ∧ m' ((c.tc : Thread Cert.FfnFirstRefIdeal.nD Cert.FfnFirstRefIdeal.τ).loc Cert.FfnFirstRefIdeal.main_arg1) = m ((c.tc : Thread Cert.FfnFirstIdeal.nD Cert.FfnFirstIdeal.τ).loc Cert.FfnFirstIdeal.main_arg1)
      ∧ m' ((c.tc : Thread Cert.FfnFirstRefIdeal.nD Cert.FfnFirstRefIdeal.τ).loc Cert.FfnFirstRefIdeal.main_arg2) = m ((c.tc : Thread Cert.FfnFirstIdeal.nD Cert.FfnFirstIdeal.τ).loc Cert.FfnFirstIdeal.main_arg2)
      ∧ m' ((c.tc : Thread Cert.FfnFirstRefIdeal.nD Cert.FfnFirstRefIdeal.τ).loc Cert.FfnFirstRefIdeal.main_arg3) = m ((c.tc : Thread Cert.FfnFirstIdeal.nD Cert.FfnFirstIdeal.τ).loc Cert.FfnFirstIdeal.main_arg3)
      ∧ m' ((c.tc : Thread Cert.FfnFirstRefIdeal.nD Cert.FfnFirstRefIdeal.τ).loc Cert.FfnFirstRefIdeal.main_arg4) = m ((c.tc : Thread Cert.FfnFirstIdeal.nD Cert.FfnFirstIdeal.τ).loc Cert.FfnFirstIdeal.main_arg4)
      ∧ m' ((c.tc : Thread Cert.FfnFirstRefIdeal.nD Cert.FfnFirstRefIdeal.τ).loc Cert.FfnFirstRefIdeal.main_arg5) = m ((c.tc : Thread Cert.FfnFirstIdeal.nD Cert.FfnFirstIdeal.τ).loc Cert.FfnFirstIdeal.main_arg5)
      ∧ m' ((c.tc : Thread Cert.FfnFirstRefIdeal.nD Cert.FfnFirstRefIdeal.τ).loc Cert.FfnFirstRefIdeal.main_arg6) = m ((c.tc : Thread Cert.FfnFirstIdeal.nD Cert.FfnFirstIdeal.τ).loc Cert.FfnFirstIdeal.main_arg6)) →
    ∃ (v0 : (c : Dev Cert.FfnFirstIdeal.nD) → Buf (Elt Ideal) ((c.tc : Thread Cert.FfnFirstIdeal.nD Cert.FfnFirstIdeal.τ).loc Cert.FfnFirstIdeal.main_v9_0)) (v1 : (c : Dev Cert.FfnFirstIdeal.nD) → Buf (Elt Ideal) ((c.tc : Thread Cert.FfnFirstIdeal.nD Cert.FfnFirstIdeal.τ).loc Cert.FfnFirstIdeal.main_v10)),
      θ_run (Cert.FfnFirstIdeal.defs (F := Ideal)) (onTc (τ := Cert.FfnFirstIdeal.τ) (Cert.FfnFirstIdeal.main (F := Ideal))) ⟨m, fun _ => 0, g⟩ (fun r => ∀ c : Dev Cert.FfnFirstIdeal.nD,
          r.2.mem ((c.tc : Thread Cert.FfnFirstIdeal.nD Cert.FfnFirstIdeal.τ).loc Cert.FfnFirstIdeal.main_v9_0) = v0 c
          ∧ r.2.mem ((c.tc : Thread Cert.FfnFirstIdeal.nD Cert.FfnFirstIdeal.τ).loc Cert.FfnFirstIdeal.main_v10) = v1 c
          ∧ r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
          ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
          ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
          ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
          ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4)
          ∧ r.2.mem ((c.tc : Thread Cert.FfnFirstIdeal.nD Cert.FfnFirstIdeal.τ).loc Cert.FfnFirstIdeal.main_arg5) = m ((c.tc : Thread Cert.FfnFirstIdeal.nD Cert.FfnFirstIdeal.τ).loc Cert.FfnFirstIdeal.main_arg5)
          ∧ r.2.mem ((c.tc : Thread Cert.FfnFirstIdeal.nD Cert.FfnFirstIdeal.τ).loc Cert.FfnFirstIdeal.main_arg6) = m ((c.tc : Thread Cert.FfnFirstIdeal.nD Cert.FfnFirstIdeal.τ).loc Cert.FfnFirstIdeal.main_arg6))
      ∧ θ_run (Cert.FfnFirstRefIdeal.defs (F := Ideal)) (onTc (τ := Cert.FfnFirstRefIdeal.τ) (Cert.FfnFirstRefIdeal.main (F := Ideal))) ⟨m', fun _ => 0, g'⟩ (fun r => ∀ c : Dev Cert.FfnFirstRefIdeal.nD,
          r.2.mem ((c.tc : Thread Cert.FfnFirstRefIdeal.nD Cert.FfnFirstRefIdeal.τ).loc Cert.FfnFirstRefIdeal.main_v44) = v0 c
          ∧ r.2.mem ((c.tc : Thread Cert.FfnFirstRefIdeal.nD Cert.FfnFirstRefIdeal.τ).loc Cert.FfnFirstRefIdeal.main_v45) = v1 c
          ∧ r.2.mem ((c.tc : Thread Cert.FfnFirstRefIdeal.nD Cert.FfnFirstRefIdeal.τ).loc Cert.FfnFirstRefIdeal.main_arg0) = m' ((c.tc : Thread Cert.FfnFirstRefIdeal.nD Cert.FfnFirstRefIdeal.τ).loc Cert.FfnFirstRefIdeal.main_arg0)
          ∧ r.2.mem ((c.tc : Thread Cert.FfnFirstRefIdeal.nD Cert.FfnFirstRefIdeal.τ).loc Cert.FfnFirstRefIdeal.main_arg1) = m' ((c.tc : Thread Cert.FfnFirstRefIdeal.nD Cert.FfnFirstRefIdeal.τ).loc Cert.FfnFirstRefIdeal.main_arg1)
          ∧ r.2.mem ((c.tc : Thread Cert.FfnFirstRefIdeal.nD Cert.FfnFirstRefIdeal.τ).loc Cert.FfnFirstRefIdeal.main_arg2) = m' ((c.tc : Thread Cert.FfnFirstRefIdeal.nD Cert.FfnFirstRefIdeal.τ).loc Cert.FfnFirstRefIdeal.main_arg2)
          ∧ r.2.mem ((c.tc : Thread Cert.FfnFirstRefIdeal.nD Cert.FfnFirstRefIdeal.τ).loc Cert.FfnFirstRefIdeal.main_arg3) = m' ((c.tc : Thread Cert.FfnFirstRefIdeal.nD Cert.FfnFirstRefIdeal.τ).loc Cert.FfnFirstRefIdeal.main_arg3)
          ∧ r.2.mem ((c.tc : Thread Cert.FfnFirstRefIdeal.nD Cert.FfnFirstRefIdeal.τ).loc Cert.FfnFirstRefIdeal.main_arg4) = m' ((c.tc : Thread Cert.FfnFirstRefIdeal.nD Cert.FfnFirstRefIdeal.τ).loc Cert.FfnFirstRefIdeal.main_arg4)
          ∧ r.2.mem ((c.tc : Thread Cert.FfnFirstRefIdeal.nD Cert.FfnFirstRefIdeal.τ).loc Cert.FfnFirstRefIdeal.main_arg5) = m' ((c.tc : Thread Cert.FfnFirstRefIdeal.nD Cert.FfnFirstRefIdeal.τ).loc Cert.FfnFirstRefIdeal.main_arg5)
          ∧ r.2.mem ((c.tc : Thread Cert.FfnFirstRefIdeal.nD Cert.FfnFirstRefIdeal.τ).loc Cert.FfnFirstRefIdeal.main_arg6) = m' ((c.tc : Thread Cert.FfnFirstRefIdeal.nD Cert.FfnFirstRefIdeal.τ).loc Cert.FfnFirstRefIdeal.main_arg6))

def preserves_FfnGrad_FfnGradIdeal : Prop :=
  True

def algebraic_FfnGradIdeal_FfnGradRefIdeal [hFfnGradIdeal : Cert.FfnGradIdeal.Facts] [hFfnGradRefIdeal : Cert.FfnGradRefIdeal.Facts] : Prop :=
  ∀ (m : (ℓ : Loc Cert.FfnGradIdeal.nD Cert.FfnGradIdeal.τ Cert.FfnGradIdeal.sig) → Buf (Elt Ideal) ℓ) (g : Dev Cert.FfnGradIdeal.nD → PrngReg)
    (m' : (ℓ : Loc Cert.FfnGradRefIdeal.nD Cert.FfnGradRefIdeal.τ Cert.FfnGradRefIdeal.sig) → Buf (Elt Ideal) ℓ) (g' : Dev Cert.FfnGradRefIdeal.nD → PrngReg), Pre_FfnGradIdeal m →
    (∀ c : Dev Cert.FfnGradIdeal.nD,
      m' ((c.tc : Thread Cert.FfnGradRefIdeal.nD Cert.FfnGradRefIdeal.τ).loc Cert.FfnGradRefIdeal.main_arg0) = m ((c.tc : Thread Cert.FfnGradIdeal.nD Cert.FfnGradIdeal.τ).loc Cert.FfnGradIdeal.main_arg0)
      ∧ m' ((c.tc : Thread Cert.FfnGradRefIdeal.nD Cert.FfnGradRefIdeal.τ).loc Cert.FfnGradRefIdeal.main_arg1) = m ((c.tc : Thread Cert.FfnGradIdeal.nD Cert.FfnGradIdeal.τ).loc Cert.FfnGradIdeal.main_arg1)
      ∧ m' ((c.tc : Thread Cert.FfnGradRefIdeal.nD Cert.FfnGradRefIdeal.τ).loc Cert.FfnGradRefIdeal.main_arg2) = m ((c.tc : Thread Cert.FfnGradIdeal.nD Cert.FfnGradIdeal.τ).loc Cert.FfnGradIdeal.main_arg2)) →
    ∃ (v0 : (c : Dev Cert.FfnGradIdeal.nD) → Buf (Elt Ideal) ((c.tc : Thread Cert.FfnGradIdeal.nD Cert.FfnGradIdeal.τ).loc Cert.FfnGradIdeal.main_v16)),
      θ_run (Cert.FfnGradIdeal.defs (F := Ideal)) (onTc (τ := Cert.FfnGradIdeal.τ) (Cert.FfnGradIdeal.main (F := Ideal))) ⟨m, fun _ => 0, g⟩ (fun r => ∀ c : Dev Cert.FfnGradIdeal.nD,
          r.2.mem ((c.tc : Thread Cert.FfnGradIdeal.nD Cert.FfnGradIdeal.τ).loc Cert.FfnGradIdeal.main_v16) = v0 c
          ∧ r.2.mem ((c.tc : Thread Cert.FfnGradIdeal.nD Cert.FfnGradIdeal.τ).loc Cert.FfnGradIdeal.main_arg0) = m ((c.tc : Thread Cert.FfnGradIdeal.nD Cert.FfnGradIdeal.τ).loc Cert.FfnGradIdeal.main_arg0)
          ∧ r.2.mem ((c.tc : Thread Cert.FfnGradIdeal.nD Cert.FfnGradIdeal.τ).loc Cert.FfnGradIdeal.main_arg1) = m ((c.tc : Thread Cert.FfnGradIdeal.nD Cert.FfnGradIdeal.τ).loc Cert.FfnGradIdeal.main_arg1)
          ∧ r.2.mem ((c.tc : Thread Cert.FfnGradIdeal.nD Cert.FfnGradIdeal.τ).loc Cert.FfnGradIdeal.main_arg2) = m ((c.tc : Thread Cert.FfnGradIdeal.nD Cert.FfnGradIdeal.τ).loc Cert.FfnGradIdeal.main_arg2))
      ∧ θ_run (Cert.FfnGradRefIdeal.defs (F := Ideal)) (onTc (τ := Cert.FfnGradRefIdeal.τ) (Cert.FfnGradRefIdeal.main (F := Ideal))) ⟨m', fun _ => 0, g'⟩ (fun r => ∀ c : Dev Cert.FfnGradRefIdeal.nD,
          r.2.mem ((c.tc : Thread Cert.FfnGradRefIdeal.nD Cert.FfnGradRefIdeal.τ).loc Cert.FfnGradRefIdeal.main_v18) = v0 c
          ∧ r.2.mem ((c.tc : Thread Cert.FfnGradRefIdeal.nD Cert.FfnGradRefIdeal.τ).loc Cert.FfnGradRefIdeal.main_arg0) = m' ((c.tc : Thread Cert.FfnGradRefIdeal.nD Cert.FfnGradRefIdeal.τ).loc Cert.FfnGradRefIdeal.main_arg0)
          ∧ r.2.mem ((c.tc : Thread Cert.FfnGradRefIdeal.nD Cert.FfnGradRefIdeal.τ).loc Cert.FfnGradRefIdeal.main_arg1) = m' ((c.tc : Thread Cert.FfnGradRefIdeal.nD Cert.FfnGradRefIdeal.τ).loc Cert.FfnGradRefIdeal.main_arg1)
          ∧ r.2.mem ((c.tc : Thread Cert.FfnGradRefIdeal.nD Cert.FfnGradRefIdeal.τ).loc Cert.FfnGradRefIdeal.main_arg2) = m' ((c.tc : Thread Cert.FfnGradRefIdeal.nD Cert.FfnGradRefIdeal.τ).loc Cert.FfnGradRefIdeal.main_arg2))

def preserves_InGrad_InGradIdeal : Prop :=
  True

def algebraic_InGradIdeal_InGradRefIdeal [hInGradIdeal : Cert.InGradIdeal.Facts] [hInGradRefIdeal : Cert.InGradRefIdeal.Facts] : Prop :=
  ∀ (m : (ℓ : Loc Cert.InGradIdeal.nD Cert.InGradIdeal.τ Cert.InGradIdeal.sig) → Buf (Elt Ideal) ℓ) (g : Dev Cert.InGradIdeal.nD → PrngReg)
    (m' : (ℓ : Loc Cert.InGradRefIdeal.nD Cert.InGradRefIdeal.τ Cert.InGradRefIdeal.sig) → Buf (Elt Ideal) ℓ) (g' : Dev Cert.InGradRefIdeal.nD → PrngReg), Pre_InGradIdeal m →
    (∀ c : Dev Cert.InGradIdeal.nD,
      m' ((c.tc : Thread Cert.InGradRefIdeal.nD Cert.InGradRefIdeal.τ).loc Cert.InGradRefIdeal.main_arg0) = m ((c.tc : Thread Cert.InGradIdeal.nD Cert.InGradIdeal.τ).loc Cert.InGradIdeal.main_arg0)
      ∧ m' ((c.tc : Thread Cert.InGradRefIdeal.nD Cert.InGradRefIdeal.τ).loc Cert.InGradRefIdeal.main_arg1) = m ((c.tc : Thread Cert.InGradIdeal.nD Cert.InGradIdeal.τ).loc Cert.InGradIdeal.main_arg1)
      ∧ m' ((c.tc : Thread Cert.InGradRefIdeal.nD Cert.InGradRefIdeal.τ).loc Cert.InGradRefIdeal.main_arg2) = m ((c.tc : Thread Cert.InGradIdeal.nD Cert.InGradIdeal.τ).loc Cert.InGradIdeal.main_arg2)) →
    ∃ (v0 : (c : Dev Cert.InGradIdeal.nD) → Buf (Elt Ideal) ((c.tc : Thread Cert.InGradIdeal.nD Cert.InGradIdeal.τ).loc Cert.InGradIdeal.main_v18)),
      θ_run (Cert.InGradIdeal.defs (F := Ideal)) (onTc (τ := Cert.InGradIdeal.τ) (Cert.InGradIdeal.main (F := Ideal))) ⟨m, fun _ => 0, g⟩ (fun r => ∀ c : Dev Cert.InGradIdeal.nD,
          r.2.mem ((c.tc : Thread Cert.InGradIdeal.nD Cert.InGradIdeal.τ).loc Cert.InGradIdeal.main_v18) = v0 c
          ∧ r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
          ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2))
      ∧ θ_run (Cert.InGradRefIdeal.defs (F := Ideal)) (onTc (τ := Cert.InGradRefIdeal.τ) (Cert.InGradRefIdeal.main (F := Ideal))) ⟨m', fun _ => 0, g'⟩ (fun r => ∀ c : Dev Cert.InGradRefIdeal.nD,
          r.2.mem ((c.tc : Thread Cert.InGradRefIdeal.nD Cert.InGradRefIdeal.τ).loc Cert.InGradRefIdeal.main_v17) = v0 c
          ∧ r.2.mem ((c.tc : Thread Cert.InGradRefIdeal.nD Cert.InGradRefIdeal.τ).loc Cert.InGradRefIdeal.main_arg0) = m' ((c.tc : Thread Cert.InGradRefIdeal.nD Cert.InGradRefIdeal.τ).loc Cert.InGradRefIdeal.main_arg0)
          ∧ r.2.mem ((c.tc : Thread Cert.InGradRefIdeal.nD Cert.InGradRefIdeal.τ).loc Cert.InGradRefIdeal.main_arg1) = m' ((c.tc : Thread Cert.InGradRefIdeal.nD Cert.InGradRefIdeal.τ).loc Cert.InGradRefIdeal.main_arg1)
          ∧ r.2.mem ((c.tc : Thread Cert.InGradRefIdeal.nD Cert.InGradRefIdeal.τ).loc Cert.InGradRefIdeal.main_arg2) = m' ((c.tc : Thread Cert.InGradRefIdeal.nD Cert.InGradRefIdeal.τ).loc Cert.InGradRefIdeal.main_arg2))

def preserves_Step_StepIdeal : Prop :=
  True

def algebraic_StepIdeal_StepRefIdeal [hStepIdeal : Cert.StepIdeal.Facts] [hStepRefIdeal : Cert.StepRefIdeal.Facts] : Prop :=
  ∀ (m : (ℓ : Loc Cert.StepIdeal.nD Cert.StepIdeal.τ Cert.StepIdeal.sig) → Buf (Elt Ideal) ℓ) (g : Dev Cert.StepIdeal.nD → PrngReg)
    (m' : (ℓ : Loc Cert.StepRefIdeal.nD Cert.StepRefIdeal.τ Cert.StepRefIdeal.sig) → Buf (Elt Ideal) ℓ) (g' : Dev Cert.StepRefIdeal.nD → PrngReg), Pre_StepIdeal m →
    (∀ c : Dev Cert.StepIdeal.nD,
      m' ((c.tc : Thread Cert.StepRefIdeal.nD Cert.StepRefIdeal.τ).loc Cert.StepRefIdeal.main_arg0) = m ((c.tc : Thread Cert.StepIdeal.nD Cert.StepIdeal.τ).loc Cert.StepIdeal.main_arg0)
      ∧ m' ((c.tc : Thread Cert.StepRefIdeal.nD Cert.StepRefIdeal.τ).loc Cert.StepRefIdeal.main_arg1) = m ((c.tc : Thread Cert.StepIdeal.nD Cert.StepIdeal.τ).loc Cert.StepIdeal.main_arg1)
      ∧ m' ((c.tc : Thread Cert.StepRefIdeal.nD Cert.StepRefIdeal.τ).loc Cert.StepRefIdeal.main_arg2) = m ((c.tc : Thread Cert.StepIdeal.nD Cert.StepIdeal.τ).loc Cert.StepIdeal.main_arg2)
      ∧ m' ((c.tc : Thread Cert.StepRefIdeal.nD Cert.StepRefIdeal.τ).loc Cert.StepRefIdeal.main_arg3) = m ((c.tc : Thread Cert.StepIdeal.nD Cert.StepIdeal.τ).loc Cert.StepIdeal.main_arg3)) →
    ∃ (v0 : (c : Dev Cert.StepIdeal.nD) → Buf (Elt Ideal) ((c.tc : Thread Cert.StepIdeal.nD Cert.StepIdeal.τ).loc Cert.StepIdeal.main_v4_0)) (v1 : (c : Dev Cert.StepIdeal.nD) → Buf (Elt Ideal) ((c.tc : Thread Cert.StepIdeal.nD Cert.StepIdeal.τ).loc Cert.StepIdeal.main_v4_1)) (v2 : (c : Dev Cert.StepIdeal.nD) → Buf (Elt Ideal) ((c.tc : Thread Cert.StepIdeal.nD Cert.StepIdeal.τ).loc Cert.StepIdeal.main_v4_2)),
      θ_run (Cert.StepIdeal.defs (F := Ideal)) (onTc (τ := Cert.StepIdeal.τ) (Cert.StepIdeal.main (F := Ideal))) ⟨m, fun _ => 0, g⟩ (fun r => ∀ c : Dev Cert.StepIdeal.nD,
          r.2.mem ((c.tc : Thread Cert.StepIdeal.nD Cert.StepIdeal.τ).loc Cert.StepIdeal.main_v4_0) = v0 c
          ∧ r.2.mem ((c.tc : Thread Cert.StepIdeal.nD Cert.StepIdeal.τ).loc Cert.StepIdeal.main_v4_1) = v1 c
          ∧ r.2.mem ((c.tc : Thread Cert.StepIdeal.nD Cert.StepIdeal.τ).loc Cert.StepIdeal.main_v4_2) = v2 c
          ∧ r.2.mem ((c.tc : Thread Cert.StepIdeal.nD Cert.StepIdeal.τ).loc Cert.StepIdeal.main_arg0) = m ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
          ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
          ∧ r.2.mem ((c.tc : Thread Cert.StepIdeal.nD Cert.StepIdeal.τ).loc Cert.StepIdeal.main_arg3) = m ((c.tc : Thread Cert.StepIdeal.nD Cert.StepIdeal.τ).loc Cert.StepIdeal.main_arg3))
      ∧ θ_run (Cert.StepRefIdeal.defs (F := Ideal)) (onTc (τ := Cert.StepRefIdeal.τ) (Cert.StepRefIdeal.main (F := Ideal))) ⟨m', fun _ => 0, g'⟩ (fun r => ∀ c : Dev Cert.StepRefIdeal.nD,
          r.2.mem ((c.tc : Thread Cert.StepRefIdeal.nD Cert.StepRefIdeal.τ).loc Cert.StepRefIdeal.main_v27) = v0 c
          ∧ r.2.mem ((c.tc : Thread Cert.StepRefIdeal.nD Cert.StepRefIdeal.τ).loc Cert.StepRefIdeal.main_v8) = v1 c
          ∧ r.2.mem ((c.tc : Thread Cert.StepRefIdeal.nD Cert.StepRefIdeal.τ).loc Cert.StepRefIdeal.main_v14) = v2 c
          ∧ r.2.mem ((c.tc : Thread Cert.StepRefIdeal.nD Cert.StepRefIdeal.τ).loc Cert.StepRefIdeal.main_arg0) = m' ((c.tc : Thread Cert.StepRefIdeal.nD Cert.StepRefIdeal.τ).loc Cert.StepRefIdeal.main_arg0)
          ∧ r.2.mem ((c.tc : Thread Cert.StepRefIdeal.nD Cert.StepRefIdeal.τ).loc Cert.StepRefIdeal.main_arg1) = m' ((c.tc : Thread Cert.StepRefIdeal.nD Cert.StepRefIdeal.τ).loc Cert.StepRefIdeal.main_arg1)
          ∧ r.2.mem ((c.tc : Thread Cert.StepRefIdeal.nD Cert.StepRefIdeal.τ).loc Cert.StepRefIdeal.main_arg2) = m' ((c.tc : Thread Cert.StepRefIdeal.nD Cert.StepRefIdeal.τ).loc Cert.StepRefIdeal.main_arg2)
          ∧ r.2.mem ((c.tc : Thread Cert.StepRefIdeal.nD Cert.StepRefIdeal.τ).loc Cert.StepRefIdeal.main_arg3) = m' ((c.tc : Thread Cert.StepRefIdeal.nD Cert.StepRefIdeal.τ).loc Cert.StepRefIdeal.main_arg3))

def preserves_MixGrad_MixGradIdeal : Prop :=
  True

def algebraic_MixGradIdeal_MixGradRefIdeal [hMixGradIdeal : Cert.MixGradIdeal.Facts] [hMixGradRefIdeal : Cert.MixGradRefIdeal.Facts] : Prop :=
  ∀ (m : (ℓ : Loc Cert.MixGradIdeal.nD Cert.MixGradIdeal.τ Cert.MixGradIdeal.sig) → Buf (Elt Ideal) ℓ) (g : Dev Cert.MixGradIdeal.nD → PrngReg)
    (m' : (ℓ : Loc Cert.MixGradRefIdeal.nD Cert.MixGradRefIdeal.τ Cert.MixGradRefIdeal.sig) → Buf (Elt Ideal) ℓ) (g' : Dev Cert.MixGradRefIdeal.nD → PrngReg), Pre_MixGradIdeal m →
    (∀ c : Dev Cert.MixGradIdeal.nD,
      m' ((c.tc : Thread Cert.MixGradRefIdeal.nD Cert.MixGradRefIdeal.τ).loc Cert.MixGradRefIdeal.main_arg0) = m ((c.tc : Thread Cert.MixGradIdeal.nD Cert.MixGradIdeal.τ).loc Cert.MixGradIdeal.main_arg0)
      ∧ m' ((c.tc : Thread Cert.MixGradRefIdeal.nD Cert.MixGradRefIdeal.τ).loc Cert.MixGradRefIdeal.main_arg1) = m ((c.tc : Thread Cert.MixGradIdeal.nD Cert.MixGradIdeal.τ).loc Cert.MixGradIdeal.main_arg1)
      ∧ m' ((c.tc : Thread Cert.MixGradRefIdeal.nD Cert.MixGradRefIdeal.τ).loc Cert.MixGradRefIdeal.main_arg2) = m ((c.tc : Thread Cert.MixGradIdeal.nD Cert.MixGradIdeal.τ).loc Cert.MixGradIdeal.main_arg2)
      ∧ m' ((c.tc : Thread Cert.MixGradRefIdeal.nD Cert.MixGradRefIdeal.τ).loc Cert.MixGradRefIdeal.main_arg3) = m ((c.tc : Thread Cert.MixGradIdeal.nD Cert.MixGradIdeal.τ).loc Cert.MixGradIdeal.main_arg3)
      ∧ m' ((c.tc : Thread Cert.MixGradRefIdeal.nD Cert.MixGradRefIdeal.τ).loc Cert.MixGradRefIdeal.main_arg4) = m ((c.tc : Thread Cert.MixGradIdeal.nD Cert.MixGradIdeal.τ).loc Cert.MixGradIdeal.main_arg4)
      ∧ m' ((c.tc : Thread Cert.MixGradRefIdeal.nD Cert.MixGradRefIdeal.τ).loc Cert.MixGradRefIdeal.main_arg5) = m ((c.tc : Thread Cert.MixGradIdeal.nD Cert.MixGradIdeal.τ).loc Cert.MixGradIdeal.main_arg5)
      ∧ m' ((c.tc : Thread Cert.MixGradRefIdeal.nD Cert.MixGradRefIdeal.τ).loc Cert.MixGradRefIdeal.main_arg6) = m ((c.tc : Thread Cert.MixGradIdeal.nD Cert.MixGradIdeal.τ).loc Cert.MixGradIdeal.main_arg6)
      ∧ m' ((c.tc : Thread Cert.MixGradRefIdeal.nD Cert.MixGradRefIdeal.τ).loc Cert.MixGradRefIdeal.main_arg7) = m ((c.tc : Thread Cert.MixGradIdeal.nD Cert.MixGradIdeal.τ).loc Cert.MixGradIdeal.main_arg7)
      ∧ m' ((c.tc : Thread Cert.MixGradRefIdeal.nD Cert.MixGradRefIdeal.τ).loc Cert.MixGradRefIdeal.main_arg8) = m ((c.tc : Thread Cert.MixGradIdeal.nD Cert.MixGradIdeal.τ).loc Cert.MixGradIdeal.main_arg8)
      ∧ m' ((c.tc : Thread Cert.MixGradRefIdeal.nD Cert.MixGradRefIdeal.τ).loc Cert.MixGradRefIdeal.main_arg9) = m ((c.tc : Thread Cert.MixGradIdeal.nD Cert.MixGradIdeal.τ).loc Cert.MixGradIdeal.main_arg9)) →
    ∃ (v0 : (c : Dev Cert.MixGradIdeal.nD) → Buf (Elt Ideal) ((c.tc : Thread Cert.MixGradIdeal.nD Cert.MixGradIdeal.τ).loc Cert.MixGradIdeal.main_v59_0)) (v1 : (c : Dev Cert.MixGradIdeal.nD) → Buf (Elt Ideal) ((c.tc : Thread Cert.MixGradIdeal.nD Cert.MixGradIdeal.τ).loc Cert.MixGradIdeal.main_v59_1)) (v2 : (c : Dev Cert.MixGradIdeal.nD) → Buf (Elt Ideal) ((c.tc : Thread Cert.MixGradIdeal.nD Cert.MixGradIdeal.τ).loc Cert.MixGradIdeal.main_v59_2)),
      θ_run (Cert.MixGradIdeal.defs (F := Ideal)) (onTc (τ := Cert.MixGradIdeal.τ) (Cert.MixGradIdeal.main (F := Ideal))) ⟨m, fun _ => 0, g⟩ (fun r => ∀ c : Dev Cert.MixGradIdeal.nD,
          r.2.mem ((c.tc : Thread Cert.MixGradIdeal.nD Cert.MixGradIdeal.τ).loc Cert.MixGradIdeal.main_v59_0) = v0 c
          ∧ r.2.mem ((c.tc : Thread Cert.MixGradIdeal.nD Cert.MixGradIdeal.τ).loc Cert.MixGradIdeal.main_v59_1) = v1 c
          ∧ r.2.mem ((c.tc : Thread Cert.MixGradIdeal.nD Cert.MixGradIdeal.τ).loc Cert.MixGradIdeal.main_v59_2) = v2 c
          ∧ r.2.mem ((c.tc : Thread Cert.MixGradIdeal.nD Cert.MixGradIdeal.τ).loc Cert.MixGradIdeal.main_arg0) = m ((c.tc : Thread Cert.MixGradIdeal.nD Cert.MixGradIdeal.τ).loc Cert.MixGradIdeal.main_arg0)
          ∧ r.2.mem ((c.tc : Thread Cert.MixGradIdeal.nD Cert.MixGradIdeal.τ).loc Cert.MixGradIdeal.main_arg1) = m ((c.tc : Thread Cert.MixGradIdeal.nD Cert.MixGradIdeal.τ).loc Cert.MixGradIdeal.main_arg1)
          ∧ r.2.mem ((c.tc : Thread Cert.MixGradIdeal.nD Cert.MixGradIdeal.τ).loc Cert.MixGradIdeal.main_arg2) = m ((c.tc : Thread Cert.MixGradIdeal.nD Cert.MixGradIdeal.τ).loc Cert.MixGradIdeal.main_arg2)
          ∧ r.2.mem ((c.tc : Thread Cert.MixGradIdeal.nD Cert.MixGradIdeal.τ).loc Cert.MixGradIdeal.main_arg3) = m ((c.tc : Thread Cert.MixGradIdeal.nD Cert.MixGradIdeal.τ).loc Cert.MixGradIdeal.main_arg3)
          ∧ r.2.mem ((c.tc : Thread Cert.MixGradIdeal.nD Cert.MixGradIdeal.τ).loc Cert.MixGradIdeal.main_arg4) = m ((c.tc : Thread Cert.MixGradIdeal.nD Cert.MixGradIdeal.τ).loc Cert.MixGradIdeal.main_arg4)
          ∧ r.2.mem ((c.tc : Thread Cert.MixGradIdeal.nD Cert.MixGradIdeal.τ).loc Cert.MixGradIdeal.main_arg5) = m ((c.tc : Thread Cert.MixGradIdeal.nD Cert.MixGradIdeal.τ).loc Cert.MixGradIdeal.main_arg5)
          ∧ r.2.mem ((c.tc : Thread Cert.MixGradIdeal.nD Cert.MixGradIdeal.τ).loc Cert.MixGradIdeal.main_arg6) = m ((c.tc : Thread Cert.MixGradIdeal.nD Cert.MixGradIdeal.τ).loc Cert.MixGradIdeal.main_arg6)
          ∧ r.2.mem ((c.tc : Thread Cert.MixGradIdeal.nD Cert.MixGradIdeal.τ).loc Cert.MixGradIdeal.main_arg7) = m ((c.tc : Thread Cert.MixGradIdeal.nD Cert.MixGradIdeal.τ).loc Cert.MixGradIdeal.main_arg7)
          ∧ r.2.mem ((c.tc : Thread Cert.MixGradIdeal.nD Cert.MixGradIdeal.τ).loc Cert.MixGradIdeal.main_arg8) = m ((c.tc : Thread Cert.MixGradIdeal.nD Cert.MixGradIdeal.τ).loc Cert.MixGradIdeal.main_arg8)
          ∧ r.2.mem ((c.tc : Thread Cert.MixGradIdeal.nD Cert.MixGradIdeal.τ).loc Cert.MixGradIdeal.main_arg9) = m ((c.tc : Thread Cert.MixGradIdeal.nD Cert.MixGradIdeal.τ).loc Cert.MixGradIdeal.main_arg9))
      ∧ θ_run (Cert.MixGradRefIdeal.defs (F := Ideal)) (onTc (τ := Cert.MixGradRefIdeal.τ) (Cert.MixGradRefIdeal.main (F := Ideal))) ⟨m', fun _ => 0, g'⟩ (fun r => ∀ c : Dev Cert.MixGradRefIdeal.nD,
          r.2.mem ((c.tc : Thread Cert.MixGradRefIdeal.nD Cert.MixGradRefIdeal.τ).loc Cert.MixGradRefIdeal.main_v56) = v0 c
          ∧ r.2.mem ((c.tc : Thread Cert.MixGradRefIdeal.nD Cert.MixGradRefIdeal.τ).loc Cert.MixGradRefIdeal.main_v59) = v1 c
          ∧ r.2.mem ((c.tc : Thread Cert.MixGradRefIdeal.nD Cert.MixGradRefIdeal.τ).loc Cert.MixGradRefIdeal.main_v62) = v2 c
          ∧ r.2.mem ((c.tc : Thread Cert.MixGradRefIdeal.nD Cert.MixGradRefIdeal.τ).loc Cert.MixGradRefIdeal.main_arg0) = m' ((c.tc : Thread Cert.MixGradRefIdeal.nD Cert.MixGradRefIdeal.τ).loc Cert.MixGradRefIdeal.main_arg0)
          ∧ r.2.mem ((c.tc : Thread Cert.MixGradRefIdeal.nD Cert.MixGradRefIdeal.τ).loc Cert.MixGradRefIdeal.main_arg1) = m' ((c.tc : Thread Cert.MixGradRefIdeal.nD Cert.MixGradRefIdeal.τ).loc Cert.MixGradRefIdeal.main_arg1)
          ∧ r.2.mem ((c.tc : Thread Cert.MixGradRefIdeal.nD Cert.MixGradRefIdeal.τ).loc Cert.MixGradRefIdeal.main_arg2) = m' ((c.tc : Thread Cert.MixGradRefIdeal.nD Cert.MixGradRefIdeal.τ).loc Cert.MixGradRefIdeal.main_arg2)
          ∧ r.2.mem ((c.tc : Thread Cert.MixGradRefIdeal.nD Cert.MixGradRefIdeal.τ).loc Cert.MixGradRefIdeal.main_arg3) = m' ((c.tc : Thread Cert.MixGradRefIdeal.nD Cert.MixGradRefIdeal.τ).loc Cert.MixGradRefIdeal.main_arg3)
          ∧ r.2.mem ((c.tc : Thread Cert.MixGradRefIdeal.nD Cert.MixGradRefIdeal.τ).loc Cert.MixGradRefIdeal.main_arg4) = m' ((c.tc : Thread Cert.MixGradRefIdeal.nD Cert.MixGradRefIdeal.τ).loc Cert.MixGradRefIdeal.main_arg4)
          ∧ r.2.mem ((c.tc : Thread Cert.MixGradRefIdeal.nD Cert.MixGradRefIdeal.τ).loc Cert.MixGradRefIdeal.main_arg5) = m' ((c.tc : Thread Cert.MixGradRefIdeal.nD Cert.MixGradRefIdeal.τ).loc Cert.MixGradRefIdeal.main_arg5)
          ∧ r.2.mem ((c.tc : Thread Cert.MixGradRefIdeal.nD Cert.MixGradRefIdeal.τ).loc Cert.MixGradRefIdeal.main_arg6) = m' ((c.tc : Thread Cert.MixGradRefIdeal.nD Cert.MixGradRefIdeal.τ).loc Cert.MixGradRefIdeal.main_arg6)
          ∧ r.2.mem ((c.tc : Thread Cert.MixGradRefIdeal.nD Cert.MixGradRefIdeal.τ).loc Cert.MixGradRefIdeal.main_arg7) = m' ((c.tc : Thread Cert.MixGradRefIdeal.nD Cert.MixGradRefIdeal.τ).loc Cert.MixGradRefIdeal.main_arg7)
          ∧ r.2.mem ((c.tc : Thread Cert.MixGradRefIdeal.nD Cert.MixGradRefIdeal.τ).loc Cert.MixGradRefIdeal.main_arg8) = m' ((c.tc : Thread Cert.MixGradRefIdeal.nD Cert.MixGradRefIdeal.τ).loc Cert.MixGradRefIdeal.main_arg8)
          ∧ r.2.mem ((c.tc : Thread Cert.MixGradRefIdeal.nD Cert.MixGradRefIdeal.τ).loc Cert.MixGradRefIdeal.main_arg9) = m' ((c.tc : Thread Cert.MixGradRefIdeal.nD Cert.MixGradRefIdeal.τ).loc Cert.MixGradRefIdeal.main_arg9))

def Claim : Prop :=
  ∃ (hFfnIn : Cert.FfnIn.Facts) (hFfnInIdeal : Cert.FfnInIdeal.Facts) (hFfnInRefIdeal : Cert.FfnInRefIdeal.Facts) (hFfnHidden : Cert.FfnHidden.Facts) (hFfnHiddenIdeal : Cert.FfnHiddenIdeal.Facts) (hFfnHiddenRefIdeal : Cert.FfnHiddenRefIdeal.Facts) (hHead : Cert.Head.Facts) (hHeadIdeal : Cert.HeadIdeal.Facts) (hHeadRefIdeal : Cert.HeadRefIdeal.Facts) (hMixIn : Cert.MixIn.Facts) (hMixInIdeal : Cert.MixInIdeal.Facts) (hMixInRefIdeal : Cert.MixInRefIdeal.Facts) (hConv : Cert.Conv.Facts) (hConvIdeal : Cert.ConvIdeal.Facts) (hConvRefIdeal : Cert.ConvRefIdeal.Facts) (hMixOut : Cert.MixOut.Facts) (hMixOutIdeal : Cert.MixOutIdeal.Facts) (hMixOutRefIdeal : Cert.MixOutRefIdeal.Facts) (hConvFwd : Cert.ConvFwd.Facts) (hConvFwdIdeal : Cert.ConvFwdIdeal.Facts) (hConvFwdRefIdeal : Cert.ConvFwdRefIdeal.Facts) (hFfnFwd : Cert.FfnFwd.Facts) (hFfnFwdIdeal : Cert.FfnFwdIdeal.Facts) (hFfnFwdRefIdeal : Cert.FfnFwdRefIdeal.Facts) (hMergeFwd : Cert.MergeFwd.Facts) (hMergeFwdIdeal : Cert.MergeFwdIdeal.Facts) (hMergeFwdRefIdeal : Cert.MergeFwdRefIdeal.Facts) (hMixFwd : Cert.MixFwd.Facts) (hMixFwdIdeal : Cert.MixFwdIdeal.Facts) (hMixFwdRefIdeal : Cert.MixFwdRefIdeal.Facts) (hFfnFirst : Cert.FfnFirst.Facts) (hFfnFirstIdeal : Cert.FfnFirstIdeal.Facts) (hFfnFirstRefIdeal : Cert.FfnFirstRefIdeal.Facts) (hFfnGrad : Cert.FfnGrad.Facts) (hFfnGradIdeal : Cert.FfnGradIdeal.Facts) (hFfnGradRefIdeal : Cert.FfnGradRefIdeal.Facts) (hInGrad : Cert.InGrad.Facts) (hInGradIdeal : Cert.InGradIdeal.Facts) (hInGradRefIdeal : Cert.InGradRefIdeal.Facts) (hStep : Cert.Step.Facts) (hStepIdeal : Cert.StepIdeal.Facts) (hStepRefIdeal : Cert.StepRefIdeal.Facts) (hMixGrad : Cert.MixGrad.Facts) (hMixGradIdeal : Cert.MixGradIdeal.Facts) (hMixGradRefIdeal : Cert.MixGradRefIdeal.Facts) (hPre_finite_hidden : Cert.Pre_finite_hidden.Facts) (hPre_finite_merge : Cert.Pre_finite_merge.Facts),
    quiescent_FfnIn (hFfnIn := hFfnIn)
    ∧ quiescent_FfnInIdeal (hFfnInIdeal := hFfnInIdeal)
    ∧ quiescent_FfnInRefIdeal (hFfnInRefIdeal := hFfnInRefIdeal)
    ∧ quiescent_FfnHidden (hFfnHidden := hFfnHidden)
    ∧ quiescent_FfnHiddenIdeal (hFfnHiddenIdeal := hFfnHiddenIdeal)
    ∧ quiescent_FfnHiddenIdeal_pre_finite_hidden (hFfnHiddenIdeal := hFfnHiddenIdeal) (hPre_finite_hidden := hPre_finite_hidden)
    ∧ quiescent_FfnHiddenRefIdeal (hFfnHiddenRefIdeal := hFfnHiddenRefIdeal)
    ∧ quiescent_FfnHiddenRefIdeal_pre_finite_hidden (hFfnHiddenRefIdeal := hFfnHiddenRefIdeal) (hPre_finite_hidden := hPre_finite_hidden)
    ∧ quiescent_Head (hHead := hHead)
    ∧ quiescent_HeadIdeal (hHeadIdeal := hHeadIdeal)
    ∧ quiescent_HeadRefIdeal (hHeadRefIdeal := hHeadRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_Conv (hConv := hConv)
    ∧ quiescent_ConvIdeal (hConvIdeal := hConvIdeal)
    ∧ quiescent_ConvRefIdeal (hConvRefIdeal := hConvRefIdeal)
    ∧ quiescent_MixOut (hMixOut := hMixOut)
    ∧ quiescent_MixOutIdeal (hMixOutIdeal := hMixOutIdeal)
    ∧ quiescent_MixOutIdeal_pre_finite_merge (hMixOutIdeal := hMixOutIdeal) (hPre_finite_merge := hPre_finite_merge)
    ∧ quiescent_MixOutRefIdeal (hMixOutRefIdeal := hMixOutRefIdeal)
    ∧ quiescent_MixOutRefIdeal_pre_finite_merge (hMixOutRefIdeal := hMixOutRefIdeal) (hPre_finite_merge := hPre_finite_merge)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_FfnFirst (hFfnFirst := hFfnFirst)
    ∧ quiescent_FfnFirstIdeal (hFfnFirstIdeal := hFfnFirstIdeal)
    ∧ quiescent_FfnFirstRefIdeal (hFfnFirstRefIdeal := hFfnFirstRefIdeal)
    ∧ quiescent_FfnGrad (hFfnGrad := hFfnGrad)
    ∧ quiescent_FfnGradIdeal (hFfnGradIdeal := hFfnGradIdeal)
    ∧ quiescent_FfnGradRefIdeal (hFfnGradRefIdeal := hFfnGradRefIdeal)
    ∧ quiescent_InGrad (hInGrad := hInGrad)
    ∧ quiescent_InGradIdeal (hInGradIdeal := hInGradIdeal)
    ∧ quiescent_InGradRefIdeal (hInGradRefIdeal := hInGradRefIdeal)
    ∧ quiescent_Step (hStep := hStep)
    ∧ quiescent_StepIdeal (hStepIdeal := hStepIdeal)
    ∧ quiescent_StepRefIdeal (hStepRefIdeal := hStepRefIdeal)
    ∧ quiescent_MixGrad (hMixGrad := hMixGrad)
    ∧ quiescent_MixGradIdeal (hMixGradIdeal := hMixGradIdeal)
    ∧ quiescent_MixGradRefIdeal (hMixGradRefIdeal := hMixGradRefIdeal)
    ∧ preserves_FfnIn_FfnInIdeal
    ∧ algebraic_FfnInIdeal_FfnInRefIdeal (hFfnInIdeal := hFfnInIdeal) (hFfnInRefIdeal := hFfnInRefIdeal)
    ∧ preserves_FfnHidden_FfnHiddenIdeal
    ∧ algebraic_FfnHiddenIdeal_FfnHiddenRefIdeal_pre_finite_hidden (hFfnHiddenIdeal := hFfnHiddenIdeal) (hFfnHiddenRefIdeal := hFfnHiddenRefIdeal) (hPre_finite_hidden := hPre_finite_hidden)
    ∧ preserves_Head_HeadIdeal
    ∧ algebraic_HeadIdeal_HeadRefIdeal (hHeadIdeal := hHeadIdeal) (hHeadRefIdeal := hHeadRefIdeal)
    ∧ preserves_MixIn_MixInIdeal
    ∧ algebraic_MixInIdeal_MixInRefIdeal (hMixInIdeal := hMixInIdeal) (hMixInRefIdeal := hMixInRefIdeal)
    ∧ preserves_Conv_ConvIdeal
    ∧ algebraic_ConvIdeal_ConvRefIdeal (hConvIdeal := hConvIdeal) (hConvRefIdeal := hConvRefIdeal)
    ∧ preserves_MixOut_MixOutIdeal
    ∧ algebraic_MixOutIdeal_MixOutRefIdeal_pre_finite_merge (hMixOutIdeal := hMixOutIdeal) (hMixOutRefIdeal := hMixOutRefIdeal) (hPre_finite_merge := hPre_finite_merge)
    ∧ preserves_ConvFwd_ConvFwdIdeal
    ∧ algebraic_ConvFwdIdeal_ConvFwdRefIdeal (hConvFwdIdeal := hConvFwdIdeal) (hConvFwdRefIdeal := hConvFwdRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_MixFwd_MixFwdIdeal
    ∧ algebraic_MixFwdIdeal_MixFwdRefIdeal (hMixFwdIdeal := hMixFwdIdeal) (hMixFwdRefIdeal := hMixFwdRefIdeal)
    ∧ preserves_FfnFirst_FfnFirstIdeal
    ∧ algebraic_FfnFirstIdeal_FfnFirstRefIdeal (hFfnFirstIdeal := hFfnFirstIdeal) (hFfnFirstRefIdeal := hFfnFirstRefIdeal)
    ∧ preserves_FfnGrad_FfnGradIdeal
    ∧ algebraic_FfnGradIdeal_FfnGradRefIdeal (hFfnGradIdeal := hFfnGradIdeal) (hFfnGradRefIdeal := hFfnGradRefIdeal)
    ∧ preserves_InGrad_InGradIdeal
    ∧ algebraic_InGradIdeal_InGradRefIdeal (hInGradIdeal := hInGradIdeal) (hInGradRefIdeal := hInGradRefIdeal)
    ∧ preserves_Step_StepIdeal
    ∧ algebraic_StepIdeal_StepRefIdeal (hStepIdeal := hStepIdeal) (hStepRefIdeal := hStepRefIdeal)
    ∧ preserves_MixGrad_MixGradIdeal
    ∧ algebraic_MixGradIdeal_MixGradRefIdeal (hMixGradIdeal := hMixGradIdeal) (hMixGradRefIdeal := hMixGradRefIdeal)
-- ==== Pre_finite_hidden.lean ====
abbrev S4096x1024 : Shape := ⟨2, ![4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1x1024x2816 : S_.BroadcastsInDim S1x1024x2816 (![] : Fin 0 → Fin S1x1024x2816.rank)
  bcast_S_S1x2816x1024 : S_.BroadcastsInDim S1x2816x1024 (![] : Fin 0 → Fin S1x2816x1024.rank)

variable [Facts]

def fn {F : FTy → Type} [FloatOps F] (main_arg0 : FVec F S4096x1024 .f32) (main_arg1 : FVec F S4096x1024 .f32) (main_arg2 : FVec F S1x1024 .f32) (main_arg3 : FVec F S1x1024x2816 .f32) (main_arg4 : FVec F S1x1024x2816 .f32) (main_arg5 : FVec F S1x2816x1024 .f32) : IVec S4096x1024 1 × IVec S4096x1024 1 × IVec S1x1024 1 × IVec S1x1024x2816 1 × IVec S1x2816x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024x2816 .f32 := Host.absf main_arg4
  let main_cst_2 : FVec F S_ .f32 := constant S_ .f32 0x7F800000#32
  let main_v10 : FVec F S1x1024x2816 .f32 := broadcastInDim S1x1024x2816 ![] bcast_S_S1x1024x2816 main_cst_2
  let main_v11 : IVec S1x1024x2816 1 := cmpf .olt main_v9 main_v10
  let main_v12 : FVec F S1x2816x1024 .f32 := Host.absf main_arg5
  let main_cst_3 : FVec F S_ .f32 := constant S_ .f32 0x7F800000#32
  let main_v13 : FVec F S1x2816x1024 .f32 := broadcastInDim S1x2816x1024 ![] bcast_S_S1x2816x1024 main_cst_3
  let main_v14 : IVec S1x2816x1024 1 := cmpf .olt main_v12 main_v13
  (main_v2, main_v5, main_v8, main_v11, main_v14)
-- ==== Pre_finite_merge.lean ====
abbrev S4096x1024 : Shape := ⟨2, ![4096, 1024]⟩
abbrev S4096x7168 : Shape := ⟨2, ![4096, 7168]⟩
abbrev S1x1024 : Shape := ⟨2, ![1, 1024]⟩
abbrev S1x1024x1024 : Shape := ⟨3, ![1, 1024, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1x1024x1024 : S_.BroadcastsInDim S1x1024x1024 (![] : Fin 0 → Fin S1x1024x1024.rank)

variable [Facts]

def fn {F : FTy → Type} [FloatOps F] (main_arg0 : FVec F S4096x1024 .f32) (main_arg1 : FVec F S4096x1024 .f32) (main_arg2 : FVec F S4096x1024 .f32) (main_arg3 : FVec F S4096x7168 .f32) (main_arg4 : FVec F S1x1024 .f32) (main_arg5 : FVec F S1x1024 .f32) (main_arg6 : FVec F S1x1024x1024 .f32) (main_arg7 : FVec F S1x1024x1024 .f32) (main_arg8 : FVec F S1x1024x1024 .f32) : IVec S4096x1024 1 × IVec S1x1024 1 × IVec S1x1024x1024 1 × IVec S1x1024x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg4
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x1024 .f32 := Host.absf main_arg6
  let main_cst_1 : FVec F S_ .f32 := constant S_ .f32 0x7F800000#32
  let main_v7 : FVec F S1x1024x1024 .f32 := broadcastInDim S1x1024x1024 ![] bcast_S_S1x1024x1024 main_cst_1
  let main_v8 : IVec S1x1024x1024 1 := cmpf .olt main_v6 main_v7
  let main_v9 : FVec F S1x1024x1024 .f32 := Host.absf main_arg8
  let main_cst_2 : FVec F S_ .f32 := constant S_ .f32 0x7F800000#32
  let main_v10 : FVec F S1x1024x1024 .f32 := broadcastInDim S1x1024x1024 ![] bcast_S_S1x1024x1024 main_cst_2
  let main_v11 : IVec S1x1024x1024 1 := cmpf .olt main_v9 main_v10
  (main_v2, main_v5, main_v8, main_v11)
-- ==== FfnIn.lean ====
abbrev S4096x1024 : Shape := ⟨2, ![4096, 1024]⟩
abbrev S1x1024 : Shape := ⟨2, ![1, 1024]⟩
abbrev S4096x2816 : Shape := ⟨2, ![4096, 2816]⟩
abbrev S1x1024x2816 : Shape := ⟨3, ![1, 1024, 2816]⟩
abbrev S1024x2816 : Shape := ⟨2, ![1024, 2816]⟩
abbrev S2816x1024 : Shape := ⟨2, ![2816, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024 : Shape := ⟨1, ![1024]⟩

abbrev nBuf : Space → Nat
  | .hbm => 17
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x2816, .f32⟩
  | .hbm, ⟨4, _⟩ => ⟨S4096x2816, .f32⟩
  | .hbm, ⟨5, _⟩ => ⟨S1x1024x2816, .f32⟩
  | .hbm, ⟨6, _⟩ => ⟨S1x1024x2816, .f32⟩
  | .hbm, ⟨7, _⟩ => ⟨S1024x2816, .f32⟩
  | .hbm, ⟨8, _⟩ => ⟨S2816x1024, .f32⟩
  | .hbm, ⟨9, _⟩ => ⟨S2816x1024, .bf16⟩
  | .hbm, ⟨10, _⟩ => ⟨S1024x2816, .f32⟩
  | .hbm, ⟨11, _⟩ => ⟨S2816x1024, .f32⟩
  | .hbm, ⟨12, _⟩ => ⟨S2816x1024, .bf16⟩
  | .hbm, ⟨13, _⟩ => ⟨S4096x2816, .bf16⟩
  | .hbm, ⟨14, _⟩ => ⟨S4096x2816, .bf16⟩
  | .hbm, ⟨15, _⟩ => ⟨S4096x1024, .f32⟩
  | .hbm, ⟨16, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S2816x1024, .bf16⟩
  | .local _ .vmem, ⟨10, _⟩ => ⟨S2816x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FfnInRefIdeal.lean ====
abbrev S4096x1024 : Shape := ⟨2, ![4096, 1024]⟩
abbrev S1x1024 : Shape := ⟨2, ![1, 1024]⟩
abbrev S4096x2816 : Shape := ⟨2, ![4096, 2816]⟩
abbrev S1x1024x2816 : Shape := ⟨3, ![1, 1024, 2816]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩

abbrev nBuf : Space → Nat
  | .hbm => 62
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x2816, .f32⟩
  | .hbm, ⟨4, _⟩ => ⟨S4096x2816, .f32⟩
  | .hbm, ⟨5, _⟩ => ⟨S1x1024x2816, .f32⟩
  | .hbm, ⟨6, _⟩ => ⟨S1x1024x2816, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S1024x2816, .f32⟩
  | .hbm, ⟨29, _⟩ => ⟨S4096x2816, .f32⟩
  | .hbm, ⟨30, _⟩ => ⟨S1024x2816, .f32⟩
  | .hbm, ⟨31, _⟩ => ⟨S4096x2816, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== FfnHidden.lean ====
abbrev S4096x1024 : Shape := ⟨2, ![4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S4096x2816 : Shape := ⟨2, ![4096, 2816]⟩
abbrev S2816x1024 : Shape := ⟨2, ![2816, 1024]⟩
abbrev S1024x1024 : Shape := ⟨2, ![1024, 1024]⟩
abbrev S1408x1024 : Shape := ⟨2, ![1408, 1024]⟩
abbrev S1024x1408 : Shape := ⟨2, ![1024, 1408]⟩
abbrev S3x1024x1408 : Shape := ⟨3, ![3, 1024, 1408]⟩
abbrev S2x3 : Shape := ⟨2, ![2, 3]⟩
abbrev S1x1 : Shape := ⟨2, ![1, 1]⟩
abbrev S1x1024x1408 : Shape := ⟨3, ![1, 1024, 1408]⟩
abbrev S256x1024 : Shape := ⟨2, ![256, 1024]⟩
abbrev S256x1408 : Shape := ⟨2, ![256, 1408]⟩
abbrev S1x256x1408 : Shape := ⟨3, ![1, 256, 1408]⟩

abbrev nBuf : Space → Nat
  | .hbm => 38
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S1024x2816, .f32⟩
  | .hbm, ⟨24, _⟩ => ⟨S4096x2816, .f32⟩
  | .hbm, ⟨25, _⟩ => ⟨S1024x2816, .f32⟩
  | .hbm, ⟨26, _⟩ => ⟨S4096x2816, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .bf16⟩
  | .hbm, ⟨31, _⟩ => ⟨S4096x2816, .bf16⟩
  | .hbm, ⟨32, _⟩ => ⟨S4096x2816, .bf16⟩
  | .hbm, ⟨33, _⟩ => ⟨S2816x1024, .f32⟩
  | .hbm, ⟨34, _⟩ => ⟨S2816x1024, .bf16⟩
  | .hbm, ⟨35, _⟩ => ⟨S4096x2816, .bf16⟩
  | .hbm, ⟨36, _⟩ => ⟨S4096x2816, .bf16⟩
  | .hbm, ⟨37, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S3x1024x1408, .bf16⟩
  | .local _ .vmem, ⟨11, _⟩ => ⟨S3x1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25_0 : Ref sig .tc := ⟨.hbm, 35, rfl⟩
abbrev main_v25_1 : Ref sig .tc := ⟨.hbm, 36, rfl⟩
abbrev main_v25_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_off1 (c0_i32_73 : BitVec 32) : Fin 2 → Nat :=
  let c0_i32_81 : BitVec 32 := 0#32
  let c3_i32_74 : BitVec 32 := 3#32
  let v149 : BitVec 32 := Scalar.remsi c0_i32_73 c3_i32_74
  ![0, v149.toNat]
def k0_off2 (c0_i32_73 : BitVec 32) : Fin 3 → Nat :=
  let c3_i32_74 : BitVec 32 := 3#32
  let v149 : BitVec 32 := Scalar.remsi c0_i32_73 c3_i32_74
  let c0_i32_82 : BitVec 32 := 0#32
  let c0_i32_83 : BitVec 32 := 0#32
  ![v149.toNat, 0, 0]
def k0_off3 (c0_i32_75 : BitVec 32) (c0_i32_78 : BitVec 32) : Fin 2 → Nat :=
  let c4_i32_76 : BitVec 32 := 4#32
  let v150 : BitVec 32 := Scalar.remsi c0_i32_75 c4_i32_76
  let c1024_i32_77 : BitVec 32 := 1024#32
  let v151 : BitVec 32 := Scalar.muli v150 c1024_i32_77
  let c4_i32_79 : BitVec 32 := 4#32
  let v152 : BitVec 32 := Scalar.divsi c0_i32_78 c4_i32_79
  let c1408_i32_80 : BitVec 32 := 1408#32
  let v153 : BitVec 32 := Scalar.muli v152 c1408_i32_80
  ![v151.toNat, v153.toNat]
def k0_off3_at (r : Fin 2) : BitVec 32 × BitVec 32 :=
  if r.val < 1 then
    (0#32, 0#32)
  else
    (1#32, 1#32)
def k0_off4 (c0_i32_73 : BitVec 32) : Fin 2 → Nat :=
  let c1_i32_84 : BitVec 32 := 1#32
  let c3_i32_74 : BitVec 32 := 3#32
  let v149 : BitVec 32 := Scalar.remsi c0_i32_73 c3_i32_74
  ![1, v149.toNat]
def k0_cond2 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v5 : BitVec 32 := Scalar.addi v1 c2_i32
  let c8_i32 : BitVec 32 := 8#32
  let v6 : BitVec 1 := Scalar.cmpi .slt v5 c8_i32
  let v7 : BitVec 32 := Scalar.extui v6
  let c0_i32_1 : BitVec 32 := 0#32
  let v8 : BitVec 1 := Scalar.cmpi .ne v7 c0_i32_1
  v8

def k0_off5 (i : grid0.Coords) : Fin 2 → Nat :=
  let c0_i32_79 : BitVec 32 := 0#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_73 : BitVec 32 := 2#32
  let v149 : BitVec 32 := Scalar.addi v1 c2_i32_73
  let c3_i32_74 : BitVec 32 := 3#32
  let v150 : BitVec 32 := Scalar.remsi v149 c3_i32_74
  ![0, v150.toNat]
def k0_off6 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_73 : BitVec 32 := 2#32
  let v149 : BitVec 32 := Scalar.addi v1 c2_i32_73
  let c3_i32_74 : BitVec 32 := 3#32
  let v150 : BitVec 32 := Scalar.remsi v149 c3_i32_74
  let c0_i32_80 : BitVec 32 := 0#32
  let c0_i32_81 : BitVec 32 := 0#32
  ![v150.toNat, 0, 0]
def k0_off7 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_73 : BitVec 32 := 2#32
  let v149 : BitVec 32 := Scalar.addi v1 c2_i32_73
  let c4_i32_75 : BitVec 32 := 4#32
  let v151 : BitVec 32 := Scalar.remsi v149 c4_i32_75
  let c1024_i32_76 : BitVec 32 := 1024#32
  let v152 : BitVec 32 := Scalar.muli v151 c1024_i32_76
  let c4_i32_77 : BitVec 32 := 4#32
  let v153 : BitVec 32 := Scalar.divsi v149 c4_i32_77
  let c1408_i32_78 : BitVec 32 := 1408#32
  let v154 : BitVec 32 := Scalar.muli v153 c1408_i32_78
  ![v152.toNat, v154.toNat]
def k0_off8 (i : grid0.Coords) : Fin 2 → Nat :=
  let c1_i32_82 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_73 : BitVec 32 := 2#32
  let v149 : BitVec 32 := Scalar.addi v1 c2_i32_73
  let c3_i32_74 : BitVec 32 := 3#32
  let v150 : BitVec 32 := Scalar.remsi v149 c3_i32_74
  ![1, v150.toNat]
def k0_off9 (i : grid0.Coords) : Fin 2 → Nat :=
  let c0_i32_4 : BitVec 32 := 0#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32 : BitVec 32 := 3#32
  let v9 : BitVec 32 := Scalar.remsi v1 c3_i32
  ![0, v9.toNat]
def k0_off10 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32 : BitVec 32 := 3#32
  let v9 : BitVec 32 := Scalar.remsi v1 c3_i32
  let c0_i32_5 : BitVec 32 := 0#32
  let c0_i32_6 : BitVec 32 := 0#32
  ![v9.toNat, 0, 0]
def k0_off11 (i : grid0.Coords) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_2 : BitVec 32 := 4#32
  let v10 : BitVec 32 := Scalar.remsi v1 c4_i32_2
  let c1024_i32 : BitVec 32 := 1024#32
  let v11 : BitVec 32 := Scalar.muli v10 c1024_i32
  let c4_i32_3 : BitVec 32 := 4#32
  let v12 : BitVec 32 := Scalar.divsi v1 c4_i32_3
  let c1408_i32 : BitVec 32 := 1408#32
  let v13 : BitVec 32 := Scalar.muli v12 c1408_i32
  ![v11.toNat, v13.toNat]
def k0_off12 (i : grid0.Coords) : Fin 2 → Nat :=
  let c1_i32 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32 : BitVec 32 := 3#32
  let v9 : BitVec 32 := Scalar.remsi v1 c3_i32
  ![1, v9.toNat]
def k0_off13 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_9 : BitVec 32 := 3#32
  let v24 : BitVec 32 := Scalar.remsi v1 c3_i32_9
  let v45 : Index := Scalar.indexCast v24
  let c0_25 : Index := 0#32
  let c0_26 : Index := 0#32
  ![v45.toNat, 0, 0]
def k0_off14 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_9 : BitVec 32 := 3#32
  let v24 : BitVec 32 := Scalar.remsi v1 c3_i32_9
  let v71 : Index := Scalar.indexCast v24
  let c256_37 : Index := 256#32
  let c0_38 : Index := 0#32
  ![v71.toNat, 256, 0]
def k0_off15 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_9 : BitVec 32 := 3#32
  let v24 : BitVec 32 := Scalar.remsi v1 c3_i32_9
  let v97 : Index := Scalar.indexCast v24
  let c512_49 : Index := 512#32
  let c0_50 : Index := 0#32
  ![v97.toNat, 512, 0]
def k0_off16 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_9 : BitVec 32 := 3#32
  let v24 : BitVec 32 := Scalar.remsi v1 c3_i32_9
  let v123 : Index := Scalar.indexCast v24
  let c768_61 : Index := 768#32
  let c0_62 : Index := 0#32
  ![v123.toNat, 768, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnHiddenRefIdeal.lean ====
abbrev S4096x1024 : Shape := ⟨2, ![4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S4096x2816 : Shape := ⟨2, ![4096, 2816]⟩
abbrev S2816x1024 : Shape := ⟨2, ![2816, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S1024x2816, .f32⟩
  | .hbm, ⟨24, _⟩ => ⟨S4096x2816, .f32⟩
  | .hbm, ⟨25, _⟩ => ⟨S1024x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S2816x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S4096x2816, .f32⟩
  | .hbm, ⟨56, _⟩ => ⟨S4096x2816, .bf16⟩
  | .hbm, ⟨57, _⟩ => ⟨S4096x2816, .bf16⟩
  | .hbm, ⟨58, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v18_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v18_1 : Ref sig .tc := ⟨.hbm, 38, rfl⟩
abbrev main_v18_0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_2 : Ref sig .tc := ⟨.hbm, 43, rfl⟩
abbrev main_v22 : Ref sig .tc := ⟨.hbm, 44, rfl⟩
abbrev main_v23 : Ref sig .tc := ⟨.hbm, 45, rfl⟩
abbrev main_cst_3 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩

abbrev nD : Nat := 1
abbrev τ : Topo := Topo.v7x

variable {F : FTy → Type} [FloatOps F]
-- ==== Head.lean ====
abbrev S4096x1024 : Shape := ⟨2, ![4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x2816 : Shape := ⟨2, ![1024, 2816]⟩
abbrev S2816x1024 : Shape := ⟨2, ![2816, 1024]⟩
abbrev S8x128 : Shape := ⟨2, ![8, 128]⟩
abbrev S4096x2816 : Shape := ⟨2, ![4096, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1408x1024 : Shape := ⟨2, ![1408, 1024]⟩
abbrev S512x1408 : Shape := ⟨2, ![512, 1408]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 23
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S4096x1024, .f32⟩
  | .hbm, ⟨6, _⟩ => ⟨S1024, .f32⟩
  | .hbm, ⟨7, _⟩ => ⟨S1024x2816, .f32⟩
  | .hbm, ⟨8, _⟩ => ⟨S2816x1024, .f32⟩
  | .hbm, ⟨9, _⟩ => ⟨S2816x1024, .bf16⟩
  | .hbm, ⟨10, _⟩ => ⟨S1024x2816, .f32⟩
  | .hbm, ⟨11, _⟩ => ⟨S2816x1024, .f32⟩
  | .hbm, ⟨12, _⟩ => ⟨S2816x1024, .bf16⟩
  | .hbm, ⟨13, _⟩ => ⟨S2816x1024, .f32⟩
  | .hbm, ⟨14, _⟩ => ⟨S2816x1024, .bf16⟩
  | .hbm, ⟨15, _⟩ => ⟨S1x1024, .f32⟩
  | .hbm, ⟨16, _⟩ => ⟨S4096x1024, .f32⟩
  | .hbm, ⟨17, _⟩ => ⟨S4096x1024, .bf16⟩
  | .hbm, ⟨18, _⟩ => ⟨S1x1024, .f32⟩
  | .hbm, ⟨19, _⟩ => ⟨S8x128, .f32⟩
  | .hbm, ⟨20, _⟩ => ⟨S4096x1024, .bf16⟩
  | .hbm, ⟨21, _⟩ => ⟨S4096x2816, .bf16⟩
  | .hbm, ⟨22, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S8x128, .f32⟩
  | .local _ .vmem, ⟨15, _⟩ => ⟨S512x1024, .bf16⟩
  | .local _ .vmem, ⟨16, _⟩ => ⟨S512x1024, .bf16⟩
  | .local _ .vmem, ⟨17, _⟩ => ⟨S512x2816, .bf16⟩
  | .local _ .vmem, ⟨18, _⟩ => ⟨S512x2816, .bf16⟩
  | .local _ .vmem, ⟨19, _⟩ => ⟨S512x2816, .bf16⟩
  | .local _ .vmem, ⟨20, _⟩ => ⟨S512x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_v9_5 : Ref sig .tc := ⟨.hbm, 21, rfl⟩
abbrev main_v9_6 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== HeadRefIdeal.lean ====
abbrev S4096x1024 : Shape := ⟨2, ![4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S4096x2816 : Shape := ⟨2, ![4096, 2816]⟩
abbrev S2816x1024 : Shape := ⟨2, ![2816, 1024]⟩
abbrev S8x128 : Shape := ⟨2, ![8, 128]⟩

abbrev nBuf : Space → Nat
  | .hbm => 121
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S4096x1024, .f32⟩
  | .hbm, ⟨6, _⟩ => ⟨S1024, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S1024x2816, .f32⟩
  | .hbm, ⟨25, _⟩ => ⟨S4096x2816, .f32⟩
  | .hbm, ⟨26, _⟩ => ⟨S1024x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S2816x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x1, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S1x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S4096, .f32⟩
  | .hbm, ⟨71, _⟩ => ⟨S_, .f32⟩
  | .hbm, ⟨72, _⟩ => ⟨S4096, .f32⟩
  | .hbm, ⟨73, _⟩ => ⟨S4096, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S4096, .f32⟩
  | .hbm, ⟨82, _⟩ => ⟨S_, .f32⟩
  | .hbm, ⟨83, _⟩ => ⟨S4096, .f32⟩
  | .hbm, ⟨84, _⟩ => ⟨S4096, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S_, .f32⟩
  | .hbm, ⟨89, _⟩ => ⟨S1024, .f32⟩
  | .hbm, ⟨90, _⟩ => ⟨S1x1024, .f32⟩
  | .hbm, ⟨91, _⟩ => ⟨S4096x1024, .f32⟩
  | .hbm, ⟨92, _⟩ => ⟨S4096x1024, .f32⟩
  | .hbm, ⟨93, _⟩ => ⟨S_, .f32⟩
  | .hbm, ⟨94, _⟩ => ⟨S1024, .f32⟩
  | .hbm, ⟨95, _⟩ => ⟨S4096x1024, .f32⟩
  | .hbm, ⟨96, _⟩ => ⟨S_, .f32⟩
  | .hbm, ⟨97, _⟩ => ⟨S4096, .f32⟩
  | .hbm, ⟨98, _⟩ => ⟨S4096x1, .f32⟩
  | .hbm, ⟨99, _⟩ => ⟨S4096x1024, .f32⟩
  | .hbm, ⟨100, _⟩ => ⟨S4096x1024, .f32⟩
  | .hbm, ⟨101, _⟩ => ⟨S4096x1, .f32⟩
  | .hbm, ⟨102, _⟩ => ⟨S_, .f32⟩
  | .hbm, ⟨103, _⟩ => ⟨S4096x1, .f32⟩
  | .hbm, ⟨104, _⟩ => ⟨S4096x1, .f32⟩
  | .hbm, ⟨105, _⟩ => ⟨S_, .f32⟩
  | .hbm, ⟨106, _⟩ => ⟨S4096, .f32⟩
  | .hbm, ⟨107, _⟩ => ⟨S4096x1024, .f32⟩
  | .hbm, ⟨108, _⟩ => ⟨S4096x1024, .f32⟩
  | .hbm, ⟨109, _⟩ => ⟨S4096x1024, .f32⟩
  | .hbm, ⟨110, _⟩ => ⟨S4096x1024, .f32⟩
  | .hbm, ⟨111, _⟩ => ⟨S4096x1024, .f32⟩
  | .hbm, ⟨112, _⟩ => ⟨S_, .f32⟩
  | .hbm, ⟨113, _⟩ => ⟨S4096x1024, .f32⟩
  | .hbm, ⟨114, _⟩ => ⟨S4096x1024, .f32⟩
  | .hbm, ⟨115, _⟩ => ⟨S4096x1024, .bf16⟩
  | .hbm, ⟨116, _⟩ => ⟨S1x1024, .f32⟩
  | .hbm, ⟨117, _⟩ => ⟨S8x128, .f32⟩
  | .hbm, ⟨118, _⟩ => ⟨S4096x1024, .bf16⟩
  | .hbm, ⟨119, _⟩ => ⟨S4096x2816, .bf16⟩
  | .hbm, ⟨120, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_cst_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_6 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_7 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_v47 : Ref sig .tc := ⟨.hbm, 73, rfl⟩
abbrev main_cst_10 : Ref sig .tc := ⟨.hbm, 74, rfl⟩
abbrev main_v48 : Ref sig .tc := ⟨.hbm, 75, rfl⟩
abbrev main_cst_11 : Ref sig .tc := ⟨.hbm, 76, rfl⟩
abbrev main_v49 : Ref sig .tc := ⟨.hbm, 77, rfl⟩
abbrev main_cst_12 : Ref sig .tc := ⟨.hbm, 78, rfl⟩
abbrev main_cst_13 : Ref sig .tc := ⟨.hbm, 79, rfl⟩
abbrev main_v50 : Ref sig .tc := ⟨.hbm, 80, rfl⟩
abbrev main_v51 : Ref sig .tc := ⟨.hbm, 81, rfl⟩
abbrev main_cst_14 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_15 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_16 : Ref sig .tc := ⟨.hbm, 93, rfl⟩
abbrev main_v61 : Ref sig .tc := ⟨.hbm, 94, rfl⟩
abbrev main_v62 : Ref sig .tc := ⟨.hbm, 95, rfl⟩
abbrev main_cst_17 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_18 : Ref sig .tc := ⟨.hbm, 102, rfl⟩
abbrev main_v68 : Ref sig .tc := ⟨.hbm, 103, rfl⟩
abbrev main_v69 : Ref sig .tc := ⟨.hbm, 104, rfl⟩
abbrev main_cst_19 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_20 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩

abbrev nD : Nat := 1
abbrev τ : Topo := Topo.v7x

variable {F : FTy → Type} [FloatOps F]
-- ==== MixIn.lean ====
abbrev S4096x1024 : Shape := ⟨2, ![4096, 1024]⟩
abbrev S1x1024 : Shape := ⟨2, ![1, 1024]⟩
abbrev S4096x7168 : Shape := ⟨2, ![4096, 7168]⟩
abbrev S1x1024x7168 : Shape := ⟨3, ![1, 1024, 7168]⟩
abbrev S4096x7x1024 : Shape := ⟨3, ![4096, 7, 1024]⟩
abbrev S7x4096x1024 : Shape := ⟨3, ![7, 4096, 1024]⟩
abbrev S1024x7168 : Shape := ⟨2, ![1024, 7168]⟩
abbrev S1024x4x1792 : Shape := ⟨3, ![1024, 4, 1792]⟩
abbrev S4x1024x1792 : Shape := ⟨3, ![4, 1024, 1792]⟩
abbrev S512x1024 : Shape := ⟨2, ![512, 1024]⟩
abbrev S7x512x1024 : Shape := ⟨3, ![7, 512, 1024]⟩
abbrev S1x512x1024 : Shape := ⟨3, ![1, 512, 1024]⟩
abbrev S1x1024x1024 : Shape := ⟨3, ![1, 1024, 1024]⟩
abbrev S1024x1024 : Shape := ⟨2, ![1024, 1024]⟩
abbrev S1x512x768 : Shape := ⟨3, ![1, 512, 768]⟩
abbrev S512x768 : Shape := ⟨2, ![512, 768]⟩
abbrev S1x1024x768 : Shape := ⟨3, ![1, 1024, 768]⟩
abbrev S1024x768 : Shape := ⟨2, ![1024, 768]⟩
abbrev S1x512x256 : Shape := ⟨3, ![1, 512, 256]⟩
abbrev S512x256 : Shape := ⟨2, ![512, 256]⟩
abbrev S1x1024x256 : Shape := ⟨3, ![1, 1024, 256]⟩
abbrev S1024x256 : Shape := ⟨2, ![1024, 256]⟩
abbrev S1x512x512 : Shape := ⟨3, ![1, 512, 512]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 15
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x7168, .f32⟩
  | .hbm, ⟨4, _⟩ => ⟨S1x1024x7168, .f32⟩
  | .hbm, ⟨5, _⟩ => ⟨S4096x7x1024, .f32⟩
  | .hbm, ⟨6, _⟩ => ⟨S7x4096x1024, .f32⟩
  | .hbm, ⟨7, _⟩ => ⟨S7x4096x1024, .bf16⟩
  | .hbm, ⟨8, _⟩ => ⟨S1024x7168, .f32⟩
  | .hbm, ⟨9, _⟩ => ⟨S1024x4x1792, .f32⟩
  | .hbm, ⟨10, _⟩ => ⟨S4x1024x1792, .f32⟩
  | .hbm, ⟨11, _⟩ => ⟨S4x1024x1792, .bf16⟩
  | .hbm, ⟨12, _⟩ => ⟨S4096x1024, .f32⟩
  | .hbm, ⟨13, _⟩ => ⟨S1x1024, .f32⟩
  | .hbm, ⟨14, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S7x512x1024, .bf16⟩
  | .local _ .vmem, ⟨6, _⟩ => ⟨S7x512x1024, .bf16⟩
  | .local _ .vmem, ⟨7, _⟩ => ⟨S4x1024x1792, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S7x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1024x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixInRefIdeal.lean ====
abbrev S4096x1024 : Shape := ⟨2, ![4096, 1024]⟩
abbrev S1x1024 : Shape := ⟨2, ![1, 1024]⟩
abbrev S4096x7168 : Shape := ⟨2, ![4096, 7168]⟩
abbrev S1x1024x7168 : Shape := ⟨3, ![1, 1024, 7168]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x7168 : Shape := ⟨2, ![1024, 7168]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x7168, .f32⟩
  | .hbm, ⟨4, _⟩ => ⟨S1x1024x7168, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S1024x7168, .f32⟩
  | .hbm, ⟨27, _⟩ => ⟨S4096x7168, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1x1024, .f32⟩
  | .hbm, ⟨56, _⟩ => ⟨S_, .f32⟩
  | .hbm, ⟨57, _⟩ => ⟨S4096x1024, .f32⟩
  | .hbm, ⟨58, _⟩ => ⟨S4096x1024, .f32⟩
  | .hbm, ⟨59, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Conv.lean ====
abbrev S4096x1024 : Shape := ⟨2, ![4096, 1024]⟩
abbrev S1x1024 : Shape := ⟨2, ![1, 1024]⟩
abbrev S1x1024x7168 : Shape := ⟨3, ![1, 1024, 7168]⟩
abbrev S1x31x1024 : Shape := ⟨3, ![1, 31, 1024]⟩
abbrev S1x3x1024 : Shape := ⟨3, ![1, 3, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x7168 : Shape := ⟨2, ![1024, 7168]⟩
abbrev S4096x7168 : Shape := ⟨2, ![4096, 7168]⟩
abbrev S4096x7x1024 : Shape := ⟨3, ![4096, 7, 1024]⟩
abbrev S7x4096x1024 : Shape := ⟨3, ![7, 4096, 1024]⟩
abbrev S31x1024 : Shape := ⟨2, ![31, 1024]⟩
abbrev S31x4x256 : Shape := ⟨3, ![31, 4, 256]⟩
abbrev S4x31x256 : Shape := ⟨3, ![4, 31, 256]⟩
abbrev S3x1024 : Shape := ⟨2, ![3, 1024]⟩
abbrev S3x4x256 : Shape := ⟨3, ![3, 4, 256]⟩
abbrev S4x3x256 : Shape := ⟨3, ![4, 3, 256]⟩
abbrev S5x1024x256 : Shape := ⟨3, ![5, 1024, 256]⟩
abbrev S5x32x256 : Shape := ⟨3, ![5, 32, 256]⟩
abbrev S1024x256 : Shape := ⟨2, ![1024, 256]⟩
abbrev S32x256 : Shape := ⟨2, ![32, 256]⟩
abbrev S1x31x256 : Shape := ⟨3, ![1, 31, 256]⟩
abbrev S1x3x256 : Shape := ⟨3, ![1, 3, 256]⟩
abbrev S7x1024x256 : Shape := ⟨3, ![7, 1024, 256]⟩
abbrev S1x256 : Shape := ⟨2, ![1, 256]⟩
abbrev S8x1056x256 : Shape := ⟨3, ![8, 1056, 256]⟩
abbrev S1056x256 : Shape := ⟨2, ![1056, 256]⟩
abbrev S31x8x256 : Shape := ⟨3, ![31, 8, 256]⟩
abbrev S3x8x256 : Shape := ⟨3, ![3, 8, 256]⟩
abbrev S1x1024x256 : Shape := ⟨3, ![1, 1024, 256]⟩
abbrev S1x32x256 : Shape := ⟨3, ![1, 32, 256]⟩
abbrev S1x1048x256 : Shape := ⟨3, ![1, 1048, 256]⟩
abbrev S1048x256 : Shape := ⟨2, ![1048, 256]⟩
abbrev S256 : Shape := ⟨1, ![256]⟩
abbrev S1x1x256 : Shape := ⟨3, ![1, 1, 256]⟩
abbrev S1x64x256 : Shape := ⟨3, ![1, 64, 256]⟩
abbrev S64x256 : Shape := ⟨2, ![64, 256]⟩
abbrev S1x8x256 : Shape := ⟨3, ![1, 8, 256]⟩
abbrev S8x256 : Shape := ⟨2, ![8, 256]⟩
abbrev S8x8x256 : Shape := ⟨3, ![8, 8, 256]⟩
abbrev S31x256 : Shape := ⟨2, ![31, 256]⟩
abbrev S3x256 : Shape := ⟨2, ![3, 256]⟩

abbrev nBuf : Space → Nat
  | .hbm => 45
  | .vmem => 36
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x7168, .f32⟩
  | .hbm, ⟨3, _⟩ => ⟨S1x31x1024, .f32⟩
  | .hbm, ⟨4, _⟩ => ⟨S1x3x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S1024x7168, .f32⟩
  | .hbm, ⟨27, _⟩ => ⟨S4096x7168, .f32⟩
  | .hbm, ⟨28, _⟩ => ⟨S4096x7x1024, .f32⟩
  | .hbm, ⟨29, _⟩ => ⟨S7x4096x1024, .f32⟩
  | .hbm, ⟨30, _⟩ => ⟨S7x4096x1024, .bf16⟩
  | .hbm, ⟨31, _⟩ => ⟨S31x1024, .f32⟩
  | .hbm, ⟨32, _⟩ => ⟨S31x4x256, .f32⟩
  | .hbm, ⟨33, _⟩ => ⟨S4x31x256, .f32⟩
  | .hbm, ⟨34, _⟩ => ⟨S3x1024, .f32⟩
  | .hbm, ⟨35, _⟩ => ⟨S3x4x256, .f32⟩
  | .hbm, ⟨36, _⟩ => ⟨S4x3x256, .f32⟩
  | .hbm, ⟨37, _⟩ => ⟨S4096x1024, .bf16⟩
  | .hbm, ⟨38, _⟩ => ⟨S4096x1024, .bf16⟩
  | .hbm, ⟨39, _⟩ => ⟨S4096x1024, .bf16⟩
  | .hbm, ⟨40, _⟩ => ⟨S4096x1024, .bf16⟩
  | .hbm, ⟨41, _⟩ => ⟨S7x4096x1024, .bf16⟩
  | .hbm, ⟨42, _⟩ => ⟨S4x31x256, .f32⟩
  | .hbm, ⟨43, _⟩ => ⟨S1x1024, .f32⟩
  | .hbm, ⟨44, _⟩ => ⟨S4x3x256, .f32⟩
  | .local _ .vmem, ⟨0, _⟩ => ⟨S5x1024x256, .bf16⟩
  | .local _ .vmem, ⟨1, _⟩ => ⟨S5x1024x256, .bf16⟩
  | .local _ .vmem, ⟨2, _⟩ => ⟨S5x32x256, .bf16⟩
  | .local _ .vmem, ⟨3, _⟩ => ⟨S5x32x256, .bf16⟩
  | .local _ .vmem, ⟨4, _⟩ => ⟨S5x32x256, .bf16⟩
  | .local _ .vmem, ⟨5, _⟩ => ⟨S5x32x256, .bf16⟩
  | .local _ .vmem, ⟨6, _⟩ => ⟨S1024x256, .bf16⟩
  | .local _ .vmem, ⟨7, _⟩ => ⟨S1024x256, .bf16⟩
  | .local _ .vmem, ⟨8, _⟩ => ⟨S32x256, .bf16⟩
  | .local _ .vmem, ⟨9, _⟩ => ⟨S32x256, .bf16⟩
  | .local _ .vmem, ⟨10, _⟩ => ⟨S1024x256, .bf16⟩
  | .local _ .vmem, ⟨11, _⟩ => ⟨S1024x256, .bf16⟩
  | .local _ .vmem, ⟨12, _⟩ => ⟨S32x256, .bf16⟩
  | .local _ .vmem, ⟨13, _⟩ => ⟨S32x256, .bf16⟩
  | .local _ .vmem, ⟨14, _⟩ => ⟨S1024x256, .bf16⟩
  | .local _ .vmem, ⟨15, _⟩ => ⟨S1024x256, .bf16⟩
  | .local _ .vmem, ⟨16, _⟩ => ⟨S1024x256, .bf16⟩
  | .local _ .vmem, ⟨17, _⟩ => ⟨S1024x256, .bf16⟩
  | .local _ .vmem, ⟨18, _⟩ => ⟨S1x31x256, .f32⟩
  | .local _ .vmem, ⟨19, _⟩ => ⟨S1x31x256, .f32⟩
  | .local _ .vmem, ⟨20, _⟩ => ⟨S1x3x256, .f32⟩
  | .local _ .vmem, ⟨21, _⟩ => ⟨S1x3x256, .f32⟩
  | .local _ .vmem, ⟨22, _⟩ => ⟨S7x1024x256, .bf16⟩
  | .local _ .vmem, ⟨23, _⟩ => ⟨S7x1024x256, .bf16⟩
  | .local _ .vmem, ⟨24, _⟩ => ⟨S1x31x256, .f32⟩
  | .local _ .vmem, ⟨25, _⟩ => ⟨S1x31x256, .f32⟩
  | .local _ .vmem, ⟨26, _⟩ => ⟨S1x256, .f32⟩
  | .local _ .vmem, ⟨27, _⟩ => ⟨S1x256, .f32⟩
  | .local _ .vmem, ⟨28, _⟩ => ⟨S1x3x256, .f32⟩
  | .local _ .vmem, ⟨29, _⟩ => ⟨S1x3x256, .f32⟩
  | .local _ .vmem, ⟨30, _⟩ => ⟨S8x1056x256, .f32⟩
  | .local _ .vmem, ⟨31, _⟩ => ⟨S8x1056x256, .f32⟩
  | .local _ .vmem, ⟨32, _⟩ => ⟨S1056x256, .f32⟩
  | .local _ .vmem, ⟨33, _⟩ => ⟨S1056x256, .f32⟩
  | .local _ .vmem, ⟨34, _⟩ => ⟨S31x8x256, .f32⟩
  | .local _ .vmem, ⟨35, _⟩ => ⟨S3x8x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29_0 : Ref sig .tc := ⟨.hbm, 41, rfl⟩
abbrev main_v29_1 : Ref sig .tc := ⟨.hbm, 42, rfl⟩
abbrev main_v29_2 : Ref sig .tc := ⟨.hbm, 43, rfl⟩
abbrev main_v29_3 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_scratch4 : Ref sig .tc := ⟨.vmem, 34, rfl⟩
abbrev cc0_scratch5 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32_7678 : BitVec 32 := 3#32
  let v9815 : BitVec 1 := Scalar.cmpi .eq arg1 c3_i32_7678
  let v9816 : BitVec 32 := Scalar.extui v9815
  let c0_i32_7679 : BitVec 32 := 0#32
  let v9817 : BitVec 1 := Scalar.cmpi .ne v9816 c0_i32_7679
  v9817

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  let c0_i32_0 : BitVec 32 := 0#32
  ![c0_i32.toNat, v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  ![v2.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5x32x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S5x32x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x31x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x3x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S7x1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x31x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x3x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== ConvRefIdeal.lean ====
abbrev S4096x1024 : Shape := ⟨2, ![4096, 1024]⟩
abbrev S1x1024 : Shape := ⟨2, ![1, 1024]⟩
abbrev S1x1024x7168 : Shape := ⟨3, ![1, 1024, 7168]⟩
abbrev S1x31x1024 : Shape := ⟨3, ![1, 31, 1024]⟩
abbrev S1x3x1024 : Shape := ⟨3, ![1, 3, 1024]⟩
abbrev S_ : Shape := ⟨0, ![]⟩
abbrev S1024 : Shape := ⟨1, ![1024]⟩
abbrev S4096 : Shape := ⟨1, ![4096]⟩
abbrev S4096x1 : Shape := ⟨2, ![4096, 1]⟩
abbrev S1024x7168 : Shape := ⟨2, ![1024, 7168]⟩
abbrev S4096x7168 : Shape := ⟨2, ![4096, 7168]⟩
abbrev S31x1024 : Shape := ⟨2, ![31, 1024]⟩
abbrev S30x1024 : Shape := ⟨2, ![30, 1024]⟩
abbrev S4126x1024 : Shape := ⟨2, ![4126, 1024]⟩
abbrev S3x1024 : Shape := ⟨2, ![3, 1024]⟩
abbrev S2x1024 : Shape := ⟨2, ![2, 1024]⟩
abbrev S4098x1024 : Shape := ⟨2, ![4098, 1024]⟩
abbrev S4096x7x1024 : Shape := ⟨3, ![4096, 7, 1024]⟩
abbrev S7x4096x1024 : Shape := ⟨3, ![7, 4096, 1024]⟩
abbrev S31x4x256 : Shape := ⟨3, ![31, 4, 256]⟩
abbrev S4x31x256 : Shape := ⟨3, ![4, 31, 256]⟩
abbrev S3x4x256 : Shape := ⟨3, ![3, 4, 256]⟩
abbrev S4x3x256 : Shape := ⟨3, ![4, 3, 256]⟩

abbrev nBuf : Space → Nat
  | .hbm => 846
  | .vmem => 0
  | .smem => 0
  | _ => 0

abbrev hbmTy0_0 (i : Nat) : BufTy := match i % 128 with
  | 0 => ⟨S4096x1024, .f32⟩
  | 1 => ⟨S1x1024, .f32⟩
  | 2 => ⟨S1x1024x7168, .f32⟩
  | 3 => ⟨S1x31x1024, .f32⟩
  | 4 => ⟨S1x3x1024, .f32⟩
  | 5 => ⟨S4096x1024, .f32⟩
  | 6 => ⟨S4096x1024, .f32⟩
  | 7 => ⟨S4096x1024, .f32⟩
  | 8 => ⟨S4096x1024, .f32⟩
  | 9 => ⟨S_, .f32⟩
  | 10 => ⟨S1x1024, .f32⟩
  | 11 => ⟨S1024, .f32⟩
  | 12 => ⟨S4096x1024, .f32⟩
  | 13 => ⟨S_, .f32⟩
  | 14 => ⟨S4096, .f32⟩
  | 15 => ⟨S4096x1, .f32⟩
  | 16 => ⟨S_, .f32⟩
  | 17 => ⟨S4096x1, .f32⟩
  | 18 => ⟨S4096x1, .f32⟩
  | 19 => ⟨S_, .f32⟩
  | 20 => ⟨S4096x1, .f32⟩
  | 21 => ⟨S4096x1, .f32⟩
  | 22 => ⟨S4096x1, .f32⟩
  | 23 => ⟨S4096x1024, .f32⟩
  | 24 => ⟨S4096x1024, .f32⟩
  | 25 => ⟨S1x1024, .f32⟩
  | 26 => ⟨S4096x1024, .f32⟩
  | 27 => ⟨S4096x1024, .f32⟩
  | 28 => ⟨S1024x7168, .f32⟩
  | 29 => ⟨S4096x7168, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S4096x1024, .f32⟩
  | 36 => ⟨S4096x1024, .f32⟩
  | 37 => ⟨S4096x1024, .f32⟩
  | 38 => ⟨S4096x1024, .f32⟩
  | 39 => ⟨S_, .f32⟩
  | 40 => ⟨S4096x1024, .f32⟩
  | 41 => ⟨S4096x1024, .f32⟩
  | 42 => ⟨S_, .f32⟩
  | 43 => ⟨S4096x1024, .f32⟩
  | 44 => ⟨S4096x1024, .f32⟩
  | 45 => ⟨S_, .f32⟩
  | 46 => ⟨S4096x1024, .f32⟩
  | 47 => ⟨S4096x1024, .f32⟩
  | 48 => ⟨S4096x1024, .f32⟩
  | 49 => ⟨S4096x1024, .f32⟩
  | 50 => ⟨S31x1024, .f32⟩
  | 51 => ⟨S_, .f32⟩
  | 52 => ⟨S30x1024, .f32⟩
  | 53 => ⟨S4126x1024, .f32⟩
  | 54 => ⟨S_, .f32⟩
  | 55 => ⟨S30x1024, .f32⟩
  | 56 => ⟨S1x1024, .f32⟩
  | 57 => ⟨S1024, .f32⟩
  | 58 => ⟨S4096x1024, .f32⟩
  | 59 => ⟨S1x1024, .f32⟩
  | 60 => ⟨S4096x1024, .f32⟩
  | 61 => ⟨S4096x1024, .f32⟩
  | 62 => ⟨S_, .f32⟩
  | 63 => ⟨S4096x1024, .f32⟩
  | 64 => ⟨S4096x1024, .f32⟩
  | 65 => ⟨S1x1024, .f32⟩
  | 66 => ⟨S1024, .f32⟩
  | 67 => ⟨S4096x1024, .f32⟩
  | 68 => ⟨S1x1024, .f32⟩
  | 69 => ⟨S4096x1024, .f32⟩
  | 70 => ⟨S4096x1024, .f32⟩
  | 71 => ⟨S4096x1024, .f32⟩
  | 72 => ⟨S1x1024, .f32⟩
  | 73 => ⟨S1024, .f32⟩
  | 74 => ⟨S4096x1024, .f32⟩
  | 75 => ⟨S1x1024, .f32⟩
  | 76 => ⟨S4096x1024, .f32⟩
  | 77 => ⟨S4096x1024, .f32⟩
  | 78 => ⟨S4096x1024, .f32⟩
  | 79 => ⟨S1x1024, .f32⟩
  | 80 => ⟨S1024, .f32⟩
  | 81 => ⟨S4096x1024, .f32⟩
  | 82 => ⟨S1x1024, .f32⟩
  | 83 => ⟨S4096x1024, .f32⟩
  | 84 => ⟨S4096x1024, .f32⟩
  | 85 => ⟨S4096x1024, .f32⟩
  | 86 => ⟨S1x1024, .f32⟩
  | 87 => ⟨S1024, .f32⟩
  | 88 => ⟨S4096x1024, .f32⟩
  | 89 => ⟨S1x1024, .f32⟩
  | 90 => ⟨S4096x1024, .f32⟩
  | 91 => ⟨S4096x1024, .f32⟩
  | 92 => ⟨S4096x1024, .f32⟩
  | 93 => ⟨S1x1024, .f32⟩
  | 94 => ⟨S1024, .f32⟩
  | 95 => ⟨S4096x1024, .f32⟩
  | 96 => ⟨S1x1024, .f32⟩
  | 97 => ⟨S4096x1024, .f32⟩
  | 98 => ⟨S4096x1024, .f32⟩
  | 99 => ⟨S4096x1024, .f32⟩
  | 100 => ⟨S1x1024, .f32⟩
  | 101 => ⟨S1024, .f32⟩
  | 102 => ⟨S4096x1024, .f32⟩
  | 103 => ⟨S1x1024, .f32⟩
  | 104 => ⟨S4096x1024, .f32⟩
  | 105 => ⟨S4096x1024, .f32⟩
  | 106 => ⟨S4096x1024, .f32⟩
  | 107 => ⟨S1x1024, .f32⟩
  | 108 => ⟨S1024, .f32⟩
  | 109 => ⟨S4096x1024, .f32⟩
  | 110 => ⟨S1x1024, .f32⟩
  | 111 => ⟨S4096x1024, .f32⟩
  | 112 => ⟨S4096x1024, .f32⟩
  | 113 => ⟨S4096x1024, .f32⟩
  | 114 => ⟨S1x1024, .f32⟩
  | 115 => ⟨S1024, .f32⟩
  | 116 => ⟨S4096x1024, .f32⟩
  | 117 => ⟨S1x1024, .f32⟩
  | 118 => ⟨S4096x1024, .f32⟩
  | 119 => ⟨S4096x1024, .f32⟩
  | 120 => ⟨S4096x1024, .f32⟩
  | 121 => ⟨S1x1024, .f32⟩
  | 122 => ⟨S1024, .f32⟩
  | 123 => ⟨S4096x1024, .f32⟩
  | 124 => ⟨S1x1024, .f32⟩
  | 125 => ⟨S4096x1024, .f32⟩
  | 126 => ⟨S4096x1024, .f32⟩
  | 127 => ⟨S4096x1024, .f32⟩
  | _ => ⟨S4096x1024, .f32⟩

abbrev hbmTy0_1 (i : Nat) : BufTy := match i % 128 with
  | 0 => ⟨S1x1024, .f32⟩
  | 1 => ⟨S1024, .f32⟩
  | 2 => ⟨S4096x1024, .f32⟩
  | 3 => ⟨S1x1024, .f32⟩
  | 4 => ⟨S4096x1024, .f32⟩
  | 5 => ⟨S4096x1024, .f32⟩
  | 6 => ⟨S4096x1024, .f32⟩
  | 7 => ⟨S1x1024, .f32⟩
  | 8 => ⟨S1024, .f32⟩
  | 9 => ⟨S4096x1024, .f32⟩
  | 10 => ⟨S1x1024, .f32⟩
  | 11 => ⟨S4096x1024, .f32⟩
  | 12 => ⟨S4096x1024, .f32⟩
  | 13 => ⟨S4096x1024, .f32⟩
  | 14 => ⟨S1x1024, .f32⟩
  | 15 => ⟨S1024, .f32⟩
  | 16 => ⟨S4096x1024, .f32⟩
  | 17 => ⟨S1x1024, .f32⟩
  | 18 => ⟨S4096x1024, .f32⟩
  | 19 => ⟨S4096x1024, .f32⟩
  | 20 => ⟨S4096x1024, .f32⟩
  | 21 => ⟨S1x1024, .f32⟩
  | 22 => ⟨S1024, .f32⟩
  | 23 => ⟨S4096x1024, .f32⟩
  | 24 => ⟨S1x1024, .f32⟩
  | 25 => ⟨S4096x1024, .f32⟩
  | 26 => ⟨S4096x1024, .f32⟩
  | 27 => ⟨S4096x1024, .f32⟩
  | 28 => ⟨S1x1024, .f32⟩
  | 29 => ⟨S1024, .f32⟩
  | 30 => ⟨S4096x1024, .f32⟩
  | 31 => ⟨S1x1024, .f32⟩
  | 32 => ⟨S4096x1024, .f32⟩
  | 33 => ⟨S4096x1024, .f32⟩
  | 34 => ⟨S4096x1024, .f32⟩
  | 35 => ⟨S1x1024, .f32⟩
  | 36 => ⟨S1024, .f32⟩
  | 37 => ⟨S4096x1024, .f32⟩
  | 38 => ⟨S1x1024, .f32⟩
  | 39 => ⟨S4096x1024, .f32⟩
  | 40 => ⟨S4096x1024, .f32⟩
  | 41 => ⟨S4096x1024, .f32⟩
  | 42 => ⟨S1x1024, .f32⟩
  | 43 => ⟨S1024, .f32⟩
  | 44 => ⟨S4096x1024, .f32⟩
  | 45 => ⟨S1x1024, .f32⟩
  | 46 => ⟨S4096x1024, .f32⟩
  | 47 => ⟨S4096x1024, .f32⟩
  | 48 => ⟨S4096x1024, .f32⟩
  | 49 => ⟨S1x1024, .f32⟩
  | 50 => ⟨S1024, .f32⟩
  | 51 => ⟨S4096x1024, .f32⟩
  | 52 => ⟨S1x1024, .f32⟩
  | 53 => ⟨S4096x1024, .f32⟩
  | 54 => ⟨S4096x1024, .f32⟩
  | 55 => ⟨S4096x1024, .f32⟩
  | 56 => ⟨S1x1024, .f32⟩
  | 57 => ⟨S1024, .f32⟩
  | 58 => ⟨S4096x1024, .f32⟩
  | 59 => ⟨S1x1024, .f32⟩
  | 60 => ⟨S4096x1024, .f32⟩
  | 61 => ⟨S4096x1024, .f32⟩
  | 62 => ⟨S4096x1024, .f32⟩
  | 63 => ⟨S1x1024, .f32⟩
  | 64 => ⟨S1024, .f32⟩
  | 65 => ⟨S4096x1024, .f32⟩
  | 66 => ⟨S1x1024, .f32⟩
  | 67 => ⟨S4096x1024, .f32⟩
  | 68 => ⟨S4096x1024, .f32⟩
  | 69 => ⟨S4096x1024, .f32⟩
  | 70 => ⟨S1x1024, .f32⟩
  | 71 => ⟨S1024, .f32⟩
  | 72 => ⟨S4096x1024, .f32⟩
  | 73 => ⟨S1x1024, .f32⟩
  | 74 => ⟨S4096x1024, .f32⟩
  | 75 => ⟨S4096x1024, .f32⟩
  | 76 => ⟨S4096x1024, .f32⟩
  | 77 => ⟨S1x1024, .f32⟩
  | 78 => ⟨S1024, .f32⟩
  | 79 => ⟨S4096x1024, .f32⟩
  | 80 => ⟨S1x1024, .f32⟩
  | 81 => ⟨S4096x1024, .f32⟩
  | 82 => ⟨S4096x1024, .f32⟩
  | 83 => ⟨S4096x1024, .f32⟩
  | 84 => ⟨S1x1024, .f32⟩
  | 85 => ⟨S1024, .f32⟩
  | 86 => ⟨S4096x1024, .f32⟩
  | 87 => ⟨S1x1024, .f32⟩
  | 88 => ⟨S4096x1024, .f32⟩
  | 89 => ⟨S4096x1024, .f32⟩
  | 90 => ⟨S4096x1024, .f32⟩
  | 91 => ⟨S1x1024, .f32⟩
  | 92 => ⟨S1024, .f32⟩
  | 93 => ⟨S4096x1024, .f32⟩
  | 94 => ⟨S1x1024, .f32⟩
  | 95 => ⟨S4096x1024, .f32⟩
  | 96 => ⟨S4096x1024, .f32⟩
  | 97 => ⟨S4096x1024, .f32⟩
  | 98 => ⟨S1x1024, .f32⟩
  | 99 => ⟨S1024, .f32⟩
  | 100 => ⟨S4096x1024, .f32⟩
  | 101 => ⟨S1x1024, .f32⟩
  | 102 => ⟨S4096x1024, .f32⟩
  | 103 => ⟨S4096x1024, .f32⟩
  | 104 => ⟨S4096x1024, .f32⟩
  | 105 => ⟨S1x1024, .f32⟩
  | 106 => ⟨S1024, .f32⟩
  | 107 => ⟨S4096x1024, .f32⟩
  | 108 => ⟨S1x1024, .f32⟩
  | 109 => ⟨S4096x1024, .f32⟩
  | 110 => ⟨S4096x1024, .f32⟩
  | 111 => ⟨S4096x1024, .f32⟩
  | 112 => ⟨S1x1024, .f32⟩
  | 113 => ⟨S1024, .f32⟩
  | 114 => ⟨S4096x1024, .f32⟩
  | 115 => ⟨S1x1024, .f32⟩
  | 116 => ⟨S4096x1024, .f32⟩
  | 117 => ⟨S4096x1024, .f32⟩
  | 118 => ⟨S4096x1024, .f32⟩
  | 119 => ⟨S1x1024, .f32⟩
  | 120 => ⟨S1024, .f32⟩
  | 121 => ⟨S4096x1024, .f32⟩
  | 122 => ⟨S1x1024, .f32⟩
  | 123 => ⟨S4096x1024, .f32⟩
  | 124 => ⟨S4096x1024, .f32⟩
  | 125 => ⟨S4096x1024, .f32⟩
  | 126 => ⟨S1x1024, .f32⟩
  | 127 => ⟨S1024, .f32⟩
  | _ => ⟨S4096x1024, .f32⟩

abbrev hbmTy0_2 (i : Nat) : BufTy := match i % 128 with
  | 0 => ⟨S4096x1024, .f32⟩
  | 1 => ⟨S1x1024, .f32⟩
  | 2 => ⟨S4096x1024, .f32⟩
  | 3 => ⟨S4096x1024, .f32⟩
  | 4 => ⟨S4096x1024, .f32⟩
  | 5 => ⟨S1x1024, .f32⟩
  | 6 => ⟨S1024, .f32⟩
  | 7 => ⟨S4096x1024, .f32⟩
  | 8 => ⟨S1x1024, .f32⟩
  | 9 => ⟨S4096x1024, .f32⟩
  | 10 => ⟨S4096x1024, .f32⟩
  | 11 => ⟨S4096x1024, .f32⟩
  | 12 => ⟨S1x1024, .f32⟩
  | 13 => ⟨S1024, .f32⟩
  | 14 => ⟨S4096x1024, .f32⟩
  | 15 => ⟨S1x1024, .f32⟩
  | 16 => ⟨S4096x1024, .f32⟩
  | 17 => ⟨S4096x1024, .f32⟩
  | 18 => ⟨S4096x1024, .f32⟩
  | 19 => ⟨S1024, .f32⟩
  | 20 => ⟨S1x1024, .f32⟩
  | 21 => ⟨S4096x1024, .f32⟩
  | 22 => ⟨S4096x1024, .f32⟩
  | 23 => ⟨S4096x1024, .f32⟩
  | 24 => ⟨S3x1024, .f32⟩
  | 25 => ⟨S_, .f32⟩
  | 26 => ⟨S2x1024, .f32⟩
  | 27 => ⟨S4098x1024, .f32⟩
  | 28 => ⟨S_, .f32⟩
  | 29 => ⟨S2x1024, .f32⟩
  | 30 => ⟨S1x1024, .f32⟩
  | 31 => ⟨S1024, .f32⟩
  | 32 => ⟨S4096x1024, .f32⟩
  | 33 => ⟨S1x1024, .f32⟩
  | 34 => ⟨S4096x1024, .f32⟩
  | 35 => ⟨S4096x1024, .f32⟩
  | 36 => ⟨S_, .f32⟩
  | 37 => ⟨S4096x1024, .f32⟩
  | 38 => ⟨S4096x1024, .f32⟩
  | 39 => ⟨S1x1024, .f32⟩
  | 40 => ⟨S1024, .f32⟩
  | 41 => ⟨S4096x1024, .f32⟩
  | 42 => ⟨S1x1024, .f32⟩
  | 43 => ⟨S4096x1024, .f32⟩
  | 44 => ⟨S4096x1024, .f32⟩
  | 45 => ⟨S4096x1024, .f32⟩
  | 46 => ⟨S1x1024, .f32⟩
  | 47 => ⟨S1024, .f32⟩
  | 48 => ⟨S4096x1024, .f32⟩
  | 49 => ⟨S1x1024, .f32⟩
  | 50 => ⟨S4096x1024, .f32⟩
  | 51 => ⟨S4096x1024, .f32⟩
  | 52 => ⟨S4096x1024, .f32⟩
  | 53 => ⟨S4096x1024, .f32⟩
  | 54 => ⟨S4096x1024, .f32⟩
  | 55 => ⟨S4096x1024, .f32⟩
  | 56 => ⟨S4096x1024, .f32⟩
  | 57 => ⟨S4096x1024, .f32⟩
  | 58 => ⟨S4096x1024, .f32⟩
  | 59 => ⟨S_, .f32⟩
  | 60 => ⟨S1024, .f32⟩
  | 61 => ⟨S1x1024, .f32⟩
  | 62 => ⟨S_, .f32⟩
  | 63 => ⟨S1024, .f32⟩
  | 64 => ⟨S_, .f32⟩
  | 65 => ⟨S4098x1024, .f32⟩
  | 66 => ⟨S1x1024, .f32⟩
  | 67 => ⟨S_, .f32⟩
  | 68 => ⟨S3x1024, .f32⟩
  | 69 => ⟨S4096x1024, .f32⟩
  | 70 => ⟨S4096x1024, .f32⟩
  | 71 => ⟨S4096x1024, .f32⟩
  | 72 => ⟨S_, .f32⟩
  | 73 => ⟨S1024, .f32⟩
  | 74 => ⟨S1x1024, .f32⟩
  | 75 => ⟨S_, .f32⟩
  | 76 => ⟨S1024, .f32⟩
  | 77 => ⟨S_, .f32⟩
  | 78 => ⟨S4098x1024, .f32⟩
  | 79 => ⟨S4098x1024, .f32⟩
  | 80 => ⟨S1x1024, .f32⟩
  | 81 => ⟨S_, .f32⟩
  | 82 => ⟨S3x1024, .f32⟩
  | 83 => ⟨S3x1024, .f32⟩
  | 84 => ⟨S4096x1024, .f32⟩
  | 85 => ⟨S4096x1024, .f32⟩
  | 86 => ⟨S4096x1024, .f32⟩
  | 87 => ⟨S_, .f32⟩
  | 88 => ⟨S1024, .f32⟩
  | 89 => ⟨S1x1024, .f32⟩
  | 90 => ⟨S_, .f32⟩
  | 91 => ⟨S1024, .f32⟩
  | 92 => ⟨S_, .f32⟩
  | 93 => ⟨S4098x1024, .f32⟩
  | 94 => ⟨S4098x1024, .f32⟩
  | 95 => ⟨S1x1024, .f32⟩
  | 96 => ⟨S_, .f32⟩
  | 97 => ⟨S3x1024, .f32⟩
  | 98 => ⟨S3x1024, .f32⟩
  | 99 => ⟨S2x1024, .f32⟩
  | 100 => ⟨S4096x1024, .f32⟩
  | 101 => ⟨S1x3x1024, .f32⟩
  | 102 => ⟨S4096x1024, .f32⟩
  | 103 => ⟨S4096x1024, .f32⟩
  | 104 => ⟨S4096x1024, .f32⟩
  | 105 => ⟨S_, .f32⟩
  | 106 => ⟨S1024, .f32⟩
  | 107 => ⟨S1x1024, .f32⟩
  | 108 => ⟨S_, .f32⟩
  | 109 => ⟨S1024, .f32⟩
  | 110 => ⟨S1x1024, .f32⟩
  | 111 => ⟨S4096x1024, .f32⟩
  | 112 => ⟨S4096x1024, .f32⟩
  | 113 => ⟨S4096x1024, .f32⟩
  | 114 => ⟨S_, .f32⟩
  | 115 => ⟨S1024, .f32⟩
  | 116 => ⟨S1x1024, .f32⟩
  | 117 => ⟨S_, .f32⟩
  | 118 => ⟨S1024, .f32⟩
  | 119 => ⟨S_, .f32⟩
  | 120 => ⟨S4126x1024, .f32⟩
  | 121 => ⟨S1x1024, .f32⟩
  | 122 => ⟨S_, .f32⟩
  | 123 => ⟨S31x1024, .f32⟩
  | 124 => ⟨S4096x1024, .f32⟩
  | 125 => ⟨S4096x1024, .f32⟩
  | 126 => ⟨S4096x1024, .f32⟩
  | 127 => ⟨S_, .f32⟩
  | _ => ⟨S4096x1024, .f32⟩

abbrev hbmTy0_3 (i : Nat) : BufTy := match i % 128 with
  | 0 => ⟨S1024, .f32⟩
  | 1 => ⟨S1x1024, .f32⟩
  | 2 => ⟨S_, .f32⟩
  | 3 => ⟨S1024, .f32⟩
  | 4 => ⟨S_, .f32⟩
  | 5 => ⟨S4126x1024, .f32⟩
  | 6 => ⟨S4126x1024, .f32⟩
  | 7 => ⟨S1x1024, .f32⟩
  | 8 => ⟨S_, .f32⟩
  | 9 => ⟨S31x1024, .f32⟩
  | 10 => ⟨S31x1024, .f32⟩
  | 11 => ⟨S4096x1024, .f32⟩
  | 12 => ⟨S4096x1024, .f32⟩
  | 13 => ⟨S4096x1024, .f32⟩
  | 14 => ⟨S_, .f32⟩
  | 15 => ⟨S1024, .f32⟩
  | 16 => ⟨S1x1024, .f32⟩
  | 17 => ⟨S_, .f32⟩
  | 18 => ⟨S1024, .f32⟩
  | 19 => ⟨S_, .f32⟩
  | 20 => ⟨S4126x1024, .f32⟩
  | 21 => ⟨S4126x1024, .f32⟩
  | 22 => ⟨S1x1024, .f32⟩
  | 23 => ⟨S_, .f32⟩
  | 24 => ⟨S31x1024, .f32⟩
  | 25 => ⟨S31x1024, .f32⟩
  | 26 => ⟨S4096x1024, .f32⟩
  | 27 => ⟨S4096x1024, .f32⟩
  | 28 => ⟨S4096x1024, .f32⟩
  | 29 => ⟨S_, .f32⟩
  | 30 => ⟨S1024, .f32⟩
  | 31 => ⟨S1x1024, .f32⟩
  | 32 => ⟨S_, .f32⟩
  | 33 => ⟨S1024, .f32⟩
  | 34 => ⟨S_, .f32⟩
  | 35 => ⟨S4126x1024, .f32⟩
  | 36 => ⟨S4126x1024, .f32⟩
  | 37 => ⟨S1x1024, .f32⟩
  | 38 => ⟨S_, .f32⟩
  | 39 => ⟨S31x1024, .f32⟩
  | 40 => ⟨S31x1024, .f32⟩
  | 41 => ⟨S4096x1024, .f32⟩
  | 42 => ⟨S4096x1024, .f32⟩
  | 43 => ⟨S4096x1024, .f32⟩
  | 44 => ⟨S_, .f32⟩
  | 45 => ⟨S1024, .f32⟩
  | 46 => ⟨S1x1024, .f32⟩
  | 47 => ⟨S_, .f32⟩
  | 48 => ⟨S1024, .f32⟩
  | 49 => ⟨S_, .f32⟩
  | 50 => ⟨S4126x1024, .f32⟩
  | 51 => ⟨S4126x1024, .f32⟩
  | 52 => ⟨S1x1024, .f32⟩
  | 53 => ⟨S_, .f32⟩
  | 54 => ⟨S31x1024, .f32⟩
  | 55 => ⟨S31x1024, .f32⟩
  | 56 => ⟨S4096x1024, .f32⟩
  | 57 => ⟨S4096x1024, .f32⟩
  | 58 => ⟨S4096x1024, .f32⟩
  | 59 => ⟨S_, .f32⟩
  | 60 => ⟨S1024, .f32⟩
  | 61 => ⟨S1x1024, .f32⟩
  | 62 => ⟨S_, .f32⟩
  | 63 => ⟨S1024, .f32⟩
  | 64 => ⟨S_, .f32⟩
  | 65 => ⟨S4126x1024, .f32⟩
  | 66 => ⟨S4126x1024, .f32⟩
  | 67 => ⟨S1x1024, .f32⟩
  | 68 => ⟨S_, .f32⟩
  | 69 => ⟨S31x1024, .f32⟩
  | 70 => ⟨S31x1024, .f32⟩
  | 71 => ⟨S4096x1024, .f32⟩
  | 72 => ⟨S4096x1024, .f32⟩
  | 73 => ⟨S4096x1024, .f32⟩
  | 74 => ⟨S_, .f32⟩
  | 75 => ⟨S1024, .f32⟩
  | 76 => ⟨S1x1024, .f32⟩
  | 77 => ⟨S_, .f32⟩
  | 78 => ⟨S1024, .f32⟩
  | 79 => ⟨S_, .f32⟩
  | 80 => ⟨S4126x1024, .f32⟩
  | 81 => ⟨S4126x1024, .f32⟩
  | 82 => ⟨S1x1024, .f32⟩
  | 83 => ⟨S_, .f32⟩
  | 84 => ⟨S31x1024, .f32⟩
  | 85 => ⟨S31x1024, .f32⟩
  | 86 => ⟨S4096x1024, .f32⟩
  | 87 => ⟨S4096x1024, .f32⟩
  | 88 => ⟨S4096x1024, .f32⟩
  | 89 => ⟨S_, .f32⟩
  | 90 => ⟨S1024, .f32⟩
  | 91 => ⟨S1x1024, .f32⟩
  | 92 => ⟨S_, .f32⟩
  | 93 => ⟨S1024, .f32⟩
  | 94 => ⟨S_, .f32⟩
  | 95 => ⟨S4126x1024, .f32⟩
  | 96 => ⟨S4126x1024, .f32⟩
  | 97 => ⟨S1x1024, .f32⟩
  | 98 => ⟨S_, .f32⟩
  | 99 => ⟨S31x1024, .f32⟩
  | 100 => ⟨S31x1024, .f32⟩
  | 101 => ⟨S4096x1024, .f32⟩
  | 102 => ⟨S4096x1024, .f32⟩
  | 103 => ⟨S4096x1024, .f32⟩
  | 104 => ⟨S_, .f32⟩
  | 105 => ⟨S1024, .f32⟩
  | 106 => ⟨S1x1024, .f32⟩
  | 107 => ⟨S_, .f32⟩
  | 108 => ⟨S1024, .f32⟩
  | 109 => ⟨S_, .f32⟩
  | 110 => ⟨S4126x1024, .f32⟩
  | 111 => ⟨S4126x1024, .f32⟩
  | 112 => ⟨S1x1024, .f32⟩
  | 113 => ⟨S_, .f32⟩
  | 114 => ⟨S31x1024, .f32⟩
  | 115 => ⟨S31x1024, .f32⟩
  | 116 => ⟨S4096x1024, .f32⟩
  | 117 => ⟨S4096x1024, .f32⟩
  | 118 => ⟨S4096x1024, .f32⟩
  | 119 => ⟨S_, .f32⟩
  | 120 => ⟨S1024, .f32⟩
  | 121 => ⟨S1x1024, .f32⟩
  | 122 => ⟨S_, .f32⟩
  | 123 => ⟨S1024, .f32⟩
  | 124 => ⟨S_, .f32⟩
  | 125 => ⟨S4126x1024, .f32⟩
  | 126 => ⟨S4126x1024, .f32⟩
  | 127 => ⟨S1x1024, .f32⟩
  | _ => ⟨S4096x1024, .f32⟩

abbrev hbmTy0_4 (i : Nat) : BufTy := match i % 128 with
  | 0 => ⟨S_, .f32⟩
  | 1 => ⟨S31x1024, .f32⟩
  | 2 => ⟨S31x1024, .f32⟩
  | 3 => ⟨S4096x1024, .f32⟩
  | 4 => ⟨S4096x1024, .f32⟩
  | 5 => ⟨S4096x1024, .f32⟩
  | 6 => ⟨S_, .f32⟩
  | 7 => ⟨S1024, .f32⟩
  | 8 => ⟨S1x1024, .f32⟩
  | 9 => ⟨S_, .f32⟩
  | 10 => ⟨S1024, .f32⟩
  | 11 => ⟨S_, .f32⟩
  | 12 => ⟨S4126x1024, .f32⟩
  | 13 => ⟨S4126x1024, .f32⟩
  | 14 => ⟨S1x1024, .f32⟩
  | 15 => ⟨S_, .f32⟩
  | 16 => ⟨S31x1024, .f32⟩
  | 17 => ⟨S31x1024, .f32⟩
  | 18 => ⟨S4096x1024, .f32⟩
  | 19 => ⟨S4096x1024, .f32⟩
  | 20 => ⟨S4096x1024, .f32⟩
  | 21 => ⟨S_, .f32⟩
  | 22 => ⟨S1024, .f32⟩
  | 23 => ⟨S1x1024, .f32⟩
  | 24 => ⟨S_, .f32⟩
  | 25 => ⟨S1024, .f32⟩
  | 26 => ⟨S_, .f32⟩
  | 27 => ⟨S4126x1024, .f32⟩
  | 28 => ⟨S4126x1024, .f32⟩
  | 29 => ⟨S1x1024, .f32⟩
  | 30 => ⟨S_, .f32⟩
  | 31 => ⟨S31x1024, .f32⟩
  | 32 => ⟨S31x1024, .f32⟩
  | 33 => ⟨S4096x1024, .f32⟩
  | 34 => ⟨S4096x1024, .f32⟩
  | 35 => ⟨S4096x1024, .f32⟩
  | 36 => ⟨S_, .f32⟩
  | 37 => ⟨S1024, .f32⟩
  | 38 => ⟨S1x1024, .f32⟩
  | 39 => ⟨S_, .f32⟩
  | 40 => ⟨S1024, .f32⟩
  | 41 => ⟨S_, .f32⟩
  | 42 => ⟨S4126x1024, .f32⟩
  | 43 => ⟨S4126x1024, .f32⟩
  | 44 => ⟨S1x1024, .f32⟩
  | 45 => ⟨S_, .f32⟩
  | 46 => ⟨S31x1024, .f32⟩
  | 47 => ⟨S31x1024, .f32⟩
  | 48 => ⟨S4096x1024, .f32⟩
  | 49 => ⟨S4096x1024, .f32⟩
  | 50 => ⟨S4096x1024, .f32⟩
  | 51 => ⟨S_, .f32⟩
  | 52 => ⟨S1024, .f32⟩
  | 53 => ⟨S1x1024, .f32⟩
  | 54 => ⟨S_, .f32⟩
  | 55 => ⟨S1024, .f32⟩
  | 56 => ⟨S_, .f32⟩
  | 57 => ⟨S4126x1024, .f32⟩
  | 58 => ⟨S4126x1024, .f32⟩
  | 59 => ⟨S1x1024, .f32⟩
  | 60 => ⟨S_, .f32⟩
  | 61 => ⟨S31x1024, .f32⟩
  | 62 => ⟨S31x1024, .f32⟩
  | 63 => ⟨S4096x1024, .f32⟩
  | 64 => ⟨S4096x1024, .f32⟩
  | 65 => ⟨S4096x1024, .f32⟩
  | 66 => ⟨S_, .f32⟩
  | 67 => ⟨S1024, .f32⟩
  | 68 => ⟨S1x1024, .f32⟩
  | 69 => ⟨S_, .f32⟩
  | 70 => ⟨S1024, .f32⟩
  | 71 => ⟨S_, .f32⟩
  | 72 => ⟨S4126x1024, .f32⟩
  | 73 => ⟨S4126x1024, .f32⟩
  | 74 => ⟨S1x1024, .f32⟩
  | 75 => ⟨S_, .f32⟩
  | 76 => ⟨S31x1024, .f32⟩
  | 77 => ⟨S31x1024, .f32⟩
  | 78 => ⟨S4096x1024, .f32⟩
  | 79 => ⟨S4096x1024, .f32⟩
  | 80 => ⟨S4096x1024, .f32⟩
  | 81 => ⟨S_, .f32⟩
  | 82 => ⟨S1024, .f32⟩
  | 83 => ⟨S1x1024, .f32⟩
  | 84 => ⟨S_, .f32⟩
  | 85 => ⟨S1024, .f32⟩
  | 86 => ⟨S_, .f32⟩
  | 87 => ⟨S4126x1024, .f32⟩
  | 88 => ⟨S4126x1024, .f32⟩
  | 89 => ⟨S1x1024, .f32⟩
  | 90 => ⟨S_, .f32⟩
  | 91 => ⟨S31x1024, .f32⟩
  | 92 => ⟨S31x1024, .f32⟩
  | 93 => ⟨S4096x1024, .f32⟩
  | 94 => ⟨S4096x1024, .f32⟩
  | 95 => ⟨S4096x1024, .f32⟩
  | 96 => ⟨S_, .f32⟩
  | 97 => ⟨S1024, .f32⟩
  | 98 => ⟨S1x1024, .f32⟩
  | 99 => ⟨S_, .f32⟩
  | 100 => ⟨S1024, .f32⟩
  | 101 => ⟨S_, .f32⟩
  | 102 => ⟨S4126x1024, .f32⟩
  | 103 => ⟨S4126x1024, .f32⟩
  | 104 => ⟨S1x1024, .f32⟩
  | 105 => ⟨S_, .f32⟩
  | 106 => ⟨S31x1024, .f32⟩
  | 107 => ⟨S31x1024, .f32⟩
  | 108 => ⟨S4096x1024, .f32⟩
  | 109 => ⟨S4096x1024, .f32⟩
  | 110 => ⟨S4096x1024, .f32⟩
  | 111 => ⟨S_, .f32⟩
  | 112 => ⟨S1024, .f32⟩
  | 113 => ⟨S1x1024, .f32⟩
  | 114 => ⟨S_, .f32⟩
  | 115 => ⟨S1024, .f32⟩
  | 116 => ⟨S_, .f32⟩
  | 117 => ⟨S4126x1024, .f32⟩
  | 118 => ⟨S4126x1024, .f32⟩
  | 119 => ⟨S1x1024, .f32⟩
  | 120 => ⟨S_, .f32⟩
  | 121 => ⟨S31x1024, .f32⟩
  | 122 => ⟨S31x1024, .f32⟩
  | 123 => ⟨S4096x1024, .f32⟩
  | 124 => ⟨S4096x1024, .f32⟩
  | 125 => ⟨S4096x1024, .f32⟩
  | 126 => ⟨S_, .f32⟩
  | 127 => ⟨S1024, .f32⟩
  | _ => ⟨S4096x1024, .f32⟩

abbrev hbmTy0_5 (i : Nat) : BufTy := match i % 128 with
  | 0 => ⟨S1x1024, .f32⟩
  | 1 => ⟨S_, .f32⟩
  | 2 => ⟨S1024, .f32⟩
  | 3 => ⟨S_, .f32⟩
  | 4 => ⟨S4126x1024, .f32⟩
  | 5 => ⟨S4126x1024, .f32⟩
  | 6 => ⟨S1x1024, .f32⟩
  | 7 => ⟨S_, .f32⟩
  | 8 => ⟨S31x1024, .f32⟩
  | 9 => ⟨S31x1024, .f32⟩
  | 10 => ⟨S4096x1024, .f32⟩
  | 11 => ⟨S4096x1024, .f32⟩
  | 12 => ⟨S4096x1024, .f32⟩
  | 13 => ⟨S_, .f32⟩
  | 14 => ⟨S1024, .f32⟩
  | 15 => ⟨S1x1024, .f32⟩
  | 16 => ⟨S_, .f32⟩
  | 17 => ⟨S1024, .f32⟩
  | 18 => ⟨S_, .f32⟩
  | 19 => ⟨S4126x1024, .f32⟩
  | 20 => ⟨S4126x1024, .f32⟩
  | 21 => ⟨S1x1024, .f32⟩
  | 22 => ⟨S_, .f32⟩
  | 23 => ⟨S31x1024, .f32⟩
  | 24 => ⟨S31x1024, .f32⟩
  | 25 => ⟨S4096x1024, .f32⟩
  | 26 => ⟨S4096x1024, .f32⟩
  | 27 => ⟨S4096x1024, .f32⟩
  | 28 => ⟨S_, .f32⟩
  | 29 => ⟨S1024, .f32⟩
  | 30 => ⟨S1x1024, .f32⟩
  | 31 => ⟨S_, .f32⟩
  | 32 => ⟨S1024, .f32⟩
  | 33 => ⟨S_, .f32⟩
  | 34 => ⟨S4126x1024, .f32⟩
  | 35 => ⟨S4126x1024, .f32⟩
  | 36 => ⟨S1x1024, .f32⟩
  | 37 => ⟨S_, .f32⟩
  | 38 => ⟨S31x1024, .f32⟩
  | 39 => ⟨S31x1024, .f32⟩
  | 40 => ⟨S4096x1024, .f32⟩
  | 41 => ⟨S4096x1024, .f32⟩
  | 42 => ⟨S4096x1024, .f32⟩
  | 43 => ⟨S_, .f32⟩
  | 44 => ⟨S1024, .f32⟩
  | 45 => ⟨S1x1024, .f32⟩
  | 46 => ⟨S_, .f32⟩
  | 47 => ⟨S1024, .f32⟩
  | 48 => ⟨S_, .f32⟩
  | 49 => ⟨S4126x1024, .f32⟩
  | 50 => ⟨S4126x1024, .f32⟩
  | 51 => ⟨S1x1024, .f32⟩
  | 52 => ⟨S_, .f32⟩
  | 53 => ⟨S31x1024, .f32⟩
  | 54 => ⟨S31x1024, .f32⟩
  | 55 => ⟨S4096x1024, .f32⟩
  | 56 => ⟨S4096x1024, .f32⟩
  | 57 => ⟨S4096x1024, .f32⟩
  | 58 => ⟨S_, .f32⟩
  | 59 => ⟨S1024, .f32⟩
  | 60 => ⟨S1x1024, .f32⟩
  | 61 => ⟨S_, .f32⟩
  | 62 => ⟨S1024, .f32⟩
  | 63 => ⟨S_, .f32⟩
  | 64 => ⟨S4126x1024, .f32⟩
  | 65 => ⟨S4126x1024, .f32⟩
  | 66 => ⟨S1x1024, .f32⟩
  | 67 => ⟨S_, .f32⟩
  | 68 => ⟨S31x1024, .f32⟩
  | 69 => ⟨S31x1024, .f32⟩
  | 70 => ⟨S4096x1024, .f32⟩
  | 71 => ⟨S4096x1024, .f32⟩
  | 72 => ⟨S4096x1024, .f32⟩
  | 73 => ⟨S_, .f32⟩
  | 74 => ⟨S1024, .f32⟩
  | 75 => ⟨S1x1024, .f32⟩
  | 76 => ⟨S_, .f32⟩
  | 77 => ⟨S1024, .f32⟩
  | 78 => ⟨S_, .f32⟩
  | 79 => ⟨S4126x1024, .f32⟩
  | 80 => ⟨S4126x1024, .f32⟩
  | 81 => ⟨S1x1024, .f32⟩
  | 82 => ⟨S_, .f32⟩
  | 83 => ⟨S31x1024, .f32⟩
  | 84 => ⟨S31x1024, .f32⟩
  | 85 => ⟨S4096x1024, .f32⟩
  | 86 => ⟨S4096x1024, .f32⟩
  | 87 => ⟨S4096x1024, .f32⟩
  | 88 => ⟨S_, .f32⟩
  | 89 => ⟨S1024, .f32⟩
  | 90 => ⟨S1x1024, .f32⟩
  | 91 => ⟨S_, .f32⟩
  | 92 => ⟨S1024, .f32⟩
  | 93 => ⟨S_, .f32⟩
  | 94 => ⟨S4126x1024, .f32⟩
  | 95 => ⟨S4126x1024, .f32⟩
  | 96 => ⟨S1x1024, .f32⟩
  | 97 => ⟨S_, .f32⟩
  | 98 => ⟨S31x1024, .f32⟩
  | 99 => ⟨S31x1024, .f32⟩
  | 100 => ⟨S4096x1024, .f32⟩
  | 101 => ⟨S4096x1024, .f32⟩
  | 102 => ⟨S4096x1024, .f32⟩
  | 103 => ⟨S_, .f32⟩
  | 104 => ⟨S1024, .f32⟩
  | 105 => ⟨S1x1024, .f32⟩
  | 106 => ⟨S_, .f32⟩
  | 107 => ⟨S1024, .f32⟩
  | 108 => ⟨S_, .f32⟩
  | 109 => ⟨S4126x1024, .f32⟩
  | 110 => ⟨S4126x1024, .f32⟩
  | 111 => ⟨S1x1024, .f32⟩
  | 112 => ⟨S_, .f32⟩
  | 113 => ⟨S31x1024, .f32⟩
  | 114 => ⟨S31x1024, .f32⟩
  | 115 => ⟨S4096x1024, .f32⟩
  | 116 => ⟨S4096x1024, .f32⟩
  | 117 => ⟨S4096x1024, .f32⟩
  | 118 => ⟨S_, .f32⟩
  | 119 => ⟨S1024, .f32⟩
  | 120 => ⟨S1x1024, .f32⟩
  | 121 => ⟨S_, .f32⟩
  | 122 => ⟨S1024, .f32⟩
  | 123 => ⟨S_, .f32⟩
  | 124 => ⟨S4126x1024, .f32⟩
  | 125 => ⟨S4126x1024, .f32⟩
  | 126 => ⟨S1x1024, .f32⟩
  | 127 => ⟨S_, .f32⟩
  | _ => ⟨S4096x1024, .f32⟩

abbrev hbmTy0_6 (i : Nat) : BufTy := match i % 128 with
  | 0 => ⟨S31x1024, .f32⟩
  | 1 => ⟨S31x1024, .f32⟩
  | 2 => ⟨S4096x1024, .f32⟩
  | 3 => ⟨S4096x1024, .f32⟩
  | 4 => ⟨S4096x1024, .f32⟩
  | 5 => ⟨S_, .f32⟩
  | 6 => ⟨S1024, .f32⟩
  | 7 => ⟨S1x1024, .f32⟩
  | 8 => ⟨S_, .f32⟩
  | 9 => ⟨S1024, .f32⟩
  | 10 => ⟨S_, .f32⟩
  | 11 => ⟨S4126x1024, .f32⟩
  | 12 => ⟨S4126x1024, .f32⟩
  | 13 => ⟨S1x1024, .f32⟩
  | 14 => ⟨S_, .f32⟩
  | 15 => ⟨S31x1024, .f32⟩
  | 16 => ⟨S31x1024, .f32⟩
  | 17 => ⟨S4096x1024, .f32⟩
  | 18 => ⟨S4096x1024, .f32⟩
  | 19 => ⟨S4096x1024, .f32⟩
  | 20 => ⟨S_, .f32⟩
  | 21 => ⟨S1024, .f32⟩
  | 22 => ⟨S1x1024, .f32⟩
  | 23 => ⟨S_, .f32⟩
  | 24 => ⟨S1024, .f32⟩
  | 25 => ⟨S_, .f32⟩
  | 26 => ⟨S4126x1024, .f32⟩
  | 27 => ⟨S4126x1024, .f32⟩
  | 28 => ⟨S1x1024, .f32⟩
  | 29 => ⟨S_, .f32⟩
  | 30 => ⟨S31x1024, .f32⟩
  | 31 => ⟨S31x1024, .f32⟩
  | 32 => ⟨S4096x1024, .f32⟩
  | 33 => ⟨S4096x1024, .f32⟩
  | 34 => ⟨S4096x1024, .f32⟩
  | 35 => ⟨S_, .f32⟩
  | 36 => ⟨S1024, .f32⟩
  | 37 => ⟨S1x1024, .f32⟩
  | 38 => ⟨S_, .f32⟩
  | 39 => ⟨S1024, .f32⟩
  | 40 => ⟨S_, .f32⟩
  | 41 => ⟨S4126x1024, .f32⟩
  | 42 => ⟨S4126x1024, .f32⟩
  | 43 => ⟨S1x1024, .f32⟩
  | 44 => ⟨S_, .f32⟩
  | 45 => ⟨S31x1024, .f32⟩
  | 46 => ⟨S31x1024, .f32⟩
  | 47 => ⟨S4096x1024, .f32⟩
  | 48 => ⟨S4096x1024, .f32⟩
  | 49 => ⟨S4096x1024, .f32⟩
  | 50 => ⟨S_, .f32⟩
  | 51 => ⟨S1024, .f32⟩
  | 52 => ⟨S1x1024, .f32⟩
  | 53 => ⟨S_, .f32⟩
  | 54 => ⟨S1024, .f32⟩
  | 55 => ⟨S_, .f32⟩
  | 56 => ⟨S4126x1024, .f32⟩
  | 57 => ⟨S4126x1024, .f32⟩
  | 58 => ⟨S1x1024, .f32⟩
  | 59 => ⟨S_, .f32⟩
  | 60 => ⟨S31x1024, .f32⟩
  | 61 => ⟨S31x1024, .f32⟩
  | 62 => ⟨S30x1024, .f32⟩
  | 63 => ⟨S4096x1024, .f32⟩
  | 64 => ⟨S1x31x1024, .f32⟩
  | 65 => ⟨S4096x1024, .f32⟩
  | 66 => ⟨S4096x1024, .f32⟩
  | 67 => ⟨S4096x1024, .f32⟩
  | 68 => ⟨S4096x7168, .f32⟩
  | 69 => ⟨S4096x7x1024, .f32⟩
  | 70 => ⟨S7x4096x1024, .f32⟩
  | 71 => ⟨S7x4096x1024, .bf16⟩
  | 72 => ⟨S31x1024, .f32⟩
  | 73 => ⟨S31x4x256, .f32⟩
  | 74 => ⟨S4x31x256, .f32⟩
  | 75 => ⟨S3x1024, .f32⟩
  | 76 => ⟨S3x4x256, .f32⟩
  | 77 => ⟨S4x3x256, .f32⟩
  | _ => ⟨S4096x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_v173 : Ref sig .tc := ⟨.hbm, 192, rfl⟩
abbrev main_v174 : Ref sig .tc := ⟨.hbm, 193, rfl⟩
abbrev main_v175 : Ref sig .tc := ⟨.hbm, 194, rfl⟩
abbrev main_v176 : Ref sig .tc := ⟨.hbm, 195, rfl⟩
abbrev main_v177 : Ref sig .tc := ⟨.hbm, 196, rfl⟩
abbrev main_v178 : Ref sig .tc := ⟨.hbm, 197, rfl⟩
abbrev main_v179 : Ref sig .tc := ⟨.hbm, 198, rfl⟩
abbrev main_v180 : Ref sig .tc := ⟨.hbm, 199, rfl⟩
abbrev main_v181 : Ref sig .tc := ⟨.hbm, 200, rfl⟩
abbrev main_v182 : Ref sig .tc := ⟨.hbm, 201, rfl⟩
abbrev main_v183 : Ref sig .tc := ⟨.hbm, 202, rfl⟩
abbrev main_v184 : Ref sig .tc := ⟨.hbm, 203, rfl⟩
abbrev main_v185 : Ref sig .tc := ⟨.hbm, 204, rfl⟩
abbrev main_v186 : Ref sig .tc := ⟨.hbm, 205, rfl⟩
abbrev main_v187 : Ref sig .tc := ⟨.hbm, 206, rfl⟩
abbrev main_v188 : Ref sig .tc := ⟨.hbm, 207, rfl⟩
abbrev main_v189 : Ref sig .tc := ⟨.hbm, 208, rfl⟩
abbrev main_v190 : Ref sig .tc := ⟨.hbm, 209, rfl⟩
abbrev main_v191 : Ref sig .tc := ⟨.hbm, 210, rfl⟩
abbrev main_v192 : Ref sig .tc := ⟨.hbm, 211, rfl⟩
abbrev main_v193 : Ref sig .tc := ⟨.hbm, 212, rfl⟩
abbrev main_v194 : Ref sig .tc := ⟨.hbm, 213, rfl⟩
abbrev main_v195 : Ref sig .tc := ⟨.hbm, 214, rfl⟩
abbrev main_v196 : Ref sig .tc := ⟨.hbm, 215, rfl⟩
abbrev main_v197 : Ref sig .tc := ⟨.hbm, 216, rfl⟩
abbrev main_v198 : Ref sig .tc := ⟨.hbm, 217, rfl⟩
abbrev main_v199 : Ref sig .tc := ⟨.hbm, 218, rfl⟩
abbrev main_v200 : Ref sig .tc := ⟨.hbm, 219, rfl⟩
abbrev main_v201 : Ref sig .tc := ⟨.hbm, 220, rfl⟩
abbrev main_v202 : Ref sig .tc := ⟨.hbm, 221, rfl⟩
abbrev main_v203 : Ref sig .tc := ⟨.hbm, 222, rfl⟩
abbrev main_v204 : Ref sig .tc := ⟨.hbm, 223, rfl⟩
abbrev main_v205 : Ref sig .tc := ⟨.hbm, 224, rfl⟩
abbrev main_v206 : Ref sig .tc := ⟨.hbm, 225, rfl⟩
abbrev main_v207 : Ref sig .tc := ⟨.hbm, 226, rfl⟩
abbrev main_v208 : Ref sig .tc := ⟨.hbm, 227, rfl⟩
abbrev main_v209 : Ref sig .tc := ⟨.hbm, 228, rfl⟩
abbrev main_v210 : Ref sig .tc := ⟨.hbm, 229, rfl⟩
abbrev main_v211 : Ref sig .tc := ⟨.hbm, 230, rfl⟩
abbrev main_v212 : Ref sig .tc := ⟨.hbm, 231, rfl⟩
abbrev main_v213 : Ref sig .tc := ⟨.hbm, 232, rfl⟩
abbrev main_v214 : Ref sig .tc := ⟨.hbm, 233, rfl⟩
abbrev main_v215 : Ref sig .tc := ⟨.hbm, 234, rfl⟩
abbrev main_v216 : Ref sig .tc := ⟨.hbm, 235, rfl⟩
abbrev main_v217 : Ref sig .tc := ⟨.hbm, 236, rfl⟩
abbrev main_v218 : Ref sig .tc := ⟨.hbm, 237, rfl⟩
abbrev main_v219 : Ref sig .tc := ⟨.hbm, 238, rfl⟩
abbrev main_v220 : Ref sig .tc := ⟨.hbm, 239, rfl⟩
abbrev main_v221 : Ref sig .tc := ⟨.hbm, 240, rfl⟩
abbrev main_v222 : Ref sig .tc := ⟨.hbm, 241, rfl⟩
abbrev main_v223 : Ref sig .tc := ⟨.hbm, 242, rfl⟩
abbrev main_v224 : Ref sig .tc := ⟨.hbm, 243, rfl⟩
abbrev main_v225 : Ref sig .tc := ⟨.hbm, 244, rfl⟩
abbrev main_v226 : Ref sig .tc := ⟨.hbm, 245, rfl⟩
abbrev main_v227 : Ref sig .tc := ⟨.hbm, 246, rfl⟩
abbrev main_v228 : Ref sig .tc := ⟨.hbm, 247, rfl⟩
abbrev main_v229 : Ref sig .tc := ⟨.hbm, 248, rfl⟩
abbrev main_v230 : Ref sig .tc := ⟨.hbm, 249, rfl⟩
abbrev main_v231 : Ref sig .tc := ⟨.hbm, 250, rfl⟩
abbrev main_v232 : Ref sig .tc := ⟨.hbm, 251, rfl⟩
abbrev main_v233 : Ref sig .tc := ⟨.hbm, 252, rfl⟩
abbrev main_v234 : Ref sig .tc := ⟨.hbm, 253, rfl⟩
abbrev main_v235 : Ref sig .tc := ⟨.hbm, 254, rfl⟩
abbrev main_v236 : Ref sig .tc := ⟨.hbm, 255, rfl⟩
abbrev main_v237 : Ref sig .tc := ⟨.hbm, 256, rfl⟩
abbrev main_v238 : Ref sig .tc := ⟨.hbm, 257, rfl⟩
abbrev main_v239 : Ref sig .tc := ⟨.hbm, 258, rfl⟩
abbrev main_v240 : Ref sig .tc := ⟨.hbm, 259, rfl⟩
abbrev main_v241 : Ref sig .tc := ⟨.hbm, 260, rfl⟩
abbrev main_v242 : Ref sig .tc := ⟨.hbm, 261, rfl⟩
abbrev main_v243 : Ref sig .tc := ⟨.hbm, 262, rfl⟩
abbrev main_v244 : Ref sig .tc := ⟨.hbm, 263, rfl⟩
abbrev main_v245 : Ref sig .tc := ⟨.hbm, 264, rfl⟩
abbrev main_v246 : Ref sig .tc := ⟨.hbm, 265, rfl⟩
abbrev main_v247 : Ref sig .tc := ⟨.hbm, 266, rfl⟩
abbrev main_v248 : Ref sig .tc := ⟨.hbm, 267, rfl⟩
abbrev main_v249 : Ref sig .tc := ⟨.hbm, 268, rfl⟩
abbrev main_v250 : Ref sig .tc := ⟨.hbm, 269, rfl⟩
abbrev main_v251 : Ref sig .tc := ⟨.hbm, 270, rfl⟩
abbrev main_v252 : Ref sig .tc := ⟨.hbm, 271, rfl⟩
abbrev main_v253 : Ref sig .tc := ⟨.hbm, 272, rfl⟩
abbrev main_v254 : Ref sig .tc := ⟨.hbm, 273, rfl⟩
abbrev main_v255 : Ref sig .tc := ⟨.hbm, 274, rfl⟩
abbrev main_v256 : Ref sig .tc := ⟨.hbm, 275, rfl⟩
abbrev main_v257 : Ref sig .tc := ⟨.hbm, 276, rfl⟩
abbrev main_v258 : Ref sig .tc := ⟨.hbm, 277, rfl⟩
abbrev main_v259 : Ref sig .tc := ⟨.hbm, 278, rfl⟩
abbrev main_v260 : Ref sig .tc := ⟨.hbm, 279, rfl⟩
abbrev main_v261 : Ref sig .tc := ⟨.hbm, 280, rfl⟩
abbrev main_cst_9 : Ref sig .tc := ⟨.hbm, 281, rfl⟩
abbrev main_v262 : Ref sig .tc := ⟨.hbm, 282, rfl⟩
abbrev main_v263 : Ref sig .tc := ⟨.hbm, 283, rfl⟩
abbrev main_cst_10 : Ref sig .tc := ⟨.hbm, 284, rfl⟩
abbrev main_v264 : Ref sig .tc := ⟨.hbm, 285, rfl⟩
abbrev main_v265 : Ref sig .tc := ⟨.hbm, 286, rfl⟩
abbrev main_v266 : Ref sig .tc := ⟨.hbm, 287, rfl⟩
abbrev main_v267 : Ref sig .tc := ⟨.hbm, 288, rfl⟩
abbrev main_v268 : Ref sig .tc := ⟨.hbm, 289, rfl⟩
abbrev main_v269 : Ref sig .tc := ⟨.hbm, 290, rfl⟩
abbrev main_v270 : Ref sig .tc := ⟨.hbm, 291, rfl⟩
abbrev main_cst_11 : Ref sig .tc := ⟨.hbm, 292, rfl⟩
abbrev main_v271 : Ref sig .tc := ⟨.hbm, 293, rfl⟩
abbrev main_v272 : Ref sig .tc := ⟨.hbm, 294, rfl⟩
abbrev main_v273 : Ref sig .tc := ⟨.hbm, 295, rfl⟩
abbrev main_v274 : Ref sig .tc := ⟨.hbm, 296, rfl⟩
abbrev main_v275 : Ref sig .tc := ⟨.hbm, 297, rfl⟩
abbrev main_v276 : Ref sig .tc := ⟨.hbm, 298, rfl⟩
abbrev main_v277 : Ref sig .tc := ⟨.hbm, 299, rfl⟩
abbrev main_v278 : Ref sig .tc := ⟨.hbm, 300, rfl⟩
abbrev main_v279 : Ref sig .tc := ⟨.hbm, 301, rfl⟩
abbrev main_v280 : Ref sig .tc := ⟨.hbm, 302, rfl⟩
abbrev main_v281 : Ref sig .tc := ⟨.hbm, 303, rfl⟩
abbrev main_v282 : Ref sig .tc := ⟨.hbm, 304, rfl⟩
abbrev main_v283 : Ref sig .tc := ⟨.hbm, 305, rfl⟩
abbrev main_v284 : Ref sig .tc := ⟨.hbm, 306, rfl⟩
abbrev main_v285 : Ref sig .tc := ⟨.hbm, 307, rfl⟩
abbrev main_v286 : Ref sig .tc := ⟨.hbm, 308, rfl⟩
abbrev main_v287 : Ref sig .tc := ⟨.hbm, 309, rfl⟩
abbrev main_v288 : Ref sig .tc := ⟨.hbm, 310, rfl⟩
abbrev main_v289 : Ref sig .tc := ⟨.hbm, 311, rfl⟩
abbrev main_v290 : Ref sig .tc := ⟨.hbm, 312, rfl⟩
abbrev main_v291 : Ref sig .tc := ⟨.hbm, 313, rfl⟩
abbrev main_v292 : Ref sig .tc := ⟨.hbm, 314, rfl⟩
abbrev main_cst_12 : Ref sig .tc := ⟨.hbm, 315, rfl⟩
abbrev main_v293 : Ref sig .tc := ⟨.hbm, 316, rfl⟩
abbrev main_v294 : Ref sig .tc := ⟨.hbm, 317, rfl⟩
abbrev main_cst_13 : Ref sig .tc := ⟨.hbm, 318, rfl⟩
abbrev main_v295 : Ref sig .tc := ⟨.hbm, 319, rfl⟩
abbrev main_cst_14 : Ref sig .tc := ⟨.hbm, 320, rfl⟩
abbrev main_v296 : Ref sig .tc := ⟨.hbm, 321, rfl⟩
abbrev main_v297 : Ref sig .tc := ⟨.hbm, 322, rfl⟩
abbrev main_cst_15 : Ref sig .tc := ⟨.hbm, 323, rfl⟩
abbrev main_v298 : Ref sig .tc := ⟨.hbm, 324, rfl⟩
abbrev main_v299 : Ref sig .tc := ⟨.hbm, 325, rfl⟩
abbrev main_v300 : Ref sig .tc := ⟨.hbm, 326, rfl⟩
abbrev main_v301 : Ref sig .tc := ⟨.hbm, 327, rfl⟩
abbrev main_cst_16 : Ref sig .tc := ⟨.hbm, 328, rfl⟩
abbrev main_v302 : Ref sig .tc := ⟨.hbm, 329, rfl⟩
abbrev main_v303 : Ref sig .tc := ⟨.hbm, 330, rfl⟩
abbrev main_cst_17 : Ref sig .tc := ⟨.hbm, 331, rfl⟩
abbrev main_v304 : Ref sig .tc := ⟨.hbm, 332, rfl⟩
abbrev main_cst_18 : Ref sig .tc := ⟨.hbm, 333, rfl⟩
abbrev main_v305 : Ref sig .tc := ⟨.hbm, 334, rfl⟩
abbrev main_v306 : Ref sig .tc := ⟨.hbm, 335, rfl⟩
abbrev main_v307 : Ref sig .tc := ⟨.hbm, 336, rfl⟩
abbrev main_cst_19 : Ref sig .tc := ⟨.hbm, 337, rfl⟩
abbrev main_v308 : Ref sig .tc := ⟨.hbm, 338, rfl⟩
abbrev main_v309 : Ref sig .tc := ⟨.hbm, 339, rfl⟩
abbrev main_v310 : Ref sig .tc := ⟨.hbm, 340, rfl⟩
abbrev main_v311 : Ref sig .tc := ⟨.hbm, 341, rfl⟩
abbrev main_v312 : Ref sig .tc := ⟨.hbm, 342, rfl⟩
abbrev main_cst_20 : Ref sig .tc := ⟨.hbm, 343, rfl⟩
abbrev main_v313 : Ref sig .tc := ⟨.hbm, 344, rfl⟩
abbrev main_v314 : Ref sig .tc := ⟨.hbm, 345, rfl⟩
abbrev main_cst_21 : Ref sig .tc := ⟨.hbm, 346, rfl⟩
abbrev main_v315 : Ref sig .tc := ⟨.hbm, 347, rfl⟩
abbrev main_cst_22 : Ref sig .tc := ⟨.hbm, 348, rfl⟩
abbrev main_v316 : Ref sig .tc := ⟨.hbm, 349, rfl⟩
abbrev main_v317 : Ref sig .tc := ⟨.hbm, 350, rfl⟩
abbrev main_v318 : Ref sig .tc := ⟨.hbm, 351, rfl⟩
abbrev main_cst_23 : Ref sig .tc := ⟨.hbm, 352, rfl⟩
abbrev main_v319 : Ref sig .tc := ⟨.hbm, 353, rfl⟩
abbrev main_v320 : Ref sig .tc := ⟨.hbm, 354, rfl⟩
abbrev main_v321 : Ref sig .tc := ⟨.hbm, 355, rfl⟩
abbrev main_v322 : Ref sig .tc := ⟨.hbm, 356, rfl⟩
abbrev main_v323 : Ref sig .tc := ⟨.hbm, 357, rfl⟩
abbrev main_v324 : Ref sig .tc := ⟨.hbm, 358, rfl⟩
abbrev main_v325 : Ref sig .tc := ⟨.hbm, 359, rfl⟩
abbrev main_v326 : Ref sig .tc := ⟨.hbm, 360, rfl⟩
abbrev main_cst_24 : Ref sig .tc := ⟨.hbm, 361, rfl⟩
abbrev main_v327 : Ref sig .tc := ⟨.hbm, 362, rfl⟩
abbrev main_v328 : Ref sig .tc := ⟨.hbm, 363, rfl⟩
abbrev main_cst_25 : Ref sig .tc := ⟨.hbm, 364, rfl⟩
abbrev main_v329 : Ref sig .tc := ⟨.hbm, 365, rfl⟩
abbrev main_v330 : Ref sig .tc := ⟨.hbm, 366, rfl⟩
abbrev main_v331 : Ref sig .tc := ⟨.hbm, 367, rfl⟩
abbrev main_v332 : Ref sig .tc := ⟨.hbm, 368, rfl⟩
abbrev main_v333 : Ref sig .tc := ⟨.hbm, 369, rfl⟩
abbrev main_cst_26 : Ref sig .tc := ⟨.hbm, 370, rfl⟩
abbrev main_v334 : Ref sig .tc := ⟨.hbm, 371, rfl⟩
abbrev main_v335 : Ref sig .tc := ⟨.hbm, 372, rfl⟩
abbrev main_cst_27 : Ref sig .tc := ⟨.hbm, 373, rfl⟩
abbrev main_v336 : Ref sig .tc := ⟨.hbm, 374, rfl⟩
abbrev main_cst_28 : Ref sig .tc := ⟨.hbm, 375, rfl⟩
abbrev main_v337 : Ref sig .tc := ⟨.hbm, 376, rfl⟩
abbrev main_v338 : Ref sig .tc := ⟨.hbm, 377, rfl⟩
abbrev main_cst_29 : Ref sig .tc := ⟨.hbm, 378, rfl⟩
abbrev main_v339 : Ref sig .tc := ⟨.hbm, 379, rfl⟩
abbrev main_v340 : Ref sig .tc := ⟨.hbm, 380, rfl⟩
abbrev main_v341 : Ref sig .tc := ⟨.hbm, 381, rfl⟩
abbrev main_v342 : Ref sig .tc := ⟨.hbm, 382, rfl⟩
abbrev main_cst_30 : Ref sig .tc := ⟨.hbm, 383, rfl⟩
abbrev main_v343 : Ref sig .tc := ⟨.hbm, 384, rfl⟩
abbrev main_v344 : Ref sig .tc := ⟨.hbm, 385, rfl⟩
abbrev main_cst_31 : Ref sig .tc := ⟨.hbm, 386, rfl⟩
abbrev main_v345 : Ref sig .tc := ⟨.hbm, 387, rfl⟩
abbrev main_cst_32 : Ref sig .tc := ⟨.hbm, 388, rfl⟩
abbrev main_v346 : Ref sig .tc := ⟨.hbm, 389, rfl⟩
abbrev main_v347 : Ref sig .tc := ⟨.hbm, 390, rfl⟩
abbrev main_v348 : Ref sig .tc := ⟨.hbm, 391, rfl⟩
abbrev main_cst_33 : Ref sig .tc := ⟨.hbm, 392, rfl⟩
abbrev main_v349 : Ref sig .tc := ⟨.hbm, 393, rfl⟩
abbrev main_v350 : Ref sig .tc := ⟨.hbm, 394, rfl⟩
abbrev main_v351 : Ref sig .tc := ⟨.hbm, 395, rfl⟩
abbrev main_v352 : Ref sig .tc := ⟨.hbm, 396, rfl⟩
abbrev main_v353 : Ref sig .tc := ⟨.hbm, 397, rfl⟩
abbrev main_cst_34 : Ref sig .tc := ⟨.hbm, 398, rfl⟩
abbrev main_v354 : Ref sig .tc := ⟨.hbm, 399, rfl⟩
abbrev main_v355 : Ref sig .tc := ⟨.hbm, 400, rfl⟩
abbrev main_cst_35 : Ref sig .tc := ⟨.hbm, 401, rfl⟩
abbrev main_v356 : Ref sig .tc := ⟨.hbm, 402, rfl⟩
abbrev main_cst_36 : Ref sig .tc := ⟨.hbm, 403, rfl⟩
abbrev main_v357 : Ref sig .tc := ⟨.hbm, 404, rfl⟩
abbrev main_v358 : Ref sig .tc := ⟨.hbm, 405, rfl⟩
abbrev main_v359 : Ref sig .tc := ⟨.hbm, 406, rfl⟩
abbrev main_cst_37 : Ref sig .tc := ⟨.hbm, 407, rfl⟩
abbrev main_v360 : Ref sig .tc := ⟨.hbm, 408, rfl⟩
abbrev main_v361 : Ref sig .tc := ⟨.hbm, 409, rfl⟩
abbrev main_v362 : Ref sig .tc := ⟨.hbm, 410, rfl⟩
abbrev main_v363 : Ref sig .tc := ⟨.hbm, 411, rfl⟩
abbrev main_v364 : Ref sig .tc := ⟨.hbm, 412, rfl⟩
abbrev main_cst_38 : Ref sig .tc := ⟨.hbm, 413, rfl⟩
abbrev main_v365 : Ref sig .tc := ⟨.hbm, 414, rfl⟩
abbrev main_v366 : Ref sig .tc := ⟨.hbm, 415, rfl⟩
abbrev main_cst_39 : Ref sig .tc := ⟨.hbm, 416, rfl⟩
abbrev main_v367 : Ref sig .tc := ⟨.hbm, 417, rfl⟩
abbrev main_cst_40 : Ref sig .tc := ⟨.hbm, 418, rfl⟩
abbrev main_v368 : Ref sig .tc := ⟨.hbm, 419, rfl⟩
abbrev main_v369 : Ref sig .tc := ⟨.hbm, 420, rfl⟩
abbrev main_v370 : Ref sig .tc := ⟨.hbm, 421, rfl⟩
abbrev main_cst_41 : Ref sig .tc := ⟨.hbm, 422, rfl⟩
abbrev main_v371 : Ref sig .tc := ⟨.hbm, 423, rfl⟩
abbrev main_v372 : Ref sig .tc := ⟨.hbm, 424, rfl⟩
abbrev main_v373 : Ref sig .tc := ⟨.hbm, 425, rfl⟩
abbrev main_v374 : Ref sig .tc := ⟨.hbm, 426, rfl⟩
abbrev main_v375 : Ref sig .tc := ⟨.hbm, 427, rfl⟩
abbrev main_cst_42 : Ref sig .tc := ⟨.hbm, 428, rfl⟩
abbrev main_v376 : Ref sig .tc := ⟨.hbm, 429, rfl⟩
abbrev main_v377 : Ref sig .tc := ⟨.hbm, 430, rfl⟩
abbrev main_cst_43 : Ref sig .tc := ⟨.hbm, 431, rfl⟩
abbrev main_v378 : Ref sig .tc := ⟨.hbm, 432, rfl⟩
abbrev main_cst_44 : Ref sig .tc := ⟨.hbm, 433, rfl⟩
abbrev main_v379 : Ref sig .tc := ⟨.hbm, 434, rfl⟩
abbrev main_v380 : Ref sig .tc := ⟨.hbm, 435, rfl⟩
abbrev main_v381 : Ref sig .tc := ⟨.hbm, 436, rfl⟩
abbrev main_cst_45 : Ref sig .tc := ⟨.hbm, 437, rfl⟩
abbrev main_v382 : Ref sig .tc := ⟨.hbm, 438, rfl⟩
abbrev main_v383 : Ref sig .tc := ⟨.hbm, 439, rfl⟩
abbrev main_v384 : Ref sig .tc := ⟨.hbm, 440, rfl⟩
abbrev main_v385 : Ref sig .tc := ⟨.hbm, 441, rfl⟩
abbrev main_v386 : Ref sig .tc := ⟨.hbm, 442, rfl⟩
abbrev main_cst_46 : Ref sig .tc := ⟨.hbm, 443, rfl⟩
abbrev main_v387 : Ref sig .tc := ⟨.hbm, 444, rfl⟩
abbrev main_v388 : Ref sig .tc := ⟨.hbm, 445, rfl⟩
abbrev main_cst_47 : Ref sig .tc := ⟨.hbm, 446, rfl⟩
abbrev main_v389 : Ref sig .tc := ⟨.hbm, 447, rfl⟩
abbrev main_cst_48 : Ref sig .tc := ⟨.hbm, 448, rfl⟩
abbrev main_v390 : Ref sig .tc := ⟨.hbm, 449, rfl⟩
abbrev main_v391 : Ref sig .tc := ⟨.hbm, 450, rfl⟩
abbrev main_v392 : Ref sig .tc := ⟨.hbm, 451, rfl⟩
abbrev main_cst_49 : Ref sig .tc := ⟨.hbm, 452, rfl⟩
abbrev main_v393 : Ref sig .tc := ⟨.hbm, 453, rfl⟩
abbrev main_v394 : Ref sig .tc := ⟨.hbm, 454, rfl⟩
abbrev main_v395 : Ref sig .tc := ⟨.hbm, 455, rfl⟩
abbrev main_v396 : Ref sig .tc := ⟨.hbm, 456, rfl⟩
abbrev main_v397 : Ref sig .tc := ⟨.hbm, 457, rfl⟩
abbrev main_cst_50 : Ref sig .tc := ⟨.hbm, 458, rfl⟩
abbrev main_v398 : Ref sig .tc := ⟨.hbm, 459, rfl⟩
abbrev main_v399 : Ref sig .tc := ⟨.hbm, 460, rfl⟩
abbrev main_cst_51 : Ref sig .tc := ⟨.hbm, 461, rfl⟩
abbrev main_v400 : Ref sig .tc := ⟨.hbm, 462, rfl⟩
abbrev main_cst_52 : Ref sig .tc := ⟨.hbm, 463, rfl⟩
abbrev main_v401 : Ref sig .tc := ⟨.hbm, 464, rfl⟩
abbrev main_v402 : Ref sig .tc := ⟨.hbm, 465, rfl⟩
abbrev main_v403 : Ref sig .tc := ⟨.hbm, 466, rfl⟩
abbrev main_cst_53 : Ref sig .tc := ⟨.hbm, 467, rfl⟩
abbrev main_v404 : Ref sig .tc := ⟨.hbm, 468, rfl⟩
abbrev main_v405 : Ref sig .tc := ⟨.hbm, 469, rfl⟩
abbrev main_v406 : Ref sig .tc := ⟨.hbm, 470, rfl⟩
abbrev main_v407 : Ref sig .tc := ⟨.hbm, 471, rfl⟩
abbrev main_v408 : Ref sig .tc := ⟨.hbm, 472, rfl⟩
abbrev main_cst_54 : Ref sig .tc := ⟨.hbm, 473, rfl⟩
abbrev main_v409 : Ref sig .tc := ⟨.hbm, 474, rfl⟩
abbrev main_v410 : Ref sig .tc := ⟨.hbm, 475, rfl⟩
abbrev main_cst_55 : Ref sig .tc := ⟨.hbm, 476, rfl⟩
abbrev main_v411 : Ref sig .tc := ⟨.hbm, 477, rfl⟩
abbrev main_cst_56 : Ref sig .tc := ⟨.hbm, 478, rfl⟩
abbrev main_v412 : Ref sig .tc := ⟨.hbm, 479, rfl⟩
abbrev main_v413 : Ref sig .tc := ⟨.hbm, 480, rfl⟩
abbrev main_v414 : Ref sig .tc := ⟨.hbm, 481, rfl⟩
abbrev main_cst_57 : Ref sig .tc := ⟨.hbm, 482, rfl⟩
abbrev main_v415 : Ref sig .tc := ⟨.hbm, 483, rfl⟩
abbrev main_v416 : Ref sig .tc := ⟨.hbm, 484, rfl⟩
abbrev main_v417 : Ref sig .tc := ⟨.hbm, 485, rfl⟩
abbrev main_v418 : Ref sig .tc := ⟨.hbm, 486, rfl⟩
abbrev main_v419 : Ref sig .tc := ⟨.hbm, 487, rfl⟩
abbrev main_cst_58 : Ref sig .tc := ⟨.hbm, 488, rfl⟩
abbrev main_v420 : Ref sig .tc := ⟨.hbm, 489, rfl⟩
abbrev main_v421 : Ref sig .tc := ⟨.hbm, 490, rfl⟩
abbrev main_cst_59 : Ref sig .tc := ⟨.hbm, 491, rfl⟩
abbrev main_v422 : Ref sig .tc := ⟨.hbm, 492, rfl⟩
abbrev main_cst_60 : Ref sig .tc := ⟨.hbm, 493, rfl⟩
abbrev main_v423 : Ref sig .tc := ⟨.hbm, 494, rfl⟩
abbrev main_v424 : Ref sig .tc := ⟨.hbm, 495, rfl⟩
abbrev main_v425 : Ref sig .tc := ⟨.hbm, 496, rfl⟩
abbrev main_cst_61 : Ref sig .tc := ⟨.hbm, 497, rfl⟩
abbrev main_v426 : Ref sig .tc := ⟨.hbm, 498, rfl⟩
abbrev main_v427 : Ref sig .tc := ⟨.hbm, 499, rfl⟩
abbrev main_v428 : Ref sig .tc := ⟨.hbm, 500, rfl⟩
abbrev main_v429 : Ref sig .tc := ⟨.hbm, 501, rfl⟩
abbrev main_v430 : Ref sig .tc := ⟨.hbm, 502, rfl⟩
abbrev main_cst_62 : Ref sig .tc := ⟨.hbm, 503, rfl⟩
abbrev main_v431 : Ref sig .tc := ⟨.hbm, 504, rfl⟩
abbrev main_v432 : Ref sig .tc := ⟨.hbm, 505, rfl⟩
abbrev main_cst_63 : Ref sig .tc := ⟨.hbm, 506, rfl⟩
abbrev main_v433 : Ref sig .tc := ⟨.hbm, 507, rfl⟩
abbrev main_cst_64 : Ref sig .tc := ⟨.hbm, 508, rfl⟩
abbrev main_v434 : Ref sig .tc := ⟨.hbm, 509, rfl⟩
abbrev main_v435 : Ref sig .tc := ⟨.hbm, 510, rfl⟩
abbrev main_v436 : Ref sig .tc := ⟨.hbm, 511, rfl⟩
abbrev main_cst_65 : Ref sig .tc := ⟨.hbm, 512, rfl⟩
abbrev main_v437 : Ref sig .tc := ⟨.hbm, 513, rfl⟩
abbrev main_v438 : Ref sig .tc := ⟨.hbm, 514, rfl⟩
abbrev main_v439 : Ref sig .tc := ⟨.hbm, 515, rfl⟩
abbrev main_v440 : Ref sig .tc := ⟨.hbm, 516, rfl⟩
abbrev main_v441 : Ref sig .tc := ⟨.hbm, 517, rfl⟩
abbrev main_cst_66 : Ref sig .tc := ⟨.hbm, 518, rfl⟩
abbrev main_v442 : Ref sig .tc := ⟨.hbm, 519, rfl⟩
abbrev main_v443 : Ref sig .tc := ⟨.hbm, 520, rfl⟩
abbrev main_cst_67 : Ref sig .tc := ⟨.hbm, 521, rfl⟩
abbrev main_v444 : Ref sig .tc := ⟨.hbm, 522, rfl⟩
abbrev main_cst_68 : Ref sig .tc := ⟨.hbm, 523, rfl⟩
abbrev main_v445 : Ref sig .tc := ⟨.hbm, 524, rfl⟩
abbrev main_v446 : Ref sig .tc := ⟨.hbm, 525, rfl⟩
abbrev main_v447 : Ref sig .tc := ⟨.hbm, 526, rfl⟩
abbrev main_cst_69 : Ref sig .tc := ⟨.hbm, 527, rfl⟩
abbrev main_v448 : Ref sig .tc := ⟨.hbm, 528, rfl⟩
abbrev main_v449 : Ref sig .tc := ⟨.hbm, 529, rfl⟩
abbrev main_v450 : Ref sig .tc := ⟨.hbm, 530, rfl⟩
abbrev main_v451 : Ref sig .tc := ⟨.hbm, 531, rfl⟩
abbrev main_v452 : Ref sig .tc := ⟨.hbm, 532, rfl⟩
abbrev main_cst_70 : Ref sig .tc := ⟨.hbm, 533, rfl⟩
abbrev main_v453 : Ref sig .tc := ⟨.hbm, 534, rfl⟩
abbrev main_v454 : Ref sig .tc := ⟨.hbm, 535, rfl⟩
abbrev main_cst_71 : Ref sig .tc := ⟨.hbm, 536, rfl⟩
abbrev main_v455 : Ref sig .tc := ⟨.hbm, 537, rfl⟩
abbrev main_cst_72 : Ref sig .tc := ⟨.hbm, 538, rfl⟩
abbrev main_v456 : Ref sig .tc := ⟨.hbm, 539, rfl⟩
abbrev main_v457 : Ref sig .tc := ⟨.hbm, 540, rfl⟩
abbrev main_v458 : Ref sig .tc := ⟨.hbm, 541, rfl⟩
abbrev main_cst_73 : Ref sig .tc := ⟨.hbm, 542, rfl⟩
abbrev main_v459 : Ref sig .tc := ⟨.hbm, 543, rfl⟩
abbrev main_v460 : Ref sig .tc := ⟨.hbm, 544, rfl⟩
abbrev main_v461 : Ref sig .tc := ⟨.hbm, 545, rfl⟩
abbrev main_v462 : Ref sig .tc := ⟨.hbm, 546, rfl⟩
abbrev main_v463 : Ref sig .tc := ⟨.hbm, 547, rfl⟩
abbrev main_cst_74 : Ref sig .tc := ⟨.hbm, 548, rfl⟩
abbrev main_v464 : Ref sig .tc := ⟨.hbm, 549, rfl⟩
abbrev main_v465 : Ref sig .tc := ⟨.hbm, 550, rfl⟩
abbrev main_cst_75 : Ref sig .tc := ⟨.hbm, 551, rfl⟩
abbrev main_v466 : Ref sig .tc := ⟨.hbm, 552, rfl⟩
abbrev main_cst_76 : Ref sig .tc := ⟨.hbm, 553, rfl⟩
abbrev main_v467 : Ref sig .tc := ⟨.hbm, 554, rfl⟩
abbrev main_v468 : Ref sig .tc := ⟨.hbm, 555, rfl⟩
abbrev main_v469 : Ref sig .tc := ⟨.hbm, 556, rfl⟩
abbrev main_cst_77 : Ref sig .tc := ⟨.hbm, 557, rfl⟩
abbrev main_v470 : Ref sig .tc := ⟨.hbm, 558, rfl⟩
abbrev main_v471 : Ref sig .tc := ⟨.hbm, 559, rfl⟩
abbrev main_v472 : Ref sig .tc := ⟨.hbm, 560, rfl⟩
abbrev main_v473 : Ref sig .tc := ⟨.hbm, 561, rfl⟩
abbrev main_v474 : Ref sig .tc := ⟨.hbm, 562, rfl⟩
abbrev main_cst_78 : Ref sig .tc := ⟨.hbm, 563, rfl⟩
abbrev main_v475 : Ref sig .tc := ⟨.hbm, 564, rfl⟩
abbrev main_v476 : Ref sig .tc := ⟨.hbm, 565, rfl⟩
abbrev main_cst_79 : Ref sig .tc := ⟨.hbm, 566, rfl⟩
abbrev main_v477 : Ref sig .tc := ⟨.hbm, 567, rfl⟩
abbrev main_cst_80 : Ref sig .tc := ⟨.hbm, 568, rfl⟩
abbrev main_v478 : Ref sig .tc := ⟨.hbm, 569, rfl⟩
abbrev main_v479 : Ref sig .tc := ⟨.hbm, 570, rfl⟩
abbrev main_v480 : Ref sig .tc := ⟨.hbm, 571, rfl⟩
abbrev main_cst_81 : Ref sig .tc := ⟨.hbm, 572, rfl⟩
abbrev main_v481 : Ref sig .tc := ⟨.hbm, 573, rfl⟩
abbrev main_v482 : Ref sig .tc := ⟨.hbm, 574, rfl⟩
abbrev main_v483 : Ref sig .tc := ⟨.hbm, 575, rfl⟩
abbrev main_v484 : Ref sig .tc := ⟨.hbm, 576, rfl⟩
abbrev main_v485 : Ref sig .tc := ⟨.hbm, 577, rfl⟩
abbrev main_cst_82 : Ref sig .tc := ⟨.hbm, 578, rfl⟩
abbrev main_v486 : Ref sig .tc := ⟨.hbm, 579, rfl⟩
abbrev main_v487 : Ref sig .tc := ⟨.hbm, 580, rfl⟩
abbrev main_cst_83 : Ref sig .tc := ⟨.hbm, 581, rfl⟩
abbrev main_v488 : Ref sig .tc := ⟨.hbm, 582, rfl⟩
abbrev main_cst_84 : Ref sig .tc := ⟨.hbm, 583, rfl⟩
abbrev main_v489 : Ref sig .tc := ⟨.hbm, 584, rfl⟩
abbrev main_v490 : Ref sig .tc := ⟨.hbm, 585, rfl⟩
abbrev main_v491 : Ref sig .tc := ⟨.hbm, 586, rfl⟩
abbrev main_cst_85 : Ref sig .tc := ⟨.hbm, 587, rfl⟩
abbrev main_v492 : Ref sig .tc := ⟨.hbm, 588, rfl⟩
abbrev main_v493 : Ref sig .tc := ⟨.hbm, 589, rfl⟩
abbrev main_v494 : Ref sig .tc := ⟨.hbm, 590, rfl⟩
abbrev main_v495 : Ref sig .tc := ⟨.hbm, 591, rfl⟩
abbrev main_v496 : Ref sig .tc := ⟨.hbm, 592, rfl⟩
abbrev main_cst_86 : Ref sig .tc := ⟨.hbm, 593, rfl⟩
abbrev main_v497 : Ref sig .tc := ⟨.hbm, 594, rfl⟩
abbrev main_v498 : Ref sig .tc := ⟨.hbm, 595, rfl⟩
abbrev main_cst_87 : Ref sig .tc := ⟨.hbm, 596, rfl⟩
abbrev main_v499 : Ref sig .tc := ⟨.hbm, 597, rfl⟩
abbrev main_cst_88 : Ref sig .tc := ⟨.hbm, 598, rfl⟩
abbrev main_v500 : Ref sig .tc := ⟨.hbm, 599, rfl⟩
abbrev main_v501 : Ref sig .tc := ⟨.hbm, 600, rfl⟩
abbrev main_v502 : Ref sig .tc := ⟨.hbm, 601, rfl⟩
abbrev main_cst_89 : Ref sig .tc := ⟨.hbm, 602, rfl⟩
abbrev main_v503 : Ref sig .tc := ⟨.hbm, 603, rfl⟩
abbrev main_v504 : Ref sig .tc := ⟨.hbm, 604, rfl⟩
abbrev main_v505 : Ref sig .tc := ⟨.hbm, 605, rfl⟩
abbrev main_v506 : Ref sig .tc := ⟨.hbm, 606, rfl⟩
abbrev main_v507 : Ref sig .tc := ⟨.hbm, 607, rfl⟩
abbrev main_cst_90 : Ref sig .tc := ⟨.hbm, 608, rfl⟩
abbrev main_v508 : Ref sig .tc := ⟨.hbm, 609, rfl⟩
abbrev main_v509 : Ref sig .tc := ⟨.hbm, 610, rfl⟩
abbrev main_cst_91 : Ref sig .tc := ⟨.hbm, 611, rfl⟩
abbrev main_v510 : Ref sig .tc := ⟨.hbm, 612, rfl⟩
abbrev main_cst_92 : Ref sig .tc := ⟨.hbm, 613, rfl⟩
abbrev main_v511 : Ref sig .tc := ⟨.hbm, 614, rfl⟩
abbrev main_v512 : Ref sig .tc := ⟨.hbm, 615, rfl⟩
abbrev main_v513 : Ref sig .tc := ⟨.hbm, 616, rfl⟩
abbrev main_cst_93 : Ref sig .tc := ⟨.hbm, 617, rfl⟩
abbrev main_v514 : Ref sig .tc := ⟨.hbm, 618, rfl⟩
abbrev main_v515 : Ref sig .tc := ⟨.hbm, 619, rfl⟩
abbrev main_v516 : Ref sig .tc := ⟨.hbm, 620, rfl⟩
abbrev main_v517 : Ref sig .tc := ⟨.hbm, 621, rfl⟩
abbrev main_v518 : Ref sig .tc := ⟨.hbm, 622, rfl⟩
abbrev main_cst_94 : Ref sig .tc := ⟨.hbm, 623, rfl⟩
abbrev main_v519 : Ref sig .tc := ⟨.hbm, 624, rfl⟩
abbrev main_v520 : Ref sig .tc := ⟨.hbm, 625, rfl⟩
abbrev main_cst_95 : Ref sig .tc := ⟨.hbm, 626, rfl⟩
abbrev main_v521 : Ref sig .tc := ⟨.hbm, 627, rfl⟩
abbrev main_cst_96 : Ref sig .tc := ⟨.hbm, 628, rfl⟩
abbrev main_v522 : Ref sig .tc := ⟨.hbm, 629, rfl⟩
abbrev main_v523 : Ref sig .tc := ⟨.hbm, 630, rfl⟩
abbrev main_v524 : Ref sig .tc := ⟨.hbm, 631, rfl⟩
abbrev main_cst_97 : Ref sig .tc := ⟨.hbm, 632, rfl⟩
abbrev main_v525 : Ref sig .tc := ⟨.hbm, 633, rfl⟩
abbrev main_v526 : Ref sig .tc := ⟨.hbm, 634, rfl⟩
abbrev main_v527 : Ref sig .tc := ⟨.hbm, 635, rfl⟩
abbrev main_v528 : Ref sig .tc := ⟨.hbm, 636, rfl⟩
abbrev main_v529 : Ref sig .tc := ⟨.hbm, 637, rfl⟩
abbrev main_cst_98 : Ref sig .tc := ⟨.hbm, 638, rfl⟩
abbrev main_v530 : Ref sig .tc := ⟨.hbm, 639, rfl⟩
abbrev main_v531 : Ref sig .tc := ⟨.hbm, 640, rfl⟩
abbrev main_cst_99 : Ref sig .tc := ⟨.hbm, 641, rfl⟩
abbrev main_v532 : Ref sig .tc := ⟨.hbm, 642, rfl⟩
abbrev main_cst_100 : Ref sig .tc := ⟨.hbm, 643, rfl⟩
abbrev main_v533 : Ref sig .tc := ⟨.hbm, 644, rfl⟩
abbrev main_v534 : Ref sig .tc := ⟨.hbm, 645, rfl⟩
abbrev main_v535 : Ref sig .tc := ⟨.hbm, 646, rfl⟩
abbrev main_cst_101 : Ref sig .tc := ⟨.hbm, 647, rfl⟩
abbrev main_v536 : Ref sig .tc := ⟨.hbm, 648, rfl⟩
abbrev main_v537 : Ref sig .tc := ⟨.hbm, 649, rfl⟩
abbrev main_v538 : Ref sig .tc := ⟨.hbm, 650, rfl⟩
abbrev main_v539 : Ref sig .tc := ⟨.hbm, 651, rfl⟩
abbrev main_v540 : Ref sig .tc := ⟨.hbm, 652, rfl⟩
abbrev main_cst_102 : Ref sig .tc := ⟨.hbm, 653, rfl⟩
abbrev main_v541 : Ref sig .tc := ⟨.hbm, 654, rfl⟩
abbrev main_v542 : Ref sig .tc := ⟨.hbm, 655, rfl⟩
abbrev main_cst_103 : Ref sig .tc := ⟨.hbm, 656, rfl⟩
abbrev main_v543 : Ref sig .tc := ⟨.hbm, 657, rfl⟩
abbrev main_cst_104 : Ref sig .tc := ⟨.hbm, 658, rfl⟩
abbrev main_v544 : Ref sig .tc := ⟨.hbm, 659, rfl⟩
abbrev main_v545 : Ref sig .tc := ⟨.hbm, 660, rfl⟩
abbrev main_v546 : Ref sig .tc := ⟨.hbm, 661, rfl⟩
abbrev main_cst_105 : Ref sig .tc := ⟨.hbm, 662, rfl⟩
abbrev main_v547 : Ref sig .tc := ⟨.hbm, 663, rfl⟩
abbrev main_v548 : Ref sig .tc := ⟨.hbm, 664, rfl⟩
abbrev main_v549 : Ref sig .tc := ⟨.hbm, 665, rfl⟩
abbrev main_v550 : Ref sig .tc := ⟨.hbm, 666, rfl⟩
abbrev main_v551 : Ref sig .tc := ⟨.hbm, 667, rfl⟩
abbrev main_cst_106 : Ref sig .tc := ⟨.hbm, 668, rfl⟩
abbrev main_v552 : Ref sig .tc := ⟨.hbm, 669, rfl⟩
abbrev main_v553 : Ref sig .tc := ⟨.hbm, 670, rfl⟩
abbrev main_cst_107 : Ref sig .tc := ⟨.hbm, 671, rfl⟩
abbrev main_v554 : Ref sig .tc := ⟨.hbm, 672, rfl⟩
abbrev main_cst_108 : Ref sig .tc := ⟨.hbm, 673, rfl⟩
abbrev main_v555 : Ref sig .tc := ⟨.hbm, 674, rfl⟩
abbrev main_v556 : Ref sig .tc := ⟨.hbm, 675, rfl⟩
abbrev main_v557 : Ref sig .tc := ⟨.hbm, 676, rfl⟩
abbrev main_cst_109 : Ref sig .tc := ⟨.hbm, 677, rfl⟩
abbrev main_v558 : Ref sig .tc := ⟨.hbm, 678, rfl⟩
abbrev main_v559 : Ref sig .tc := ⟨.hbm, 679, rfl⟩
abbrev main_v560 : Ref sig .tc := ⟨.hbm, 680, rfl⟩
abbrev main_v561 : Ref sig .tc := ⟨.hbm, 681, rfl⟩
abbrev main_v562 : Ref sig .tc := ⟨.hbm, 682, rfl⟩
abbrev main_cst_110 : Ref sig .tc := ⟨.hbm, 683, rfl⟩
abbrev main_v563 : Ref sig .tc := ⟨.hbm, 684, rfl⟩
abbrev main_v564 : Ref sig .tc := ⟨.hbm, 685, rfl⟩
abbrev main_cst_111 : Ref sig .tc := ⟨.hbm, 686, rfl⟩
abbrev main_v565 : Ref sig .tc := ⟨.hbm, 687, rfl⟩
abbrev main_cst_112 : Ref sig .tc := ⟨.hbm, 688, rfl⟩
abbrev main_v566 : Ref sig .tc := ⟨.hbm, 689, rfl⟩
abbrev main_v567 : Ref sig .tc := ⟨.hbm, 690, rfl⟩
abbrev main_v568 : Ref sig .tc := ⟨.hbm, 691, rfl⟩
abbrev main_cst_113 : Ref sig .tc := ⟨.hbm, 692, rfl⟩
abbrev main_v569 : Ref sig .tc := ⟨.hbm, 693, rfl⟩
abbrev main_v570 : Ref sig .tc := ⟨.hbm, 694, rfl⟩
abbrev main_v571 : Ref sig .tc := ⟨.hbm, 695, rfl⟩
abbrev main_v572 : Ref sig .tc := ⟨.hbm, 696, rfl⟩
abbrev main_v573 : Ref sig .tc := ⟨.hbm, 697, rfl⟩
abbrev main_cst_114 : Ref sig .tc := ⟨.hbm, 698, rfl⟩
abbrev main_v574 : Ref sig .tc := ⟨.hbm, 699, rfl⟩
abbrev main_v575 : Ref sig .tc := ⟨.hbm, 700, rfl⟩
abbrev main_cst_115 : Ref sig .tc := ⟨.hbm, 701, rfl⟩
abbrev main_v576 : Ref sig .tc := ⟨.hbm, 702, rfl⟩
abbrev main_cst_116 : Ref sig .tc := ⟨.hbm, 703, rfl⟩
abbrev main_v577 : Ref sig .tc := ⟨.hbm, 704, rfl⟩
abbrev main_v578 : Ref sig .tc := ⟨.hbm, 705, rfl⟩
abbrev main_v579 : Ref sig .tc := ⟨.hbm, 706, rfl⟩
abbrev main_cst_117 : Ref sig .tc := ⟨.hbm, 707, rfl⟩
abbrev main_v580 : Ref sig .tc := ⟨.hbm, 708, rfl⟩
abbrev main_v581 : Ref sig .tc := ⟨.hbm, 709, rfl⟩
abbrev main_v582 : Ref sig .tc := ⟨.hbm, 710, rfl⟩
abbrev main_v583 : Ref sig .tc := ⟨.hbm, 711, rfl⟩
abbrev main_v584 : Ref sig .tc := ⟨.hbm, 712, rfl⟩
abbrev main_cst_118 : Ref sig .tc := ⟨.hbm, 713, rfl⟩
abbrev main_v585 : Ref sig .tc := ⟨.hbm, 714, rfl⟩
abbrev main_v586 : Ref sig .tc := ⟨.hbm, 715, rfl⟩
abbrev main_cst_119 : Ref sig .tc := ⟨.hbm, 716, rfl⟩
abbrev main_v587 : Ref sig .tc := ⟨.hbm, 717, rfl⟩
abbrev main_cst_120 : Ref sig .tc := ⟨.hbm, 718, rfl⟩
abbrev main_v588 : Ref sig .tc := ⟨.hbm, 719, rfl⟩
abbrev main_v589 : Ref sig .tc := ⟨.hbm, 720, rfl⟩
abbrev main_v590 : Ref sig .tc := ⟨.hbm, 721, rfl⟩
abbrev main_cst_121 : Ref sig .tc := ⟨.hbm, 722, rfl⟩
abbrev main_v591 : Ref sig .tc := ⟨.hbm, 723, rfl⟩
abbrev main_v592 : Ref sig .tc := ⟨.hbm, 724, rfl⟩
abbrev main_v593 : Ref sig .tc := ⟨.hbm, 725, rfl⟩
abbrev main_v594 : Ref sig .tc := ⟨.hbm, 726, rfl⟩
abbrev main_v595 : Ref sig .tc := ⟨.hbm, 727, rfl⟩
abbrev main_cst_122 : Ref sig .tc := ⟨.hbm, 728, rfl⟩
abbrev main_v596 : Ref sig .tc := ⟨.hbm, 729, rfl⟩
abbrev main_v597 : Ref sig .tc := ⟨.hbm, 730, rfl⟩
abbrev main_cst_123 : Ref sig .tc := ⟨.hbm, 731, rfl⟩
abbrev main_v598 : Ref sig .tc := ⟨.hbm, 732, rfl⟩
abbrev main_cst_124 : Ref sig .tc := ⟨.hbm, 733, rfl⟩
abbrev main_v599 : Ref sig .tc := ⟨.hbm, 734, rfl⟩
abbrev main_v600 : Ref sig .tc := ⟨.hbm, 735, rfl⟩
abbrev main_v601 : Ref sig .tc := ⟨.hbm, 736, rfl⟩
abbrev main_cst_125 : Ref sig .tc := ⟨.hbm, 737, rfl⟩
abbrev main_v602 : Ref sig .tc := ⟨.hbm, 738, rfl⟩
abbrev main_v603 : Ref sig .tc := ⟨.hbm, 739, rfl⟩
abbrev main_v604 : Ref sig .tc := ⟨.hbm, 740, rfl⟩
abbrev main_v605 : Ref sig .tc := ⟨.hbm, 741, rfl⟩
abbrev main_v606 : Ref sig .tc := ⟨.hbm, 742, rfl⟩
abbrev main_cst_126 : Ref sig .tc := ⟨.hbm, 743, rfl⟩
abbrev main_v607 : Ref sig .tc := ⟨.hbm, 744, rfl⟩
abbrev main_v608 : Ref sig .tc := ⟨.hbm, 745, rfl⟩
abbrev main_cst_127 : Ref sig .tc := ⟨.hbm, 746, rfl⟩
abbrev main_v609 : Ref sig .tc := ⟨.hbm, 747, rfl⟩
abbrev main_cst_128 : Ref sig .tc := ⟨.hbm, 748, rfl⟩
abbrev main_v610 : Ref sig .tc := ⟨.hbm, 749, rfl⟩
abbrev main_v611 : Ref sig .tc := ⟨.hbm, 750, rfl⟩
abbrev main_v612 : Ref sig .tc := ⟨.hbm, 751, rfl⟩
abbrev main_cst_129 : Ref sig .tc := ⟨.hbm, 752, rfl⟩
abbrev main_v613 : Ref sig .tc := ⟨.hbm, 753, rfl⟩
abbrev main_v614 : Ref sig .tc := ⟨.hbm, 754, rfl⟩
abbrev main_v615 : Ref sig .tc := ⟨.hbm, 755, rfl⟩
abbrev main_v616 : Ref sig .tc := ⟨.hbm, 756, rfl⟩
abbrev main_v617 : Ref sig .tc := ⟨.hbm, 757, rfl⟩
abbrev main_cst_130 : Ref sig .tc := ⟨.hbm, 758, rfl⟩
abbrev main_v618 : Ref sig .tc := ⟨.hbm, 759, rfl⟩
abbrev main_v619 : Ref sig .tc := ⟨.hbm, 760, rfl⟩
abbrev main_cst_131 : Ref sig .tc := ⟨.hbm, 761, rfl⟩
abbrev main_v620 : Ref sig .tc := ⟨.hbm, 762, rfl⟩
abbrev main_cst_132 : Ref sig .tc := ⟨.hbm, 763, rfl⟩
abbrev main_v621 : Ref sig .tc := ⟨.hbm, 764, rfl⟩
abbrev main_v622 : Ref sig .tc := ⟨.hbm, 765, rfl⟩
abbrev main_v623 : Ref sig .tc := ⟨.hbm, 766, rfl⟩
abbrev main_cst_133 : Ref sig .tc := ⟨.hbm, 767, rfl⟩
abbrev main_v624 : Ref sig .tc := ⟨.hbm, 768, rfl⟩
abbrev main_v625 : Ref sig .tc := ⟨.hbm, 769, rfl⟩
abbrev main_v626 : Ref sig .tc := ⟨.hbm, 770, rfl⟩
abbrev main_v627 : Ref sig .tc := ⟨.hbm, 771, rfl⟩
abbrev main_v628 : Ref sig .tc := ⟨.hbm, 772, rfl⟩
abbrev main_cst_134 : Ref sig .tc := ⟨.hbm, 773, rfl⟩
abbrev main_v629 : Ref sig .tc := ⟨.hbm, 774, rfl⟩
abbrev main_v630 : Ref sig .tc := ⟨.hbm, 775, rfl⟩
abbrev main_cst_135 : Ref sig .tc := ⟨.hbm, 776, rfl⟩
abbrev main_v631 : Ref sig .tc := ⟨.hbm, 777, rfl⟩
abbrev main_cst_136 : Ref sig .tc := ⟨.hbm, 778, rfl⟩
abbrev main_v632 : Ref sig .tc := ⟨.hbm, 779, rfl⟩
abbrev main_v633 : Ref sig .tc := ⟨.hbm, 780, rfl⟩
abbrev main_v634 : Ref sig .tc := ⟨.hbm, 781, rfl⟩
abbrev main_cst_137 : Ref sig .tc := ⟨.hbm, 782, rfl⟩
abbrev main_v635 : Ref sig .tc := ⟨.hbm, 783, rfl⟩
abbrev main_v636 : Ref sig .tc := ⟨.hbm, 784, rfl⟩
abbrev main_v637 : Ref sig .tc := ⟨.hbm, 785, rfl⟩
abbrev main_v638 : Ref sig .tc := ⟨.hbm, 786, rfl⟩
abbrev main_v639 : Ref sig .tc := ⟨.hbm, 787, rfl⟩
abbrev main_cst_138 : Ref sig .tc := ⟨.hbm, 788, rfl⟩
abbrev main_v640 : Ref sig .tc := ⟨.hbm, 789, rfl⟩
abbrev main_v641 : Ref sig .tc := ⟨.hbm, 790, rfl⟩
abbrev main_cst_139 : Ref sig .tc := ⟨.hbm, 791, rfl⟩
abbrev main_v642 : Ref sig .tc := ⟨.hbm, 792, rfl⟩
abbrev main_cst_140 : Ref sig .tc := ⟨.hbm, 793, rfl⟩
abbrev main_v643 : Ref sig .tc := ⟨.hbm, 794, rfl⟩
abbrev main_v644 : Ref sig .tc := ⟨.hbm, 795, rfl⟩
abbrev main_v645 : Ref sig .tc := ⟨.hbm, 796, rfl⟩
abbrev main_cst_141 : Ref sig .tc := ⟨.hbm, 797, rfl⟩
abbrev main_v646 : Ref sig .tc := ⟨.hbm, 798, rfl⟩
abbrev main_v647 : Ref sig .tc := ⟨.hbm, 799, rfl⟩
abbrev main_v648 : Ref sig .tc := ⟨.hbm, 800, rfl⟩
abbrev main_v649 : Ref sig .tc := ⟨.hbm, 801, rfl⟩
abbrev main_v650 : Ref sig .tc := ⟨.hbm, 802, rfl⟩
abbrev main_cst_142 : Ref sig .tc := ⟨.hbm, 803, rfl⟩
abbrev main_v651 : Ref sig .tc := ⟨.hbm, 804, rfl⟩
abbrev main_v652 : Ref sig .tc := ⟨.hbm, 805, rfl⟩
abbrev main_cst_143 : Ref sig .tc := ⟨.hbm, 806, rfl⟩
abbrev main_v653 : Ref sig .tc := ⟨.hbm, 807, rfl⟩
abbrev main_cst_144 : Ref sig .tc := ⟨.hbm, 808, rfl⟩
abbrev main_v654 : Ref sig .tc := ⟨.hbm, 809, rfl⟩
abbrev main_v655 : Ref sig .tc := ⟨.hbm, 810, rfl⟩
abbrev main_v656 : Ref sig .tc := ⟨.hbm, 811, rfl⟩
abbrev main_cst_145 : Ref sig .tc := ⟨.hbm, 812, rfl⟩
abbrev main_v657 : Ref sig .tc := ⟨.hbm, 813, rfl⟩
abbrev main_v658 : Ref sig .tc := ⟨.hbm, 814, rfl⟩
abbrev main_v659 : Ref sig .tc := ⟨.hbm, 815, rfl⟩
abbrev main_v660 : Ref sig .tc := ⟨.hbm, 816, rfl⟩
abbrev main_v661 : Ref sig .tc := ⟨.hbm, 817, rfl⟩
abbrev main_cst_146 : Ref sig .tc := ⟨.hbm, 818, rfl⟩
abbrev main_v662 : Ref sig .tc := ⟨.hbm, 819, rfl⟩
abbrev main_v663 : Ref sig .tc := ⟨.hbm, 820, rfl⟩
abbrev main_cst_147 : Ref sig .tc := ⟨.hbm, 821, rfl⟩
abbrev main_v664 : Ref sig .tc := ⟨.hbm, 822, rfl⟩
abbrev main_cst_148 : Ref sig .tc := ⟨.hbm, 823, rfl⟩
abbrev main_v665 : Ref sig .tc := ⟨.hbm, 824, rfl⟩
abbrev main_v666 : Ref sig .tc := ⟨.hbm, 825, rfl⟩
abbrev main_v667 : Ref sig .tc := ⟨.hbm, 826, rfl⟩
abbrev main_cst_149 : Ref sig .tc := ⟨.hbm, 827, rfl⟩
abbrev main_v668 : Ref sig .tc := ⟨.hbm, 828, rfl⟩
abbrev main_v669 : Ref sig .tc := ⟨.hbm, 829, rfl⟩
abbrev main_v670 : Ref sig .tc := ⟨.hbm, 830, rfl⟩
abbrev main_v671 : Ref sig .tc := ⟨.hbm, 831, rfl⟩
abbrev main_v672 : Ref sig .tc := ⟨.hbm, 832, rfl⟩
abbrev main_v673 : Ref sig .tc := ⟨.hbm, 833, rfl⟩
abbrev main_v674 : Ref sig .tc := ⟨.hbm, 834, rfl⟩
abbrev main_v675 : Ref sig .tc := ⟨.hbm, 835, rfl⟩
abbrev main_v676 : Ref sig .tc := ⟨.hbm, 836, rfl⟩
abbrev main_v677 : Ref sig .tc := ⟨.hbm, 837, rfl⟩
abbrev main_v678 : Ref sig .tc := ⟨.hbm, 838, rfl⟩
abbrev main_v679 : Ref sig .tc := ⟨.hbm, 839, rfl⟩
abbrev main_v680 : Ref sig .tc := ⟨.hbm, 840, rfl⟩
abbrev main_v681 : Ref sig .tc := ⟨.hbm, 841, rfl⟩
abbrev main_v682 : Ref sig .tc := ⟨.hbm, 842, rfl⟩
abbrev main_v683 : Ref sig .tc := ⟨.hbm, 843, rfl⟩
abbrev main_v684 : Ref sig .tc := ⟨.hbm, 844, rfl⟩
abbrev main_v685 : Ref sig .tc := ⟨.hbm, 845, rfl⟩

abbrev nD : Nat := 1
abbrev τ : Topo := Topo.v7x

variable {F : FTy → Type} [FloatOps F]
-- ==== MixOut.lean ====
abbrev S4096x1024 : Shape := ⟨2, ![4096, 1024]⟩
abbrev S4096x7168 : Shape := ⟨2, ![4096, 7168]⟩
abbrev S1x1024 : Shape := ⟨2, ![1, 1024]⟩
abbrev S1x1024x1024 : Shape := ⟨3, ![1, 1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x1024 : Shape := ⟨2, ![1024, 1024]⟩
abbrev S4096x7x1024 : Shape := ⟨3, ![4096, 7, 1024]⟩
abbrev S7x4096x1024 : Shape := ⟨3, ![7, 4096, 1024]⟩
abbrev S1x512x1024 : Shape := ⟨3, ![1, 512, 1024]⟩
abbrev S512x1024 : Shape := ⟨2, ![512, 1024]⟩
abbrev S3x512x1024 : Shape := ⟨3, ![3, 512, 1024]⟩
abbrev S2x3 : Shape := ⟨2, ![2, 3]⟩
abbrev S1x1 : Shape := ⟨2, ![1, 1]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩

abbrev nBuf : Space → Nat
  | .hbm => 73
  | .vmem => 31
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x7168, .f32⟩
  | .hbm, ⟨4, _⟩ => ⟨S1x1024, .f32⟩
  | .hbm, ⟨5, _⟩ => ⟨S1x1024, .f32⟩
  | .hbm, ⟨6, _⟩ => ⟨S1x1024x1024, .f32⟩
  | .hbm, ⟨7, _⟩ => ⟨S1x1024x1024, .f32⟩
  | .hbm, ⟨8, _⟩ => ⟨S1x1024x1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S1024x1024, .f32⟩
  | .hbm, ⟨50, _⟩ => ⟨S4096x1024, .f32⟩
  | .hbm, ⟨51, _⟩ => ⟨S1024x1024, .f32⟩
  | .hbm, ⟨52, _⟩ => ⟨S4096x1024, .f32⟩
  | .hbm, ⟨53, _⟩ => ⟨S4096x7x1024, .f32⟩
  | .hbm, ⟨54, _⟩ => ⟨S7x4096x1024, .f32⟩
  | .hbm, ⟨55, _⟩ => ⟨S7x4096x1024, .bf16⟩
  | .hbm, ⟨56, _⟩ => ⟨S4096x1024, .bf16⟩
  | .hbm, ⟨57, _⟩ => ⟨S4096x1024, .bf16⟩
  | .hbm, ⟨58, _⟩ => ⟨S1024x1024, .f32⟩
  | .hbm, ⟨59, _⟩ => ⟨S1024x1024, .bf16⟩
  | .hbm, ⟨60, _⟩ => ⟨S1024x1024, .f32⟩
  | .hbm, ⟨61, _⟩ => ⟨S1024x1024, .bf16⟩
  | .hbm, ⟨62, _⟩ => ⟨S1024x1024, .f32⟩
  | .hbm, ⟨63, _⟩ => ⟨S1024x1024, .bf16⟩
  | .hbm, ⟨64, _⟩ => ⟨S4096x1024, .bf16⟩
  | .hbm, ⟨65, _⟩ => ⟨S4096x1024, .bf16⟩
  | .hbm, ⟨66, _⟩ => ⟨S4096x1024, .bf16⟩
  | .hbm, ⟨67, _⟩ => ⟨S4096x1024, .bf16⟩
  | .hbm, ⟨68, _⟩ => ⟨S4096x1024, .bf16⟩
  | .hbm, ⟨69, _⟩ => ⟨S4096x1024, .bf16⟩
  | .hbm, ⟨70, _⟩ => ⟨S4096x1024, .bf16⟩
  | .hbm, ⟨71, _⟩ => ⟨S1x1024, .f32⟩
  | .hbm, ⟨72, _⟩ => ⟨S1x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S1x1024, .f32⟩
  | .local _ .vmem, ⟨28, _⟩ => ⟨S1x1024, .f32⟩
  | .local _ .vmem, ⟨29, _⟩ => ⟨S3x512x1024, .f32⟩
  | .local _ .vmem, ⟨30, _⟩ => ⟨S3x512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42_0 : Ref sig .tc := ⟨.hbm, 64, rfl⟩
abbrev main_v42_1 : Ref sig .tc := ⟨.hbm, 65, rfl⟩
abbrev main_v42_2 : Ref sig .tc := ⟨.hbm, 66, rfl⟩
abbrev main_v42_3 : Ref sig .tc := ⟨.hbm, 67, rfl⟩
abbrev main_v42_4 : Ref sig .tc := ⟨.hbm, 68, rfl⟩
abbrev main_v42_5 : Ref sig .tc := ⟨.hbm, 69, rfl⟩
abbrev main_v42_6 : Ref sig .tc := ⟨.hbm, 70, rfl⟩
abbrev main_v42_7 : Ref sig .tc := ⟨.hbm, 71, rfl⟩
abbrev main_v42_8 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg17_0 : Ref sig .tc := ⟨.vmem, 28, rfl⟩
abbrev cc0_scratch0 : Ref sig .tc := ⟨.vmem, 29, rfl⟩
abbrev cc0_scratch1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem17_0 : DmaSem sig := 28

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (c0_i32_154 : BitVec 32) : Fin 2 → Nat :=
  let c0_i32_158 : BitVec 32 := 0#32
  let c3_i32_155 : BitVec 32 := 3#32
  let v259 : BitVec 32 := Scalar.remsi c0_i32_154 c3_i32_155
  ![0, v259.toNat]
def k0_off2 (c0_i32_154 : BitVec 32) : Fin 3 → Nat :=
  let c3_i32_155 : BitVec 32 := 3#32
  let v259 : BitVec 32 := Scalar.remsi c0_i32_154 c3_i32_155
  let c0_i32_159 : BitVec 32 := 0#32
  let c0_i32_160 : BitVec 32 := 0#32
  ![v259.toNat, 0, 0]
def k0_off3 (c0_i32_156 : BitVec 32) : Fin 2 → Nat :=
  let c512_i32_157 : BitVec 32 := 512#32
  let v260 : BitVec 32 := Scalar.muli c0_i32_156 c512_i32_157
  let c0_i32_161 : BitVec 32 := 0#32
  ![v260.toNat, 0]
def k0_off4 (c0_i32_154 : BitVec 32) : Fin 2 → Nat :=
  let c1_i32_162 : BitVec 32 := 1#32
  let c3_i32_155 : BitVec 32 := 3#32
  let v259 : BitVec 32 := Scalar.remsi c0_i32_154 c3_i32_155
  ![1, v259.toNat]
def k0_cond2 (i : grid0.Coords) : BitVec 1 :=
  let arg0 : BitVec 32 := BitVec.ofNat 32 (i 0).val
  let c2_i32 : BitVec 32 := 2#32
  let v3 : BitVec 32 := Scalar.addi arg0 c2_i32
  let c8_i32 : BitVec 32 := 8#32
  let v4 : BitVec 1 := Scalar.cmpi .slt v3 c8_i32
  let v5 : BitVec 32 := Scalar.extui v4
  let c0_i32_1 : BitVec 32 := 0#32
  let v6 : BitVec 1 := Scalar.cmpi .ne v5 c0_i32_1
  v6

def k0_off5 (i : grid0.Coords) : Fin 2 → Nat :=
  let c0_i32_151 : BitVec 32 := 0#32
  let arg0 : BitVec 32 := BitVec.ofNat 32 (i 0).val
  let c2_i32_148 : BitVec 32 := 2#32
  let v255 : BitVec 32 := Scalar.addi arg0 c2_i32_148
  let c3_i32_149 : BitVec 32 := 3#32
  let v256 : BitVec 32 := Scalar.remsi v255 c3_i32_149
  ![0, v256.toNat]
def k0_off6 (i : grid0.Coords) : Fin 3 → Nat :=
  let arg0 : BitVec 32 := BitVec.ofNat 32 (i 0).val
  let c2_i32_148 : BitVec 32 := 2#32
  let v255 : BitVec 32 := Scalar.addi arg0 c2_i32_148
  let c3_i32_149 : BitVec 32 := 3#32
  let v256 : BitVec 32 := Scalar.remsi v255 c3_i32_149
  let c0_i32_152 : BitVec 32 := 0#32
  let c0_i32_153 : BitVec 32 := 0#32
  ![v256.toNat, 0, 0]
def k0_off7 (i : grid0.Coords) : Fin 2 → Nat :=
  let arg0 : BitVec 32 := BitVec.ofNat 32 (i 0).val
  let c2_i32_148 : BitVec 32 := 2#32
  let v255 : BitVec 32 := Scalar.addi arg0 c2_i32_148
  let c512_i32_150 : BitVec 32 := 512#32
  let v257 : BitVec 32 := Scalar.muli v255 c512_i32_150
  let c0_i32_154 : BitVec 32 := 0#32
  ![v257.toNat, 0]
def k0_off8 (i : grid0.Coords) : Fin 2 → Nat :=
  let c1_i32_155 : BitVec 32 := 1#32
  let arg0 : BitVec 32 := BitVec.ofNat 32 (i 0).val
  let c2_i32_148 : BitVec 32 := 2#32
  let v255 : BitVec 32 := Scalar.addi arg0 c2_i32_148
  let c3_i32_149 : BitVec 32 := 3#32
  let v256 : BitVec 32 := Scalar.remsi v255 c3_i32_149
  ![1, v256.toNat]
def k0_off9 (i : grid0.Coords) : Fin 2 → Nat :=
  let c0_i32_2 : BitVec 32 := 0#32
  let arg0 : BitVec 32 := BitVec.ofNat 32 (i 0).val
  let c3_i32 : BitVec 32 := 3#32
  let v7 : BitVec 32 := Scalar.remsi arg0 c3_i32
  ![0, v7.toNat]
def k0_off10 (i : grid0.Coords) : Fin 3 → Nat :=
  let arg0 : BitVec 32 := BitVec.ofNat 32 (i 0).val
  let c3_i32 : BitVec 32 := 3#32
  let v7 : BitVec 32 := Scalar.remsi arg0 c3_i32
  let c0_i32_3 : BitVec 32 := 0#32
  let c0_i32_4 : BitVec 32 := 0#32
  ![v7.toNat, 0, 0]
def k0_off11 (i : grid0.Coords) : Fin 2 → Nat :=
  let arg0 : BitVec 32 := BitVec.ofNat 32 (i 0).val
  let c512_i32 : BitVec 32 := 512#32
  let v8 : BitVec 32 := Scalar.muli arg0 c512_i32
  let c0_i32_5 : BitVec 32 := 0#32
  ![v8.toNat, 0]
def k0_off12 (i : grid0.Coords) : Fin 2 → Nat :=
  let c1_i32 : BitVec 32 := 1#32
  let arg0 : BitVec 32 := BitVec.ofNat 32 (i 0).val
  let c3_i32 : BitVec 32 := 3#32
  let v7 : BitVec 32 := Scalar.remsi arg0 c3_i32
  ![1, v7.toNat]
def cc0_transform_2 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_3 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== MixOutRefIdeal.lean ====
abbrev S4096x1024 : Shape := ⟨2, ![4096, 1024]⟩
abbrev S4096x7168 : Shape := ⟨2, ![4096, 7168]⟩
abbrev S1x1024 : Shape := ⟨2, ![1, 1024]⟩
abbrev S1x1024x1024 : Shape := ⟨3, ![1, 1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x1024 : Shape := ⟨2, ![1024, 1024]⟩

abbrev nBuf : Space → Nat
  | .hbm => 166
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x7168, .f32⟩
  | 4 => ⟨S1x1024, .f32⟩
  | 5 => ⟨S1x1024, .f32⟩
  | 6 => ⟨S1x1024x1024, .f32⟩
  | 7 => ⟨S1x1024x1024, .f32⟩
  | 8 => ⟨S1x1024x1024, .f32⟩
  | 9 => ⟨S4096x1024, .f32⟩
  | 10 => ⟨S4096x1024, .f32⟩
  | 11 => ⟨S4096x1024, .f32⟩
  | 12 => ⟨S4096x1024, .f32⟩
  | 13 => ⟨S4096x1024, .f32⟩
  | 14 => ⟨S4096x1024, .f32⟩
  | 15 => ⟨S4096x1024, .f32⟩
  | 16 => ⟨S1024, .f32⟩
  | 17 => ⟨S1024, .f32⟩
  | 18 => ⟨S_, .f32⟩
  | 19 => ⟨S4096, .f32⟩
  | 20 => ⟨S4096x1, .f32⟩
  | 21 => ⟨S_, .f32⟩
  | 22 => ⟨S4096x1, .f32⟩
  | 23 => ⟨S4096x1, .f32⟩
  | 24 => ⟨S4096x1024, .f32⟩
  | 25 => ⟨S4096x1024, .f32⟩
  | 26 => ⟨S4096x1024, .f32⟩
  | 27 => ⟨S_, .f32⟩
  | 28 => ⟨S4096x1024, .f32⟩
  | 29 => ⟨S4096x1024, .f32⟩
  | 30 => ⟨S_, .f32⟩
  | 31 => ⟨S4096, .f32⟩
  | 32 => ⟨S4096x1, .f32⟩
  | 33 => ⟨S_, .f32⟩
  | 34 => ⟨S4096x1, .f32⟩
  | 35 => ⟨S4096x1, .f32⟩
  | 36 => ⟨S4096x1024, .f32⟩
  | 37 => ⟨S4096x1024, .f32⟩
  | 38 => ⟨S_, .f32⟩
  | 39 => ⟨S4096x1, .f32⟩
  | 40 => ⟨S4096x1, .f32⟩
  | 41 => ⟨S4096x1, .f32⟩
  | 42 => ⟨S4096x1, .f32⟩
  | 43 => ⟨S_, .f32⟩
  | 44 => ⟨S4096x1, .f32⟩
  | 45 => ⟨S4096x1, .f32⟩
  | 46 => ⟨S4096x1024, .f32⟩
  | 47 => ⟨S4096x1024, .f32⟩
  | 48 => ⟨S1x1024, .f32⟩
  | 49 => ⟨S4096x1024, .f32⟩
  | 50 => ⟨S4096x1024, .f32⟩
  | 51 => ⟨S1x1024, .f32⟩
  | 52 => ⟨S4096x1024, .f32⟩
  | 53 => ⟨S4096x1024, .f32⟩
  | 54 => ⟨S4096x1024, .f32⟩
  | 55 => ⟨S4096x1024, .f32⟩
  | 56 => ⟨S_, .f32⟩
  | 57 => ⟨S4096x1024, .f32⟩
  | 58 => ⟨S4096x1024, .f32⟩
  | 59 => ⟨S_, .f32⟩
  | 60 => ⟨S4096x1024, .f32⟩
  | 61 => ⟨S4096x1024, .f32⟩
  | 62 => ⟨S_, .f32⟩
  | 63 => ⟨S4096x1024, .f32⟩
  | 64 => ⟨S4096x1024, .f32⟩
  | 65 => ⟨S4096x1024, .f32⟩
  | 66 => ⟨S4096x1024, .f32⟩
  | 67 => ⟨S1024x1024, .f32⟩
  | 68 => ⟨S4096x1024, .f32⟩
  | 69 => ⟨S1024x1024, .f32⟩
  | 70 => ⟨S4096x1024, .f32⟩
  | 71 => ⟨S4096x1024, .f32⟩
  | 72 => ⟨S4096x1024, .f32⟩
  | 73 => ⟨S_, .f32⟩
  | 74 => ⟨S4096x1024, .f32⟩
  | 75 => ⟨S4096x1024, .f32⟩
  | 76 => ⟨S_, .f32⟩
  | 77 => ⟨S4096x1024, .f32⟩
  | 78 => ⟨S4096x1024, .f32⟩
  | 79 => ⟨S_, .f32⟩
  | 80 => ⟨S4096x1024, .f32⟩
  | 81 => ⟨S4096x1024, .f32⟩
  | 82 => ⟨S4096x1024, .f32⟩
  | 83 => ⟨S4096x1024, .f32⟩
  | 84 => ⟨S4096x1024, .f32⟩
  | 85 => ⟨S4096x1024, .f32⟩
  | 86 => ⟨S_, .f32⟩
  | 87 => ⟨S4096x1024, .f32⟩
  | 88 => ⟨S4096x1024, .f32⟩
  | 89 => ⟨S_, .f32⟩
  | 90 => ⟨S4096x1024, .f32⟩
  | 91 => ⟨S4096x1024, .f32⟩
  | 92 => ⟨S_, .f32⟩
  | 93 => ⟨S4096x1024, .f32⟩
  | 94 => ⟨S4096x1024, .f32⟩
  | 95 => ⟨S4096x1024, .f32⟩
  | 96 => ⟨S4096x1024, .f32⟩
  | 97 => ⟨S4096x1024, .f32⟩
  | 98 => ⟨S1024x1024, .f32⟩
  | 99 => ⟨S4096x1024, .f32⟩
  | 100 => ⟨S4096x1024, .f32⟩
  | 101 => ⟨S4096x1024, .f32⟩
  | 102 => ⟨S4096x1024, .f32⟩
  | 103 => ⟨S4096x1024, .f32⟩
  | 104 => ⟨S4096x1024, .f32⟩
  | 105 => ⟨S4096x1024, .f32⟩
  | 106 => ⟨S4096x1024, .f32⟩
  | 107 => ⟨S4096x1024, .f32⟩
  | 108 => ⟨S4096x1024, .f32⟩
  | 109 => ⟨S4096x1024, .f32⟩
  | 110 => ⟨S4096x1024, .f32⟩
  | 111 => ⟨S4096x1024, .f32⟩
  | 112 => ⟨S4096x1024, .f32⟩
  | 113 => ⟨S_, .f32⟩
  | 114 => ⟨S1024, .f32⟩
  | 115 => ⟨S1x1024, .f32⟩
  | 116 => ⟨S_, .f32⟩
  | 117 => ⟨S1024, .f32⟩
  | 118 => ⟨S4096x1024, .f32⟩
  | 119 => ⟨S_, .f32⟩
  | 120 => ⟨S1024, .f32⟩
  | 121 => ⟨S1x1024, .f32⟩
  | 122 => ⟨S4096x1024, .f32⟩
  | 123 => ⟨S4096x1024, .f32⟩
  | 124 => ⟨S_, .f32⟩
  | 125 => ⟨S1024, .f32⟩
  | 126 => ⟨S4096x1024, .f32⟩
  | 127 => ⟨S_, .f32⟩
  | _ => ⟨S4096x1024, .f32⟩

abbrev hbmTy0_1 (i : Nat) : BufTy := match i % 128 with
  | 0 => ⟨S4096, .f32⟩
  | 1 => ⟨S4096x1, .f32⟩
  | 2 => ⟨S4096x1024, .f32⟩
  | 3 => ⟨S4096x1024, .f32⟩
  | 4 => ⟨S4096x1, .f32⟩
  | 5 => ⟨S4096x1024, .f32⟩
  | 6 => ⟨S_, .f32⟩
  | 7 => ⟨S4096, .f32⟩
  | 8 => ⟨S4096x1, .f32⟩
  | 9 => ⟨S_, .f32⟩
  | 10 => ⟨S4096x1, .f32⟩
  | 11 => ⟨S4096x1, .f32⟩
  | 12 => ⟨S_, .f32⟩
  | 13 => ⟨S4096, .f32⟩
  | 14 => ⟨S4096x1024, .f32⟩
  | 15 => ⟨S4096x1024, .f32⟩
  | 16 => ⟨S4096x1024, .f32⟩
  | 17 => ⟨S_, .f32⟩
  | 18 => ⟨S4096, .f32⟩
  | 19 => ⟨S4096x1, .f32⟩
  | 20 => ⟨S4096x1024, .f32⟩
  | 21 => ⟨S4096x1, .f32⟩
  | 22 => ⟨S_, .f32⟩
  | 23 => ⟨S4096x1, .f32⟩
  | 24 => ⟨S4096x1, .f32⟩
  | 25 => ⟨S_, .f32⟩
  | 26 => ⟨S4096, .f32⟩
  | 27 => ⟨S4096x1024, .f32⟩
  | 28 => ⟨S4096x1024, .f32⟩
  | 29 => ⟨S1x1024, .f32⟩
  | 30 => ⟨S1x1024, .f32⟩
  | 31 => ⟨S4096x1024, .bf16⟩
  | 32 => ⟨S4096x1024, .bf16⟩
  | 33 => ⟨S4096x1024, .bf16⟩
  | 34 => ⟨S4096x1024, .bf16⟩
  | 35 => ⟨S4096x1024, .bf16⟩
  | 36 => ⟨S4096x1024, .bf16⟩
  | 37 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_v38_2 : Ref sig .tc := ⟨.hbm, 61, rfl⟩
abbrev main_call0_cst_1 : Ref sig .tc := ⟨.hbm, 62, rfl⟩
abbrev main_call0_v6 : Ref sig .tc := ⟨.hbm, 63, rfl⟩
abbrev main_call0_v7 : Ref sig .tc := ⟨.hbm, 64, rfl⟩
abbrev main_v38_1 : Ref sig .tc := ⟨.hbm, 65, rfl⟩
abbrev main_v38_0 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_6 : Ref sig .tc := ⟨.hbm, 73, rfl⟩
abbrev main_v45 : Ref sig .tc := ⟨.hbm, 74, rfl⟩
abbrev main_v46 : Ref sig .tc := ⟨.hbm, 75, rfl⟩
abbrev main_cst_7 : Ref sig .tc := ⟨.hbm, 76, rfl⟩
abbrev main_v47 : Ref sig .tc := ⟨.hbm, 77, rfl⟩
abbrev main_v48 : Ref sig .tc := ⟨.hbm, 78, rfl⟩
abbrev main_cst_8 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_9 : Ref sig .tc := ⟨.hbm, 86, rfl⟩
abbrev main_v55 : Ref sig .tc := ⟨.hbm, 87, rfl⟩
abbrev main_v56 : Ref sig .tc := ⟨.hbm, 88, rfl⟩
abbrev main_cst_10 : Ref sig .tc := ⟨.hbm, 89, rfl⟩
abbrev main_v57 : Ref sig .tc := ⟨.hbm, 90, rfl⟩
abbrev main_v58 : Ref sig .tc := ⟨.hbm, 91, rfl⟩
abbrev main_cst_11 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_call1_v0 : Ref sig .tc := ⟨.hbm, 109, rfl⟩
abbrev main_call1_v1 : Ref sig .tc := ⟨.hbm, 110, rfl⟩
abbrev main_call1_v2 : Ref sig .tc := ⟨.hbm, 111, rfl⟩
abbrev main_v75 : Ref sig .tc := ⟨.hbm, 112, rfl⟩
abbrev main_cst_12 : Ref sig .tc := ⟨.hbm, 113, rfl⟩
abbrev main_v76 : Ref sig .tc := ⟨.hbm, 114, rfl⟩
abbrev main_v77 : Ref sig .tc := ⟨.hbm, 115, rfl⟩
abbrev main_cst_13 : Ref sig .tc := ⟨.hbm, 116, rfl⟩
abbrev main_v78 : Ref sig .tc := ⟨.hbm, 117, rfl⟩
abbrev main_v79 : Ref sig .tc := ⟨.hbm, 118, rfl⟩
abbrev main_cst_14 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_15 : Ref sig .tc := ⟨.hbm, 124, rfl⟩
abbrev main_v84 : Ref sig .tc := ⟨.hbm, 125, rfl⟩
abbrev main_v85 : Ref sig .tc := ⟨.hbm, 126, rfl⟩
abbrev main_cst_16 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_cst_17 : Ref sig .tc := ⟨.hbm, 134, rfl⟩
abbrev main_v92 : Ref sig .tc := ⟨.hbm, 135, rfl⟩
abbrev main_v93 : Ref sig .tc := ⟨.hbm, 136, rfl⟩
abbrev main_cst_18 : Ref sig .tc := ⟨.hbm, 137, rfl⟩
abbrev main_v94 : Ref sig .tc := ⟨.hbm, 138, rfl⟩
abbrev main_v95 : Ref sig .tc := ⟨.hbm, 139, rfl⟩
abbrev main_cst_19 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_20 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_cst_21 : Ref sig .tc := ⟨.hbm, 150, rfl⟩
abbrev main_v104 : Ref sig .tc := ⟨.hbm, 151, rfl⟩
abbrev main_v105 : Ref sig .tc := ⟨.hbm, 152, rfl⟩
abbrev main_cst_22 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩

abbrev nD : Nat := 1
abbrev τ : Topo := Topo.v7x

variable {F : FTy → Type} [FloatOps F]
-- ==== ConvFwd.lean ====
abbrev S4096x7168 : Shape := ⟨2, ![4096, 7168]⟩
abbrev S1x31x1024 : Shape := ⟨3, ![1, 31, 1024]⟩
abbrev S1x1024 : Shape := ⟨2, ![1, 1024]⟩
abbrev S1x3x1024 : Shape := ⟨3, ![1, 3, 1024]⟩
abbrev S31x1024 : Shape := ⟨2, ![31, 1024]⟩
abbrev S31x4x256 : Shape := ⟨3, ![31, 4, 256]⟩
abbrev S4x31x256 : Shape := ⟨3, ![4, 31, 256]⟩
abbrev S3x1024 : Shape := ⟨2, ![3, 1024]⟩
abbrev S3x4x256 : Shape := ⟨3, ![3, 4, 256]⟩
abbrev S4x3x256 : Shape := ⟨3, ![4, 3, 256]⟩
abbrev S4096x7x1024 : Shape := ⟨3, ![4096, 7, 1024]⟩
abbrev S7x4096x1024 : Shape := ⟨3, ![7, 4096, 1024]⟩
abbrev S4096x1024 : Shape := ⟨2, ![4096, 1024]⟩
abbrev S5x1024x256 : Shape := ⟨3, ![5, 1024, 256]⟩
abbrev S5x32x256 : Shape := ⟨3, ![5, 32, 256]⟩
abbrev S1x31x256 : Shape := ⟨3, ![1, 31, 256]⟩
abbrev S1x256 : Shape := ⟨2, ![1, 256]⟩
abbrev S1x3x256 : Shape := ⟨3, ![1, 3, 256]⟩
abbrev S1024x256 : Shape := ⟨2, ![1024, 256]⟩
abbrev S8x1056x256 : Shape := ⟨3, ![8, 1056, 256]⟩
abbrev S1056x256 : Shape := ⟨2, ![1056, 256]⟩
abbrev S1x1024x256 : Shape := ⟨3, ![1, 1024, 256]⟩
abbrev S1x32x256 : Shape := ⟨3, ![1, 32, 256]⟩
abbrev S32x256 : Shape := ⟨2, ![32, 256]⟩
abbrev S1x1048x256 : Shape := ⟨3, ![1, 1048, 256]⟩
abbrev S1048x256 : Shape := ⟨2, ![1048, 256]⟩
abbrev S1x1x256 : Shape := ⟨3, ![1, 1, 256]⟩
abbrev S64x256 : Shape := ⟨2, ![64, 256]⟩
abbrev S1x64x256 : Shape := ⟨3, ![1, 64, 256]⟩

abbrev nBuf : Space → Nat
  | .hbm => 15
  | .vmem => 16
  | .smem => 0
  | _ => 0

abbrev bufTy : (tb : Table) → Fin (tcTables nBuf tb) → BufTy
  | .hbm, ⟨0, _⟩ => ⟨S4096x7168, .f32⟩
  | .hbm, ⟨1, _⟩ => ⟨S1x31x1024, .f32⟩
  | .hbm, ⟨2, _⟩ => ⟨S1x1024, .f32⟩
  | .hbm, ⟨3, _⟩ => ⟨S1x3x1024, .f32⟩
  | .hbm, ⟨4, _⟩ => ⟨S31x1024, .f32⟩
  | .hbm, ⟨5, _⟩ => ⟨S31x4x256, .f32⟩
  | .hbm, ⟨6, _⟩ => ⟨S4x31x256, .f32⟩
  | .hbm, ⟨7, _⟩ => ⟨S3x1024, .f32⟩
  | .hbm, ⟨8, _⟩ => ⟨S3x4x256, .f32⟩
  | .hbm, ⟨9, _⟩ => ⟨S4x3x256, .f32⟩
  | .hbm, ⟨10, _⟩ => ⟨S4096x7x1024, .f32⟩
  | .hbm, ⟨11, _⟩ => ⟨S7x4096x1024, .f32⟩
  | .hbm, ⟨12, _⟩ => ⟨S7x4096x1024, .bf16⟩
  | .hbm, ⟨13, _⟩ => ⟨S4096x1024, .f32⟩
  | .hbm, ⟨14, _⟩ => ⟨S4096x1024, .bf16⟩
  | .local _ .vmem, ⟨0, _⟩ => ⟨S5x1024x256, .bf16⟩
  | .local _ .vmem, ⟨1, _⟩ => ⟨S5x1024x256, .bf16⟩
  | .local _ .vmem, ⟨2, _⟩ => ⟨S5x32x256, .bf16⟩
  | .local _ .vmem, ⟨3, _⟩ => ⟨S5x32x256, .bf16⟩
  | .local _ .vmem, ⟨4, _⟩ => ⟨S1x31x256, .f32⟩
  | .local _ .vmem, ⟨5, _⟩ => ⟨S1x31x256, .f32⟩
  | .local _ .vmem, ⟨6, _⟩ => ⟨S1x256, .f32⟩
  | .local _ .vmem, ⟨7, _⟩ => ⟨S1x256, .f32⟩
  | .local _ .vmem, ⟨8, _⟩ => ⟨S1x3x256, .f32⟩
  | .local _ .vmem, ⟨9, _⟩ => ⟨S1x3x256, .f32⟩
  | .local _ .vmem, ⟨10, _⟩ => ⟨S1024x256, .f32⟩
  | .local _ .vmem, ⟨11, _⟩ => ⟨S1024x256, .f32⟩
  | .local _ .vmem, ⟨12, _⟩ => ⟨S1024x256, .bf16⟩
  | .local _ .vmem, ⟨13, _⟩ => ⟨S1024x256, .bf16⟩
  | .local _ .vmem, ⟨14, _⟩ => ⟨S8x1056x256, .f32⟩
  | .local _ .vmem, ⟨15, _⟩ => ⟨S1056x256, .f32⟩
  | _, _ => ⟨S4096x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S5x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5x32x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x31x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ConvFwdRefIdeal.lean ====
abbrev S4096x7168 : Shape := ⟨2, ![4096, 7168]⟩
abbrev S1x31x1024 : Shape := ⟨3, ![1, 31, 1024]⟩
abbrev S1x1024 : Shape := ⟨2, ![1, 1024]⟩
abbrev S1x3x1024 : Shape := ⟨3, ![1, 3, 1024]⟩
abbrev S4096x1024 : Shape := ⟨2, ![4096, 1024]⟩
abbrev S_ : Shape := ⟨0, ![]⟩
abbrev S31x1024 : Shape := ⟨2, ![31, 1024]⟩
abbrev S30x1024 : Shape := ⟨2, ![30, 1024]⟩
abbrev S4126x1024 : Shape := ⟨2, ![4126, 1024]⟩
abbrev S1024 : Shape := ⟨1, ![1024]⟩
abbrev S3x1024 : Shape := ⟨2, ![3, 1024]⟩
abbrev S2x1024 : Shape := ⟨2, ![2, 1024]⟩
abbrev S4098x1024 : Shape := ⟨2, ![4098, 1024]⟩

abbrev nBuf : Space → Nat
  | .hbm => 277
  | .vmem => 0
  | .smem => 0
  | _ => 0

abbrev hbmTy0_0 (i : Nat) : BufTy := match i % 128 with
  | 0 => ⟨S4096x7168, .f32⟩
  | 1 => ⟨S1x31x1024, .f32⟩
  | 2 => ⟨S1x1024, .f32⟩
  | 3 => ⟨S1x3x1024, .f32⟩
  | 4 => ⟨S4096x1024, .f32⟩
  | 5 => ⟨S4096x1024, .f32⟩
  | 6 => ⟨S4096x1024, .f32⟩
  | 7 => ⟨S4096x1024, .f32⟩
  | 8 => ⟨S4096x1024, .f32⟩
  | 9 => ⟨S4096x1024, .f32⟩
  | 10 => ⟨S4096x1024, .f32⟩
  | 11 => ⟨S4096x1024, .f32⟩
  | 12 => ⟨S4096x1024, .f32⟩
  | 13 => ⟨S_, .f32⟩
  | 14 => ⟨S4096x1024, .f32⟩
  | 15 => ⟨S4096x1024, .f32⟩
  | 16 => ⟨S_, .f32⟩
  | 17 => ⟨S4096x1024, .f32⟩
  | 18 => ⟨S4096x1024, .f32⟩
  | 19 => ⟨S4096x1024, .f32⟩
  | 20 => ⟨S31x1024, .f32⟩
  | 21 => ⟨S_, .f32⟩
  | 22 => ⟨S30x1024, .f32⟩
  | 23 => ⟨S4126x1024, .f32⟩
  | 24 => ⟨S1x1024, .f32⟩
  | 25 => ⟨S1024, .f32⟩
  | 26 => ⟨S4096x1024, .f32⟩
  | 27 => ⟨S1x1024, .f32⟩
  | 28 => ⟨S4096x1024, .f32⟩
  | 29 => ⟨S4096x1024, .f32⟩
  | 30 => ⟨S_, .f32⟩
  | 31 => ⟨S4096x1024, .f32⟩
  | 32 => ⟨S4096x1024, .f32⟩
  | 33 => ⟨S1x1024, .f32⟩
  | 34 => ⟨S1024, .f32⟩
  | 35 => ⟨S4096x1024, .f32⟩
  | 36 => ⟨S1x1024, .f32⟩
  | 37 => ⟨S4096x1024, .f32⟩
  | 38 => ⟨S4096x1024, .f32⟩
  | 39 => ⟨S4096x1024, .f32⟩
  | 40 => ⟨S1x1024, .f32⟩
  | 41 => ⟨S1024, .f32⟩
  | 42 => ⟨S4096x1024, .f32⟩
  | 43 => ⟨S1x1024, .f32⟩
  | 44 => ⟨S4096x1024, .f32⟩
  | 45 => ⟨S4096x1024, .f32⟩
  | 46 => ⟨S4096x1024, .f32⟩
  | 47 => ⟨S1x1024, .f32⟩
  | 48 => ⟨S1024, .f32⟩
  | 49 => ⟨S4096x1024, .f32⟩
  | 50 => ⟨S1x1024, .f32⟩
  | 51 => ⟨S4096x1024, .f32⟩
  | 52 => ⟨S4096x1024, .f32⟩
  | 53 => ⟨S4096x1024, .f32⟩
  | 54 => ⟨S1x1024, .f32⟩
  | 55 => ⟨S1024, .f32⟩
  | 56 => ⟨S4096x1024, .f32⟩
  | 57 => ⟨S1x1024, .f32⟩
  | 58 => ⟨S4096x1024, .f32⟩
  | 59 => ⟨S4096x1024, .f32⟩
  | 60 => ⟨S4096x1024, .f32⟩
  | 61 => ⟨S1x1024, .f32⟩
  | 62 => ⟨S1024, .f32⟩
  | 63 => ⟨S4096x1024, .f32⟩
  | 64 => ⟨S1x1024, .f32⟩
  | 65 => ⟨S4096x1024, .f32⟩
  | 66 => ⟨S4096x1024, .f32⟩
  | 67 => ⟨S4096x1024, .f32⟩
  | 68 => ⟨S1x1024, .f32⟩
  | 69 => ⟨S1024, .f32⟩
  | 70 => ⟨S4096x1024, .f32⟩
  | 71 => ⟨S1x1024, .f32⟩
  | 72 => ⟨S4096x1024, .f32⟩
  | 73 => ⟨S4096x1024, .f32⟩
  | 74 => ⟨S4096x1024, .f32⟩
  | 75 => ⟨S1x1024, .f32⟩
  | 76 => ⟨S1024, .f32⟩
  | 77 => ⟨S4096x1024, .f32⟩
  | 78 => ⟨S1x1024, .f32⟩
  | 79 => ⟨S4096x1024, .f32⟩
  | 80 => ⟨S4096x1024, .f32⟩
  | 81 => ⟨S4096x1024, .f32⟩
  | 82 => ⟨S1x1024, .f32⟩
  | 83 => ⟨S1024, .f32⟩
  | 84 => ⟨S4096x1024, .f32⟩
  | 85 => ⟨S1x1024, .f32⟩
  | 86 => ⟨S4096x1024, .f32⟩
  | 87 => ⟨S4096x1024, .f32⟩
  | 88 => ⟨S4096x1024, .f32⟩
  | 89 => ⟨S1x1024, .f32⟩
  | 90 => ⟨S1024, .f32⟩
  | 91 => ⟨S4096x1024, .f32⟩
  | 92 => ⟨S1x1024, .f32⟩
  | 93 => ⟨S4096x1024, .f32⟩
  | 94 => ⟨S4096x1024, .f32⟩
  | 95 => ⟨S4096x1024, .f32⟩
  | 96 => ⟨S1x1024, .f32⟩
  | 97 => ⟨S1024, .f32⟩
  | 98 => ⟨S4096x1024, .f32⟩
  | 99 => ⟨S1x1024, .f32⟩
  | 100 => ⟨S4096x1024, .f32⟩
  | 101 => ⟨S4096x1024, .f32⟩
  | 102 => ⟨S4096x1024, .f32⟩
  | 103 => ⟨S1x1024, .f32⟩
  | 104 => ⟨S1024, .f32⟩
  | 105 => ⟨S4096x1024, .f32⟩
  | 106 => ⟨S1x1024, .f32⟩
  | 107 => ⟨S4096x1024, .f32⟩
  | 108 => ⟨S4096x1024, .f32⟩
  | 109 => ⟨S4096x1024, .f32⟩
  | 110 => ⟨S1x1024, .f32⟩
  | 111 => ⟨S1024, .f32⟩
  | 112 => ⟨S4096x1024, .f32⟩
  | 113 => ⟨S1x1024, .f32⟩
  | 114 => ⟨S4096x1024, .f32⟩
  | 115 => ⟨S4096x1024, .f32⟩
  | 116 => ⟨S4096x1024, .f32⟩
  | 117 => ⟨S1x1024, .f32⟩
  | 118 => ⟨S1024, .f32⟩
  | 119 => ⟨S4096x1024, .f32⟩
  | 120 => ⟨S1x1024, .f32⟩
  | 121 => ⟨S4096x1024, .f32⟩
  | 122 => ⟨S4096x1024, .f32⟩
  | 123 => ⟨S4096x1024, .f32⟩
  | 124 => ⟨S1x1024, .f32⟩
  | 125 => ⟨S1024, .f32⟩
  | 126 => ⟨S4096x1024, .f32⟩
  | 127 => ⟨S1x1024, .f32⟩
  | _ => ⟨S4096x7168, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S1x1024, .f32⟩
  | 4 => ⟨S1024, .f32⟩
  | 5 => ⟨S4096x1024, .f32⟩
  | 6 => ⟨S1x1024, .f32⟩
  | 7 => ⟨S4096x1024, .f32⟩
  | 8 => ⟨S4096x1024, .f32⟩
  | 9 => ⟨S4096x1024, .f32⟩
  | 10 => ⟨S1x1024, .f32⟩
  | 11 => ⟨S1024, .f32⟩
  | 12 => ⟨S4096x1024, .f32⟩
  | 13 => ⟨S1x1024, .f32⟩
  | 14 => ⟨S4096x1024, .f32⟩
  | 15 => ⟨S4096x1024, .f32⟩
  | 16 => ⟨S4096x1024, .f32⟩
  | 17 => ⟨S1x1024, .f32⟩
  | 18 => ⟨S1024, .f32⟩
  | 19 => ⟨S4096x1024, .f32⟩
  | 20 => ⟨S1x1024, .f32⟩
  | 21 => ⟨S4096x1024, .f32⟩
  | 22 => ⟨S4096x1024, .f32⟩
  | 23 => ⟨S4096x1024, .f32⟩
  | 24 => ⟨S1x1024, .f32⟩
  | 25 => ⟨S1024, .f32⟩
  | 26 => ⟨S4096x1024, .f32⟩
  | 27 => ⟨S1x1024, .f32⟩
  | 28 => ⟨S4096x1024, .f32⟩
  | 29 => ⟨S4096x1024, .f32⟩
  | 30 => ⟨S4096x1024, .f32⟩
  | 31 => ⟨S1x1024, .f32⟩
  | 32 => ⟨S1024, .f32⟩
  | 33 => ⟨S4096x1024, .f32⟩
  | 34 => ⟨S1x1024, .f32⟩
  | 35 => ⟨S4096x1024, .f32⟩
  | 36 => ⟨S4096x1024, .f32⟩
  | 37 => ⟨S4096x1024, .f32⟩
  | 38 => ⟨S1x1024, .f32⟩
  | 39 => ⟨S1024, .f32⟩
  | 40 => ⟨S4096x1024, .f32⟩
  | 41 => ⟨S1x1024, .f32⟩
  | 42 => ⟨S4096x1024, .f32⟩
  | 43 => ⟨S4096x1024, .f32⟩
  | 44 => ⟨S4096x1024, .f32⟩
  | 45 => ⟨S1x1024, .f32⟩
  | 46 => ⟨S1024, .f32⟩
  | 47 => ⟨S4096x1024, .f32⟩
  | 48 => ⟨S1x1024, .f32⟩
  | 49 => ⟨S4096x1024, .f32⟩
  | 50 => ⟨S4096x1024, .f32⟩
  | 51 => ⟨S4096x1024, .f32⟩
  | 52 => ⟨S1x1024, .f32⟩
  | 53 => ⟨S1024, .f32⟩
  | 54 => ⟨S4096x1024, .f32⟩
  | 55 => ⟨S1x1024, .f32⟩
  | 56 => ⟨S4096x1024, .f32⟩
  | 57 => ⟨S4096x1024, .f32⟩
  | 58 => ⟨S4096x1024, .f32⟩
  | 59 => ⟨S1x1024, .f32⟩
  | 60 => ⟨S1024, .f32⟩
  | 61 => ⟨S4096x1024, .f32⟩
  | 62 => ⟨S1x1024, .f32⟩
  | 63 => ⟨S4096x1024, .f32⟩
  | 64 => ⟨S4096x1024, .f32⟩
  | 65 => ⟨S4096x1024, .f32⟩
  | 66 => ⟨S1x1024, .f32⟩
  | 67 => ⟨S1024, .f32⟩
  | 68 => ⟨S4096x1024, .f32⟩
  | 69 => ⟨S1x1024, .f32⟩
  | 70 => ⟨S4096x1024, .f32⟩
  | 71 => ⟨S4096x1024, .f32⟩
  | 72 => ⟨S4096x1024, .f32⟩
  | 73 => ⟨S1x1024, .f32⟩
  | 74 => ⟨S1024, .f32⟩
  | 75 => ⟨S4096x1024, .f32⟩
  | 76 => ⟨S1x1024, .f32⟩
  | 77 => ⟨S4096x1024, .f32⟩
  | 78 => ⟨S4096x1024, .f32⟩
  | 79 => ⟨S4096x1024, .f32⟩
  | 80 => ⟨S1x1024, .f32⟩
  | 81 => ⟨S1024, .f32⟩
  | 82 => ⟨S4096x1024, .f32⟩
  | 83 => ⟨S1x1024, .f32⟩
  | 84 => ⟨S4096x1024, .f32⟩
  | 85 => ⟨S4096x1024, .f32⟩
  | 86 => ⟨S4096x1024, .f32⟩
  | 87 => ⟨S1x1024, .f32⟩
  | 88 => ⟨S1024, .f32⟩
  | 89 => ⟨S4096x1024, .f32⟩
  | 90 => ⟨S1x1024, .f32⟩
  | 91 => ⟨S4096x1024, .f32⟩
  | 92 => ⟨S4096x1024, .f32⟩
  | 93 => ⟨S4096x1024, .f32⟩
  | 94 => ⟨S1x1024, .f32⟩
  | 95 => ⟨S1024, .f32⟩
  | 96 => ⟨S4096x1024, .f32⟩
  | 97 => ⟨S1x1024, .f32⟩
  | 98 => ⟨S4096x1024, .f32⟩
  | 99 => ⟨S4096x1024, .f32⟩
  | 100 => ⟨S4096x1024, .f32⟩
  | 101 => ⟨S1x1024, .f32⟩
  | 102 => ⟨S1024, .f32⟩
  | 103 => ⟨S4096x1024, .f32⟩
  | 104 => ⟨S1x1024, .f32⟩
  | 105 => ⟨S4096x1024, .f32⟩
  | 106 => ⟨S4096x1024, .f32⟩
  | 107 => ⟨S4096x1024, .f32⟩
  | 108 => ⟨S1x1024, .f32⟩
  | 109 => ⟨S1024, .f32⟩
  | 110 => ⟨S4096x1024, .f32⟩
  | 111 => ⟨S1x1024, .f32⟩
  | 112 => ⟨S4096x1024, .f32⟩
  | 113 => ⟨S4096x1024, .f32⟩
  | 114 => ⟨S4096x1024, .f32⟩
  | 115 => ⟨S1024, .f32⟩
  | 116 => ⟨S1x1024, .f32⟩
  | 117 => ⟨S4096x1024, .f32⟩
  | 118 => ⟨S4096x1024, .f32⟩
  | 119 => ⟨S4096x1024, .f32⟩
  | 120 => ⟨S3x1024, .f32⟩
  | 121 => ⟨S_, .f32⟩
  | 122 => ⟨S2x1024, .f32⟩
  | 123 => ⟨S4098x1024, .f32⟩
  | 124 => ⟨S1x1024, .f32⟩
  | 125 => ⟨S1024, .f32⟩
  | 126 => ⟨S4096x1024, .f32⟩
  | 127 => ⟨S1x1024, .f32⟩
  | _ => ⟨S4096x7168, .f32⟩

abbrev hbmTy0_2 (i : Nat) : BufTy := match i % 128 with
  | 0 => ⟨S4096x1024, .f32⟩
  | 1 => ⟨S4096x1024, .f32⟩
  | 2 => ⟨S_, .f32⟩
  | 3 => ⟨S4096x1024, .f32⟩
  | 4 => ⟨S4096x1024, .f32⟩
  | 5 => ⟨S1x1024, .f32⟩
  | 6 => ⟨S1024, .f32⟩
  | 7 => ⟨S4096x1024, .f32⟩
  | 8 => ⟨S1x1024, .f32⟩
  | 9 => ⟨S4096x1024, .f32⟩
  | 10 => ⟨S4096x1024, .f32⟩
  | 11 => ⟨S4096x1024, .f32⟩
  | 12 => ⟨S1x1024, .f32⟩
  | 13 => ⟨S1024, .f32⟩
  | 14 => ⟨S4096x1024, .f32⟩
  | 15 => ⟨S1x1024, .f32⟩
  | 16 => ⟨S4096x1024, .f32⟩
  | 17 => ⟨S4096x1024, .f32⟩
  | 18 => ⟨S4096x1024, .f32⟩
  | 19 => ⟨S4096x1024, .f32⟩
  | 20 => ⟨S4096x1024, .bf16⟩
  | _ => ⟨S4096x7168, .f32⟩

abbrev hbmTy (i : Nat) : BufTy := match i / 128 with
  | 0 => hbmTy0_0 i
  | 1 => hbmTy0_1 i
  | 2 => hbmTy0_2 i
  | _ => ⟨S4096x7168, .f32⟩

abbrev bufTy : (tb : Table) → Fin (tcTables nBuf tb) → BufTy
  | .hbm, ⟨i, _⟩ => hbmTy i
  | _, _ => ⟨S4096x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_v222 : Ref sig .tc := ⟨.hbm, 230, rfl⟩
abbrev main_v223 : Ref sig .tc := ⟨.hbm, 231, rfl⟩
abbrev main_v224 : Ref sig .tc := ⟨.hbm, 232, rfl⟩
abbrev main_v225 : Ref sig .tc := ⟨.hbm, 233, rfl⟩
abbrev main_v226 : Ref sig .tc := ⟨.hbm, 234, rfl⟩
abbrev main_v227 : Ref sig .tc := ⟨.hbm, 235, rfl⟩
abbrev main_v228 : Ref sig .tc := ⟨.hbm, 236, rfl⟩
abbrev main_v229 : Ref sig .tc := ⟨.hbm, 237, rfl⟩
abbrev main_v230 : Ref sig .tc := ⟨.hbm, 238, rfl⟩
abbrev main_v231 : Ref sig .tc := ⟨.hbm, 239, rfl⟩
abbrev main_v232 : Ref sig .tc := ⟨.hbm, 240, rfl⟩
abbrev main_v233 : Ref sig .tc := ⟨.hbm, 241, rfl⟩
abbrev main_v234 : Ref sig .tc := ⟨.hbm, 242, rfl⟩
abbrev main_v235 : Ref sig .tc := ⟨.hbm, 243, rfl⟩
abbrev main_v236 : Ref sig .tc := ⟨.hbm, 244, rfl⟩
abbrev main_v237 : Ref sig .tc := ⟨.hbm, 245, rfl⟩
abbrev main_v238 : Ref sig .tc := ⟨.hbm, 246, rfl⟩
abbrev main_v239 : Ref sig .tc := ⟨.hbm, 247, rfl⟩
abbrev main_v240 : Ref sig .tc := ⟨.hbm, 248, rfl⟩
abbrev main_cst_3 : Ref sig .tc := ⟨.hbm, 249, rfl⟩
abbrev main_v241 : Ref sig .tc := ⟨.hbm, 250, rfl⟩
abbrev main_v242 : Ref sig .tc := ⟨.hbm, 251, rfl⟩
abbrev main_v243 : Ref sig .tc := ⟨.hbm, 252, rfl⟩
abbrev main_v244 : Ref sig .tc := ⟨.hbm, 253, rfl⟩
abbrev main_v245 : Ref sig .tc := ⟨.hbm, 254, rfl⟩
abbrev main_v246 : Ref sig .tc := ⟨.hbm, 255, rfl⟩
abbrev main_v247 : Ref sig .tc := ⟨.hbm, 256, rfl⟩
abbrev main_v248 : Ref sig .tc := ⟨.hbm, 257, rfl⟩
abbrev main_cst_4 : Ref sig .tc := ⟨.hbm, 258, rfl⟩
abbrev main_v249 : Ref sig .tc := ⟨.hbm, 259, rfl⟩
abbrev main_v250 : Ref sig .tc := ⟨.hbm, 260, rfl⟩
abbrev main_v251 : Ref sig .tc := ⟨.hbm, 261, rfl⟩
abbrev main_v252 : Ref sig .tc := ⟨.hbm, 262, rfl⟩
abbrev main_v253 : Ref sig .tc := ⟨.hbm, 263, rfl⟩
abbrev main_v254 : Ref sig .tc := ⟨.hbm, 264, rfl⟩
abbrev main_v255 : Ref sig .tc := ⟨.hbm, 265, rfl⟩
abbrev main_v256 : Ref sig .tc := ⟨.hbm, 266, rfl⟩
abbrev main_v257 : Ref sig .tc := ⟨.hbm, 267, rfl⟩
abbrev main_v258 : Ref sig .tc := ⟨.hbm, 268, rfl⟩
abbrev main_v259 : Ref sig .tc := ⟨.hbm, 269, rfl⟩
abbrev main_v260 : Ref sig .tc := ⟨.hbm, 270, rfl⟩
abbrev main_v261 : Ref sig .tc := ⟨.hbm, 271, rfl⟩
abbrev main_v262 : Ref sig .tc := ⟨.hbm, 272, rfl⟩
abbrev main_v263 : Ref sig .tc := ⟨.hbm, 273, rfl⟩
abbrev main_v264 : Ref sig .tc := ⟨.hbm, 274, rfl⟩
abbrev main_v265 : Ref sig .tc := ⟨.hbm, 275, rfl⟩
abbrev main_v266 : Ref sig .tc := ⟨.hbm, 276, rfl⟩

abbrev nD : Nat := 1
abbrev τ : Topo := Topo.v7x

variable {F : FTy → Type} [FloatOps F]
-- ==== FfnFwd.lean ====
abbrev S4096x1024 : Shape := ⟨2, ![4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S2816x1024 : Shape := ⟨2, ![2816, 1024]⟩
abbrev S4096x2816 : Shape := ⟨2, ![4096, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1408x1024 : Shape := ⟨2, ![1408, 1024]⟩
abbrev S512x1408 : Shape := ⟨2, ![512, 1408]⟩

abbrev nBuf : Space → Nat
  | .hbm => 17
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | .hbm, ⟨8, _⟩ => ⟨S1024x2816, .f32⟩
  | .hbm, ⟨9, _⟩ => ⟨S2816x1024, .f32⟩
  | .hbm, ⟨10, _⟩ => ⟨S2816x1024, .bf16⟩
  | .hbm, ⟨11, _⟩ => ⟨S2816x1024, .f32⟩
  | .hbm, ⟨12, _⟩ => ⟨S2816x1024, .bf16⟩
  | .hbm, ⟨13, _⟩ => ⟨S4096x1024, .f32⟩
  | .hbm, ⟨14, _⟩ => ⟨S4096x1024, .bf16⟩
  | .hbm, ⟨15, _⟩ => ⟨S4096x2816, .bf16⟩
  | .hbm, ⟨16, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnFwdRefIdeal.lean ====
abbrev S4096x1024 : Shape := ⟨2, ![4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S4096x2816 : Shape := ⟨2, ![4096, 2816]⟩
abbrev S2816x1024 : Shape := ⟨2, ![2816, 1024]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S1024x2816, .f32⟩
  | .hbm, ⟨23, _⟩ => ⟨S4096x2816, .f32⟩
  | .hbm, ⟨24, _⟩ => ⟨S1024x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S2816x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .bf16⟩
  | .hbm, ⟨43, _⟩ => ⟨S4096x2816, .bf16⟩
  | .hbm, ⟨44, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]
-- ==== MergeFwd.lean ====
abbrev S4096x1024 : Shape := ⟨2, ![4096, 1024]⟩
abbrev S4096x7168 : Shape := ⟨2, ![4096, 7168]⟩
abbrev S1x1024 : Shape := ⟨2, ![1, 1024]⟩
abbrev S1x1024x1024 : Shape := ⟨3, ![1, 1024, 1024]⟩
abbrev S4096x7x1024 : Shape := ⟨3, ![4096, 7, 1024]⟩
abbrev S7x4096x1024 : Shape := ⟨3, ![7, 4096, 1024]⟩
abbrev S1024x1024 : Shape := ⟨2, ![1024, 1024]⟩
abbrev S512x1024 : Shape := ⟨2, ![512, 1024]⟩
abbrev S1x512x1024 : Shape := ⟨3, ![1, 512, 1024]⟩
abbrev S512 : Shape := ⟨1, ![512]⟩
abbrev S512x1 : Shape := ⟨2, ![512, 1]⟩

abbrev nBuf : Space → Nat
  | .hbm => 24
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x7168, .f32⟩
  | .hbm, ⟨4, _⟩ => ⟨S1x1024, .f32⟩
  | .hbm, ⟨5, _⟩ => ⟨S1x1024, .f32⟩
  | .hbm, ⟨6, _⟩ => ⟨S1x1024x1024, .f32⟩
  | .hbm, ⟨7, _⟩ => ⟨S1x1024x1024, .f32⟩
  | .hbm, ⟨8, _⟩ => ⟨S1x1024x1024, .f32⟩
  | .hbm, ⟨9, _⟩ => ⟨S4096x1024, .bf16⟩
  | .hbm, ⟨10, _⟩ => ⟨S4096x7x1024, .f32⟩
  | .hbm, ⟨11, _⟩ => ⟨S7x4096x1024, .f32⟩
  | .hbm, ⟨12, _⟩ => ⟨S7x4096x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .bf16⟩
  | .hbm, ⟨19, _⟩ => ⟨S4096x1024, .f32⟩
  | .hbm, ⟨20, _⟩ => ⟨S4096x1024, .bf16⟩
  | .hbm, ⟨21, _⟩ => ⟨S4096x1024, .bf16⟩
  | .hbm, ⟨22, _⟩ => ⟨S4096x1024, .bf16⟩
  | .hbm, ⟨23, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x1024, .f32⟩
  | .local _ .vmem, ⟨11, _⟩ => ⟨S1x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev main_v10_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_4 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeFwdRefIdeal.lean ====
abbrev S4096x1024 : Shape := ⟨2, ![4096, 1024]⟩
abbrev S4096x7168 : Shape := ⟨2, ![4096, 7168]⟩
abbrev S1x1024 : Shape := ⟨2, ![1, 1024]⟩
abbrev S1x1024x1024 : Shape := ⟨3, ![1, 1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x1024 : Shape := ⟨2, ![1024, 1024]⟩

abbrev nBuf : Space → Nat
  | .hbm => 86
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x7168, .f32⟩
  | .hbm, ⟨4, _⟩ => ⟨S1x1024, .f32⟩
  | .hbm, ⟨5, _⟩ => ⟨S1x1024, .f32⟩
  | .hbm, ⟨6, _⟩ => ⟨S1x1024x1024, .f32⟩
  | .hbm, ⟨7, _⟩ => ⟨S1x1024x1024, .f32⟩
  | .hbm, ⟨8, _⟩ => ⟨S1x1024x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S1024x1024, .f32⟩
  | .hbm, ⟨57, _⟩ => ⟨S4096x1024, .f32⟩
  | .hbm, ⟨58, _⟩ => ⟨S1024x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S1024x1024, .f32⟩
  | .hbm, ⟨80, _⟩ => ⟨S4096x1024, .f32⟩
  | .hbm, ⟨81, _⟩ => ⟨S4096x1024, .f32⟩
  | .hbm, ⟨82, _⟩ => ⟨S4096x1024, .bf16⟩
  | .hbm, ⟨83, _⟩ => ⟨S4096x1024, .bf16⟩
  | .hbm, ⟨84, _⟩ => ⟨S4096x1024, .bf16⟩
  | .hbm, ⟨85, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_4 : Ref sig .tc := ⟨.hbm, 62, rfl⟩
abbrev main_v40 : Ref sig .tc := ⟨.hbm, 63, rfl⟩
abbrev main_v41 : Ref sig .tc := ⟨.hbm, 64, rfl⟩
abbrev main_cst_5 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_6 : Ref sig .tc := ⟨.hbm, 71, rfl⟩
abbrev main_v47 : Ref sig .tc := ⟨.hbm, 72, rfl⟩
abbrev main_v48 : Ref sig .tc := ⟨.hbm, 73, rfl⟩
abbrev main_cst_7 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]
-- ==== MixFwd.lean ====
abbrev S4096x1024 : Shape := ⟨2, ![4096, 1024]⟩
abbrev S1x1024 : Shape := ⟨2, ![1, 1024]⟩
abbrev S1x1024x7168 : Shape := ⟨3, ![1, 1024, 7168]⟩
abbrev S1024x7168 : Shape := ⟨2, ![1024, 7168]⟩
abbrev S1024x4x1792 : Shape := ⟨3, ![1024, 4, 1792]⟩
abbrev S4x1024x1792 : Shape := ⟨3, ![4, 1024, 1792]⟩
abbrev S7x4096x1024 : Shape := ⟨3, ![7, 4096, 1024]⟩
abbrev S512x1024 : Shape := ⟨2, ![512, 1024]⟩
abbrev S7x512x1024 : Shape := ⟨3, ![7, 512, 1024]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩
abbrev S1x512x1024 : Shape := ⟨3, ![1, 512, 1024]⟩
abbrev S1x1024x768 : Shape := ⟨3, ![1, 1024, 768]⟩
abbrev S1024x768 : Shape := ⟨2, ![1024, 768]⟩
abbrev S512x768 : Shape := ⟨2, ![512, 768]⟩
abbrev S1x512x768 : Shape := ⟨3, ![1, 512, 768]⟩
abbrev S1x1024x256 : Shape := ⟨3, ![1, 1024, 256]⟩
abbrev S1024x256 : Shape := ⟨2, ![1024, 256]⟩
abbrev S512x256 : Shape := ⟨2, ![512, 256]⟩
abbrev S1x512x256 : Shape := ⟨3, ![1, 512, 256]⟩
abbrev S1x1024x512 : Shape := ⟨3, ![1, 1024, 512]⟩
abbrev S1024x512 : Shape := ⟨2, ![1024, 512]⟩
abbrev S512x512 : Shape := ⟨2, ![512, 512]⟩
abbrev S1x512x512 : Shape := ⟨3, ![1, 512, 512]⟩

abbrev nBuf : Space → Nat
  | .hbm => 9
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x7168, .f32⟩
  | .hbm, ⟨3, _⟩ => ⟨S1024x7168, .f32⟩
  | .hbm, ⟨4, _⟩ => ⟨S1024x4x1792, .f32⟩
  | .hbm, ⟨5, _⟩ => ⟨S4x1024x1792, .f32⟩
  | .hbm, ⟨6, _⟩ => ⟨S4x1024x1792, .bf16⟩
  | .hbm, ⟨7, _⟩ => ⟨S4096x1024, .bf16⟩
  | .hbm, ⟨8, _⟩ => ⟨S7x4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x1792, .bf16⟩
  | .local _ .vmem, ⟨4, _⟩ => ⟨S512x1024, .bf16⟩
  | .local _ .vmem, ⟨5, _⟩ => ⟨S512x1024, .bf16⟩
  | .local _ .vmem, ⟨6, _⟩ => ⟨S7x512x1024, .bf16⟩
  | .local _ .vmem, ⟨7, _⟩ => ⟨S7x512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S7x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MixFwdRefIdeal.lean ====
abbrev S4096x1024 : Shape := ⟨2, ![4096, 1024]⟩
abbrev S1x1024 : Shape := ⟨2, ![1, 1024]⟩
abbrev S1x1024x7168 : Shape := ⟨3, ![1, 1024, 7168]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x7168 : Shape := ⟨2, ![1024, 7168]⟩
abbrev S4096x7168 : Shape := ⟨2, ![4096, 7168]⟩
abbrev S4096x7x1024 : Shape := ⟨3, ![4096, 7, 1024]⟩
abbrev S7x4096x1024 : Shape := ⟨3, ![7, 4096, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x7168, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S1024x7168, .f32⟩
  | .hbm, ⟨22, _⟩ => ⟨S4096x7168, .f32⟩
  | .hbm, ⟨23, _⟩ => ⟨S4096x7x1024, .f32⟩
  | .hbm, ⟨24, _⟩ => ⟨S7x4096x1024, .f32⟩
  | .hbm, ⟨25, _⟩ => ⟨S7x4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== FfnFirst.lean ====
abbrev S4096x1024 : Shape := ⟨2, ![4096, 1024]⟩
abbrev S1x1024 : Shape := ⟨2, ![1, 1024]⟩
abbrev S4096x2816 : Shape := ⟨2, ![4096, 2816]⟩
abbrev S1x1024x2816 : Shape := ⟨3, ![1, 1024, 2816]⟩
abbrev S1024x2816 : Shape := ⟨2, ![1024, 2816]⟩
abbrev S2816x1024 : Shape := ⟨2, ![2816, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024 : Shape := ⟨1, ![1024]⟩

abbrev nBuf : Space → Nat
  | .hbm => 20
  | .vmem => 28
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x2816, .f32⟩
  | .hbm, ⟨4, _⟩ => ⟨S4096x2816, .f32⟩
  | .hbm, ⟨5, _⟩ => ⟨S1x1024x2816, .f32⟩
  | .hbm, ⟨6, _⟩ => ⟨S1x1024x2816, .f32⟩
  | .hbm, ⟨7, _⟩ => ⟨S1024x2816, .f32⟩
  | .hbm, ⟨8, _⟩ => ⟨S2816x1024, .f32⟩
  | .hbm, ⟨9, _⟩ => ⟨S2816x1024, .bf16⟩
  | .hbm, ⟨10, _⟩ => ⟨S1024x2816, .f32⟩
  | .hbm, ⟨11, _⟩ => ⟨S2816x1024, .f32⟩
  | .hbm, ⟨12, _⟩ => ⟨S2816x1024, .bf16⟩
  | .hbm, ⟨13, _⟩ => ⟨S4096x2816, .bf16⟩
  | .hbm, ⟨14, _⟩ => ⟨S4096x2816, .bf16⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S1x1024, .f32⟩
  | .hbm, ⟨19, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S2816x1024, .bf16⟩
  | .local _ .vmem, ⟨10, _⟩ => ⟨S2816x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S512x2816, .bf16⟩
  | .local _ .vmem, ⟨20, _⟩ => ⟨S512x2816, .bf16⟩
  | .local _ .vmem, ⟨21, _⟩ => ⟨S512x2816, .bf16⟩
  | .local _ .vmem, ⟨22, _⟩ => ⟨S512x2816, .bf16⟩
  | .local _ .vmem, ⟨23, _⟩ => ⟨S2816x1024, .bf16⟩
  | .local _ .vmem, ⟨24, _⟩ => ⟨S2816x1024, .bf16⟩
  | .local _ .vmem, ⟨25, _⟩ => ⟨S512x1024, .f32⟩
  | .local _ .vmem, ⟨26, _⟩ => ⟨S512x1024, .f32⟩
  | .local _ .vmem, ⟨27, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v9_0 : Ref sig .tc := ⟨.hbm, 17, rfl⟩
abbrev main_v9_1 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg7_1 : Ref sig .tc := ⟨.vmem, 26, rfl⟩
abbrev cc1_stg8_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem6_0 : DmaSem sig := 24
abbrev cc1_sem7_0 : DmaSem sig := 25
abbrev cc1_sem7_1 : DmaSem sig := 26
abbrev cc1_sem8_0 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![4], ![false]⟩

def cc1_transform_0 (i : grid1.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x2816 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x2816 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S2816x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2816x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]
-- ==== FfnFirstRefIdeal.lean ====
abbrev S4096x1024 : Shape := ⟨2, ![4096, 1024]⟩
abbrev S1x1024 : Shape := ⟨2, ![1, 1024]⟩
abbrev S4096x2816 : Shape := ⟨2, ![4096, 2816]⟩
abbrev S1x1024x2816 : Shape := ⟨3, ![1, 1024, 2816]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩

abbrev nBuf : Space → Nat
  | .hbm => 62
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x2816, .f32⟩
  | .hbm, ⟨4, _⟩ => ⟨S4096x2816, .f32⟩
  | .hbm, ⟨5, _⟩ => ⟨S1x1024x2816, .f32⟩
  | .hbm, ⟨6, _⟩ => ⟨S1x1024x2816, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S1024x2816, .f32⟩
  | .hbm, ⟨29, _⟩ => ⟨S4096x2816, .f32⟩
  | .hbm, ⟨30, _⟩ => ⟨S1024x2816, .f32⟩
  | .hbm, ⟨31, _⟩ => ⟨S4096x2816, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== FfnGrad.lean ====
abbrev S4096x1024 : Shape := ⟨2, ![4096, 1024]⟩
abbrev S1x1024 : Shape := ⟨2, ![1, 1024]⟩
abbrev S4096x2816 : Shape := ⟨2, ![4096, 2816]⟩
abbrev S1024 : Shape := ⟨1, ![1024]⟩
abbrev S_ : Shape := ⟨0, ![]⟩
abbrev S4096 : Shape := ⟨1, ![4096]⟩
abbrev S4096x1 : Shape := ⟨2, ![4096, 1]⟩
abbrev S2816x1024 : Shape := ⟨2, ![2816, 1024]⟩
abbrev S4096x1408 : Shape := ⟨2, ![4096, 1408]⟩
abbrev S1408x1024 : Shape := ⟨2, ![1408, 1024]⟩

abbrev nBuf : Space → Nat
  | .hbm => 23
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x2816, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x2816, .bf16⟩
  | .hbm, ⟨21, _⟩ => ⟨S4096x1024, .bf16⟩
  | .hbm, ⟨22, _⟩ => ⟨S2816x1024, .f32⟩
  | .local _ .vmem, ⟨0, _⟩ => ⟨S4096x1408, .bf16⟩
  | .local _ .vmem, ⟨1, _⟩ => ⟨S4096x1408, .bf16⟩
  | .local _ .vmem, ⟨2, _⟩ => ⟨S4096x1024, .bf16⟩
  | .local _ .vmem, ⟨3, _⟩ => ⟨S1408x1024, .f32⟩
  | .local _ .vmem, ⟨4, _⟩ => ⟨S1408x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FfnGradRefIdeal.lean ====
abbrev S4096x1024 : Shape := ⟨2, ![4096, 1024]⟩
abbrev S1x1024 : Shape := ⟨2, ![1, 1024]⟩
abbrev S4096x2816 : Shape := ⟨2, ![4096, 2816]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S2816x1024 : Shape := ⟨2, ![2816, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x2816, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S1024x2816, .f32⟩
  | .hbm, ⟨22, _⟩ => ⟨S4096x2816, .f32⟩
  | .hbm, ⟨23, _⟩ => ⟨S2816x1024, .f32⟩
  | .hbm, ⟨24, _⟩ => ⟨S1024x2816, .f32⟩
  | .hbm, ⟨25, _⟩ => ⟨S2816x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== InGrad.lean ====
abbrev S4096x1024 : Shape := ⟨2, ![4096, 1024]⟩
abbrev S1x1024 : Shape := ⟨2, ![1, 1024]⟩
abbrev S4096x7168 : Shape := ⟨2, ![4096, 7168]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x7x1024 : Shape := ⟨3, ![4096, 7, 1024]⟩
abbrev S7x4096x1024 : Shape := ⟨3, ![7, 4096, 1024]⟩
abbrev S1024x7168 : Shape := ⟨2, ![1024, 7168]⟩
abbrev S1x4096x1024 : Shape := ⟨3, ![1, 4096, 1024]⟩
abbrev S1024x1024 : Shape := ⟨2, ![1024, 1024]⟩

abbrev nBuf : Space → Nat
  | .hbm => 25
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x7168, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x7x1024, .f32⟩
  | .hbm, ⟨21, _⟩ => ⟨S7x4096x1024, .f32⟩
  | .hbm, ⟨22, _⟩ => ⟨S7x4096x1024, .bf16⟩
  | .hbm, ⟨23, _⟩ => ⟨S4096x1024, .bf16⟩
  | .hbm, ⟨24, _⟩ => ⟨S1024x7168, .f32⟩
  | .local _ .vmem, ⟨0, _⟩ => ⟨S4096x1024, .bf16⟩
  | .local _ .vmem, ⟨1, _⟩ => ⟨S1x4096x1024, .bf16⟩
  | .local _ .vmem, ⟨2, _⟩ => ⟨S1x4096x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== InGradRefIdeal.lean ====
abbrev S4096x1024 : Shape := ⟨2, ![4096, 1024]⟩
abbrev S1x1024 : Shape := ⟨2, ![1, 1024]⟩
abbrev S4096x7168 : Shape := ⟨2, ![4096, 7168]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x7168 : Shape := ⟨2, ![1024, 7168]⟩
abbrev S7168x1024 : Shape := ⟨2, ![7168, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x7168, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S1024x7168, .f32⟩
  | .hbm, ⟨22, _⟩ => ⟨S4096x7168, .f32⟩
  | .hbm, ⟨23, _⟩ => ⟨S7168x1024, .f32⟩
  | .hbm, ⟨24, _⟩ => ⟨S1024x7168, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Step.lean ====
abbrev S1x1024x1792 : Shape := ⟨3, ![1, 1024, 1792]⟩
abbrev S1024x1792 : Shape := ⟨2, ![1024, 1792]⟩
abbrev S256x1792 : Shape := ⟨2, ![256, 1792]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x1792, .f32⟩
  | .hbm, ⟨1, _⟩ => ⟨S1x1024x1792, .f32⟩
  | .hbm, ⟨2, _⟩ => ⟨S1x1024x1792, .f32⟩
  | .hbm, ⟨3, _⟩ => ⟨S1x1024x1792, .f32⟩
  | .hbm, ⟨4, _⟩ => ⟨S1024x1792, .f32⟩
  | .hbm, ⟨5, _⟩ => ⟨S1024x1792, .f32⟩
  | .hbm, ⟨6, _⟩ => ⟨S1024x1792, .f32⟩
  | .hbm, ⟨7, _⟩ => ⟨S1024x1792, .f32⟩
  | .hbm, ⟨8, _⟩ => ⟨S1024x1792, .f32⟩
  | .hbm, ⟨9, _⟩ => ⟨S1024x1792, .f32⟩
  | .hbm, ⟨10, _⟩ => ⟨S1024x1792, .f32⟩
  | .local _ .vmem, ⟨0, _⟩ => ⟨S256x1792, .f32⟩
  | .local _ .vmem, ⟨1, _⟩ => ⟨S256x1792, .f32⟩
  | .local _ .vmem, ⟨2, _⟩ => ⟨S256x1792, .f32⟩
  | .local _ .vmem, ⟨3, _⟩ => ⟨S256x1792, .f32⟩
  | .local _ .vmem, ⟨4, _⟩ => ⟨S256x1792, .f32⟩
  | .local _ .vmem, ⟨5, _⟩ => ⟨S256x1792, .f32⟩
  | .local _ .vmem, ⟨6, _⟩ => ⟨S256x1792, .f32⟩
  | .local _ .vmem, ⟨7, _⟩ => ⟨S256x1792, .f32⟩
  | .local _ .vmem, ⟨8, _⟩ => ⟨S256x1792, .f32⟩
  | .local _ .vmem, ⟨9, _⟩ => ⟨S256x1792, .f32⟩
  | .local _ .vmem, ⟨10, _⟩ => ⟨S256x1792, .f32⟩
  | .local _ .vmem, ⟨11, _⟩ => ⟨S256x1792, .f32⟩
  | .local _ .vmem, ⟨12, _⟩ => ⟨S256x1792, .f32⟩
  | .local _ .vmem, ⟨13, _⟩ => ⟨S256x1792, .f32⟩
  | _, _ => ⟨S1x1024x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== StepRefIdeal.lean ====
abbrev S1x1024x1792 : Shape := ⟨3, ![1, 1024, 1792]⟩
abbrev S1024x1792 : Shape := ⟨2, ![1024, 1792]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x1024x1792, .f32⟩
  | .hbm, ⟨1, _⟩ => ⟨S1x1024x1792, .f32⟩
  | .hbm, ⟨2, _⟩ => ⟨S1x1024x1792, .f32⟩
  | .hbm, ⟨3, _⟩ => ⟨S1x1024x1792, .f32⟩
  | .hbm, ⟨4, _⟩ => ⟨S1024x1792, .f32⟩
  | .hbm, ⟨5, _⟩ => ⟨S1024x1792, .f32⟩
  | .hbm, ⟨6, _⟩ => ⟨S1024x1792, .f32⟩
  | .hbm, ⟨7, _⟩ => ⟨S1024x1792, .f32⟩
  | .hbm, ⟨8, _⟩ => ⟨S_, .f32⟩
  | .hbm, ⟨9, _⟩ => ⟨S1024x1792, .f32⟩
  | .hbm, ⟨10, _⟩ => ⟨S1024x1792, .f32⟩
  | .hbm, ⟨11, _⟩ => ⟨S_, .f32⟩
  | .hbm, ⟨12, _⟩ => ⟨S1024x1792, .f32⟩
  | .hbm, ⟨13, _⟩ => ⟨S1024x1792, .f32⟩
  | .hbm, ⟨14, _⟩ => ⟨S1024x1792, .f32⟩
  | .hbm, ⟨15, _⟩ => ⟨S_, .f32⟩
  | .hbm, ⟨16, _⟩ => ⟨S1024x1792, .f32⟩
  | .hbm, ⟨17, _⟩ => ⟨S1024x1792, .f32⟩
  | .hbm, ⟨18, _⟩ => ⟨S1024x1792, .f32⟩
  | .hbm, ⟨19, _⟩ => ⟨S_, .f32⟩
  | .hbm, ⟨20, _⟩ => ⟨S1024x1792, .f32⟩
  | .hbm, ⟨21, _⟩ => ⟨S1024x1792, .f32⟩
  | .hbm, ⟨22, _⟩ => ⟨S1024x1792, .f32⟩
  | .hbm, ⟨23, _⟩ => ⟨S_, .f32⟩
  | .hbm, ⟨24, _⟩ => ⟨S1024x1792, .f32⟩
  | .hbm, ⟨25, _⟩ => ⟨S1024x1792, .f32⟩
  | .hbm, ⟨26, _⟩ => ⟨S_, .f32⟩
  | .hbm, ⟨27, _⟩ => ⟨S1024x1792, .f32⟩
  | .hbm, ⟨28, _⟩ => ⟨S1024x1792, .f32⟩
  | .hbm, ⟨29, _⟩ => ⟨S1024x1792, .f32⟩
  | .hbm, ⟨30, _⟩ => ⟨S_, .f32⟩
  | .hbm, ⟨31, _⟩ => ⟨S1024x1792, .f32⟩
  | .hbm, ⟨32, _⟩ => ⟨S1024x1792, .f32⟩
  | .hbm, ⟨33, _⟩ => ⟨S1024x1792, .f32⟩
  | .hbm, ⟨34, _⟩ => ⟨S_, .f32⟩
  | .hbm, ⟨35, _⟩ => ⟨S1024x1792, .f32⟩
  | .hbm, ⟨36, _⟩ => ⟨S1024x1792, .f32⟩
  | .hbm, ⟨37, _⟩ => ⟨S1024x1792, .f32⟩
  | .hbm, ⟨38, _⟩ => ⟨S_, .f32⟩
  | .hbm, ⟨39, _⟩ => ⟨S1024x1792, .f32⟩
  | .hbm, ⟨40, _⟩ => ⟨S1024x1792, .f32⟩
  | _, _ => ⟨S1x1024x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== MixGrad.lean ====
abbrev S4096x1024 : Shape := ⟨2, ![4096, 1024]⟩
abbrev S4096x7168 : Shape := ⟨2, ![4096, 7168]⟩
abbrev S1x1024 : Shape := ⟨2, ![1, 1024]⟩
abbrev S1x1024x1024 : Shape := ⟨3, ![1, 1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x1024 : Shape := ⟨2, ![1024, 1024]⟩
abbrev S512x1024 : Shape := ⟨2, ![512, 1024]⟩

abbrev nBuf : Space → Nat
  | .hbm => 89
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x7168, .f32⟩
  | .hbm, ⟨3, _⟩ => ⟨S1x1024, .f32⟩
  | .hbm, ⟨4, _⟩ => ⟨S1x1024, .f32⟩
  | .hbm, ⟨5, _⟩ => ⟨S1x1024x1024, .f32⟩
  | .hbm, ⟨6, _⟩ => ⟨S1x1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S1024, .f32⟩
  | .hbm, ⟨11, _⟩ => ⟨S1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096x1024, .f32⟩
  | .hbm, ⟨64, _⟩ => ⟨S4096x1024, .f32⟩
  | .hbm, ⟨65, _⟩ => ⟨S1024x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S4096x1024, .f32⟩
  | .hbm, ⟨75, _⟩ => ⟨S4096x1024, .f32⟩
  | .hbm, ⟨76, _⟩ => ⟨S1024x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .bf16⟩
  | .hbm, ⟨81, _⟩ => ⟨S4096x1024, .bf16⟩
  | .hbm, ⟨82, _⟩ => ⟨S4096x1024, .bf16⟩
  | .hbm, ⟨83, _⟩ => ⟨S4096x1024, .bf16⟩
  | .hbm, ⟨84, _⟩ => ⟨S4096x1024, .bf16⟩
  | .hbm, ⟨85, _⟩ => ⟨S4096x1024, .bf16⟩
  | .hbm, ⟨86, _⟩ => ⟨S1024x1024, .f32⟩
  | .hbm, ⟨87, _⟩ => ⟨S1024x1024, .f32⟩
  | .hbm, ⟨88, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_4 : Ref sig .tc := ⟨.hbm, 59, rfl⟩
abbrev main_v36 : Ref sig .tc := ⟨.hbm, 60, rfl⟩
abbrev main_v37 : Ref sig .tc := ⟨.hbm, 61, rfl⟩
abbrev main_cst_5 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_6 : Ref sig .tc := ⟨.hbm, 70, rfl⟩
abbrev main_v45 : Ref sig .tc := ⟨.hbm, 71, rfl⟩
abbrev main_v46 : Ref sig .tc := ⟨.hbm, 72, rfl⟩
abbrev main_cst_7 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59_0 : Ref sig .tc := ⟨.hbm, 86, rfl⟩
abbrev main_v59_1 : Ref sig .tc := ⟨.hbm, 87, rfl⟩
abbrev main_v59_2 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MixGradRefIdeal.lean ====
abbrev S4096x1024 : Shape := ⟨2, ![4096, 1024]⟩
abbrev S4096x7168 : Shape := ⟨2, ![4096, 7168]⟩
abbrev S1x1024 : Shape := ⟨2, ![1, 1024]⟩
abbrev S1x1024x1024 : Shape := ⟨3, ![1, 1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x1024 : Shape := ⟨2, ![1024, 1024]⟩

abbrev nBuf : Space → Nat
  | .hbm => 91
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x7168, .f32⟩
  | .hbm, ⟨3, _⟩ => ⟨S1x1024, .f32⟩
  | .hbm, ⟨4, _⟩ => ⟨S1x1024, .f32⟩
  | .hbm, ⟨5, _⟩ => ⟨S1x1024x1024, .f32⟩
  | .hbm, ⟨6, _⟩ => ⟨S1x1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S1024, .f32⟩
  | .hbm, ⟨11, _⟩ => ⟨S1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096x1024, .f32⟩
  | .hbm, ⟨64, _⟩ => ⟨S4096x1024, .f32⟩
  | .hbm, ⟨65, _⟩ => ⟨S1024x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S4096x1024, .f32⟩
  | .hbm, ⟨75, _⟩ => ⟨S4096x1024, .f32⟩
  | .hbm, ⟨76, _⟩ => ⟨S1024x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S1024x1024, .f32⟩
  | .hbm, ⟨82, _⟩ => ⟨S4096x1024, .f32⟩
  | .hbm, ⟨83, _⟩ => ⟨S1024x1024, .f32⟩
  | .hbm, ⟨84, _⟩ => ⟨S1024x1024, .f32⟩
  | .hbm, ⟨85, _⟩ => ⟨S4096x1024, .f32⟩
  | .hbm, ⟨86, _⟩ => ⟨S1024x1024, .f32⟩
  | .hbm, ⟨87, _⟩ => ⟨S1024x1024, .f32⟩
  | .hbm, ⟨88, _⟩ => ⟨S4096x1024, .f32⟩
  | .hbm, ⟨89, _⟩ => ⟨S1024x1024, .f32⟩
  | .hbm, ⟨90, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_4 : Ref sig .tc := ⟨.hbm, 59, rfl⟩
abbrev main_v36 : Ref sig .tc := ⟨.hbm, 60, rfl⟩
abbrev main_v37 : Ref sig .tc := ⟨.hbm, 61, rfl⟩
abbrev main_cst_5 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_6 : Ref sig .tc := ⟨.hbm, 70, rfl⟩
abbrev main_v45 : Ref sig .tc := ⟨.hbm, 71, rfl⟩
abbrev main_v46 : Ref sig .tc := ⟨.hbm, 72, rfl⟩
abbrev main_cst_7 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_8 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩

abbrev nD : Nat := 1
abbrev τ : Topo := Topo.v7x

variable {F : FTy → Type} [FloatOps F]
-- ==== Proof.Reals.lean ====
/- Extended reals that are real numbers: sums, products, quotients and inverse square roots of them, and the
   constants that the programs spell as float words. -/
module

public import Idealize.ShloMosaic.PureOps.Ideal.Laws

@[expose] public section

noncomputable section

namespace Cert.Reals

open Idealize.ShloMosaic

/-- An extended real that is a real number. -/
def IsReal (x : EReal) : Prop := ∃ r : ℝ, x = (r : EReal)

/-- A number whose absolute value is below `+∞` is real. -/
theorem fin_of_lt (x : EReal) (h : max x (-x) < ⊤) : IsReal x := by
  induction x with
  | bot => simp at h
  | coe r => exact ⟨r, rfl⟩
  | top => simp at h

/-- A square is not negative. -/
theorem square_nonneg (x : EReal) : 0 ≤ x * x := by
  induction x with
  | bot => simp
  | coe r => rw [← EReal.coe_mul]; exact EReal.coe_nonneg.mpr (mul_self_nonneg r)
  | top => simp

/-- The square of an infinite number is `+∞`. -/
theorem square_infinite {x : EReal} (h : ¬ IsReal x) : x * x = ⊤ := by
  induction x with
  | bot => simp
  | coe r => exact absurd ⟨r, rfl⟩ h
  | top => simp

/-- A family of real numbers, as a family of reals. -/
theorem lift {ι : Type} {f : ι → EReal} (h : ∀ i, IsReal (f i)) : ∃ g : ι → ℝ, f = fun i => (g i : EReal) :=
  ⟨fun i => (h i).choose, funext fun i => (h i).choose_spec⟩

/-- The coercion commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type} (s : Finset ι) {f : ι → EReal} (h : ∀ i, IsReal (f i)) : IsReal (∑ i ∈ s, f i) := by
  obtain ⟨g, rfl⟩ := lift h; exact ⟨∑ i ∈ s, g i, (coe_sum s g).symm⟩

/-- A quotient of real numbers, the divisor not zero. -/
theorem div_real (x : ℝ) {y : ℝ} (hy : y ≠ 0) : Ideal.div (x : EReal) (y : EReal) = ((x / y : ℝ) : EReal) := by
  rw [Ideal.div_coe hy, ← EReal.coe_mul, mul_one_div]

/-- The inverse square root of a positive number. -/
theorem rsqrt_pos {x : ℝ} (hx : 0 < x) : Ideal.rsqrt (x : EReal) = (((Real.sqrt x)⁻¹ : ℝ) : EReal) := by
  rw [Ideal.rsqrt_coe, if_neg (not_lt.mpr hx.le), if_neg hx.ne']

/-- The word of 1024. -/
theorem word_1024 : Ideal.ofBits .f32 0x44800000#32 = ((1024 : ℝ) : EReal) := by
  simp [Ideal.ofBits, Ideal.ieee]; rw [← EReal.coe_mul]; norm_num

/-- The word of `-1/2`. -/
theorem word_neg_half : Ideal.ofBits .f32 0xBF000000#32 = ((-(1 / 2) : ℝ) : EReal) := by
  simp [Ideal.ofBits, Ideal.ieee]; rw [← EReal.coe_mul]; norm_num

/-- The word of `+∞`. -/
theorem word_top : Ideal.ofBits .f32 0x7F800000#32 = ⊤ := by
  simp [Ideal.ofBits, Ideal.ieee]

/-- The word of the norm's `1e-6`, the number next to it that a float has. -/
theorem word_eps : ∃ e : ℝ, 0 < e ∧ Ideal.ofBits .f32 0x358637BD#32 = (e : EReal) := by
  simp [Ideal.ofBits, Ideal.ieee]
  exact ⟨_, by norm_num, (EReal.coe_mul _ _).symm⟩

end Cert.Reals

end
-- ==== Proof.Rms.lean ====
/- The gradient of the norm `h ↦ h · (mean h² + ε)^(-1/2)` of one row: the form a kernel computes and the form that
   differentiating the forward lines gives are the same extended real, also where an entry is infinite. -/
module

public import proofs.«01_k».proof.Proof.Reals

@[expose] public section

noncomputable section

namespace Cert.Rms

open Idealize.ShloMosaic Cert.Reals

/-- The mean of a row's squares plus `ε`. -/
def power (h : Fin 1024 → EReal) : EReal :=
  Ideal.div (∑ x, h x * h x) (Ideal.ofBits FTy.f32 0x44800000#32) + Ideal.ofBits FTy.f32 0x358637BD#32

/-- Its inverse square root. -/
def inv (h : Fin 1024 → EReal) : EReal := Ideal.rsqrt (power h)

/-- The gradient as a kernel computes it, of a row `h` and the cotangent `w` of the normed row, at entry `l`. -/
def byHand (h w : Fin 1024 → EReal) (l : Fin 1024) : EReal :=
  inv h * w l - h l * inv h * (inv h * inv h) * Ideal.div (∑ x, h x * w x) (Ideal.ofBits FTy.f32 0x44800000#32)

/-- The factor of `h` in the derivative's form: half of what comes back through the mean of squares. -/
def through (h w : Fin 1024 → EReal) : EReal :=
  ∑ _x : Fin 1, Ideal.div ((∑ x, h x * w x) * (Ideal.ofBits FTy.f32 0xBF000000#32 * Ideal.div (inv h) (power h)))
    (Ideal.ofBits FTy.f32 0x44800000#32)

/-- The power of a real row is a positive real. -/
theorem power_real (h : Fin 1024 → ℝ) : ∃ p : ℝ, 0 < p ∧ power (fun x => (h x : EReal)) = (p : EReal) := by
  obtain ⟨e, he, hw⟩ := word_eps
  refine ⟨(∑ x, h x * h x) / 1024 + e, ?_, ?_⟩
  · have : 0 ≤ ∑ x, h x * h x := Finset.sum_nonneg fun x _ => mul_self_nonneg (h x)
    positivity
  · rw [power, hw, word_1024, EReal.coe_add, ← div_real _ (by norm_num), coe_sum]
    simp only [EReal.coe_mul]

/-- A row with an infinite entry has inverse square root zero. -/
theorem inv_infinite (h : Fin 1024 → EReal) (hh : ¬ ∀ x, IsReal (h x)) : inv h = 0 ∧ power h = ⊤ := by
  obtain ⟨x, hx⟩ := not_forall.mp hh
  have hs : ∑ x, h x * h x = ⊤ := by
    refine top_le_iff.mp (le_trans (le_of_eq ?_) (Finset.single_le_sum (f := fun x => h x * h x)
      (fun i _ => square_nonneg (h i)) (Finset.mem_univ x)))
    exact (square_infinite hx).symm
  have hp : power h = ⊤ := by
    obtain ⟨e, _, hw⟩ := word_eps
    rw [power, hs, hw, word_1024, Ideal.div_coe (by norm_num), EReal.top_mul_coe_of_pos (by norm_num)]
    exact EReal.top_add_of_ne_bot (EReal.coe_ne_bot _)
  exact ⟨by rw [inv, hp]; rfl, hp⟩

/-- The part of the derivative that comes back through the mean of squares, for a real row: what the kernel subtracts is
    twice what the derivative adds, whatever the sum `S`. -/
theorem correction (S : EReal) (g i p : ℝ) (hi : 0 < i) (hp : 0 < p) (hs : i * i = 1 / p) :
    -((g : EReal) * i * ((i : EReal) * i) * Ideal.div S ((1024 : ℝ) : EReal))
      = (g : EReal) * Ideal.div (S * (((-(1 / 2) : ℝ) : EReal) * Ideal.div (i : EReal) (p : EReal))) ((1024 : ℝ) : EReal)
        + (g : EReal) * Ideal.div (S * (((-(1 / 2) : ℝ) : EReal) * Ideal.div (i : EReal) (p : EReal))) ((1024 : ℝ) : EReal) := by
  have hn : (1024 : ℝ) ≠ 0 := by norm_num
  rw [div_real _ hp.ne', Ideal.div_coe hn, Ideal.div_coe hn]
  simp only [← EReal.coe_mul]
  have k1 : 0 < i * (i * i) * (1 / 1024) := by positivity
  have k2 : -(1 / 2) * (i / p) * (1 / 1024) < 0 := by
    have : 0 < i / p := by positivity
    nlinarith
  have e1 : ((g * i * (i * i) : ℝ) : EReal) * (S * ((1 / 1024 : ℝ) : EReal)) = S * ((g * (i * (i * i) * (1 / 1024)) : ℝ) : EReal) := by
    rw [mul_comm S, ← mul_assoc, ← EReal.coe_mul, mul_comm]; congr 2; ring
  have e2 : (g : EReal) * (S * ((-(1 / 2) * (i / p) : ℝ) : EReal) * ((1 / 1024 : ℝ) : EReal))
      = S * ((g * (-(1 / 2) * (i / p) * (1 / 1024)) : ℝ) : EReal) := by
    rw [mul_assoc S, ← EReal.coe_mul, mul_comm S, ← mul_assoc, ← EReal.coe_mul, mul_comm]
  rw [e1, e2]
  induction S with
  | coe s =>
    simp only [← EReal.coe_mul, ← EReal.coe_add, ← EReal.coe_neg]
    refine congrArg _ ?_
    rw [show i * (i * i) = i * (1 / p) by rw [hs]]
    ring
  | top =>
    rcases lt_trichotomy g 0 with hg | hg | hg
    · rw [EReal.top_mul_coe_of_neg (mul_neg_of_neg_of_pos hg k1), EReal.top_mul_coe_of_pos (mul_pos_of_neg_of_neg hg k2)]; rfl
    · simp [hg]
    · rw [EReal.top_mul_coe_of_pos (mul_pos hg k1), EReal.top_mul_coe_of_neg (mul_neg_of_pos_of_neg hg k2)]; rfl
  | bot =>
    rcases lt_trichotomy g 0 with hg | hg | hg
    · rw [EReal.bot_mul_coe_of_neg (mul_neg_of_neg_of_pos hg k1), EReal.bot_mul_coe_of_pos (mul_pos_of_neg_of_neg hg k2)]; rfl
    · simp [hg]
    · rw [EReal.bot_mul_coe_of_pos (mul_pos hg k1), EReal.bot_mul_coe_of_neg (mul_neg_of_pos_of_neg hg k2)]; rfl

/-- The two forms agree, added to anything: for all extended reals. -/
theorem byHand_eq (d : EReal) (h w : Fin 1024 → EReal) (l : Fin 1024) :
    d + byHand h w l = d + w l * inv h + h l * through h w + through h w * h l := by
  rw [add_assoc, add_assoc]
  refine congrArg (d + ·) ?_
  by_cases hh : ∀ x, IsReal (h x)
  · obtain ⟨g, rfl⟩ := lift hh
    obtain ⟨p, hp, e⟩ := power_real g
    have hs : (Real.sqrt p)⁻¹ * (Real.sqrt p)⁻¹ = 1 / p := by
      rw [← mul_inv, Real.mul_self_sqrt hp.le, one_div]
    simp only [byHand, through, inv, e, rsqrt_pos hp, word_1024, word_neg_half, Fin.sum_univ_one]
    rw [sub_eq_add_neg, correction _ (g l) (Real.sqrt p)⁻¹ p (by positivity) hp hs, mul_comm (_ : EReal) (w l),
      mul_comm (Ideal.div _ _) ((g l : ℝ) : EReal)]
  · obtain ⟨e1, e2⟩ := inv_infinite h hh
    have e3 : through h w = 0 := by
      rw [through, Fin.sum_univ_one, e1, e2, word_1024]
      simp [Ideal.div]
    rw [byHand, e1, e3]
    simp

end Cert.Rms

end
-- ==== Proof.FfnInputRef.lean ====
/- The gradient of a norm followed by two products, as the reference computes it: entry by entry a closed form of the
   arguments, with respect to the hidden state (`hidden`) and to the norm's weight (`weight`). -/
module

public import proofs.«01_k».proof.Proof.Gen.FfnInRefIdeal.Read
public import proofs.«01_k».proof.Proof.Rms
public import Idealize.ShloMosaic.Lib.Pointwise

@[expose] public section

set_option maxRecDepth 16384

noncomputable section

namespace Cert.FfnInput

open Idealize.ShloMosaic Idealize.ShloMosaic.TcCoe Idealize.SL.Sem Cert.FfnInRefIdeal Cert.FfnInRefIdeal.Read

/-- The cotangent of the normed row `r` at entry `x`: both products transposed. -/
def back (dgp dup : FVec Ideal S4096x2816 .f32) (wg wu : FVec Ideal S1x1024x2816 .f32) (r : Fin 4096) (x : Fin 1024) : EReal :=
  ∑ k : Fin 2816, dgp (ix2 r k) * wg (ix3 0 x k) + ∑ k : Fin 2816, dup (ix2 r k) * wu (ix3 0 x k)

/-- The gradient with respect to the hidden state. -/
def hidden (dh h : FVec Ideal S4096x1024 .f32) (g : FVec Ideal S1x1024 .f32) (dgp dup : FVec Ideal S4096x2816 .f32)
    (wg wu : FVec Ideal S1x1024x2816 .f32) : FVec Ideal S4096x1024 .f32 := fun i =>
  dh (ix2 (i 0) (i 1)) + Rms.byHand (fun x => h (ix2 (i 0) x)) (fun x => back dgp dup wg wu (i 0) x * g (ix2 0 x)) (i 1)

/-- What row `r` adds to the gradient with respect to the norm's weight. -/
def share (h : FVec Ideal S4096x1024 .f32) (dgp dup : FVec Ideal S4096x2816 .f32) (wg wu : FVec Ideal S1x1024x2816 .f32)
    (r : Fin 4096) (l : Fin 1024) : EReal :=
  back dgp dup wg wu r l * (h (ix2 r l) * Rms.inv fun x => h (ix2 r x))

/-- The gradient with respect to the norm's weight: the sum over the rows. -/
def weight (h : FVec Ideal S4096x1024 .f32) (dgp dup : FVec Ideal S4096x2816 .f32) (wg wu : FVec Ideal S1x1024x2816 .f32) :
    FVec Ideal S1x1024 .f32 := fun i => ∑ r : Fin 4096, share h dgp dup wg wu r (i 1)

variable (dh h : FVec Ideal S4096x1024 .f32) (g : FVec Ideal S1x1024 .f32) (dgp dup : FVec Ideal S4096x2816 .f32)
  (wg wu : FVec Ideal S1x1024x2816 .f32)

/-- The reference's first result. -/
theorem ref_hidden :
    val_main_v44 (F := Ideal) dh h g dgp dup wg wu = hidden dh h g dgp dup wg wu := by
  funext i
  idx_vars i
  refine Eq.trans ?_ (Rms.byHand_eq _ _ _ _).symm
  pointwise [val_main_v44, val_main_v43, val_main_v42, val_main_v41, val_main_v40, val_main_v39, val_main_v38, val_main_v37,
    val_main_v36, val_main_v35, val_main_v34, val_main_v33, val_main_v32, val_main_v31, val_main_v30, val_main_v28, val_main_v27,
    val_main_v23, val_main_v22, val_main_v21, val_main_v19, val_main_v17, val_main_v14, val_main_v11, val_main_v10, val_main_v9,
    val_main_v8, val_main_v7, val_main_v6, val_main_v5, val_main_v4, val_main_v3, val_main_v2, val_main_v1, val_main_v0,
    val_main_cst_7, val_main_cst_6, val_main_cst_5, val_main_cst_2, val_main_cst_1, val_main_cst_0, val_main_cst]
  simp only [add_comm (∑ k : Fin 2816, dup _ * wu _)]
  rfl

/-- The reference's second result. -/
theorem ref_weight : val_main_v45 (F := Ideal) h dgp dup wg wu = weight h dgp dup wg wu := by
  funext i
  idx_vars i
  pointwise [val_main_v45, val_main_v29, val_main_cst_4, val_main_v26, val_main_v25, val_main_cst_3, val_main_v24, val_main_v23,
    val_main_v22, val_main_v21, val_main_v19, val_main_v17, val_main_v13, val_main_v12, val_main_v8, val_main_v7, val_main_v6,
    val_main_v5, val_main_v4, val_main_v3, val_main_v2, val_main_v1, val_main_cst_1, val_main_cst_0, val_main_cst]
  simp only [add_comm (∑ k : Fin 2816, dup _ * wu _), mul_comm (h _ * _) (_ + _), Fin.sum_univ_one]
  rfl

end Cert.FfnInput

end
-- ==== Proof.FfnInputValue.lean ====
/- The gradient of a norm followed by two products, as the kernel computes it block by block: what one block of 512 rows
   holds, and the two arrays after the run. -/
module

public import proofs.«01_k».proof.Proof.Gen.FfnInIdeal.Value
public import proofs.«01_k».proof.Proof.FfnInputRef
public import Idealize.ShloMosaic.Lib.Pipeline.ValueKit
public import Idealize.ShloMosaic.Lib.Claim

@[expose] public section

set_option maxRecDepth 16384

noncomputable section

namespace Cert.FfnInIdeal.Blocks

open Idealize.ShloMosaic Idealize.ShloMosaic.TcCoe Idealize.SL.Sem Cert.FfnInIdeal Cert.FfnInIdeal.Gen
open Idealize.ShloMosaic.Pipeline (Dat)
open Cert.FfnInput (hidden weight share)

/-- What a block stores at an entry of the gradient with respect to the hidden state. -/
theorem pay_hidden (dh h : FVec Ideal S512x1024 .f32) (g : FVec Ideal S1x1024 .f32) (dgp dup : FVec Ideal S512x2816 .bf16)
    (wg wu : FVec Ideal S2816x1024 .bf16) (r : Fin 512) (l : Fin 1024) :
    k0_pay1 (F := Ideal) (k0_pay9 dgp wg dup wu h g) (k0_pay10 h) (k0_pay11 dgp wg dup wu h g) dh (ix2 r l) =
      dh (ix2 r l) + Rms.byHand (fun x => h (ix2 r x))
        (fun x => (∑ k : Fin 2816, dgp (ix2 r k) * wg (ix2 k x) + ∑ k : Fin 2816, dup (ix2 r k) * wu (ix2 k x)) * g (ix2 0 x)) l := by
  pointwise [k0_pay1, k0_pay9, k0_pay10, k0_pay11, k0_pay8, k0_pay6, k0_pay5, k0_pay4]
  rfl

/-- What a block adds to an entry of the gradient with respect to the norm's weight. -/
theorem pay_weight (h : FVec Ideal S512x1024 .f32) (acc : FVec Ideal S1x1024 .f32) (dgp dup : FVec Ideal S512x2816 .bf16)
    (wg wu : FVec Ideal S2816x1024 .bf16) (l : Fin 1024) :
    k0_pay2 (F := Ideal) (k0_pay7 dgp wg dup wu h) acc (ix2 0 l) = acc (ix2 0 l) +
      ∑ r : Fin 512, (∑ k : Fin 2816, dgp (ix2 r k) * wg (ix2 k l) + ∑ k : Fin 2816, dup (ix2 r k) * wu (ix2 k l))
        * (h (ix2 r l) * Rms.inv fun x => h (ix2 r x)) := by
  pointwise [k0_pay2, k0_pay7, k0_pay6, k0_pay5, k0_pay4]
  rfl

/-- Before the first block that gradient is zero. -/
theorem pay_zero (l : Fin 1024) : k0_pay3 (F := Ideal) (ix2 0 l) = 0 := by pointwise [k0_pay3]

/-- The block that each operand has at each grid point. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![0, 0]
    ∧ win0_7.index t = ![t.val, 0] ∧ win0_8.index t = ![0, 0] :=
  (by decide +kernel : ∀ t : Fin grid0.N, _)

variable (m : (ℓ : Loc nD τ sig) → Buf (Elt Ideal) ℓ)

/-- The array's row that is row `r` of block `t`. -/
abbrev row (t : Fin cfg0.N) (r : Fin 512) : Fin 4096 := ⟨t.val * 512 + r.val, by have := lt_of_lt_of_eq t.isLt N_0; omega⟩

theorem read0 (c : Dev nD) (t : Fin cfg0.N) (r : Fin 512) (x : Fin 1024) :
    iblk m c 0 t (ix2 r x) = m ((c : Thread nD τ).loc main_arg0) (ix2 (row t r) x) := by blk_ext! [iblk, V, idx t]
theorem read1 (c : Dev nD) (t : Fin cfg0.N) (r : Fin 512) (x : Fin 1024) :
    iblk m c 1 t (ix2 r x) = m ((c : Thread nD τ).loc main_arg1) (ix2 (row t r) x) := by blk_ext! [iblk, V, idx t]
theorem read2 (c : Dev nD) (t : Fin cfg0.N) (x : Fin 1024) :
    iblk m c 2 t (ix2 0 x) = m ((c : Thread nD τ).loc main_arg2) (ix2 0 x) := by blk_ext! [iblk, V, idx t]
theorem read3 (c : Dev nD) (t : Fin cfg0.N) (r : Fin 512) (x : Fin 2816) :
    iblk m c 3 t (ix2 r x) = m ((c : Thread nD τ).loc main_arg3) (ix2 (row t r) x) := by blk_point [iblk, V, idx t]
theorem read4 (c : Dev nD) (t : Fin cfg0.N) (r : Fin 512) (x : Fin 2816) :
    iblk m c 4 t (ix2 r x) = m ((c : Thread nD τ).loc main_arg4) (ix2 (row t r) x) := by blk_point [iblk, V, idx t]
theorem read5 (c : Dev nD) (t : Fin cfg0.N) (k : Fin 2816) (x : Fin 1024) :
    iblk m c 5 t (ix2 k x) = m ((c : Thread nD τ).loc main_arg5) (ix3 0 x k) := by blk_point [iblk, V, idx t]
theorem read6 (c : Dev nD) (t : Fin cfg0.N) (k : Fin 2816) (x : Fin 1024) :
    iblk m c 6 t (ix2 k x) = m ((c : Thread nD τ).loc main_arg6) (ix3 0 x k) := by blk_point [iblk, V, idx t]
theorem place (t : Fin cfg0.N) (r : Fin 512) (x : Fin 1024) :
    ((cfg0.win 7).blk t).view.emb (ix2 r x) = ix2 (row t r) x := by
  blk_ext [idx t]

/-- The program's arguments. -/
abbrev A0 (c : Dev nD) : FVec Ideal S4096x1024 .f32 := m ((c : Thread nD τ).loc main_arg0)
abbrev A1 (c : Dev nD) : FVec Ideal S4096x1024 .f32 := m ((c : Thread nD τ).loc main_arg1)
abbrev A2 (c : Dev nD) : FVec Ideal S1x1024 .f32 := m ((c : Thread nD τ).loc main_arg2)
abbrev A3 (c : Dev nD) : FVec Ideal S4096x2816 .f32 := m ((c : Thread nD τ).loc main_arg3)
abbrev A4 (c : Dev nD) : FVec Ideal S4096x2816 .f32 := m ((c : Thread nD τ).loc main_arg4)
abbrev A5 (c : Dev nD) : FVec Ideal S1x1024x2816 .f32 := m ((c : Thread nD τ).loc main_arg5)
abbrev A6 (c : Dev nD) : FVec Ideal S1x1024x2816 .f32 := m ((c : Thread nD τ).loc main_arg6)

/-- What a block stores is the gradient's block. -/
theorem point_hidden (c : Dev nD) (t : Fin cfg0.N) (r : Fin 512) (x : Fin 1024) :
    k0_pay1 (F := Ideal) (k0_pay9 (iblk m c 3 t) (iblk m c 5 t) (iblk m c 4 t) (iblk m c 6 t) (iblk m c 1 t) (iblk m c 2 t))
      (k0_pay10 (iblk m c 1 t))
      (k0_pay11 (iblk m c 3 t) (iblk m c 5 t) (iblk m c 4 t) (iblk m c 6 t) (iblk m c 1 t) (iblk m c 2 t)) (iblk m c 0 t) (ix2 r x)
      = hidden (A0 m c) (A1 m c) (A2 m c) (A3 m c) (A4 m c) (A5 m c) (A6 m c) (((cfg0.win 7).blk t).view.emb (ix2 r x)) := by
  rw [place, pay_hidden]
  simp only [read0, read1, read2, read3, read4, read5, read6]
  rfl

/-- What a block adds is the sum of its rows' shares. -/
theorem point_weight (c : Dev nD) (t : Fin cfg0.N) (acc : FVec Ideal S1x1024 .f32) (l : Fin 1024) :
    k0_pay2 (F := Ideal) (k0_pay7 (iblk m c 3 t) (iblk m c 5 t) (iblk m c 4 t) (iblk m c 6 t) (iblk m c 1 t)) acc (ix2 0 l)
      = acc (ix2 0 l) + ∑ r : Fin 512, share (A1 m c) (A3 m c) (A4 m c) (A5 m c) (A6 m c) (row t r) l := by
  rw [pay_weight]
  simp only [read1, read3, read4, read5, read6]
  rfl

/-- The first result after the run. -/
theorem final_hidden (c : Dev nD) :
    (dats m 0 c).arrAt 7 (cfgs 0).N = hidden (A0 m c) (A1 m c) (A2 m c) (A3 m c) (A4 m c) (A5 m c) (A6 m c) := by
  refine (dats m 0 c).arrAt_eq_of_covers 7 _ (by decide +kernel) fun t _ y => ?_
  blk_simp
  rw [after0_7]
  idx_vars y
  by_cases h : t.val % 8 = 0
  · rw [outsAt0_A m c t h]; frame_out
    exact point_hidden m c t y0 y1
  · rw [outsAt0_B m c t h]; frame_out
    exact point_hidden m c t y0 y1

/-- The second result after the run. -/
theorem final_weight (c : Dev nD) :
    (dats m 0 c).arrAt 8 (cfgs 0).N = weight (A1 m c) (A3 m c) (A4 m c) (A5 m c) (A6 m c) := by
  refine (dats m 0 c).arrAt_eq_of_after_last 8 t0_7 (by decide +kernel) _ fun j => ?_
  blk_simp
  rw [after0_8, Pipeline.eq_sum_fin_of_reset_step_apply_last (fun n h => (outsAt0 m c n h).2) 8 (fun _ => 0)
    (fun t j => ∑ r : Fin 512, share (A1 m c) (A3 m c) (A4 m c) (A5 m c) (A6 m c) (row t r) (j 1))
    (fun t h j => by
      idx_vars j
      obtain rfl : j0 = 0 := Subsingleton.elim _ _
      rw [outsAt0_A m c t h]; frame_out; rw [point_weight, pay_zero])
    (fun t h j => by
      idx_vars j
      obtain rfl : j0 = 0 := Subsingleton.elim _ _
      rw [outsAt0_B m c t h]; frame_out; rw [point_weight]) (le_of_eq N_0) t0_7 rfl _, zero_add]
  exact Fin.sum_mul_add_congr fun s k hl => rfl

end Cert.FfnInIdeal.Blocks

end
-- ==== Proof.FfnInputClaims.lean ====
/- The claims about the gradient of a norm followed by two products: both programs end with the same two arrays. -/
module

public import proofs.«01_k».proof.Defs
public import proofs.«01_k».proof.Proof.Gen.FfnIn.Frame
public import proofs.«01_k».proof.Proof.Gen.FfnInRefIdeal.Run
public import proofs.«01_k».proof.Proof.FfnInputValue

@[expose] public section

set_option maxRecDepth 16384

noncomputable section

namespace Cert.FfnInput

open Idealize.ShloMosaic Idealize.SL.Sem

/-- The reference runs and leaves its arguments alone; it has no semaphore. -/
theorem ref_frame : quiescent_FfnInRefIdeal (hFfnInRefIdeal := FfnInRefIdeal.Gen.facts) := fun m g _ =>
  (θ_run FfnInRefIdeal.defs _ _).mono (fun r h => ⟨fun c => (h c).2.2, sem_eq_zero_of_no_sems (by decide) r.2⟩)
    (FfnInRefIdeal.Value.run (F := Ideal) m g)

/-- Both programs end with the same arrays. -/
theorem value : algebraic_FfnInIdeal_FfnInRefIdeal (hFfnInIdeal := FfnInIdeal.Gen.facts)
    (hFfnInRefIdeal := FfnInRefIdeal.Gen.facts) := fun m g m' g' _ hm => by
  refine ⟨fun c => hidden (FfnInIdeal.Blocks.A0 m c) (FfnInIdeal.Blocks.A1 m c) (FfnInIdeal.Blocks.A2 m c)
      (FfnInIdeal.Blocks.A3 m c) (FfnInIdeal.Blocks.A4 m c) (FfnInIdeal.Blocks.A5 m c) (FfnInIdeal.Blocks.A6 m c),
    fun c => weight (FfnInIdeal.Blocks.A1 m c) (FfnInIdeal.Blocks.A3 m c) (FfnInIdeal.Blocks.A4 m c) (FfnInIdeal.Blocks.A5 m c)
      (FfnInIdeal.Blocks.A6 m c),
    (θ_run _ _ _).mono (fun r h c => ?_) (FfnInIdeal.Value.run_blocks m g),
    (θ_run _ _ _).mono (fun r h c => ?_) (FfnInRefIdeal.Value.run (F := Ideal) m' g')⟩
  · exact ⟨(h c).1.trans (FfnInIdeal.Blocks.final_hidden m c), (h c).2.1.trans (FfnInIdeal.Blocks.final_weight m c), (h c).2.2⟩
  · obtain ⟨e0, e1, e2, e3, e4, e5, e6⟩ := hm c
    refine ⟨(h c).1.trans ?_, (h c).2.1.trans ?_, (h c).2.2⟩
    · rw [FfnInRefIdeal.Read.val_main_v44_eq, e0, e1, e2, e3, e4, e5, e6]
      exact ref_hidden _ _ _ _ _ _ _
    · refine (FfnInRefIdeal.Read.val_main_v45_eq (F := Ideal) _ _ _ _ _).trans ?_
      rw [e1, e3, e4, e5, e6]
      exact ref_weight _ _ _ _ _

end Cert.FfnInput

end
-- ==== Proof.FfnHiddenFrame.lean ====
/- The frame of the hidden-layer gradient: the two operands that the kernel fetches itself, each through a ring of three
   slots, are held between the grid points as "which transfers are in flight"; every point takes one step of both rings
   and leaves its three output blocks covered by what it stored. Stated over any float type, so that it serves the
   program as printed and its ideal twin. -/
module

public import proofs.«01_k».proof.Proof.Gen.FfnHiddenIdeal.Frame.RunC
public import Idealize.ShloMosaic.Lib.Claim

@[expose] public section

set_option maxRecDepth 16384

noncomputable section

/-! ## One ring of three slots over eight blocks, with nothing kept at home -/

namespace Cert.Ring3

open Idealize.ShloMosaic Idealize.ShloMosaic.Tactic
open Idealize.SL Idealize.SL.RA Idealize.SL.BI Idealize.SL.BI.BIBase Idealize.SL.BI.Laws Idealize.SL.ProofMode
open scoped Idealize.SL.BI

variable {M : Type _} [URA M] {C : Fin 3 → Type _} (cell : Fin 3 → sProp M) (slot : (s : Fin 3) → C s → sProp M)
  (flight : (s : Fin 3) → Fin 8 → C s → sProp M)

/-- No block is held apart from the ring. -/
abbrev nothing (_ : Fin 8) : sProp M := iprop(emp)

/-- Before the first step the three slots are free. -/
theorem first_in (k : ℕ) (hk : k = 0) :
    Ring.At₀ cell slot nothing
      ⊢ iprop(Ring.free cell slot (Ring.sl 3 k) ∗ Ring.free cell slot (Ring.sl 3 (k + 1)) ∗ Ring.free cell slot (Ring.sl 3 (k + 2))) := by
  rw [Ring.At₀_eq3' _ _ _ k hk (by decide)]
  iintro ⟨-, H⟩
  iexact H

/-- After it two transfers are in flight. -/
theorem first_out (k : ℕ) (hk : k = 0) :
    iprop(Ring.inflight flight (Ring.sl 3 (k + 1)) (Ring.bk 8 (k + 1)) ∗ Ring.inflight flight (Ring.sl 3 (k + 2)) (Ring.bk 8 (k + 2))
      ∗ Ring.free cell slot (Ring.sl 3 k)) ⊢ Ring.At 2 cell slot nothing flight (k + 1) := by
  rw [Ring.At3_one' _ _ _ _ k hk (by decide)]
  exact Ring.with_homes (Entails.refl _)

/-- Before a step that still starts a transfer, two are in flight. -/
theorem mid_in (k : ℕ) (hk : k + 2 < 8) :
    Ring.At 2 cell slot nothing flight k
      ⊢ iprop(Ring.inflight flight (Ring.sl 3 k) (Ring.bk 8 k) ∗ Ring.inflight flight (Ring.sl 3 (k + 1)) (Ring.bk 8 (k + 1))
        ∗ Ring.free cell slot (Ring.sl 3 (k + 2))) := by
  rw [Ring.At3_here _ _ _ _ k hk]
  iintro ⟨-, H⟩
  iexact H

/-- After it again two. -/
theorem mid_out (k : ℕ) (hk : k + 2 < 8) :
    iprop(Ring.inflight flight (Ring.sl 3 (k + 1)) (Ring.bk 8 (k + 1)) ∗ Ring.inflight flight (Ring.sl 3 (k + 2)) (Ring.bk 8 (k + 2))
      ∗ Ring.free cell slot (Ring.sl 3 k)) ⊢ Ring.At 2 cell slot nothing flight (k + 1) := by
  rw [Ring.At3_next _ _ _ _ k hk, Ring.slotAt3_next0 _ _ _ k (by omega), Ring.slotAt3_next1 _ _ _ k hk]
  exact Ring.with_homes (Entails.refl _)

/-- The last two steps start nothing: the block of the step is in flight, the next one if there is one. -/
theorem last_in (k : ℕ) (hk : k < 8) :
    Ring.At 2 cell slot nothing flight k
      ⊢ iprop(Ring.inflight flight (Ring.sl 3 k) (Ring.bk 8 k) ∗ Ring.slotAt 2 cell slot flight k 1
        ∗ Ring.free cell slot (Ring.sl 3 (k + 2))) := by
  by_cases h : 8 ≤ k + 2
  · rw [Ring.At3_here_tail _ _ _ _ k hk]
    iintro ⟨-, H⟩
    iexact H
  · rw [Ring.slotAt_of_lt _ _ _ _ k 1 ⟨by decide, by simp; omega⟩]
    exact mid_in cell slot flight k (by omega)

/-- After one of them. -/
theorem last_out (k : ℕ) (hk : k < 8) (h8 : 8 ≤ k + 2) :
    iprop(Ring.slotAt 2 cell slot flight k 1 ∗ Ring.free cell slot (Ring.sl 3 (k + 2)) ∗ Ring.free cell slot (Ring.sl 3 k))
      ⊢ Ring.At 2 cell slot nothing flight (k + 1) := by
  rw [Ring.At3_next_tail _ _ _ _ k h8 hk, Ring.slotAt3_tail_role _ _ _ k]
  exact Ring.with_homes (Entails.refl _)

end Cert.Ring3

/-! ## One grid point -/

namespace Cert.HiddenFrame

open Cert.FfnHiddenIdeal Cert.FfnHiddenIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The stores into one output block. -/
abbrev Stores : Type := List (View.Piece (Elt F) S1024x1408 .bf16)

/-- Some contents of an output's staging buffer with the listed stores written. -/
abbrev stored (c : Dev nD) (a : Memref sig .tc .vmem S1024x1408 .bf16) (L : Stores (F := F)) : sProp 𝕄 :=
  iprop(∃ f, a.view.loc (c : Thread nD τ) ↦[a.view.set]{fullShare} a.view.writes (Elt F) f L)

/-- An output's staging buffer, holding anything. -/
abbrev any (c : Dev nD) (a : Memref sig .tc .vmem S1024x1408 .bf16) : sProp 𝕄 :=
  iprop(∃ d, owns (c : Thread nD τ) a fullShare d)

/-- Both rings before step `k`. -/
abbrev rings (c : Dev nD) (k : ℕ) : sProp 𝕄 :=
  iprop(ringAt0_0 c (V m c main_v21) k ∗ ringAt0_1 c (V m c main_v22) k)

/-- The two blocks that the pipeline stages, at point `t`. -/
abbrev inputs (c : Dev nD) (t : Fin cfg0.N) : sProp 𝕄 :=
  iprop(owns (c : Thread nD τ) (ms0_0 t) fullShare (iblk m c 0 t) ∗ owns (c : Thread nD τ) (ms0_1 t) fullShare (iblk m c 1 t))

/-- A point with its stores: they cover the three blocks, and the body takes the rings one step on. -/
structure Step (c : Dev nD) (t : Fin cfg0.N) where
  dgate : Stores (F := F)
  dup : Stores (F := F)
  act : Stores (F := F)
  cover_dgate : ∀ y, ∃ pc ∈ dgate, y ∈ pc.1.set
  cover_dup : ∀ y, ∃ pc ∈ dup, y ∈ pc.1.set
  cover_act : ∀ y, ∃ pc ∈ act, y ∈ pc.1.set
  run : ∀ (W : Waits sig Unit) (K : PUnit → sProp 𝕄),
    iprop(rings m c t.val ∗ inputs m c t ∗ (any c (ms0_2 t) ∗ any c (ms0_3 t) ∗ any c (ms0_4 t)) ∗ owes (c : Thread nD τ) 0 W
        ∗ (iprop(rings m c (t.val + 1) ∗ inputs m c t ∗ (stored c (ms0_2 t) dgate ∗ stored c (ms0_3 t) dup ∗ stored c (ms0_4 t) act)
            ∗ (∃ W', owes (c : Thread nD τ) 0 W')) -∗ K ⟨⟩))
      ⊢ wp frame (wpE (defs₀ (F := F)) Variants.none c none) Set.univ (bodyAt0 t) K

/-- A run of the body from the parts of the two rings is a run from the rings. -/
theorem run_of (c : Dev nD) (t : Fin cfg0.N) {L2 L3 L4 : Stores (F := F)} {a b d a' b' d' e f g e' f' g' : sProp 𝕄}
    (in0 : ringAt0_0 c (V m c main_v21) t.val ⊢ iprop(a ∗ b ∗ d)) (in1 : ringAt0_1 c (V m c main_v22) t.val ⊢ iprop(e ∗ f ∗ g))
    (out0 : iprop(a' ∗ b' ∗ d') ⊢ ringAt0_0 c (V m c main_v21) (t.val + 1))
    (out1 : iprop(e' ∗ f' ∗ g') ⊢ ringAt0_1 c (V m c main_v22) (t.val + 1))
    (h : ∀ (W : Waits sig Unit) (K : PUnit → sProp 𝕄),
      iprop(owns (c : Thread nD τ) (ms0_0 t) fullShare (iblk m c 0 t) ∗ owns (c : Thread nD τ) (ms0_1 t) fullShare (iblk m c 1 t)
          ∗ any c (ms0_2 t) ∗ any c (ms0_3 t) ∗ any c (ms0_4 t) ∗ a ∗ b ∗ d ∗ e ∗ f ∗ g ∗ owes (c : Thread nD τ) 0 W
          ∗ (iprop(owns (c : Thread nD τ) (ms0_0 t) fullShare (iblk m c 0 t) ∗ owns (c : Thread nD τ) (ms0_1 t) fullShare (iblk m c 1 t)
              ∗ stored c (ms0_2 t) L2 ∗ stored c (ms0_3 t) L3 ∗ stored c (ms0_4 t) L4 ∗ a' ∗ b' ∗ d' ∗ e' ∗ f' ∗ g'
              ∗ (∃ W', owes (c : Thread nD τ) 0 W')) -∗ K ⟨⟩))
        ⊢ wp frame (wpE (defs₀ (F := F)) Variants.none c none) Set.univ (bodyAt0 t) K)
    (W : Waits sig Unit) (K : PUnit → sProp 𝕄) :
    iprop(rings m c t.val ∗ inputs m c t ∗ (any c (ms0_2 t) ∗ any c (ms0_3 t) ∗ any c (ms0_4 t)) ∗ owes (c : Thread nD τ) 0 W
        ∗ (iprop(rings m c (t.val + 1) ∗ inputs m c t ∗ (stored c (ms0_2 t) L2 ∗ stored c (ms0_3 t) L3 ∗ stored c (ms0_4 t) L4)
            ∗ (∃ W', owes (c : Thread nD τ) 0 W')) -∗ K ⟨⟩))
      ⊢ wp frame (wpE (defs₀ (F := F)) Variants.none c none) Set.univ (bodyAt0 t) K := by
  iintro ⟨⟨R0, R1⟩, ⟨X0, X1⟩, ⟨Y0, Y1, Y2⟩, HW, HK⟩
  ihave P0 := in0 $$ R0
  icases P0 with ⟨A, B, D⟩
  ihave P1 := in1 $$ R1
  icases P1 with ⟨E, G, H⟩
  iapply (h W K)
  isplitl [X0]; · iexact X0
  isplitl [X1]; · iexact X1
  isplitl [Y0]; · iexact Y0
  isplitl [Y1]; · iexact Y1
  isplitl [Y2]; · iexact Y2
  isplitl [A]; · iexact A
  isplitl [B]; · iexact B
  isplitl [D]; · iexact D
  isplitl [E]; · iexact E
  isplitl [G]; · iexact G
  isplitl [H]; · iexact H
  isplitl [HW]; · iexact HW
  iintro ⟨X0, X1, Y0, Y1, Y2, A, B, D, E, G, H, HW⟩
  iapply HK
  isplitl [A B D E G H]
  · isplitl [A B D]
    · iapply out0
      isplitl [A]; · iexact A
      isplitl [B]; · iexact B
      iexact D
    iapply out1
    isplitl [E]; · iexact E
    isplitl [G]; · iexact G
    iexact H
  isplitl [X0 X1]
  · isplitl [X0]; · iexact X0
    iexact X1
  isplitl [Y0 Y1 Y2]
  · isplitl [Y0]; · iexact Y0
    isplitl [Y1]; · iexact Y1
    iexact Y2
  iexact HW

/-- The run at the first point. -/
abbrev runA (c : Dev nD) (t : Fin cfg0.N) (h0 : t.val % 8 = 0) (h1 : t.val < 6) :=
  kernelRun0_A c t (ms0_0 t) (hs0_0 t) (ms0_1 t) (hs0_1 t) (ms0_2 t) (hs0_2 t) (ms0_3 t) (hs0_3 t) (ms0_4 t) (hs0_4 t)
    ((hcond0_0 t).mpr h0) ((hcond0_1 t).mpr h1) (iblk m c 0 t) (iblk m c 1 t) (V m c main_v21) (V m c main_v22)

/-- The run at a point that still starts a transfer. -/
abbrev runB (c : Dev nD) (t : Fin cfg0.N) (h0 : ¬t.val % 8 = 0) (h1 : t.val < 6) :=
  kernelRun0_B c t (ms0_0 t) (hs0_0 t) (ms0_1 t) (hs0_1 t) (ms0_2 t) (hs0_2 t) (ms0_3 t) (hs0_3 t) (ms0_4 t) (hs0_4 t)
    (fun h => h0 ((hcond0_0 t).mp h)) ((hcond0_1 t).mpr h1) (iblk m c 0 t) (iblk m c 1 t) (V m c main_v21) (V m c main_v22)

/-- The run at one of the last two points. -/
abbrev runC (c : Dev nD) (t : Fin cfg0.N) (h0 : ¬t.val % 8 = 0) (h1 : ¬t.val < 6) :=
  kernelRun0_C c t (ms0_0 t) (hs0_0 t) (ms0_1 t) (hs0_1 t) (ms0_2 t) (hs0_2 t) (ms0_3 t) (hs0_3 t) (ms0_4 t) (hs0_4 t)
    (fun h => h0 ((hcond0_0 t).mp h)) (fun h => h1 ((hcond0_1 t).mp h)) (iblk m c 0 t) (iblk m c 1 t) (V m c main_v21) (V m c main_v22)

theorem points (t : Fin cfg0.N) : t.val < 8 := lt_of_lt_of_eq t.isLt (show cfg0.N = 8 from N_0)

def stepA (c : Dev nD) (t : Fin cfg0.N) (h0 : t.val % 8 = 0) (h1 : t.val < 6) : Step m c t where
  dgate := (runA m c t h0 h1).1
  dup := (runA m c t h0 h1).2.1
  act := (runA m c t h0 h1).2.2.1
  cover_dgate := View.cover_of_tiledL _ S256x1408.size (by sl_kernel_rfl)
  cover_dup := View.cover_of_tiledL _ S256x1408.size (by sl_kernel_rfl)
  cover_act := View.cover_of_tiledL _ S256x1408.size (by sl_kernel_rfl)
  run := by
    have hN := points t
    have hk : t.val = 0 := by omega
    refine run_of m c t ?_ ?_ ?_ ?_ (runA m c t h0 h1).2.2.2
    · unfold ringAt0_0; rw [if_pos hk]; exact Ring3.first_in _ _ _ hk
    · unfold ringAt0_1; rw [if_pos hk]; exact Ring3.first_in _ _ _ hk
    · unfold ringAt0_0; rw [if_neg (Nat.succ_ne_zero _)]; exact Ring3.first_out _ _ _ _ hk
    · unfold ringAt0_1; rw [if_neg (Nat.succ_ne_zero _)]; exact Ring3.first_out _ _ _ _ hk

def stepB (c : Dev nD) (t : Fin cfg0.N) (h0 : ¬t.val % 8 = 0) (h1 : t.val < 6) : Step m c t where
  dgate := (runB m c t h0 h1).1
  dup := (runB m c t h0 h1).2.1
  act := (runB m c t h0 h1).2.2.1
  cover_dgate := View.cover_of_tiledL _ S256x1408.size (by sl_kernel_rfl)
  cover_dup := View.cover_of_tiledL _ S256x1408.size (by sl_kernel_rfl)
  cover_act := View.cover_of_tiledL _ S256x1408.size (by sl_kernel_rfl)
  run := by
    have hN := points t
    have hk : ¬t.val = 0 := by omega
    refine run_of m c t ?_ ?_ ?_ ?_ (runB m c t h0 h1).2.2.2
    · unfold ringAt0_0; rw [if_neg hk]; exact Ring3.mid_in _ _ _ _ (by omega)
    · unfold ringAt0_1; rw [if_neg hk]; exact Ring3.mid_in _ _ _ _ (by omega)
    · unfold ringAt0_0; rw [if_neg (Nat.succ_ne_zero _)]; exact Ring3.mid_out _ _ _ _ (by omega)
    · unfold ringAt0_1; rw [if_neg (Nat.succ_ne_zero _)]; exact Ring3.mid_out _ _ _ _ (by omega)

def stepC (c : Dev nD) (t : Fin cfg0.N) (h0 : ¬t.val % 8 = 0) (h1 : ¬t.val < 6) : Step m c t where
  dgate := (runC m c t h0 h1).1
  dup := (runC m c t h0 h1).2.1
  act := (runC m c t h0 h1).2.2.1
  cover_dgate := View.cover_of_tiledL _ S256x1408.size (by sl_kernel_rfl)
  cover_dup := View.cover_of_tiledL _ S256x1408.size (by sl_kernel_rfl)
  cover_act := View.cover_of_tiledL _ S256x1408.size (by sl_kernel_rfl)
  run := by
    have hN := points t
    have hk : ¬t.val = 0 := by omega
    refine run_of m c t ?_ ?_ ?_ ?_ (runC m c t h0 h1).2.2.2
    · unfold ringAt0_0; rw [if_neg hk]; exact Ring3.last_in _ _ _ _ hN
    · unfold ringAt0_1; rw [if_neg hk]; exact Ring3.last_in _ _ _ _ hN
    · unfold ringAt0_0; rw [if_neg (Nat.succ_ne_zero _)]; exact Ring3.last_out _ _ _ _ hN (by omega)
    · unfold ringAt0_1; rw [if_neg (Nat.succ_ne_zero _)]; exact Ring3.last_out _ _ _ _ hN (by omega)

/-- The step at any point. -/
def step (c : Dev nD) (t : Fin cfg0.N) : Step m c t :=
  if h0 : t.val % 8 = 0 then
    stepA m c t h0 (by have := points t; omega)
  else if h1 : t.val < 6 then stepB m c t h0 h1 else stepC m c t h0 h1

/-! ## The whole run -/

/-- What a block holds after its stores. -/
def held (L : Stores (F := F)) : Vec F S1024x1408 .bf16 := VO0_2.read (Elt F) (VO0_2.writes (Elt F) VO0_2.junk L)

/-- Covering stores leave `held` in whatever buffer they go to. -/
theorem owns_held (c : Dev nD) (a : Memref sig .tc .vmem S1024x1408 .bf16) (L : Stores (F := F)) (h : ∀ y, ∃ pc ∈ L, y ∈ pc.1.set) :
    stored c a L ⊢ owns (c : Thread nD τ) a fullShare (held L) := by
  iintro ⟨%f, H⟩
  unfold owns held
  iexists _
  isplitr
  swap
  · iexact H
  ipureintro
  exact View.read_writes_of_cover _ _ _ _ _ h

/-- Between the points: the generator's register and the two rings. -/
def between (c : Dev nD) (k : ℕ) : sProp 𝕄 := iprop((∃ r, prngReg c r) ∗ rings m c k)

/-- The run's data: the staged inputs keep their blocks, an output block holds what its point stored. -/
def dats : (p : Fin 1) → (c : Dev nD) → Dat τ (Elt F) Unit ℕ (Pipeline.UD sig nD τ) ℕ (cfgs p) c
  | ⟨0, _⟩ => fun c =>
    { A := fun w => V m c (Pipeline.arrRef spec0 w)
      after := fun w t => match w with
        | ⟨0, _⟩ => iblk m c 0 t
        | ⟨1, _⟩ => iblk m c 1 t
        | ⟨2, _⟩ => held (step m c t).dgate
        | ⟨3, _⟩ => held (step m c t).dup
        | ⟨4, _⟩ => held (step m c t).act
      Φ := fun t => between m c t.val
      q := fun _ => fullShare
      owed := fun _ => 0 }

theorem A_eq (c : Dev nD) (w : Fin cfg0.W) : (dats m 0 c).A w = V m c (Pipeline.arrRef spec0 w) := by dsimp only [dats]

theorem after_dgate (c : Dev nD) (t : Fin cfg0.N) : (dats m 0 c).after 2 t = held (step m c t).dgate := by dsimp only [dats]
theorem after_dup (c : Dev nD) (t : Fin cfg0.N) : (dats m 0 c).after 3 t = held (step m c t).dup := by dsimp only [dats]
theorem after_act (c : Dev nD) (t : Fin cfg0.N) : (dats m 0 c).after 4 t = held (step m c t).act := by dsimp only [dats]

/-- What the pipeline hands the body at a point, and what it wants back. -/
def given (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

@[inherit_doc given]
def wanted (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

theorem sound (c : Dev nD) (t : Fin cfg0.N) :
    given m c t ⊢ wp frame (wpE (defs₀ (F := F)) Variants.none c none) Set.univ (bodyAt0 t) (fun _ => wanted m c t) := by
  have i0 : (dats m 0 c).after 0 = iblk m c 0 := by dsimp only [dats]
  have i1 : (dats m 0 c).after 1 = iblk m c 1 := by dsimp only [dats]
  have b0 := before0_0_of m (dats m 0 c) (A_eq m c 0) (fun t => congrFun i0 t) t
  have b1 := before0_1_of m (dats m 0 c) (A_eq m c 1) (fun t => congrFun i1 t) t
  have p : (dats m 0 c).Φ t.castSucc = between m c t.val := by dsimp only [dats]; simp only [Fin.val_castSucc]
  have q : (dats m 0 c).Φ t.succ = between m c (t.val + 1) := by dsimp only [dats]; simp only [Fin.val_succ]
  unfold given wanted
  simp only [b0, b1]
  rw [after_dgate, after_dup, after_act, i0, i1, p, q]
  unfold Dat.owesAt Pipeline.owesWithin between
  rw [show (dats m 0 c).owed t.castSucc = 0 from rfl, show (dats m 0 c).owed t.succ = 0 from rfl]
  generalize step m c t = s
  iintro ⟨⟨Hg, HR⟩, ⟨%W, -, HW⟩, ⟨%d0, H0⟩, ⟨%d1, H1⟩, ⟨%d2, H2⟩, ⟨%d3, H3⟩, ⟨%d4, H4⟩⟩
  iapply (s.run W _)
  isplitl [HR]; · iexact HR
  isplitl [H0 H1]
  · isplitl [H0]; · iexact H0
    iexact H1
  isplitl [H2 H3 H4]
  · isplitl [H2]; · iexists _; iexact H2
    isplitl [H3]; · iexists _; iexact H3
    iexists _; iexact H4
  isplitl [HW]; · iexact HW
  iintro ⟨HR, ⟨H0, H1⟩, ⟨H2, H3, H4⟩, ⟨%W', HW⟩⟩
  isplitl [Hg HR]
  · isplitl [Hg]; · iexact Hg
    iexact HR
  isplitl [HW]
  · iexists W'; isplitr; · ipureintro; exact fun _ _ => Or.inl trivial
    iexact HW
  isplitl [H0]; · iexact H0
  isplitl [H1]; · iexact H1
  isplitl [H2]; · iapply (owns_held c _ _ s.cover_dgate); iexact H2
  isplitl [H3]; · iapply (owns_held c _ _ s.cover_dup); iexact H3
  iapply (owns_held c _ _ s.cover_act); iexact H4

theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (sound m c t) rfl .rfl fun _ => .rfl

/-- The scratch, the semaphores and the two operands handed over at the start make the two rings. -/
theorem hin (c : Dev nD) : Pipeline.ΦD osem0 spec0 H0 (V m) c ⊢ (dats m 0 c).Φ 0 := by
  rw [PhiD0_eq, show (dats m 0 c).Φ 0 = between m c 0 from rfl]
  unfold between
  iintro ⟨⟨B0, B1⟩, Hg, ⟨q0, q1, q2, q3, q4, q5⟩, ⟨S0, S1⟩⟩
  isplitl [Hg]; · iexact Hg
  isplitl [B0 q0 q1 q2 S0]
  · iapply (ring0_0_in (F := F) m c)
    isplitl [B0]; · iexact B0
    isplitr [S0]
    · isplitl [q0]; · iexact q0
      isplitl [q1]; · iexact q1
      iexact q2
    iexact S0
  iapply (ring0_1_in (F := F) m c)
  isplitl [B1]; · iexact B1
  isplitr [S1]
  · isplitl [q3]; · iexact q3
    isplitl [q4]; · iexact q4
    iexact q5
  iexact S1

/-- The rings after the last point give them back. -/
theorem hout (c : Dev nD) : (dats m 0 c).Φ (Fin.last cfg0.N) ⊢ Pipeline.ΦD osem0 spec0 H0 (V m) c := by
  rw [PhiD0_eq, show (dats m 0 c).Φ (Fin.last cfg0.N) = between m c grid0.N from rfl, show grid0.N = 8 by rw [N_0]]
  unfold between
  iintro ⟨Hg, R0, R1⟩
  ihave P0 := (ring0_0_out (F := F) m c) $$ R0
  icases P0 with ⟨B0, ⟨q0, q1, q2⟩, S0⟩
  ihave P1 := (ring0_1_out (F := F) m c) $$ R1
  icases P1 with ⟨B1, ⟨q3, q4, q5⟩, S1⟩
  isplitl [B0 B1]
  · isplitl [B0]; · iexact B0
    iexact B1
  isplitl [Hg]; · iexact Hg
  isplitr [S0 S1]
  · isplitl [q0]; · iexact q0
    isplitl [q1]; · iexact q1
    isplitl [q2]; · iexact q2
    isplitl [q3]; · iexact q3
    isplitl [q4]; · iexact q4
    iexact q5
  isplitl [S0]; · iexact S0
  iexact S1

set_option backward.isDefEq.respectTransparency.types false in
/-- The program ends with its arrays as the pipeline leaves them and every semaphore at zero. -/
theorem run : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (obligation m c).loose) (hshare := fun c => (dats m 0 c).share_full fun _ => rfl)
    (howed := fun _ _ => rfl) (V := V m) (hmain := hmain m Variants.none) (hA := A_eq m)
    (hin := hin m) (hout := hout m)

/-- The frame: the program ends, its arguments unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run m ρ)))
    ((θ_run defs _ _).mono (fun _ h => h.2) (run m ρ))

/-- The three output arrays at the end, beside the arguments. -/
theorem run_arrays : θ_run defs (onTc (τ := τ) (main (F := F))) ⟨m, fun _ => 0, ρ⟩ fun r => ∀ c : Dev nD,
      r.2.mem ((c : Thread nD τ).loc main_v25_0) = (dats m 0 c).arrAt 2 cfg0.N
      ∧ r.2.mem ((c : Thread nD τ).loc main_v25_1) = (dats m 0 c).arrAt 3 cfg0.N
      ∧ r.2.mem ((c : Thread nD τ).loc main_v25_2) = (dats m 0 c).arrAt 4 cfg0.N :=
  (θ_run defs _ _).mono (fun r h c => ⟨(h.1 c).1 2, (h.1 c).1 3, (h.1 c).1 4⟩) (run m ρ)

end Cert.HiddenFrame

end
-- ==== Proof.FfnHiddenParts.lean ====
/- The hidden-layer gradient, point by point: what the four row parts of a point read, and which stores the point makes.
   The two operands that the kernel fetches itself come in blocks of 1024 rows and 1408 columns; point `t` takes block
   `t % 4` of the rows and `t / 4` of the columns, out of a slot that holds that block. -/
module

public import proofs.«01_k».proof.Proof.FfnHiddenFrame
public import Idealize.ShloMosaic.Lib.Pipeline.ValueKit
public import Idealize.ShloMosaic.Lib.ValueLayout

@[expose] public section

set_option maxRecDepth 16384

noncomputable section

namespace Cert.FfnHiddenIdeal.Blocks

open Idealize.ShloMosaic Idealize.ShloMosaic.TcCoe Idealize.ShloMosaic.Tactic Idealize.SL.Sem
open Cert.FfnHiddenIdeal Cert.FfnHiddenIdeal.Gen Cert.HiddenFrame

variable (m : (ℓ : Loc nD τ sig) → Buf (Elt Ideal) ℓ)

/-- The stores of a point, in terms of the parts that the runs name: the same for all three kinds of points. -/
abbrev product0 (c : Dev nD) (t : Fin cfg0.N) := kernelRun0_B.sl.r (F := Ideal) c (ms0_0 t) (hs0_0 t) (ms0_1 t) (hs0_1 t) (iblk m c 0 t) (iblk m c 1 t)
@[inherit_doc product0]
abbrev product1 (c : Dev nD) (t : Fin cfg0.N) := kernelRun0_B.sl.r_1 (F := Ideal) c (ms0_0 t) (hs0_0 t) (ms0_1 t) (hs0_1 t) (iblk m c 0 t) (iblk m c 1 t)
@[inherit_doc product0]
abbrev product2 (c : Dev nD) (t : Fin cfg0.N) := kernelRun0_B.sl.r_2 (F := Ideal) c (ms0_0 t) (hs0_0 t) (ms0_1 t) (hs0_1 t) (iblk m c 0 t) (iblk m c 1 t)
@[inherit_doc product0]
abbrev product3 (c : Dev nD) (t : Fin cfg0.N) := kernelRun0_B.sl.r_3 (F := Ideal) c (ms0_0 t) (hs0_0 t) (ms0_1 t) (hs0_1 t) (iblk m c 0 t) (iblk m c 1 t)

/-- A part of a slot of the first ring, or of the second, with block `t` of its operand in it. -/
def gate (c : Dev nD) (t : Fin cfg0.N) (o : Nat) (h : o + 256 ≤ 1024 := by decide) : FVec Ideal S1x256x1408 .bf16 :=
  fun i => V m c main_v21 (ix2 ⟨1024 * (t.val % 4) + (o + (i 1).val), by have : (i 1).val < 256 := (i 1).isLt; omega⟩
    ⟨1408 * (t.val / 4) + (i 2).val, by have : (i 2).val < 1408 := (i 2).isLt; have := points t; omega⟩)
@[inherit_doc gate]
def up (c : Dev nD) (t : Fin cfg0.N) (o : Nat) (h : o + 256 ≤ 1024 := by decide) : FVec Ideal S1x256x1408 .bf16 :=
  fun i => V m c main_v22 (ix2 ⟨1024 * (t.val % 4) + (o + (i 1).val), by have : (i 1).val < 256 := (i 1).isLt; omega⟩
    ⟨1408 * (t.val / 4) + (i 2).val, by have : (i 2).val < 1408 := (i 2).isLt; have := points t; omega⟩)

/-- One slot of a ring. -/
abbrev slotOf (M : Memref sig .tc .vmem S3x1024x1408 .bf16) (s : Fin 3) : Memref sig .tc .vmem S1024x1408 .bf16 :=
  (M.slice (Rect.unit (s := S3x1024x1408) ![s.val, 0, 0] S1x1024x1408.size (inb_slot0_0 s)) (fun _ => rfl)).squeeze S1024x1408
    squeezes_S1x1024x1408_S1024x1408

/-- A part of a slot with a block in it reads as that part of the block. -/
theorem part (M : Memref sig .tc .vmem S3x1024x1408 .bf16) (s : Fin 3) (p : S1024x1408.Idx → Elt Ideal .bf16) (o : Nat)
    (off : Fin 3 → Nat) (e : off = ![s.val, o, 0]) (h : ∀ a, off a + S1x256x1408.size a ≤ S3x1024x1408.size a)
    (ho : o + 256 ≤ 1024) (i : S1x256x1408.Idx) :
    View.readAt (Elt Ideal) M.view (Rect.unit (s := S3x1024x1408) off S1x256x1408.size h).toLoadRect
      ((slotOf M s).view.writes (Elt Ideal) (slotOf M s).view.junk [⟨Rect.whole S1024x1408, p⟩]) i
      = p (ix2 ⟨o + (i 1).val, by have : (i 1).val < 256 := (i 1).isLt; omega⟩ (i 2)) := by
  subst e
  have h0 : (i 0).val < 1 := (i 0).isLt
  have h1 : (i 1).val < 256 := (i 1).isLt
  have h1' : o + (i 1).val < 1024 := by omega
  have w := View.read_writes_cons_emb (Val := Elt Ideal) (slotOf M s).view (slotOf M s).view.junk (Rect.whole S1024x1408) p []
    (ix2 ⟨o + (i 1).val, h1'⟩ (i 2))
  refine Eq.trans ?_ w
  refine congrArg (M.view.read (Elt Ideal) _) ?_
  have e : (Rect.whole S1024x1408).emb (ix2 ⟨o + (i 1).val, h1'⟩ (i 2)) = ix2 ⟨o + (i 1).val, h1'⟩ (i 2) :=
    funext fun a => Fin.ext (by fin_cases a <;> simp [Rect.whole, ix2])
  rw [e]
  refine Eq.trans ?_ (congrArg (Rect.emb _) (ValueIdx.reshapeEquiv_ix2_1ab _ ⟨o + (i 1).val, h1'⟩ (i 2))).symm
  funext a
  exact Fin.ext (by fin_cases a <;> simp [ix3] <;> omega)

/-- Block `t` of an operand, at a place. -/
theorem source (b : Fin 8) (t : Fin cfg0.N) (hb : b.val = t.val) (r : Fin 1024) (k : Fin 1408) (h : 1024 * (t.val % 4) + r.val < 4096)
    (h' : 1408 * (t.val / 4) + k.val < 2816) :
    (Rect.unit (s := S4096x2816) ![1024 * (b.val % 4), 1408 * (b.val / 4)] S1024x1408.size (inb_src0_0 b)).emb (ix2 r k)
      = ix2 ⟨1024 * (t.val % 4) + r.val, h⟩ ⟨1408 * (t.val / 4) + k.val, h'⟩ := by
  funext a
  exact Fin.ext (by fin_cases a <;> simp [ix2, hb])

/-- A part of the slot of the first ring, and of the second. -/
theorem part0 (c : Dev nD) (t : Fin cfg0.N) (o : Nat) (off : Fin 3 → Nat) (e : off = ![(Ring.sl 3 t.val).val, o, 0])
    (h : ∀ a, off a + S1x256x1408.size a ≤ S3x1024x1408.size a) (ho : o + 256 ≤ 1024) :
    View.readAt (Elt Ideal) scM0_0.view (Rect.unit (s := S3x1024x1408) off S1x256x1408.size h).toLoadRect
      ((rslot0_0 (Ring.sl 3 t.val)).view.writes (Elt Ideal) (rslot0_0 (Ring.sl 3 t.val)).view.junk
        [⟨Rect.whole S1024x1408, ReadAs.same.apply (View.read (Elt Ideal) (srcB0_0 (Ring.bk 8 t.val)).view (V m c main_v21))⟩])
      = gate m c t o ho :=
  funext fun i => (part scM0_0 _ _ o off e h ho i).trans
    (congrArg (V m c main_v21) (source _ t (Nat.mod_eq_of_lt (points t)) _ _ _ _))

@[inherit_doc part0]
theorem part1 (c : Dev nD) (t : Fin cfg0.N) (o : Nat) (off : Fin 3 → Nat) (e : off = ![(Ring.sl 3 t.val).val, o, 0])
    (h : ∀ a, off a + S1x256x1408.size a ≤ S3x1024x1408.size a) (ho : o + 256 ≤ 1024) :
    View.readAt (Elt Ideal) scM0_1.view (Rect.unit (s := S3x1024x1408) off S1x256x1408.size h).toLoadRect
      ((rslot0_1 (Ring.sl 3 t.val)).view.writes (Elt Ideal) (rslot0_1 (Ring.sl 3 t.val)).view.junk
        [⟨Rect.whole S1024x1408, ReadAs.same.apply (View.read (Elt Ideal) (srcB0_1 (Ring.bk 8 t.val)).view (V m c main_v22))⟩])
      = up m c t o ho :=
  funext fun i => (part scM0_1 _ _ o off e h ho i).trans
    (congrArg (V m c main_v22) (source _ t (Nat.mod_eq_of_lt (points t)) _ _ _ _))

/-- A part of the staged block of rows times the staged block of the weight. -/
abbrev rowsOf (X : FVec Ideal S1024x1024 .bf16) (o : Nat) (h : ∀ a, (![o, 0] : Fin 2 → Nat) a + S256x1024.size a ≤ S1024x1024.size a) :
    FVec Ideal S256x1024 .bf16 := View.ld (Val := Elt Ideal) (e' := .bf16) (S := S1024x1024) X (Rect.unit (s := S1024x1024) ![o, 0] S256x1024.size h)

/-- What the three kinds of points store. -/
def dgateStores (c : Dev nD) (t : Fin cfg0.N) : Stores (F := Ideal) :=
  [⟨Rect.unit ![768, 0] S256x1408.size inb_S1024x1408_S256x1408_768_0, k0_pay32 (F := Ideal) (product3 m c t) (gate m c t 768) (up m c t 768)⟩,
   ⟨Rect.unit ![512, 0] S256x1408.size inb_S1024x1408_S256x1408_512_0, k0_pay25 (F := Ideal) (product2 m c t) (k0_pay21 (gate m c t 512)) (up m c t 512)⟩,
   ⟨Rect.unit ![256, 0] S256x1408.size inb_S1024x1408_S256x1408_256_0, k0_pay18 (F := Ideal) (product1 m c t) (gate m c t 256) (up m c t 256)⟩,
   ⟨Rect.unit ![0, 0] S256x1408.size inb_S1024x1408_S256x1408_0_0, k0_pay11 (F := Ideal) (product0 m c t) (gate m c t 0) (up m c t 0)⟩]
@[inherit_doc dgateStores]
def dupStores (c : Dev nD) (t : Fin cfg0.N) : Stores (F := Ideal) :=
  [⟨Rect.unit ![768, 0] S256x1408.size inb_S1024x1408_S256x1408_768_0, k0_pay1 (F := Ideal) (product3 m c t) (k0_pay31 (gate m c t 768))⟩,
   ⟨Rect.unit ![512, 0] S256x1408.size inb_S1024x1408_S256x1408_512_0, k0_pay26 (F := Ideal) (product2 m c t) (k0_pay21 (gate m c t 512))⟩,
   ⟨Rect.unit ![256, 0] S256x1408.size inb_S1024x1408_S256x1408_256_0, k0_pay19 (F := Ideal) (product1 m c t) (gate m c t 256)⟩,
   ⟨Rect.unit ![0, 0] S256x1408.size inb_S1024x1408_S256x1408_0_0, k0_pay12 (F := Ideal) (product0 m c t) (gate m c t 0)⟩]
@[inherit_doc dgateStores]
def actStores (c : Dev nD) (t : Fin cfg0.N) : Stores (F := Ideal) :=
  [⟨Rect.unit ![768, 0] S256x1408.size inb_S1024x1408_S256x1408_768_0, k0_pay2 (F := Ideal) (k0_pay29 (up m c t 768)) (k0_pay31 (gate m c t 768))⟩,
   ⟨Rect.unit ![512, 0] S256x1408.size inb_S1024x1408_S256x1408_512_0, k0_pay27 (F := Ideal) (k0_pay21 (gate m c t 512)) (up m c t 512)⟩,
   ⟨Rect.unit ![256, 0] S256x1408.size inb_S1024x1408_S256x1408_256_0, k0_pay20 (F := Ideal) (gate m c t 256) (up m c t 256)⟩,
   ⟨Rect.unit ![0, 0] S256x1408.size inb_S1024x1408_S256x1408_0_0, k0_pay13 (F := Ideal) (k0_pay8 (up m c t 0)) (k0_pay10 (gate m c t 0))⟩]

/-- The parts of the two slots as a run names them. -/
theorem reads (c : Dev nD) (t : Fin cfg0.N) :
    (kernelRun0_B.sl.v46 c t (V m c main_v21) = gate m c t 0 ∧ kernelRun0_B.sl.v72 c t (V m c main_v21) = gate m c t 256
      ∧ kernelRun0_B.sl.v98 c t (V m c main_v21) = gate m c t 512 ∧ kernelRun0_B.sl.v124 c t (V m c main_v21) = gate m c t 768)
    ∧ kernelRun0_B.sl.v50 c t (V m c main_v22) = up m c t 0 ∧ kernelRun0_B.sl.v76 c t (V m c main_v22) = up m c t 256
      ∧ kernelRun0_B.sl.v102 c t (V m c main_v22) = up m c t 512 ∧ kernelRun0_B.sl.v128 c t (V m c main_v22) = up m c t 768 :=
  ⟨⟨part0 m c t 0 _ (coff0_0_13 t) _ _, part0 m c t 256 _ (coff0_0_14 t) _ _, part0 m c t 512 _ (coff0_0_15 t) _ _, part0 m c t 768 _ (coff0_0_16 t) _ _⟩,
    part1 m c t 0 _ (coff0_1_13 t) _ _, part1 m c t 256 _ (coff0_1_14 t) _ _, part1 m c t 512 _ (coff0_1_15 t) _ _, part1 m c t 768 _ (coff0_1_16 t) _ _⟩

/-- A middle point stores these. -/
theorem storesB (c : Dev nD) (t : Fin cfg0.N) (h0 : ¬t.val % 8 = 0) (h1 : t.val < 6) :
    (stepB m c t h0 h1).dgate = dgateStores m c t ∧ (stepB m c t h0 h1).dup = dupStores m c t ∧ (stepB m c t h0 h1).act = actStores m c t := by
  obtain ⟨⟨g0, g1, g2, g3⟩, u0, u1, u2, u3⟩ := reads m c t
  unfold dgateStores dupStores actStores
  rw [← g0, ← g1, ← g2, ← g3, ← u0, ← u1, ← u2, ← u3]
  exact ⟨rfl, rfl, rfl⟩

/-- So does the first point, and each of the last two. -/
theorem storesA (c : Dev nD) (t : Fin cfg0.N) (h0 : t.val % 8 = 0) (h1 : t.val < 6) :
    (stepA m c t h0 h1).dgate = dgateStores m c t ∧ (stepA m c t h0 h1).dup = dupStores m c t ∧ (stepA m c t h0 h1).act = actStores m c t := by
  obtain ⟨⟨g0, g1, g2, g3⟩, u0, u1, u2, u3⟩ := reads m c t
  unfold dgateStores dupStores actStores
  rw [← g0, ← g1, ← g2, ← g3, ← u0, ← u1, ← u2, ← u3]
  exact ⟨rfl, rfl, rfl⟩

@[inherit_doc storesA]
theorem storesC (c : Dev nD) (t : Fin cfg0.N) (h0 : ¬t.val % 8 = 0) (h1 : ¬t.val < 6) :
    (stepC m c t h0 h1).dgate = dgateStores m c t ∧ (stepC m c t h0 h1).dup = dupStores m c t ∧ (stepC m c t h0 h1).act = actStores m c t := by
  obtain ⟨⟨g0, g1, g2, g3⟩, u0, u1, u2, u3⟩ := reads m c t
  unfold dgateStores dupStores actStores
  rw [← g0, ← g1, ← g2, ← g3, ← u0, ← u1, ← u2, ← u3]
  exact ⟨rfl, rfl, rfl⟩

/-- What any point stores. -/
theorem stores (c : Dev nD) (t : Fin cfg0.N) :
    (step m c t).dgate = dgateStores m c t ∧ (step m c t).dup = dupStores m c t ∧ (step m c t).act = actStores m c t := by
  unfold step
  split
  · exact storesA m c t _ _
  · split
    · exact storesB m c t _ _
    · exact storesC m c t _ _

end Cert.FfnHiddenIdeal.Blocks

end
-- ==== Proof.Swiglu.lean ====
/- One row of a feed-forward half with a gated hidden layer: norm, two products, gate, product back, and the half of it
   added to the row; and the row's part in the loss. -/
module

public import proofs.«01_k».proof.Proof.Rms

@[expose] public section

noncomputable section

namespace Cert.Swiglu

open Idealize.ShloMosaic Cert.Reals

/-- A row normed and weighted. -/
def normed (h g : Fin 1024 → EReal) (x : Fin 1024) : EReal := h x * Rms.inv h * g x

/-- Entry `k` of the normed row's product with a weight. -/
def pre (h g : Fin 1024 → EReal) (w : Fin 1024 → Fin 2816 → EReal) (k : Fin 2816) : EReal := ∑ x, normed h g x * w x k

/-- The gate: `a · logistic a · b`. -/
def gated (a b : EReal) : EReal := a * Ideal.logistic a * b

/-- The row after the feed-forward half. -/
def out (h g : Fin 1024 → EReal) (wg wu : Fin 1024 → Fin 2816 → EReal) (wd : Fin 2816 → Fin 1024 → EReal) (x : Fin 1024) : EReal :=
  h x + Ideal.ofBits FTy.f32 0x3F000000#32 * ∑ k, gated (pre h g wg k) (pre h g wu k) * wd k x

/-- What the normed row `o` misses its target by. -/
def err (o g t : Fin 1024 → EReal) (x : Fin 1024) : EReal := normed o g x - t x

/-- The error as the loss passes it back: divided by the row's length. -/
def passed (o g t : Fin 1024 → EReal) (x : Fin 1024) : EReal := err o g t x * Ideal.ofBits FTy.f32 0x3A800000#32

/-- What a row adds to the loss. -/
def loss (o g t : Fin 1024 → EReal) : EReal := Ideal.ofBits FTy.f32 0x3A000000#32 * ∑ x, err o g t x * err o g t x

/-- The words of `1/2048`, `1/1024`, `1/2`, 1 and 2. -/
theorem word_2048th : Ideal.ofBits .f32 0x3A000000#32 = ((1 / 2048 : ℝ) : EReal) := by
  simp [Ideal.ofBits, Ideal.ieee]; rw [← EReal.coe_mul]; norm_num
theorem word_1024th : Ideal.ofBits .f32 0x3A800000#32 = ((1 / 1024 : ℝ) : EReal) := by
  simp [Ideal.ofBits, Ideal.ieee]; rw [← EReal.coe_mul]; norm_num
theorem word_half : Ideal.ofBits .f32 0x3F000000#32 = ((1 / 2 : ℝ) : EReal) := by
  simp [Ideal.ofBits, Ideal.ieee]; rw [← EReal.coe_mul]; norm_num
theorem word_one : Ideal.ofBits .f32 0x3F800000#32 = ((1 : ℝ) : EReal) := by
  simp [Ideal.ofBits, Ideal.ieee]; rw [← EReal.coe_mul]; norm_num
theorem word_two : Ideal.ofBits .f32 0x40000000#32 = ((2 : ℝ) : EReal) := by
  simp [Ideal.ofBits, Ideal.ieee]; rw [← EReal.coe_mul]; norm_num

/-- The factors of the loss's derivative, as it spells them. -/
theorem passed_eq (e : EReal) : Ideal.div (Ideal.ofBits .f32 0x3F000000#32 * Ideal.ofBits .f32 0x3F800000#32)
    (Ideal.ofBits .f32 0x44800000#32) * (Ideal.ofBits .f32 0x40000000#32 * e) = e * Ideal.ofBits .f32 0x3A800000#32 := by
  rw [word_half, word_one, word_1024, word_two, word_1024th, ← EReal.coe_mul, div_real _ (by norm_num), ← mul_assoc, ← EReal.coe_mul,
    mul_comm]
  congr 2
  norm_num

/-- A positive real factor goes into a sum. -/
theorem mul_sum {ι : Type} (s : Finset ι) (c : ℝ) (hc : 0 ≤ c) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (EReal.coe_nonneg.mpr hc) (EReal.coe_ne_top c), ih]

/-- Half of the mean of the squares, summed over the rows, is the sum of the rows' parts. -/
theorem loss_eq {ι : Type} (s : Finset ι) (f : ι → EReal) :
    Ideal.ofBits .f32 0x3F000000#32 * ∑ r ∈ s, Ideal.div (f r) (Ideal.ofBits .f32 0x44800000#32)
      = ∑ r ∈ s, Ideal.ofBits .f32 0x3A000000#32 * f r := by
  rw [word_half, word_1024, word_2048th, mul_sum _ _ (by norm_num)]
  refine Finset.sum_congr rfl fun r _ => ?_
  rw [Ideal.div_coe (by norm_num), mul_comm (f r), ← mul_assoc, ← EReal.coe_mul]
  congr 2
  norm_num

end Cert.Swiglu

end
-- ==== Proof.FfnHiddenRef.lean ====
/- The gradient of a gated hidden layer, as the reference computes it: entry by entry closed forms of the arguments, and the
   equation between the derivative of the gate and the form that a kernel takes. -/
module

public import proofs.«01_k».proof.Proof.Gen.FfnHiddenRefIdeal.Read
public import proofs.«01_k».proof.Proof.Swiglu
public import Idealize.ShloMosaic.Lib.Pointwise

@[expose] public section

set_option maxRecDepth 16384

noncomputable section

namespace Cert.GatedHidden

open Idealize.ShloMosaic Idealize.ShloMosaic.TcCoe Idealize.SL.Sem Cert.FfnHiddenRefIdeal Cert.FfnHiddenRefIdeal.Read Cert.Swiglu Cert.Reals

/-- The gate's slope. -/
def slope (g : EReal) : EReal := Ideal.logistic g * (1 + g * (1 - Ideal.logistic g))

/-- What comes back through the gate, as the derivative spells it: a real number `d` times the slope. -/
theorem through_gate (d : ℝ) (g : EReal) : (d : EReal) * Ideal.logistic g + g * d * (Ideal.logistic g * (1 - Ideal.logistic g))
    = d * slope g := by
  unfold slope
  induction g with
  | bot => simp
  | top => simp [show (1 : EReal) - 1 = 0 from by rw [← EReal.coe_one, ← EReal.coe_sub, sub_self, EReal.coe_zero]]
  | coe r =>
    obtain ⟨s, hs⟩ : ∃ s : ℝ, Ideal.logistic (r : EReal) = (s : EReal) := ⟨_, Ideal.logistic_coe r⟩
    rw [hs]
    norm_cast
    ring

variable (dh h : FVec Ideal S4096x1024 .f32) (g : FVec Ideal S1x1024 .f32) (wg wu : FVec Ideal S1x1024x2816 .f32)
  (wd : FVec Ideal S1x2816x1024 .f32)

/-- Row `r` of the hidden state, and the norm's weight, as rows. -/
abbrev hrow (r : Fin 4096) : Fin 1024 → EReal := fun x => h (ix2 r x)
abbrev grow : Fin 1024 → EReal := fun x => g (ix2 0 x)

/-- A product of the normed rows, as the forward pass leaves it. -/
def pre (w : FVec Ideal S1x1024x2816 .f32) (r : Fin 4096) (k : Fin 2816) : EReal :=
  Swiglu.pre (hrow h r) (grow g) (fun x k => w (ix3 0 x k)) k

/-- The cotangent of the hidden layer. -/
def back (r : Fin 4096) (k : Fin 2816) : EReal := ∑ x, Ideal.ofBits FTy.f32 0x3F000000#32 * dh (ix2 r x) * wd (ix3 0 k x)

/-- The cotangents of the two products, and the hidden layer itself. -/
def dgate : FVec Ideal S4096x2816 .bf16 := fun i => back dh wd (i 0) (i 1) * pre h g wu (i 0) (i 1) * slope (pre h g wg (i 0) (i 1))
def dup : FVec Ideal S4096x2816 .bf16 := fun i =>
  back dh wd (i 0) (i 1) * (pre h g wg (i 0) (i 1) * Ideal.logistic (pre h g wg (i 0) (i 1)))
def act : FVec Ideal S4096x2816 .bf16 := fun i => gated (pre h g wg (i 0) (i 1)) (pre h g wu (i 0) (i 1))

theorem normed_at (r : Fin 4096) (x : Fin 1024) : val_main_v13 (F := Ideal) h g (ix2 r x) = normed (hrow h r) (grow g) x := by
  pointwise [val_main_v13, val_main_v12, val_main_v11, val_main_v10, val_main_v9, val_main_v8, val_main_v7,
    val_main_v6, val_main_v5, val_main_v4, val_main_v3, val_main_v2, val_main_v1, val_main_v0, val_main_cst_1, val_main_cst_0,
    val_main_cst]
  rfl

theorem gate_at (r : Fin 4096) (k : Fin 2816) : val_main_v15 (F := Ideal) h g wg (ix2 r k) = pre h g wg r k := by
  pointwise [val_main_v15, val_main_v14]
  simp only [normed_at]
  rfl

theorem up_at (r : Fin 4096) (k : Fin 2816) : val_main_v17 (F := Ideal) h g wu (ix2 r k) = pre h g wu r k := by
  pointwise [val_main_v17, val_main_v16]
  simp only [normed_at]
  rfl

theorem logistic_at (r : Fin 4096) (k : Fin 2816) :
    val_main_v18_2 (F := Ideal) h g wg (ix2 r k) = Ideal.logistic (pre h g wg r k) := by
  pointwise [val_main_v18_2, val_main_call0_v0, val_main_call0_v1, val_main_call0_v2, val_main_call0_v3, val_main_call0_v4,
    val_main_call0_cst, val_main_call0_cst_0]
  simp only [gate_at, word_one, EReal.coe_one]
  rfl

theorem back_at (r : Fin 4096) (k : Fin 2816) : val_main_v26 (F := Ideal) dh wd (ix2 r k) = back dh wd r k := by
  pointwise [val_main_v26, val_main_v25, val_main_v24, val_main_cst_3, val_main_v20]
  rfl

theorem ref_act : val_main_v32 (F := Ideal) h g wg wu = act h g wg wu := by
  funext i
  idx_vars i
  pointwise [val_main_v32, val_main_v19, val_main_v18_0]
  rw [gate_at, up_at, logistic_at]
  rfl

theorem ref_dup : val_main_v31 (F := Ideal) dh h g wg wd = dup dh h g wg wd := by
  funext i
  idx_vars i
  pointwise [val_main_v31, val_main_v27, val_main_v18_0]
  rw [gate_at, logistic_at, back_at, mul_comm]
  rfl

/-- With real arguments, all but the gate's weight. -/
theorem ref_dgate (h0 : ∀ i, IsReal (dh i)) (h1 : ∀ i, IsReal (h i)) (h2 : ∀ i, IsReal (g i)) (h4 : ∀ i, IsReal (wu i))
    (h5 : ∀ i, IsReal (wd i)) : val_main_v30 (F := Ideal) dh h g wg wu wd = dgate dh h g wg wu wd := by
  funext i
  idx_vars i
  pointwise [val_main_v30, val_main_v29, val_main_call1_v2, val_main_call1_v1, val_main_call1_v0, val_main_v28, val_main_v18_1,
    val_main_call0_v7, val_main_call0_v6, val_main_call0_cst_1]
  rw [gate_at, up_at, logistic_at, back_at]
  have hn : ∀ x, IsReal (normed (hrow h i0) (grow g) x) := fun x => by
    obtain ⟨f, hf⟩ := lift (f := hrow h i0) fun x => h1 _
    obtain ⟨p, hp, e⟩ := Rms.power_real f
    have hi : IsReal (Rms.inv (hrow h i0)) := by rw [hf, Rms.inv, e, rsqrt_pos hp]; exact ⟨_, rfl⟩
    exact ((h1 _).mul hi).mul (h2 _)
  have hu : IsReal (pre h g wu i0 i1) := by
    unfold pre Swiglu.pre
    exact IsReal.sum _ fun x => (hn x).mul (h4 _)
  have hd : IsReal (back dh wd i0 i1 * pre h g wu i0 i1) :=
    (IsReal.sum _ fun x => (IsReal.mul ⟨_, word_half⟩ (h0 _)).mul (h5 _)).mul hu
  obtain ⟨d, hd⟩ := hd
  rw [hd]
  exact (through_gate d _).trans (congrArg (· * _) hd.symm)

end Cert.GatedHidden

end
-- ==== Proof.FfnHiddenValue.lean ====
/- The hidden-layer gradient, array by array: what the payloads are entry by entry, and the three arrays after the run. -/
module

public import proofs.«01_k».proof.Proof.FfnHiddenParts
public import proofs.«01_k».proof.Proof.FfnHiddenRef
public import Idealize.ShloMosaic.Lib.Claim
public import Idealize.ShloMosaic.Lib.WholeRead

@[expose] public section

set_option maxRecDepth 16384

noncomputable section

namespace Cert.FfnHiddenIdeal.Blocks

open Idealize.ShloMosaic Idealize.ShloMosaic.TcCoe Idealize.SL.Sem
open Cert.FfnHiddenIdeal Cert.FfnHiddenIdeal.Gen Cert.HiddenFrame
open Cert.GatedHidden (back pre slope)

variable (P : FVec Ideal S256x1408 .f32) (A B : FVec Ideal S1x256x1408 .bf16) (r : Fin 256) (k : Fin 1408)

/-- What a part stores at an entry: `p` is the entry of the product, `a` the gate's and `b` the other factor's. -/
def dg (p a b : EReal) : EReal := p * b * slope a
def du (p a : EReal) : EReal := p * (a * Ideal.logistic a)
def ac (a b : EReal) : EReal := a * Ideal.logistic a * b

theorem dg0 : k0_pay11 (F := Ideal) P A B (ix2 r k) = dg (P (ix2 r k)) (A (ix3 0 r k)) (B (ix3 0 r k)) := by
  pointwise [k0_pay11, k0_pay9, k0_pay8, k0_pay7]
  rfl
theorem dg1 : k0_pay18 (F := Ideal) P A B (ix2 r k) = dg (P (ix2 r k)) (A (ix3 0 r k)) (B (ix3 0 r k)) := dg0 P A B r k
theorem dg2 : k0_pay25 (F := Ideal) P (k0_pay21 A) B (ix2 r k) = dg (P (ix2 r k)) (A (ix3 0 r k)) (B (ix3 0 r k)) := dg0 P A B r k
theorem dg3 : k0_pay32 (F := Ideal) P A B (ix2 r k) = dg (P (ix2 r k)) (A (ix3 0 r k)) (B (ix3 0 r k)) := dg0 P A B r k
theorem du0 : k0_pay12 (F := Ideal) P A (ix2 r k) = du (P (ix2 r k)) (A (ix3 0 r k)) := by
  pointwise [k0_pay12, k0_pay10, k0_pay9, k0_pay7]
  rfl
theorem du1 : k0_pay19 (F := Ideal) P A (ix2 r k) = du (P (ix2 r k)) (A (ix3 0 r k)) := du0 P A r k
theorem du2 : k0_pay26 (F := Ideal) P (k0_pay21 A) (ix2 r k) = du (P (ix2 r k)) (A (ix3 0 r k)) := du0 P A r k
theorem du3 : k0_pay1 (F := Ideal) P (k0_pay31 A) (ix2 r k) = du (P (ix2 r k)) (A (ix3 0 r k)) := du0 P A r k
theorem ac0 : k0_pay13 (F := Ideal) (k0_pay8 B) (k0_pay10 A) (ix2 r k) = ac (A (ix3 0 r k)) (B (ix3 0 r k)) := by
  pointwise [k0_pay13, k0_pay10, k0_pay9, k0_pay8, k0_pay7]
  rfl
theorem ac1 : k0_pay20 (F := Ideal) A B (ix2 r k) = ac (A (ix3 0 r k)) (B (ix3 0 r k)) := ac0 A B r k
theorem ac2 : k0_pay27 (F := Ideal) (k0_pay21 A) B (ix2 r k) = ac (A (ix3 0 r k)) (B (ix3 0 r k)) := ac0 A B r k
theorem ac3 : k0_pay2 (F := Ideal) (k0_pay29 B) (k0_pay31 A) (ix2 r k) = ac (A (ix3 0 r k)) (B (ix3 0 r k)) := ac0 A B r k

/-- An output block holds what its four parts' stores agree on. -/
theorem held_at (L : Stores (F := Ideal)) (cover : ∀ y, ∃ pc ∈ L, y ∈ pc.1.set) (p : Fin 4 → FVec Ideal S256x1408 .bf16)
    (e : L = [⟨Rect.unit ![768, 0] S256x1408.size inb_S1024x1408_S256x1408_768_0, p 3⟩, ⟨Rect.unit ![512, 0] S256x1408.size inb_S1024x1408_S256x1408_512_0, p 2⟩,
      ⟨Rect.unit ![256, 0] S256x1408.size inb_S1024x1408_S256x1408_256_0, p 1⟩, ⟨Rect.unit ![0, 0] S256x1408.size inb_S1024x1408_S256x1408_0_0, p 0⟩])
    (G : FVec Ideal S1024x1408 .bf16)
    (h : ∀ (q : Fin 4) (r : Fin 256) (k : Fin 1408), p q (ix2 r k) = G (ix2 ⟨256 * q.val + r.val, by omega⟩ k)) : held L = G := by
  funext y
  refine View.read_writes_apply_of_pieces VO0_2 VO0_2.junk G L ?_ y (cover y)
  subst e
  have place (q : Fin 4) (hq : ∀ a, (![256 * q.val, 0] : Fin 2 → Nat) a + S256x1408.size a ≤ S1024x1408.size a) (x : S256x1408.Idx) :
      p q x = G ((Rect.unit (s := S1024x1408) ![256 * q.val, 0] S256x1408.size hq).emb x) := by
    have hx : x = ix2 (x 0) (x 1) := by funext a; fin_cases a <;> rfl
    refine (congrArg (p q) hx).trans ((h q (x 0) (x 1)).trans (congrArg G ?_))
    funext a
    exact Fin.ext (by fin_cases a <;> simp [ix2])
  intro pc hpc x
  simp only [List.mem_cons, List.not_mem_nil, or_false] at hpc
  rcases hpc with rfl | rfl | rfl | rfl
  · exact place 3 inb_S1024x1408_S256x1408_768_0 x
  · exact place 2 inb_S1024x1408_S256x1408_512_0 x
  · exact place 1 inb_S1024x1408_S256x1408_256_0 x
  · exact place 0 inb_S1024x1408_S256x1408_0_0 x

/-- The block that each operand has at each grid point. -/
theorem idx : ∀ t : Fin cfg0.N, win0_0.index t = ![t.val % 4, 0] ∧ win0_1.index t = ![t.val / 4, 0]
    ∧ win0_2.index t = ![t.val % 4, t.val / 4] ∧ win0_3.index t = ![t.val % 4, t.val / 4] ∧ win0_4.index t = ![t.val % 4, t.val / 4] :=
  (by decide +kernel : ∀ t : Fin grid0.N, _)

variable (m : (ℓ : Loc nD τ sig) → Buf (Elt Ideal) ℓ)

/-- The array's row that is row `r` of point `t`'s block, and the column that is column `k`. -/
abbrev row (t : Fin cfg0.N) (r : Fin 1024) : Fin 4096 := ⟨1024 * (t.val % 4) + r.val, by omega⟩
abbrev col (t : Fin cfg0.N) (k : Fin 1408) : Fin 2816 := ⟨1408 * (t.val / 4) + k.val, by have := points t; omega⟩

/-- The program's arguments. -/
abbrev A0 (c : Dev nD) : FVec Ideal S4096x1024 .f32 := m ((c : Thread nD τ).loc main_arg0)
abbrev A1 (c : Dev nD) : FVec Ideal S4096x1024 .f32 := m ((c : Thread nD τ).loc main_arg1)
abbrev A2 (c : Dev nD) : FVec Ideal S1x1024 .f32 := m ((c : Thread nD τ).loc main_arg2)
abbrev A3 (c : Dev nD) : FVec Ideal S1x1024x2816 .f32 := m ((c : Thread nD τ).loc main_arg3)
abbrev A4 (c : Dev nD) : FVec Ideal S1x1024x2816 .f32 := m ((c : Thread nD τ).loc main_arg4)
abbrev A5 (c : Dev nD) : FVec Ideal S1x2816x1024 .f32 := m ((c : Thread nD τ).loc main_arg5)

theorem read0 (c : Dev nD) (t : Fin cfg0.N) (r : Fin 1024) (x : Fin 1024) :
    iblk m c 0 t (ix2 r x) = Ideal.ofBits FTy.f32 0x3F000000#32 * A0 m c (ix2 (row t r) x) := by
  blk_point [iblk, V, idx t]
theorem read1 (c : Dev nD) (t : Fin cfg0.N) (k : Fin 1408) (x : Fin 1024) :
    iblk m c 1 t (ix2 k x) = A5 m c (ix3 0 (col t k) x) := by
  blk_point [iblk, V, idx t]

/-- The two products that the forward pass saved, as the kernel's call finds them. -/
theorem saved_gate (c : Dev nD) (r : Fin 4096) (k : Fin 2816) : V m c main_v21 (ix2 r k) = pre (A1 m c) (A2 m c) (A3 m c) r k := by
  entry_read
  pointwise
  rfl
theorem saved_up (c : Dev nD) (r : Fin 4096) (k : Fin 2816) : V m c main_v22 (ix2 r k) = pre (A1 m c) (A2 m c) (A4 m c) r k := by
  entry_read
  pointwise
  rfl

theorem pay_product (X : FVec Ideal S256x1024 .bf16) (Y : FVec Ideal S1408x1024 .bf16) (r : Fin 256) (k : Fin 1408) :
    k0_pay3 (F := Ideal) X Y (ix2 r k) = ∑ x, X (ix2 r x) * Y (ix2 k x) := by
  pointwise [k0_pay3]

/-- A part of a point's rows of the cotangent, times its block of the weight. -/
theorem product_at (c : Dev nD) (t : Fin cfg0.N) (o : Nat) (ho : o + 256 ≤ 1024) (h : ∀ a, (![o, 0] : Fin 2 → Nat) a + S256x1024.size a ≤ S1024x1024.size a)
    (h' : ∀ a, (![0, 0] : Fin 2 → Nat) a + S1408x1024.size a ≤ S1408x1024.size a) (r : Fin 256) (k : Fin 1408) :
    k0_pay3 (F := Ideal) (View.readAt (Elt Ideal) (ms0_0 t).view (Rect.unit (s := S1024x1024) ![o, 0] S256x1024.size h).toLoadRect ((hs0_0 t).unread (iblk m c 0 t)))
      (View.readAt (Elt Ideal) (ms0_1 t).view (Rect.unit (s := S1408x1024) ![0, 0] S1408x1024.size h').toLoadRect ((hs0_1 t).unread (iblk m c 1 t))) (ix2 r k)
      = back (A0 m c) (A5 m c) (row t ⟨o + r.val, by omega⟩) (col t k) := by
  refine (pay_product _ _ r k).trans (Finset.sum_congr rfl fun x _ => ?_)
  have e0 : (Rect.unit (s := S1024x1024) ![o, 0] S256x1024.size h).toLoadRect.idx (ix2 r x) = ix2 ⟨o + r.val, by omega⟩ x :=
    funext fun a => Fin.ext (by fin_cases a <;> simp [ix2])
  have e1 : (Rect.unit (s := S1408x1024) ![0, 0] S1408x1024.size h').toLoadRect.idx (ix2 k x) = ix2 k x :=
    funext fun a => Fin.ext (by fin_cases a <;> simp [ix2])
  exact congrArg₂ (· * ·) (((hs0_0 t).readAt_unread _ _ _).trans (congrArg (iblk m c 0 t) e0) |>.trans (read0 m c t _ x)) (((hs0_1 t).readAt_unread _ _ _).trans (congrArg (iblk m c 1 t) e1) |>.trans (read1 m c t k x))

theorem product0_at (c : Dev nD) (t : Fin cfg0.N) (r : Fin 256) (k : Fin 1408) :
    product0 m c t (ix2 r k) = back (A0 m c) (A5 m c) (row t ⟨0 + r.val, by omega⟩) (col t k) := product_at m c t 0 (by decide) _ _ r k
theorem product1_at (c : Dev nD) (t : Fin cfg0.N) (r : Fin 256) (k : Fin 1408) :
    product1 m c t (ix2 r k) = back (A0 m c) (A5 m c) (row t ⟨256 + r.val, by omega⟩) (col t k) := product_at m c t 256 (by decide) _ _ r k
theorem product2_at (c : Dev nD) (t : Fin cfg0.N) (r : Fin 256) (k : Fin 1408) :
    product2 m c t (ix2 r k) = back (A0 m c) (A5 m c) (row t ⟨512 + r.val, by omega⟩) (col t k) := product_at m c t 512 (by decide) _ _ r k
theorem product3_at (c : Dev nD) (t : Fin cfg0.N) (r : Fin 256) (k : Fin 1408) :
    product3 m c t (ix2 r k) = back (A0 m c) (A5 m c) (row t ⟨768 + r.val, by omega⟩) (col t k) := product_at m c t 768 (by decide) _ _ r k

theorem gate_at (c : Dev nD) (t : Fin cfg0.N) (o : Nat) (ho : o + 256 ≤ 1024) (r : Fin 256) (k : Fin 1408) :
    gate m c t o ho (ix3 0 r k) = pre (A1 m c) (A2 m c) (A3 m c) (row t ⟨o + r.val, by omega⟩) (col t k) := saved_gate m c _ _
theorem up_at (c : Dev nD) (t : Fin cfg0.N) (o : Nat) (ho : o + 256 ≤ 1024) (r : Fin 256) (k : Fin 1408) :
    up m c t o ho (ix3 0 r k) = pre (A1 m c) (A2 m c) (A4 m c) (row t ⟨o + r.val, by omega⟩) (col t k) := saved_up m c _ _

theorem place2 (t : Fin cfg0.N) (r : Fin 1024) (k : Fin 1408) : ((cfg0.win 2).blk t).view.emb (ix2 r k) = ix2 (row t r) (col t k) := by
  blk_ext [idx t]
theorem place3 (t : Fin cfg0.N) (r : Fin 1024) (k : Fin 1408) : ((cfg0.win 3).blk t).view.emb (ix2 r k) = ix2 (row t r) (col t k) := by
  blk_ext [idx t]
theorem place4 (t : Fin cfg0.N) (r : Fin 1024) (k : Fin 1408) : ((cfg0.win 4).blk t).view.emb (ix2 r k) = ix2 (row t r) (col t k) := by
  blk_ext [idx t]

/-- The three results. -/
abbrev dgate (c : Dev nD) : FVec Ideal S4096x2816 .bf16 := GatedHidden.dgate (A0 m c) (A1 m c) (A2 m c) (A3 m c) (A4 m c) (A5 m c)
abbrev dup (c : Dev nD) : FVec Ideal S4096x2816 .bf16 := GatedHidden.dup (A0 m c) (A1 m c) (A2 m c) (A3 m c) (A5 m c)
abbrev act (c : Dev nD) : FVec Ideal S4096x2816 .bf16 := GatedHidden.act (A1 m c) (A2 m c) (A3 m c) (A4 m c)

/-- The block of an array that point `t` computes. -/
abbrev blockOf (G : FVec Ideal S4096x2816 .bf16) (t : Fin cfg0.N) : FVec Ideal S1024x1408 .bf16 := fun i => G (ix2 (row t (i 0)) (col t (i 1)))

theorem point_dgate (c : Dev nD) (t : Fin cfg0.N) : held (step m c t).dgate = blockOf (dgate m c) t := by
  refine held_at _ (step m c t).cover_dgate (fun | 0 => _ | 1 => _ | 2 => _ | 3 => _) (stores m c t).1 _ fun q r k => ?_
  match q with
  | 0 => exact (dg0 _ _ _ r k).trans (by rw [product0_at, gate_at, up_at]; rfl)
  | 1 => exact (dg1 _ _ _ r k).trans (by rw [product1_at, gate_at, up_at]; rfl)
  | 2 => exact (dg2 _ _ _ r k).trans (by rw [product2_at, gate_at, up_at]; rfl)
  | 3 => exact (dg3 _ _ _ r k).trans (by rw [product3_at, gate_at, up_at]; rfl)
theorem point_dup (c : Dev nD) (t : Fin cfg0.N) : held (step m c t).dup = blockOf (dup m c) t := by
  refine held_at _ (step m c t).cover_dup (fun | 0 => _ | 1 => _ | 2 => _ | 3 => _) (stores m c t).2.1 _ fun q r k => ?_
  match q with
  | 0 => exact (du0 _ _ r k).trans (by rw [product0_at, gate_at]; rfl)
  | 1 => exact (du1 _ _ r k).trans (by rw [product1_at, gate_at]; rfl)
  | 2 => exact (du2 _ _ r k).trans (by rw [product2_at, gate_at]; rfl)
  | 3 => exact (du3 _ _ r k).trans (by rw [product3_at, gate_at]; rfl)
theorem point_act (c : Dev nD) (t : Fin cfg0.N) : held (step m c t).act = blockOf (act m c) t := by
  refine held_at _ (step m c t).cover_act (fun | 0 => _ | 1 => _ | 2 => _ | 3 => _) (stores m c t).2.2 _ fun q r k => ?_
  match q with
  | 0 => exact (ac0 _ _ r k).trans (by rw [gate_at, up_at]; rfl)
  | 1 => exact (ac1 _ _ r k).trans (by rw [gate_at, up_at]; rfl)
  | 2 => exact (ac2 _ _ r k).trans (by rw [gate_at, up_at]; rfl)
  | 3 => exact (ac3 _ _ r k).trans (by rw [gate_at, up_at]; rfl)

/-- The results after the run. -/
theorem final_dgate (c : Dev nD) : (dats m 0 c).arrAt 2 cfg0.N = dgate m c := by
  refine (dats m 0 c).arrAt_eq_of_covers 2 _ (by decide +kernel) fun t _ y => ?_
  blk_simp
  rw [after_dgate, point_dgate]
  idx_vars y
  exact congrArg (dgate m c) (place2 t y0 y1).symm
theorem final_dup (c : Dev nD) : (dats m 0 c).arrAt 3 cfg0.N = dup m c := by
  refine (dats m 0 c).arrAt_eq_of_covers 3 _ (by decide +kernel) fun t _ y => ?_
  blk_simp
  rw [after_dup, point_dup]
  idx_vars y
  exact congrArg (dup m c) (place3 t y0 y1).symm
theorem final_act (c : Dev nD) : (dats m 0 c).arrAt 4 cfg0.N = act m c := by
  refine (dats m 0 c).arrAt_eq_of_covers 4 _ (by decide +kernel) fun t _ y => ?_
  blk_simp
  rw [after_act, point_act]
  idx_vars y
  exact congrArg (act m c) (place4 t y0 y1).symm

end Cert.FfnHiddenIdeal.Blocks

end
-- ==== Proof.Finite.lean ====
/- Reading the precondition: an array all of whose absolute values compare below `+∞` holds real numbers. -/
module

public import Idealize.ShloMosaic.Lib.StableHlo
public import Idealize.ShloMosaic.Lib.Pointwise
public import proofs.«01_k».proof.Proof.Reals

@[expose] public section

noncomputable section

namespace Cert.Reals

open Idealize.ShloMosaic

theorem real_of_lt_top {s u : Shape} (x : FVec Ideal s .f32) (d : Fin u.rank → Fin s.rank) (hb : u.BroadcastsInDim s d)
    (h : cmpf .olt (Host.absf x) (broadcastInDim s d hb (constant u .f32 0x7F800000#32)) = fun _ => 1#1) (i : s.Idx) :
    IsReal (x i) := by
  have e : BitVec.ofBool (decide (max (x i) (-(x i)) < Ideal.ofBits .f32 0x7F800000#32)) = 1#1 := congrFun h i
  rw [word_top] at e
  by_contra hn
  rw [decide_eq_false fun hl => hn (fin_of_lt _ hl)] at e
  exact absurd e (by decide)

end Cert.Reals

end
-- ==== Proof.FfnHiddenClaims.lean ====
/- The claims about the gradient of a gated hidden layer: the three frames, and both programs end with the same three
   arrays when all arguments but the gate's weight are real. -/
module

public import proofs.«01_k».proof.Defs
public import proofs.«01_k».proof.Proof.Gen.FfnHidden
public import proofs.«01_k».proof.Proof.Gen.FfnHiddenRefIdeal.Run
public import proofs.«01_k».proof.Proof.Gen.Pre_finite_hidden
public import proofs.«01_k».proof.Proof.FfnHiddenValue
public import proofs.«01_k».proof.Proof.Finite

@[expose] public section

set_option maxRecDepth 16384

noncomputable section

namespace Cert.GatedHidden

open Idealize.ShloMosaic Idealize.ShloMosaic.Tactic Idealize.SL.Sem Cert.Reals FfnHiddenIdeal.Blocks

/-- The kernel runs, over floats: the ideal program's frame holds over any float type, and this is the same text. -/
theorem frame : quiescent_FfnHidden (hFfnHidden := FfnHidden.Gen.facts) := fun m g _ =>
  cast (by sl_kernel_rfl) (HiddenFrame.frame (F := Bits) m g)

/-- And over the extended reals. -/
theorem ideal_frame : quiescent_FfnHiddenIdeal (hFfnHiddenIdeal := FfnHiddenIdeal.Gen.facts) := fun m g _ =>
  HiddenFrame.frame (F := Ideal) m g

/-- The reference runs and leaves its arguments alone; it has no semaphore. -/
theorem ref_frame : quiescent_FfnHiddenRefIdeal (hFfnHiddenRefIdeal := FfnHiddenRefIdeal.Gen.facts) := fun m g _ =>
  (θ_run FfnHiddenRefIdeal.defs _ _).mono (fun r h => ⟨fun c => (h c).2.2.2, sem_eq_zero_of_no_sems (by decide) r.2⟩)
    (FfnHiddenRefIdeal.Value.run (F := Ideal) m g)

/-- Under the precondition all arguments but the gate's weight hold real numbers. -/
theorem real_arguments (m : (ℓ : Loc FfnHiddenIdeal.nD FfnHiddenIdeal.τ FfnHiddenIdeal.sig) → Buf (Elt Ideal) ℓ)
    (h : Pre_FfnHiddenIdeal_finite_hidden (hPre_finite_hidden := Pre_finite_hidden.Gen.facts) m) (c : Dev FfnHiddenIdeal.nD) :
    (∀ i, IsReal (A0 m c i)) ∧ (∀ i, IsReal (A1 m c i)) ∧ (∀ i, IsReal (A2 m c i)) ∧ (∀ i, IsReal (A4 m c i))
      ∧ (∀ i, IsReal (A5 m c i)) := by
  obtain ⟨h0, h1, h2, h4, h5⟩ := h c
  exact ⟨real_of_lt_top _ _ _ h0, real_of_lt_top _ _ _ h1, real_of_lt_top _ _ _ h2, real_of_lt_top _ _ _ h4, real_of_lt_top _ _ _ h5⟩

/-- Both programs end with the same arrays. -/
theorem value : algebraic_FfnHiddenIdeal_FfnHiddenRefIdeal_pre_finite_hidden (hFfnHiddenIdeal := FfnHiddenIdeal.Gen.facts)
    (hFfnHiddenRefIdeal := FfnHiddenRefIdeal.Gen.facts) (hPre_finite_hidden := Pre_finite_hidden.Gen.facts) := fun m g m' g' hp hm => by
  refine ⟨fun c => FfnHiddenIdeal.Blocks.dgate m c, fun c => FfnHiddenIdeal.Blocks.dup m c, fun c => FfnHiddenIdeal.Blocks.act m c,
    (θ_run _ _ _).mono (fun r h c => ?_) (θ_run_and (HiddenFrame.run_arrays m g) (HiddenFrame.frame m g)),
    (θ_run _ _ _).mono (fun r h c => ?_) (FfnHiddenRefIdeal.Value.run (F := Ideal) m' g')⟩
  · obtain ⟨h0, h1, h2⟩ := h.1 c
    exact ⟨h0.trans (final_dgate m c), h1.trans (final_dup m c), h2.trans (final_act m c), h.2.1 c⟩
  · obtain ⟨e0, e1, e2, e3, e4, e5⟩ := hm c
    obtain ⟨p0, p1, p2, p4, p5⟩ := real_arguments m hp c
    obtain ⟨h0, h1, h2, h3⟩ := h c
    refine ⟨h0.trans ?_, h1.trans ?_, h2.trans ?_, h3⟩
    · refine (FfnHiddenRefIdeal.Read.val_main_v30_eq (F := Ideal) _ _).trans ?_
      rw [e0, e1, e2, e3, e4, e5]
      exact ref_dgate _ _ _ _ _ _ p0 p1 p2 p4 p5
    · refine (FfnHiddenRefIdeal.Read.val_main_v31_eq (F := Ideal) _ _ _ _ _).trans ?_
      rw [e0, e1, e2, e3, e5]
      exact ref_dup _ _ _ _ _
    · refine (FfnHiddenRefIdeal.Read.val_main_v32_eq (F := Ideal) _ _ _ _).trans ?_
      rw [e1, e2, e3, e4]
      exact ref_act _ _ _ _

end Cert.GatedHidden

end
-- ==== Proof.HeadRef.lean ====
/- The last feed-forward half, the loss and the gradients up to it, as the reference computes them: row by row closed
   forms of the arguments. -/
module

public import proofs.«01_k».proof.Proof.Gen.HeadRefIdeal.Read
public import proofs.«01_k».proof.Proof.Swiglu
public import Idealize.ShloMosaic.Lib.Pointwise

@[expose] public section

set_option maxRecDepth 16384

noncomputable section

namespace Cert.LossHead

open Idealize.ShloMosaic Idealize.ShloMosaic.TcCoe Idealize.SL.Sem Cert.HeadRefIdeal Cert.HeadRefIdeal.Read Cert.Swiglu

variable (h : FVec Ideal S4096x1024 .f32) (g : FVec Ideal S1x1024 .f32) (wg wu : FVec Ideal S1x1024x2816 .f32)
  (wd : FVec Ideal S1x2816x1024 .f32) (t : FVec Ideal S4096x1024 .f32) (gf : FVec Ideal S1024 .f32)

/-- Row `r` of the hidden state, and the norm's weight, as rows. -/
abbrev hrow (r : Fin 4096) : Fin 1024 → EReal := fun x => h (ix2 r x)
abbrev grow : Fin 1024 → EReal := fun x => g (ix2 0 x)

/-- Row `r` after the feed-forward half. -/
abbrev orow (r : Fin 4096) : Fin 1024 → EReal :=
  out (hrow h r) (grow g) (fun x k => wg (ix3 0 x k)) (fun x k => wu (ix3 0 x k)) (fun k x => wd (ix3 0 k x))

/-- The rows of the target and of the last norm's weight. -/
abbrev trow (r : Fin 4096) : Fin 1024 → EReal := fun x => t (ix2 r x)
abbrev frow : Fin 1024 → EReal := fun x => gf (ix1 x)

/-- The cotangent of the last norm's input. -/
def cotangent : FVec Ideal S4096x1024 .f32 := fun i =>
  Rms.byHand (orow h g wg wu wd (i 0)) (fun x => passed (orow h g wg wu wd (i 0)) (frow gf) (trow t (i 0)) x * frow gf x) (i 1)

/-- Half of it. -/
def halved : FVec Ideal S4096x1024 .bf16 := fun i => Ideal.ofBits FTy.f32 0x3F000000#32 * cotangent h g wg wu wd t gf i

/-- What row `r` adds to the gradient of the last norm's weight, and the sum. -/
def share (r : Fin 4096) (x : Fin 1024) : EReal :=
  passed (orow h g wg wu wd r) (frow gf) (trow t r) x * (orow h g wg wu wd r x * Rms.inv (orow h g wg wu wd r))
def weight : FVec Ideal S1x1024 .f32 := fun i => ∑ r : Fin 4096, share h g wg wu wd t gf r (i 1)

/-- The loss, in every entry of a small array. -/
def total : FVec Ideal S8x128 .f32 := fun _ => ∑ r : Fin 4096, loss (orow h g wg wu wd r) (frow gf) (trow t r)

/-- What the backward pass needs later: the normed rows and the two products. -/
def saved : FVec Ideal S4096x1024 .bf16 := fun i => normed (hrow h (i 0)) (grow g) (i 1)
def product (w : FVec Ideal S1x1024x2816 .f32) : FVec Ideal S4096x2816 .bf16 := fun i =>
  pre (hrow h (i 0)) (grow g) (fun x k => w (ix3 0 x k)) (i 1)

theorem ref_saved : val_main_v81 (F := Ideal) h g = saved h g := by
  funext i
  idx_vars i
  pointwise [val_main_v81, val_main_v13, val_main_v12, val_main_v11, val_main_v10, val_main_v9, val_main_v8, val_main_v7,
    val_main_v6, val_main_v5, val_main_v4, val_main_v3, val_main_v2, val_main_v1, val_main_v0, val_main_cst_1, val_main_cst_0,
    val_main_cst]
  rfl

theorem normed_at (r : Fin 4096) (x : Fin 1024) : val_main_v13 (F := Ideal) h g (ix2 r x) = normed (hrow h r) (grow g) x := by
  pointwise [val_main_v13, val_main_v12, val_main_v11, val_main_v10, val_main_v9, val_main_v8, val_main_v7,
    val_main_v6, val_main_v5, val_main_v4, val_main_v3, val_main_v2, val_main_v1, val_main_v0, val_main_cst_1, val_main_cst_0,
    val_main_cst]
  rfl

theorem pre_gate_at (r : Fin 4096) (k : Fin 2816) :
    val_main_v15 (F := Ideal) h g wg (ix2 r k) = pre (hrow h r) (grow g) (fun x k => wg (ix3 0 x k)) k := by
  pointwise [val_main_v15, val_main_v14]
  simp only [normed_at]
  rfl

theorem pre_up_at (r : Fin 4096) (k : Fin 2816) :
    val_main_v17 (F := Ideal) h g wu (ix2 r k) = pre (hrow h r) (grow g) (fun x k => wu (ix3 0 x k)) k := by
  pointwise [val_main_v17, val_main_v16]
  simp only [normed_at]
  rfl

theorem ref_gate : val_main_v82 (F := Ideal) h g wg = product h g wg := by
  funext i
  idx_vars i
  pointwise [val_main_v82]
  exact pre_gate_at h g wg _ _

theorem ref_up : val_main_v83 (F := Ideal) h g wu = product h g wu := by
  funext i
  idx_vars i
  pointwise [val_main_v83]
  exact pre_up_at h g wu _ _

theorem gated_at (r : Fin 4096) (k : Fin 2816) : val_main_v19 (F := Ideal) h g wg wu (ix2 r k)
    = gated (pre (hrow h r) (grow g) (fun x k => wg (ix3 0 x k)) k) (pre (hrow h r) (grow g) (fun x k => wu (ix3 0 x k)) k) := by
  pointwise [val_main_v19, val_main_v18, val_main_call0_v0, val_main_call0_v1, val_main_call0_v2, val_main_call0_v3,
    val_main_call0_v4, val_main_call0_v5, val_main_call0_cst, val_main_call0_cst_0]
  simp only [pre_gate_at, pre_up_at, word_one, EReal.coe_one]
  rfl

theorem out_at (r : Fin 4096) (x : Fin 1024) : val_main_v24 (F := Ideal) h g wg wu wd (ix2 r x) = orow h g wg wu wd r x := by
  pointwise [val_main_v24, val_main_v23, val_main_v22, val_main_cst_2, val_main_v21, val_main_v20]
  simp only [gated_at]
  rfl

theorem power_at (r : Fin 4096) : val_main_v31 (F := Ideal) h g wg wu wd (ix2 r 0) = Rms.power (orow h g wg wu wd r) := by
  pointwise [val_main_v31, val_main_v30, val_main_v29, val_main_v28, val_main_v27, val_main_v26, val_main_v25, val_main_cst_5,
    val_main_cst_4, val_main_cst_3]
  simp only [out_at]
  rfl

theorem inv_at (r : Fin 4096) : val_main_v32 (F := Ideal) h g wg wu wd (ix2 r 0) = Rms.inv (orow h g wg wu wd r) := by
  pointwise [val_main_v32]
  rw [power_at]
  rfl

theorem err_at (r : Fin 4096) (x : Fin 1024) :
    val_main_v41 (F := Ideal) h g wg wu wd t gf (ix2 r x) = err (orow h g wg wu wd r) (frow gf) (trow t r) x := by
  pointwise [val_main_v41, val_main_v40, val_main_v39, val_main_v38, val_main_v37, val_main_v36]
  rw [out_at, inv_at]
  rfl

theorem passed_at (r : Fin 4096) (x : Fin 1024) :
    val_main_v55 (F := Ideal) h g wg wu wd t gf (ix2 r x) = passed (orow h g wg wu wd r) (frow gf) (trow t r) x := by
  refine Eq.trans ?_ (passed_eq _)
  pointwise [val_main_v55, val_main_v54, val_main_v53, val_main_v52, val_main_v51, val_main_v50, val_main_v44, val_main_v43,
    val_main_cst_14, val_main_cst_13, val_main_cst_12, val_main_cst_7]
  rw [err_at]

theorem back_at (r : Fin 4096) (x : Fin 1024) : val_main_v60 (F := Ideal) h g wg wu wd t gf (ix2 r x)
    = passed (orow h g wg wu wd r) (frow gf) (trow t r) x * frow gf x := by
  pointwise [val_main_v60, val_main_v59, val_main_v38]
  rw [passed_at]

theorem through_at (r : Fin 4096) : val_main_v70 (F := Ideal) h g wg wu wd t gf (ix1 r)
    = Rms.through (orow h g wg wu wd r) (fun x => passed (orow h g wg wu wd r) (frow gf) (trow t r) x * frow gf x) := by
  pointwise [val_main_v70, val_main_v69, val_main_v68, val_main_v67, val_main_v64, val_main_v63, val_main_v62, val_main_v35,
    val_main_v34, val_main_v33, val_main_cst_19, val_main_cst_18, val_main_cst_17, val_main_cst_6]
  simp only [Rms.through, Fin.sum_univ_one, back_at, out_at, inv_at, power_at]

theorem ref_cotangent : val_main_v75 (F := Ideal) h g wg wu wd t gf = cotangent h g wg wu wd t gf := by
  funext i
  idx_vars i
  refine Eq.trans ?_ ((zero_add _).symm.trans (Rms.byHand_eq 0 _ _ _)).symm
  pointwise [val_main_v75, val_main_v74, val_main_v73, val_main_v72, val_main_v71, val_main_v66, val_main_v65]
  rw [back_at, out_at, inv_at, through_at]

theorem ref_halved : val_main_v78 (F := Ideal) h g wg wu wd t gf = halved h g wg wu wd t gf := by
  funext i
  have e := congrFun (ref_cotangent h g wg wu wd t gf) i
  idx_vars i
  refine Eq.trans ?_ (congrArg (Ideal.ofBits FTy.f32 0x3F000000#32 * ·) e)
  pointwise [val_main_v78, val_main_v77, val_main_v76, val_main_cst_20]

theorem ref_weight : val_main_v79 (F := Ideal) h g wg wu wd t gf = weight h g wg wu wd t gf := by
  funext i
  idx_vars i
  pointwise [val_main_v79, val_main_v61, val_main_v58, val_main_v57, val_main_v56, val_main_v37, val_main_v36, val_main_cst_16,
    val_main_cst_15]
  simp only [Fin.sum_univ_one, passed_at, out_at, inv_at]
  exact Finset.sum_congr rfl fun r _ => mul_comm _ _

theorem ref_total : val_main_v80 (F := Ideal) h g wg wu wd t gf = total h g wg wu wd t gf := by
  funext i
  idx_vars i
  refine Eq.trans ?_ (loss_eq _ fun r => ∑ x, err (orow h g wg wu wd r) (frow gf) (trow t r) x * err (orow h g wg wu wd r) (frow gf) (trow t r) x)
  pointwise [val_main_v80, val_main_v49, val_main_v48, val_main_v47, val_main_v46, val_main_v45, val_main_v42, val_main_cst_11,
    val_main_cst_10, val_main_cst_9, val_main_cst_8]
  simp only [err_at]

end Cert.LossHead

end
-- ==== Proof.HeadValue.lean ====
/- The last feed-forward half with the loss, as the kernel computes it block by block: what one block of 512 rows holds.
   The hidden layer's 2816 entries are taken in two halves. -/
module

public import proofs.«01_k».proof.Proof.Gen.HeadIdeal.Value
public import proofs.«01_k».proof.Proof.HeadRef
public import Idealize.ShloMosaic.Lib.Pipeline.ValueKit
public import Idealize.ShloMosaic.Lib.Claim

@[expose] public section

set_option maxRecDepth 16384

noncomputable section

namespace Cert.HeadIdeal.Blocks

open Idealize.ShloMosaic Idealize.ShloMosaic.TcCoe Idealize.SL.Sem Cert.HeadIdeal Cert.HeadIdeal.Gen
open Idealize.ShloMosaic.Pipeline (Dat)
open Cert.Swiglu
open Cert.LossHead (hrow grow orow trow frow cotangent halved weight share total saved product)

/-- Row `r` of a block. -/
abbrev brow (h : FVec Ideal S512x1024 .f32) (r : Fin 512) : Fin 1024 → EReal := fun x => h (ix2 r x)
abbrev vrow (g : FVec Ideal S1x1024 .f32) : Fin 1024 → EReal := fun x => g (ix2 0 x)

/-- Half of a weight's rows. -/
abbrev half (W : FVec Ideal S2816x1024 .bf16) (o : Nat) (h : ∀ a, (![o, 0] : Fin 2 → Nat) a + S1408x1024.size a ≤ S2816x1024.size a) :
    FVec Ideal S1408x1024 .bf16 :=
  View.ld (Val := Elt Ideal) (e' := .bf16) (S := S2816x1024) W (Rect.unit (s := S2816x1024) ![o, 0] S1408x1024.size h)
abbrev lo (W : FVec Ideal S2816x1024 .bf16) := half W 0 inb_S2816x1024_S1408x1024_0_0
abbrev hi (W : FVec Ideal S2816x1024 .bf16) := half W 1408 inb_S2816x1024_S1408x1024_1408_0

theorem lo_at (W : FVec Ideal S2816x1024 .bf16) (k : Fin 1408) (x : Fin 1024) : lo W (ix2 k x) = W (ix2 (Fin.castAdd 1408 k) x) :=
  congrArg W (funext fun i => Fin.ext (by fin_cases i <;> simp [ix2]))
theorem hi_at (W : FVec Ideal S2816x1024 .bf16) (k : Fin 1408) (x : Fin 1024) : hi W (ix2 k x) = W (ix2 (Fin.natAdd 1408 k) x) :=
  congrArg W (funext fun i => Fin.ext (by fin_cases i <;> simp [ix2, Nat.add_comm]))

section Block
variable (h : FVec Ideal S512x1024 .f32) (g : FVec Ideal S1x1024 .f32) (wg wu wd : FVec Ideal S2816x1024 .bf16)
  (t : FVec Ideal S512x1024 .f32) (gf : FVec Ideal S1x1024 .f32)

/-- A block after the feed-forward half, the same with the last norm's scale, and that norm's weight. -/
abbrev ko : FVec Ideal S512x1024 .f32 :=
  k0_pay14 (F := Ideal) h (k0_pay4 (F := Ideal) h g) (k0_pay9 (F := Ideal) h g (lo wg) (lo wu) (lo wd)) (hi wg) (hi wu) (hi wd)
abbrev kn : FVec Ideal S512x1024 .f32 :=
  k0_pay17 (F := Ideal) h (k0_pay4 (F := Ideal) h g) (k0_pay9 (F := Ideal) h g (lo wg) (lo wu) (lo wd)) (hi wg) (hi wu) (hi wd)
abbrev kf : FVec Ideal S512x1024 .f32 := k0_pay18 (F := Ideal) gf

theorem normed_at (r : Fin 512) (x : Fin 1024) : k0_pay4 (F := Ideal) h g (ix2 r x) = normed (brow h r) (vrow g) x := by
  pointwise [k0_pay4]
  rfl

theorem gate_lo (r : Fin 512) (k : Fin 1408) : k0_pay5 (F := Ideal) h g (lo wg) (ix2 r k)
    = pre (brow h r) (vrow g) (fun x k => wg (ix2 k x)) (Fin.castAdd 1408 k) := by
  pointwise [k0_pay5]
  simp only [normed_at]
  exact Finset.sum_congr rfl fun x _ => congrArg (_ * ·) (lo_at wg k x)
theorem up_lo (r : Fin 512) (k : Fin 1408) : k0_pay6 (F := Ideal) h g (lo wu) (ix2 r k)
    = pre (brow h r) (vrow g) (fun x k => wu (ix2 k x)) (Fin.castAdd 1408 k) := by
  pointwise [k0_pay6]
  simp only [normed_at]
  exact Finset.sum_congr rfl fun x _ => congrArg (_ * ·) (lo_at wu k x)
theorem gate_hi (r : Fin 512) (k : Fin 1408) : k0_pay10 (F := Ideal) (k0_pay4 (F := Ideal) h g) (hi wg) (ix2 r k)
    = pre (brow h r) (vrow g) (fun x k => wg (ix2 k x)) (Fin.natAdd 1408 k) := by
  pointwise [k0_pay10]
  simp only [normed_at]
  exact Finset.sum_congr rfl fun x _ => congrArg (_ * ·) (hi_at wg k x)
theorem up_hi (r : Fin 512) (k : Fin 1408) : k0_pay11 (F := Ideal) (k0_pay4 (F := Ideal) h g) (hi wu) (ix2 r k)
    = pre (brow h r) (vrow g) (fun x k => wu (ix2 k x)) (Fin.natAdd 1408 k) := by
  pointwise [k0_pay11]
  simp only [normed_at]
  exact Finset.sum_congr rfl fun x _ => congrArg (_ * ·) (hi_at wu k x)

/-- The row after the feed-forward half. -/
theorem out_at (r : Fin 512) (x : Fin 1024) : ko h g wg wu wd (ix2 r x)
    = out (brow h r) (vrow g) (fun x k => wg (ix2 k x)) (fun x k => wu (ix2 k x)) (fun k x => wd (ix2 k x)) x := by
  pointwise [k0_pay14, k0_pay9]
  simp only [gate_lo, up_lo, gate_hi, up_hi]
  refine congrArg (h (ix2 r x) + Ideal.ofBits FTy.f32 0x3F000000#32 * ·) (Eq.trans (congrArg₂ (· + ·)
    (Finset.sum_congr rfl fun k _ => congrArg (_ * ·) (lo_at wd k x)) (Finset.sum_congr rfl fun k _ => congrArg (_ * ·) (hi_at wd k x)))
    (Fin.sum_univ_add (a := 1408) (b := 1408) fun k =>
    gated (pre (brow h r) (vrow g) (fun x k => wg (ix2 k x)) k) (pre (brow h r) (vrow g) (fun x k => wu (ix2 k x)) k) * wd (ix2 k x)).symm)

theorem scaled_at (r : Fin 512) (x : Fin 1024) :
    kn h g wg wu wd (ix2 r x) = ko h g wg wu wd (ix2 r x) * Rms.inv (brow (ko h g wg wu wd) r) := by
  pointwise [k0_pay17]
  rfl

theorem err_at (r : Fin 512) (x : Fin 1024) : k0_pay19 (F := Ideal) (kn h g wg wu wd) (kf gf) t (ix2 r x)
    = err (brow (ko h g wg wu wd) r) (vrow gf) (brow t r) x := by
  pointwise [k0_pay19, k0_pay18]
  rw [scaled_at]
  rfl

theorem passed_at (r : Fin 512) (x : Fin 1024) : k0_pay21 (F := Ideal) (kn h g wg wu wd) (kf gf) t (ix2 r x)
    = passed (brow (ko h g wg wu wd) r) (vrow gf) (brow t r) x := by
  pointwise [k0_pay21]
  rw [err_at]
  rfl

/-- What a block stores at an entry of the cotangent, and half of it. -/
abbrev kd : FVec Ideal S512x1024 .f32 := k0_pay1 (F := Ideal) (k0_pay26 (F := Ideal) (ko h g wg wu wd) (kn h g wg wu wd) (kf gf) t gf)
  (k0_pay27 (F := Ideal) (ko h g wg wu wd)) (k0_pay28 (F := Ideal) (ko h g wg wu wd) (kn h g wg wu wd) (kf gf) t gf) (k0_pay29 (F := Ideal))

theorem pay_cotangent (r : Fin 512) (l : Fin 1024) : kd h g wg wu wd t gf (ix2 r l)
    = Rms.byHand (brow (ko h g wg wu wd) r) (fun x => passed (brow (ko h g wg wu wd) r) (vrow gf) (brow t r) x * gf (ix2 0 x)) l := by
  pointwise [k0_pay1, k0_pay26, k0_pay27, k0_pay28, k0_pay29, k0_pay25, k0_pay23, k0_pay22]
  simp only [passed_at]
  rfl

theorem pay_weight (acc : FVec Ideal S1x1024 .f32) (l : Fin 1024) :
    k0_pay3 (F := Ideal) (k0_pay24 (F := Ideal) (ko h g wg wu wd) (kn h g wg wu wd) (kf gf) t) acc (ix2 0 l)
      = acc (ix2 0 l) + ∑ r : Fin 512, passed (brow (ko h g wg wu wd) r) (vrow gf) (brow t r) l
          * (ko h g wg wu wd (ix2 r l) * Rms.inv (brow (ko h g wg wu wd) r)) := by
  pointwise [k0_pay3, k0_pay24, k0_pay23, k0_pay22]
  simp only [passed_at]
  rfl

theorem pay_total (acc : FVec Ideal S8x128 .f32) (i : Fin 8) (j : Fin 128) :
    k0_pay20 (F := Ideal) (kn h g wg wu wd) (kf gf) t acc (ix2 i j)
      = acc (ix2 i j) + ∑ r : Fin 512, loss (brow (ko h g wg wu wd) r) (vrow gf) (brow t r) := by
  pointwise [k0_pay20]
  simp only [err_at]
  refine congrArg (acc (ix2 i j) + ·) ?_
  rw [word_2048th, mul_sum _ _ (by norm_num)]
  simp only [loss, word_2048th]

end Block

/-- The block that each operand has at each grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![0, 0]
    ∧ win0_7.index t = ![t.val, 0] ∧ win0_8.index t = ![t.val, 0] ∧ win0_9.index t = ![0, 0] ∧ win0_10.index t = ![0, 0]
    ∧ win0_11.index t = ![t.val, 0] ∧ win0_12.index t = ![t.val, 0] ∧ win0_13.index t = ![t.val, 0] :=
  (by decide +kernel : ∀ t : Fin grid0.N, _)

variable (m : (ℓ : Loc nD τ sig) → Buf (Elt Ideal) ℓ)

/-- The array's row that is row `r` of block `t`. -/
abbrev row (t : Fin cfg0.N) (r : Fin 512) : Fin 4096 := ⟨t.val * 512 + r.val, by have := lt_of_lt_of_eq t.isLt N_0; omega⟩

/-- The program's arguments. -/
abbrev A0 (c : Dev nD) : FVec Ideal S4096x1024 .f32 := m ((c : Thread nD τ).loc main_arg0)
abbrev A1 (c : Dev nD) : FVec Ideal S1x1024 .f32 := m ((c : Thread nD τ).loc main_arg1)
abbrev A2 (c : Dev nD) : FVec Ideal S1x1024x2816 .f32 := m ((c : Thread nD τ).loc main_arg2)
abbrev A3 (c : Dev nD) : FVec Ideal S1x1024x2816 .f32 := m ((c : Thread nD τ).loc main_arg3)
abbrev A4 (c : Dev nD) : FVec Ideal S1x2816x1024 .f32 := m ((c : Thread nD τ).loc main_arg4)
abbrev A5 (c : Dev nD) : FVec Ideal S4096x1024 .f32 := m ((c : Thread nD τ).loc main_arg5)
abbrev A6 (c : Dev nD) : FVec Ideal S1024 .f32 := m ((c : Thread nD τ).loc main_arg6)

theorem read0 (c : Dev nD) (t : Fin cfg0.N) (r : Fin 512) (x : Fin 1024) :
    iblk m c 0 t (ix2 r x) = A0 m c (ix2 (row t r) x) := by blk_ext! [iblk, V, idx t]
theorem read1 (c : Dev nD) (t : Fin cfg0.N) (x : Fin 1024) :
    iblk m c 1 t (ix2 0 x) = A1 m c (ix2 0 x) := by blk_ext! [iblk, V, idx t]
theorem read2 (c : Dev nD) (t : Fin cfg0.N) (k : Fin 2816) (x : Fin 1024) :
    iblk m c 2 t (ix2 k x) = A2 m c (ix3 0 x k) := by blk_point [iblk, V, idx t]
theorem read3 (c : Dev nD) (t : Fin cfg0.N) (k : Fin 2816) (x : Fin 1024) :
    iblk m c 3 t (ix2 k x) = A3 m c (ix3 0 x k) := by blk_point [iblk, V, idx t]
theorem read4 (c : Dev nD) (t : Fin cfg0.N) (k : Fin 2816) (x : Fin 1024) :
    iblk m c 4 t (ix2 k x) = A4 m c (ix3 0 k x) := by blk_point [iblk, V, idx t]
theorem read5 (c : Dev nD) (t : Fin cfg0.N) (r : Fin 512) (x : Fin 1024) :
    iblk m c 5 t (ix2 r x) = A5 m c (ix2 (row t r) x) := by blk_ext! [iblk, V, idx t]
theorem read6 (c : Dev nD) (t : Fin cfg0.N) (x : Fin 1024) :
    iblk m c 6 t (ix2 0 x) = A6 m c (ix1 x) := by blk_point [iblk, V, idx t]

theorem place7 (t : Fin cfg0.N) (r : Fin 512) (x : Fin 1024) :
    ((cfg0.win 7).blk t).view.emb (ix2 r x) = ix2 (row t r) x := by blk_ext [idx t]
theorem place8 (t : Fin cfg0.N) (r : Fin 512) (x : Fin 1024) :
    ((cfg0.win 8).blk t).view.emb (ix2 r x) = ix2 (row t r) x := by blk_ext [idx t]
theorem place11 (t : Fin cfg0.N) (r : Fin 512) (x : Fin 1024) :
    ((cfg0.win 11).blk t).view.emb (ix2 r x) = ix2 (row t r) x := by blk_ext [idx t]
theorem place12 (t : Fin cfg0.N) (r : Fin 512) (x : Fin 2816) :
    ((cfg0.win 12).blk t).view.emb (ix2 r x) = ix2 (row t r) x := by blk_ext [idx t]
theorem place13 (t : Fin cfg0.N) (r : Fin 512) (x : Fin 2816) :
    ((cfg0.win 13).blk t).view.emb (ix2 r x) = ix2 (row t r) x := by blk_ext [idx t]

/-- What the rows of a block are in the arrays. -/
theorem row0 (c : Dev nD) (t : Fin cfg0.N) (r : Fin 512) : brow (iblk m c 0 t) r = hrow (A0 m c) (row t r) := funext fun x => read0 m c t r x
theorem row1 (c : Dev nD) (t : Fin cfg0.N) : vrow (iblk m c 1 t) = grow (A1 m c) := funext fun x => read1 m c t x
theorem row5 (c : Dev nD) (t : Fin cfg0.N) (r : Fin 512) : brow (iblk m c 5 t) r = trow (A5 m c) (row t r) := funext fun x => read5 m c t r x
theorem row6 (c : Dev nD) (t : Fin cfg0.N) : vrow (iblk m c 6 t) = frow (A6 m c) := funext fun x => read6 m c t x

/-- A row of a block after the feed-forward half. -/
abbrev bo (c : Dev nD) (t : Fin cfg0.N) : FVec Ideal S512x1024 .f32 :=
  ko (iblk m c 0 t) (iblk m c 1 t) (iblk m c 2 t) (iblk m c 3 t) (iblk m c 4 t)

theorem row_out (c : Dev nD) (t : Fin cfg0.N) (r : Fin 512) :
    brow (bo m c t) r = orow (A0 m c) (A1 m c) (A2 m c) (A3 m c) (A4 m c) (row t r) := by
  funext x
  refine (out_at _ _ _ _ _ r x).trans ?_
  rw [row0, row1]
  simp only [read2, read3, read4]

/-- What a block stores is the cotangent's block. -/
theorem point_cotangent (c : Dev nD) (t : Fin cfg0.N) (r : Fin 512) (x : Fin 1024) :
    kd (iblk m c 0 t) (iblk m c 1 t) (iblk m c 2 t) (iblk m c 3 t) (iblk m c 4 t) (iblk m c 5 t) (iblk m c 6 t) (ix2 r x)
      = cotangent (A0 m c) (A1 m c) (A2 m c) (A3 m c) (A4 m c) (A5 m c) (A6 m c) (ix2 (row t r) x) := by
  refine (pay_cotangent _ _ _ _ _ _ _ r x).trans ?_
  rw [row_out, row5, row6]
  simp only [read6]
  rfl

theorem point_weight (c : Dev nD) (t : Fin cfg0.N) (acc : FVec Ideal S1x1024 .f32) (l : Fin 1024) :
    k0_pay3 (F := Ideal) (k0_pay24 (F := Ideal) (bo m c t)
      (kn (iblk m c 0 t) (iblk m c 1 t) (iblk m c 2 t) (iblk m c 3 t) (iblk m c 4 t)) (kf (iblk m c 6 t)) (iblk m c 5 t)) acc (ix2 0 l)
      = acc (ix2 0 l) + ∑ r : Fin 512, share (A0 m c) (A1 m c) (A2 m c) (A3 m c) (A4 m c) (A5 m c) (A6 m c) (row t r) l := by
  refine (pay_weight _ _ _ _ _ _ _ acc l).trans (congrArg (acc (ix2 0 l) + ·) (Finset.sum_congr rfl fun r _ => ?_))
  rw [row_out, row5, row6]
  exact congrArg (_ * ·) (congrArg (· * _) (congrFun (row_out m c t r) l))

theorem point_total (c : Dev nD) (t : Fin cfg0.N) (acc : FVec Ideal S8x128 .f32) (i : Fin 8) (j : Fin 128) :
    k0_pay20 (F := Ideal) (kn (iblk m c 0 t) (iblk m c 1 t) (iblk m c 2 t) (iblk m c 3 t) (iblk m c 4 t)) (kf (iblk m c 6 t))
      (iblk m c 5 t) acc (ix2 i j)
      = acc (ix2 i j) + ∑ r : Fin 512, loss (orow (A0 m c) (A1 m c) (A2 m c) (A3 m c) (A4 m c) (row t r)) (frow (A6 m c))
          (trow (A5 m c) (row t r)) := by
  refine (pay_total _ _ _ _ _ _ _ acc i j).trans (congrArg (acc (ix2 i j) + ·) (Finset.sum_congr rfl fun r _ => ?_))
  rw [row_out, row5, row6]

theorem point_halved (c : Dev nD) (t : Fin cfg0.N) (r : Fin 512) (x : Fin 1024) :
    k0_pay2 (F := Ideal) (k0_pay26 (F := Ideal) (bo m c t)
        (kn (iblk m c 0 t) (iblk m c 1 t) (iblk m c 2 t) (iblk m c 3 t) (iblk m c 4 t)) (kf (iblk m c 6 t)) (iblk m c 5 t) (iblk m c 6 t))
      (k0_pay27 (F := Ideal) (bo m c t)) (k0_pay28 (F := Ideal) (bo m c t)
        (kn (iblk m c 0 t) (iblk m c 1 t) (iblk m c 2 t) (iblk m c 3 t) (iblk m c 4 t)) (kf (iblk m c 6 t)) (iblk m c 5 t) (iblk m c 6 t))
      (k0_pay29 (F := Ideal)) (ix2 r x)
      = halved (A0 m c) (A1 m c) (A2 m c) (A3 m c) (A4 m c) (A5 m c) (A6 m c) (ix2 (row t r) x) := by
  pointwise [k0_pay2]
  exact congrArg (Ideal.ofBits FTy.f32 0x3F000000#32 * ·) (point_cotangent m c t r x)

theorem point_saved (c : Dev nD) (t : Fin cfg0.N) (r : Fin 512) (x : Fin 1024) :
    k0_pay4 (F := Ideal) (iblk m c 0 t) (iblk m c 1 t) (ix2 r x) = saved (A0 m c) (A1 m c) (ix2 (row t r) x) := by
  rw [normed_at, row0, row1]
  rfl

end Cert.HeadIdeal.Blocks

end
-- ==== Proof.HeadArrays.lean ====
/- The last feed-forward half with the loss: the seven arrays after the run. -/
module

public import proofs.«01_k».proof.Proof.HeadValue

@[expose] public section

set_option maxRecDepth 16384

noncomputable section

namespace Cert.HeadIdeal.Blocks

open Idealize.ShloMosaic Idealize.ShloMosaic.TcCoe Idealize.SL.Sem Cert.HeadIdeal Cert.HeadIdeal.Gen
open Idealize.ShloMosaic.Pipeline (Dat)
open Cert.Swiglu
open Cert.LossHead (hrow grow orow trow frow cotangent halved weight share total saved product)

/-- The products' blocks are stored in two halves. -/
theorem halves (P Q : FVec Ideal S512x1408 .bf16) (r : Fin 512) (k : Fin 2816) (f : Fin 2816 → EReal)
    (hP : ∀ k : Fin 1408, P (ix2 r k) = f (Fin.natAdd 1408 k)) (hQ : ∀ k : Fin 1408, Q (ix2 r k) = f (Fin.castAdd 1408 k)) :
    View.canon (Val := Elt Ideal) (e := .bf16) (s := S512x2816)
      [⟨Rect.unit (s := S512x2816) ![0, 1408] S512x1408.size inb_S512x2816_S512x1408_0_1408, P⟩,
       ⟨Rect.unit (s := S512x2816) ![0, 0] S512x1408.size inb_S512x2816_S512x1408_0_0, Q⟩] (ix2 r k) = f k := by
  canon_tiles x h
  · idx_vars x
    obtain rfl : r = x0 := Fin.ext h0
    obtain rfl : k = Fin.natAdd 1408 x1 := Fin.ext h1
    exact hP x1
  · idx_vars x
    obtain rfl : r = x0 := Fin.ext h0
    obtain rfl : k = Fin.castAdd 1408 x1 := Fin.ext h1
    exact hQ x1

variable (m : (ℓ : Loc nD τ sig) → Buf (Elt Ideal) ℓ)

theorem point_gate (c : Dev nD) (t : Fin cfg0.N) (r : Fin 512) (k : Fin 2816) :
    View.canon (Val := Elt Ideal) (e := .bf16) (s := S512x2816)
      [⟨Rect.unit (s := S512x2816) ![0, 1408] S512x1408.size inb_S512x2816_S512x1408_0_1408,
          k0_pay12 (F := Ideal) (k0_pay4 (F := Ideal) (iblk m c 0 t) (iblk m c 1 t)) (hi (iblk m c 2 t))⟩,
       ⟨Rect.unit (s := S512x2816) ![0, 0] S512x1408.size inb_S512x2816_S512x1408_0_0,
          k0_pay7 (F := Ideal) (iblk m c 0 t) (iblk m c 1 t) (lo (iblk m c 2 t))⟩] (ix2 r k)
      = product (A0 m c) (A1 m c) (A2 m c) (ix2 (row t r) k) := by
  refine halves _ _ r k (pre (hrow (A0 m c) (row t r)) (grow (A1 m c)) (fun x k => A2 m c (ix3 0 x k))) (fun k => ?_) (fun k => ?_)
  · pointwise [k0_pay12]
    rw [gate_hi, row0, row1]
    simp only [read2]
  · pointwise [k0_pay7]
    rw [gate_lo, row0, row1]
    simp only [read2]

theorem point_up (c : Dev nD) (t : Fin cfg0.N) (r : Fin 512) (k : Fin 2816) :
    View.canon (Val := Elt Ideal) (e := .bf16) (s := S512x2816)
      [⟨Rect.unit (s := S512x2816) ![0, 1408] S512x1408.size inb_S512x2816_S512x1408_0_1408,
          k0_pay13 (F := Ideal) (k0_pay4 (F := Ideal) (iblk m c 0 t) (iblk m c 1 t)) (hi (iblk m c 3 t))⟩,
       ⟨Rect.unit (s := S512x2816) ![0, 0] S512x1408.size inb_S512x2816_S512x1408_0_0,
          k0_pay8 (F := Ideal) (iblk m c 0 t) (iblk m c 1 t) (lo (iblk m c 3 t))⟩] (ix2 r k)
      = product (A0 m c) (A1 m c) (A3 m c) (ix2 (row t r) k) := by
  refine halves _ _ r k (pre (hrow (A0 m c) (row t r)) (grow (A1 m c)) (fun x k => A3 m c (ix3 0 x k))) (fun k => ?_) (fun k => ?_)
  · pointwise [k0_pay13]
    rw [up_hi, row0, row1]
    simp only [read3]
  · pointwise [k0_pay8]
    rw [up_lo, row0, row1]
    simp only [read3]

theorem final_cotangent (c : Dev nD) : (dats m 0 c).arrAt 7 (cfgs 0).N = cotangent (A0 m c) (A1 m c) (A2 m c) (A3 m c) (A4 m c) (A5 m c) (A6 m c) := by
  refine (dats m 0 c).arrAt_eq_of_covers 7 _ (by decide +kernel) fun t _ y => ?_
  blk_simp
  rw [after0_7]
  idx_vars y
  by_cases h : t.val % 8 = 0
  · rw [outsAt0_A m c t h]; frame_out
    exact (point_cotangent m c t y0 y1).trans (congrArg _ (place7 t y0 y1).symm)
  · rw [outsAt0_B m c t h]; frame_out
    exact (point_cotangent m c t y0 y1).trans (congrArg _ (place7 t y0 y1).symm)

theorem final_halved (c : Dev nD) : (dats m 0 c).arrAt 8 (cfgs 0).N = halved (A0 m c) (A1 m c) (A2 m c) (A3 m c) (A4 m c) (A5 m c) (A6 m c) := by
  refine (dats m 0 c).arrAt_eq_of_covers 8 _ (by decide +kernel) fun t _ y => ?_
  blk_simp
  rw [after0_8]
  idx_vars y
  by_cases h : t.val % 8 = 0
  · rw [outsAt0_A m c t h]; frame_out
    exact (point_halved m c t y0 y1).trans (congrArg _ (place8 t y0 y1).symm)
  · rw [outsAt0_B m c t h]; frame_out
    exact (point_halved m c t y0 y1).trans (congrArg _ (place8 t y0 y1).symm)

theorem final_saved (c : Dev nD) : (dats m 0 c).arrAt 11 (cfgs 0).N = saved (A0 m c) (A1 m c) := by
  refine (dats m 0 c).arrAt_eq_of_covers 11 _ (by decide +kernel) fun t _ y => ?_
  blk_simp
  rw [after0_11]
  idx_vars y
  by_cases h : t.val % 8 = 0
  · rw [outsAt0_A m c t h]; frame_out
    exact (point_saved m c t y0 y1).trans (congrArg _ (place11 t y0 y1).symm)
  · rw [outsAt0_B m c t h]; frame_out
    exact (point_saved m c t y0 y1).trans (congrArg _ (place11 t y0 y1).symm)

theorem final_gate (c : Dev nD) : (dats m 0 c).arrAt 12 (cfgs 0).N = product (A0 m c) (A1 m c) (A2 m c) := by
  refine (dats m 0 c).arrAt_eq_of_covers 12 _ (by decide +kernel) fun t _ y => ?_
  blk_simp
  rw [after0_12]
  idx_vars y
  by_cases h : t.val % 8 = 0
  · rw [outsAt0_A m c t h]; frame_out
    exact (point_gate m c t y0 y1).trans (congrArg _ (place12 t y0 y1).symm)
  · rw [outsAt0_B m c t h]; frame_out
    exact (point_gate m c t y0 y1).trans (congrArg _ (place12 t y0 y1).symm)

theorem final_up (c : Dev nD) : (dats m 0 c).arrAt 13 (cfgs 0).N = product (A0 m c) (A1 m c) (A3 m c) := by
  refine (dats m 0 c).arrAt_eq_of_covers 13 _ (by decide +kernel) fun t _ y => ?_
  blk_simp
  rw [after0_13]
  idx_vars y
  by_cases h : t.val % 8 = 0
  · rw [outsAt0_A m c t h]; frame_out
    exact (point_up m c t y0 y1).trans (congrArg _ (place13 t y0 y1).symm)
  · rw [outsAt0_B m c t h]; frame_out
    exact (point_up m c t y0 y1).trans (congrArg _ (place13 t y0 y1).symm)

theorem final_weight (c : Dev nD) : (dats m 0 c).arrAt 9 (cfgs 0).N = weight (A0 m c) (A1 m c) (A2 m c) (A3 m c) (A4 m c) (A5 m c) (A6 m c) := by
  refine (dats m 0 c).arrAt_eq_of_after_last 9 t0_7 (by decide +kernel) _ fun j => ?_
  blk_simp
  rw [after0_9, Pipeline.eq_sum_fin_of_reset_step_apply_last (fun n h => (outsAt0 m c n h).2.2.1) 8 (fun _ => 0)
    (fun t j => ∑ r : Fin 512, share (A0 m c) (A1 m c) (A2 m c) (A3 m c) (A4 m c) (A5 m c) (A6 m c) (row t r) (j 1))
    (fun t h j => by
      idx_vars j
      obtain rfl : j0 = 0 := Subsingleton.elim _ _
      rw [outsAt0_A m c t h]; frame_out
      exact (point_weight m c t _ j1).trans (congrArg (· + _) (by pointwise [k0_pay15])))
    (fun t h j => by
      idx_vars j
      obtain rfl : j0 = 0 := Subsingleton.elim _ _
      rw [outsAt0_B m c t h]; frame_out
      exact point_weight m c t _ j1) (le_of_eq N_0) t0_7 rfl _, zero_add]
  exact Fin.sum_mul_add_congr fun s k hl => rfl

theorem final_total (c : Dev nD) : (dats m 0 c).arrAt 10 (cfgs 0).N = total (A0 m c) (A1 m c) (A2 m c) (A3 m c) (A4 m c) (A5 m c) (A6 m c) := by
  refine (dats m 0 c).arrAt_eq_of_after_last 10 t0_7 (by decide +kernel) _ fun j => ?_
  blk_simp
  rw [after0_10, Pipeline.eq_sum_fin_of_reset_step_apply_last (fun n h => (outsAt0 m c n h).2.2.2.1) 8 (fun _ => 0)
    (fun t j => ∑ r : Fin 512, loss (orow (A0 m c) (A1 m c) (A2 m c) (A3 m c) (A4 m c) (row t r)) (frow (A6 m c))
      (trow (A5 m c) (row t r)))
    (fun t h j => by
      idx_vars j
      rw [outsAt0_A m c t h]; frame_out
      exact (point_total m c t _ j0 j1).trans (congrArg (· + _) (by pointwise [k0_pay16])))
    (fun t h j => by
      idx_vars j
      rw [outsAt0_B m c t h]; frame_out
      exact point_total m c t _ j0 j1) (le_of_eq N_0) t0_7 rfl _, zero_add]
  exact Fin.sum_mul_add_congr fun s k hl => rfl

end Cert.HeadIdeal.Blocks

end
-- ==== Proof.HeadClaims.lean ====
/- The claims about the last feed-forward half with the loss and the gradients up to it: both programs end with the same
   seven arrays. -/
module

public import proofs.«01_k».proof.Defs
public import proofs.«01_k».proof.Proof.Gen.Head.Frame
public import proofs.«01_k».proof.Proof.Gen.HeadRefIdeal.Run
public import proofs.«01_k».proof.Proof.HeadArrays

@[expose] public section

set_option maxRecDepth 16384

noncomputable section

namespace Cert.LossHead

open Idealize.ShloMosaic Idealize.SL.Sem HeadIdeal.Blocks

/-- The reference runs and leaves its arguments alone; it has no semaphore. -/
theorem ref_frame : quiescent_HeadRefIdeal (hHeadRefIdeal := HeadRefIdeal.Gen.facts) := fun m g _ =>
  (θ_run HeadRefIdeal.defs _ _).mono (fun r h => ⟨fun c => (h c).2.2.2.2.2.2.2, sem_eq_zero_of_no_sems (by decide) r.2⟩)
    (HeadRefIdeal.Value.run (F := Ideal) m g)

/-- Both programs end with the same arrays. -/
theorem value : algebraic_HeadIdeal_HeadRefIdeal (hHeadIdeal := HeadIdeal.Gen.facts)
    (hHeadRefIdeal := HeadRefIdeal.Gen.facts) := fun m g m' g' _ hm => by
  refine ⟨fun c => cotangent (A0 m c) (A1 m c) (A2 m c) (A3 m c) (A4 m c) (A5 m c) (A6 m c), fun c => halved (A0 m c) (A1 m c) (A2 m c) (A3 m c) (A4 m c) (A5 m c) (A6 m c), fun c => weight (A0 m c) (A1 m c) (A2 m c) (A3 m c) (A4 m c) (A5 m c) (A6 m c), fun c => total (A0 m c) (A1 m c) (A2 m c) (A3 m c) (A4 m c) (A5 m c) (A6 m c), fun c => saved (A0 m c) (A1 m c),
    fun c => product (A0 m c) (A1 m c) (A2 m c), fun c => product (A0 m c) (A1 m c) (A3 m c),
    (θ_run _ _ _).mono (fun r h c => ?_) (HeadIdeal.Value.run_blocks m g),
    (θ_run _ _ _).mono (fun r h c => ?_) (HeadRefIdeal.Value.run (F := Ideal) m' g')⟩
  · obtain ⟨h0, h1, h2, h3, h4, h5, h6, h7⟩ := h c
    exact ⟨h0.trans (final_cotangent m c), h1.trans (final_halved m c), h2.trans (final_weight m c), h3.trans (final_total m c),
      h4.trans (final_saved m c), h5.trans (final_gate m c), h6.trans (final_up m c), h7⟩
  · obtain ⟨e0, e1, e2, e3, e4, e5, e6⟩ := hm c
    obtain ⟨h0, h1, h2, h3, h4, h5, h6, h7⟩ := h c
    refine ⟨h0.trans ?_, h1.trans ?_, h2.trans ?_, h3.trans ?_, h4.trans ?_, h5.trans ?_, h6.trans ?_, h7⟩
    · refine (HeadRefIdeal.Read.val_main_v75_eq (F := Ideal) _ _).trans ?_
      rw [e0, e1, e2, e3, e4, e5, e6]
      exact ref_cotangent _ _ _ _ _ _ _
    · refine (HeadRefIdeal.Read.val_main_v78_eq (F := Ideal) _ _).trans ?_
      rw [e0, e1, e2, e3, e4, e5, e6]
      exact ref_halved _ _ _ _ _ _ _
    · refine (HeadRefIdeal.Read.val_main_v79_eq (F := Ideal) _ _).trans ?_
      rw [e0, e1, e2, e3, e4, e5, e6]
      exact ref_weight _ _ _ _ _ _ _
    · refine (HeadRefIdeal.Read.val_main_v80_eq (F := Ideal) _ _).trans ?_
      rw [e0, e1, e2, e3, e4, e5, e6]
      exact ref_total _ _ _ _ _ _ _
    · refine (HeadRefIdeal.Read.val_main_v81_eq (F := Ideal) _ _).trans ?_
      rw [e0, e1]
      exact ref_saved _ _
    · refine (HeadRefIdeal.Read.val_main_v82_eq (F := Ideal) _ _ _).trans ?_
      rw [e0, e1, e2]
      exact ref_gate _ _ _
    · refine (HeadRefIdeal.Read.val_main_v83_eq (F := Ideal) _ _ _).trans ?_
      rw [e0, e1, e3]
      exact ref_up _ _ _

end Cert.LossHead

end
-- ==== Proof.MixInRef.lean ====
/- The gradient of a norm followed by the mixer's input product, as the reference computes it: entry by entry a closed
   form of the arguments. -/
module

public import proofs.«01_k».proof.Proof.Gen.MixInRefIdeal.Read
public import proofs.«01_k».proof.Proof.Rms
public import Idealize.ShloMosaic.Lib.Pointwise

@[expose] public section

set_option maxRecDepth 16384

noncomputable section

namespace Cert.MixInput

open Idealize.ShloMosaic Idealize.ShloMosaic.TcCoe Idealize.SL.Sem Cert.MixInRefIdeal Cert.MixInRefIdeal.Read

/-- The cotangent of the normed row `r` at entry `x`: the product transposed. -/
def back (dz : FVec Ideal S4096x7168 .f32) (w : FVec Ideal S1x1024x7168 .f32) (r : Fin 4096) (x : Fin 1024) : EReal :=
  ∑ k : Fin 7168, dz (ix2 r k) * w (ix3 0 x k)

/-- The gradient with respect to the hidden state. -/
def hidden (dh h : FVec Ideal S4096x1024 .f32) (g : FVec Ideal S1x1024 .f32) (dz : FVec Ideal S4096x7168 .f32)
    (w : FVec Ideal S1x1024x7168 .f32) : FVec Ideal S4096x1024 .f32 := fun i =>
  dh (ix2 (i 0) (i 1)) + Rms.byHand (fun x => h (ix2 (i 0) x)) (fun x => back dz w (i 0) x * g (ix2 0 x)) (i 1)

/-- Half of it: the cotangent of the layer before, whose output is added halved. -/
def halved (dh h : FVec Ideal S4096x1024 .f32) (g : FVec Ideal S1x1024 .f32) (dz : FVec Ideal S4096x7168 .f32)
    (w : FVec Ideal S1x1024x7168 .f32) : FVec Ideal S4096x1024 .bf16 := fun i =>
  Ideal.ofBits FTy.f32 0x3F000000#32 * hidden dh h g dz w i

/-- What row `r` adds to the gradient with respect to the norm's weight. -/
def share (h : FVec Ideal S4096x1024 .f32) (dz : FVec Ideal S4096x7168 .f32) (w : FVec Ideal S1x1024x7168 .f32)
    (r : Fin 4096) (l : Fin 1024) : EReal :=
  back dz w r l * (h (ix2 r l) * Rms.inv fun x => h (ix2 r x))

/-- The gradient with respect to the norm's weight: the sum over the rows. -/
def weight (h : FVec Ideal S4096x1024 .f32) (dz : FVec Ideal S4096x7168 .f32) (w : FVec Ideal S1x1024x7168 .f32) :
    FVec Ideal S1x1024 .f32 := fun i => ∑ r : Fin 4096, share h dz w r (i 1)

variable (dh h : FVec Ideal S4096x1024 .f32) (g : FVec Ideal S1x1024 .f32) (dz : FVec Ideal S4096x7168 .f32)
  (w : FVec Ideal S1x1024x7168 .f32)

/-- The reference's first result. -/
theorem ref_hidden :
    val_main_v40 (F := Ideal) dh h g dz w = hidden dh h g dz w := by
  funext i
  idx_vars i
  refine Eq.trans ?_ (Rms.byHand_eq _ _ _ _).symm
  pointwise [val_main_v40, val_main_v39, val_main_v38, val_main_v37, val_main_v36, val_main_v35, val_main_v34, val_main_v33,
    val_main_v32, val_main_v31, val_main_v30, val_main_v29, val_main_v28, val_main_v27, val_main_v26, val_main_v24, val_main_v23,
    val_main_v19, val_main_v17, val_main_v14, val_main_v11, val_main_v10, val_main_v9,
    val_main_v8, val_main_v7, val_main_v6, val_main_v5, val_main_v4, val_main_v3, val_main_v2, val_main_v1, val_main_v0,
    val_main_cst_7, val_main_cst_6, val_main_cst_5, val_main_cst_2, val_main_cst_1, val_main_cst_0, val_main_cst]
  rfl

/-- The reference's third result. -/
theorem ref_halved :
    val_main_v44 (F := Ideal) dh h g dz w = halved dh h g dz w := by
  funext i
  have e := congrFun (ref_hidden dh h g dz w) i
  idx_vars i
  refine Eq.trans ?_ (congrArg (Ideal.ofBits FTy.f32 0x3F000000#32 * ·) e)
  pointwise [val_main_v44, val_main_v43, val_main_v42, val_main_cst_8]

/-- The reference's second result. -/
theorem ref_weight : val_main_v41 (F := Ideal) h dz w = weight h dz w := by
  funext i
  idx_vars i
  pointwise [val_main_v41, val_main_v25, val_main_cst_4, val_main_v22, val_main_v21, val_main_cst_3, val_main_v20, val_main_v19,
    val_main_v17, val_main_v13, val_main_v12, val_main_v8, val_main_v7, val_main_v6,
    val_main_v5, val_main_v4, val_main_v3, val_main_v2, val_main_v1, val_main_cst_1, val_main_cst_0, val_main_cst]
  simp only [mul_comm (h _ * _) (∑ k : Fin 7168, _), Fin.sum_univ_one]
  rfl

end Cert.MixInput

end
-- ==== Proof.MixInValue.lean ====
/- The gradient of a norm followed by the mixer's input product, as the kernel computes it block by block: what one block
   of 512 rows holds, and the three arrays after the run.

   The kernel takes the product in ten pieces. A row of the cotangent is laid out in 7 groups of 1024 entries, a row of the
   weight in 4 quarters of 1792; a piece is an interval of the 7168 entries that lies in one group and in one quarter. -/
module

public import proofs.«01_k».proof.Proof.Gen.MixInIdeal.Value
public import proofs.«01_k».proof.Proof.MixInRef
public import Idealize.ShloMosaic.Lib.Pipeline.ValueKit
public import Idealize.ShloMosaic.Lib.Claim

@[expose] public section

set_option maxRecDepth 16384

noncomputable section

namespace Cert.MixInIdeal.Blocks

open Idealize.ShloMosaic Idealize.ShloMosaic.TcCoe Idealize.SL.Sem Cert.MixInIdeal Cert.MixInIdeal.Gen
open Idealize.ShloMosaic.Pipeline (Dat)
open Cert.MixInput (hidden halved weight share back)

/-- A piece of the product: `n` entries, from entry `a` of group `p` and from entry `b` of quarter `q`. -/
def piece (D : FVec Ideal S7x512x1024 .bf16) (W : FVec Ideal S4x1024x1792 .bf16) (r : Fin 512) (x : Fin 1024) (p q a b n : Nat)
    (hp : p < 7 := by decide) (hq : q < 4 := by decide) (ha : a + n ≤ 1024 := by decide) (hb : b + n ≤ 1792 := by decide) : EReal :=
  ∑ k : Fin n, D (ix3 ⟨p, hp⟩ r ⟨a + k.val, by omega⟩) * W (ix3 ⟨q, hq⟩ x ⟨b + k.val, by omega⟩)

/-- The ten pieces. -/
def pieces (D : FVec Ideal S7x512x1024 .bf16) (W : FVec Ideal S4x1024x1792 .bf16) (r : Fin 512) (x : Fin 1024) : EReal :=
  piece D W r x 0 0 0 0 1024 + piece D W r x 1 0 0 1024 768 + piece D W r x 1 1 768 0 256 + piece D W r x 2 1 0 256 1024
    + piece D W r x 3 1 0 1280 512 + piece D W r x 3 2 512 0 512 + piece D W r x 4 2 0 512 1024 + piece D W r x 5 2 0 1536 256
    + piece D W r x 5 3 256 0 768 + piece D W r x 6 3 0 768 1024

/-- An interval of the 7168 entries: `n` of them, from entry `o`. -/
def interval (f : Fin 7168 → EReal) (o n : Nat) (h : o + n ≤ 7168 := by decide) : EReal := ∑ k : Fin n, f ⟨o + k.val, by omega⟩

/-- Two intervals next to each other make one. -/
theorem interval_join (f : Fin 7168 → EReal) (o n n' : Nat) (h : o + n ≤ 7168) (h' : o + n + n' ≤ 7168) (h'' : o + (n + n') ≤ 7168) :
    interval f o n h + interval f (o + n) n' h' = interval f o (n + n') h'' := by
  rw [interval, interval, interval, Fin.sum_univ_add]
  refine congrArg₂ (· + ·) rfl (Finset.sum_congr rfl fun k _ => congrArg f (Fin.ext ?_))
  simp [Nat.add_assoc]

/-- The sum over all 7168 entries, as the sum of ten intervals. -/
theorem sum_split (f : Fin 7168 → EReal) : interval f 0 1024 + interval f 1024 768 + interval f 1792 256 + interval f 2048 1024
    + interval f 3072 512 + interval f 3584 512 + interval f 4096 1024 + interval f 5120 256 + interval f 5376 768
    + interval f 6144 1024 = ∑ k, f k := by
  have e (n n' s : Nat) (hs : n + n' = s) (h'' : 0 + s ≤ 7168) (h : 0 + n ≤ 7168) (h' : n + n' ≤ 7168) :
      interval f 0 n h + interval f n n' h' = interval f 0 s h'' := by
    subst hs
    have := interval_join f 0 n n' h (by omega) (by omega)
    simpa only [Nat.zero_add] using this
  rw [e 1024 768 1792 rfl (by decide), e 1792 256 2048 rfl (by decide), e 2048 1024 3072 rfl (by decide), e 3072 512 3584 rfl (by decide), e 3584 512 4096 rfl (by decide), e 4096 1024 5120 rfl (by decide),
    e 5120 256 5376 rfl (by decide), e 5376 768 6144 rfl (by decide), e 6144 1024 7168 rfl (by decide)]
  exact Finset.sum_congr rfl fun k _ => congrArg f (Fin.ext (Nat.zero_add _))

/-- A part of a block of the cotangent, and of the weight. -/
abbrev dl (D : FVec Ideal S7x512x1024 .bf16) (off size : Fin 3 → Nat) (h : ∀ a, off a + size a ≤ S7x512x1024.size a) :
    FVec Ideal ⟨3, size⟩ .bf16 := View.ld (Val := Elt Ideal) (e' := .bf16) (S := S7x512x1024) D (Rect.unit (s := S7x512x1024) off size h)
abbrev wl (W : FVec Ideal S4x1024x1792 .bf16) (off size : Fin 3 → Nat) (h : ∀ a, off a + size a ≤ S4x1024x1792.size a) :
    FVec Ideal ⟨3, size⟩ .bf16 := View.ld (Val := Elt Ideal) (e' := .bf16) (S := S4x1024x1792) W (Rect.unit (s := S4x1024x1792) off size h)

/-- The first eight pieces as the kernel adds them up. -/
abbrev front (D : FVec Ideal S7x512x1024 .bf16) (W : FVec Ideal S4x1024x1792 .bf16) : FVec Ideal S512x1024 .f32 :=
  k0_pay5 (F := Ideal)
    (k0_pay4 (F := Ideal) (dl D ![0, 0, 0] ![1, 512, 1024] inb_S7x512x1024_S1x512x1024_0_0_0)
      (wl W ![0, 0, 0] ![1, 1024, 1024] inb_S4x1024x1792_S1x1024x1024_0_0_0)
      (dl D ![1, 0, 0] ![1, 512, 768] inb_S7x512x1024_S1x512x768_1_0_0)
      (wl W ![0, 0, 1024] ![1, 1024, 768] inb_S4x1024x1792_S1x1024x768_0_0_1024)
      (dl D ![1, 0, 768] ![1, 512, 256] inb_S7x512x1024_S1x512x256_1_0_768)
      (wl W ![1, 0, 0] ![1, 1024, 256] inb_S4x1024x1792_S1x1024x256_1_0_0)
      (dl D ![2, 0, 0] ![1, 512, 1024] inb_S7x512x1024_S1x512x1024_2_0_0)
      (wl W ![1, 0, 256] ![1, 1024, 1024] inb_S4x1024x1792_S1x1024x1024_1_0_256))
    (dl D ![3, 0, 0] ![1, 512, 512] inb_S7x512x1024_S1x512x512_3_0_0)
    (wl W ![1, 0, 1280] ![1, 1024, 512] inb_S4x1024x1792_S1x1024x512_1_0_1280)
    (dl D ![3, 0, 512] ![1, 512, 512] inb_S7x512x1024_S1x512x512_3_0_512)
    (wl W ![2, 0, 0] ![1, 1024, 512] inb_S4x1024x1792_S1x1024x512_2_0_0)
    (dl D ![4, 0, 0] ![1, 512, 1024] inb_S7x512x1024_S1x512x1024_4_0_0)
    (wl W ![2, 0, 512] ![1, 1024, 1024] inb_S4x1024x1792_S1x1024x1024_2_0_512)
    (dl D ![5, 0, 0] ![1, 512, 256] inb_S7x512x1024_S1x512x256_5_0_0)
    (wl W ![2, 0, 1536] ![1, 1024, 256] inb_S4x1024x1792_S1x1024x256_2_0_1536)

/-- The ninth piece's two factors, and the last one's. -/
abbrev d9 (D : FVec Ideal S7x512x1024 .bf16) := k0_pay6 (F := Ideal) (dl D ![5, 0, 256] ![1, 512, 768] inb_S7x512x1024_S1x512x768_5_0_256)
abbrev w9 (W : FVec Ideal S4x1024x1792 .bf16) := k0_pay7 (F := Ideal) (wl W ![3, 0, 0] ![1, 1024, 768] inb_S4x1024x1792_S1x1024x768_3_0_0)
abbrev dx (D : FVec Ideal S7x512x1024 .bf16) := dl D ![6, 0, 0] ![1, 512, 1024] inb_S7x512x1024_S1x512x1024_6_0_0
abbrev wx (W : FVec Ideal S4x1024x1792 .bf16) := wl W ![3, 0, 768] ![1, 1024, 1024] inb_S4x1024x1792_S1x1024x1024_3_0_768

/-- The product of two parts is a piece. -/
theorem piece_eq (D : FVec Ideal S7x512x1024 .bf16) (W : FVec Ideal S4x1024x1792 .bf16) (r : Fin 512) (x : Fin 1024) (p q a b n : Nat)
    (h : ∀ i, (![p, 0, a] : Fin 3 → Nat) i + (![1, 512, n] : Fin 3 → Nat) i ≤ S7x512x1024.size i)
    (h' : ∀ i, (![q, 0, b] : Fin 3 → Nat) i + (![1, 1024, n] : Fin 3 → Nat) i ≤ S4x1024x1792.size i) :
    (∑ k : Fin n, dl D ![p, 0, a] ![1, 512, n] h (ix3 0 r k) * wl W ![q, 0, b] ![1, 1024, n] h' (ix3 0 x k))
      = piece D W r x p q a b n (h 0) (h' 0) (h 2) (h' 2) := by
  have hp : p < 7 := h 0
  have hq : q < 4 := h' 0
  have ha : a + n ≤ 1024 := h 2
  have hb : b + n ≤ 1792 := h' 2
  refine Finset.sum_congr rfl fun k _ => ?_
  have e1 : dl D ![p, 0, a] ![1, 512, n] h (ix3 0 r k) = D (ix3 ⟨p, hp⟩ r ⟨a + k.val, by omega⟩) :=
    congrArg D (funext fun i => Fin.ext (by fin_cases i <;> simp [ix3]))
  have e2 : wl W ![q, 0, b] ![1, 1024, n] h' (ix3 0 x k) = W (ix3 ⟨q, hq⟩ x ⟨b + k.val, by omega⟩) :=
    congrArg W (funext fun i => Fin.ext (by fin_cases i <;> simp [ix3]))
  rw [e1, e2]

theorem product_at (D : FVec Ideal S7x512x1024 .bf16) (W : FVec Ideal S4x1024x1792 .bf16) (r : Fin 512) (x : Fin 1024) :
    k0_pay8 (F := Ideal) (front D W) (d9 D) (w9 W) (dx D) (wx W) (ix2 r x) = pieces D W r x := by
  pointwise [k0_pay8, k0_pay5, k0_pay4, k0_pay6, k0_pay7]
  simp only [piece_eq]
  rfl

/-- What a block stores at an entry of the gradient with respect to the hidden state. -/
theorem pay_hidden (dh h : FVec Ideal S512x1024 .f32) (g : FVec Ideal S1x1024 .f32) (D : FVec Ideal S7x512x1024 .bf16)
    (W : FVec Ideal S4x1024x1792 .bf16) (r : Fin 512) (l : Fin 1024) :
    k0_pay12 (F := Ideal) (front D W) (d9 D) (w9 W) (dx D) (wx W) h g dh (ix2 r l) =
      dh (ix2 r l) + Rms.byHand (fun x => h (ix2 r x)) (fun x => pieces D W r x * g (ix2 0 x)) l := by
  simp only [← product_at]
  pointwise [k0_pay12, k0_pay10, k0_pay9]
  rfl

/-- Half of it. -/
theorem pay_halved (v : FVec Ideal S512x1024 .f32) (r : Fin 512) (l : Fin 1024) :
    k0_pay1 (F := Ideal) v (ix2 r l) = Ideal.ofBits FTy.f32 0x3F000000#32 * v (ix2 r l) := by
  pointwise [k0_pay1]

/-- What a block adds to an entry of the gradient with respect to the norm's weight. -/
theorem pay_weight (h : FVec Ideal S512x1024 .f32) (acc : FVec Ideal S1x1024 .f32) (D : FVec Ideal S7x512x1024 .bf16)
    (W : FVec Ideal S4x1024x1792 .bf16) (l : Fin 1024) :
    k0_pay2 (F := Ideal) (k0_pay11 (front D W) (d9 D) (w9 W) (dx D) (wx W) h) acc (ix2 0 l) = acc (ix2 0 l) +
      ∑ r : Fin 512, pieces D W r l * (h (ix2 r l) * Rms.inv fun x => h (ix2 r x)) := by
  simp only [← product_at]
  pointwise [k0_pay2, k0_pay11, k0_pay10, k0_pay9]
  rfl

/-- Before the first block that gradient is zero. -/
theorem pay_zero (l : Fin 1024) : k0_pay3 (F := Ideal) (ix2 0 l) = 0 := by pointwise [k0_pay3]

/-- The block that each operand has at each grid point. -/
theorem idx : ∀ t : Fin cfg0.N, win0_0.index t = ![t.val, 0] ∧ win0_1.index t = ![t.val, 0] ∧ win0_2.index t = ![0, 0]
    ∧ win0_3.index t = ![0, t.val, 0] ∧ win0_4.index t = ![0, 0, 0] ∧ win0_5.index t = ![t.val, 0] ∧ win0_6.index t = ![0, 0]
    ∧ win0_7.index t = ![t.val, 0] :=
  (by decide +kernel : ∀ t : Fin grid0.N, _)

variable (m : (ℓ : Loc nD τ sig) → Buf (Elt Ideal) ℓ)

/-- The array's row that is row `r` of block `t`. -/
abbrev row (t : Fin cfg0.N) (r : Fin 512) : Fin 4096 := ⟨t.val * 512 + r.val, by have := lt_of_lt_of_eq t.isLt N_0; omega⟩

/-- The program's arguments. -/
abbrev A0 (c : Dev nD) : FVec Ideal S4096x1024 .f32 := m ((c : Thread nD τ).loc main_arg0)
abbrev A1 (c : Dev nD) : FVec Ideal S4096x1024 .f32 := m ((c : Thread nD τ).loc main_arg1)
abbrev A2 (c : Dev nD) : FVec Ideal S1x1024 .f32 := m ((c : Thread nD τ).loc main_arg2)
abbrev A3 (c : Dev nD) : FVec Ideal S4096x7168 .f32 := m ((c : Thread nD τ).loc main_arg3)
abbrev A4 (c : Dev nD) : FVec Ideal S1x1024x7168 .f32 := m ((c : Thread nD τ).loc main_arg4)

theorem read0 (c : Dev nD) (t : Fin cfg0.N) (r : Fin 512) (x : Fin 1024) :
    iblk m c 0 t (ix2 r x) = A0 m c (ix2 (row t r) x) := by blk_ext! [iblk, V, idx t]
theorem read1 (c : Dev nD) (t : Fin cfg0.N) (r : Fin 512) (x : Fin 1024) :
    iblk m c 1 t (ix2 r x) = A1 m c (ix2 (row t r) x) := by blk_ext! [iblk, V, idx t]
theorem read2 (c : Dev nD) (t : Fin cfg0.N) (x : Fin 1024) :
    iblk m c 2 t (ix2 0 x) = A2 m c (ix2 0 x) := by blk_ext! [iblk, V, idx t]
theorem read3 (c : Dev nD) (t : Fin cfg0.N) (p : Fin 7) (r : Fin 512) (x : Fin 1024) :
    iblk m c 3 t (ix3 p r x) = A3 m c (ix2 (row t r) ⟨p.val * 1024 + x.val, by omega⟩) := by blk_point [iblk, V, idx t]
theorem read4 (c : Dev nD) (t : Fin cfg0.N) (q : Fin 4) (x : Fin 1024) (k : Fin 1792) :
    iblk m c 4 t (ix3 q x k) = A4 m c (ix3 0 x ⟨q.val * 1792 + k.val, by omega⟩) := by blk_point [iblk, V, idx t]
theorem place5 (t : Fin cfg0.N) (r : Fin 512) (x : Fin 1024) :
    ((cfg0.win 5).blk t).view.emb (ix2 r x) = ix2 (row t r) x := by
  blk_ext [idx t]
theorem place7 (t : Fin cfg0.N) (r : Fin 512) (x : Fin 1024) :
    ((cfg0.win 7).blk t).view.emb (ix2 r x) = ix2 (row t r) x := by
  blk_ext [idx t]

/-- A piece of a block's product is an interval of the row's. -/
theorem piece_block (c : Dev nD) (t : Fin cfg0.N) (r : Fin 512) (x : Fin 1024) (p q a b n o : Nat) (hp : p < 7 := by decide)
    (hq : q < 4 := by decide) (ha : a + n ≤ 1024 := by decide) (hb : b + n ≤ 1792 := by decide)
    (e : p * 1024 + a = o := by decide) (e' : q * 1792 + b = o := by decide) (h : o + n ≤ 7168 := by decide) :
    piece (iblk m c 3 t) (iblk m c 4 t) r x p q a b n hp hq ha hb
      = interval (fun k => A3 m c (ix2 (row t r) k) * A4 m c (ix3 0 x k)) o n h := by
  rw [piece, interval]
  refine Finset.sum_congr rfl fun k _ => ?_
  rw [read3, read4]
  exact congrArg₂ (· * ·) (congrArg (fun k => A3 m c (ix2 (row t r) k)) (Fin.ext (by simp only; omega)))
    (congrArg (fun k => A4 m c (ix3 0 x k)) (Fin.ext (by simp only; omega)))

/-- The ten pieces together are the row's product. -/
theorem pieces_block (c : Dev nD) (t : Fin cfg0.N) (r : Fin 512) (x : Fin 1024) :
    pieces (iblk m c 3 t) (iblk m c 4 t) r x = back (A3 m c) (A4 m c) (row t r) x := by
  rw [back, ← sum_split, pieces, piece_block m c t r x 0 0 0 0 1024 0, piece_block m c t r x 1 0 0 1024 768 1024, piece_block m c t r x 1 1 768 0 256 1792,
    piece_block m c t r x 2 1 0 256 1024 2048, piece_block m c t r x 3 1 0 1280 512 3072, piece_block m c t r x 3 2 512 0 512 3584,
    piece_block m c t r x 4 2 0 512 1024 4096, piece_block m c t r x 5 2 0 1536 256 5120, piece_block m c t r x 5 3 256 0 768 5376,
    piece_block m c t r x 6 3 0 768 1024 6144]

/-- What a block stores is the gradient's block. -/
theorem point_hidden (c : Dev nD) (t : Fin cfg0.N) (r : Fin 512) (x : Fin 1024) :
    k0_pay12 (F := Ideal) (front (iblk m c 3 t) (iblk m c 4 t)) (d9 (iblk m c 3 t)) (w9 (iblk m c 4 t)) (dx (iblk m c 3 t))
      (wx (iblk m c 4 t)) (iblk m c 1 t) (iblk m c 2 t) (iblk m c 0 t) (ix2 r x)
      = hidden (A0 m c) (A1 m c) (A2 m c) (A3 m c) (A4 m c) (ix2 (row t r) x) := by
  rw [pay_hidden]
  simp only [read0, read1, read2, pieces_block]
  rfl

/-- The third result's block is half of it. -/
theorem point_halved (c : Dev nD) (t : Fin cfg0.N) (r : Fin 512) (x : Fin 1024) :
    k0_pay1 (F := Ideal) (k0_pay12 (F := Ideal) (front (iblk m c 3 t) (iblk m c 4 t)) (d9 (iblk m c 3 t)) (w9 (iblk m c 4 t))
      (dx (iblk m c 3 t)) (wx (iblk m c 4 t)) (iblk m c 1 t) (iblk m c 2 t) (iblk m c 0 t)) (ix2 r x)
      = halved (A0 m c) (A1 m c) (A2 m c) (A3 m c) (A4 m c) (ix2 (row t r) x) := by
  rw [pay_halved, point_hidden]
  rfl

/-- What a block adds is the sum of its rows' shares. -/
theorem point_weight (c : Dev nD) (t : Fin cfg0.N) (acc : FVec Ideal S1x1024 .f32) (l : Fin 1024) :
    k0_pay2 (F := Ideal) (k0_pay11 (front (iblk m c 3 t) (iblk m c 4 t)) (d9 (iblk m c 3 t)) (w9 (iblk m c 4 t)) (dx (iblk m c 3 t))
      (wx (iblk m c 4 t)) (iblk m c 1 t)) acc (ix2 0 l)
      = acc (ix2 0 l) + ∑ r : Fin 512, share (A1 m c) (A3 m c) (A4 m c) (row t r) l := by
  rw [pay_weight]
  simp only [read1, pieces_block]
  rfl

/-- The first result after the run. -/
theorem final_hidden (c : Dev nD) :
    (dats m 0 c).arrAt 5 (cfgs 0).N = hidden (A0 m c) (A1 m c) (A2 m c) (A3 m c) (A4 m c) := by
  refine (dats m 0 c).arrAt_eq_of_covers 5 _ (by decide +kernel) fun t _ y => ?_
  blk_simp
  rw [after0_5]
  idx_vars y
  by_cases h : t.val % 8 = 0
  · rw [outsAt0_A m c t h]; frame_out
    exact (point_hidden m c t y0 y1).trans (congrArg _ (place5 t y0 y1).symm)
  · rw [outsAt0_B m c t h]; frame_out
    exact (point_hidden m c t y0 y1).trans (congrArg _ (place5 t y0 y1).symm)

/-- The third result after the run. -/
theorem final_halved (c : Dev nD) :
    (dats m 0 c).arrAt 7 (cfgs 0).N = halved (A0 m c) (A1 m c) (A2 m c) (A3 m c) (A4 m c) := by
  refine (dats m 0 c).arrAt_eq_of_covers 7 _ (by decide +kernel) fun t _ y => ?_
  blk_simp
  rw [after0_7]
  idx_vars y
  by_cases h : t.val % 8 = 0
  · rw [outsAt0_A m c t h]; frame_out
    exact (point_halved m c t y0 y1).trans (congrArg _ (place7 t y0 y1).symm)
  · rw [outsAt0_B m c t h]; frame_out
    exact (point_halved m c t y0 y1).trans (congrArg _ (place7 t y0 y1).symm)

/-- The second result after the run. -/
theorem final_weight (c : Dev nD) :
    (dats m 0 c).arrAt 6 (cfgs 0).N = weight (A1 m c) (A3 m c) (A4 m c) := by
  refine (dats m 0 c).arrAt_eq_of_after_last 6 t0_7 (by decide +kernel) _ fun j => ?_
  blk_simp
  rw [after0_6, Pipeline.eq_sum_fin_of_reset_step_apply_last (fun n h => (outsAt0 m c n h).2.1) 8 (fun _ => 0)
    (fun t j => ∑ r : Fin 512, share (A1 m c) (A3 m c) (A4 m c) (row t r) (j 1))
    (fun t h j => by
      idx_vars j
      obtain rfl : j0 = 0 := Subsingleton.elim _ _
      rw [outsAt0_A m c t h]; frame_out
      exact (point_weight m c t _ j1).trans (congrArg (· + _) (pay_zero j1)))
    (fun t h j => by
      idx_vars j
      obtain rfl : j0 = 0 := Subsingleton.elim _ _
      rw [outsAt0_B m c t h]; frame_out
      exact point_weight m c t _ j1) (le_of_eq N_0) t0_7 rfl _, zero_add]
  exact Fin.sum_mul_add_congr fun s k hl => rfl

end Cert.MixInIdeal.Blocks

end
-- ==== Proof.MixInClaims.lean ====
/- The claims about the gradient of a norm followed by the mixer's input product: both programs end with the same three
   arrays. -/
module

public import proofs.«01_k».proof.Defs
public import proofs.«01_k».proof.Proof.Gen.MixIn.Frame
public import proofs.«01_k».proof.Proof.Gen.MixInRefIdeal.Run
public import proofs.«01_k».proof.Proof.MixInValue

@[expose] public section

set_option maxRecDepth 16384

noncomputable section

namespace Cert.MixInput

open Idealize.ShloMosaic Idealize.SL.Sem MixInIdeal.Blocks

/-- The reference runs and leaves its arguments alone; it has no semaphore. -/
theorem ref_frame : quiescent_MixInRefIdeal (hMixInRefIdeal := MixInRefIdeal.Gen.facts) := fun m g _ =>
  (θ_run MixInRefIdeal.defs _ _).mono (fun r h => ⟨fun c => (h c).2.2.2, sem_eq_zero_of_no_sems (by decide) r.2⟩)
    (MixInRefIdeal.Value.run (F := Ideal) m g)

/-- Both programs end with the same arrays. -/
theorem value : algebraic_MixInIdeal_MixInRefIdeal (hMixInIdeal := MixInIdeal.Gen.facts)
    (hMixInRefIdeal := MixInRefIdeal.Gen.facts) := fun m g m' g' _ hm => by
  refine ⟨fun c => hidden (A0 m c) (A1 m c) (A2 m c) (A3 m c) (A4 m c), fun c => weight (A1 m c) (A3 m c) (A4 m c),
    fun c => halved (A0 m c) (A1 m c) (A2 m c) (A3 m c) (A4 m c),
    (θ_run _ _ _).mono (fun r h c => ?_) (MixInIdeal.Value.run_blocks m g),
    (θ_run _ _ _).mono (fun r h c => ?_) (MixInRefIdeal.Value.run (F := Ideal) m' g')⟩
  · exact ⟨(h c).1.trans (final_hidden m c), (h c).2.1.trans (final_weight m c), (h c).2.2.1.trans (final_halved m c), (h c).2.2.2⟩
  · obtain ⟨e0, e1, e2, e3, e4⟩ := hm c
    refine ⟨(h c).1.trans ?_, (h c).2.1.trans ?_, (h c).2.2.1.trans ?_, (h c).2.2.2⟩
    · refine (MixInRefIdeal.Read.val_main_v40_eq (F := Ideal) _ _).trans ?_
      rw [e0, e1, e2, e3, e4]
      exact ref_hidden _ _ _ _ _
    · refine (MixInRefIdeal.Read.val_main_v41_eq (F := Ideal) _ _ _).trans ?_
      rw [e1, e3, e4]
      exact ref_weight _ _ _
    · refine (MixInRefIdeal.Read.val_main_v44_eq (F := Ideal) _ _).trans ?_
      rw [e0, e1, e2, e3, e4]
      exact ref_halved _ _ _ _ _

end Cert.MixInput

end
-- ==== Proof.ConvRef.lean ====
/- The gradient of the two causal convolutions with their gates, as the reference computes it: what reaches a row comes from the
   rows up to 30 (or 2) further down, and a filter's gradient is a sum over the rows. -/
module

public import proofs.«01_k».proof.Proof.Gen.ConvRefIdeal.Run
public import proofs.«01_k».proof.Proof.Gen.ConvRefIdeal.Read
public import proofs.«01_k».proof.Proof.Swiglu
public import Idealize.ShloMosaic.Lib.Pointwise
public import Idealize.ShloMosaic.Lib.Pipeline.ValueKit

@[expose] public section

set_option maxRecDepth 100000

noncomputable section

namespace Cert.BackwardConv

open Idealize.ShloMosaic Idealize.ShloMosaic.TcCoe Idealize.SL.Sem Cert.ConvRefIdeal Cert.ConvRefIdeal.Read Cert.Swiglu
open Cert.ConvRefIdeal.Gen
open Idealize.ShloMosaic.Tactic

/-- Entry `d` of group `k` in row `s`; the gated values and the products that are convolved; a column moved down by `K` rows,
    zero before the first; and a column with zeros after its last row. -/
abbrev group (z : FVec Ideal S4096x7168 .f32) (k : Fin 7) (s : Fin 4096) (d : Fin 1024) : EReal :=
  z (ix2 s (⟨k.val * 1024 + d.val, by omega⟩ : Fin 7168))
def gate (z : FVec Ideal S4096x7168 .f32) (d : Fin 1024) (s : Fin 4096) : EReal := group z 0 s d * Ideal.logistic (group z 1 s d)
def prod (z : FVec Ideal S4096x7168 .f32) (d : Fin 1024) (s : Fin 4096) : EReal := group z 3 s d * group z 4 s d
def before (K : Nat) (f : Fin 4096 → EReal) (p : Nat) : EReal := if h : K ≤ p ∧ p - K < 4096 then f ⟨p - K, h.2⟩ else 0
def later (f : Fin 4096 → EReal) (p : Nat) : EReal := if h : p < 4096 then f ⟨p, h⟩ else 0

/-- What the two convolutions get: the first the gradient itself, the second the gradient times its gate. -/
def inner (da : FVec Ideal S4096x1024 .f32) (d : Fin 1024) (s : Fin 4096) : EReal := da (ix2 s d)
def outer (z : FVec Ideal S4096x7168 .f32) (dq : FVec Ideal S4096x1024 .f32) (d : Fin 1024) (s : Fin 4096) : EReal :=
  dq (ix2 s d) * group z 2 s d

/-- A column under a filter turned round, and a filter's gradient. -/
def turned {K : Nat} (w : FVec Ideal ⟨3, ![1, K, 1024]⟩ .f32) (f : Fin 4096 → EReal) (d : Fin 1024) (s : Nat) : EReal :=
  ∑ k : Fin K, w (ix3 0 k d) * later f (s + (K - 1) - k.val)
def taps (K : Nat) (f x : Fin 4096 → EReal) (k : Nat) : EReal := ∑ s : Fin 4096, f s * before (K - 1) x (k + s.val)

/-- The seven groups of the argument's gradient. -/
def parts (z : FVec Ideal S4096x7168 .f32) (w : FVec Ideal S1x31x1024 .f32) (v : FVec Ideal S1x3x1024 .f32)
    (da dq dga dgb : FVec Ideal S4096x1024 .f32) (s : Fin 4096) (d : Fin 1024) : Fin 7 → EReal :=
  ![turned w (inner da d) d s.val * Ideal.logistic (group z 1 s d),
    turned w (inner da d) d s.val * group z 0 s d * Ideal.logistic (group z 1 s d) * (1 - Ideal.logistic (group z 1 s d)),
    dq (ix2 s d) * ∑ k : Fin 3, v (ix3 0 k d) * before 2 (prod z d) (k.val + s.val),
    turned v (outer z dq d) d s.val * group z 4 s d,
    turned v (outer z dq d) d s.val * group z 3 s d,
    dga (ix2 s d), dgb (ix2 s d)]

/-- The four results. -/
def inputs (z : FVec Ideal S4096x7168 .f32) (w : FVec Ideal S1x31x1024 .f32) (v : FVec Ideal S1x3x1024 .f32)
    (da dq dga dgb : FVec Ideal S4096x1024 .f32) : FVec Ideal S7x4096x1024 .bf16 := fun i => parts z w v da dq dga dgb (i 1) (i 2) (i 0)
def colOf (b : Fin 4) (j : Fin 256) : Fin 1024 := ⟨b.val * 256 + j.val, by omega⟩
def filter (z : FVec Ideal S4096x7168 .f32) (da : FVec Ideal S4096x1024 .f32) : FVec Ideal S4x31x256 .f32 := fun i =>
  taps 31 (inner da (colOf (i 0) (i 2))) (gate z (colOf (i 0) (i 2))) (i 1).val
def bias (da : FVec Ideal S4096x1024 .f32) : FVec Ideal S1x1024 .f32 := fun i => ∑ s : Fin 4096, da (ix2 s (i 1))
def filter3 (z : FVec Ideal S4096x7168 .f32) (dq : FVec Ideal S4096x1024 .f32) : FVec Ideal S4x3x256 .f32 := fun i =>
  taps 3 (outer z dq (colOf (i 0) (i 2))) (prod z (colOf (i 0) (i 2))) (i 1).val

section Sums
variable {K L : Nat}

theorem cuts {n : Nat} (h : n + 1 ≤ K) : (⟨2, ![K, 1024]⟩ : Shape).Slices ![n, 0] S1x1024 :=
  ⟨rfl, fun a => by fin_cases a <;> simp [Shape.size] <;> omega⟩
theorem moves (hL : L + 1 = 4096 + K) {n : Nat} (h : n + 1 ≤ K) : (⟨2, ![L, 1024]⟩ : Shape).Slices ![n, 0] S4096x1024 :=
  ⟨rfl, fun a => by fin_cases a <;> simp [Shape.size] <;> omega⟩
theorem pads (hL : L + 1 = 4096 + K) {n : Nat} (h : n + 1 ≤ K) :
    S4096x1024.Pads (![n, 0] : Fin 2 → Nat) ![K - 1 - n, 0] ![0, 0] (⟨2, ![L, 1024]⟩ : Shape) :=
  ⟨rfl, fun a => by fin_cases a <;> simp [Shape.size] <;> omega⟩
theorem lies {n : Nat} (h : n + 1 ≤ K) : S1x1024.Pads (![n, 0] : Fin 2 → Nat) ![K - 1 - n, 0] ![0, 0] (⟨2, ![K, 1024]⟩ : Shape) :=
  ⟨rfl, fun a => by fin_cases a <;> simp [Shape.size] <;> omega⟩

/-- A row of weights at every row, and nothing. -/
abbrev spread (v : FVec Ideal S1x1024 .f32) : FVec Ideal S4096x1024 .f32 :=
  broadcastInDim S4096x1024 ![0, 1] bcast_S1x1024_S4096x1024_0_1
    (broadcastInDim S1x1024 ![1] bcast_S1024_S1x1024_1 (shapeCast S1024 v shapeCasts_S1x1024_S1024))
abbrev nil : FVec Ideal S_ .f32 := constant (F := Ideal) S_ .f32 0x00000000#32

/-- The sum over the first `n` taps going forward. -/
def sums (hL : L + 1 = 4096 + K) (x : FVec Ideal ⟨2, ![L, 1024]⟩ .f32) (w : FVec Ideal ⟨2, ![K, 1024]⟩ .f32) :
    (n : Nat) → n ≤ K → FVec Ideal S4096x1024 .f32
  | 0, _ => broadcastInDim S4096x1024 ![] bcast_S_S4096x1024 nil
  | n + 1, h => addf (sums hL x w n (Nat.le_of_succ_le h))
      (mulf (spread (extractStridedSlice S1x1024 ![n, 0] w (cuts h))) (extractStridedSlice S4096x1024 ![n, 0] x (moves hL h)))

/-- What tap `n` sends back, and the sum over the last `n + 1` taps. -/
def sent (hL : L + 1 = 4096 + K) (w : FVec Ideal ⟨2, ![K, 1024]⟩ .f32) (u : FVec Ideal S4096x1024 .f32) (n : Nat) (h : n + 1 ≤ K) :
    FVec Ideal ⟨2, ![L, 1024]⟩ .f32 :=
  pad ⟨2, ![L, 1024]⟩ ![n, 0] ![K - 1 - n, 0] ![0, 0] (mulf (spread (extractStridedSlice S1x1024 ![n, 0] w (cuts h))) u) nil (pads hL h) h_S_
def sents (hL : L + 1 = 4096 + K) (w : FVec Ideal ⟨2, ![K, 1024]⟩ .f32) (u : FVec Ideal S4096x1024 .f32) :
    (n : Nat) → n + 1 ≤ K → FVec Ideal ⟨2, ![L, 1024]⟩ .f32
  | 0, h => sent hL w u (K - 1) (by omega)
  | n + 1, h => addf (sents hL w u n (Nat.le_of_succ_le h)) (sent hL w u (K - 1 - (n + 1)) (by omega))

/-- The gradient of tap `n`, in its row, and the sum over the last `n + 1` taps. -/
def own (hL : L + 1 = 4096 + K) (x : FVec Ideal ⟨2, ![L, 1024]⟩ .f32) (u : FVec Ideal S4096x1024 .f32) (n : Nat) (h : n + 1 ≤ K) :
    FVec Ideal ⟨2, ![K, 1024]⟩ .f32 :=
  pad ⟨2, ![K, 1024]⟩ ![n, 0] ![K - 1 - n, 0] ![0, 0] (broadcastInDim S1x1024 ![1] bcast_S1024_S1x1024_1
    (Host.reduceAdd (shapeCast S1x1024 (Host.reduceAdd (mulf u (extractStridedSlice S4096x1024 ![n, 0] x (moves hL h))) nil
      reducesTo_S4096x1024_S1024_d0 h_S_) shapeCasts_S1024_S1x1024) nil reducesTo_S1x1024_S1024_d0 h_S_)) nil (lies h) h_S_
def owns (hL : L + 1 = 4096 + K) (x : FVec Ideal ⟨2, ![L, 1024]⟩ .f32) (u : FVec Ideal S4096x1024 .f32) :
    (n : Nat) → n + 1 ≤ K → FVec Ideal ⟨2, ![K, 1024]⟩ .f32
  | 0, h => own hL x u (K - 1) (by omega)
  | n + 1, h => addf (owns hL x u n (Nat.le_of_succ_le h)) (own hL x u (K - 1 - (n + 1)) (by omega))

end Sums

variable (x0 : FVec Ideal S4096x1024 .f32) (x1 : FVec Ideal S1x1024 .f32) (x2 : FVec Ideal S1x1024x7168 .f32)
  (x3 : FVec Ideal S1x31x1024 .f32) (x4 : FVec Ideal S1x3x1024 .f32) (x5 x6 x7 x8 : FVec Ideal S4096x1024 .f32)

theorem sums_narrow : val_main_v286 (F := Ideal) x0 x1 x2 x4
    = sums (K := 3) (L := 4098) rfl (val_main_v263 (F := Ideal) x0 x1 x2) (val_main_v261 (F := Ideal) x4) 3 (le_refl 3) := by sl_kernel_rfl
theorem sents_wide : val_main_v666 (F := Ideal) x3 x5
    = sents (K := 31) (L := 4126) rfl (val_main_v34 (F := Ideal) x3) (val_main_v326 (F := Ideal) x5) 30 (le_refl 31) := by sl_kernel_rfl
theorem sents_narrow : val_main_v317 (F := Ideal) x0 x1 x2 x4 x6
    = sents (K := 3) (L := 4098) rfl (val_main_v261 (F := Ideal) x4) (val_main_v288 (F := Ideal) x0 x1 x2 x6) 2 (le_refl 3) := by sl_kernel_rfl
theorem owns_wide : val_main_v669 (F := Ideal) x0 x1 x2 x5
    = owns (K := 31) (L := 4126) rfl (val_main_v36 (F := Ideal) x0 x1 x2) (val_main_v326 (F := Ideal) x5) 30 (le_refl 31) := by sl_kernel_rfl
theorem owns_narrow : val_main_v320 (F := Ideal) x0 x1 x2 x6
    = owns (K := 3) (L := 4098) rfl (val_main_v263 (F := Ideal) x0 x1 x2) (val_main_v288 (F := Ideal) x0 x1 x2 x6) 2 (le_refl 3) := by
  sl_kernel_rfl

end Cert.BackwardConv

end
-- ==== Proof.ConvRefAt.lean ====
/- The gradient of the two causal convolutions, as the reference computes it, entry by entry. -/
module

public import proofs.«01_k».proof.Proof.ConvRef

@[expose] public section

set_option maxRecDepth 100000

noncomputable section

namespace Cert.BackwardConv

open Idealize.ShloMosaic Idealize.ShloMosaic.TcCoe Idealize.SL.Sem Cert.ConvRefIdeal Cert.ConvRefIdeal.Read Cert.Swiglu
open Cert.ConvRefIdeal.Gen

section Sums
variable {K L : Nat}

theorem spread_at (v : FVec Ideal S1x1024 .f32) (s : Fin 4096) (d : Fin 1024) : spread v (ix2 s d) = v (ix2 0 d) := by pointwise

theorem sums_at (hL : L + 1 = 4096 + K) (x : FVec Ideal ⟨2, ![L, 1024]⟩ .f32) (w : FVec Ideal ⟨2, ![K, 1024]⟩ .f32)
    (s : Fin 4096) (d : Fin 1024) : ∀ (n : Nat) (h : n ≤ K), sums hL x w n h (ix2 s d)
      = ∑ k : Fin n, w (ix2 (Fin.castLE h k) d) * x (ix2 (⟨k.val + s.val, by omega⟩ : Fin L) d)
  | 0, h => by
    unfold sums
    pointwise
    simp only [Finset.univ_eq_empty, Finset.sum_empty]
  | n + 1, h => by
    rw [Fin.sum_univ_castSucc]
    refine congrArg₂ (· + ·) (sums_at hL x w s d n (Nat.le_of_succ_le h)) (congrArg₂ (· * ·) ((spread_at _ s d).trans
      (congrArg w ?_)) (congrArg x ?_))
    · funext a; apply Fin.ext; fin_cases a <;> simp [ix2]
    · funext a; apply Fin.ext; fin_cases a <;> simp [ix2]

/-- Rows put at an offset among rows of zeros. -/
theorem pad_at {l n o : Nat} (x : FVec Ideal ⟨2, ![l, 1024]⟩ .f32) (q : Nat)
    (hp : (⟨2, ![l, 1024]⟩ : Shape).Pads (![n, 0] : Fin 2 → Nat) ![q, 0] ![0, 0] (⟨2, ![o, 1024]⟩ : Shape)) (p : Fin o) (d : Fin 1024) :
    pad ⟨2, ![o, 1024]⟩ ![n, 0] ![q, 0] ![0, 0] x nil hp h_S_ (ix2 p d)
      = if h : n ≤ p.val ∧ p.val - n < l then x (ix2 (⟨p.val - n, h.2⟩ : Fin l) d) else 0 := by
  rw [pad_apply]
  by_cases h : n ≤ p.val ∧ p.val - n < l
  · rw [dif_pos h, dif_pos]
    · refine congrArg x (funext fun a => Fin.ext ?_)
      fin_cases a
      · show (p.val - n) / 1 = p.val - n
        exact Nat.div_one _
      · show (d.val - 0) / 1 = d.val
        rw [Nat.div_one, Nat.sub_zero]
    · intro a
      fin_cases a <;> simp [ix2, Shape.size] <;> omega
  · rw [dif_neg h, dif_neg]
    · pointwise
    · intro g
      have g0 : n ≤ p.val ∧ (p.val - n) % 1 = 0 ∧ (p.val - n) / 1 < l := g 0
      exact h ⟨g0.1, lt_of_eq_of_lt (Nat.div_one _).symm g0.2.2⟩

/-- What a tap sends back to a row. -/
theorem sent_at (hL : L + 1 = 4096 + K) (w : FVec Ideal ⟨2, ![K, 1024]⟩ .f32) (u : FVec Ideal S4096x1024 .f32) (n : Nat) (h : n + 1 ≤ K)
    (p : Fin L) (d : Fin 1024) (hp : K ≤ p.val + 1) :
    sent hL w u n h (ix2 p d) = w (ix2 (⟨n, h⟩ : Fin K) d) * later (fun s => u (ix2 s d)) (p.val - n) := by
  refine (pad_at _ _ (pads hL h) p d).trans ?_
  unfold later
  by_cases g : p.val - n < 4096
  · rw [dif_pos ⟨by omega, g⟩, dif_pos g]
    refine congrArg (· * _) ((spread_at _ _ d).trans (congrArg w ?_))
    funext a; apply Fin.ext; fin_cases a <;> simp [ix2]
  · rw [dif_neg (fun e => g e.2), dif_neg g, mul_zero]

theorem sents_at (hL : L + 1 = 4096 + K) (w : FVec Ideal ⟨2, ![K, 1024]⟩ .f32) (u : FVec Ideal S4096x1024 .f32)
    (p : Fin L) (d : Fin 1024) (hp : K ≤ p.val + 1) : ∀ (n : Nat) (h : n + 1 ≤ K), sents hL w u n h (ix2 p d)
      = ∑ k : Fin (n + 1), w (ix2 (⟨K - 1 - k.val, by omega⟩ : Fin K) d) * later (fun s => u (ix2 s d)) (p.val - (K - 1 - k.val))
  | 0, h => by
    rw [Fin.sum_univ_one]
    exact sent_at hL w u _ _ p d hp
  | n + 1, h => by
    rw [Fin.sum_univ_castSucc]
    exact congrArg₂ (· + ·) (sents_at hL w u p d hp n (Nat.le_of_succ_le h)) (sent_at hL w u _ _ p d hp)

/-- All taps together: the column under the filter turned round. -/
theorem sents_all (hK : 0 < K) (hL : L + 1 = 4096 + K) (w : FVec Ideal ⟨2, ![K, 1024]⟩ .f32) (u : FVec Ideal S4096x1024 .f32)
    (s : Fin 4096) (d : Fin 1024) : sents hL w u (K - 1) (by omega) (ix2 (⟨K - 1 + s.val, by omega⟩ : Fin L) d)
      = ∑ k : Fin K, w (ix2 k d) * later (fun s => u (ix2 s d)) (s.val + (K - 1) - k.val) := by
  obtain ⟨n, rfl⟩ : ∃ n, K = n + 1 := ⟨K - 1, by omega⟩
  refine (sents_at hL w u _ d (by simp only []; omega) n (le_refl _)).trans ?_
  refine (Equiv.sum_comp Fin.revPerm (fun k : Fin (n + 1) => w (ix2 k d) * later (fun s => u (ix2 s d)) (s.val + (n + 1 - 1) - k.val))).symm.trans ?_ |>.symm
  refine Finset.sum_congr rfl fun k _ => congrArg₂ (· * ·) (congrArg (fun k => w (ix2 k d)) (Fin.ext ?_)) (congrArg (later _) ?_)
  · rw [Fin.revPerm_apply, Fin.val_rev]
    simp only []
    omega
  · rw [Fin.revPerm_apply, Fin.val_rev]
    simp only []
    omega

/-- The sum over the rows, of a tap's gradient. -/
theorem rows_sum (v : FVec Ideal S4096x1024 .f32) (d : Fin 1024) :
    broadcastInDim S1x1024 ![1] bcast_S1024_S1x1024_1 (Host.reduceAdd (shapeCast S1x1024 (Host.reduceAdd v nil
      reducesTo_S4096x1024_S1024_d0 h_S_) shapeCasts_S1024_S1x1024) nil reducesTo_S1x1024_S1024_d0 h_S_) (ix2 (0 : Fin 1) d)
      = ∑ s : Fin 4096, v (ix2 s d) := by
  pointwise
  exact Fin.sum_univ_one _

theorem own_at (hL : L + 1 = 4096 + K) (x : FVec Ideal ⟨2, ![L, 1024]⟩ .f32) (u : FVec Ideal S4096x1024 .f32) (n : Nat) (h : n + 1 ≤ K)
    (k : Fin K) (d : Fin 1024) : own hL x u n h (ix2 k d)
      = if k.val = n then ∑ s : Fin 4096, u (ix2 s d) * x (ix2 (⟨k.val + s.val, by omega⟩ : Fin L) d) else 0 := by
  refine (pad_at _ _ (lies h) k d).trans ?_
  by_cases g : k.val = n
  · rw [dif_pos ⟨by omega, by omega⟩, if_pos g]
    refine Eq.trans (congrArg _ (congrArg (ix2 · d) (Fin.ext (by simp only []; omega)))) ((rows_sum _ d).trans
      (Finset.sum_congr rfl fun s _ => congrArg (_ * ·) (congrArg x ?_)))
    funext a; apply Fin.ext; fin_cases a <;> simp [ix2, g]
  · rw [dif_neg (by omega), if_neg g]

theorem owns_at (hL : L + 1 = 4096 + K) (x : FVec Ideal ⟨2, ![L, 1024]⟩ .f32) (u : FVec Ideal S4096x1024 .f32)
    (k : Fin K) (d : Fin 1024) : ∀ (n : Nat) (h : n + 1 ≤ K), owns hL x u n h (ix2 k d)
      = if K ≤ k.val + n + 1 then ∑ s : Fin 4096, u (ix2 s d) * x (ix2 (⟨k.val + s.val, by omega⟩ : Fin L) d) else 0
  | 0, h => by
    refine (own_at hL x u _ _ k d).trans ?_
    by_cases g : k.val = K - 1
    · rw [if_pos g, if_pos (by omega)]
    · rw [if_neg g, if_neg (by omega)]
  | n + 1, h => by
    refine (congrArg₂ (· + ·) (owns_at hL x u k d n (Nat.le_of_succ_le h)) (own_at hL x u _ _ k d)).trans ?_
    by_cases g : k.val = K - 1 - (n + 1)
    · rw [if_pos g, if_neg (by omega), zero_add, if_pos (by omega)]
    · rw [if_neg g, add_zero]
      by_cases e : K ≤ k.val + n + 1
      · rw [if_pos e, if_pos (by omega)]
      · rw [if_neg e, if_neg (by omega)]

end Sums

variable (x0 : FVec Ideal S4096x1024 .f32) (x1 : FVec Ideal S1x1024 .f32) (x2 : FVec Ideal S1x1024x7168 .f32)
  (x3 : FVec Ideal S1x31x1024 .f32) (x4 : FVec Ideal S1x3x1024 .f32) (x5 x6 x7 x8 : FVec Ideal S4096x1024 .f32)

/-- The groups' columns. -/
abbrev z : FVec Ideal S4096x7168 .f32 := val_main_v16 (F := Ideal) x0 x1 x2

theorem slice_at (o : Nat) (h : S4096x7168.Slices ![0, o] S4096x1024) (v : FVec Ideal S4096x7168 .f32) (k : Fin 7) (e : o = k.val * 1024)
    (s : Fin 4096) (d : Fin 1024) : extractStridedSlice S4096x1024 ![0, o] v h (ix2 s d) = group v k s d := by
  subst e
  exact congrArg v (funext fun a => Fin.ext (by fin_cases a <;> simp [ix2]))
theorem col0 (s : Fin 4096) (d : Fin 1024) : val_main_v17 (F := Ideal) x0 x1 x2 (ix2 s d) = group (z x0 x1 x2) 0 s d :=
  slice_at 0 _ _ 0 rfl s d
theorem col1 (s : Fin 4096) (d : Fin 1024) : val_main_v18 (F := Ideal) x0 x1 x2 (ix2 s d) = group (z x0 x1 x2) 1 s d :=
  slice_at 1024 _ _ 1 rfl s d
theorem col2 (s : Fin 4096) (d : Fin 1024) : val_main_v19 (F := Ideal) x0 x1 x2 (ix2 s d) = group (z x0 x1 x2) 2 s d :=
  slice_at 2048 _ _ 2 rfl s d
theorem col3 (s : Fin 4096) (d : Fin 1024) : val_main_v20 (F := Ideal) x0 x1 x2 (ix2 s d) = group (z x0 x1 x2) 3 s d :=
  slice_at 3072 _ _ 3 rfl s d
theorem col4 (s : Fin 4096) (d : Fin 1024) : val_main_v21 (F := Ideal) x0 x1 x2 (ix2 s d) = group (z x0 x1 x2) 4 s d :=
  slice_at 4096 _ _ 4 rfl s d

theorem sigmoid_at (s : Fin 4096) (d : Fin 1024) :
    val_main_v29 (F := Ideal) x0 x1 x2 (ix2 s d) = Ideal.logistic (group (z x0 x1 x2) 1 s d) := by
  pointwise [val_main_v29, val_main_v28, val_main_v27, val_main_v26, val_main_v25, val_main_v24, val_main_cst_3, val_main_cst_4]
  simp only [col1, word_one, EReal.coe_one]
  rfl
theorem slope_at (s : Fin 4096) (d : Fin 1024) : val_main_v32 (F := Ideal) x0 x1 x2 (ix2 s d)
    = Ideal.logistic (group (z x0 x1 x2) 1 s d) * (1 - Ideal.logistic (group (z x0 x1 x2) 1 s d)) := by
  pointwise [val_main_v32, val_main_v31, val_main_v30, val_main_cst_5]
  simp only [sigmoid_at, word_one, EReal.coe_one]

theorem gate_at (s : Fin 4096) (d : Fin 1024) : val_main_v33 (F := Ideal) x0 x1 x2 (ix2 s d) = gate (z x0 x1 x2) d s :=
  congrArg₂ (· * ·) (col0 x0 x1 x2 s d) (sigmoid_at x0 x1 x2 s d)
theorem prod_at (s : Fin 4096) (d : Fin 1024) : val_main_v260 (F := Ideal) x0 x1 x2 (ix2 s d) = prod (z x0 x1 x2) d s :=
  congrArg₂ (· * ·) (col3 x0 x1 x2 s d) (col4 x0 x1 x2 s d)

theorem gate_padded (p : Fin 4126) (d : Fin 1024) : val_main_v36 (F := Ideal) x0 x1 x2 (ix2 p d) = before 30 (gate (z x0 x1 x2) d) p.val := by
  pointwise [val_main_v36, val_main_v35, val_main_cst_6]
  unfold before
  split
  · rw [dif_neg (by omega)]
  · rw [dif_pos ⟨by omega, by omega⟩]
    exact gate_at x0 x1 x2 _ d
theorem prod_padded (p : Fin 4098) (d : Fin 1024) : val_main_v263 (F := Ideal) x0 x1 x2 (ix2 p d) = before 2 (prod (z x0 x1 x2) d) p.val := by
  pointwise [val_main_v263, val_main_v262, val_main_cst_9]
  unfold before
  split
  · rw [dif_neg (by omega)]
  · rw [dif_pos ⟨by omega, by omega⟩]
    exact prod_at x0 x1 x2 _ d

theorem taps_wide (k : Fin 31) (d : Fin 1024) : val_main_v34 (F := Ideal) x3 (ix2 k d) = x3 (ix3 0 k d) := by pointwise [val_main_v34]
theorem taps_narrow (k : Fin 3) (d : Fin 1024) : val_main_v261 (F := Ideal) x4 (ix2 k d) = x4 (ix3 0 k d) := by pointwise [val_main_v261]
theorem inner_at (s : Fin 4096) (d : Fin 1024) : val_main_v326 (F := Ideal) x5 (ix2 s d) = inner x5 d s := by
  pointwise [val_main_v326]
  rfl
theorem outer_at (s : Fin 4096) (d : Fin 1024) : val_main_v288 (F := Ideal) x0 x1 x2 x6 (ix2 s d) = outer (z x0 x1 x2) x6 d s :=
  (congrArg (· * x6 (ix2 s d)) (col2 x0 x1 x2 s d)).trans (mul_comm _ _)

/-- What reaches the gated values and the products. -/
theorem back_wide (s : Fin 4096) (d : Fin 1024) : val_main_v671 (F := Ideal) x3 x5 (ix2 s d) = turned x3 (inner x5 d) d s.val := by
  unfold val_main_v671
  rw [sents_wide]
  refine Eq.trans (congrArg (sents _ _ _ _ _) ?_) ((sents_all (K := 31) (L := 4126) (by decide) rfl _ _ s d).trans
    (Finset.sum_congr rfl fun k _ => congrArg₂ (· * ·) (taps_wide x3 k d) (congrArg (later · _) (funext fun s => inner_at x5 s d))))
  funext a; apply Fin.ext; fin_cases a <;> simp [ix2]
theorem back_narrow (s : Fin 4096) (d : Fin 1024) :
    val_main_v322 (F := Ideal) x0 x1 x2 x4 x6 (ix2 s d) = turned x4 (outer (z x0 x1 x2) x6 d) d s.val := by
  unfold val_main_v322
  rw [sents_narrow]
  refine Eq.trans (congrArg (sents _ _ _ _ _) ?_) ((sents_all (K := 3) (L := 4098) (by decide) rfl _ _ s d).trans
    (Finset.sum_congr rfl fun k _ => congrArg₂ (· * ·) (taps_narrow x4 k d) (congrArg (later · _) (funext fun s => outer_at x0 x1 x2 x6 s d))))
  funext a; apply Fin.ext; fin_cases a <;> simp [ix2]

theorem ahead (s : Fin 4096) (d : Fin 1024) : val_main_v286 (F := Ideal) x0 x1 x2 x4 (ix2 s d)
    = ∑ k : Fin 3, x4 (ix3 0 k d) * before 2 (prod (z x0 x1 x2) d) (k.val + s.val) := by
  rw [sums_narrow]
  exact (sums_at _ _ _ s d 3 (le_refl 3)).trans (Finset.sum_congr rfl fun k _ => congrArg₂ (· * ·) (taps_narrow x4 k d)
    (prod_padded x0 x1 x2 _ d))

theorem own_wide (k : Fin 31) (d : Fin 1024) :
    val_main_v669 (F := Ideal) x0 x1 x2 x5 (ix2 k d) = taps 31 (inner x5 d) (gate (z x0 x1 x2) d) k.val := by
  rw [owns_wide]
  refine (owns_at _ _ _ k d 30 (le_refl 31)).trans ((if_pos (by omega)).trans (Finset.sum_congr rfl fun s _ => congrArg₂ (· * ·)
    (inner_at x5 s d) (gate_padded x0 x1 x2 _ d)))
theorem own_narrow (k : Fin 3) (d : Fin 1024) :
    val_main_v320 (F := Ideal) x0 x1 x2 x6 (ix2 k d) = taps 3 (outer (z x0 x1 x2) x6 d) (prod (z x0 x1 x2) d) k.val := by
  rw [owns_narrow]
  refine (owns_at _ _ _ k d 2 (le_refl 3)).trans ((if_pos (by omega)).trans (Finset.sum_congr rfl fun s _ => congrArg₂ (· * ·)
    (outer_at x0 x1 x2 x6 s d) (prod_padded x0 x1 x2 _ d)))

/-- Seven groups side by side. -/
theorem beside_at (v0 v1 v2 v3 v4 v5 v6 : FVec Ideal S4096x1024 .f32) (h) (s : Fin 4096) (k : Fin 7) (d : Fin 1024) :
    concatenate (α := EReal) S4096x7168 1 [⟨S4096x1024, v0⟩, ⟨S4096x1024, v1⟩, ⟨S4096x1024, v2⟩, ⟨S4096x1024, v3⟩, ⟨S4096x1024, v4⟩,
      ⟨S4096x1024, v5⟩, ⟨S4096x1024, v6⟩] h (ix2 s (⟨k.val * 1024 + d.val, by omega⟩ : Fin 7168))
      = (![v0, v1, v2, v3, v4, v5, v6] : Fin 7 → FVec Ideal S4096x1024 .f32) k (ix2 s d) := by
  obtain rfl | rfl | rfl | rfl | rfl | rfl | rfl : k = 0 ∨ k = 1 ∨ k = 2 ∨ k = 3 ∨ k = 4 ∨ k = 5 ∨ k = 6 := by omega
  all_goals pointwise
  all_goals repeat rw [dif_neg (by omega)]
  all_goals try rw [dif_pos (by omega)]
  all_goals exact congrArg _ (congrArg (ix2 s) (Fin.ext (by simp only []; omega)))

theorem ref_bias : val_main_v330 (F := Ideal) x5 = bias x5 := by
  funext i
  idx_vars i
  obtain rfl : i0 = 0 := Fin.ext (by omega)
  exact rows_sum x5 i1

theorem ref_filter : val_main_v682 (F := Ideal) x0 x1 x2 x5 = filter (z x0 x1 x2) x5 := by
  funext i
  idx_vars i
  pointwise [val_main_v682, val_main_v681, val_main_v680, val_main_v672]
  exact own_wide x0 x1 x2 x5 i1 (colOf i0 i2)
theorem ref_filter3 : val_main_v685 (F := Ideal) x0 x1 x2 x6 = filter3 (z x0 x1 x2) x6 := by
  funext i
  idx_vars i
  pointwise [val_main_v685, val_main_v684, val_main_v683, val_main_v323]
  exact own_narrow x0 x1 x2 x6 i1 (colOf i0 i2)

theorem groups_at (v : FVec Ideal S4096x7168 .f32) (k : Fin 7) (s : Fin 4096) (d : Fin 1024) :
    truncf .bf16 (transpose S7x4096x1024 [1, 0, 2] (shapeCast S4096x7x1024 v shapeCasts_S4096x7168_S4096x7x1024)
      transposes_S4096x7x1024_S7x4096x1024_1_0_2) bitsLt_bf16_f32 (ix3 k s d) = v (ix2 s (⟨k.val * 1024 + d.val, by omega⟩ : Fin 7168)) := by
  pointwise

theorem ref_inputs : val_main_v679 (F := Ideal) x0 x1 x2 x3 x4 x5 x6 x7 x8 = inputs (z x0 x1 x2) x3 x4 x5 x6 x7 x8 := by
  funext i
  idx_vars i
  refine (groups_at _ i0 i1 i2).trans ((beside_at _ _ _ _ _ _ _ _ i1 i0 i2).trans ?_)
  show _ = parts (z x0 x1 x2) x3 x4 x5 x6 x7 x8 i1 i2 i0
  obtain rfl | rfl | rfl | rfl | rfl | rfl | rfl : i0 = 0 ∨ i0 = 1 ∨ i0 = 2 ∨ i0 = 3 ∨ i0 = 4 ∨ i0 = 5 ∨ i0 = 6 := by omega
  · exact congrArg₂ (· * ·) (back_wide x3 x5 i1 i2) (sigmoid_at x0 x1 x2 i1 i2)
  · refine (congrArg₂ (· * ·) (congrArg₂ (· * ·) (col0 x0 x1 x2 i1 i2) (back_wide x3 x5 i1 i2)) (slope_at x0 x1 x2 i1 i2)).trans ?_
    rw [← mul_assoc, mul_comm (group (z x0 x1 x2) 0 i1 i2)]
    rfl
  · exact congrArg (x6 (ix2 i1 i2) * ·) (ahead x0 x1 x2 x4 i1 i2)
  · exact congrArg₂ (· * ·) (back_narrow x0 x1 x2 x4 x6 i1 i2) (col4 x0 x1 x2 i1 i2)
  · refine (congrArg₂ (· * ·) (col3 x0 x1 x2 i1 i2) (back_narrow x0 x1 x2 x4 x6 i1 i2)).trans (mul_comm _ _)
  · rfl
  · rfl

end Cert.BackwardConv

end
-- ==== Proof.ConvParts.lean ====
/- The gradient of the convolutions, as the kernel's block runs it: eight copies each of the padded gated rows and of the padded
   gradient, every copy moved up by one row more; then for every 64 rows the sums over the taps, and, tap by tap, what the
   rows add to the gradient of the filters. -/
module

public import proofs.«01_k».proof.Proof.Gen.ConvIdeal.Frame
public import Idealize.ShloMosaic.Lib.Pipeline.ValueKit
public import Idealize.ShloMosaic.Lib.Claim

@[expose] public section

set_option maxRecDepth 100000

noncomputable section

namespace Cert.ConvIdeal.Parts

open Idealize.ShloMosaic Idealize.ShloMosaic.TcCoe Idealize.SL.Sem Cert.ConvIdeal Cert.ConvIdeal.Gen
open Idealize.ShloMosaic.Tactic

/-- The lists of stores into the copies, and into the rows of one group. -/
abbrev Copies := List (View.Piece (Elt Ideal) S8x1056x256 .f32)
abbrev Rows := List (View.Piece (Elt Ideal) S1056x256 .f32)

theorem fits_window {o : Nat} (h : o ≤ 992) : ∀ a, (![o % 8, o - o % 8, 0] : Fin 3 → Nat) a + S1x64x256.size a ≤ S8x1056x256.size a := by
  intro a
  have := Nat.mod_lt o (show 0 < 8 by decide)
  fin_cases a <;> simp [S1x64x256, S8x1056x256, Shape.size] <;> omega

theorem fits_rows {o : Nat} (h : o ≤ 992) : ∀ a, (![o, 0] : Fin 2 → Nat) a + S64x256.size a ≤ S1056x256.size a := by
  intro a; fin_cases a <;> simp [S64x256, S1056x256, Shape.size] <;> omega

theorem fits_part {o : Nat} (h : o ≤ 960) : ∀ a, (![o, 0] : Fin 2 → Nat) a + S64x256.size a ≤ S1024x256.size a := by
  intro a; fin_cases a <;> simp [S64x256, S1024x256, Shape.size] <;> omega

theorem fits_group (k : Fin 5) {o : Nat} (h : o ≤ 960) :
    ∀ a, (![k.val, o, 0] : Fin 3 → Nat) a + S1x64x256.size a ≤ S5x1024x256.size a := by
  intro a; have := k.isLt; fin_cases a <;> simp [S1x64x256, S5x1024x256, Shape.size] <;> omega

theorem fits_stored (k : Fin 7) {o : Nat} (h : o ≤ 960) :
    ∀ a, (![k.val, o, 0] : Fin 3 → Nat) a + S1x64x256.size a ≤ S7x1024x256.size a := by
  intro a; have := k.isLt; fin_cases a <;> simp [S1x64x256, S7x1024x256, Shape.size] <;> omega

theorem fits_copy {n : Nat} (h : n ≤ 7) : ∀ a, (![n, 0, 0] : Fin 3 → Nat) a + S1x1048x256.size a ≤ S8x1056x256.size a := by
  intro a; fin_cases a <;> simp [S1x1048x256, S8x1056x256, Shape.size] <;> omega

theorem fits_moved {n : Nat} (h : n ≤ 7) : ∀ a, (![0, n, 0] : Fin 3 → Nat) a + S1x1048x256.size a ≤ S8x1056x256.size a := by
  intro a; fin_cases a <;> simp [S1x1048x256, S8x1056x256, Shape.size] <;> omega

theorem fits_tap (k : Fin 31) : ∀ a, (![0, k.val, 0] : Fin 3 → Nat) a + S1x1x256.size a ≤ S1x31x256.size a := by
  intro a; have := k.isLt; fin_cases a <;> simp [S1x1x256, S1x31x256, Shape.size] <;> omega

theorem fits_tap3 (k : Fin 3) : ∀ a, (![0, k.val, 0] : Fin 3 → Nat) a + S1x1x256.size a ≤ S1x3x256.size a := by
  intro a; have := k.isLt; fin_cases a <;> simp [S1x1x256, S1x3x256, Shape.size] <;> omega

theorem fits_sum (k : Fin 31) : ∀ a, (![k.val, 0, 0] : Fin 3 → Nat) a + S1x8x256.size a ≤ S31x8x256.size a := by
  intro a; have := k.isLt; fin_cases a <;> simp [S1x8x256, S31x8x256, Shape.size] <;> omega

theorem fits_sum3 (k : Fin 3) : ∀ a, (![k.val, 0, 0] : Fin 3 → Nat) a + S1x8x256.size a ≤ S3x8x256.size a := by
  intro a; have := k.isLt; fin_cases a <;> simp [S1x8x256, S3x8x256, Shape.size] <;> omega

/-- Where the sums of one tap of each filter lie. -/
abbrev sumRect (k : Fin 31) := Rect.unit (s := S31x8x256) ![k.val, 0, 0] S1x8x256.size (fits_sum k)
abbrev sumRect3 (k : Fin 3) := Rect.unit (s := S3x8x256) ![k.val, 0, 0] S1x8x256.size (fits_sum3 k)

section Block
variable (c : Dev nD) (i : grid0.Coords)
  (arg2 : Memref sig .tc .vmem S5x1024x256 .bf16) (harg2 : arg2.IsWhole) (arg3 : Memref sig .tc .vmem S5x32x256 .bf16) (harg3 : arg3.IsWhole)
  (arg4 : Memref sig .tc .vmem S5x32x256 .bf16) (harg4 : arg4.IsWhole) (arg5 : Memref sig .tc .vmem S1024x256 .bf16) (harg5 : arg5.IsWhole)
  (arg6 : Memref sig .tc .vmem S32x256 .bf16) (harg6 : arg6.IsWhole) (arg7 : Memref sig .tc .vmem S1024x256 .bf16) (harg7 : arg7.IsWhole)
  (arg8 : Memref sig .tc .vmem S32x256 .bf16) (harg8 : arg8.IsWhole) (arg9 : Memref sig .tc .vmem S1024x256 .bf16) (harg9 : arg9.IsWhole)
  (arg10 : Memref sig .tc .vmem S1024x256 .bf16) (harg10 : arg10.IsWhole) (arg11 : Memref sig .tc .vmem S1x31x256 .f32) (harg11 : arg11.IsWhole)
  (arg12 : Memref sig .tc .vmem S1x3x256 .f32) (harg12 : arg12.IsWhole) (arg13 : Memref sig .tc .vmem S7x1024x256 .bf16) (harg13 : arg13.IsWhole)
  (arg14 : Memref sig .tc .vmem S1x31x256 .f32) (harg14 : arg14.IsWhole) (arg15 : Memref sig .tc .vmem S1x256 .f32) (harg15 : arg15.IsWhole)
  (arg16 : Memref sig .tc .vmem S1x3x256 .f32) (harg16 : arg16.IsWhole) (arg17 : Memref sig .tc .vmem S8x1056x256 .f32) (harg17 : arg17.IsWhole)
  (arg18 : Memref sig .tc .vmem S8x1056x256 .f32) (harg18 : arg18.IsWhole) (arg19 : Memref sig .tc .vmem S1056x256 .f32) (harg19 : arg19.IsWhole)
  (arg20 : Memref sig .tc .vmem S1056x256 .f32) (harg20 : arg20.IsWhole) (arg21 : Memref sig .tc .vmem S31x8x256 .f32) (harg21 : arg21.IsWhole)
  (arg22 : Memref sig .tc .vmem S3x8x256 .f32) (harg22 : arg22.IsWhole)
  (x0 : Vec Ideal S5x1024x256 .bf16) (x1 x2 : Vec Ideal S5x32x256 .bf16) (x3 : Vec Ideal S1024x256 .bf16) (x4 : Vec Ideal S32x256 .bf16)
  (x5 : Vec Ideal S1024x256 .bf16) (x6 : Vec Ideal S32x256 .bf16) (x7 x8 : Vec Ideal S1024x256 .bf16) (x9 : Vec Ideal S1x31x256 .f32)
  (x10 : Vec Ideal S1x3x256 .f32) (xo13 : Vec Ideal S1x256 .f32) (xs4 : Vec Ideal S31x8x256 .f32) (xs5 : Vec Ideal S3x8x256 .f32)

/-- A tap of each filter; 64 rows of the right copy and of a group's rows; and 64 rows of a group of the argument. -/
def tap (k : Fin 31) : FVec Ideal S1x256 .f32 :=
  shapeCast S1x256 (View.readAt (Elt Ideal) arg11.view (Rect.unit (s := S1x31x256) ![0, k.val, 0] S1x1x256.size (fits_tap k)).toLoadRect
    (harg11.unread x9)) shapeCasts_S1x1x256_S1x256
def tap3 (k : Fin 3) : FVec Ideal S1x256 .f32 :=
  shapeCast S1x256 (View.readAt (Elt Ideal) arg12.view (Rect.unit (s := S1x3x256) ![0, k.val, 0] S1x1x256.size (fits_tap3 k)).toLoadRect
    (harg12.unread x10)) shapeCasts_S1x1x256_S1x256
def window (mr : Memref sig .tc .vmem S8x1056x256 .f32) (M : Copies) (o : Nat) (h : o ≤ 992) : FVec Ideal S64x256 .f32 :=
  shapeCast S64x256 (mr.view.readCov M (Rect.unit (s := S8x1056x256) ![o % 8, o - o % 8, 0] S1x64x256.size (fits_window h)).toLoadRect)
    shapeCasts_S1x64x256_S64x256
def rows (mr : Memref sig .tc .vmem S1056x256 .f32) (M : Rows) (o : Nat) (h : o ≤ 992) : FVec Ideal S64x256 .f32 :=
  mr.view.readCov M (Rect.unit (s := S1056x256) ![o, 0] S64x256.size (fits_rows h)).toLoadRect
def group (k : Fin 5) (p : Nat) (h : p ≤ 960) : FVec Ideal S64x256 .f32 :=
  extf .f32 (shapeCast S64x256 (View.readAt (Elt Ideal) arg2.view
    (Rect.unit (s := S5x1024x256) ![k.val, p, 0] S1x64x256.size (fits_group k h)).toLoadRect (harg2.unread x0))
    shapeCasts_S1x64x256_S64x256) bitsLt_bf16_f32

/-- The sums over the first `n` taps at the 64 rows from `p` on: of the gradient under the wide filter turned round, of the
    products under the narrow one, and of their gradient under the narrow one turned round. -/
def back (D : Copies) (p : Nat) (hp : p ≤ 960) : (n : Nat) → n ≤ 31 → FVec Ideal S64x256 .f32
  | 0, _ => broadcast S64x256 (Scalar.ofBits .f32 0x00000000#32)
  | n + 1, h => addf (back D p hp n (Nat.le_of_succ_le h))
      (mulf (broadcastTo S64x256 (tap arg11 harg11 x9 ⟨n, h⟩) broadcasts_S1x256_S64x256) (window arg18 D (p + 30 - n) (by omega)))
def ahead (P : Rows) (p : Nat) (hp : p ≤ 960) : (n : Nat) → n ≤ 3 → FVec Ideal S64x256 .f32
  | 0, _ => broadcast S64x256 (Scalar.ofBits .f32 0x00000000#32)
  | n + 1, h => addf (ahead P p hp n (Nat.le_of_succ_le h))
      (mulf (broadcastTo S64x256 (tap3 arg12 harg12 x10 ⟨n, h⟩) broadcasts_S1x256_S64x256) (rows arg19 P (p + 30 + n) (by omega)))
def back3 (V : Rows) (p : Nat) (hp : p ≤ 960) : (n : Nat) → n ≤ 3 → FVec Ideal S64x256 .f32
  | 0, _ => broadcast S64x256 (Scalar.ofBits .f32 0x00000000#32)
  | n + 1, h => addf (back3 V p hp n (Nat.le_of_succ_le h))
      (mulf (broadcastTo S64x256 (tap3 arg12 harg12 x10 ⟨n, h⟩) broadcasts_S1x256_S64x256) (rows arg20 V (p + 2 - n) (by omega)))

/-- The five groups of the first result at the 64 rows from `p` on. -/
def stored (v : FVec Ideal S64x256 .f32) : FVec Ideal S1x64x256 .bf16 :=
  shapeCast S1x64x256 (truncf .bf16 v bitsLt_bf16_f32) shapeCasts_S64x256_S1x64x256
def turned (v g : FVec Ideal S64x256 .f32) (x : FVec Ideal S64x256 .f32) : FVec Ideal S64x256 .f32 :=
  mulf (mulf (mulf x v) (logistic g)) (subf (broadcast S64x256 (Scalar.ofBits .f32 0x3F800000#32)) (logistic g))
def outer (p : Nat) (h : p ≤ 960) : FVec Ideal S64x256 .f32 :=
  extf .f32 (shapeCast S64x256 (View.readAt (Elt Ideal) arg7.view
    (Rect.unit (s := S1024x256) ![p, 0] S64x256.size (fits_part h)).toLoadRect (harg7.unread x5)) shapeCasts_S64x256_S64x256) bitsLt_bf16_f32

/-- The stores of the first `n` parts of 64 rows in the first result, and all its stores. -/
def parts (D : Copies) (P V : Rows) : (n : Nat) → n ≤ 16 → List (View.Piece (Elt Ideal) S7x1024x256 .bf16)
  | 0, _ => []
  | n + 1, h =>
    ⟨Rect.unit (s := S7x1024x256) ![(4 : Fin 7).val, n * 64, 0] S1x64x256.size (fits_stored 4 (by omega)),
      stored (mulf (back3 arg12 harg12 arg20 x10 V (n * 64) (by omega) 3 (le_refl 3)) (group arg2 harg2 x0 3 (n * 64) (by omega)))⟩ ::
    ⟨Rect.unit (s := S7x1024x256) ![(3 : Fin 7).val, n * 64, 0] S1x64x256.size (fits_stored 3 (by omega)),
      stored (mulf (back3 arg12 harg12 arg20 x10 V (n * 64) (by omega) 3 (le_refl 3)) (group arg2 harg2 x0 4 (n * 64) (by omega)))⟩ ::
    ⟨Rect.unit (s := S7x1024x256) ![(2 : Fin 7).val, n * 64, 0] S1x64x256.size (fits_stored 2 (by omega)),
      stored (mulf (outer arg7 harg7 x5 (n * 64) (by omega)) (ahead arg12 harg12 arg19 x10 P (n * 64) (by omega) 3 (le_refl 3)))⟩ ::
    ⟨Rect.unit (s := S7x1024x256) ![(1 : Fin 7).val, n * 64, 0] S1x64x256.size (fits_stored 1 (by omega)),
      stored (turned (group arg2 harg2 x0 0 (n * 64) (by omega)) (group arg2 harg2 x0 1 (n * 64) (by omega))
        (back arg11 harg11 arg18 x9 D (n * 64) (by omega) 31 (le_refl 31)))⟩ ::
    ⟨Rect.unit (s := S7x1024x256) ![(0 : Fin 7).val, n * 64, 0] S1x64x256.size (fits_stored 0 (by omega)),
      stored (mulf (back arg11 harg11 arg18 x9 D (n * 64) (by omega) 31 (le_refl 31))
        (logistic (group arg2 harg2 x0 1 (n * 64) (by omega))))⟩ :: parts D P V n (Nat.le_of_succ_le h)

def passed (v : FVec Ideal S1024x256 .bf16) : FVec Ideal S1x1024x256 .bf16 :=
  shapeCast S1x1024x256 (shapeCast S1024x256 v shapeCasts_S1024x256_S1024x256) shapeCasts_S1024x256_S1x1024x256
theorem fits_whole (k : Fin 7) : ∀ a, (![k.val, 0, 0] : Fin 3 → Nat) a + S1x1024x256.size a ≤ S7x1024x256.size a := by
  intro a; have := k.isLt; fin_cases a <;> simp [S1x1024x256, S7x1024x256, Shape.size] <;> omega
def allParts (D : Copies) (P V : Rows) : List (View.Piece (Elt Ideal) S7x1024x256 .bf16) :=
  ⟨Rect.unit (s := S7x1024x256) ![(6 : Fin 7).val, 0, 0] S1x1024x256.size (fits_whole 6),
    passed (View.readAt (Elt Ideal) arg10.view (Rect.unit (s := S1024x256) ![0, 0] S1024x256.size inb_S1024x256_S1024x256_0_0).toLoadRect
      (harg10.unread x8))⟩ ::
  ⟨Rect.unit (s := S7x1024x256) ![(5 : Fin 7).val, 0, 0] S1x1024x256.size (fits_whole 5),
    passed (View.readAt (Elt Ideal) arg9.view (Rect.unit (s := S1024x256) ![0, 0] S1024x256.size inb_S1024x256_S1024x256_0_0).toLoadRect
      (harg9.unread x7))⟩ :: parts arg2 harg2 arg7 harg7 arg11 harg11 arg12 harg12 arg18 arg19 arg20 x0 x5 x9 x10 D P V 16 (le_refl 16)

/-- A list of copies: the first, and the stores of the first `n` moved ones over it. -/
def copies (mr : Memref sig .tc .vmem S8x1056x256 .f32) (L : Copies) : (n : Nat) → n ≤ 7 → Copies
  | 0, _ => L
  | n + 1, h => ⟨Rect.unit (s := S8x1056x256) ![n + 1, 0, 0] S1x1048x256.size (fits_copy h),
      shapeCast S1x1048x256 (shapeCast S1048x256 (mr.view.readCov (copies mr L n (Nat.le_of_succ_le h))
        (Rect.unit (s := S8x1056x256) ![0, n + 1, 0] S1x1048x256.size (fits_moved h)).toLoadRect)
        shapeCasts_S1x1048x256_S1048x256) shapeCasts_S1048x256_S1x1048x256⟩ :: copies mr L n (Nat.le_of_succ_le h)

/-- The copies of the gated rows and of the gradient, the products, and the gradient of their sums. -/
abbrev gateds : Copies := copies arg17 (kernelRun0_A.sl.HS0_2 (F := Ideal) c i arg2 harg2 arg3 harg3 x0 x1) 7 (le_refl 7)
abbrev grads : Copies := copies arg18 (kernelRun0_A.sl.HS1_2 (F := Ideal) c i arg5 harg5 arg6 harg6 x3 x4) 7 (le_refl 7)
abbrev prods : Rows := kernelRun0_A.sl.HS2_2 (F := Ideal) c i arg2 harg2 arg3 harg3 x0 x1
abbrev outers : Rows := kernelRun0_A.sl.HS3_2 (F := Ideal) c i arg2 harg2 arg4 harg4 arg7 harg7 arg8 harg8 x0 x2 x5 x6

/-- What 64 rows add to the sums of one tap: eight rows, each the sum of every eighth row's product. -/
def step (d w : FVec Ideal S64x256 .f32) (v : FVec Ideal S1x8x256 .f32) : FVec Ideal S1x8x256 .f32 :=
  shapeCast S1x8x256 (addf (shapeCast S8x256 v shapeCasts_S1x8x256_S8x256) (multiReduction .add [0] S8x256
    (shapeCast S8x8x256 (mulf d w) shapeCasts_S64x256_S8x8x256) 0x00000000#32 reduces_S8x8x256_S8x256 (.inl rfl) rfl))
    shapeCasts_S8x256_S1x8x256

/-- The stores into the sums of the wide filter: of the first `n` taps at the 64 rows from `p` on, over `L`; the same for the
    first rows, where what was there before is read; and of `n` parts of 64 rows, from part `s` on. -/
abbrev Sums := List (View.Piece (Elt Ideal) S31x8x256 .f32)
def tapsOver (A D : Copies) (L : Sums) (p : Nat) (hp : p ≤ 960) : (n : Nat) → n ≤ 31 → Sums
  | 0, _ => L
  | n + 1, h => ⟨sumRect ⟨n, h⟩, step (window arg18 D p (by omega)) (window arg17 A (p + 2 + n) (by omega))
      (arg21.view.readCov (tapsOver A D L p hp n (Nat.le_of_succ_le h)) (sumRect ⟨n, h⟩).toLoadRect)⟩
      :: tapsOver A D L p hp n (Nat.le_of_succ_le h)
def tapsFirst (A D : Copies) : (n : Nat) → n ≤ 31 → Sums
  | 0, _ => []
  | n + 1, h => ⟨sumRect ⟨n, h⟩, step (window arg18 D 0 (by omega)) (window arg17 A (2 + n) (by omega))
      (View.readAt (Elt Ideal) arg21.view (sumRect ⟨n, h⟩).toLoadRect (harg21.unread xs4))⟩ :: tapsFirst A D n (Nat.le_of_succ_le h)
def tapsAll (A D : Copies) (L : Sums) (s : Nat) : (n : Nat) → s + n ≤ 16 → Sums
  | 0, _ => L
  | n + 1, h => tapsOver arg17 arg18 arg21 A D (tapsAll A D L s n (by omega)) ((s + n) * 64) (by omega) 31 (le_refl 31)

/-- The same for the narrow filter. -/
abbrev Sums3 := List (View.Piece (Elt Ideal) S3x8x256 .f32)
def tapsOver3 (P V : Rows) (L : Sums3) (p : Nat) (hp : p ≤ 960) : (n : Nat) → n ≤ 3 → Sums3
  | 0, _ => L
  | n + 1, h => ⟨sumRect3 ⟨n, h⟩, step (rows arg20 V p (by omega)) (rows arg19 P (p + 30 + n) (by omega))
      (arg22.view.readCov (tapsOver3 P V L p hp n (Nat.le_of_succ_le h)) (sumRect3 ⟨n, h⟩).toLoadRect)⟩
      :: tapsOver3 P V L p hp n (Nat.le_of_succ_le h)
def tapsFirst3 (P V : Rows) : (n : Nat) → n ≤ 3 → Sums3
  | 0, _ => []
  | n + 1, h => ⟨sumRect3 ⟨n, h⟩, step (rows arg20 V 0 (by omega)) (rows arg19 P (30 + n) (by omega))
      (View.readAt (Elt Ideal) arg22.view (sumRect3 ⟨n, h⟩).toLoadRect (harg22.unread xs5))⟩ :: tapsFirst3 P V n (Nat.le_of_succ_le h)
def tapsAll3 (P V : Rows) (L : Sums3) (s : Nat) : (n : Nat) → s + n ≤ 16 → Sums3
  | 0, _ => L
  | n + 1, h => tapsOver3 arg19 arg20 arg22 P V (tapsAll3 P V L s n (by omega)) ((s + n) * 64) (by omega) 3 (le_refl 3)

/-- The sums over nothing, as they begin. -/
abbrev zeros : Sums := [⟨Rect.unit (s := S31x8x256) ![0, 0, 0] S31x8x256.size inb_S31x8x256_S31x8x256_0_0_0, (k0_pay7 (F := Ideal))⟩]
abbrev zeros3 : Sums3 := [⟨Rect.unit (s := S3x8x256) ![0, 0, 0] S3x8x256.size inb_S3x8x256_S3x8x256_0_0_0, (k0_pay8 (F := Ideal))⟩]

end Block

end Cert.ConvIdeal.Parts

end
-- ==== Proof.ConvRunA.lean ====
/- What a block of the first rows of its columns stores. -/
module

public import proofs.«01_k».proof.Proof.ConvParts

@[expose] public section

set_option maxRecDepth 100000

noncomputable section

namespace Cert.ConvIdeal.Parts

open Idealize.ShloMosaic Idealize.ShloMosaic.TcCoe Idealize.SL.Sem Cert.ConvIdeal Cert.ConvIdeal.Gen
open Idealize.ShloMosaic.Tactic

section Block
variable (c : Dev nD) (i : grid0.Coords)
  (arg2 : Memref sig .tc .vmem S5x1024x256 .bf16) (harg2 : arg2.IsWhole) (arg3 : Memref sig .tc .vmem S5x32x256 .bf16) (harg3 : arg3.IsWhole)
  (arg4 : Memref sig .tc .vmem S5x32x256 .bf16) (harg4 : arg4.IsWhole) (arg5 : Memref sig .tc .vmem S1024x256 .bf16) (harg5 : arg5.IsWhole)
  (arg6 : Memref sig .tc .vmem S32x256 .bf16) (harg6 : arg6.IsWhole) (arg7 : Memref sig .tc .vmem S1024x256 .bf16) (harg7 : arg7.IsWhole)
  (arg8 : Memref sig .tc .vmem S32x256 .bf16) (harg8 : arg8.IsWhole) (arg9 : Memref sig .tc .vmem S1024x256 .bf16) (harg9 : arg9.IsWhole)
  (arg10 : Memref sig .tc .vmem S1024x256 .bf16) (harg10 : arg10.IsWhole) (arg11 : Memref sig .tc .vmem S1x31x256 .f32) (harg11 : arg11.IsWhole)
  (arg12 : Memref sig .tc .vmem S1x3x256 .f32) (harg12 : arg12.IsWhole) (arg13 : Memref sig .tc .vmem S7x1024x256 .bf16) (harg13 : arg13.IsWhole)
  (arg14 : Memref sig .tc .vmem S1x31x256 .f32) (harg14 : arg14.IsWhole) (arg15 : Memref sig .tc .vmem S1x256 .f32) (harg15 : arg15.IsWhole)
  (arg16 : Memref sig .tc .vmem S1x3x256 .f32) (harg16 : arg16.IsWhole) (arg17 : Memref sig .tc .vmem S8x1056x256 .f32) (harg17 : arg17.IsWhole)
  (arg18 : Memref sig .tc .vmem S8x1056x256 .f32) (harg18 : arg18.IsWhole) (arg19 : Memref sig .tc .vmem S1056x256 .f32) (harg19 : arg19.IsWhole)
  (arg20 : Memref sig .tc .vmem S1056x256 .f32) (harg20 : arg20.IsWhole) (arg21 : Memref sig .tc .vmem S31x8x256 .f32) (harg21 : arg21.IsWhole)
  (arg22 : Memref sig .tc .vmem S3x8x256 .f32) (harg22 : arg22.IsWhole)
  (x0 : Vec Ideal S5x1024x256 .bf16) (x1 x2 : Vec Ideal S5x32x256 .bf16) (x3 : Vec Ideal S1024x256 .bf16) (x4 : Vec Ideal S32x256 .bf16)
  (x5 : Vec Ideal S1024x256 .bf16) (x6 : Vec Ideal S32x256 .bf16) (x7 x8 : Vec Ideal S1024x256 .bf16) (x9 : Vec Ideal S1x31x256 .f32)
  (x10 : Vec Ideal S1x3x256 .f32) (xo13 : Vec Ideal S1x256 .f32) (xs4 : Vec Ideal S31x8x256 .f32) (xs5 : Vec Ideal S3x8x256 .f32)
  (hc0 : cond0_0 i) (hc1 : ¬cond0_1 i)

/-- The five groups it computes and the two that it passes on. -/
theorem parts_A :
    (kernelRun0_A (F := Ideal) c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19 arg20 harg20
      arg21 harg21 arg22 harg22 hc0 hc1 x0 x1 x2 x3 x4 x5 x6 x7 x8 x9 x10).1
    = allParts arg2 harg2 arg7 harg7 arg9 harg9 arg10 harg10 arg11 harg11 arg12 harg12 arg18 arg19 arg20 x0 x5 x7 x8 x9 x10
      (grads c i arg5 harg5 arg6 harg6 arg18 x3 x4) (prods c i arg2 harg2 arg3 harg3 x0 x1)
      (outers c i arg2 harg2 arg4 harg4 arg7 harg7 arg8 harg8 x0 x2 x5 x6) := by
  sl_kernel_rfl

/-- The sum of the gradient over the rows. -/
theorem bias_A :
    (kernelRun0_A (F := Ideal) c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19 arg20 harg20
      arg21 harg21 arg22 harg22 hc0 hc1 x0 x1 x2 x3 x4 x5 x6 x7 x8 x9 x10).2.2.1
    = [⟨(Rect.unit (s := S1x256) ![0, 0] S1x256.size inb_S1x256_S1x256_0_0), k0_pay35 (F := Ideal) (arg15.view.readCov [⟨(Rect.unit (s := S1x256) ![0, 0] S1x256.size inb_S1x256_S1x256_0_0), k0_pay9 (F := Ideal)⟩]
      (Rect.unit (s := S1x256) ![0, 0] S1x256.size inb_S1x256_S1x256_0_0).toLoadRect) (arg18.view.readCov (grads c i arg5 harg5 arg6 harg6 arg18 x3 x4)
        (Rect.unit (s := S8x1056x256) ![0, 0, 0] S1x1024x256.size inb_S8x1056x256_S1x1024x256_0_0_0).toLoadRect)⟩,
      ⟨(Rect.unit (s := S1x256) ![0, 0] S1x256.size inb_S1x256_S1x256_0_0), k0_pay9 (F := Ideal)⟩] := by
  sl_kernel_rfl

/-- The sums of the two filters' taps. -/
theorem sums_A :
    (kernelRun0_A (F := Ideal) c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19 arg20 harg20
      arg21 harg21 arg22 harg22 hc0 hc1 x0 x1 x2 x3 x4 x5 x6 x7 x8 x9 x10).2.2.2.2.1
    = tapsAll arg17 arg18 arg21
      (gateds c i arg2 harg2 arg3 harg3 arg17 x0 x1) (grads c i arg5 harg5 arg6 harg6 arg18 x3 x4) zeros 0 16 (by omega) := by
  sl_kernel_rfl

theorem sums3_A :
    (kernelRun0_A (F := Ideal) c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19 arg20 harg20
      arg21 harg21 arg22 harg22 hc0 hc1 x0 x1 x2 x3 x4 x5 x6 x7 x8 x9 x10).2.2.2.2.2.1
    = tapsAll3 arg19 arg20 arg22 (prods c i arg2 harg2 arg3 harg3 x0 x1)
      (outers c i arg2 harg2 arg4 harg4 arg7 harg7 arg8 harg8 x0 x2 x5 x6) zeros3 0 16 (by omega) := by
  sl_kernel_rfl

end Block

end Cert.ConvIdeal.Parts

end
-- ==== Proof.ConvRunB.lean ====
/- What a block of rows that are neither the first nor the last of its columns stores. -/
module

public import proofs.«01_k».proof.Proof.ConvParts

@[expose] public section

set_option maxRecDepth 100000

noncomputable section

namespace Cert.ConvIdeal.Parts

open Idealize.ShloMosaic Idealize.ShloMosaic.TcCoe Idealize.SL.Sem Cert.ConvIdeal Cert.ConvIdeal.Gen
open Idealize.ShloMosaic.Tactic

section Block
variable (c : Dev nD) (i : grid0.Coords)
  (arg2 : Memref sig .tc .vmem S5x1024x256 .bf16) (harg2 : arg2.IsWhole) (arg3 : Memref sig .tc .vmem S5x32x256 .bf16) (harg3 : arg3.IsWhole)
  (arg4 : Memref sig .tc .vmem S5x32x256 .bf16) (harg4 : arg4.IsWhole) (arg5 : Memref sig .tc .vmem S1024x256 .bf16) (harg5 : arg5.IsWhole)
  (arg6 : Memref sig .tc .vmem S32x256 .bf16) (harg6 : arg6.IsWhole) (arg7 : Memref sig .tc .vmem S1024x256 .bf16) (harg7 : arg7.IsWhole)
  (arg8 : Memref sig .tc .vmem S32x256 .bf16) (harg8 : arg8.IsWhole) (arg9 : Memref sig .tc .vmem S1024x256 .bf16) (harg9 : arg9.IsWhole)
  (arg10 : Memref sig .tc .vmem S1024x256 .bf16) (harg10 : arg10.IsWhole) (arg11 : Memref sig .tc .vmem S1x31x256 .f32) (harg11 : arg11.IsWhole)
  (arg12 : Memref sig .tc .vmem S1x3x256 .f32) (harg12 : arg12.IsWhole) (arg13 : Memref sig .tc .vmem S7x1024x256 .bf16) (harg13 : arg13.IsWhole)
  (arg14 : Memref sig .tc .vmem S1x31x256 .f32) (harg14 : arg14.IsWhole) (arg15 : Memref sig .tc .vmem S1x256 .f32) (harg15 : arg15.IsWhole)
  (arg16 : Memref sig .tc .vmem S1x3x256 .f32) (harg16 : arg16.IsWhole) (arg17 : Memref sig .tc .vmem S8x1056x256 .f32) (harg17 : arg17.IsWhole)
  (arg18 : Memref sig .tc .vmem S8x1056x256 .f32) (harg18 : arg18.IsWhole) (arg19 : Memref sig .tc .vmem S1056x256 .f32) (harg19 : arg19.IsWhole)
  (arg20 : Memref sig .tc .vmem S1056x256 .f32) (harg20 : arg20.IsWhole) (arg21 : Memref sig .tc .vmem S31x8x256 .f32) (harg21 : arg21.IsWhole)
  (arg22 : Memref sig .tc .vmem S3x8x256 .f32) (harg22 : arg22.IsWhole)
  (x0 : Vec Ideal S5x1024x256 .bf16) (x1 x2 : Vec Ideal S5x32x256 .bf16) (x3 : Vec Ideal S1024x256 .bf16) (x4 : Vec Ideal S32x256 .bf16)
  (x5 : Vec Ideal S1024x256 .bf16) (x6 : Vec Ideal S32x256 .bf16) (x7 x8 : Vec Ideal S1024x256 .bf16) (x9 : Vec Ideal S1x31x256 .f32)
  (x10 : Vec Ideal S1x3x256 .f32) (xo13 : Vec Ideal S1x256 .f32) (xs4 : Vec Ideal S31x8x256 .f32) (xs5 : Vec Ideal S3x8x256 .f32)
  (hc0 : ¬cond0_0 i) (hc1 : ¬cond0_1 i)

/-- The five groups it computes and the two that it passes on. -/
theorem parts_B :
    (kernelRun0_B (F := Ideal) c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19 arg20 harg20
      arg21 harg21 arg22 harg22 hc0 hc1 x0 x1 x2 x3 x4 x5 x6 x7 x8 x9 x10 xo13 xs4 xs5).1
    = allParts arg2 harg2 arg7 harg7 arg9 harg9 arg10 harg10 arg11 harg11 arg12 harg12 arg18 arg19 arg20 x0 x5 x7 x8 x9 x10
      (grads c i arg5 harg5 arg6 harg6 arg18 x3 x4) (prods c i arg2 harg2 arg3 harg3 x0 x1)
      (outers c i arg2 harg2 arg4 harg4 arg7 harg7 arg8 harg8 x0 x2 x5 x6) := by
  sl_kernel_rfl

/-- The sum of the gradient over the rows. -/
theorem bias_B :
    (kernelRun0_B (F := Ideal) c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19 arg20 harg20
      arg21 harg21 arg22 harg22 hc0 hc1 x0 x1 x2 x3 x4 x5 x6 x7 x8 x9 x10 xo13 xs4 xs5).2.2.1
    = [⟨(Rect.unit (s := S1x256) ![0, 0] S1x256.size inb_S1x256_S1x256_0_0), k0_pay35 (F := Ideal) (View.readAt (Elt Ideal) arg15.view
      (Rect.unit (s := S1x256) ![0, 0] S1x256.size inb_S1x256_S1x256_0_0).toLoadRect (harg15.unread xo13)) (arg18.view.readCov (grads c i arg5 harg5 arg6 harg6 arg18 x3 x4)
        (Rect.unit (s := S8x1056x256) ![0, 0, 0] S1x1024x256.size inb_S8x1056x256_S1x1024x256_0_0_0).toLoadRect)⟩] := by
  sl_kernel_rfl

/-- The sums of the two filters' taps. -/
theorem sums_B :
    (kernelRun0_B (F := Ideal) c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19 arg20 harg20
      arg21 harg21 arg22 harg22 hc0 hc1 x0 x1 x2 x3 x4 x5 x6 x7 x8 x9 x10 xo13 xs4 xs5).2.2.2.2.1
    = tapsAll arg17 arg18 arg21
      (gateds c i arg2 harg2 arg3 harg3 arg17 x0 x1) (grads c i arg5 harg5 arg6 harg6 arg18 x3 x4) (tapsFirst arg17 arg18 arg21 harg21 xs4
      (gateds c i arg2 harg2 arg3 harg3 arg17 x0 x1) (grads c i arg5 harg5 arg6 harg6 arg18 x3 x4) 31 (le_refl 31)) 1 15 (by omega) := by
  sl_kernel_rfl

theorem sums3_B :
    (kernelRun0_B (F := Ideal) c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19 arg20 harg20
      arg21 harg21 arg22 harg22 hc0 hc1 x0 x1 x2 x3 x4 x5 x6 x7 x8 x9 x10 xo13 xs4 xs5).2.2.2.2.2.1
    = tapsAll3 arg19 arg20 arg22 (prods c i arg2 harg2 arg3 harg3 x0 x1)
      (outers c i arg2 harg2 arg4 harg4 arg7 harg7 arg8 harg8 x0 x2 x5 x6) (tapsFirst3 arg19 arg20 arg22 harg22 xs5 (prods c i arg2 harg2 arg3 harg3 x0 x1)
      (outers c i arg2 harg2 arg4 harg4 arg7 harg7 arg8 harg8 x0 x2 x5 x6) 3 (le_refl 3)) 1 15 (by omega) := by
  sl_kernel_rfl

end Block

end Cert.ConvIdeal.Parts

end
-- ==== Proof.ConvRunC.lean ====
/- What a block of the last rows of its columns stores. -/
module

public import proofs.«01_k».proof.Proof.ConvParts

@[expose] public section

set_option maxRecDepth 100000

noncomputable section

namespace Cert.ConvIdeal.Parts

open Idealize.ShloMosaic Idealize.ShloMosaic.TcCoe Idealize.SL.Sem Cert.ConvIdeal Cert.ConvIdeal.Gen
open Idealize.ShloMosaic.Tactic

section Block
variable (c : Dev nD) (i : grid0.Coords)
  (arg2 : Memref sig .tc .vmem S5x1024x256 .bf16) (harg2 : arg2.IsWhole) (arg3 : Memref sig .tc .vmem S5x32x256 .bf16) (harg3 : arg3.IsWhole)
  (arg4 : Memref sig .tc .vmem S5x32x256 .bf16) (harg4 : arg4.IsWhole) (arg5 : Memref sig .tc .vmem S1024x256 .bf16) (harg5 : arg5.IsWhole)
  (arg6 : Memref sig .tc .vmem S32x256 .bf16) (harg6 : arg6.IsWhole) (arg7 : Memref sig .tc .vmem S1024x256 .bf16) (harg7 : arg7.IsWhole)
  (arg8 : Memref sig .tc .vmem S32x256 .bf16) (harg8 : arg8.IsWhole) (arg9 : Memref sig .tc .vmem S1024x256 .bf16) (harg9 : arg9.IsWhole)
  (arg10 : Memref sig .tc .vmem S1024x256 .bf16) (harg10 : arg10.IsWhole) (arg11 : Memref sig .tc .vmem S1x31x256 .f32) (harg11 : arg11.IsWhole)
  (arg12 : Memref sig .tc .vmem S1x3x256 .f32) (harg12 : arg12.IsWhole) (arg13 : Memref sig .tc .vmem S7x1024x256 .bf16) (harg13 : arg13.IsWhole)
  (arg14 : Memref sig .tc .vmem S1x31x256 .f32) (harg14 : arg14.IsWhole) (arg15 : Memref sig .tc .vmem S1x256 .f32) (harg15 : arg15.IsWhole)
  (arg16 : Memref sig .tc .vmem S1x3x256 .f32) (harg16 : arg16.IsWhole) (arg17 : Memref sig .tc .vmem S8x1056x256 .f32) (harg17 : arg17.IsWhole)
  (arg18 : Memref sig .tc .vmem S8x1056x256 .f32) (harg18 : arg18.IsWhole) (arg19 : Memref sig .tc .vmem S1056x256 .f32) (harg19 : arg19.IsWhole)
  (arg20 : Memref sig .tc .vmem S1056x256 .f32) (harg20 : arg20.IsWhole) (arg21 : Memref sig .tc .vmem S31x8x256 .f32) (harg21 : arg21.IsWhole)
  (arg22 : Memref sig .tc .vmem S3x8x256 .f32) (harg22 : arg22.IsWhole)
  (x0 : Vec Ideal S5x1024x256 .bf16) (x1 x2 : Vec Ideal S5x32x256 .bf16) (x3 : Vec Ideal S1024x256 .bf16) (x4 : Vec Ideal S32x256 .bf16)
  (x5 : Vec Ideal S1024x256 .bf16) (x6 : Vec Ideal S32x256 .bf16) (x7 x8 : Vec Ideal S1024x256 .bf16) (x9 : Vec Ideal S1x31x256 .f32)
  (x10 : Vec Ideal S1x3x256 .f32) (xo13 : Vec Ideal S1x256 .f32) (xs4 : Vec Ideal S31x8x256 .f32) (xs5 : Vec Ideal S3x8x256 .f32)
  (hc0 : ¬cond0_0 i) (hc1 : cond0_1 i)

/-- The five groups it computes and the two that it passes on. -/
theorem parts_C :
    (kernelRun0_C (F := Ideal) c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19 arg20 harg20
      arg21 harg21 arg22 harg22 hc0 hc1 x0 x1 x2 x3 x4 x5 x6 x7 x8 x9 x10 xo13 xs4 xs5).1
    = allParts arg2 harg2 arg7 harg7 arg9 harg9 arg10 harg10 arg11 harg11 arg12 harg12 arg18 arg19 arg20 x0 x5 x7 x8 x9 x10
      (grads c i arg5 harg5 arg6 harg6 arg18 x3 x4) (prods c i arg2 harg2 arg3 harg3 x0 x1)
      (outers c i arg2 harg2 arg4 harg4 arg7 harg7 arg8 harg8 x0 x2 x5 x6) := by
  sl_kernel_rfl

/-- The sum of the gradient over the rows. -/
theorem bias_C :
    (kernelRun0_C (F := Ideal) c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19 arg20 harg20
      arg21 harg21 arg22 harg22 hc0 hc1 x0 x1 x2 x3 x4 x5 x6 x7 x8 x9 x10 xo13 xs4 xs5).2.2.1
    = [⟨(Rect.unit (s := S1x256) ![0, 0] S1x256.size inb_S1x256_S1x256_0_0), k0_pay35 (F := Ideal) (View.readAt (Elt Ideal) arg15.view
      (Rect.unit (s := S1x256) ![0, 0] S1x256.size inb_S1x256_S1x256_0_0).toLoadRect (harg15.unread xo13)) (arg18.view.readCov (grads c i arg5 harg5 arg6 harg6 arg18 x3 x4)
        (Rect.unit (s := S8x1056x256) ![0, 0, 0] S1x1024x256.size inb_S8x1056x256_S1x1024x256_0_0_0).toLoadRect)⟩] := by
  sl_kernel_rfl

/-- The sums of the two filters' taps. -/
theorem sums_C :
    (kernelRun0_C (F := Ideal) c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19 arg20 harg20
      arg21 harg21 arg22 harg22 hc0 hc1 x0 x1 x2 x3 x4 x5 x6 x7 x8 x9 x10 xo13 xs4 xs5).2.2.2.2.1
    = tapsAll arg17 arg18 arg21
      (gateds c i arg2 harg2 arg3 harg3 arg17 x0 x1) (grads c i arg5 harg5 arg6 harg6 arg18 x3 x4) (tapsFirst arg17 arg18 arg21 harg21 xs4
      (gateds c i arg2 harg2 arg3 harg3 arg17 x0 x1) (grads c i arg5 harg5 arg6 harg6 arg18 x3 x4) 31 (le_refl 31)) 1 15 (by omega) := by
  sl_kernel_rfl

theorem sums3_C :
    (kernelRun0_C (F := Ideal) c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19 arg20 harg20
      arg21 harg21 arg22 harg22 hc0 hc1 x0 x1 x2 x3 x4 x5 x6 x7 x8 x9 x10 xo13 xs4 xs5).2.2.2.2.2.1
    = tapsAll3 arg19 arg20 arg22 (prods c i arg2 harg2 arg3 harg3 x0 x1)
      (outers c i arg2 harg2 arg4 harg4 arg7 harg7 arg8 harg8 x0 x2 x5 x6) (tapsFirst3 arg19 arg20 arg22 harg22 xs5 (prods c i arg2 harg2 arg3 harg3 x0 x1)
      (outers c i arg2 harg2 arg4 harg4 arg7 harg7 arg8 harg8 x0 x2 x5 x6) 3 (le_refl 3)) 1 15 (by omega) := by
  sl_kernel_rfl

/-- The gradients of the two filters: the sums over what is kept of each tap. -/
theorem filter_C :
    (kernelRun0_C (F := Ideal) c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19 arg20 harg20
      arg21 harg21 arg22 harg22 hc0 hc1 x0 x1 x2 x3 x4 x5 x6 x7 x8 x9 x10 xo13 xs4 xs5).2.1
    = [⟨Rect.unit (s := S1x31x256) ![0, 0, 0] S1x31x256.size inb_S1x31x256_S1x31x256_0_0_0,
      k0_pay3 (F := Ideal) (arg21.view.readCov (tapsAll arg17 arg18 arg21
      (gateds c i arg2 harg2 arg3 harg3 arg17 x0 x1) (grads c i arg5 harg5 arg6 harg6 arg18 x3 x4) (tapsFirst arg17 arg18 arg21 harg21 xs4
      (gateds c i arg2 harg2 arg3 harg3 arg17 x0 x1) (grads c i arg5 harg5 arg6 harg6 arg18 x3 x4) 31 (le_refl 31)) 1 15 (by omega))
      (Rect.unit (s := S31x8x256) ![0, 0, 0] S31x8x256.size inb_S31x8x256_S31x8x256_0_0_0).toLoadRect)⟩] := by
  sl_kernel_rfl

theorem filter3_C :
    (kernelRun0_C (F := Ideal) c i arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19 arg20 harg20
      arg21 harg21 arg22 harg22 hc0 hc1 x0 x1 x2 x3 x4 x5 x6 x7 x8 x9 x10 xo13 xs4 xs5).2.2.2.1
    = [⟨Rect.unit (s := S1x3x256) ![0, 0, 0] S1x3x256.size inb_S1x3x256_S1x3x256_0_0_0,
      k0_pay4 (F := Ideal) (arg22.view.readCov (tapsAll3 arg19 arg20 arg22 (prods c i arg2 harg2 arg3 harg3 x0 x1)
      (outers c i arg2 harg2 arg4 harg4 arg7 harg7 arg8 harg8 x0 x2 x5 x6) (tapsFirst3 arg19 arg20 arg22 harg22 xs5 (prods c i arg2 harg2 arg3 harg3 x0 x1)
      (outers c i arg2 harg2 arg4 harg4 arg7 harg7 arg8 harg8 x0 x2 x5 x6) 3 (le_refl 3)) 1 15 (by omega))
      (Rect.unit (s := S3x8x256) ![0, 0, 0] S3x8x256.size inb_S3x8x256_S3x8x256_0_0_0).toLoadRect)⟩] := by
  sl_kernel_rfl

end Block

end Cert.ConvIdeal.Parts

end
-- ==== Proof.ConvBlock.lean ====
/- The gradient of the convolutions: the rows that a block of 1024 rows and 256 columns loads, its copies of them, and what it
   computes from them. -/
module

public import proofs.«01_k».proof.Proof.ConvParts
public import proofs.«01_k».proof.Proof.Swiglu
public import Idealize.ShloMosaic.Lib.WholeRead
public import Idealize.ShloMosaic.Lib.Pointwise

@[expose] public section

set_option maxRecDepth 16384

noncomputable section

namespace Cert.ConvIdeal.Parts

open Idealize.ShloMosaic Idealize.ShloMosaic.TcCoe Idealize.SL.Sem Cert.ConvIdeal Cert.ConvIdeal.Gen

section Rows
variable (i : grid0.Coords) (x0 : FVec Ideal S5x1024x256 .bf16) (x1 x2 : FVec Ideal S5x32x256 .bf16) (x3 : FVec Ideal S1024x256 .bf16)
  (x4 : FVec Ideal S32x256 .bf16) (x5 : FVec Ideal S1024x256 .bf16) (x6 : FVec Ideal S32x256 .bf16)

/-- Row `p` of the 32 rows before the block and the block's own, of what the first convolution takes and of what the second
    takes; and of the block's own rows and the 32 after it, of the gradient of the first and of the second. The rows outside
    count only where there are some. -/
def gatedRow (p : Nat) (j : Fin 256) : EReal :=
  if h : p < 32 then x1 (ix3 0 ⟨p, h⟩ j) * Ideal.logistic (x1 (ix3 1 ⟨p, h⟩ j)) * k0_pay5 (F := Ideal) i
  else if h' : p - 32 < 1024 then x0 (ix3 0 ⟨p - 32, h'⟩ j) * Ideal.logistic (x0 (ix3 1 ⟨p - 32, h'⟩ j)) else 0
def productRow (p : Nat) (j : Fin 256) : EReal :=
  if h : p < 32 then x1 (ix3 3 ⟨p, h⟩ j) * x1 (ix3 4 ⟨p, h⟩ j) * k0_pay5 (F := Ideal) i
  else if h' : p - 32 < 1024 then x0 (ix3 3 ⟨p - 32, h'⟩ j) * x0 (ix3 4 ⟨p - 32, h'⟩ j) else 0
def gradRow (p : Nat) (j : Fin 256) : EReal :=
  if h : p < 1024 then x3 (ix2 ⟨p, h⟩ j)
  else if h' : p - 1024 < 32 then x4 (ix2 ⟨p - 1024, h'⟩ j) * k0_pay6 (F := Ideal) i else 0
def outerRow (p : Nat) (j : Fin 256) : EReal :=
  if h : p < 1024 then x5 (ix2 ⟨p, h⟩ j) * x0 (ix3 2 ⟨p, h⟩ j)
  else if h' : p - 1024 < 32 then x6 (ix2 ⟨p - 1024, h'⟩ j) * x2 (ix3 2 ⟨p - 1024, h'⟩ j) * k0_pay6 (F := Ideal) i else 0

end Rows

section Block
variable (c : Dev nD) (i : grid0.Coords)
  (arg2 : Memref sig .tc .vmem S5x1024x256 .bf16) (harg2 : arg2.IsWhole) (arg3 : Memref sig .tc .vmem S5x32x256 .bf16) (harg3 : arg3.IsWhole)
  (arg4 : Memref sig .tc .vmem S5x32x256 .bf16) (harg4 : arg4.IsWhole) (arg5 : Memref sig .tc .vmem S1024x256 .bf16) (harg5 : arg5.IsWhole)
  (arg6 : Memref sig .tc .vmem S32x256 .bf16) (harg6 : arg6.IsWhole) (arg7 : Memref sig .tc .vmem S1024x256 .bf16) (harg7 : arg7.IsWhole)
  (arg8 : Memref sig .tc .vmem S32x256 .bf16) (harg8 : arg8.IsWhole)
  (x0 : FVec Ideal S5x1024x256 .bf16) (x1 x2 : FVec Ideal S5x32x256 .bf16) (x3 : FVec Ideal S1024x256 .bf16) (x4 : FVec Ideal S32x256 .bf16)
  (x5 : FVec Ideal S1024x256 .bf16) (x6 : FVec Ideal S32x256 .bf16)

/-- Rows as the block loads them: of a group of the rows outside the block and of its own, and of the gradients. -/
theorem halo_at (mr : Memref sig .tc .vmem S5x32x256 .bf16) (hm : mr.IsWhole) (x : FVec Ideal S5x32x256 .bf16)
    (k : Fin 5) (inb : ∀ a, (![k.val, 0, 0] : Fin 3 → Nat) a + (![1, 32, 256] : Fin 3 → Nat) a ≤ S5x32x256.size a)
    (p : Fin 32) (j : Fin 256) : View.readAt (Elt Ideal) mr.view (Rect.unit (s := S5x32x256) ![k.val, 0, 0] ![1, 32, 256] inb).toLoadRect
      (hm.unread x) (ix3 (0 : Fin 1) p j) = x (ix3 k p j) :=
  (hm.readAt_unread _ _ _).trans (congrArg x (funext fun a => Fin.ext (by fin_cases a <;> simp [ix3])))
theorem own_at (k : Fin 5) (inb : ∀ a, (![k.val, 0, 0] : Fin 3 → Nat) a + (![1, 1024, 256] : Fin 3 → Nat) a ≤ S5x1024x256.size a)
    (p : Fin 1024) (j : Fin 256) : View.readAt (Elt Ideal) arg2.view
      (Rect.unit (s := S5x1024x256) ![k.val, 0, 0] ![1, 1024, 256] inb).toLoadRect (harg2.unread x0) (ix3 (0 : Fin 1) p j) = x0 (ix3 k p j) :=
  (harg2.readAt_unread _ _ _).trans (congrArg x0 (funext fun a => Fin.ext (by fin_cases a <;> simp [ix3])))
theorem grad_at (mr : Memref sig .tc .vmem S1024x256 .bf16) (hm : mr.IsWhole) (x : FVec Ideal S1024x256 .bf16)
    (inb : ∀ a, (![0, 0] : Fin 2 → Nat) a + S1024x256.size a ≤ S1024x256.size a) (p : Fin 1024) (j : Fin 256) :
    View.readAt (Elt Ideal) mr.view (Rect.unit (s := S1024x256) ![0, 0] S1024x256.size inb).toLoadRect (hm.unread x) (ix2 p j)
      = x (ix2 p j) :=
  (hm.readAt_unread _ _ _).trans (congrArg x (funext fun a => Fin.ext (by fin_cases a <;> simp [ix2])))
theorem after_at (mr : Memref sig .tc .vmem S32x256 .bf16) (hm : mr.IsWhole) (x : FVec Ideal S32x256 .bf16)
    (inb : ∀ a, (![0, 0] : Fin 2 → Nat) a + S32x256.size a ≤ S32x256.size a) (p : Fin 32) (j : Fin 256) :
    View.readAt (Elt Ideal) mr.view (Rect.unit (s := S32x256) ![0, 0] S32x256.size inb).toLoadRect (hm.unread x) (ix2 p j)
      = x (ix2 p j) :=
  (hm.readAt_unread _ _ _).trans (congrArg x (funext fun a => Fin.ext (by fin_cases a <;> simp [ix2])))

theorem gated_first (p : Fin 1056) (j : Fin 256) :
    View.canon (kernelRun0_A.sl.HS0_2 (F := Ideal) c i arg2 harg2 arg3 harg3 x0 x1) (ix3 0 p j) = gatedRow i x0 x1 p.val j := by
  unfold kernelRun0_A.sl.HS0_2
  by_cases h : p.val < 32
  · refine Eq.trans (congrArg (View.canon _) (?_ : ix3 0 p j = Rect.emb (Rect.unit (s := S8x1056x256) ![0, 0, 0] S1x32x256.size
      inb_S8x1056x256_S1x32x256_0_0_0) (ix3 (0 : Fin 1) (⟨p.val, h⟩ : Fin 32) j))) ?_
    · funext a; apply Fin.ext; fin_cases a <;> simp [ix3]
    refine (View.canon_cons_emb _ _ _ _).trans ?_
    pointwise [k0_pay11]
    rw [gatedRow, dif_pos h]
    exact congrArg (· * k0_pay5 (F := Ideal) i) (congrArg₂ (fun a b => a * Ideal.logistic b)
      (halo_at arg3 harg3 x1 0 _ _ _) (halo_at arg3 harg3 x1 1 _ _ _))
  · rw [View.canon_cons_of_not_mem]
    · refine Eq.trans (congrArg (View.canon _) (?_ : ix3 0 p j = Rect.emb (Rect.unit (s := S8x1056x256) ![0, 32, 0] S1x1024x256.size
        inb_S8x1056x256_S1x1024x256_0_32_0) (ix3 (0 : Fin 1) (⟨p.val - 32, by omega⟩ : Fin 1024) j))) ?_
      · funext a; apply Fin.ext; fin_cases a <;> simp [ix3]; omega
      refine (View.canon_cons_emb _ _ _ _).trans ?_
      pointwise [k0_pay10]
      rw [gatedRow, dif_neg h, dif_pos (by omega)]
      exact congrArg₂ (fun a b => a * Ideal.logistic b) (own_at arg2 harg2 x0 0 _ _ _) (own_at arg2 harg2 x0 1 _ _ _)
    · exact Rect.not_mem_set_of_axis _ _ 1 0 32 rfl rfl rfl (Or.inr (by simpa [ix3] using h))

theorem grad_first (p : Fin 1056) (j : Fin 256) :
    View.canon (kernelRun0_A.sl.HS1_2 (F := Ideal) c i arg5 harg5 arg6 harg6 x3 x4) (ix3 0 p j) = gradRow i x3 x4 p.val j := by
  unfold kernelRun0_A.sl.HS1_2
  by_cases h : p.val < 1024
  · rw [View.canon_cons_of_not_mem]
    · refine Eq.trans (congrArg (View.canon _) (?_ : ix3 0 p j = Rect.emb (Rect.unit (s := S8x1056x256) ![0, 0, 0] S1x1024x256.size
        inb_S8x1056x256_S1x1024x256_0_0_0) (ix3 (0 : Fin 1) (⟨p.val, h⟩ : Fin 1024) j))) ?_
      · funext a; apply Fin.ext; fin_cases a <;> simp [ix3]
      refine (View.canon_cons_emb _ _ _ _).trans ?_
      pointwise [k0_pay22]
      rw [gradRow, dif_pos h]
      exact grad_at arg5 harg5 x3 _ _ _
    · exact Rect.not_mem_set_of_axis _ _ 1 1024 32 rfl rfl rfl (Or.inl (by simpa [ix3] using h))
  · refine Eq.trans (congrArg (View.canon _) (?_ : ix3 0 p j = Rect.emb (Rect.unit (s := S8x1056x256) ![0, 1024, 0] S1x32x256.size
      inb_S8x1056x256_S1x32x256_0_1024_0) (ix3 (0 : Fin 1) (⟨p.val - 1024, by omega⟩ : Fin 32) j))) ?_
    · funext a; apply Fin.ext; fin_cases a <;> simp [ix3]; omega
    refine (View.canon_cons_emb _ _ _ _).trans ?_
    pointwise [k0_pay23]
    rw [gradRow, dif_neg h, dif_pos (by omega)]
    exact congrArg (· * k0_pay6 (F := Ideal) i) (after_at arg6 harg6 x4 _ _ _)

theorem products_at (p : Fin 1056) (j : Fin 256) :
    View.canon (prods c i arg2 harg2 arg3 harg3 x0 x1) (ix2 p j) = productRow i x0 x1 p.val j := by
  unfold prods kernelRun0_A.sl.HS2_2
  by_cases h : p.val < 32
  · refine Eq.trans (congrArg (View.canon _) (?_ : ix2 p j = Rect.emb (Rect.unit (s := S1056x256) ![0, 0] S32x256.size
      inb_S1056x256_S32x256_0_0) (ix2 (⟨p.val, h⟩ : Fin 32) j))) ?_
    · funext a; apply Fin.ext; fin_cases a <;> simp [ix2]
    refine (View.canon_cons_emb _ _ _ _).trans ?_
    pointwise [k0_pay21, kernelRun0_A.sl.r, k0_pay20]
    rw [productRow, dif_pos h]
    exact congrArg (· * k0_pay5 (F := Ideal) i) (congrArg₂ (· * ·) (halo_at arg3 harg3 x1 3 _ _ _) (halo_at arg3 harg3 x1 4 _ _ _))
  · rw [View.canon_cons_of_not_mem]
    · refine Eq.trans (congrArg (View.canon _) (?_ : ix2 p j = Rect.emb (Rect.unit (s := S1056x256) ![32, 0] S1024x256.size
        inb_S1056x256_S1024x256_32_0) (ix2 (⟨p.val - 32, by omega⟩ : Fin 1024) j))) ?_
      · funext a; apply Fin.ext; fin_cases a <;> simp [ix2]; omega
      refine (View.canon_cons_emb _ _ _ _).trans ?_
      pointwise [k0_pay19]
      rw [productRow, dif_neg h, dif_pos (by omega)]
      exact congrArg₂ (· * ·) (own_at arg2 harg2 x0 3 _ _ _) (own_at arg2 harg2 x0 4 _ _ _)
    · exact Rect.not_mem_set_of_axis _ _ 0 0 32 rfl rfl rfl (Or.inr (by simpa [ix2] using h))

theorem outers_at (p : Fin 1056) (j : Fin 256) :
    View.canon (outers c i arg2 harg2 arg4 harg4 arg7 harg7 arg8 harg8 x0 x2 x5 x6) (ix2 p j) = outerRow i x0 x2 x5 x6 p.val j := by
  unfold outers kernelRun0_A.sl.HS3_2
  by_cases h : p.val < 1024
  · rw [View.canon_cons_of_not_mem]
    · refine Eq.trans (congrArg (View.canon _) (?_ : ix2 p j = Rect.emb (Rect.unit (s := S1056x256) ![0, 0] S1024x256.size
        inb_S1056x256_S1024x256_0_0) (ix2 (⟨p.val, h⟩ : Fin 1024) j))) ?_
      · funext a; apply Fin.ext; fin_cases a <;> simp [ix2]
      refine (View.canon_cons_emb _ _ _ _).trans ?_
      pointwise [k0_pay33, kernelRun0_A.sl.r_2, k0_pay32]
      rw [outerRow, dif_pos h]
      exact congrArg₂ (· * ·) (grad_at arg7 harg7 x5 _ _ _) (own_at arg2 harg2 x0 2 _ _ _)
    · exact Rect.not_mem_set_of_axis _ _ 0 1024 32 rfl rfl rfl (Or.inl (by simpa [ix2] using h))
  · refine Eq.trans (congrArg (View.canon _) (?_ : ix2 p j = Rect.emb (Rect.unit (s := S1056x256) ![1024, 0] S32x256.size
      inb_S1056x256_S32x256_1024_0) (ix2 (⟨p.val - 1024, by omega⟩ : Fin 32) j))) ?_
    · funext a; apply Fin.ext; fin_cases a <;> simp [ix2]; omega
    refine (View.canon_cons_emb _ _ _ _).trans ?_
    pointwise [k0_pay34]
    rw [outerRow, dif_neg h, dif_pos (by omega)]
    exact congrArg (· * k0_pay6 (F := Ideal) i) (congrArg₂ (· * ·) (after_at arg8 harg8 x6 _ _ _) (halo_at arg4 harg4 x2 2 _ _ _))

/-- Copy `q` of a list is the first moved up by `q` rows. -/
theorem copies_at (mr : Memref sig .tc .vmem S8x1056x256 .f32) (L : Copies) (f : Nat → Fin 256 → EReal)
    (hf : ∀ (p : Fin 1056) (j : Fin 256), View.canon L (ix3 0 p j) = f p.val j) :
    ∀ (n : Nat) (h : n ≤ 7) (q : Fin 8) (p : Fin 1056) (j : Fin 256), q.val ≤ n → (q.val = 0 ∨ p.val < 1048) →
      View.canon (copies mr L n h) (ix3 q p j) = f (q.val + p.val) j
  | 0, h, q, p, j, hq, hp => by
    obtain rfl : q = 0 := Fin.ext (Nat.le_zero.mp hq)
    refine Eq.trans ?_ ((hf p j).trans (congrArg (f · j) (by simp)))
    rfl
  | n + 1, h, q, p, j, hq, hp => by
    by_cases e : q.val = n + 1
    · have hp' : p.val < 1048 := by omega
      refine Eq.trans (congrArg (View.canon _) (?_ : ix3 q p j = Rect.emb (Rect.unit (s := S8x1056x256) ![n + 1, 0, 0] S1x1048x256.size
        (fits_copy h)) (ix3 (0 : Fin 1) (⟨p.val, hp'⟩ : Fin 1048) j))) ?_
      · funext a; apply Fin.ext; fin_cases a <;> simp [ix3, e]
      refine (View.canon_cons_emb _ _ _ _).trans ?_
      have ih := copies_at mr L f hf n (Nat.le_of_succ_le h) 0 ⟨n + 1 + p.val, by omega⟩ j (Nat.zero_le _) (Or.inl rfl)
      rw [e]
      refine Eq.trans ?_ (ih.trans (congrArg (f · j) (by simp)))
      pointwise
      rw [View.readCov_eq_canon']
      exact congrArg (View.canon _) (funext fun a => Fin.ext (by fin_cases a <;> simp [ix3]))
    · refine (View.canon_cons_of_not_mem _ _ (Rect.not_mem_set_of_axis _ _ 0 (n + 1) 1 rfl rfl rfl (Or.inl ?_))).trans
        (copies_at mr L f hf n (Nat.le_of_succ_le h) q p j (by omega) hp)
      show q.val < n + 1
      omega

theorem cast_at {e : EltTy} (v : Vec Ideal S1x64x256 e) (r : Fin 64) (j : Fin 256) :
    shapeCast S64x256 v shapeCasts_S1x64x256_S64x256 (ix2 r j) = v (ix3 (0 : Fin 1) r j) := by pointwise

/-- 64 rows of the copies, and of a group's rows. -/
theorem window_at (mr : Memref sig .tc .vmem S8x1056x256 .f32) (L : Copies) (f : Nat → Fin 256 → EReal)
    (hf : ∀ (p : Fin 1056) (j : Fin 256), View.canon L (ix3 0 p j) = f p.val j) (o : Nat) (ho : o ≤ 992) (r : Fin 64) (j : Fin 256) :
    window mr (copies mr L 7 (le_refl 7)) o ho (ix2 r j) = f (o + r.val) j := by
  have hq := Nat.mod_lt o (show 0 < 8 by decide)
  have e := Nat.mod_le o 8
  refine ((cast_at _ r j).trans ?_).trans ((copies_at mr L f hf 7 (le_refl 7) (⟨o % 8, hq⟩ : Fin 8)
    (⟨o - o % 8 + r.val, by omega⟩ : Fin 1056) j (Nat.le_of_lt_succ hq) ?_).trans ?_)
  · rw [View.readCov_eq_canon']
    exact congrArg (View.canon _) (funext fun a => Fin.ext (by fin_cases a <;> simp [ix3]))
  · show o % 8 = 0 ∨ o - o % 8 + r.val < 1048
    by_cases q : o % 8 = 0
    · exact Or.inl q
    · exact Or.inr (by omega)
  · exact congrArg (f · j) (show o % 8 + (o - o % 8 + r.val) = o + r.val by omega)

theorem rows_at (mr : Memref sig .tc .vmem S1056x256 .f32) (M : Rows) (f : Nat → Fin 256 → EReal)
    (hf : ∀ (p : Fin 1056) (j : Fin 256), View.canon M (ix2 p j) = f p.val j) (o : Nat) (ho : o ≤ 992) (r : Fin 64) (j : Fin 256) :
    rows mr M o ho (ix2 r j) = f (o + r.val) j := by
  unfold rows
  rw [View.readCov_eq_canon']
  exact (congrArg (View.canon M) (funext fun a => Fin.ext (by fin_cases a <;> simp [ix2]))).trans
    (hf (⟨o + r.val, by omega⟩ : Fin 1056) j)

end Block

end Cert.ConvIdeal.Parts

end
-- ==== Proof.ConvSums.lean ====
/- The gradient of the convolutions: what a block stores, entry by entry, in terms of the rows that it has loaded. -/
module

public import proofs.«01_k».proof.Proof.ConvBlock

@[expose] public section

set_option maxRecDepth 16384

noncomputable section

namespace Cert.ConvIdeal.Parts

open Idealize.ShloMosaic Idealize.ShloMosaic.TcCoe Idealize.SL.Sem Cert.ConvIdeal Cert.ConvIdeal.Gen Cert.Swiglu

section Stack
variable {K : Nat}

/-- One store into a stack of rows of eight: what lies at its own place, and at any other. -/
theorem put_hit (w : S1x8x256.Idx → Elt Ideal .f32) (M : List (View.Piece (Elt Ideal) (⟨3, ![K, 8, 256]⟩ : Shape) .f32)) (k : Fin K)
    (fits : ∀ a, (![k.val, 0, 0] : Fin 3 → Nat) a + S1x8x256.size a ≤ (⟨3, ![K, 8, 256]⟩ : Shape).size a) (r : Fin 8) (j : Fin 256) :
    View.canon (⟨Rect.unit (s := (⟨3, ![K, 8, 256]⟩ : Shape)) ![k.val, 0, 0] S1x8x256.size fits, w⟩ :: M) (ix3 k r j)
      = w (ix3 (0 : Fin 1) r j) := by
  refine Eq.trans (congrArg (View.canon _) (?_ : ix3 k r j = Rect.emb (Rect.unit (s := (⟨3, ![K, 8, 256]⟩ : Shape)) ![k.val, 0, 0]
    S1x8x256.size fits) (ix3 (0 : Fin 1) r j))) (View.canon_cons_emb _ _ _ _)
  funext a; apply Fin.ext; fin_cases a <;> simp [ix3]
theorem put_miss (w : S1x8x256.Idx → Elt Ideal .f32) (M : List (View.Piece (Elt Ideal) (⟨3, ![K, 8, 256]⟩ : Shape) .f32)) (k l : Fin K)
    (fits : ∀ a, (![k.val, 0, 0] : Fin 3 → Nat) a + S1x8x256.size a ≤ (⟨3, ![K, 8, 256]⟩ : Shape).size a) (r : Fin 8) (j : Fin 256)
    (h : l.val ≠ k.val) :
    View.canon (⟨Rect.unit (s := (⟨3, ![K, 8, 256]⟩ : Shape)) ![k.val, 0, 0] S1x8x256.size fits, w⟩ :: M) (ix3 l r j)
      = View.canon M (ix3 l r j) := by
  refine View.canon_cons_of_not_mem _ _ (Rect.not_mem_set_of_axis _ _ 0 k.val 1 rfl rfl rfl ?_)
  show l.val < k.val ∨ k.val + 1 ≤ l.val
  omega

variable (P : (n : Nat) → n ≤ K → List (View.Piece (Elt Ideal) (⟨3, ![K, 8, 256]⟩ : Shape) .f32))
  (w : (n : Nat) → n + 1 ≤ K → (S1x8x256.Idx → Elt Ideal .f32))
  (fits : ∀ k : Fin K, ∀ a, (![k.val, 0, 0] : Fin 3 → Nat) a + S1x8x256.size a ≤ (⟨3, ![K, 8, 256]⟩ : Shape).size a)
  (hP : ∀ n h, P (n + 1) h = ⟨Rect.unit (s := (⟨3, ![K, 8, 256]⟩ : Shape)) ![n, 0, 0] S1x8x256.size (fits ⟨n, h⟩), w n h⟩
    :: P n (Nat.le_of_succ_le h))

include hP in
/-- The first `n` rows of eight have each been added to. -/
theorem stack_at (t : Fin K → Fin 8 → Fin 256 → EReal)
    (hw : ∀ n h (r : Fin 8) (j : Fin 256), w n h (ix3 (0 : Fin 1) r j) = View.canon (P n (Nat.le_of_succ_le h)) (ix3 (⟨n, h⟩ : Fin K) r j)
      + t ⟨n, h⟩ r j) :
    ∀ (n : Nat) (h : n ≤ K) (k : Fin K) (r : Fin 8) (j : Fin 256), View.canon (P n h) (ix3 k r j)
      = View.canon (P 0 (Nat.zero_le K)) (ix3 k r j) + if k.val < n then t k r j else 0
  | 0, h, k, r, j => by simp
  | n + 1, h, k, r, j => by
    rw [hP]
    by_cases e : k.val = n
    · obtain rfl : k = ⟨n, h⟩ := Fin.ext e
      refine (put_hit (w n h) _ _ (fits ⟨n, h⟩) r j).trans ((hw n h r j).trans ?_)
      rw [stack_at t hw n (Nat.le_of_succ_le h), if_neg (Nat.lt_irrefl n), add_zero, if_pos (Nat.lt_succ_self n)]
    · refine (put_miss (w n h) _ ⟨n, h⟩ k (fits ⟨n, h⟩) r j e).trans ((stack_at t hw n (Nat.le_of_succ_le h) k r j).trans ?_)
      by_cases g : k.val < n
      · rw [if_pos g, if_pos (by omega)]
      · rw [if_neg g, if_neg (by omega)]

include hP in
/-- The first `n` rows of eight have each been written. -/
theorem stack_new (t : Fin K → Fin 8 → Fin 256 → EReal)
    (hw : ∀ n h (r : Fin 8) (j : Fin 256), w n h (ix3 (0 : Fin 1) r j) = t ⟨n, h⟩ r j) :
    ∀ (n : Nat) (h : n ≤ K) (k : Fin K) (r : Fin 8) (j : Fin 256), k.val < n → View.canon (P n h) (ix3 k r j) = t k r j
  | 0, h, k, r, j, hk => absurd hk (Nat.not_lt_zero _)
  | n + 1, h, k, r, j, hk => by
    rw [hP]
    by_cases e : k.val = n
    · obtain rfl : k = ⟨n, h⟩ := Fin.ext e
      exact (put_hit (w n h) _ _ (fits ⟨n, h⟩) r j).trans (hw n h r j)
    · exact (put_miss (w n h) _ ⟨n, h⟩ k (fits ⟨n, h⟩) r j e).trans (stack_new t hw n (Nat.le_of_succ_le h) k r j (by omega))

end Stack

/-- What 64 rows add. -/
theorem step_at (d w : FVec Ideal S64x256 .f32) (v : FVec Ideal S1x8x256 .f32) (r : Fin 8) (j : Fin 256) :
    step d w v (ix3 (0 : Fin 1) r j) = v (ix3 (0 : Fin 1) r j)
      + ∑ q : Fin 8, d (ix2 (⟨q.val * 8 + r.val, by omega⟩ : Fin 64) j) * w (ix2 (⟨q.val * 8 + r.val, by omega⟩ : Fin 64) j) := by
  pointwise [step]

/-- What the 64 rows from `p` on add to row `r` of eight, with the second factor `o` rows further on. -/
def eighth (f g : Nat → Fin 256 → EReal) (p o : Nat) (r : Fin 8) (j : Fin 256) : EReal :=
  ∑ q : Fin 8, f (p + (q.val * 8 + r.val)) j * g (p + o + (q.val * 8 + r.val)) j

section Sums
variable (arg17 arg18 : Memref sig .tc .vmem S8x1056x256 .f32) (arg19 arg20 : Memref sig .tc .vmem S1056x256 .f32)
  (arg21 : Memref sig .tc .vmem S31x8x256 .f32) (harg21 : arg21.IsWhole) (arg22 : Memref sig .tc .vmem S3x8x256 .f32) (harg22 : arg22.IsWhole)
  (xs4 : FVec Ideal S31x8x256 .f32) (xs5 : FVec Ideal S3x8x256 .f32)
  (A D : Copies) (P V : Rows) (fA fD fP fV : Nat → Fin 256 → EReal)
  (hA : ∀ o ho (r : Fin 64) (j : Fin 256), window arg17 A o ho (ix2 r j) = fA (o + r.val) j)
  (hD : ∀ o ho (r : Fin 64) (j : Fin 256), window arg18 D o ho (ix2 r j) = fD (o + r.val) j)
  (hPr : ∀ o ho (r : Fin 64) (j : Fin 256), rows arg19 P o ho (ix2 r j) = fP (o + r.val) j)
  (hV : ∀ o ho (r : Fin 64) (j : Fin 256), rows arg20 V o ho (ix2 r j) = fV (o + r.val) j)

theorem sum_read (M : Sums) (k : Fin 31) (r : Fin 8) (j : Fin 256) :
    arg21.view.readCov M (sumRect k).toLoadRect (ix3 (0 : Fin 1) r j) = View.canon M (ix3 k r j) := by
  rw [View.readCov_eq_canon']
  exact congrArg (View.canon M) (funext fun a => Fin.ext (by fin_cases a <;> simp [ix3]))
theorem sum3_read (M : Sums3) (k : Fin 3) (r : Fin 8) (j : Fin 256) :
    arg22.view.readCov M (sumRect3 k).toLoadRect (ix3 (0 : Fin 1) r j) = View.canon M (ix3 k r j) := by
  rw [View.readCov_eq_canon']
  exact congrArg (View.canon M) (funext fun a => Fin.ext (by fin_cases a <;> simp [ix3]))

include hA hD in
theorem tapsOver_at (L : Sums) (p : Nat) (hp : p ≤ 960) (k : Fin 31) (r : Fin 8) (j : Fin 256) :
    View.canon (tapsOver arg17 arg18 arg21 A D L p hp 31 (le_refl 31)) (ix3 k r j)
      = View.canon L (ix3 k r j) + eighth fD fA p (2 + k.val) r j := by
  refine (stack_at (K := 31) (tapsOver arg17 arg18 arg21 A D L p hp) _ fits_sum (fun n h => rfl)
    (fun k r j => eighth fD fA p (2 + k.val) r j) (fun n h r j => ?_) 31 (le_refl 31) k r j).trans ?_
  · refine (step_at _ _ _ r j).trans (congrArg₂ (· + ·) (sum_read arg21 _ ⟨n, h⟩ r j) (Finset.sum_congr rfl fun q _ =>
      congrArg₂ (· * ·) (hD _ _ _ _) ((hA _ _ _ _).trans (congrArg (fA · j) ?_))))
    show p + 2 + n + (q.val * 8 + r.val) = p + (2 + n) + (q.val * 8 + r.val)
    omega
  · exact congrArg (_ + ·) (if_pos k.isLt)
include hPr hV in
theorem tapsOver3_at (L : Sums3) (p : Nat) (hp : p ≤ 960) (k : Fin 3) (r : Fin 8) (j : Fin 256) :
    View.canon (tapsOver3 arg19 arg20 arg22 P V L p hp 3 (le_refl 3)) (ix3 k r j)
      = View.canon L (ix3 k r j) + eighth fV fP p (30 + k.val) r j := by
  refine (stack_at (K := 3) (tapsOver3 arg19 arg20 arg22 P V L p hp) _ fits_sum3 (fun n h => rfl)
    (fun k r j => eighth fV fP p (30 + k.val) r j) (fun n h r j => ?_) 3 (le_refl 3) k r j).trans ?_
  · refine (step_at _ _ _ r j).trans (congrArg₂ (· + ·) (sum3_read arg22 _ ⟨n, h⟩ r j) (Finset.sum_congr rfl fun q _ =>
      congrArg₂ (· * ·) (hV _ _ _ _) ((hPr _ _ _ _).trans (congrArg (fP · j) ?_))))
    show p + 30 + n + (q.val * 8 + r.val) = p + (30 + n) + (q.val * 8 + r.val)
    omega
  · exact congrArg (_ + ·) (if_pos k.isLt)

include hA hD in
theorem tapsFirst_at (k : Fin 31) (r : Fin 8) (j : Fin 256) :
    View.canon (tapsFirst arg17 arg18 arg21 harg21 xs4 A D 31 (le_refl 31)) (ix3 k r j)
      = xs4 (ix3 k r j) + eighth fD fA 0 (2 + k.val) r j := by
  refine stack_new (K := 31) (tapsFirst arg17 arg18 arg21 harg21 xs4 A D) _ fits_sum (fun n h => rfl)
    (fun k r j => xs4 (ix3 k r j) + eighth fD fA 0 (2 + k.val) r j) (fun n h r j => ?_) 31 (le_refl 31) k r j k.isLt
  refine (step_at _ _ _ r j).trans (congrArg₂ (· + ·) ((harg21.readAt_unread _ _ _).trans (congrArg xs4 (funext fun a => Fin.ext (by
    fin_cases a <;> simp [ix3])))) (Finset.sum_congr rfl fun q _ => congrArg₂ (· * ·) (hD _ _ _ _) ((hA _ _ _ _).trans (congrArg (fA · j) ?_))))
  show 2 + n + (q.val * 8 + r.val) = 0 + (2 + n) + (q.val * 8 + r.val)
  omega
include hPr hV in
theorem tapsFirst3_at (k : Fin 3) (r : Fin 8) (j : Fin 256) :
    View.canon (tapsFirst3 arg19 arg20 arg22 harg22 xs5 P V 3 (le_refl 3)) (ix3 k r j)
      = xs5 (ix3 k r j) + eighth fV fP 0 (30 + k.val) r j := by
  refine stack_new (K := 3) (tapsFirst3 arg19 arg20 arg22 harg22 xs5 P V) _ fits_sum3 (fun n h => rfl)
    (fun k r j => xs5 (ix3 k r j) + eighth fV fP 0 (30 + k.val) r j) (fun n h r j => ?_) 3 (le_refl 3) k r j k.isLt
  refine (step_at _ _ _ r j).trans (congrArg₂ (· + ·) ((harg22.readAt_unread _ _ _).trans (congrArg xs5 (funext fun a => Fin.ext (by
    fin_cases a <;> simp [ix3])))) (Finset.sum_congr rfl fun q _ => congrArg₂ (· * ·) (hV _ _ _ _) ((hPr _ _ _ _).trans (congrArg (fP · j) ?_))))
  show 30 + n + (q.val * 8 + r.val) = 0 + (30 + n) + (q.val * 8 + r.val)
  omega

include hA hD in
theorem tapsAll_at (L : Sums) (s : Nat) (k : Fin 31) (r : Fin 8) (j : Fin 256) : ∀ (n : Nat) (h : s + n ≤ 16),
    View.canon (tapsAll arg17 arg18 arg21 A D L s n h) (ix3 k r j)
      = View.canon L (ix3 k r j) + ∑ b : Fin n, eighth fD fA ((s + b.val) * 64) (2 + k.val) r j
  | 0, h => by simp [tapsAll]
  | n + 1, h => by
    rw [Fin.sum_univ_castSucc, ← add_assoc]
    exact (tapsOver_at arg17 arg18 arg21 A D fA fD hA hD _ _ _ k r j).trans
      (congrArg (· + _) (tapsAll_at L s k r j n (by omega)))
include hPr hV in
theorem tapsAll3_at (L : Sums3) (s : Nat) (k : Fin 3) (r : Fin 8) (j : Fin 256) : ∀ (n : Nat) (h : s + n ≤ 16),
    View.canon (tapsAll3 arg19 arg20 arg22 P V L s n h) (ix3 k r j)
      = View.canon L (ix3 k r j) + ∑ b : Fin n, eighth fV fP ((s + b.val) * 64) (30 + k.val) r j
  | 0, h => by simp [tapsAll3]
  | n + 1, h => by
    rw [Fin.sum_univ_castSucc, ← add_assoc]
    exact (tapsOver3_at arg19 arg20 arg22 P V fP fV hPr hV _ _ _ k r j).trans
      (congrArg (· + _) (tapsAll3_at L s k r j n (by omega)))

/-- What all 1024 rows add. -/
def whole (f g : Nat → Fin 256 → EReal) (o : Nat) (r : Fin 8) (j : Fin 256) : EReal := ∑ b : Fin 16, eighth f g (b.val * 64) o r j

theorem whole_split (f g : Nat → Fin 256 → EReal) (o : Nat) (r : Fin 8) (j : Fin 256) :
    eighth f g 0 o r j + ∑ b : Fin 15, eighth f g ((1 + b.val) * 64) o r j = whole f g o r j := by
  refine Eq.symm ((Fin.sum_univ_succ (n := 15) (fun b : Fin 16 => eighth f g (b.val * 64) o r j)).trans ?_)
  refine congrArg₂ (· + ·) (congrArg (eighth f g · o r j) (Nat.zero_mul 64)) (Finset.sum_congr rfl fun b _ => ?_)
  rw [Fin.val_succ, Nat.add_comm]

theorem zero_at (k : Fin 31) (r : Fin 8) (j : Fin 256) : View.canon zeros (ix3 k r j) = 0 := by
  refine Eq.trans (congrArg (View.canon _) (?_ : ix3 k r j = Rect.emb (Rect.unit (s := S31x8x256) ![0, 0, 0] S31x8x256.size
    inb_S31x8x256_S31x8x256_0_0_0) (ix3 k r j))) ((View.canon_cons_emb _ _ _ _).trans ?_)
  · funext a; apply Fin.ext; fin_cases a <;> simp [ix3]
  · pointwise [k0_pay7]
theorem zero3_at (k : Fin 3) (r : Fin 8) (j : Fin 256) : View.canon zeros3 (ix3 k r j) = 0 := by
  refine Eq.trans (congrArg (View.canon _) (?_ : ix3 k r j = Rect.emb (Rect.unit (s := S3x8x256) ![0, 0, 0] S3x8x256.size
    inb_S3x8x256_S3x8x256_0_0_0) (ix3 k r j))) ((View.canon_cons_emb _ _ _ _).trans ?_)
  · funext a; apply Fin.ext; fin_cases a <;> simp [ix3]
  · pointwise [k0_pay8]

include hA hD in
/-- The sums after a block that begins them, and after one that goes on. -/
theorem begun_at (k : Fin 31) (r : Fin 8) (j : Fin 256) :
    View.canon (tapsAll arg17 arg18 arg21 A D zeros 0 16 (le_refl 16)) (ix3 k r j) = whole fD fA (2 + k.val) r j := by
  rw [tapsAll_at arg17 arg18 arg21 A D fA fD hA hD, zero_at, zero_add]
  exact Finset.sum_congr rfl fun b _ => by rw [Nat.zero_add]
include hA hD in
theorem gone_at (k : Fin 31) (r : Fin 8) (j : Fin 256) :
    View.canon (tapsAll arg17 arg18 arg21 A D (tapsFirst arg17 arg18 arg21 harg21 xs4 A D 31 (le_refl 31)) 1 15 (le_refl 16)) (ix3 k r j)
      = xs4 (ix3 k r j) + whole fD fA (2 + k.val) r j := by
  rw [tapsAll_at arg17 arg18 arg21 A D fA fD hA hD, tapsFirst_at arg17 arg18 arg21 harg21 xs4 A D fA fD hA hD, add_assoc]
  exact congrArg (_ + ·) (whole_split _ _ _ r j)
include hPr hV in
theorem begun3_at (k : Fin 3) (r : Fin 8) (j : Fin 256) :
    View.canon (tapsAll3 arg19 arg20 arg22 P V zeros3 0 16 (le_refl 16)) (ix3 k r j) = whole fV fP (30 + k.val) r j := by
  rw [tapsAll3_at arg19 arg20 arg22 P V fP fV hPr hV, zero3_at, zero_add]
  exact Finset.sum_congr rfl fun b _ => by rw [Nat.zero_add]
include hPr hV in
theorem gone3_at (k : Fin 3) (r : Fin 8) (j : Fin 256) :
    View.canon (tapsAll3 arg19 arg20 arg22 P V (tapsFirst3 arg19 arg20 arg22 harg22 xs5 P V 3 (le_refl 3)) 1 15 (le_refl 16)) (ix3 k r j)
      = xs5 (ix3 k r j) + whole fV fP (30 + k.val) r j := by
  rw [tapsAll3_at arg19 arg20 arg22 P V fP fV hPr hV, tapsFirst3_at arg19 arg20 arg22 harg22 xs5 P V fP fV hPr hV, add_assoc]
  exact congrArg (_ + ·) (whole_split _ _ _ r j)

end Sums

section Parts
variable (arg2 : Memref sig .tc .vmem S5x1024x256 .bf16) (harg2 : arg2.IsWhole) (arg7 : Memref sig .tc .vmem S1024x256 .bf16) (harg7 : arg7.IsWhole)
  (arg9 : Memref sig .tc .vmem S1024x256 .bf16) (harg9 : arg9.IsWhole) (arg10 : Memref sig .tc .vmem S1024x256 .bf16) (harg10 : arg10.IsWhole)
  (arg11 : Memref sig .tc .vmem S1x31x256 .f32) (harg11 : arg11.IsWhole) (arg12 : Memref sig .tc .vmem S1x3x256 .f32) (harg12 : arg12.IsWhole)
  (arg18 : Memref sig .tc .vmem S8x1056x256 .f32) (arg19 arg20 : Memref sig .tc .vmem S1056x256 .f32)
  (x0 : FVec Ideal S5x1024x256 .bf16) (x5 x7 x8 : FVec Ideal S1024x256 .bf16) (x9 : FVec Ideal S1x31x256 .f32) (x10 : FVec Ideal S1x3x256 .f32)
  (D : Copies) (P V : Rows) (fD fP fV : Nat → Fin 256 → EReal)
  (hD : ∀ o ho (r : Fin 64) (j : Fin 256), window arg18 D o ho (ix2 r j) = fD (o + r.val) j)
  (hPr : ∀ o ho (r : Fin 64) (j : Fin 256), rows arg19 P o ho (ix2 r j) = fP (o + r.val) j)
  (hV : ∀ o ho (r : Fin 64) (j : Fin 256), rows arg20 V o ho (ix2 r j) = fV (o + r.val) j)

theorem tap_at (k : Fin 31) (j : Fin 256) : tap arg11 harg11 x9 k (ix2 0 j) = x9 (ix3 0 k j) := by
  unfold tap
  pointwise
  exact (harg11.readAt_unread _ _ _).trans (congrArg x9 (funext fun a => Fin.ext (by fin_cases a <;> simp [ix3])))
theorem tap3_at (k : Fin 3) (j : Fin 256) : tap3 arg12 harg12 x10 k (ix2 0 j) = x10 (ix3 0 k j) := by
  unfold tap3
  pointwise
  exact (harg12.readAt_unread _ _ _).trans (congrArg x10 (funext fun a => Fin.ext (by fin_cases a <;> simp [ix3])))

theorem extf_cast_at (v : Vec Ideal S1x64x256 .bf16) (r : Fin 64) (j : Fin 256) :
    (extf .f32 (shapeCast S64x256 v shapeCasts_S1x64x256_S64x256) bitsLt_bf16_f32 : FVec Ideal S64x256 .f32) (ix2 r j)
      = v (ix3 (0 : Fin 1) r j) := by pointwise
theorem extf_at (v : Vec Ideal S64x256 .bf16) (r : Fin 64) (j : Fin 256) :
    (extf .f32 (shapeCast S64x256 v shapeCasts_S64x256_S64x256) bitsLt_bf16_f32 : FVec Ideal S64x256 .f32) (ix2 r j)
      = v (ix2 r j) := by pointwise
theorem group_at (k : Fin 5) (p : Nat) (h : p ≤ 960) (r : Fin 64) (j : Fin 256) :
    group arg2 harg2 x0 k p h (ix2 r j) = x0 (ix3 k ⟨p + r.val, by omega⟩ j) := by
  unfold group
  refine (extf_cast_at _ r j).trans ?_
  exact (harg2.readAt_unread _ _ _).trans (congrArg x0 (funext fun a => Fin.ext (by fin_cases a <;> simp [ix3])))
theorem outer_at (p : Nat) (h : p ≤ 960) (r : Fin 64) (j : Fin 256) :
    outer arg7 harg7 x5 p h (ix2 r j) = x5 (ix2 ⟨p + r.val, by omega⟩ j) := by
  unfold outer
  refine (extf_at _ r j).trans ?_
  exact (harg7.readAt_unread _ _ _).trans (congrArg x5 (funext fun a => Fin.ext (by fin_cases a <;> simp [ix2])))

/-- The sums over the taps. -/
theorem add_tap (u w : FVec Ideal S64x256 .f32) (t : FVec Ideal S1x256 .f32) (r : Fin 64) (j : Fin 256) :
    addf u (mulf (broadcastTo S64x256 t broadcasts_S1x256_S64x256) w) (ix2 r j) = u (ix2 r j) + t (ix2 0 j) * w (ix2 r j) := by pointwise
theorem none_at (r : Fin 64) (j : Fin 256) :
    (broadcast S64x256 (Scalar.ofBits .f32 0x00000000#32) : FVec Ideal S64x256 .f32) (ix2 r j) = 0 := by pointwise

include hD in
theorem back_at (p : Nat) (hp : p ≤ 960) (r : Fin 64) (j : Fin 256) : ∀ (n : Nat) (hn : n ≤ 31),
    back arg11 harg11 arg18 x9 D p hp n hn (ix2 r j) = ∑ k : Fin n, x9 (ix3 0 (Fin.castLE hn k) j) * fD (p + r.val + 30 - k.val) j
  | 0, hn => (none_at r j).trans (by simp)
  | n + 1, hn => by
    rw [Fin.sum_univ_castSucc]
    refine (add_tap _ _ _ r j).trans (congrArg₂ (· + ·) (back_at p hp r j n (Nat.le_of_succ_le hn)) (congrArg₂ (· * ·)
      (tap_at arg11 harg11 x9 ⟨n, hn⟩ j) ((hD _ _ _ _).trans (congrArg (fD · j) ?_))))
    show p + 30 - n + r.val = p + r.val + 30 - n
    omega
include hPr in
theorem ahead_at (p : Nat) (hp : p ≤ 960) (r : Fin 64) (j : Fin 256) : ∀ (n : Nat) (hn : n ≤ 3),
    ahead arg12 harg12 arg19 x10 P p hp n hn (ix2 r j) = ∑ k : Fin n, x10 (ix3 0 (Fin.castLE hn k) j) * fP (p + r.val + 30 + k.val) j
  | 0, hn => (none_at r j).trans (by simp)
  | n + 1, hn => by
    rw [Fin.sum_univ_castSucc]
    refine (add_tap _ _ _ r j).trans (congrArg₂ (· + ·) (ahead_at p hp r j n (Nat.le_of_succ_le hn)) (congrArg₂ (· * ·)
      (tap3_at arg12 harg12 x10 ⟨n, hn⟩ j) ((hPr _ _ _ _).trans (congrArg (fP · j) ?_))))
    show p + 30 + n + r.val = p + r.val + 30 + n
    omega
include hV in
theorem back3_at (p : Nat) (hp : p ≤ 960) (r : Fin 64) (j : Fin 256) : ∀ (n : Nat) (hn : n ≤ 3),
    back3 arg12 harg12 arg20 x10 V p hp n hn (ix2 r j) = ∑ k : Fin n, x10 (ix3 0 (Fin.castLE hn k) j) * fV (p + r.val + 2 - k.val) j
  | 0, hn => (none_at r j).trans (by simp)
  | n + 1, hn => by
    rw [Fin.sum_univ_castSucc]
    refine (add_tap _ _ _ r j).trans (congrArg₂ (· + ·) (back3_at p hp r j n (Nat.le_of_succ_le hn)) (congrArg₂ (· * ·)
      (tap3_at arg12 harg12 x10 ⟨n, hn⟩ j) ((hV _ _ _ _).trans (congrArg (fV · j) ?_))))
    show p + 2 - n + r.val = p + r.val + 2 - n
    omega

theorem stored_at (v : FVec Ideal S64x256 .f32) (r : Fin 64) (j : Fin 256) : stored v (ix3 (0 : Fin 1) r j) = v (ix2 r j) := by
  pointwise [stored]
theorem turned_at (v g x : FVec Ideal S64x256 .f32) (r : Fin 64) (j : Fin 256) : turned v g x (ix2 r j)
    = x (ix2 r j) * v (ix2 r j) * Ideal.logistic (g (ix2 r j)) * (1 - Ideal.logistic (g (ix2 r j))) := by
  pointwise [turned]
theorem passed_at (v : FVec Ideal S1024x256 .bf16) (p : Fin 1024) (j : Fin 256) : passed v (ix3 (0 : Fin 1) p j) = v (ix2 p j) := by
  pointwise [passed]

/-- What the block stores of its seven groups. -/
def stores (p : Fin 1024) (j : Fin 256) : Fin 7 → EReal :=
  ![(∑ k : Fin 31, x9 (ix3 0 k j) * fD (p.val + 30 - k.val) j) * Ideal.logistic (x0 (ix3 1 p j)),
    (∑ k : Fin 31, x9 (ix3 0 k j) * fD (p.val + 30 - k.val) j) * x0 (ix3 0 p j) * Ideal.logistic (x0 (ix3 1 p j))
      * (1 - Ideal.logistic (x0 (ix3 1 p j))),
    x5 (ix2 p j) * ∑ k : Fin 3, x10 (ix3 0 k j) * fP (p.val + 30 + k.val) j,
    (∑ k : Fin 3, x10 (ix3 0 k j) * fV (p.val + 2 - k.val) j) * x0 (ix3 4 p j),
    (∑ k : Fin 3, x10 (ix3 0 k j) * fV (p.val + 2 - k.val) j) * x0 (ix3 3 p j),
    x7 (ix2 p j), x8 (ix2 p j)]

/-- One store of 64 rows of a group, and of a whole group: what lies there, and elsewhere. -/
theorem part_hit (M : List (View.Piece (Elt Ideal) S7x1024x256 .bf16)) (w : S1x64x256.Idx → Elt Ideal .bf16) (k : Fin 7) (o : Nat) (ho : o ≤ 960)
    (p : Fin 1024) (j : Fin 256) (h : o ≤ p.val) (h' : p.val < o + 64) :
    View.canon (⟨Rect.unit (s := S7x1024x256) ![k.val, o, 0] S1x64x256.size (fits_stored k ho), w⟩ :: M) (ix3 k p j)
      = w (ix3 (0 : Fin 1) (⟨p.val - o, by omega⟩ : Fin 64) j) := by
  refine Eq.trans (congrArg (View.canon _) (?_ : ix3 k p j = Rect.emb (Rect.unit (s := S7x1024x256) ![k.val, o, 0]
    S1x64x256.size (fits_stored k ho)) (ix3 (0 : Fin 1) (⟨p.val - o, by omega⟩ : Fin 64) j))) (View.canon_cons_emb _ _ _ _)
  funext a; apply Fin.ext; fin_cases a <;> simp [ix3, h]
theorem part_miss (M : List (View.Piece (Elt Ideal) S7x1024x256 .bf16)) (w : S1x64x256.Idx → Elt Ideal .bf16) (k l : Fin 7) (o : Nat) (ho : o ≤ 960)
    (p : Fin 1024) (j : Fin 256) (h : l ≠ k ∨ p.val < o) :
    View.canon (⟨Rect.unit (s := S7x1024x256) ![k.val, o, 0] S1x64x256.size (fits_stored k ho), w⟩ :: M) (ix3 l p j)
      = View.canon M (ix3 l p j) := by
  refine View.canon_cons_of_not_mem _ _ ?_
  rcases h with h | h
  · refine Rect.not_mem_set_of_axis _ _ 0 k.val 1 rfl rfl rfl ?_
    show l.val < k.val ∨ k.val + 1 ≤ l.val
    have := Fin.val_ne_of_ne h
    omega
  · exact Rect.not_mem_set_of_axis _ _ 1 o 64 rfl rfl rfl (Or.inl h)
theorem whole_hit (M : List (View.Piece (Elt Ideal) S7x1024x256 .bf16)) (w : S1x1024x256.Idx → Elt Ideal .bf16) (k : Fin 7)
    (p : Fin 1024) (j : Fin 256) :
    View.canon (⟨Rect.unit (s := S7x1024x256) ![k.val, 0, 0] S1x1024x256.size (fits_whole k), w⟩ :: M) (ix3 k p j)
      = w (ix3 (0 : Fin 1) p j) := by
  refine Eq.trans (congrArg (View.canon _) (?_ : ix3 k p j = Rect.emb (Rect.unit (s := S7x1024x256) ![k.val, 0, 0]
    S1x1024x256.size (fits_whole k)) (ix3 (0 : Fin 1) p j))) (View.canon_cons_emb _ _ _ _)
  funext a; apply Fin.ext; fin_cases a <;> simp [ix3]
theorem whole_miss (M : List (View.Piece (Elt Ideal) S7x1024x256 .bf16)) (w : S1x1024x256.Idx → Elt Ideal .bf16) (k l : Fin 7)
    (p : Fin 1024) (j : Fin 256) (h : l ≠ k) :
    View.canon (⟨Rect.unit (s := S7x1024x256) ![k.val, 0, 0] S1x1024x256.size (fits_whole k), w⟩ :: M) (ix3 l p j)
      = View.canon M (ix3 l p j) := by
  refine View.canon_cons_of_not_mem _ _ (Rect.not_mem_set_of_axis _ _ 0 k.val 1 rfl rfl rfl ?_)
  show l.val < k.val ∨ k.val + 1 ≤ l.val
  have := Fin.val_ne_of_ne h
  omega

include hD hPr hV in
theorem parts_at (j : Fin 256) : ∀ (n : Nat) (h : n ≤ 16) (k : Fin 7) (hk : k.val < 5) (p : Fin 1024), p.val < n * 64 →
    View.canon (parts arg2 harg2 arg7 harg7 arg11 harg11 arg12 harg12 arg18 arg19 arg20 x0 x5 x9 x10 D P V n h) (ix3 k p j)
      = stores x0 x5 x7 x8 x9 x10 fD fP fV p j k
  | 0, h, k, hk, p, hp => absurd hp (by omega)
  | n + 1, h, k, hk, p, hp => by
    unfold parts
    by_cases q : n * 64 ≤ p.val
    · have hp' : p.val < n * 64 + 64 := by omega
      have hb : n * 64 ≤ 960 := by omega
      have e : n * 64 + (p.val - n * 64) = p.val := Nat.add_sub_cancel' q
      have ep (h) : (⟨n * 64 + (p.val - n * 64), h⟩ : Fin 1024) = p := Fin.ext e
      have B := back_at arg11 harg11 arg18 x9 D fD hD (n * 64) hb (⟨p.val - n * 64, by omega⟩ : Fin 64) j 31 (le_refl 31)
      have C := back3_at arg12 harg12 arg20 x10 V fV hV (n * 64) hb (⟨p.val - n * 64, by omega⟩ : Fin 64) j 3 (le_refl 3)
      have E := ahead_at arg12 harg12 arg19 x10 P fP hPr (n * 64) hb (⟨p.val - n * 64, by omega⟩ : Fin 64) j 3 (le_refl 3)
      have G := fun k => group_at arg2 harg2 x0 k (n * 64) hb (⟨p.val - n * 64, by omega⟩ : Fin 64) j
      have O := outer_at arg7 harg7 x5 (n * 64) hb (⟨p.val - n * 64, by omega⟩ : Fin 64) j
      simp only [e, ep] at B C E G O
      obtain rfl | rfl | rfl | rfl | rfl : k = 0 ∨ k = 1 ∨ k = 2 ∨ k = 3 ∨ k = 4 := by omega
      · rw [part_miss _ _ 4 0 _ hb _ _ (Or.inl (by decide)), part_miss _ _ 3 0 _ hb _ _ (Or.inl (by decide)),
          part_miss _ _ 2 0 _ hb _ _ (Or.inl (by decide)), part_miss _ _ 1 0 _ hb _ _ (Or.inl (by decide)), part_hit _ _ 0 _ hb _ _ q hp']
        exact (stored_at _ _ _).trans (congrArg₂ (fun a b => a * Ideal.logistic b) B (G 1))
      · rw [part_miss _ _ 4 1 _ hb _ _ (Or.inl (by decide)), part_miss _ _ 3 1 _ hb _ _ (Or.inl (by decide)),
          part_miss _ _ 2 1 _ hb _ _ (Or.inl (by decide)), part_hit _ _ 1 _ hb _ _ q hp']
        refine (stored_at _ _ _).trans ((turned_at _ _ _ _ _).trans ?_)
        rw [B, G 0, G 1]
        rfl
      · rw [part_miss _ _ 4 2 _ hb _ _ (Or.inl (by decide)), part_miss _ _ 3 2 _ hb _ _ (Or.inl (by decide)), part_hit _ _ 2 _ hb _ _ q hp']
        exact (stored_at _ _ _).trans (congrArg₂ (· * ·) O E)
      · rw [part_miss _ _ 4 3 _ hb _ _ (Or.inl (by decide)), part_hit _ _ 3 _ hb _ _ q hp']
        exact (stored_at _ _ _).trans (congrArg₂ (· * ·) C (G 4))
      · rw [part_hit _ _ 4 _ hb _ _ q hp']
        exact (stored_at _ _ _).trans (congrArg₂ (· * ·) C (G 3))
    · have hb : n * 64 ≤ 960 := by omega
      rw [part_miss _ _ 4 k _ hb _ _ (Or.inr (by omega)), part_miss _ _ 3 k _ hb _ _ (Or.inr (by omega)),
        part_miss _ _ 2 k _ hb _ _ (Or.inr (by omega)), part_miss _ _ 1 k _ hb _ _ (Or.inr (by omega)),
        part_miss _ _ 0 k _ hb _ _ (Or.inr (by omega))]
      exact parts_at j n (Nat.le_of_succ_le h) k hk p (by omega)

include hD hPr hV in
theorem allParts_at (k : Fin 7) (p : Fin 1024) (j : Fin 256) :
    View.canon (allParts arg2 harg2 arg7 harg7 arg9 harg9 arg10 harg10 arg11 harg11 arg12 harg12 arg18 arg19 arg20 x0 x5 x7 x8 x9 x10 D P V)
      (ix3 k p j) = stores x0 x5 x7 x8 x9 x10 fD fP fV p j k := by
  unfold allParts
  by_cases h6 : k = 6
  · subst h6
    rw [whole_hit]
    exact (passed_at _ p j).trans (grad_at arg10 harg10 x8 _ p j)
  by_cases h5 : k = 5
  · subst h5
    rw [whole_miss _ _ 6 5 _ _ (by decide), whole_hit]
    exact (passed_at _ p j).trans (grad_at arg9 harg9 x7 _ p j)
  rw [whole_miss _ _ 6 k _ _ h6, whole_miss _ _ 5 k _ _ h5]
  exact parts_at arg2 harg2 arg7 harg7 arg11 harg11 arg12 harg12 arg18 arg19 arg20 x0 x5 x7 x8 x9 x10 D P V fD fP fV hD hPr hV j 16
    (le_refl 16) k (by omega) p (by omega)

end Parts

/-- The gradient of the bias: what was there, and the sum over the rows. -/
theorem bias_at (v : FVec Ideal S1x256 .f32) (w : FVec Ideal S1x1024x256 .f32) (j : Fin 256) :
    k0_pay35 (F := Ideal) v w (ix2 0 j) = v (ix2 0 j) + ∑ p : Fin 1024, w (ix3 0 p j) := by pointwise [k0_pay35]
/-- A filter's gradient: the sum over the rows of eight. -/
theorem filter_at (v : FVec Ideal S31x8x256 .f32) (k : Fin 31) (j : Fin 256) :
    k0_pay3 (F := Ideal) v (ix3 0 k j) = ∑ r : Fin 8, v (ix3 k r j) := by pointwise [k0_pay3]
theorem filter3_at (v : FVec Ideal S3x8x256 .f32) (k : Fin 3) (j : Fin 256) :
    k0_pay4 (F := Ideal) v (ix3 0 k j) = ∑ r : Fin 8, v (ix3 k r j) := by pointwise [k0_pay4]

end Cert.ConvIdeal.Parts

end
-- ==== Proof.ConvPoint.lean ====
/- What a block leaves in each of its results and in its sums, entry by entry. -/
module

public import proofs.«01_k».proof.Proof.ConvRunA
public import proofs.«01_k».proof.Proof.ConvRunB
public import proofs.«01_k».proof.Proof.ConvRunC
public import proofs.«01_k».proof.Proof.ConvSums

@[expose] public section

set_option maxRecDepth 100000

noncomputable section

namespace Cert.ConvIdeal.Parts

open Idealize.ShloMosaic Idealize.ShloMosaic.TcCoe Idealize.SL.Sem Cert.ConvIdeal Cert.ConvIdeal.Gen

section Block
variable (c : Dev nD) (i : grid0.Coords)
  (arg2 : Memref sig .tc .vmem S5x1024x256 .bf16) (harg2 : arg2.IsWhole) (arg3 : Memref sig .tc .vmem S5x32x256 .bf16) (harg3 : arg3.IsWhole)
  (arg4 : Memref sig .tc .vmem S5x32x256 .bf16) (harg4 : arg4.IsWhole) (arg5 : Memref sig .tc .vmem S1024x256 .bf16) (harg5 : arg5.IsWhole)
  (arg6 : Memref sig .tc .vmem S32x256 .bf16) (harg6 : arg6.IsWhole) (arg7 : Memref sig .tc .vmem S1024x256 .bf16) (harg7 : arg7.IsWhole)
  (arg8 : Memref sig .tc .vmem S32x256 .bf16) (harg8 : arg8.IsWhole) (arg9 : Memref sig .tc .vmem S1024x256 .bf16) (harg9 : arg9.IsWhole)
  (arg10 : Memref sig .tc .vmem S1024x256 .bf16) (harg10 : arg10.IsWhole) (arg11 : Memref sig .tc .vmem S1x31x256 .f32) (harg11 : arg11.IsWhole)
  (arg12 : Memref sig .tc .vmem S1x3x256 .f32) (harg12 : arg12.IsWhole) (arg13 : Memref sig .tc .vmem S7x1024x256 .bf16) (harg13 : arg13.IsWhole)
  (arg14 : Memref sig .tc .vmem S1x31x256 .f32) (harg14 : arg14.IsWhole) (arg15 : Memref sig .tc .vmem S1x256 .f32) (harg15 : arg15.IsWhole)
  (arg16 : Memref sig .tc .vmem S1x3x256 .f32) (harg16 : arg16.IsWhole) (arg17 : Memref sig .tc .vmem S8x1056x256 .f32) (harg17 : arg17.IsWhole)
  (arg18 : Memref sig .tc .vmem S8x1056x256 .f32) (harg18 : arg18.IsWhole) (arg19 : Memref sig .tc .vmem S1056x256 .f32) (harg19 : arg19.IsWhole)
  (arg20 : Memref sig .tc .vmem S1056x256 .f32) (harg20 : arg20.IsWhole) (arg21 : Memref sig .tc .vmem S31x8x256 .f32) (harg21 : arg21.IsWhole)
  (arg22 : Memref sig .tc .vmem S3x8x256 .f32) (harg22 : arg22.IsWhole)
  (x0 : Vec Ideal S5x1024x256 .bf16) (x1 x2 : Vec Ideal S5x32x256 .bf16) (x3 : Vec Ideal S1024x256 .bf16) (x4 : Vec Ideal S32x256 .bf16)
  (x5 : Vec Ideal S1024x256 .bf16) (x6 : Vec Ideal S32x256 .bf16) (x7 x8 : Vec Ideal S1024x256 .bf16) (x9 : Vec Ideal S1x31x256 .f32)
  (x10 : Vec Ideal S1x3x256 .f32) (xo13 : Vec Ideal S1x256 .f32) (xs4 : Vec Ideal S31x8x256 .f32) (xs5 : Vec Ideal S3x8x256 .f32)

/-- 64 rows of what the block keeps: of the gated values and the gradient in their copies, of the products and their gradient. -/
theorem gateds_at (o : Nat) (ho : o ≤ 992) (r : Fin 64) (j : Fin 256) :
    window arg17 (gateds c i arg2 harg2 arg3 harg3 arg17 x0 x1) o ho (ix2 r j) = gatedRow i x0 x1 (o + r.val) j :=
  window_at arg17 _ (gatedRow i x0 x1) (gated_first c i arg2 harg2 arg3 harg3 x0 x1) o ho r j
theorem grads_at (o : Nat) (ho : o ≤ 992) (r : Fin 64) (j : Fin 256) :
    window arg18 (grads c i arg5 harg5 arg6 harg6 arg18 x3 x4) o ho (ix2 r j) = gradRow i x3 x4 (o + r.val) j :=
  window_at arg18 _ (gradRow i x3 x4) (grad_first c i arg5 harg5 arg6 harg6 x3 x4) o ho r j
theorem prods_rows (o : Nat) (ho : o ≤ 992) (r : Fin 64) (j : Fin 256) :
    rows arg19 (prods c i arg2 harg2 arg3 harg3 x0 x1) o ho (ix2 r j) = productRow i x0 x1 (o + r.val) j :=
  rows_at arg19 _ (productRow i x0 x1) (products_at c i arg2 harg2 arg3 harg3 x0 x1) o ho r j
theorem outers_rows (o : Nat) (ho : o ≤ 992) (r : Fin 64) (j : Fin 256) :
    rows arg20 (outers c i arg2 harg2 arg4 harg4 arg7 harg7 arg8 harg8 x0 x2 x5 x6) o ho (ix2 r j)
      = outerRow i x0 x2 x5 x6 (o + r.val) j :=
  rows_at arg20 _ (outerRow i x0 x2 x5 x6) (outers_at c i arg2 harg2 arg4 harg4 arg7 harg7 arg8 harg8 x0 x2 x5 x6) o ho r j

/-- The seven groups. -/
theorem stored_parts {L : List (View.Piece (Elt Ideal) S7x1024x256 .bf16)}
    (h : L = allParts arg2 harg2 arg7 harg7 arg9 harg9 arg10 harg10 arg11 harg11 arg12 harg12 arg18 arg19 arg20 x0 x5 x7 x8 x9 x10
      (grads c i arg5 harg5 arg6 harg6 arg18 x3 x4) (prods c i arg2 harg2 arg3 harg3 x0 x1)
      (outers c i arg2 harg2 arg4 harg4 arg7 harg7 arg8 harg8 x0 x2 x5 x6)) (k : Fin 7) (p : Fin 1024) (j : Fin 256) :
    VO0_11.read (Elt Ideal) (VO0_11.writes (Elt Ideal) VO0_11.junk L) (ix3 k p j)
      = stores x0 x5 x7 x8 x9 x10 (gradRow i x3 x4) (productRow i x0 x1) (outerRow i x0 x2 x5 x6) p j k := by
  rw [View.read_writes_junk_eq_canon, h]
  exact allParts_at arg2 harg2 arg7 harg7 arg9 harg9 arg10 harg10 arg11 harg11 arg12 harg12 arg18 arg19 arg20 x0 x5 x7 x8 x9 x10
    _ _ _ _ _ _ (grads_at c i arg5 harg5 arg6 harg6 arg18 x3 x4) (prods_rows c i arg2 harg2 arg3 harg3 arg19 x0 x1)
    (outers_rows c i arg2 harg2 arg4 harg4 arg7 harg7 arg8 harg8 arg20 x0 x2 x5 x6) k p j

/-- The sum of the gradient over the rows, by a block that begins it and by one that goes on. -/
theorem grads_whole (p : Fin 1024) (j : Fin 256) : arg18.view.readCov (grads c i arg5 harg5 arg6 harg6 arg18 x3 x4)
    (Rect.unit (s := S8x1056x256) ![0, 0, 0] S1x1024x256.size inb_S8x1056x256_S1x1024x256_0_0_0).toLoadRect (ix3 (0 : Fin 1) p j)
      = gradRow i x3 x4 p.val j := by
  rw [View.readCov_eq_canon']
  refine Eq.trans (congrArg (View.canon _) (?_ : _ = ix3 (0 : Fin 8) (⟨p.val, by omega⟩ : Fin 1056) j))
    ((copies_at arg18 _ (gradRow i x3 x4) (grad_first c i arg5 harg5 arg6 harg6 x3 x4) 7 (le_refl 7) 0 ⟨p.val, by omega⟩ j
      (Nat.zero_le _) (Or.inl rfl)).trans (congrArg (gradRow i x3 x4 · j) (Nat.zero_add _)))
  funext a; apply Fin.ext; fin_cases a <;> simp [ix3]
theorem sum_first (M : List (View.Piece (Elt Ideal) S1x256 .f32)) (w : FVec Ideal S1x256 .f32) (j : Fin 256) :
    View.canon (⟨Rect.unit (s := S1x256) ![0, 0] S1x256.size inb_S1x256_S1x256_0_0, w⟩ :: M) (ix2 0 j) = w (ix2 0 j) := by
  refine Eq.trans (congrArg (View.canon _) (?_ : ix2 0 j = Rect.emb (Rect.unit (s := S1x256) ![0, 0] S1x256.size
    inb_S1x256_S1x256_0_0) (ix2 0 j))) (View.canon_cons_emb _ _ _ _)
  funext a; apply Fin.ext; fin_cases a <;> simp [ix2]
theorem begun_bias {L : List (View.Piece (Elt Ideal) S1x256 .f32)} (h : L
    = [⟨(Rect.unit (s := S1x256) ![0, 0] S1x256.size inb_S1x256_S1x256_0_0), k0_pay35 (F := Ideal) (arg15.view.readCov [⟨(Rect.unit (s := S1x256) ![0, 0] S1x256.size inb_S1x256_S1x256_0_0), k0_pay9 (F := Ideal)⟩]
      (Rect.unit (s := S1x256) ![0, 0] S1x256.size inb_S1x256_S1x256_0_0).toLoadRect) (arg18.view.readCov (grads c i arg5 harg5 arg6 harg6 arg18 x3 x4)
        (Rect.unit (s := S8x1056x256) ![0, 0, 0] S1x1024x256.size inb_S8x1056x256_S1x1024x256_0_0_0).toLoadRect)⟩,
      ⟨(Rect.unit (s := S1x256) ![0, 0] S1x256.size inb_S1x256_S1x256_0_0), k0_pay9 (F := Ideal)⟩]) (j : Fin 256) :
    VO0_13.read (Elt Ideal) (VO0_13.writes (Elt Ideal) VO0_13.junk L) (ix2 0 j) = 0 + ∑ p : Fin 1024, gradRow i x3 x4 p.val j := by
  rw [View.read_writes_junk_eq_canon, h]
  refine (sum_first _ _ j).trans ((bias_at _ _ j).trans (congrArg₂ (· + ·) ?_ (Finset.sum_congr rfl fun p _ =>
    grads_whole c i arg5 harg5 arg6 harg6 arg18 x3 x4 p j)))
  rw [View.readCov_eq_canon']
  refine Eq.trans (congrArg (View.canon _) (?_ : _ = ix2 0 j)) ((sum_first _ _ j).trans (by pointwise [k0_pay9]))
  funext a; apply Fin.ext; fin_cases a <;> simp [ix2]
theorem next_bias {L : List (View.Piece (Elt Ideal) S1x256 .f32)} (h : L
    = [⟨(Rect.unit (s := S1x256) ![0, 0] S1x256.size inb_S1x256_S1x256_0_0), k0_pay35 (F := Ideal) (View.readAt (Elt Ideal) arg15.view
      (Rect.unit (s := S1x256) ![0, 0] S1x256.size inb_S1x256_S1x256_0_0).toLoadRect (harg15.unread xo13)) (arg18.view.readCov (grads c i arg5 harg5 arg6 harg6 arg18 x3 x4)
        (Rect.unit (s := S8x1056x256) ![0, 0, 0] S1x1024x256.size inb_S8x1056x256_S1x1024x256_0_0_0).toLoadRect)⟩]) (j : Fin 256) :
    VO0_13.read (Elt Ideal) (VO0_13.writes (Elt Ideal) VO0_13.junk L) (ix2 0 j)
      = xo13 (ix2 0 j) + ∑ p : Fin 1024, gradRow i x3 x4 p.val j := by
  rw [View.read_writes_junk_eq_canon, h]
  exact (sum_first _ _ j).trans ((bias_at _ _ j).trans (congrArg₂ (· + ·) ((harg15.readAt_unread _ _ _).trans
    (congrArg xo13 (funext fun a => Fin.ext (by fin_cases a <;> simp [ix2])))) (Finset.sum_congr rfl fun p _ =>
    grads_whole c i arg5 harg5 arg6 harg6 arg18 x3 x4 p j)))

/-- The sums of the two filters' taps, by a block that begins them and by one that goes on. -/
theorem begun_taps {L : Sums} (h : L = tapsAll arg17 arg18 arg21
      (gateds c i arg2 harg2 arg3 harg3 arg17 x0 x1) (grads c i arg5 harg5 arg6 harg6 arg18 x3 x4) zeros 0 16 (le_refl 16))
    (k : Fin 31) (r : Fin 8) (j : Fin 256) : VS0_4.read (Elt Ideal) (VS0_4.writes (Elt Ideal) VS0_4.junk L) (ix3 k r j)
      = 0 + whole (gradRow i x3 x4) (gatedRow i x0 x1) (2 + k.val) r j := by
  rw [View.read_writes_junk_eq_canon, h, zero_add]
  exact begun_at arg17 arg18 arg21 _ _ _ _ (gateds_at c i arg2 harg2 arg3 harg3 arg17 x0 x1)
    (grads_at c i arg5 harg5 arg6 harg6 arg18 x3 x4) k r j
theorem next_taps {L : Sums} (h : L = tapsAll arg17 arg18 arg21
      (gateds c i arg2 harg2 arg3 harg3 arg17 x0 x1) (grads c i arg5 harg5 arg6 harg6 arg18 x3 x4) (tapsFirst arg17 arg18 arg21 harg21 xs4
      (gateds c i arg2 harg2 arg3 harg3 arg17 x0 x1) (grads c i arg5 harg5 arg6 harg6 arg18 x3 x4) 31 (le_refl 31)) 1 15 (le_refl 16))
    (k : Fin 31) (r : Fin 8) (j : Fin 256) : VS0_4.read (Elt Ideal) (VS0_4.writes (Elt Ideal) VS0_4.junk L) (ix3 k r j)
      = xs4 (ix3 k r j) + whole (gradRow i x3 x4) (gatedRow i x0 x1) (2 + k.val) r j := by
  rw [View.read_writes_junk_eq_canon, h]
  exact gone_at arg17 arg18 arg21 harg21 xs4 _ _ _ _ (gateds_at c i arg2 harg2 arg3 harg3 arg17 x0 x1)
    (grads_at c i arg5 harg5 arg6 harg6 arg18 x3 x4) k r j
theorem begun_taps3 {L : Sums3} (h : L = tapsAll3 arg19 arg20 arg22 (prods c i arg2 harg2 arg3 harg3 x0 x1)
      (outers c i arg2 harg2 arg4 harg4 arg7 harg7 arg8 harg8 x0 x2 x5 x6) zeros3 0 16 (le_refl 16))
    (k : Fin 3) (r : Fin 8) (j : Fin 256) : VS0_5.read (Elt Ideal) (VS0_5.writes (Elt Ideal) VS0_5.junk L) (ix3 k r j)
      = 0 + whole (outerRow i x0 x2 x5 x6) (productRow i x0 x1) (30 + k.val) r j := by
  rw [View.read_writes_junk_eq_canon, h, zero_add]
  exact begun3_at arg19 arg20 arg22 _ _ _ _ (prods_rows c i arg2 harg2 arg3 harg3 arg19 x0 x1)
    (outers_rows c i arg2 harg2 arg4 harg4 arg7 harg7 arg8 harg8 arg20 x0 x2 x5 x6) k r j
theorem next_taps3 {L : Sums3} (h : L = tapsAll3 arg19 arg20 arg22 (prods c i arg2 harg2 arg3 harg3 x0 x1)
      (outers c i arg2 harg2 arg4 harg4 arg7 harg7 arg8 harg8 x0 x2 x5 x6) (tapsFirst3 arg19 arg20 arg22 harg22 xs5 (prods c i arg2 harg2 arg3 harg3 x0 x1)
      (outers c i arg2 harg2 arg4 harg4 arg7 harg7 arg8 harg8 x0 x2 x5 x6) 3 (le_refl 3)) 1 15 (le_refl 16))
    (k : Fin 3) (r : Fin 8) (j : Fin 256) : VS0_5.read (Elt Ideal) (VS0_5.writes (Elt Ideal) VS0_5.junk L) (ix3 k r j)
      = xs5 (ix3 k r j) + whole (outerRow i x0 x2 x5 x6) (productRow i x0 x1) (30 + k.val) r j := by
  rw [View.read_writes_junk_eq_canon, h]
  exact gone3_at arg19 arg20 arg22 harg22 xs5 _ _ _ _ (prods_rows c i arg2 harg2 arg3 harg3 arg19 x0 x1)
    (outers_rows c i arg2 harg2 arg4 harg4 arg7 harg7 arg8 harg8 arg20 x0 x2 x5 x6) k r j

/-- The filters' gradients: what is kept of each tap, summed over the eight rows. -/
theorem last_filter {L : List (View.Piece (Elt Ideal) S1x31x256 .f32)}
    (h : L = [⟨Rect.unit (s := S1x31x256) ![0, 0, 0] S1x31x256.size inb_S1x31x256_S1x31x256_0_0_0,
      k0_pay3 (F := Ideal) (arg21.view.readCov (tapsAll arg17 arg18 arg21
      (gateds c i arg2 harg2 arg3 harg3 arg17 x0 x1) (grads c i arg5 harg5 arg6 harg6 arg18 x3 x4) (tapsFirst arg17 arg18 arg21 harg21 xs4
      (gateds c i arg2 harg2 arg3 harg3 arg17 x0 x1) (grads c i arg5 harg5 arg6 harg6 arg18 x3 x4) 31 (le_refl 31)) 1 15 (le_refl 16)) (Rect.unit (s := S31x8x256) ![0, 0, 0] S31x8x256.size inb_S31x8x256_S31x8x256_0_0_0).toLoadRect)⟩])
    (k : Fin 31) (j : Fin 256) : VO0_12.read (Elt Ideal) (VO0_12.writes (Elt Ideal) VO0_12.junk L) (ix3 0 k j)
      = ∑ r : Fin 8, (xs4 (ix3 k r j) + whole (gradRow i x3 x4) (gatedRow i x0 x1) (2 + k.val) r j) := by
  rw [View.read_writes_junk_eq_canon, h]
  refine Eq.trans (congrArg (View.canon _) (?_ : ix3 0 k j = Rect.emb (Rect.unit (s := S1x31x256) ![0, 0, 0] S1x31x256.size
    inb_S1x31x256_S1x31x256_0_0_0) (ix3 0 k j))) ((View.canon_cons_emb _ _ _ _).trans ((filter_at _ k j).trans
    (Finset.sum_congr rfl fun r _ => ?_)))
  · funext a; apply Fin.ext; fin_cases a <;> simp [ix3]
  · rw [View.readCov_eq_canon']
    refine Eq.trans (congrArg (View.canon _) (funext fun a => Fin.ext (by fin_cases a <;> simp [ix3]))) (gone_at arg17 arg18 arg21 harg21 xs4 _ _ _ _ (gateds_at c i arg2 harg2 arg3 harg3 arg17 x0 x1)
      (grads_at c i arg5 harg5 arg6 harg6 arg18 x3 x4) k r j)
theorem last_filter3 {L : List (View.Piece (Elt Ideal) S1x3x256 .f32)}
    (h : L = [⟨Rect.unit (s := S1x3x256) ![0, 0, 0] S1x3x256.size inb_S1x3x256_S1x3x256_0_0_0,
      k0_pay4 (F := Ideal) (arg22.view.readCov (tapsAll3 arg19 arg20 arg22 (prods c i arg2 harg2 arg3 harg3 x0 x1)
      (outers c i arg2 harg2 arg4 harg4 arg7 harg7 arg8 harg8 x0 x2 x5 x6) (tapsFirst3 arg19 arg20 arg22 harg22 xs5 (prods c i arg2 harg2 arg3 harg3 x0 x1)
      (outers c i arg2 harg2 arg4 harg4 arg7 harg7 arg8 harg8 x0 x2 x5 x6) 3 (le_refl 3)) 1 15 (le_refl 16)) (Rect.unit (s := S3x8x256) ![0, 0, 0] S3x8x256.size inb_S3x8x256_S3x8x256_0_0_0).toLoadRect)⟩])
    (k : Fin 3) (j : Fin 256) : VO0_14.read (Elt Ideal) (VO0_14.writes (Elt Ideal) VO0_14.junk L) (ix3 0 k j)
      = ∑ r : Fin 8, (xs5 (ix3 k r j) + whole (outerRow i x0 x2 x5 x6) (productRow i x0 x1) (30 + k.val) r j) := by
  rw [View.read_writes_junk_eq_canon, h]
  refine Eq.trans (congrArg (View.canon _) (?_ : ix3 0 k j = Rect.emb (Rect.unit (s := S1x3x256) ![0, 0, 0] S1x3x256.size
    inb_S1x3x256_S1x3x256_0_0_0) (ix3 0 k j))) ((View.canon_cons_emb _ _ _ _).trans ((filter3_at _ k j).trans
    (Finset.sum_congr rfl fun r _ => ?_)))
  · funext a; apply Fin.ext; fin_cases a <;> simp [ix3]
  · rw [View.readCov_eq_canon']
    refine Eq.trans (congrArg (View.canon _) (funext fun a => Fin.ext (by fin_cases a <;> simp [ix3]))) (gone3_at arg19 arg20 arg22 harg22 xs5 _ _ _ _ (prods_rows c i arg2 harg2 arg3 harg3 arg19 x0 x1)
      (outers_rows c i arg2 harg2 arg4 harg4 arg7 harg7 arg8 harg8 arg20 x0 x2 x5 x6) k r j)

end Block

end Cert.ConvIdeal.Parts

end
-- ==== Proof.ConvRows.lean ====
/- The backward convolutions, block by block of 1024 rows and 256 columns: which rows of the arrays a block holds. The 32 rows
   before a block and the 32 after it are those of the array, and zero outside it. -/
module

public import proofs.«01_k».proof.Proof.ConvPoint
public import proofs.«01_k».proof.Proof.ConvRefAt

@[expose] public section

set_option maxRecDepth 16384

noncomputable section

namespace Cert.ConvIdeal.Blocks

open Idealize.ShloMosaic Idealize.ShloMosaic.TcCoe Idealize.SL.Sem Cert.ConvIdeal Cert.ConvIdeal.Gen
open Idealize.ShloMosaic.Pipeline (Dat)
open Cert.ConvIdeal.Parts (gatedRow productRow gradRow outerRow)
open Cert.BackwardConv (group gate prod before later inner outer)

/-- The block that each operand has at each grid point. -/
theorem idx : ∀ t : Fin cfg0.N, win0_0.index t = ![0, t.val % 4, t.val / 4] ∧ win0_1.index t = ![0, t.val % 4 * 32 - 1, t.val / 4]
    ∧ win0_2.index t = ![0, min (t.val % 4 * 32 + 32) 127, t.val / 4]
    ∧ win0_3.index t = ![t.val % 4, t.val / 4] ∧ win0_4.index t = ![min (t.val % 4 * 32 + 32) 127, t.val / 4]
    ∧ win0_5.index t = ![t.val % 4, t.val / 4] ∧ win0_6.index t = ![min (t.val % 4 * 32 + 32) 127, t.val / 4]
    ∧ win0_7.index t = ![t.val % 4, t.val / 4] ∧ win0_8.index t = ![t.val % 4, t.val / 4]
    ∧ win0_9.index t = ![t.val / 4, 0, 0] ∧ win0_10.index t = ![t.val / 4, 0, 0]
    ∧ win0_11.index t = ![0, t.val % 4, t.val / 4] ∧ win0_12.index t = ![t.val / 4, 0, 0] ∧ win0_13.index t = ![0, t.val / 4]
    ∧ win0_14.index t = ![t.val / 4, 0, 0] ∧ (grid0.coords t 1).val = t.val % 4 :=
  (by decide +kernel : ∀ t : Fin grid0.N, _)
theorem place : ∀ t : Fin cfg0.N, (grid0.coords t 1).val = t.val % 4 := (by decide +kernel : ∀ t : Fin grid0.N, _)

variable (m : (ℓ : Loc nD τ sig) → Buf (Elt Ideal) ℓ)

/-- The array's row and column that are row `r` and column `j` of block `t`. -/
theorem lt16 (t : Fin cfg0.N) : t.val < 16 := lt_of_lt_of_eq t.isLt N_0
abbrev row (t : Fin cfg0.N) (r : Fin 1024) : Fin 4096 := ⟨t.val % 4 * 1024 + r.val, by omega⟩
abbrev col (t : Fin cfg0.N) (j : Fin 256) : Fin 1024 := ⟨t.val / 4 * 256 + j.val, by have := lt16 t; omega⟩

/-- The program's arguments: the mixer's input out of the first three, and the others. -/
abbrev Az (c : Dev nD) : FVec Ideal S4096x7168 .f32 := BackwardConv.z (m ((c : Thread nD τ).loc main_arg0))
  (m ((c : Thread nD τ).loc main_arg1)) (m ((c : Thread nD τ).loc main_arg2))
abbrev Aw (c : Dev nD) : FVec Ideal S1x31x1024 .f32 := m ((c : Thread nD τ).loc main_arg3)
abbrev Av (c : Dev nD) : FVec Ideal S1x3x1024 .f32 := m ((c : Thread nD τ).loc main_arg4)
abbrev Ada (c : Dev nD) : FVec Ideal S4096x1024 .f32 := m ((c : Thread nD τ).loc main_arg5)
abbrev Adq (c : Dev nD) : FVec Ideal S4096x1024 .f32 := m ((c : Thread nD τ).loc main_arg6)
abbrev Adga (c : Dev nD) : FVec Ideal S4096x1024 .f32 := m ((c : Thread nD τ).loc main_arg7)
abbrev Adgb (c : Dev nD) : FVec Ideal S4096x1024 .f32 := m ((c : Thread nD τ).loc main_arg8)

/-- What the kernel's call finds: the groups one after the other, and the taps by blocks of columns. -/
theorem turn (v : FVec Ideal S4096x7168 .f32) (k : Fin 7) (r : Fin 4096) (x : Fin 1024) :
    (truncf .bf16 (transpose S7x4096x1024 [1, 0, 2] (shapeCast S4096x7x1024 v shapeCasts_S4096x7168_S4096x7x1024)
      transposes_S4096x7x1024_S7x4096x1024_1_0_2) bitsLt_bf16_f32 : FVec Ideal S7x4096x1024 .bf16) (ix3 k r x) = group v k r x := by
  pointwise
theorem groups (c : Dev nD) (k : Fin 7) (r : Fin 4096) (x : Fin 1024) : V m c main_v18 (ix3 k r x) = group (Az m c) k r x := by
  unfold V
  entry_read
  exact turn _ k r x
theorem taps_wide (c : Dev nD) (b : Fin 4) (k : Fin 31) (j : Fin 256) :
    V m c main_v21 (ix3 b k j) = Aw m c (ix3 0 k (⟨b.val * 256 + j.val, by omega⟩ : Fin 1024)) := by
  unfold V
  entry_read
  pointwise
theorem taps_narrow (c : Dev nD) (b : Fin 4) (k : Fin 3) (j : Fin 256) :
    V m c main_v24 (ix3 b k j) = Av m c (ix3 0 k (⟨b.val * 256 + j.val, by omega⟩ : Fin 1024)) := by
  unfold V
  entry_read
  pointwise
theorem grads5 (c : Dev nD) (r : Fin 4096) (x : Fin 1024) : V m c main_v25 (ix2 r x) = Ada m c (ix2 r x) := by
  unfold V
  entry_read
  pointwise
theorem grads6 (c : Dev nD) (r : Fin 4096) (x : Fin 1024) : V m c main_v26 (ix2 r x) = Adq m c (ix2 r x) := by
  unfold V
  entry_read
  pointwise
theorem grads7 (c : Dev nD) (r : Fin 4096) (x : Fin 1024) : V m c main_v27 (ix2 r x) = Adga m c (ix2 r x) := by
  unfold V
  entry_read
  pointwise
theorem grads8 (c : Dev nD) (r : Fin 4096) (x : Fin 1024) : V m c main_v28 (ix2 r x) = Adgb m c (ix2 r x) := by
  unfold V
  entry_read
  pointwise

/-- What each operand's block holds at a point. -/
theorem read0 (c : Dev nD) (t : Fin cfg0.N) (k : Fin 5) (r : Fin 1024) (j : Fin 256) :
    X0_0 m c t (ix3 k r j) = group (Az m c) (Fin.castLE (by decide) k) (row t r) (col t j) := by
  refine Eq.trans ?_ (groups m c _ _ _)
  unfold X0_0 Pipeline.Window.fill
  rw [dif_pos (moved0_0 t _)]
  blk_point [iblk, idx t]
  rfl
theorem read1 (c : Dev nD) (t : Fin cfg0.N) (k : Fin 5) (r : Fin 32) (j : Fin 256) :
    X0_1 m c t (ix3 k r j) = group (Az m c) (Fin.castLE (by decide) k)
      (⟨(t.val % 4 * 32 - 1) * 32 + r.val, by omega⟩ : Fin 4096) (col t j) := by
  refine Eq.trans ?_ (groups m c _ _ _)
  unfold X0_1 Pipeline.Window.fill
  rw [dif_pos (moved0_1 t _)]
  blk_point [iblk, idx t]
  rfl
abbrev next (t : Fin cfg0.N) (r : Fin 32) : Fin 4096 := ⟨min (t.val % 4 * 32 + 32) 127 * 32 + r.val, by omega⟩
theorem read2 (c : Dev nD) (t : Fin cfg0.N) (k : Fin 5) (r : Fin 32) (j : Fin 256) :
    X0_2 m c t (ix3 k r j) = group (Az m c) (Fin.castLE (by decide) k) (next t r) (col t j) := by
  refine Eq.trans ?_ (groups m c _ _ _)
  unfold X0_2 Pipeline.Window.fill
  rw [dif_pos (moved0_2 t _)]
  blk_point [iblk, idx t]
  rfl
theorem read3 (c : Dev nD) (t : Fin cfg0.N) (r : Fin 1024) (j : Fin 256) : iblk m c 3 t (ix2 r j) = Ada m c (ix2 (row t r) (col t j)) := by
  refine Eq.trans ?_ (grads5 m c _ _)
  blk_point [iblk, idx t]
theorem read4 (c : Dev nD) (t : Fin cfg0.N) (r : Fin 32) (j : Fin 256) : iblk m c 4 t (ix2 r j) = Ada m c (ix2 (next t r) (col t j)) := by
  refine Eq.trans ?_ (grads5 m c _ _)
  blk_point [iblk, idx t]
theorem read5 (c : Dev nD) (t : Fin cfg0.N) (r : Fin 1024) (j : Fin 256) : iblk m c 5 t (ix2 r j) = Adq m c (ix2 (row t r) (col t j)) := by
  refine Eq.trans ?_ (grads6 m c _ _)
  blk_point [iblk, idx t]
theorem read6 (c : Dev nD) (t : Fin cfg0.N) (r : Fin 32) (j : Fin 256) : iblk m c 6 t (ix2 r j) = Adq m c (ix2 (next t r) (col t j)) := by
  refine Eq.trans ?_ (grads6 m c _ _)
  blk_point [iblk, idx t]
theorem read7 (c : Dev nD) (t : Fin cfg0.N) (r : Fin 1024) (j : Fin 256) : iblk m c 7 t (ix2 r j) = Adga m c (ix2 (row t r) (col t j)) := by
  refine Eq.trans ?_ (grads7 m c _ _)
  blk_point [iblk, idx t]
theorem read8 (c : Dev nD) (t : Fin cfg0.N) (r : Fin 1024) (j : Fin 256) : iblk m c 8 t (ix2 r j) = Adgb m c (ix2 (row t r) (col t j)) := by
  refine Eq.trans ?_ (grads8 m c _ _)
  blk_point [iblk, idx t]
theorem read9 (c : Dev nD) (t : Fin cfg0.N) (k : Fin 31) (j : Fin 256) : iblk m c 9 t (ix3 0 k j) = Aw m c (ix3 0 k (col t j)) := by
  refine Eq.trans ?_ (taps_wide m c (⟨t.val / 4, by have := lt16 t; omega⟩ : Fin 4) k j)
  blk_point [iblk, idx t]
theorem read10 (c : Dev nD) (t : Fin cfg0.N) (k : Fin 3) (j : Fin 256) : iblk m c 10 t (ix3 0 k j) = Av m c (ix3 0 k (col t j)) := by
  refine Eq.trans ?_ (taps_narrow m c (⟨t.val / 4, by have := lt16 t; omega⟩ : Fin 4) k j)
  blk_point [iblk, idx t]

/-- The rows before a block count except for the array's first block, and those after it except for its last. -/
theorem word_zero : (((0#32 : BitVec 32).toInt : ℝ) : EReal) = 0 := by norm_num
theorem word_one : (((1#32 : BitVec 32).toInt : ℝ) : EReal) = 1 := by norm_num
theorem keep5 (n : Nat) (b : BitVec 32) (h : (Scalar.extui (Scalar.cmpi CmpIPredicate.sgt (BitVec.ofNat 32 n) 0#32) : BitVec 32) = b)
    (i : grid0.Coords) (hi : (i 1).val = n) : k0_pay5 (F := Ideal) i = ((b.toInt : ℝ) : EReal) := by
  subst hi h
  rfl
theorem keep6 (n : Nat) (b : BitVec 32) (h : (Scalar.extui (Scalar.cmpi CmpIPredicate.slt (BitVec.ofNat 32 n) 3#32) : BitVec 32) = b)
    (i : grid0.Coords) (hi : (i 1).val = n) : k0_pay6 (F := Ideal) i = ((b.toInt : ℝ) : EReal) := by
  subst hi h
  rfl
theorem before_first (i : grid0.Coords) (h : (i 1).val = 0) : k0_pay5 (F := Ideal) i = 0 :=
  (keep5 0 0#32 (by decide) i h).trans word_zero
theorem before_later (i : grid0.Coords) (h : (i 1).val ≠ 0) : k0_pay5 (F := Ideal) i = 1 := by
  have hi : (i 1).val < 4 := (i 1).isLt
  have e : (i 1).val = 1 ∨ (i 1).val = 2 ∨ (i 1).val = 3 := by omega
  rcases e with e | e | e
  · exact (keep5 1 1#32 (by decide) i e).trans word_one
  · exact (keep5 2 1#32 (by decide) i e).trans word_one
  · exact (keep5 3 1#32 (by decide) i e).trans word_one
theorem after_last (i : grid0.Coords) (h : (i 1).val = 3) : k0_pay6 (F := Ideal) i = 0 :=
  (keep6 3 0#32 (by decide) i h).trans word_zero
theorem after_earlier (i : grid0.Coords) (h : (i 1).val ≠ 3) : k0_pay6 (F := Ideal) i = 1 := by
  have hi : (i 1).val < 4 := (i 1).isLt
  have e : (i 1).val = 0 ∨ (i 1).val = 1 ∨ (i 1).val = 2 := by omega
  rcases e with e | e | e
  · exact (keep6 0 1#32 (by decide) i e).trans word_one
  · exact (keep6 1 1#32 (by decide) i e).trans word_one
  · exact (keep6 2 1#32 (by decide) i e).trans word_one

/-- So a block's rows are rows of the array moved down, and of the array with zeros after its last row. -/
theorem rows_before (t : Fin cfg0.N) (f : Fin 4096 → EReal) (p : Nat) (hp : p < 1056) (v : EReal)
    (halo : ∀ h : p < 32, v = f (⟨(t.val % 4 * 32 - 1) * 32 + p, by omega⟩ : Fin 4096) * k0_pay5 (F := Ideal) (grid0.coords t))
    (own : ∀ h : ¬p < 32, v = f (row t ⟨p - 32, by omega⟩)) : v = before 32 f (t.val % 4 * 1024 + p) := by
  have e := place t
  unfold before
  by_cases h : p < 32
  · rw [halo h]
    by_cases z : t.val % 4 = 0
    · rw [before_first _ (e.trans z), mul_zero, dif_neg (by omega)]
    · rw [before_later _ (e ▸ z), mul_one, dif_pos ⟨by omega, by omega⟩]
      exact congrArg f (Fin.ext (by simp only []; omega))
  · rw [own h, dif_pos ⟨by omega, by omega⟩]
    exact congrArg f (Fin.ext (by simp only []; omega))
theorem rows_later (t : Fin cfg0.N) (f : Fin 4096 → EReal) (p : Nat) (hp : p < 1056) (v : EReal)
    (own : ∀ h : p < 1024, v = f (row t ⟨p, h⟩))
    (halo : ∀ h : ¬p < 1024, v = f (next t ⟨p - 1024, by omega⟩) * k0_pay6 (F := Ideal) (grid0.coords t)) :
    v = later f (t.val % 4 * 1024 + p) := by
  have e := place t
  unfold later
  by_cases h : p < 1024
  · rw [own h, dif_pos (by omega)]
  · rw [halo h]
    by_cases z : t.val % 4 = 3
    · rw [after_last _ (e.trans z), mul_zero, dif_neg (by omega)]
    · rw [after_earlier _ (e ▸ z), mul_one, dif_pos (by omega)]
      exact congrArg f (Fin.ext (by simp only []; omega))

theorem gated_rows (c : Dev nD) (t : Fin cfg0.N) (p : Nat) (hp : p < 1056) (j : Fin 256) :
    gatedRow (grid0.coords t) (X0_0 m c t) (X0_1 m c t) p j = before 32 (gate (Az m c) (col t j)) (t.val % 4 * 1024 + p) := by
  refine rows_before t _ p hp _ (fun h => ?_) (fun h => ?_)
  · rw [gatedRow, dif_pos h, read1, read1]
    rfl
  · rw [gatedRow, dif_neg h, dif_pos (by omega), read0, read0]
    rfl
theorem product_rows (c : Dev nD) (t : Fin cfg0.N) (p : Nat) (hp : p < 1056) (j : Fin 256) :
    productRow (grid0.coords t) (X0_0 m c t) (X0_1 m c t) p j = before 32 (prod (Az m c) (col t j)) (t.val % 4 * 1024 + p) := by
  refine rows_before t _ p hp _ (fun h => ?_) (fun h => ?_)
  · rw [productRow, dif_pos h, read1, read1]
    rfl
  · rw [productRow, dif_neg h, dif_pos (by omega), read0, read0]
    rfl
theorem grad_rows (c : Dev nD) (t : Fin cfg0.N) (p : Nat) (hp : p < 1056) (j : Fin 256) :
    gradRow (grid0.coords t) (iblk m c 3 t) (iblk m c 4 t) p j = later (inner (Ada m c) (col t j)) (t.val % 4 * 1024 + p) := by
  refine rows_later t _ p hp _ (fun h => ?_) (fun h => ?_)
  · rw [gradRow, dif_pos h, read3]
    rfl
  · rw [gradRow, dif_neg h, dif_pos (by omega), read4]
    rfl
theorem outer_rows (c : Dev nD) (t : Fin cfg0.N) (p : Nat) (hp : p < 1056) (j : Fin 256) :
    outerRow (grid0.coords t) (X0_0 m c t) (X0_2 m c t) (iblk m c 5 t) (iblk m c 6 t) p j
      = later (outer (Az m c) (Adq m c) (col t j)) (t.val % 4 * 1024 + p) := by
  refine rows_later t _ p hp _ (fun h => ?_) (fun h => ?_)
  · rw [outerRow, dif_pos h, read5, read0]
    rfl
  · rw [outerRow, dif_neg h, dif_pos (by omega), read6, read2]
    rfl

/-- Moving down by more rows moves the column further down. -/
theorem before_add (f : Fin 4096 → EReal) (K a p q : Nat) (h : q = p + a) : before (K + a) f q = before K f p := by
  subst h
  unfold before
  by_cases g : K ≤ p ∧ p - K < 4096
  · rw [dif_pos g, dif_pos ⟨by omega, by omega⟩]
    exact congrArg f (Fin.ext (by simp only []; omega))
  · rw [dif_neg g, dif_neg (by omega)]

end Cert.ConvIdeal.Blocks

end
-- ==== Proof.ConvValue.lean ====
/- The gradient of the two convolutions with their gates: what each block of 1024 rows and 256 columns stores, what is carried
   from a block to the next of the same columns, and the four arrays after the run. -/
module

public import proofs.«01_k».proof.Proof.ConvRows

@[expose] public section

set_option maxRecDepth 16384

noncomputable section

namespace Cert.ConvIdeal.Blocks

open Idealize.ShloMosaic Idealize.ShloMosaic.TcCoe Idealize.SL.Sem Cert.ConvIdeal Cert.ConvIdeal.Gen
open Idealize.ShloMosaic.Pipeline (Dat)
open Cert.ConvIdeal.Parts
open Cert.BackwardConv (gate prod before later inner outer colOf)

variable (m : (ℓ : Loc nD τ sig) → Buf (Elt Ideal) ℓ)

/-- The rows that block `t` holds, outside ones included: gated values, products, gradient, and the products' gradient. -/
abbrev rowsA (c : Dev nD) (t : Fin cfg0.N) : Nat → Fin 256 → EReal := gatedRow (grid0.coords t) (X0_0 m c t) (X0_1 m c t)
abbrev rowsP (c : Dev nD) (t : Fin cfg0.N) : Nat → Fin 256 → EReal := productRow (grid0.coords t) (X0_0 m c t) (X0_1 m c t)
abbrev rowsD (c : Dev nD) (t : Fin cfg0.N) : Nat → Fin 256 → EReal := gradRow (grid0.coords t) (iblk m c 3 t) (iblk m c 4 t)
abbrev rowsV (c : Dev nD) (t : Fin cfg0.N) : Nat → Fin 256 → EReal :=
  outerRow (grid0.coords t) (X0_0 m c t) (X0_2 m c t) (iblk m c 5 t) (iblk m c 6 t)

/-- The point before. -/
theorem earlier (t : Fin cfg0.N) : t.val - 1 < cfg0.N := Nat.lt_of_le_of_lt (Nat.sub_le _ _) t.isLt

/-- What a point stores of the seven groups. -/
theorem point_parts (c : Dev nD) (t : Fin cfg0.N) (k : Fin 7) (p : Fin 1024) (j : Fin 256) :
    (outsAt0 m c t.val t.isLt).1 (ix3 k p j) = stores (X0_0 m c t) (iblk m c 5 t) (iblk m c 7 t) (iblk m c 8 t) (iblk m c 9 t)
      (iblk m c 10 t) (rowsD m c t) (rowsP m c t) (rowsV m c t) p j k := by
  by_cases h0 : t.val % 4 = 0
  · refine (congrFun (congrArg (·.1) (outsAt0_A m c t h0 (by omega))) (ix3 k p j)).trans ?_
    dsimp only
    unfold out0_A_11
    rw [parts_A]
    exact stored_parts (h := rfl) ..
  by_cases h1 : t.val % 4 = 3
  · refine (congrFun (congrArg (·.1) (outsAt0_C m c t h0 h1)) (ix3 k p j)).trans ?_
    dsimp only
    unfold out0_C_11
    rw [parts_C]
    exact stored_parts (h := rfl) ..
  · refine (congrFun (congrArg (·.1) (outsAt0_B m c t h0 h1)) (ix3 k p j)).trans ?_
    dsimp only
    unfold out0_B_11
    rw [parts_B]
    exact stored_parts (h := rfl) ..

/-- What a point adds to the sum of the gradient. -/
theorem bias_begins (c : Dev nD) (t : Fin cfg0.N) (h0 : t.val % 4 = 0) (j : Fin 256) :
    (outsAt0 m c t.val t.isLt).2.2.1 (ix2 0 j) = 0 + ∑ p : Fin 1024, rowsD m c t p.val j := by
  refine (congrFun (congrArg (·.2.2.1) (outsAt0_A m c t h0 (by omega))) (ix2 0 j)).trans ?_
  dsimp only
  unfold out0_A_13
  rw [bias_A]
  exact begun_bias (h := rfl) ..
theorem bias_goes_on (c : Dev nD) (t : Fin cfg0.N) (h0 : ¬t.val % 4 = 0) (j : Fin 256) :
    (outsAt0 m c t.val t.isLt).2.2.1 (ix2 0 j)
      = (outsAt0 m c (t.val - 1) (earlier t)).2.2.1 (ix2 0 j) + ∑ p : Fin 1024, rowsD m c t p.val j := by
  by_cases h1 : t.val % 4 = 3
  · refine (congrFun (congrArg (·.2.2.1) (outsAt0_C m c t h0 h1)) (ix2 0 j)).trans ?_
    dsimp only
    unfold out0_C_13
    rw [bias_C]
    exact next_bias (h := rfl) ..
  · refine (congrFun (congrArg (·.2.2.1) (outsAt0_B m c t h0 h1)) (ix2 0 j)).trans ?_
    dsimp only
    unfold out0_B_13
    rw [bias_B]
    exact next_bias (h := rfl) ..

/-- What it adds to the sums of the wide filter's taps, and of the narrow one's. -/
theorem taps_begin (c : Dev nD) (t : Fin cfg0.N) (h0 : t.val % 4 = 0) (k : Fin 31) (r : Fin 8) (j : Fin 256) :
    (outsAt0 m c t.val t.isLt).2.2.2.2.1 (ix3 k r j) = 0 + whole (rowsD m c t) (rowsA m c t) (2 + k.val) r j := by
  refine (congrFun (congrArg (·.2.2.2.2.1) (outsAt0_A m c t h0 (by omega))) (ix3 k r j)).trans ?_
  dsimp only
  unfold sout0_A_4
  rw [sums_A]
  exact begun_taps (h := rfl) ..
theorem taps_go_on (c : Dev nD) (t : Fin cfg0.N) (h0 : ¬t.val % 4 = 0) (k : Fin 31) (r : Fin 8) (j : Fin 256) :
    (outsAt0 m c t.val t.isLt).2.2.2.2.1 (ix3 k r j) = (outsAt0 m c (t.val - 1) (earlier t)).2.2.2.2.1 (ix3 k r j)
      + whole (rowsD m c t) (rowsA m c t) (2 + k.val) r j := by
  by_cases h1 : t.val % 4 = 3
  · refine (congrFun (congrArg (·.2.2.2.2.1) (outsAt0_C m c t h0 h1)) (ix3 k r j)).trans ?_
    dsimp only
    unfold sout0_C_4
    rw [sums_C]
    exact next_taps (h := rfl) ..
  · refine (congrFun (congrArg (·.2.2.2.2.1) (outsAt0_B m c t h0 h1)) (ix3 k r j)).trans ?_
    dsimp only
    unfold sout0_B_4
    rw [sums_B]
    exact next_taps (h := rfl) ..
theorem taps3_begin (c : Dev nD) (t : Fin cfg0.N) (h0 : t.val % 4 = 0) (k : Fin 3) (r : Fin 8) (j : Fin 256) :
    (outsAt0 m c t.val t.isLt).2.2.2.2.2 (ix3 k r j) = 0 + whole (rowsV m c t) (rowsP m c t) (30 + k.val) r j := by
  refine (congrFun (congrArg (·.2.2.2.2.2) (outsAt0_A m c t h0 (by omega))) (ix3 k r j)).trans ?_
  dsimp only
  unfold sout0_A_5
  rw [sums3_A]
  exact begun_taps3 (h := rfl) ..
theorem taps3_go_on (c : Dev nD) (t : Fin cfg0.N) (h0 : ¬t.val % 4 = 0) (k : Fin 3) (r : Fin 8) (j : Fin 256) :
    (outsAt0 m c t.val t.isLt).2.2.2.2.2 (ix3 k r j) = (outsAt0 m c (t.val - 1) (earlier t)).2.2.2.2.2 (ix3 k r j)
      + whole (rowsV m c t) (rowsP m c t) (30 + k.val) r j := by
  by_cases h1 : t.val % 4 = 3
  · refine (congrFun (congrArg (·.2.2.2.2.2) (outsAt0_C m c t h0 h1)) (ix3 k r j)).trans ?_
    dsimp only
    unfold sout0_C_5
    rw [sums3_C]
    exact next_taps3 (h := rfl) ..
  · refine (congrFun (congrArg (·.2.2.2.2.2) (outsAt0_B m c t h0 h1)) (ix3 k r j)).trans ?_
    dsimp only
    unfold sout0_B_5
    rw [sums3_B]
    exact next_taps3 (h := rfl) ..

/-- The last point of its columns stores the filters' gradients. -/
theorem filter_stored (c : Dev nD) (t : Fin cfg0.N) (h1 : t.val % 4 = 3) (k : Fin 31) (j : Fin 256) :
    (outsAt0 m c t.val t.isLt).2.1 (ix3 0 k j) = ∑ r : Fin 8, (outsAt0 m c t.val t.isLt).2.2.2.2.1 (ix3 k r j) := by
  refine Eq.trans ?_ (Finset.sum_congr rfl fun r _ => (taps_go_on m c t (by omega) k r j).symm)
  refine (congrFun (congrArg (·.2.1) (outsAt0_C m c t (by omega) h1)) (ix3 0 k j)).trans ?_
  dsimp only
  unfold out0_C_12
  rw [filter_C]
  exact last_filter (h := rfl) ..
theorem filter3_stored (c : Dev nD) (t : Fin cfg0.N) (h1 : t.val % 4 = 3) (k : Fin 3) (j : Fin 256) :
    (outsAt0 m c t.val t.isLt).2.2.2.1 (ix3 0 k j) = ∑ r : Fin 8, (outsAt0 m c t.val t.isLt).2.2.2.2.2 (ix3 k r j) := by
  refine Eq.trans ?_ (Finset.sum_congr rfl fun r _ => (taps3_go_on m c t (by omega) k r j).symm)
  refine (congrFun (congrArg (·.2.2.2.1) (outsAt0_C m c t (by omega) h1)) (ix3 0 k j)).trans ?_
  dsimp only
  unfold out0_C_14
  rw [filter3_C]
  exact last_filter3 (h := rfl) ..

end Cert.ConvIdeal.Blocks

end
-- ==== Proof.ConvArrays.lean ====
/- The four arrays of the backward convolutions after the run: each block's rows are the reference's, and the four blocks of the
   same columns add up to the sums over all rows. -/
module

public import proofs.«01_k».proof.Proof.ConvValue

@[expose] public section

set_option maxRecDepth 16384

noncomputable section

namespace Cert.ConvIdeal.Blocks

open Idealize.ShloMosaic Idealize.ShloMosaic.TcCoe Idealize.SL.Sem Cert.ConvIdeal Cert.ConvIdeal.Gen
open Idealize.ShloMosaic.Pipeline (Dat)
open Cert.ConvIdeal.Parts
open Cert.BackwardConv (gate prod before later inner outer colOf)

variable (m : (ℓ : Loc nD τ sig) → Buf (Elt Ideal) ℓ)

/-- Rows counted by fours, sixteens and eights of eight are the 4096 rows. -/
theorem regroup (f : Fin 4096 → EReal) :
    ∑ r : Fin 8, ∑ s : Fin 4, ∑ b : Fin 16, ∑ q : Fin 8, f ⟨s.val * 1024 + (b.val * 64 + (q.val * 8 + r.val)), by omega⟩
      = ∑ s : Fin 4096, f s := by
  rw [Finset.sum_comm]
  refine Eq.trans (Finset.sum_congr rfl fun s _ => ?_)
    (Fin.sum_mul_add_congr (S := 4) (n := 1024) (F := fun s p => f ⟨s.val * 1024 + p.val, by omega⟩) fun s p hl => rfl)
  rw [Finset.sum_comm]
  refine Eq.trans (Finset.sum_congr rfl fun b _ => ?_)
    (Fin.sum_mul_add_congr (S := 16) (n := 64) (F := fun b p => f ⟨s.val * 1024 + (b.val * 64 + p.val), by omega⟩) fun b p hl => rfl)
  rw [Finset.sum_comm]
  exact Fin.sum_mul_add_congr (S := 8) (n := 8)
    (F := fun q r => f ⟨s.val * 1024 + (b.val * 64 + (q.val * 8 + r.val)), by omega⟩) fun q r hl => rfl

/-- Point `s` of the four that share the columns of `t`. -/
abbrev mate (t : Fin cfg0.N) (s : Fin 4) : Fin cfg0.N :=
  ⟨4 * (t.val / 4) + s.val, by have := lt16 t; have h : cfg0.N = 16 := N_0; omega⟩
theorem mate_mod (t : Fin cfg0.N) (s : Fin 4) : (mate t s).val % 4 = s.val := by show (4 * (t.val / 4) + s.val) % 4 = s.val; omega
theorem mate_col (t : Fin cfg0.N) (s : Fin 4) (j : Fin 256) : col (mate t s) j = col t j :=
  Fin.ext (by show (4 * (t.val / 4) + s.val) / 4 * 256 + j.val = t.val / 4 * 256 + j.val; omega)

/-- Rows of one array moved down times rows of another one, as far as a block has them. -/
theorem whole_rows (T o K k : Nat) (hT : T + 1024 ≤ 4096) (hK : K + o = 32 + k) (ho : o ≤ 32) (hk : k ≤ o) (A D : Nat → Fin 256 → EReal)
    (g f : Fin 4096 → EReal) (j : Fin 256) (hA : ∀ p, p < 1056 → A p j = before 32 g (T + p))
    (hD : ∀ p, p < 1056 → D p j = later f (T + p)) (r : Fin 8) :
    whole D A o r j = ∑ b : Fin 16, ∑ q : Fin 8, (fun s : Fin 4096 => f s * before K g (k + s.val))
      ⟨T + (b.val * 64 + (q.val * 8 + r.val)), by omega⟩ := by
  unfold whole eighth
  refine Finset.sum_congr rfl fun b _ => Finset.sum_congr rfl fun q _ => congrArg₂ (· * ·) ?_ ?_
  · rw [hD _ (by omega)]
    exact dif_pos (by omega)
  · rw [hA _ (by omega), show 32 = K + (o - k) by omega]
    exact before_add g K (o - k) _ _ (by show _ = k + (T + (b.val * 64 + (q.val * 8 + r.val))) + (o - k); omega)

theorem taps_rows (c : Dev nD) (t : Fin cfg0.N) (s : Fin 4) (k : Fin 31) (r : Fin 8) (j : Fin 256) :
    whole (rowsD m c (mate t s)) (rowsA m c (mate t s)) (2 + k.val) r j
      = ∑ b : Fin 16, ∑ q : Fin 8, (fun s : Fin 4096 => inner (Ada m c) (col t j) s * before 30 (gate (Az m c) (col t j)) (k.val + s.val))
        ⟨s.val * 1024 + (b.val * 64 + (q.val * 8 + r.val)), by omega⟩ :=
  whole_rows (s.val * 1024) (2 + k.val) 30 k.val (by omega) (by omega) (by omega) (by omega) _ _ _ _ j
    (fun p hp => (gated_rows m c _ p hp j).trans (by rw [mate_mod, mate_col])) (fun p hp => (grad_rows m c _ p hp j).trans (by rw [mate_mod, mate_col])) r
theorem taps3_rows (c : Dev nD) (t : Fin cfg0.N) (s : Fin 4) (k : Fin 3) (r : Fin 8) (j : Fin 256) :
    whole (rowsV m c (mate t s)) (rowsP m c (mate t s)) (30 + k.val) r j
      = ∑ b : Fin 16, ∑ q : Fin 8, (fun s : Fin 4096 => outer (Az m c) (Adq m c) (col t j) s
          * before 2 (prod (Az m c) (col t j)) (k.val + s.val))
        ⟨s.val * 1024 + (b.val * 64 + (q.val * 8 + r.val)), by omega⟩ :=
  whole_rows (s.val * 1024) (30 + k.val) 2 k.val (by omega) (by omega) (by omega) (by omega) _ _ _ _ j
    (fun p hp => (product_rows m c _ p hp j).trans (by rw [mate_mod, mate_col])) (fun p hp => (outer_rows m c _ p hp j).trans (by rw [mate_mod, mate_col])) r

/-- What the last point of its columns holds: the sums over all rows. -/
theorem taps_last (c : Dev nD) (t : Fin cfg0.N) (h : t.val % 4 = 3) (k : Fin 31) (r : Fin 8) (j : Fin 256) :
    (outsAt0 m c t.val t.isLt).2.2.2.2.1 (ix3 k r j)
      = ∑ s : Fin 4, whole (rowsD m c (mate t s)) (rowsA m c (mate t s)) (2 + k.val) r j :=
  (Pipeline.eq_sum_fin_of_reset_step_of_flush (fun n h => (outsAt0 m c n h).2.2.2.2.1 (ix3 k r j)) 4 0
    (fun t => whole (rowsD m c t) (rowsA m c t) (2 + k.val) r j) (fun t h => taps_begin m c t h k r j)
    (fun t h => taps_go_on m c t h k r j) t h).trans (zero_add _)
theorem taps3_last (c : Dev nD) (t : Fin cfg0.N) (h : t.val % 4 = 3) (k : Fin 3) (r : Fin 8) (j : Fin 256) :
    (outsAt0 m c t.val t.isLt).2.2.2.2.2 (ix3 k r j)
      = ∑ s : Fin 4, whole (rowsV m c (mate t s)) (rowsP m c (mate t s)) (30 + k.val) r j :=
  (Pipeline.eq_sum_fin_of_reset_step_of_flush (fun n h => (outsAt0 m c n h).2.2.2.2.2 (ix3 k r j)) 4 0
    (fun t => whole (rowsV m c t) (rowsP m c t) (30 + k.val) r j) (fun t h => taps3_begin m c t h k r j)
    (fun t h => taps3_go_on m c t h k r j) t h).trans (zero_add _)
theorem bias_last (c : Dev nD) (t : Fin cfg0.N) (h : t.val % 4 = 3) (j : Fin 256) :
    (outsAt0 m c t.val t.isLt).2.2.1 (ix2 0 j) = ∑ s : Fin 4, ∑ p : Fin 1024, rowsD m c (mate t s) p.val j :=
  (Pipeline.eq_sum_fin_of_reset_step_of_flush (fun n h => (outsAt0 m c n h).2.2.1 (ix2 0 j)) 4 0
    (fun t => ∑ p : Fin 1024, rowsD m c t p.val j) (fun t h => bias_begins m c t h j)
    (fun t h => bias_goes_on m c t h j) t h).trans (zero_add _)

theorem taps_sum (c : Dev nD) (t : Fin cfg0.N) (h : t.val % 4 = 3) (k : Fin 31) (j : Fin 256) :
    ∑ r : Fin 8, (outsAt0 m c t.val t.isLt).2.2.2.2.1 (ix3 k r j)
      = ∑ s : Fin 4096, inner (Ada m c) (col t j) s * before 30 (gate (Az m c) (col t j)) (k.val + s.val) := by
  rw [← regroup (fun s => inner (Ada m c) (col t j) s * before 30 (gate (Az m c) (col t j)) (k.val + s.val))]
  refine Finset.sum_congr rfl fun r _ => ?_
  rw [taps_last m c t h k r j]
  exact Finset.sum_congr rfl fun s _ => taps_rows m c t s k r j
theorem taps3_sum (c : Dev nD) (t : Fin cfg0.N) (h : t.val % 4 = 3) (k : Fin 3) (j : Fin 256) :
    ∑ r : Fin 8, (outsAt0 m c t.val t.isLt).2.2.2.2.2 (ix3 k r j)
      = ∑ s : Fin 4096, outer (Az m c) (Adq m c) (col t j) s * before 2 (prod (Az m c) (col t j)) (k.val + s.val) := by
  rw [← regroup (fun s => outer (Az m c) (Adq m c) (col t j) s * before 2 (prod (Az m c) (col t j)) (k.val + s.val))]
  refine Finset.sum_congr rfl fun r _ => ?_
  rw [taps3_last m c t h k r j]
  exact Finset.sum_congr rfl fun s _ => taps3_rows m c t s k r j

theorem filter_last (c : Dev nD) (t : Fin cfg0.N) (h : t.val % 4 = 3) (k : Fin 31) (j : Fin 256) :
    (outsAt0 m c t.val t.isLt).2.1 (ix3 0 k j)
      = BackwardConv.taps 31 (inner (Ada m c) (col t j)) (gate (Az m c) (col t j)) k.val := by
  unfold BackwardConv.taps
  exact (filter_stored m c t h k j).trans (taps_sum m c t h k j)
theorem filter3_last (c : Dev nD) (t : Fin cfg0.N) (h : t.val % 4 = 3) (k : Fin 3) (j : Fin 256) :
    (outsAt0 m c t.val t.isLt).2.2.2.1 (ix3 0 k j)
      = BackwardConv.taps 3 (outer (Az m c) (Adq m c) (col t j)) (prod (Az m c) (col t j)) k.val := by
  unfold BackwardConv.taps
  exact (filter3_stored m c t h k j).trans (taps3_sum m c t h k j)
theorem bias_sum (c : Dev nD) (t : Fin cfg0.N) (h : t.val % 4 = 3) (j : Fin 256) :
    (outsAt0 m c t.val t.isLt).2.2.1 (ix2 0 j) = ∑ s : Fin 4096, Ada m c (ix2 s (col t j)) := by
  refine (bias_last m c t h j).trans (Fin.sum_mul_add_congr fun s p hl => ?_)
  refine (grad_rows m c (mate t s) p.val (by omega) j).trans ?_
  rw [mate_mod, mate_col]
  exact dif_pos hl

/-- The filters, each turned around or not, on the rows that a block holds. -/
theorem turned_rows (c : Dev nD) (t : Fin cfg0.N) (x : FVec Ideal S1x31x256 .f32) (hx : ∀ n (j : Fin 256), x (ix3 0 n j) = Aw m c (ix3 0 n (col t j)))
    (p : Fin 1024) (j : Fin 256) : ∑ n : Fin 31, x (ix3 0 n j) * rowsD m c t (p.val + 30 - n.val) j
      = BackwardConv.turned (Aw m c) (inner (Ada m c) (col t j)) (col t j) (row t p).val :=
  Finset.sum_congr rfl fun n _ => congrArg₂ (· * ·) (hx n j) ((grad_rows m c t _ (by omega) j).trans
    (congrArg (later _) (by show _ = t.val % 4 * 1024 + p.val + (31 - 1) - n.val; omega)))
theorem turned3_rows (c : Dev nD) (t : Fin cfg0.N) (x : FVec Ideal S1x3x256 .f32) (hx : ∀ n (j : Fin 256), x (ix3 0 n j) = Av m c (ix3 0 n (col t j)))
    (p : Fin 1024) (j : Fin 256) : ∑ n : Fin 3, x (ix3 0 n j) * rowsV m c t (p.val + 2 - n.val) j
      = BackwardConv.turned (Av m c) (outer (Az m c) (Adq m c) (col t j)) (col t j) (row t p).val :=
  Finset.sum_congr rfl fun n _ => congrArg₂ (· * ·) (hx n j) ((outer_rows m c t _ (by omega) j).trans
    (congrArg (later _) (by show _ = t.val % 4 * 1024 + p.val + (3 - 1) - n.val; omega)))
theorem filtered_rows (c : Dev nD) (t : Fin cfg0.N) (x : FVec Ideal S1x3x256 .f32) (hx : ∀ n (j : Fin 256), x (ix3 0 n j) = Av m c (ix3 0 n (col t j)))
    (p : Fin 1024) (j : Fin 256) : ∑ n : Fin 3, x (ix3 0 n j) * rowsP m c t (p.val + 30 + n.val) j
      = ∑ n : Fin 3, Av m c (ix3 0 n (col t j)) * before 2 (prod (Az m c) (col t j)) (n.val + (row t p).val) :=
  Finset.sum_congr rfl fun n _ => congrArg₂ (· * ·) (hx n j) ((product_rows m c t _ (by omega) j).trans
    (before_add _ 2 30 (n.val + (row t p).val) _ (by show _ = n.val + (t.val % 4 * 1024 + p.val) + 30; omega)))

/-- The seven groups' rows are the reference's. -/
theorem parts_rows (c : Dev nD) (t : Fin cfg0.N) (k : Fin 7) (p : Fin 1024) (j : Fin 256) :
    (outsAt0 m c t.val t.isLt).1 (ix3 k p j) = BackwardConv.parts (Az m c) (Aw m c) (Av m c) (Ada m c) (Adq m c) (Adga m c) (Adgb m c)
      (row t p) (col t j) k := by
  refine (point_parts m c t k p j).trans ?_
  unfold stores BackwardConv.parts
  rw [turned_rows m c t _ (read9 m c t) p j, turned3_rows m c t _ (read10 m c t) p j, filtered_rows m c t _ (read10 m c t) p j,
    read0, read0, read0, read0, read5, read7, read8]
  rfl

theorem place11 (t : Fin cfg0.N) (k : Fin 7) (r : Fin 1024) (j : Fin 256) :
    ((cfg0.win 11).blk t).view.emb (ix3 k r j) = ix3 k (row t r) (col t j) := by blk_ext [idx t]
abbrev block (t : Fin cfg0.N) : Fin 4 := ⟨t.val / 4, by have := lt16 t; omega⟩
theorem place12 (t : Fin cfg0.N) (k : Fin 31) (j : Fin 256) :
    ((cfg0.win 12).blk t).view.emb (ix3 0 k j) = ix3 (block t) k j := by blk_ext [idx t]
theorem place13 (t : Fin cfg0.N) (j : Fin 256) :
    ((cfg0.win 13).blk t).view.emb (ix2 0 j) = ix2 0 (col t j) := by blk_ext [idx t]
theorem place14 (t : Fin cfg0.N) (k : Fin 3) (j : Fin 256) :
    ((cfg0.win 14).blk t).view.emb (ix3 0 k j) = ix3 (block t) k j := by blk_ext [idx t]

theorem last12 : ∀ t : Fin cfg0.N, (cfg0.win 12).flush t = true → t.val % 4 = 3 := (by decide +kernel : ∀ t : Fin grid0.N, _)
theorem last13 : ∀ t : Fin cfg0.N, (cfg0.win 13).flush t = true → t.val % 4 = 3 := (by decide +kernel : ∀ t : Fin grid0.N, _)
theorem last14 : ∀ t : Fin cfg0.N, (cfg0.win 14).flush t = true → t.val % 4 = 3 := (by decide +kernel : ∀ t : Fin grid0.N, _)

theorem stored_inputs (c : Dev nD) (f : FVec Ideal S7x4096x1024 .bf16)
    (h : ∀ t : Fin cfg0.N, ∀ k (r : Fin 1024) (j : Fin 256), (outsAt0 m c t.val t.isLt).1 (ix3 k r j) = f (ix3 k (row t r) (col t j))) :
    (dats m 0 c).arrAt 11 (cfgs 0).N = f := by
  refine (dats m 0 c).arrAt_eq_of_covers 11 _ (by decide +kernel) fun t _ y => ?_
  blk_simp
  rw [after0_11]
  idx_vars y
  exact (h t y0 y1 y2).trans (congrArg _ (place11 t y0 y1 y2).symm)
theorem stored_filter (c : Dev nD) (f : FVec Ideal S4x31x256 .f32)
    (h : ∀ t : Fin cfg0.N, t.val % 4 = 3 → ∀ (k : Fin 31) (j : Fin 256), (outsAt0 m c t.val t.isLt).2.1 (ix3 0 k j) = f (ix3 (block t) k j)) :
    (dats m 0 c).arrAt 12 (cfgs 0).N = f := by
  refine (dats m 0 c).arrAt_eq_of_covers 12 _ (by decide +kernel) fun t hf y => ?_
  blk_simp
  rw [after0_12]
  idx_vars y
  obtain rfl : y0 = 0 := Subsingleton.elim _ _
  exact (h t (last12 t hf) y1 y2).trans (congrArg _ (place12 t y1 y2).symm)
theorem stored_bias (c : Dev nD) (f : FVec Ideal S1x1024 .f32)
    (h : ∀ t : Fin cfg0.N, t.val % 4 = 3 → ∀ j : Fin 256, (outsAt0 m c t.val t.isLt).2.2.1 (ix2 0 j) = f (ix2 0 (col t j))) :
    (dats m 0 c).arrAt 13 (cfgs 0).N = f := by
  refine (dats m 0 c).arrAt_eq_of_covers 13 _ (by decide +kernel) fun t hf y => ?_
  blk_simp
  rw [after0_13]
  idx_vars y
  obtain rfl : y0 = 0 := Subsingleton.elim _ _
  exact (h t (last13 t hf) y1).trans (congrArg _ (place13 t y1).symm)
theorem stored_filter3 (c : Dev nD) (f : FVec Ideal S4x3x256 .f32)
    (h : ∀ t : Fin cfg0.N, t.val % 4 = 3 → ∀ (k : Fin 3) (j : Fin 256), (outsAt0 m c t.val t.isLt).2.2.2.1 (ix3 0 k j) = f (ix3 (block t) k j)) :
    (dats m 0 c).arrAt 14 (cfgs 0).N = f := by
  refine (dats m 0 c).arrAt_eq_of_covers 14 _ (by decide +kernel) fun t hf y => ?_
  blk_simp
  rw [after0_14]
  idx_vars y
  obtain rfl : y0 = 0 := Subsingleton.elim _ _
  exact (h t (last14 t hf) y1 y2).trans (congrArg _ (place14 t y1 y2).symm)

/-- The four arrays after the run. -/
theorem final_inputs (c : Dev nD) : (dats m 0 c).arrAt 11 (cfgs 0).N
    = BackwardConv.inputs (Az m c) (Aw m c) (Av m c) (Ada m c) (Adq m c) (Adga m c) (Adgb m c) :=
  stored_inputs m c _ fun t k r j => parts_rows m c t k r j
theorem final_filter (c : Dev nD) : (dats m 0 c).arrAt 12 (cfgs 0).N = BackwardConv.filter (Az m c) (Ada m c) :=
  stored_filter m c _ fun t h k j => filter_last m c t h k j
theorem final_bias (c : Dev nD) : (dats m 0 c).arrAt 13 (cfgs 0).N = BackwardConv.bias (Ada m c) :=
  stored_bias m c _ fun t h j => bias_sum m c t h j
theorem final_filter3 (c : Dev nD) : (dats m 0 c).arrAt 14 (cfgs 0).N = BackwardConv.filter3 (Az m c) (Adq m c) :=
  stored_filter3 m c _ fun t h k j => filter3_last m c t h k j

end Cert.ConvIdeal.Blocks

end
-- ==== Proof.ConvClaims.lean ====
/- The claims about the gradient of the two convolutions with their gates: both programs end with the same four arrays. -/
module

public import proofs.«01_k».proof.Defs
public import proofs.«01_k».proof.Proof.Gen.Conv
public import proofs.«01_k».proof.Proof.Gen.ConvIdeal.Frame
public import proofs.«01_k».proof.Proof.Gen.ConvRefIdeal.Run
public import proofs.«01_k».proof.Proof.ConvRefAt
public import proofs.«01_k».proof.Proof.ConvArrays

@[expose] public section

set_option maxRecDepth 16384

noncomputable section

namespace Cert.ConvGrad

open Idealize.ShloMosaic Idealize.ShloMosaic.TcCoe Idealize.ShloMosaic.Tactic Idealize.SL.Sem ConvIdeal.Blocks

/-- The kernel runs, over floats: the ideal program's frame holds over any float type, and this is the same text. -/
theorem frame : quiescent_Conv (hConv := Conv.Gen.facts) := fun m g _ =>
  cast (by sl_kernel_rfl) (ConvIdeal.Gen.frame (F := Bits) m g)

/-- And over the extended reals. -/
theorem ideal_frame : quiescent_ConvIdeal (hConvIdeal := ConvIdeal.Gen.facts) := fun m g _ =>
  ConvIdeal.Gen.frame (F := Ideal) m g

/-- The reference runs and leaves its arguments alone; it has no semaphore. -/
theorem ref_frame : quiescent_ConvRefIdeal (hConvRefIdeal := ConvRefIdeal.Gen.facts) := fun m g _ =>
  (θ_run ConvRefIdeal.defs _ _).mono (fun r h => ⟨fun c => (h c).2.2.2.2, sem_eq_zero_of_no_sems (by decide) r.2⟩)
    (ConvRefIdeal.Value.run (F := Ideal) m g)

/-- What the kernel's four results are after the run. -/
theorem run_arrays (m : (ℓ : Loc ConvIdeal.nD ConvIdeal.τ ConvIdeal.sig) → Buf (Elt Ideal) ℓ) (g : Dev ConvIdeal.nD → PrngReg) :
    θ_run (ConvIdeal.defs (F := Ideal)) (onTc (τ := ConvIdeal.τ) (ConvIdeal.main (F := Ideal))) ⟨m, fun _ => 0, g⟩ fun r => ∀ c : Dev ConvIdeal.nD,
      r.2.mem ((c : Thread ConvIdeal.nD ConvIdeal.τ).loc ConvIdeal.main_v29_0) = (ConvIdeal.Gen.dats m 0 c).arrAt 11 ConvIdeal.cfg0.N
      ∧ r.2.mem ((c : Thread ConvIdeal.nD ConvIdeal.τ).loc ConvIdeal.main_v29_1) = (ConvIdeal.Gen.dats m 0 c).arrAt 12 ConvIdeal.cfg0.N
      ∧ r.2.mem ((c : Thread ConvIdeal.nD ConvIdeal.τ).loc ConvIdeal.main_v29_2) = (ConvIdeal.Gen.dats m 0 c).arrAt 13 ConvIdeal.cfg0.N
      ∧ r.2.mem ((c : Thread ConvIdeal.nD ConvIdeal.τ).loc ConvIdeal.main_v29_3) = (ConvIdeal.Gen.dats m 0 c).arrAt 14 ConvIdeal.cfg0.N :=
  (θ_run ConvIdeal.defs _ _).mono (fun r h c => ⟨(h c).1 11, (h c).1 12, (h c).1 13, (h c).1 14⟩) (ConvIdeal.Gen.run_main m g)

/-- Both programs end with the same arrays. -/
theorem value : algebraic_ConvIdeal_ConvRefIdeal (hConvIdeal := ConvIdeal.Gen.facts)
    (hConvRefIdeal := ConvRefIdeal.Gen.facts) := fun m g m' g' _ hm => by
  refine ⟨fun c => BackwardConv.inputs (Az m c) (Aw m c) (Av m c) (Ada m c) (Adq m c) (Adga m c) (Adgb m c),
    fun c => BackwardConv.filter (Az m c) (Ada m c), fun c => BackwardConv.bias (Ada m c), fun c => BackwardConv.filter3 (Az m c) (Adq m c),
    (θ_run _ _ _).mono (fun r h c => ?_) (θ_run_and (run_arrays m g) (ConvIdeal.Gen.frame (F := Ideal) m g)),
    (θ_run _ _ _).mono (fun r h c => ?_) (ConvRefIdeal.Value.run (F := Ideal) m' g')⟩
  · obtain ⟨h0, h1, h2, h3⟩ := h.1 c
    exact ⟨h0.trans (final_inputs m c), h1.trans (final_filter m c), h2.trans (final_bias m c), h3.trans (final_filter3 m c), h.2.1 c⟩
  · obtain ⟨e0, e1, e2, e3, e4, e5, e6, e7, e8⟩ := hm c
    obtain ⟨h0, h1, h2, h3, h4⟩ := h c
    refine ⟨h0.trans ?_, h1.trans ?_, h2.trans ?_, h3.trans ?_, h4⟩
    · refine (ConvRefIdeal.Read.val_main_v679_eq (F := Ideal) _).trans ?_
      exact (congr (congr (congr (congr (congr (congr (congr (congr (congrArg (ConvRefIdeal.Read.val_main_v679 (F := Ideal)) e0) e1) e2) e3) e4)
        e5) e6) e7) e8).trans (BackwardConv.ref_inputs _ _ _ _ _ _ _ _ _)
    · refine (ConvRefIdeal.Read.val_main_v682_eq (F := Ideal) _).trans ?_
      exact (congr (congr (congr (congrArg (ConvRefIdeal.Read.val_main_v682 (F := Ideal)) e0) e1) e2) e5).trans (BackwardConv.ref_filter _ _ _ _)
    · refine (ConvRefIdeal.Read.val_main_v330_eq (F := Ideal) _).trans ?_
      exact (congrArg (ConvRefIdeal.Read.val_main_v330 (F := Ideal)) e5).trans (BackwardConv.ref_bias _)
    · refine (ConvRefIdeal.Read.val_main_v685_eq (F := Ideal) _).trans ?_
      exact (congr (congr (congr (congrArg (ConvRefIdeal.Read.val_main_v685 (F := Ideal)) e0) e1) e2) e6).trans (BackwardConv.ref_filter3 _ _ _ _)

end Cert.ConvGrad

end
-- ==== Proof.MixOutFrame.lean ====
/- The frame of the merge's gradient: the two operands that the kernel fetches itself, each through a ring of three slots,
   are held between the grid points as "which transfers are in flight"; every point takes one step of both rings and leaves
   its output blocks covered by what it stored. The two sums over rows stay in their blocks from point to point. Stated over
   any float type, so that it serves the program as printed and its ideal twin. -/
module

public import proofs.«01_k».proof.Proof.Gen.MixOutIdeal.Frame.RunC
public import proofs.«01_k».proof.Proof.FfnHiddenFrame
public import Idealize.ShloMosaic.Lib.Claim

@[expose] public section

set_option maxRecDepth 16384

noncomputable section

namespace Cert.MergeFrame

open Cert.MixOutIdeal Cert.MixOutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem points (t : Fin cfg0.N) : t.val < 8 := lt_of_lt_of_eq t.isLt (show cfg0.N = 8 from N_0)

/-! ## One grid point -/

/-- The stores into a block of rows, and those into a block that holds a sum. -/
abbrev Stores : Type := List (View.Piece (Elt F) S512x1024 .bf16)
abbrev Sums : Type := List (View.Piece (Elt F) S1x1024 .f32)

/-- Some contents of an output's staging buffer with the listed stores written. -/
abbrev stored {S : Shape} {e : EltTy} (c : Dev nD) (a : Memref sig .tc .vmem S e) (L : List (View.Piece (Elt F) S e)) : sProp 𝕄 :=
  iprop(∃ f, a.view.loc (c : Thread nD τ) ↦[a.view.set]{fullShare} a.view.writes (Elt F) f L)

/-- An output's staging buffer, holding anything. -/
abbrev any {S : Shape} {e : EltTy} (c : Dev nD) (a : Memref sig .tc .vmem S e) : sProp 𝕄 := iprop(∃ d, owns (c : Thread nD τ) a fullShare d)

/-- Both rings before step `k`. -/
abbrev rings (c : Dev nD) (k : ℕ) : sProp 𝕄 := iprop(ringAt0_0 c (V m c main_arg0) k ∗ ringAt0_1 c (V m c main_arg1) k)

/-- The blocks that the pipeline stages, at point `t`. -/
abbrev inputs (c : Dev nD) (t : Fin cfg0.N) : sProp 𝕄 :=
  iprop(owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t))

/-- The blocks of rows, holding anything. -/
abbrev blank (c : Dev nD) (t : Fin cfg0.N) : sProp 𝕄 :=
  iprop(any c (ms0_9 t) ∗ any c (ms0_10 t) ∗ any c (ms0_11 t) ∗ any c (ms0_12 t) ∗ any c (ms0_13 t) ∗ any c (ms0_14 t) ∗ any c (ms0_15 t))

/-- A sum's block before point `t`: anything at the first point, else `u`. -/
def carried (c : Dev nD) (t : Fin cfg0.N) (a : Memref sig .tc .vmem S1x1024 .f32) (u : Vec F S1x1024 .f32) : sProp 𝕄 :=
  if t.val % 8 = 0 then any c a else owns (c : Thread nD τ) a fullShare u

/-- What a point stores into its nine output blocks, each covered. -/
structure Lists where
  L9 : Stores (F := F)
  L10 : Stores (F := F)
  L11 : Stores (F := F)
  L12 : Stores (F := F)
  L13 : Stores (F := F)
  L14 : Stores (F := F)
  L15 : Stores (F := F)
  L16 : Sums (F := F)
  L17 : Sums (F := F)
  cover9 : ∀ y, ∃ pc ∈ L9, y ∈ pc.1.set
  cover10 : ∀ y, ∃ pc ∈ L10, y ∈ pc.1.set
  cover11 : ∀ y, ∃ pc ∈ L11, y ∈ pc.1.set
  cover12 : ∀ y, ∃ pc ∈ L12, y ∈ pc.1.set
  cover13 : ∀ y, ∃ pc ∈ L13, y ∈ pc.1.set
  cover14 : ∀ y, ∃ pc ∈ L14, y ∈ pc.1.set
  cover15 : ∀ y, ∃ pc ∈ L15, y ∈ pc.1.set
  cover16 : ∀ y, ∃ pc ∈ L16, y ∈ pc.1.set
  cover17 : ∀ y, ∃ pc ∈ L17, y ∈ pc.1.set

/-- The output blocks after a point's stores. -/
abbrev filled (c : Dev nD) (t : Fin cfg0.N) (L : Lists (F := F)) : sProp 𝕄 :=
  iprop(stored c (ms0_9 t) L.L9 ∗ stored c (ms0_10 t) L.L10 ∗ stored c (ms0_11 t) L.L11 ∗ stored c (ms0_12 t) L.L12 ∗ stored c (ms0_13 t) L.L13 ∗ stored c (ms0_14 t) L.L14 ∗ stored c (ms0_15 t) L.L15 ∗ stored c (ms0_16 t) L.L16 ∗ stored c (ms0_17 t) L.L17)

/-- A point with its stores: the body takes the rings one step on. -/
structure Step (c : Dev nD) (t : Fin cfg0.N) (u v : Vec F S1x1024 .f32) extends Lists (F := F) where
  run : ∀ (W : Waits sig Unit) (K : PUnit → sProp 𝕄),
    iprop(rings m c t.val ∗ inputs m c t ∗ blank c t ∗ carried c t (ms0_16 t) u ∗ carried c t (ms0_17 t) v ∗ owes (c : Thread nD τ) 0 W
        ∗ (iprop(rings m c (t.val + 1) ∗ inputs m c t ∗ filled c t toLists ∗ (∃ W', owes (c : Thread nD τ) 0 W')) -∗ K ⟨⟩))
      ⊢ wp frame (wpE (defs₀ (F := F)) Variants.none c none) Set.univ (bodyAt0 t) K

/-- A run of the body from the parts of the two rings is a run from the rings. -/
theorem run_of (c : Dev nD) (t : Fin cfg0.N) (u v : Vec F S1x1024 .f32) (L : Lists (F := F)) {a b d a' b' d' e f g e' f' g' x y : sProp 𝕄}
    (in0 : ringAt0_0 c (V m c main_arg0) t.val ⊢ iprop(a ∗ b ∗ d)) (in1 : ringAt0_1 c (V m c main_arg1) t.val ⊢ iprop(e ∗ f ∗ g))
    (out0 : iprop(a' ∗ b' ∗ d') ⊢ ringAt0_0 c (V m c main_arg0) (t.val + 1))
    (out1 : iprop(e' ∗ f' ∗ g') ⊢ ringAt0_1 c (V m c main_arg1) (t.val + 1))
    (inx : carried c t (ms0_16 t) u ⊢ x) (iny : carried c t (ms0_17 t) v ⊢ y)
    (h : ∀ (W : Waits sig Unit) (K : PUnit → sProp 𝕄),
      iprop(owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
          ∗ any c (ms0_9 t) ∗ any c (ms0_10 t) ∗ any c (ms0_11 t) ∗ any c (ms0_12 t) ∗ any c (ms0_13 t) ∗ any c (ms0_14 t) ∗ any c (ms0_15 t) ∗ x ∗ y
          ∗ a ∗ b ∗ d ∗ e ∗ f ∗ g ∗ owes (c : Thread nD τ) 0 W
          ∗ (iprop(owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
              ∗ stored c (ms0_9 t) L.L9 ∗ stored c (ms0_10 t) L.L10 ∗ stored c (ms0_11 t) L.L11 ∗ stored c (ms0_12 t) L.L12 ∗ stored c (ms0_13 t) L.L13 ∗ stored c (ms0_14 t) L.L14 ∗ stored c (ms0_15 t) L.L15 ∗ stored c (ms0_16 t) L.L16 ∗ stored c (ms0_17 t) L.L17
              ∗ a' ∗ b' ∗ d' ∗ e' ∗ f' ∗ g' ∗ (∃ W', owes (c : Thread nD τ) 0 W')) -∗ K ⟨⟩))
        ⊢ wp frame (wpE (defs₀ (F := F)) Variants.none c none) Set.univ (bodyAt0 t) K)
    (W : Waits sig Unit) (K : PUnit → sProp 𝕄) :
    iprop(rings m c t.val ∗ inputs m c t ∗ blank c t ∗ carried c t (ms0_16 t) u ∗ carried c t (ms0_17 t) v ∗ owes (c : Thread nD τ) 0 W
        ∗ (iprop(rings m c (t.val + 1) ∗ inputs m c t ∗ filled c t L ∗ (∃ W', owes (c : Thread nD τ) 0 W')) -∗ K ⟨⟩))
      ⊢ wp frame (wpE (defs₀ (F := F)) Variants.none c none) Set.univ (bodyAt0 t) K := by
  iintro ⟨⟨R0, R1⟩, ⟨X0, X1, X2, X3, X4, X5, X6, X7, X8⟩, ⟨Y9, Y10, Y11, Y12, Y13, Y14, Y15⟩, HX, HY, HW, HK⟩
  ihave P0 := in0 $$ R0
  icases P0 with ⟨A, B, D⟩
  ihave P1 := in1 $$ R1
  icases P1 with ⟨E, G, H⟩
  ihave HX := inx $$ HX
  ihave HY := iny $$ HY
  iapply (h W K)
  iframe X0 X1 X2 X3 X4 X5 X6 X7 X8 Y9 Y10 Y11 Y12 Y13 Y14 Y15 HX HY A B D E G H HW
  iintro ⟨X0, X1, X2, X3, X4, X5, X6, X7, X8, Y9, Y10, Y11, Y12, Y13, Y14, Y15, Y16, Y17, A, B, D, E, G, H, HW⟩
  iapply HK
  isplitl [A B D E G H]
  · isplitl [A B D]
    · iapply out0
      iframe
    iapply out1
    iframe
  unfold inputs filled
  iframe

/-- The run at the first point. -/
abbrev runA (c : Dev nD) (t : Fin cfg0.N) (h0 : t.val % 8 = 0) (h1 : t.val < 6) :=
  kernelRun0_A c t (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (ms0_9 t) (hs0_9 t) (ms0_10 t) (hs0_10 t) (ms0_11 t) (hs0_11 t)
    (ms0_12 t) (hs0_12 t) (ms0_13 t) (hs0_13 t) (ms0_14 t) (hs0_14 t) (ms0_15 t) (hs0_15 t) (ms0_16 t) (hs0_16 t) (ms0_17 t) (hs0_17 t)
    ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t)
    (V m c main_arg0) (V m c main_arg1)

/-- The run at a point that still starts a transfer, with what the two sums hold before it. -/
abbrev runB (c : Dev nD) (t : Fin cfg0.N) (h0 : ¬t.val % 8 = 0) (h1 : t.val < 6) (u v : Vec F S1x1024 .f32) :=
  kernelRun0_B c t (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (ms0_9 t) (hs0_9 t) (ms0_10 t) (hs0_10 t) (ms0_11 t) (hs0_11 t)
    (ms0_12 t) (hs0_12 t) (ms0_13 t) (hs0_13 t) (ms0_14 t) (hs0_14 t) (ms0_15 t) (hs0_15 t) (ms0_16 t) (hs0_16 t) (ms0_17 t) (hs0_17 t)
    (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t)
    u v (V m c main_arg0) (V m c main_arg1)

/-- The run at one of the last two points. -/
abbrev runC (c : Dev nD) (t : Fin cfg0.N) (h0 : ¬t.val % 8 = 0) (h1 : ¬t.val < 6) (u v : Vec F S1x1024 .f32) :=
  kernelRun0_C c t (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (ms0_9 t) (hs0_9 t) (ms0_10 t) (hs0_10 t) (ms0_11 t) (hs0_11 t)
    (ms0_12 t) (hs0_12 t) (ms0_13 t) (hs0_13 t) (ms0_14 t) (hs0_14 t) (ms0_15 t) (hs0_15 t) (ms0_16 t) (hs0_16 t) (ms0_17 t) (hs0_17 t)
    (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t)
    u v (V m c main_arg0) (V m c main_arg1)

/-- What that point stores. -/
def listsA (c : Dev nD) (t : Fin cfg0.N) (h0 : t.val % 8 = 0) (h1 : t.val < 6) : Lists (F := F) where
  L9 := (runA m c t h0 h1).1
  L10 := (runA m c t h0 h1).2.1
  L11 := (runA m c t h0 h1).2.2.1
  L12 := (runA m c t h0 h1).2.2.2.1
  L13 := (runA m c t h0 h1).2.2.2.2.1
  L14 := (runA m c t h0 h1).2.2.2.2.2.1
  L15 := (runA m c t h0 h1).2.2.2.2.2.2.1
  L16 := (runA m c t h0 h1).2.2.2.2.2.2.2.1
  L17 := (runA m c t h0 h1).2.2.2.2.2.2.2.2.1
  cover9 := View.cover_of_tiledL _ S256x1024.size (by sl_kernel_rfl)
  cover10 := View.cover_of_tiledL _ S256x1024.size (by sl_kernel_rfl)
  cover11 := View.cover_of_tiledL _ S256x1024.size (by sl_kernel_rfl)
  cover12 := View.cover_of_tiledL _ S256x1024.size (by sl_kernel_rfl)
  cover13 := View.cover_of_tiledL _ S256x1024.size (by sl_kernel_rfl)
  cover14 := View.cover_of_tiledL _ S256x1024.size (by sl_kernel_rfl)
  cover15 := View.cover_of_tiledL _ S256x1024.size (by sl_kernel_rfl)
  cover16 := View.cover_of_tiledL _ S1x1024.size (by sl_kernel_rfl)
  cover17 := View.cover_of_tiledL _ S1x1024.size (by sl_kernel_rfl)

def stepA (c : Dev nD) (t : Fin cfg0.N) (h0 : t.val % 8 = 0) (h1 : t.val < 6) (u v : Vec F S1x1024 .f32) : Step m c t u v where
  toLists := listsA m c t h0 h1
  run := by
    have hN := points t
    have hk : t.val = 0 := by omega
    refine run_of m c t u v _ ?_ ?_ ?_ ?_ ?_ ?_ (runA m c t h0 h1).2.2.2.2.2.2.2.2.2
    · unfold ringAt0_0; rw [if_pos hk]; exact Ring3.first_in _ _ _ hk
    · unfold ringAt0_1; rw [if_pos hk]; exact Ring3.first_in _ _ _ hk
    · unfold ringAt0_0; rw [if_neg (Nat.succ_ne_zero _)]; exact Ring3.first_out _ _ _ _ hk
    · unfold ringAt0_1; rw [if_neg (Nat.succ_ne_zero _)]; exact Ring3.first_out _ _ _ _ hk
    · unfold carried; rw [if_pos h0]
    · unfold carried; rw [if_pos h0]

/-- What that point stores. -/
def listsB (c : Dev nD) (t : Fin cfg0.N) (h0 : ¬t.val % 8 = 0) (h1 : t.val < 6) (u v : Vec F S1x1024 .f32) : Lists (F := F) where
  L9 := (runB m c t h0 h1 u v).1
  L10 := (runB m c t h0 h1 u v).2.1
  L11 := (runB m c t h0 h1 u v).2.2.1
  L12 := (runB m c t h0 h1 u v).2.2.2.1
  L13 := (runB m c t h0 h1 u v).2.2.2.2.1
  L14 := (runB m c t h0 h1 u v).2.2.2.2.2.1
  L15 := (runB m c t h0 h1 u v).2.2.2.2.2.2.1
  L16 := (runB m c t h0 h1 u v).2.2.2.2.2.2.2.1
  L17 := (runB m c t h0 h1 u v).2.2.2.2.2.2.2.2.1
  cover9 := View.cover_of_tiledL _ S256x1024.size (by sl_kernel_rfl)
  cover10 := View.cover_of_tiledL _ S256x1024.size (by sl_kernel_rfl)
  cover11 := View.cover_of_tiledL _ S256x1024.size (by sl_kernel_rfl)
  cover12 := View.cover_of_tiledL _ S256x1024.size (by sl_kernel_rfl)
  cover13 := View.cover_of_tiledL _ S256x1024.size (by sl_kernel_rfl)
  cover14 := View.cover_of_tiledL _ S256x1024.size (by sl_kernel_rfl)
  cover15 := View.cover_of_tiledL _ S256x1024.size (by sl_kernel_rfl)
  cover16 := View.cover_of_tiledL _ S1x1024.size (by sl_kernel_rfl)
  cover17 := View.cover_of_tiledL _ S1x1024.size (by sl_kernel_rfl)

def stepB (c : Dev nD) (t : Fin cfg0.N) (h0 : ¬t.val % 8 = 0) (h1 : t.val < 6) (u v : Vec F S1x1024 .f32) : Step m c t u v where
  toLists := listsB m c t h0 h1 u v
  run := by
    have hN := points t
    have hk : ¬t.val = 0 := by omega
    refine run_of m c t u v _ ?_ ?_ ?_ ?_ ?_ ?_ (runB m c t h0 h1 u v).2.2.2.2.2.2.2.2.2
    · unfold ringAt0_0; rw [if_neg hk]; exact Ring3.mid_in _ _ _ _ (by omega)
    · unfold ringAt0_1; rw [if_neg hk]; exact Ring3.mid_in _ _ _ _ (by omega)
    · unfold ringAt0_0; rw [if_neg (Nat.succ_ne_zero _)]; exact Ring3.mid_out _ _ _ _ (by omega)
    · unfold ringAt0_1; rw [if_neg (Nat.succ_ne_zero _)]; exact Ring3.mid_out _ _ _ _ (by omega)
    · unfold carried; rw [if_neg h0]
    · unfold carried; rw [if_neg h0]

/-- What that point stores. -/
def listsC (c : Dev nD) (t : Fin cfg0.N) (h0 : ¬t.val % 8 = 0) (h1 : ¬t.val < 6) (u v : Vec F S1x1024 .f32) : Lists (F := F) where
  L9 := (runC m c t h0 h1 u v).1
  L10 := (runC m c t h0 h1 u v).2.1
  L11 := (runC m c t h0 h1 u v).2.2.1
  L12 := (runC m c t h0 h1 u v).2.2.2.1
  L13 := (runC m c t h0 h1 u v).2.2.2.2.1
  L14 := (runC m c t h0 h1 u v).2.2.2.2.2.1
  L15 := (runC m c t h0 h1 u v).2.2.2.2.2.2.1
  L16 := (runC m c t h0 h1 u v).2.2.2.2.2.2.2.1
  L17 := (runC m c t h0 h1 u v).2.2.2.2.2.2.2.2.1
  cover9 := View.cover_of_tiledL _ S256x1024.size (by sl_kernel_rfl)
  cover10 := View.cover_of_tiledL _ S256x1024.size (by sl_kernel_rfl)
  cover11 := View.cover_of_tiledL _ S256x1024.size (by sl_kernel_rfl)
  cover12 := View.cover_of_tiledL _ S256x1024.size (by sl_kernel_rfl)
  cover13 := View.cover_of_tiledL _ S256x1024.size (by sl_kernel_rfl)
  cover14 := View.cover_of_tiledL _ S256x1024.size (by sl_kernel_rfl)
  cover15 := View.cover_of_tiledL _ S256x1024.size (by sl_kernel_rfl)
  cover16 := View.cover_of_tiledL _ S1x1024.size (by sl_kernel_rfl)
  cover17 := View.cover_of_tiledL _ S1x1024.size (by sl_kernel_rfl)

def stepC (c : Dev nD) (t : Fin cfg0.N) (h0 : ¬t.val % 8 = 0) (h1 : ¬t.val < 6) (u v : Vec F S1x1024 .f32) : Step m c t u v where
  toLists := listsC m c t h0 h1 u v
  run := by
    have hN := points t
    have hk : ¬t.val = 0 := by omega
    refine run_of m c t u v _ ?_ ?_ ?_ ?_ ?_ ?_ (runC m c t h0 h1 u v).2.2.2.2.2.2.2.2.2
    · unfold ringAt0_0; rw [if_neg hk]; exact Ring3.last_in _ _ _ _ hN
    · unfold ringAt0_1; rw [if_neg hk]; exact Ring3.last_in _ _ _ _ hN
    · unfold ringAt0_0; rw [if_neg (Nat.succ_ne_zero _)]; exact Ring3.last_out _ _ _ _ hN (by omega)
    · unfold ringAt0_1; rw [if_neg (Nat.succ_ne_zero _)]; exact Ring3.last_out _ _ _ _ hN (by omega)
    · unfold carried; rw [if_neg h0]
    · unfold carried; rw [if_neg h0]

/-- The step at any point. -/
def step (c : Dev nD) (t : Fin cfg0.N) (u v : Vec F S1x1024 .f32) : Step m c t u v :=
  if h0 : t.val % 8 = 0 then stepA m c t h0 (by have := points t; omega) u v
  else if h1 : t.val < 6 then stepB m c t h0 h1 u v else stepC m c t h0 h1 u v

/-! ## The whole run -/

/-- What a block of rows holds after its stores, and what a sum's block does. -/
def held (L : Stores (F := F)) : Vec F S512x1024 .bf16 := VO0_9.read (Elt F) (VO0_9.writes (Elt F) VO0_9.junk L)
@[inherit_doc held]
def heldSum (L : Sums (F := F)) : Vec F S1x1024 .f32 := VO0_16.read (Elt F) (VO0_16.writes (Elt F) VO0_16.junk L)

/-- Covering stores leave `held` in whatever buffer they go to. -/
theorem owns_held (c : Dev nD) (a : Memref sig .tc .vmem S512x1024 .bf16) (L : Stores (F := F)) (h : ∀ y, ∃ pc ∈ L, y ∈ pc.1.set) :
    stored c a L ⊢ owns (c : Thread nD τ) a fullShare (held L) := by
  iintro ⟨%f, H⟩
  unfold owns held
  iexists _
  isplitr
  swap
  · iexact H
  ipureintro
  exact View.read_writes_of_cover _ _ _ _ _ h
@[inherit_doc owns_held]
theorem owns_heldSum (c : Dev nD) (a : Memref sig .tc .vmem S1x1024 .f32) (L : Sums (F := F)) (h : ∀ y, ∃ pc ∈ L, y ∈ pc.1.set) :
    stored c a L ⊢ owns (c : Thread nD τ) a fullShare (heldSum L) := by
  iintro ⟨%f, H⟩
  unfold owns heldSum
  iexists _
  isplitr
  swap
  · iexact H
  ipureintro
  exact View.read_writes_of_cover _ _ _ _ _ h

/-- The two sums before point `n`; before the first point it does not matter what they are. -/
def sums (c : Dev nD) : ℕ → Vec F S1x1024 .f32 × Vec F S1x1024 .f32
  | 0 => (constant S1x1024 .f32 0x00000000#32, constant S1x1024 .f32 0x00000000#32)
  | n + 1 => if h : n < cfg0.N then
      let s := step m c ⟨n, h⟩ (sums c n).1 (sums c n).2
      (heldSum s.L16, heldSum s.L17) else sums c n

/-- The step that the run takes at a point. -/
abbrev taken (c : Dev nD) (t : Fin cfg0.N) := step m c t (sums m c t.val).1 (sums m c t.val).2

theorem sums_succ (c : Dev nD) (t : Fin cfg0.N) : sums m c (t.val + 1) = (heldSum (taken m c t).L16, heldSum (taken m c t).L17) := by
  rw [sums, dif_pos t.isLt]

/-- Between the points: the generator's register and the two rings. -/
def between (c : Dev nD) (k : ℕ) : sProp 𝕄 := iprop((∃ r, prngReg c r) ∗ rings m c k)

/-- The run's data: the staged inputs keep their blocks, an output block holds what its point stored. -/
def dats : (p : Fin 1) → (c : Dev nD) → Dat τ (Elt F) Unit ℕ (Pipeline.UD sig nD τ) ℕ (cfgs p) c
  | ⟨0, _⟩ => fun c =>
    { A := fun w => V m c (Pipeline.arrRef spec0 w)
      after := fun w t => match w with
        | ⟨0, _⟩ => iblk m c 0 t
        | ⟨1, _⟩ => iblk m c 1 t
        | ⟨2, _⟩ => iblk m c 2 t
        | ⟨3, _⟩ => iblk m c 3 t
        | ⟨4, _⟩ => iblk m c 4 t
        | ⟨5, _⟩ => iblk m c 5 t
        | ⟨6, _⟩ => iblk m c 6 t
        | ⟨7, _⟩ => iblk m c 7 t
        | ⟨8, _⟩ => iblk m c 8 t
        | ⟨9, _⟩ => held (taken m c t).L9
        | ⟨10, _⟩ => held (taken m c t).L10
        | ⟨11, _⟩ => held (taken m c t).L11
        | ⟨12, _⟩ => held (taken m c t).L12
        | ⟨13, _⟩ => held (taken m c t).L13
        | ⟨14, _⟩ => held (taken m c t).L14
        | ⟨15, _⟩ => held (taken m c t).L15
        | ⟨16, _⟩ => heldSum (taken m c t).L16
        | ⟨17, _⟩ => heldSum (taken m c t).L17
        | ⟨_ + 18, h⟩ => absurd h (Nat.not_lt.2 (Nat.le_add_left _ _))
      Φ := fun t => between m c t.val
      q := fun w => Pipeline.shareOf spec0 w
      owed := fun _ => 0 }

theorem A_eq (c : Dev nD) (w : Fin cfg0.W) : (dats m 0 c).A w = V m c (Pipeline.arrRef spec0 w) := by dsimp only [dats]

theorem after9 (c : Dev nD) (t : Fin cfg0.N) : (dats m 0 c).after 9 t = held (taken m c t).L9 := by dsimp only [dats]
theorem after10 (c : Dev nD) (t : Fin cfg0.N) : (dats m 0 c).after 10 t = held (taken m c t).L10 := by dsimp only [dats]
theorem after11 (c : Dev nD) (t : Fin cfg0.N) : (dats m 0 c).after 11 t = held (taken m c t).L11 := by dsimp only [dats]
theorem after12 (c : Dev nD) (t : Fin cfg0.N) : (dats m 0 c).after 12 t = held (taken m c t).L12 := by dsimp only [dats]
theorem after13 (c : Dev nD) (t : Fin cfg0.N) : (dats m 0 c).after 13 t = held (taken m c t).L13 := by dsimp only [dats]
theorem after14 (c : Dev nD) (t : Fin cfg0.N) : (dats m 0 c).after 14 t = held (taken m c t).L14 := by dsimp only [dats]
theorem after15 (c : Dev nD) (t : Fin cfg0.N) : (dats m 0 c).after 15 t = held (taken m c t).L15 := by dsimp only [dats]
theorem after16 (c : Dev nD) (t : Fin cfg0.N) : (dats m 0 c).after 16 t = heldSum (taken m c t).L16 := by dsimp only [dats]
theorem after17 (c : Dev nD) (t : Fin cfg0.N) : (dats m 0 c).after 17 t = heldSum (taken m c t).L17 := by dsimp only [dats]

/-- What the pipeline hands the body of a sum's block. -/
theorem before16 (c : Dev nD) (t : Fin cfg0.N) (d) :
    owns (c : Thread nD τ) (ms0_16 t) fullShare ((dats m 0 c).before 16 t d) ⊢ carried c t (ms0_16 t) (sums m c t.val).1 := by
  have hN := points t
  unfold carried
  split
  · iintro H
    iexists _
    iexact H
  · rename_i h
    obtain ⟨n, hn⟩ : ∃ n, t.val = n + 1 := ⟨t.val - 1, by omega⟩
    rw [Dat.before_out_kept _ 16 rfl t (by omega) (Bool.eq_false_iff.mpr fun h => by have := (flush0_16 _).mp h; dsimp only at this; omega)
      (fun _ => rfl) (fun _ _ => rfl), after16]
    have e := sums_succ m c ⟨t.val - 1, by omega⟩
    rw [show (⟨t.val - 1, by omega⟩ : Fin cfg0.N).val + 1 = t.val by simp only []; omega] at e
    rw [e]
@[inherit_doc before16]
theorem before17 (c : Dev nD) (t : Fin cfg0.N) (d) :
    owns (c : Thread nD τ) (ms0_17 t) fullShare ((dats m 0 c).before 17 t d) ⊢ carried c t (ms0_17 t) (sums m c t.val).2 := by
  have hN := points t
  unfold carried
  split
  · iintro H
    iexists _
    iexact H
  · rename_i h
    rw [Dat.before_out_kept _ 17 rfl t (by omega) (Bool.eq_false_iff.mpr fun h => by have := (flush0_17 _).mp h; dsimp only at this; omega)
      (fun _ => rfl) (fun _ _ => rfl), after17]
    have e := sums_succ m c ⟨t.val - 1, by omega⟩
    rw [show (⟨t.val - 1, by omega⟩ : Fin cfg0.N).val + 1 = t.val by simp only []; omega] at e
    rw [e]

/-- What the pipeline hands the body at a point, and what it wants back. -/
def given (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

@[inherit_doc given]
def wanted (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t))

set_option maxHeartbeats 2000000 in
theorem sound (c : Dev nD) (t : Fin cfg0.N) :
    given m c t ⊢ wp frame (wpE (defs₀ (F := F)) Variants.none c none) Set.univ (bodyAt0 t) (fun _ => wanted m c t) := by
  have i0 : (dats m 0 c).after 0 = iblk m c 0 := by dsimp only [dats]
  have b0 := before0_0_of m (dats m 0 c) (A_eq m c 0) (fun t => congrFun i0 t) t
  have i1 : (dats m 0 c).after 1 = iblk m c 1 := by dsimp only [dats]
  have b1 := before0_1_of m (dats m 0 c) (A_eq m c 1) (fun t => congrFun i1 t) t
  have i2 : (dats m 0 c).after 2 = iblk m c 2 := by dsimp only [dats]
  have b2 := before0_2_of m (dats m 0 c) (A_eq m c 2) (fun t => congrFun i2 t) t
  have i3 : (dats m 0 c).after 3 = iblk m c 3 := by dsimp only [dats]
  have b3 := before0_3_of m (dats m 0 c) (A_eq m c 3) (fun t => congrFun i3 t) t
  have i4 : (dats m 0 c).after 4 = iblk m c 4 := by dsimp only [dats]
  have b4 := before0_4_of m (dats m 0 c) (A_eq m c 4) (fun t => congrFun i4 t) t
  have i5 : (dats m 0 c).after 5 = iblk m c 5 := by dsimp only [dats]
  have b5 := before0_5_of m (dats m 0 c) (A_eq m c 5) (fun t => congrFun i5 t) t
  have i6 : (dats m 0 c).after 6 = iblk m c 6 := by dsimp only [dats]
  have b6 := before0_6_of m (dats m 0 c) (A_eq m c 6) (fun t => congrFun i6 t) t
  have i7 : (dats m 0 c).after 7 = iblk m c 7 := by dsimp only [dats]
  have b7 := before0_7_of m (dats m 0 c) (A_eq m c 7) (fun t => congrFun i7 t) t
  have i8 : (dats m 0 c).after 8 = iblk m c 8 := by dsimp only [dats]
  have b8 := before0_8_of m (dats m 0 c) (A_eq m c 8) (fun t => congrFun i8 t) t
  have p : (dats m 0 c).Φ t.castSucc = between m c t.val := by dsimp only [dats]; simp only [Fin.val_castSucc]
  have q : (dats m 0 c).Φ t.succ = between m c (t.val + 1) := by dsimp only [dats]; simp only [Fin.val_succ]
  have c16 := before16 m c t
  have c17 := before17 m c t
  unfold given wanted
  simp only [b0, b1, b2, b3, b4, b5, b6, b7, b8]
  rw [after9, after10, after11, after12, after13, after14, after15, after16, after17, i0, i1, i2, i3, i4, i5, i6, i7, i8, p, q]
  unfold Dat.owesAt Pipeline.owesWithin between
  rw [show (dats m 0 c).owed t.castSucc = 0 from rfl, show (dats m 0 c).owed t.succ = 0 from rfl]
  unfold taken
  generalize (sums m c t.val).1 = u at *
  generalize (sums m c t.val).2 = v at *
  generalize step m c t u v = s
  iintro ⟨⟨Hg, HR⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  ihave H16 := (c16 d16) $$ H16
  ihave H17 := (c17 d17) $$ H17
  iapply (s.run W _)
  isplitl [HR]; · iexact HR
  isplitl [H0 H1 H2 H3 H4 H5 H6 H7 H8]
  · unfold inputs
    iframe
  isplitl [H9 H10 H11 H12 H13 H14 H15]
  · unfold blank
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact H15
  isplitl [H16]; · iexact H16
  isplitl [H17]; · iexact H17
  isplitl [HW]; · iexact HW
  iintro ⟨HR, ⟨H0, H1, H2, H3, H4, H5, H6, H7, H8⟩, ⟨H9, H10, H11, H12, H13, H14, H15, H16, H17⟩, ⟨%W', HW⟩⟩
  isplitl [Hg HR]
  · iframe
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (owns_held c _ _ s.cover9); iexact H9
  isplitl [H10]; · iapply (owns_held c _ _ s.cover10); iexact H10
  isplitl [H11]; · iapply (owns_held c _ _ s.cover11); iexact H11
  isplitl [H12]; · iapply (owns_held c _ _ s.cover12); iexact H12
  isplitl [H13]; · iapply (owns_held c _ _ s.cover13); iexact H13
  isplitl [H14]; · iapply (owns_held c _ _ s.cover14); iexact H14
  isplitl [H15]; · iapply (owns_held c _ _ s.cover15); iexact H15
  isplitl [H16]; · iapply (owns_heldSum c _ _ s.cover16); iexact H16
  iapply (owns_heldSum c _ _ s.cover17); iexact H17

theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (sound m c t) rfl .rfl fun _ => .rfl

/-- The scratch, the semaphores and the two operands handed over at the start make the two rings. -/
theorem hin (c : Dev nD) : Pipeline.ΦD osem0 spec0 H0 (V m) c ⊢ (dats m 0 c).Φ 0 := by
  rw [PhiD0_eq, show (dats m 0 c).Φ 0 = between m c 0 from rfl]
  unfold between
  iintro ⟨⟨B0, B1⟩, Hg, ⟨q0, q1, q2, q3, q4, q5⟩, ⟨S0, S1⟩⟩
  isplitl [Hg]; · iexact Hg
  isplitl [B0 q0 q1 q2 S0]
  · iapply (ring0_0_in (F := F) m c)
    iframe
  iapply (ring0_1_in (F := F) m c)
  iframe

/-- The rings after the last point give them back. -/
theorem hout (c : Dev nD) : (dats m 0 c).Φ (Fin.last cfg0.N) ⊢ Pipeline.ΦD osem0 spec0 H0 (V m) c := by
  rw [PhiD0_eq, show (dats m 0 c).Φ (Fin.last cfg0.N) = between m c grid0.N from rfl, show grid0.N = 8 by rw [N_0]]
  unfold between
  iintro ⟨Hg, R0, R1⟩
  ihave P0 := (ring0_0_out (F := F) m c) $$ R0
  icases P0 with ⟨B0, ⟨q0, q1, q2⟩, S0⟩
  ihave P1 := (ring0_1_out (F := F) m c) $$ R1
  icases P1 with ⟨B1, ⟨q3, q4, q5⟩, S1⟩
  iframe

set_option backward.isDefEq.respectTransparency.types false in
/-- The program ends with its arrays as the pipeline leaves them and every semaphore at zero. -/
theorem run : θ_run defs (onTc (τ := τ) (main (F := F))) (s₀ m ρ) (fun r => (Pipeline.FramePost cfgs (dats m) 0 (V m)) r ∧ r.2.sem = fun _ => 0) :=
  Pipeline.θ_run_frame_dma_shared (Q' := _) cfgs (dats m) (0 : Fin 1) launch₀0 osem0 defs₀ Variants.none ownSemFacts0 H0 H0_sub m ρ main
    (hbody := fun c => (obligation m c).loose) (hq := fun _ _ _ => rfl)
    (howed := fun _ _ => rfl) (V := V m) (hmain := hmain m Variants.none) (hA := A_eq m)
    (hin := hin m) (hout := hout m)

/-- The frame: the program ends, its arguments unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.MergeFrame

end
-- ==== Proof.LayerNorm.lean ====
/- The layer norm of one row and its gradient: the form a kernel computes and the form that differentiating the forward
   lines gives are the same extended real, for a real cotangent and any row. -/
module

public import proofs.«01_k».proof.Proof.Swiglu

@[expose] public section

noncomputable section

namespace Cert.LayerNorm

open Idealize.ShloMosaic Cert.Reals

/-- The words of 1024, of `ε`, of `-1/2` and of 2, as the programs spell them. -/
abbrev w1024 : EReal := Ideal.ofBits FTy.f32 0x44800000#32
abbrev wEps : EReal := Ideal.ofBits FTy.f32 0x358637BD#32
abbrev wNegHalf : EReal := Ideal.ofBits FTy.f32 0xBF000000#32
abbrev wTwo : EReal := Ideal.ofBits FTy.f32 0x40000000#32

/-- The mean of a row, the row less its mean, the mean of its squares plus `ε`, the inverse square root of that, and the
    normed row. -/
def mean (f : Fin 1024 → EReal) : EReal := Ideal.div (∑ x, f x) w1024
def centred (a : Fin 1024 → EReal) (x : Fin 1024) : EReal := a x - mean a
def power (a : Fin 1024 → EReal) : EReal := Rms.power (centred a)
def inv (a : Fin 1024 → EReal) : EReal := Rms.inv (centred a)
def hat (a : Fin 1024 → EReal) (x : Fin 1024) : EReal := centred a x * inv a

/-- The gradient as a kernel computes it, of a row `a` and the cotangent `d` of the normed row, at entry `l`. -/
def byHand (a d : Fin 1024 → EReal) (l : Fin 1024) : EReal :=
  inv a * (d l - mean d - hat a l * mean (fun x => d x * hat a x))

/-- What comes back through the mean of squares, as the derivative spells it. -/
def square (a d : Fin 1024 → EReal) : EReal :=
  ∑ _x : Fin 1, Ideal.div ((∑ x, centred a x * d x) * (wNegHalf * Ideal.div (inv a) (power a))) w1024

/-- What comes back through the mean. -/
def shift (a d : Fin 1024 → EReal) : EReal :=
  ∑ _x : Fin 1, Ideal.div ((∑ x, -(d x * inv a)) + ∑ x, -(square a d * (wTwo * centred a x))) w1024

/-- A row with an infinite mean has no real entry less its mean. -/
theorem centred_infinite (a : Fin 1024 → EReal) (h : ¬ IsReal (mean a)) (x : Fin 1024) : ¬ IsReal (centred a x) := by
  unfold centred
  generalize mean a = u at h
  generalize a x = v
  rintro ⟨r, e⟩
  induction u with
  | coe s => exact h ⟨s, rfl⟩
  | top => simp at e
  | bot => induction v <;> simp at e

/-- The mean of a row with a real mean, and the sum less it. -/
theorem real_of_mean (a : Fin 1024 → EReal) (h : ∀ x, IsReal (centred a x)) : ∃ g : Fin 1024 → ℝ, ∃ s : ℝ,
    a = (fun x => (g x : EReal)) ∧ mean a = (s : EReal) := by
  have hm : IsReal (mean a) := by
    by_contra hm
    exact centred_infinite a hm 0 (h 0)
  obtain ⟨s, hs⟩ := hm
  have ha : ∀ x, IsReal (a x) := fun x => by
    obtain ⟨r, hr⟩ := h x
    unfold centred at hr
    rw [hs] at hr
    generalize a x = v at hr
    induction v with
    | coe v => exact ⟨v, rfl⟩
    | top => simp at hr
    | bot => simp at hr
  obtain ⟨g, hg⟩ := lift ha
  exact ⟨g, s, hg, hs⟩

/-- The two forms agree when the cotangent is real. -/
theorem byHand_eq (a : Fin 1024 → EReal) (d : Fin 1024 → ℝ) (l : Fin 1024) :
    byHand a (fun x => (d x : EReal)) l = (d l : EReal) * inv a + square a (fun x => (d x : EReal)) * (wTwo * centred a l)
      + shift a (fun x => (d x : EReal)) := by
  by_cases hh : ∀ x, IsReal (centred a x)
  · obtain ⟨g, s, rfl, hs⟩ := real_of_mean a hh
    have hsum : s = (∑ x, g x) / 1024 := by
      have : mean (fun x => (g x : EReal)) = (((∑ x, g x) / 1024 : ℝ) : EReal) := by
        rw [mean, w1024, word_1024, ← coe_sum, div_real _ (by norm_num)]
      exact EReal.coe_eq_coe_iff.mp (hs.symm.trans this)
    have hc : centred (fun x => (g x : EReal)) = fun x => ((g x - s : ℝ) : EReal) := by
      funext x
      rw [centred, hs, EReal.coe_sub]
    obtain ⟨p, hp, e⟩ := Rms.power_real fun x => g x - s
    have hz : ∑ x, (g x - s) = 0 := by
      rw [Finset.sum_sub_distrib, hsum]
      simp
      ring
    have hi : inv (fun x => (g x : EReal)) = (((Real.sqrt p)⁻¹ : ℝ) : EReal) := by
      rw [inv, hc, Rms.inv, e, rsqrt_pos hp]
    have hp' : power (fun x => (g x : EReal)) = (p : EReal) := by rw [power, hc, e]
    have hs' : (Real.sqrt p)⁻¹ * (Real.sqrt p)⁻¹ = 1 / p := by
      rw [← mul_inv, Real.mul_self_sqrt hp.le, one_div]
    simp only [byHand, square, shift, hat, mean, hi, hp', hc, w1024, wNegHalf, word_1024, word_neg_half, Swiglu.word_two, Fin.sum_univ_one]
    generalize (Real.sqrt p)⁻¹ = i at hs'
    have hn : (1024 : ℝ) ≠ 0 := by norm_num
    simp only [← EReal.coe_mul, ← coe_sum, div_real _ hp.ne', div_real _ hn, ← EReal.coe_neg, ← EReal.coe_add, ← EReal.coe_sub]
    refine congrArg _ ?_
    generalize hcx : (fun x => g x - s) = c at hz
    have hcx' : ∀ x, g x - s = c x := fun x => congrFun hcx x
    simp only [hcx'] at hz ⊢
    have e1 : ∑ x, d x * (c x * i) = i * ∑ x, c x * d x := by
      rw [Finset.mul_sum]; exact Finset.sum_congr rfl fun x _ => by ring
    have e2 : ∑ x, -(d x * i) = -(i * ∑ x, d x) := by
      rw [Finset.mul_sum, ← Finset.sum_neg_distrib]; exact Finset.sum_congr rfl fun x _ => by ring
    have e3 : ∀ k : ℝ, ∑ x, -(k * (2 * c x)) = 0 := fun k => by
      have : ∑ x, -(k * (2 * c x)) = -(2 * k) * ∑ x, c x := by
        rw [Finset.mul_sum]; exact Finset.sum_congr rfl fun x _ => by ring
      rw [this, hz, mul_zero]
    rw [e1, e2, e3]
    have : i * (c l * i * (i * (∑ x, c x * d x) / 1024)) = c l * (∑ x, c x * d x) / 1024 * (i * (i * i)) := by ring
    rw [mul_sub, this, hs']
    ring
  · obtain ⟨e1, e2⟩ := Rms.inv_infinite (centred a) hh
    have e3 : square a (fun x => (d x : EReal)) = 0 := by
      rw [square, Fin.sum_univ_one, inv, power, e1, e2, w1024, word_1024]
      simp [Ideal.div]
    have e4 : shift a (fun x => (d x : EReal)) = 0 := by
      rw [shift, Fin.sum_univ_one, e3, inv, e1, w1024, word_1024]
      simp [Ideal.div]
    rw [byHand, e3, e4, inv, e1]
    simp

end Cert.LayerNorm

end
-- ==== Proof.MixOutRef.lean ====
/- The gradient of the gated merge and of the normed branch before it, as the reference computes it: entry by entry closed
   forms of the arguments. -/
module

public import proofs.«01_k».proof.Proof.Gen.MixOutRefIdeal.Read
public import proofs.«01_k».proof.Proof.LayerNorm
public import proofs.«01_k».proof.Proof.FfnHiddenRef
public import Idealize.ShloMosaic.Lib.Pointwise

@[expose] public section

set_option maxRecDepth 16384

noncomputable section

namespace Cert.Merge

open Idealize.ShloMosaic Idealize.ShloMosaic.TcCoe Idealize.SL.Sem Cert.MixOutRefIdeal Cert.MixOutRefIdeal.Read Cert.Reals
open Cert.GatedHidden (through_gate)
open Cert.Swiglu (word_one)

/-- The gate's slope is real everywhere, and so is the logistic function. -/
theorem logistic_real (g : EReal) : IsReal (Ideal.logistic g) := by
  induction g with
  | bot => exact ⟨0, by simp⟩
  | top => exact ⟨1, by simp⟩
  | coe r => exact ⟨_, Ideal.logistic_coe r⟩

@[inherit_doc logistic_real]
theorem slope_real (g : EReal) : IsReal (GatedHidden.slope g) := by
  unfold GatedHidden.slope
  induction g with
  | bot => exact ⟨0, by simp⟩
  | top => exact ⟨1, by simp [show (1 : EReal) - 1 = 0 from by rw [← EReal.coe_one, ← EReal.coe_sub, sub_self, EReal.coe_zero]]⟩
  | coe r =>
    obtain ⟨s, hs⟩ := logistic_real (r : EReal)
    rw [hs]
    exact ⟨s * (1 + r * (1 - s)), by norm_cast⟩

variable (dh a q : FVec Ideal S4096x1024 .f32) (z : FVec Ideal S4096x7168 .f32) (g b : FVec Ideal S1x1024 .f32)
  (wa wb wo : FVec Ideal S1x1024x1024 .f32) (r : Fin 4096) (x : Fin 1024)

/-- Row `r` of the convolution's result, and the layer norm of it with weight and bias. -/
abbrev arow : Fin 1024 → EReal := fun x => a (ix2 r x)
def affine : EReal := LayerNorm.hat (arow a r) x * g (ix2 0 x) + b (ix2 0 x)

/-- What the two branches hand to the merge. -/
def ya : EReal := ∑ k, affine a g b r k * Ideal.logistic (affine a g b r k) * wa (ix3 0 k x)
def yb : EReal := ∑ k, q (ix2 r k) * wb (ix3 0 k x)

/-- The two gates. -/
def sa : EReal := Ideal.logistic (z (ix2 r ⟨5120 + x.val, by omega⟩))
def sb : EReal := Ideal.logistic (z (ix2 r ⟨6144 + x.val, by omega⟩))

/-- The cotangents: of the merged state, of the two branches, of the gates. -/
def dm : EReal := ∑ k, dh (ix2 r k) * wo (ix3 0 x k)
def dya : EReal := sa z r x * dm dh wo r x
def dyb : EReal := sb z r x * dm dh wo r x
def gateBack (d y s : EReal) : EReal := d * y * s * (1 - s)
def dga : EReal := gateBack (dm dh wo r x) (ya a g b wa r x) (sa z r x)
def dgb : EReal := gateBack (dm dh wo r x) (yb q wb r x) (sb z r x)

/-- The cotangents of the two products' left factors, of the normed row with weight and bias, and of the normed row. -/
def dq : EReal := ∑ k, dyb dh z wo r k * wb (ix3 0 x k)
def da3 : EReal := ∑ k, dya dh z wo r k * wa (ix3 0 x k)
def da2 : EReal := da3 dh z wa wo r x * GatedHidden.slope (affine a g b r x)
def dhat : EReal := da2 dh a z g b wa wo r x * g (ix2 0 x)
def da1 : EReal := LayerNorm.byHand (arow a r) (dhat dh a z g b wa wo r) x

/-- An array of bf16 entries by rows. -/
abbrev rows (f : Fin 4096 → Fin 1024 → EReal) : FVec Ideal S4096x1024 .bf16 := fun i => f (i 0) (i 1)

/-- The gradients of the layer norm's weight and bias. -/
def weight : FVec Ideal S1x1024 .f32 := fun i => ∑ r : Fin 4096, da2 dh a z g b wa wo r (i 1) * LayerNorm.hat (arow a r) (i 1)
def bias : FVec Ideal S1x1024 .f32 := fun i => ∑ r : Fin 4096, da2 dh a z g b wa wo r (i 1)

theorem mean_at : val_main_v12 (F := Ideal) a (ix2 r 0) = LayerNorm.mean (arow a r) := by
  pointwise [val_main_v12, val_main_v11, val_main_v10, val_main_v9, val_main_cst, val_main_cst_0]
  rfl

theorem centred_at : val_main_v23 (F := Ideal) a (ix2 r x) = LayerNorm.centred (arow a r) x := by
  pointwise [val_main_v23, val_main_v22]
  rw [mean_at]
  rfl

theorem centred_at' : val_main_v14 (F := Ideal) a (ix2 r x) = LayerNorm.centred (arow a r) x := centred_at a r x

theorem power_at : val_main_v25 (F := Ideal) a (ix2 r 0) = LayerNorm.power (arow a r) := by
  pointwise [val_main_v25, val_main_v24, val_main_v21, val_main_v20, val_main_v19, val_main_v18, val_main_v15, val_main_cst_2,
    val_main_cst_3, val_main_cst_4]
  simp only [centred_at']
  rfl

theorem inv_at : val_main_v26 (F := Ideal) a (ix2 r 0) = LayerNorm.inv (arow a r) := by
  pointwise [val_main_v26]
  rw [power_at]
  rfl

theorem hat_at : val_main_v31 (F := Ideal) a (ix2 r x) = LayerNorm.hat (arow a r) x := by
  pointwise [val_main_v31, val_main_v30]
  rw [centred_at, inv_at]
  rfl

theorem affine_at : val_main_v37 (F := Ideal) a g b (ix2 r x) = affine a g b r x := by
  pointwise [val_main_v37, val_main_v36, val_main_v35, val_main_v34, val_main_v33, val_main_v32, val_main_v8, val_main_v7]
  rw [hat_at]
  rfl

theorem gate_at : val_main_v38_2 (F := Ideal) a g b (ix2 r x) = Ideal.logistic (affine a g b r x) := by
  pointwise [val_main_v38_2, val_main_call0_v4, val_main_call0_v3, val_main_call0_v2, val_main_call0_v1, val_main_call0_v0,
    val_main_call0_cst, val_main_call0_cst_0]
  simp only [affine_at, word_one, EReal.coe_one]
  rfl

theorem ya_at : val_main_v40 (F := Ideal) a g b wa (ix2 r x) = ya a g b wa r x := by
  pointwise [val_main_v40, val_main_v39, val_main_v38_0]
  simp only [affine_at, gate_at]
  rfl

theorem yb_at : val_main_v42 (F := Ideal) q wb (ix2 r x) = yb q wb r x := by
  pointwise [val_main_v42, val_main_v41]
  rfl

theorem group5 : val_main_v5 (F := Ideal) z (ix2 r x) = z (ix2 r ⟨5120 + x.val, by omega⟩) :=
  congrArg z (funext fun i => Fin.ext (by fin_cases i <;> simp [ix2]))

theorem sa_at : val_main_v48 (F := Ideal) z (ix2 r x) = sa z r x := by
  pointwise [val_main_v48, val_main_v47, val_main_v46, val_main_v45, val_main_v44, val_main_v43, val_main_cst_6,
    val_main_cst_7]
  simp only [group5, word_one, EReal.coe_one]
  rfl

theorem group6 : val_main_v6 (F := Ideal) z (ix2 r x) = z (ix2 r ⟨6144 + x.val, by omega⟩) :=
  congrArg z (funext fun i => Fin.ext (by fin_cases i <;> simp [ix2]))

theorem sb_at : val_main_v58 (F := Ideal) z (ix2 r x) = sb z r x := by
  pointwise [val_main_v58, val_main_v57, val_main_v56, val_main_v55, val_main_v54, val_main_v53, val_main_cst_9,
    val_main_cst_10]
  simp only [group6, word_one, EReal.coe_one]
  rfl

theorem dm_at : val_main_v66 (F := Ideal) dh wo (ix2 r x) = dm dh wo r x := by
  pointwise [val_main_v66, val_main_v64]
  rfl

theorem dya_at : val_main_v70 (F := Ideal) dh z wo (ix2 r x) = dya dh z wo r x := by
  pointwise [val_main_v70]
  rw [sa_at, dm_at]
  rfl

theorem dyb_at : val_main_v67 (F := Ideal) dh z wo (ix2 r x) = dyb dh z wo r x := by
  pointwise [val_main_v67]
  rw [sb_at, dm_at]
  rfl

theorem da3_at : val_main_v74 (F := Ideal) dh z wa wo (ix2 r x) = da3 dh z wa wo r x := by
  pointwise [val_main_v74, val_main_v39]
  simp only [dya_at]
  rfl

theorem ref_dh : val_main_v117 (F := Ideal) dh = rows fun r x => dh (ix2 r x) := by
  funext i
  idx_vars i
  pointwise [val_main_v117]
  rfl
theorem ref_dya : val_main_v115 (F := Ideal) dh z wo = rows (dya dh z wo) := by
  funext i
  idx_vars i
  pointwise [val_main_v115]
  exact dya_at _ _ _ _ _
theorem ref_dyb : val_main_v116 (F := Ideal) dh z wo = rows (dyb dh z wo) := by
  funext i
  idx_vars i
  pointwise [val_main_v116]
  exact dyb_at _ _ _ _ _
theorem ref_dga : val_main_v113 (F := Ideal) dh a z g b wa wo = rows (dga dh a z g b wa wo) := by
  funext i
  idx_vars i
  pointwise [val_main_v113, val_main_v72, val_main_v71, val_main_v51, val_main_v50, val_main_v49, val_main_cst_8]
  rw [dm_at, ya_at, sa_at, ← mul_assoc]
  rfl
theorem ref_dgb : val_main_v114 (F := Ideal) dh q z wb wo = rows (dgb dh q z wb wo) := by
  funext i
  idx_vars i
  pointwise [val_main_v114, val_main_v69, val_main_v68, val_main_v61, val_main_v60, val_main_v59, val_main_cst_11]
  rw [dm_at, yb_at, sb_at, ← mul_assoc]
  rfl
theorem ref_dq : val_main_v112 (F := Ideal) dh z wb wo = rows (dq dh z wb wo) := by
  funext i
  idx_vars i
  pointwise [val_main_v112, val_main_v73, val_main_v41]
  simp only [dyb_at]
  rfl

section Real

variable (h0 : ∀ i, IsReal (dh i)) (h4 : ∀ i, IsReal (g i)) (h6 : ∀ i, IsReal (wa i)) (h8 : ∀ i, IsReal (wo i))
include h0 h6 h8

theorem da3_real : IsReal (da3 dh z wa wo r x) :=
  IsReal.sum _ fun k => IsReal.mul (IsReal.mul (logistic_real _) (IsReal.sum _ fun j => (h0 _).mul (h8 _))) (h6 _)

theorem da2_at : val_main_v75 (F := Ideal) dh a z g b wa wo (ix2 r x) = da2 dh a z g b wa wo r x := by
  pointwise [val_main_v75, val_main_call1_v2, val_main_call1_v1, val_main_call1_v0, val_main_v38_1, val_main_call0_v7,
    val_main_call0_v6, val_main_call0_cst_1]
  rw [da3_at, affine_at, gate_at]
  obtain ⟨d, hd⟩ := da3_real dh z wa wo r x h0 h6 h8
  unfold da2
  rw [hd]
  exact through_gate d _

theorem ref_weight : val_main_v110 (F := Ideal) dh a z g b wa wo = weight dh a z g b wa wo := by
  funext i
  idx_vars i
  pointwise [val_main_v110, val_main_v84, val_main_v81, val_main_v80, val_main_v79, val_main_cst_14, val_main_cst_15]
  simp only [da2_at dh a z g b wa wo _ _ h0 h6 h8, hat_at, Fin.sum_univ_one]
  exact Finset.sum_congr rfl fun r _ => mul_comm (LayerNorm.hat (arow a r) i1) (da2 dh a z g b wa wo r i1)

theorem ref_bias : val_main_v109 (F := Ideal) dh a z g b wa wo = bias dh a z g b wa wo := by
  funext i
  idx_vars i
  pointwise [val_main_v109, val_main_v78, val_main_v77, val_main_v76, val_main_cst_12, val_main_cst_13]
  simp only [da2_at dh a z g b wa wo _ _ h0 h6 h8, Fin.sum_univ_one]
  rfl

theorem dhat_at : val_main_v83 (F := Ideal) dh a z g b wa wo (ix2 r x) = dhat dh a z g b wa wo r x := by
  pointwise [val_main_v83, val_main_v82, val_main_v32, val_main_v7]
  rw [da2_at dh a z g b wa wo _ _ h0 h6 h8]
  rfl

theorem square_at : val_main_v96 (F := Ideal) dh a z g b wa wo (ix1 r) = LayerNorm.square (arow a r) (dhat dh a z g b wa wo r) := by
  pointwise [val_main_v96, val_main_v95, val_main_v94, val_main_v90, val_main_v87, val_main_v86, val_main_v85, val_main_v29,
    val_main_v28, val_main_v27, val_main_cst_5, val_main_cst_16, val_main_cst_18, val_main_cst_19]
  simp only [LayerNorm.square, Fin.sum_univ_one, dhat_at dh a z g b wa wo _ _ h0 h6 h8, centred_at, inv_at, power_at]

theorem back_at : val_main_v98 (F := Ideal) dh a z g b wa wo (ix2 r x)
    = LayerNorm.square (arow a r) (dhat dh a z g b wa wo r) * (LayerNorm.wTwo * LayerNorm.centred (arow a r) x) := by
  pointwise [val_main_v98, val_main_v97, val_main_v17, val_main_v16, val_main_cst_1]
  rw [square_at dh a z g b wa wo _ h0 h6 h8, centred_at']

theorem scaled_at : val_main_v89 (F := Ideal) dh a z g b wa wo (ix2 r x) = dhat dh a z g b wa wo r x * LayerNorm.inv (arow a r) := by
  pointwise [val_main_v89, val_main_v88]
  rw [dhat_at dh a z g b wa wo _ _ h0 h6 h8, inv_at]

theorem shift_at : val_main_v106 (F := Ideal) dh a z g b wa wo (ix1 r) = LayerNorm.shift (arow a r) (dhat dh a z g b wa wo r) := by
  pointwise [val_main_v106, val_main_v105, val_main_v104, val_main_v103, val_main_v101, val_main_v100, val_main_v99, val_main_v93,
    val_main_v92, val_main_v91, val_main_cst_17, val_main_cst_20, val_main_cst_21, val_main_cst_22]
  simp only [LayerNorm.shift, Fin.sum_univ_one, back_at dh a z g b wa wo _ _ h0 h6 h8, scaled_at dh a z g b wa wo _ _ h0 h6 h8]

include h4 in
theorem ref_da1 : val_main_v111 (F := Ideal) dh a z g b wa wo = rows (da1 dh a z g b wa wo) := by
  funext i
  idx_vars i
  pointwise [val_main_v111, val_main_v108, val_main_v107, val_main_v102]
  rw [back_at dh a z g b wa wo _ _ h0 h6 h8, scaled_at dh a z g b wa wo _ _ h0 h6 h8, shift_at dh a z g b wa wo _ h0 h6 h8]
  obtain ⟨d, hd⟩ := lift (f := dhat dh a z g b wa wo i0) fun x =>
    ((da3_real dh z wa wo i0 x h0 h6 h8).mul (slope_real _)).mul (h4 _)
  show _ = LayerNorm.byHand (arow a i0) (dhat dh a z g b wa wo i0) i1
  rw [hd]
  exact (LayerNorm.byHand_eq (arow a i0) d i1).symm

end Real

end Cert.Merge

end
-- ==== Proof.MixOutBlock.lean ====
/- The merge's gradient on one row part of a block: what the kernel stores, entry by entry, when its operands hold the
   array's rows `rr 0, rr 1, …`. The two row parts of a block store the same functions of their operands. -/
module

public import proofs.«01_k».proof.Proof.Gen.MixOutIdeal.Skeleton
public import proofs.«01_k».proof.Proof.MixOutRef

@[expose] public section

set_option maxRecDepth 16384

noncomputable section

namespace Cert.MixOutIdeal.Part

open Idealize.ShloMosaic Idealize.ShloMosaic.TcCoe Idealize.SL.Sem Cert.MixOutIdeal Cert.MixOutIdeal.Gen Cert.Merge

/-- What one row part works on: rows of the cotangent, of the convolution's result, of the two gates and of the branches'
    results; the layer norm's weight and bias; the three weights. -/
structure Operands where
  D : FVec Ideal S256x1024 .f32
  A : FVec Ideal S256x1024 .f32
  Ga : FVec Ideal S1x256x1024 .bf16
  Gb : FVec Ideal S1x256x1024 .bf16
  Ya : FVec Ideal S256x1024 .bf16
  Yb : FVec Ideal S256x1024 .bf16
  G : FVec Ideal S1x1024 .f32
  B : FVec Ideal S1x1024 .f32
  Wa : FVec Ideal S1024x1024 .bf16
  Wb : FVec Ideal S1024x1024 .bf16
  Wo : FVec Ideal S1024x1024 .bf16

/-- The accumulator that a product starts from. -/
abbrev Z : FVec Ideal S256x1024 .f32 := constant S256x1024 .f32 0x00000000#32
abbrev one : Ideal .f32 := Scalar.ofBits .f32 0x3F800000#32

variable (o : Operands)

/-- What a row part stores. -/
abbrev sDh := k0_pay4 (F := Ideal) o.D
abbrev sDya := k0_pay11 (F := Ideal) (k0_pay4 o.D) (k0_pay5 o.Wo) Z o.Ga
abbrev sDyb := k0_pay12 (F := Ideal) (k0_pay4 o.D) (k0_pay5 o.Wo) Z o.Gb
abbrev sDga := k0_pay9 (F := Ideal) (k0_pay4 o.D) (k0_pay5 o.Wo) Z o.Ga o.Ya
abbrev sDgb := k0_pay10 (F := Ideal) (k0_pay4 o.D) (k0_pay5 o.Wo) Z o.Gb o.Yb
abbrev sDq := k0_pay13 (F := Ideal) (sDyb o) o.Wb
abbrev pDa3 := k0_pay14 (F := Ideal) (sDya o) o.Wa
abbrev pHat := k0_pay17 (F := Ideal) o.A
abbrev pGate := k0_pay19 (F := Ideal) o.A o.G o.B
abbrev pTail := k0_pay20 (F := Ideal) o.A o.G o.B
abbrev sWeight (u : FVec Ideal S1x1024 .f32) := k0_pay22 (F := Ideal) (pDa3 o) (pHat o) (pGate o) (pTail o) one u
abbrev sBias (u : FVec Ideal S1x1024 .f32) := k0_pay23 (F := Ideal) (pDa3 o) (pGate o) (pTail o) one u
abbrev sDa1 := k0_pay24 (F := Ideal) (pDa3 o) (k0_pay16 o.A) (pHat o) (pGate o) (pTail o) one o.G

/-- The second row part stores the same functions. -/
theorem second_dh : k0_pay25 (F := Ideal) o.D = sDh o := rfl
theorem second_dya : k0_pay31 (F := Ideal) (k0_pay26 o.D o.Wo) (k0_pay27 o.Ga) = sDya o := rfl
theorem second_dyb : k0_pay32 (F := Ideal) (k0_pay26 o.D o.Wo) (k0_pay28 o.Gb) = sDyb o := rfl
theorem second_dga : k0_pay29 (F := Ideal) o.D o.Wo o.Ga o.Ya = sDga o := rfl
theorem second_dgb : k0_pay30 (F := Ideal) o.D o.Wo o.Gb o.Yb = sDgb o := rfl
theorem second_dq : k0_pay33 (F := Ideal) (k0_pay26 o.D o.Wo) (k0_pay28 o.Gb) o.Wb = sDq o := rfl
theorem second_weight (u : FVec Ideal S1x1024 .f32) :
    k0_pay39 (F := Ideal) (k0_pay34 (k0_pay26 o.D o.Wo) (k0_pay27 o.Ga) o.Wa) (k0_pay37 o.A) o.G o.B u = sWeight o u := rfl
theorem second_bias (u : FVec Ideal S1x1024 .f32) :
    k0_pay40 (F := Ideal) (k0_pay34 (k0_pay26 o.D o.Wo) (k0_pay27 o.Ga) o.Wa) (k0_pay37 o.A) o.G o.B u = sBias o u := rfl
theorem second_da1 :
    k0_pay1 (F := Ideal) (k0_pay36 o.A) (k0_pay37 o.A)
      (k0_pay42 (k0_pay34 (k0_pay26 o.D o.Wo) (k0_pay27 o.Ga) o.Wa) (k0_pay37 o.A) o.G o.B o.G)
      (k0_pay43 (k0_pay34 (k0_pay26 o.D o.Wo) (k0_pay27 o.Ga) o.Wa) (k0_pay37 o.A) o.G o.B o.G) = sDa1 o := rfl

/-- The operands hold these rows of the arrays. -/
structure Holds (dh a q : FVec Ideal S4096x1024 .f32) (z : FVec Ideal S4096x7168 .f32) (g b : FVec Ideal S1x1024 .f32)
    (wa wb wo : FVec Ideal S1x1024x1024 .f32) (rr : Fin 256 → Fin 4096) : Prop where
  D : ∀ i x, o.D (ix2 i x) = dh (ix2 (rr i) x)
  A : ∀ i x, o.A (ix2 i x) = a (ix2 (rr i) x)
  Ga : ∀ i x, o.Ga (ix3 0 i x) = z (ix2 (rr i) ⟨5120 + x.val, by omega⟩)
  Gb : ∀ i x, o.Gb (ix3 0 i x) = z (ix2 (rr i) ⟨6144 + x.val, by omega⟩)
  Ya : ∀ i x, o.Ya (ix2 i x) = ya a g b wa (rr i) x
  Yb : ∀ i x, o.Yb (ix2 i x) = yb q wb (rr i) x
  G : ∀ x, o.G (ix2 0 x) = g (ix2 0 x)
  B : ∀ x, o.B (ix2 0 x) = b (ix2 0 x)
  Wa : ∀ x k, o.Wa (ix2 x k) = wa (ix3 0 x k)
  Wb : ∀ x k, o.Wb (ix2 x k) = wb (ix3 0 x k)
  Wo : ∀ x k, o.Wo (ix2 x k) = wo (ix3 0 x k)

variable {o} {dh a q : FVec Ideal S4096x1024 .f32} {z : FVec Ideal S4096x7168 .f32} {g b : FVec Ideal S1x1024 .f32}
  {wa wb wo : FVec Ideal S1x1024x1024 .f32} {rr : Fin 256 → Fin 4096} (H : Holds o dh a q z g b wa wb wo rr)
  (i : Fin 256) (x : Fin 1024)
include H

theorem at_dh : sDh o (ix2 i x) = dh (ix2 (rr i) x) := H.D i x

theorem at_dm : k0_pay6 (F := Ideal) (k0_pay4 o.D) (k0_pay5 o.Wo) Z (ix2 i x) = dm dh wo (rr i) x := by
  pointwise [k0_pay6, k0_pay5, k0_pay4]
  simp only [H.D, H.Wo]
  rfl

theorem at_sa : k0_pay7 (F := Ideal) o.Ga (ix2 i x) = sa z (rr i) x := by
  pointwise [k0_pay7]
  rw [H.Ga]
  rfl

theorem at_sb : k0_pay8 (F := Ideal) o.Gb (ix2 i x) = sb z (rr i) x := by
  pointwise [k0_pay8]
  rw [H.Gb]
  rfl

theorem at_dya : sDya o (ix2 i x) = dya dh z wo (rr i) x := by
  pointwise [k0_pay11]
  rw [at_dm H, at_sa H]
  rfl

theorem at_dyb : sDyb o (ix2 i x) = dyb dh z wo (rr i) x := by
  pointwise [k0_pay12]
  rw [at_dm H, at_sb H]
  rfl

theorem at_dga : sDga o (ix2 i x) = dga dh a z g b wa wo (rr i) x := by
  pointwise [k0_pay9]
  rw [at_dm H, at_sa H, H.Ya]
  rfl

theorem at_dgb : sDgb o (ix2 i x) = dgb dh q z wb wo (rr i) x := by
  pointwise [k0_pay10]
  rw [at_dm H, at_sb H, H.Yb]
  rfl

theorem at_dq : sDq o (ix2 i x) = dq dh z wb wo (rr i) x := by
  pointwise [k0_pay13]
  simp only [at_dyb H, H.Wb]
  rfl

theorem at_da3 : k0_pay14 (F := Ideal) (sDya o) o.Wa (ix2 i x) = da3 dh z wa wo (rr i) x := by
  pointwise [k0_pay14]
  simp only [at_dya H, H.Wa]
  rfl

theorem at_centred : k0_pay15 (F := Ideal) o.A (ix2 i x) = LayerNorm.centred (arow a (rr i)) x := by
  pointwise [k0_pay15]
  simp only [H.A]
  rfl

theorem at_inv : k0_pay16 (F := Ideal) o.A (ix2 i 0) = LayerNorm.inv (arow a (rr i)) := by
  pointwise [k0_pay16]
  simp only [at_centred H]
  rfl

theorem at_hat : k0_pay17 (F := Ideal) o.A (ix2 i x) = LayerNorm.hat (arow a (rr i)) x := by
  pointwise [k0_pay17]
  rw [at_centred H, at_inv H]
  rfl

theorem at_affine : k0_pay18 (F := Ideal) o.A o.G o.B (ix2 i x) = affine a g b (rr i) x := by
  pointwise [k0_pay18]
  rw [at_hat H, H.G, H.B]
  rfl

theorem at_gate : k0_pay19 (F := Ideal) o.A o.G o.B (ix2 i x) = Ideal.logistic (affine a g b (rr i) x) := by
  pointwise [k0_pay19]
  rw [at_affine H]

theorem at_tail : k0_pay20 (F := Ideal) o.A o.G o.B (ix2 i x) = affine a g b (rr i) x * (1 - Ideal.logistic (affine a g b (rr i) x)) := by
  pointwise [k0_pay20]
  rw [at_affine H, at_gate H]

theorem at_da2 : k0_pay21 (F := Ideal) (pDa3 o) (pGate o) (pTail o) (1 : EReal) (ix2 i x) = da2 dh a z g b wa wo (rr i) x := by
  pointwise [k0_pay21, pDa3, pGate, pTail]
  rw [at_da3 H, at_gate H, at_tail H]
  rfl

theorem at_weight (u : FVec Ideal S1x1024 .f32) : sWeight o u (ix2 0 x)
    = u (ix2 0 x) + ∑ i, da2 dh a z g b wa wo (rr i) x * LayerNorm.hat (arow a (rr i)) x := by
  pointwise [k0_pay22]
  simp only [at_da2 H, at_hat H]

theorem at_bias (u : FVec Ideal S1x1024 .f32) : sBias o u (ix2 0 x) = u (ix2 0 x) + ∑ i, da2 dh a z g b wa wo (rr i) x := by
  pointwise [k0_pay23]
  simp only [at_da2 H]

theorem at_da1 : sDa1 o (ix2 i x) = da1 dh a z g b wa wo (rr i) x := by
  pointwise [k0_pay24]
  simp only [at_da2 H, at_hat H, at_inv H, H.G]
  rfl

end Cert.MixOutIdeal.Part

end
-- ==== Proof.MixOutParts.lean ====
/- The merge's gradient, point by point: what the two row parts of a point read, and which stores the point makes. The
   cotangent and the convolution's result come in blocks of 512 rows, each out of a slot that holds the point's block. -/
module

public import proofs.«01_k».proof.Proof.MixOutFrame
public import proofs.«01_k».proof.Proof.MixOutBlock
public import Idealize.ShloMosaic.Lib.VecWindow
public import Idealize.ShloMosaic.Lib.WholeRead

@[expose] public section

set_option maxRecDepth 16384

noncomputable section

namespace Cert.MixOutIdeal.Blocks

open Idealize.ShloMosaic Idealize.ShloMosaic.TcCoe Idealize.ShloMosaic.Tactic Idealize.SL.Sem
open Cert.MixOutIdeal Cert.MixOutIdeal.Gen Cert.MixOutIdeal.Part Cert.MergeFrame

variable (m : (ℓ : Loc nD τ sig) → Buf (Elt Ideal) ℓ)

/-- Rows `o, …, o + 255` of point `t`'s block of the two operands that the kernel fetches itself. -/
def rowsD (c : Dev nD) (t : Fin cfg0.N) (o : Nat) (h : o + 256 ≤ 512) : FVec Ideal S256x1024 .f32 :=
  fun i => V m c main_arg0 (ix2 ⟨512 * t.val + (o + (i 0).val), by have : (i 0).val < 256 := (i 0).isLt; have := points t; omega⟩ (i 1))
@[inherit_doc rowsD]
def rowsA (c : Dev nD) (t : Fin cfg0.N) (o : Nat) (h : o + 256 ≤ 512) : FVec Ideal S256x1024 .f32 :=
  fun i => V m c main_arg1 (ix2 ⟨512 * t.val + (o + (i 0).val), by have : (i 0).val < 256 := (i 0).isLt; have := points t; omega⟩ (i 1))

/-- A part of a slot with a block in it reads as that part of the block. -/
theorem part (M : Memref sig .tc .vmem S512x1024 .f32) (p : S512x1024.Idx → Elt Ideal .f32) (o : Nat)
    (h : ∀ a, (![o, 0] : Fin 2 → Nat) a + S256x1024.size a ≤ S512x1024.size a) (ho : o + 256 ≤ 512) (i : S256x1024.Idx) :
    M.view.readCov (Val := Elt Ideal) [⟨Rect.whole S512x1024, p⟩] (Rect.unit (s := S512x1024) ![o, 0] S256x1024.size h).toLoadRect i
      = p (ix2 ⟨o + (i 0).val, by have : (i 0).val < 256 := (i 0).isLt; omega⟩ (i 1)) := by
  have h1' : o + (i 0).val < 512 := by have : (i 0).val < 256 := (i 0).isLt; omega
  have w := View.read_writes_cons_emb (Val := Elt Ideal) M.view M.view.junk (Rect.whole S512x1024) p [] (ix2 ⟨o + (i 0).val, h1'⟩ (i 1))
  refine Eq.trans ?_ w
  refine congrArg (M.view.read (Elt Ideal) _) ?_
  funext a
  exact Fin.ext (by fin_cases a <;> simp [Rect.whole, ix2])

/-- Block `t` of an operand, at a place. -/
theorem source (b : Fin 8) (t : Fin cfg0.N) (hb : b.val = t.val) (r : Fin 512) (k : Fin 1024) (h : 512 * t.val + r.val < 4096) :
    (Rect.unit (s := S4096x1024) ![512 * b.val, 0] S512x1024.size (inb_src0_0 b)).emb (ix2 r k) = ix2 ⟨512 * t.val + r.val, h⟩ k := by
  funext a
  exact Fin.ext (by fin_cases a <;> simp [ix2, hb])

theorem partD (c : Dev nD) (t : Fin cfg0.N) (o : Nat) (h : ∀ a, (![o, 0] : Fin 2 → Nat) a + S256x1024.size a ≤ S512x1024.size a) (ho : o + 256 ≤ 512) :
    (rslot0_0 (Ring.sl 3 t.val)).view.readCov (Val := Elt Ideal)
      [⟨Rect.whole S512x1024, ReadAs.same.apply (View.read (Elt Ideal) (srcB0_0 (Ring.bk 8 t.val)).view (V m c main_arg0))⟩]
      (Rect.unit (s := S512x1024) ![o, 0] S256x1024.size h).toLoadRect = rowsD m c t o ho :=
  funext fun i => (part _ _ o h ho i).trans (congrArg (V m c main_arg0) (source _ t (Nat.mod_eq_of_lt (points t)) _ _ _))

theorem partA (c : Dev nD) (t : Fin cfg0.N) (o : Nat) (h : ∀ a, (![o, 0] : Fin 2 → Nat) a + S256x1024.size a ≤ S512x1024.size a) (ho : o + 256 ≤ 512) :
    (rslot0_1 (Ring.sl 3 t.val)).view.readCov (Val := Elt Ideal)
      [⟨Rect.whole S512x1024, ReadAs.same.apply (View.read (Elt Ideal) (srcB0_1 (Ring.bk 8 t.val)).view (V m c main_arg1))⟩]
      (Rect.unit (s := S512x1024) ![o, 0] S256x1024.size h).toLoadRect = rowsA m c t o ho :=
  funext fun i => (part _ _ o h ho i).trans (congrArg (V m c main_arg1) (source _ t (Nat.mod_eq_of_lt (points t)) _ _ _))

theorem fits2 (o : Nat) (h : o + 256 ≤ 512) : ∀ a, (![o, 0] : Fin 2 → Nat) a + S256x1024.size a ≤ S512x1024.size a := by
  intro a
  fin_cases a
  · exact h
  · exact Nat.le_refl _
theorem fits3 (o : Nat) (h : o + 256 ≤ 512) : ∀ a, (![0, o, 0] : Fin 3 → Nat) a + S1x256x1024.size a ≤ S1x512x1024.size a := by
  intro a
  fin_cases a
  · exact Nat.le_refl _
  · exact h
  · exact Nat.le_refl _

/-- The operands of a row part, when the two fetched ones are `D` and `A`. -/
abbrev opsWith (c : Dev nD) (t : Fin cfg0.N) (o : Nat) (h : o + 256 ≤ 512) (D A : FVec Ideal S256x1024 .f32) : Operands where
  D := D
  A := A
  Ga := View.readAt (Elt Ideal) (ms0_0 t).view (Rect.unit (s := S1x512x1024) ![0, o, 0] S1x256x1024.size (fits3 o h)).toLoadRect ((hs0_0 t).unread (iblk m c 0 t))
  Gb := View.readAt (Elt Ideal) (ms0_1 t).view (Rect.unit (s := S1x512x1024) ![0, o, 0] S1x256x1024.size (fits3 o h)).toLoadRect ((hs0_1 t).unread (iblk m c 1 t))
  Ya := View.readAt (Elt Ideal) (ms0_2 t).view (Rect.unit (s := S512x1024) ![o, 0] S256x1024.size (fits2 o h)).toLoadRect ((hs0_2 t).unread (iblk m c 2 t))
  Yb := View.readAt (Elt Ideal) (ms0_3 t).view (Rect.unit (s := S512x1024) ![o, 0] S256x1024.size (fits2 o h)).toLoadRect ((hs0_3 t).unread (iblk m c 3 t))
  G := View.readAt (Elt Ideal) (ms0_4 t).view (Rect.unit (s := S1x1024) ![0, 0] S1x1024.size inb_S1x1024_S1x1024_0_0).toLoadRect ((hs0_4 t).unread (iblk m c 4 t))
  B := View.readAt (Elt Ideal) (ms0_5 t).view (Rect.unit (s := S1x1024) ![0, 0] S1x1024.size inb_S1x1024_S1x1024_0_0).toLoadRect ((hs0_5 t).unread (iblk m c 5 t))
  Wa := View.readAt (Elt Ideal) (ms0_6 t).view (Rect.unit (s := S1024x1024) ![0, 0] S1024x1024.size inb_S1024x1024_S1024x1024_0_0).toLoadRect ((hs0_6 t).unread (iblk m c 6 t))
  Wb := View.readAt (Elt Ideal) (ms0_7 t).view (Rect.unit (s := S1024x1024) ![0, 0] S1024x1024.size inb_S1024x1024_S1024x1024_0_0).toLoadRect ((hs0_7 t).unread (iblk m c 7 t))
  Wo := View.readAt (Elt Ideal) (ms0_8 t).view (Rect.unit (s := S1024x1024) ![0, 0] S1024x1024.size inb_S1024x1024_S1024x1024_0_0).toLoadRect ((hs0_8 t).unread (iblk m c 8 t))

/-- The operands of the two row parts of point `t`. -/
abbrev first (c : Dev nD) (t : Fin cfg0.N) : Operands := opsWith m c t 0 (by decide) (rowsD m c t 0 (by decide)) (rowsA m c t 0 (by decide))
abbrev second (c : Dev nD) (t : Fin cfg0.N) : Operands := opsWith m c t 256 (by decide) (rowsD m c t 256 (by decide)) (rowsA m c t 256 (by decide))

/-- Two row parts that store the same function of their operands. -/
def two (f : Operands → FVec Ideal S256x1024 .bf16) (a b : Operands) : List (View.Piece (Elt Ideal) S512x1024 .bf16) :=
  [⟨Rect.unit ![256, 0] S256x1024.size inb_S512x1024_S256x1024_256_0, f b⟩, ⟨Rect.unit ![0, 0] S256x1024.size inb_S512x1024_S256x1024_0_0, f a⟩]

/-- What the two parts leave of a sum that held `u`. -/
def both (f : Operands → FVec Ideal S1x1024 .f32 → FVec Ideal S1x1024 .f32) (a b : Operands) (u : FVec Ideal S1x1024 .f32) : FVec Ideal S1x1024 .f32 :=
  f b (f a u)

/-- The stores of a point are those of its two parts; a sum's block ends with what the two parts make of what it held. -/
structure Stored (L : Lists (F := Ideal)) (a b : Operands) (u v : FVec Ideal S1x1024 .f32) : Prop where
  da1 : L.L9 = two sDa1 a b
  dq : L.L10 = two sDq a b
  dga : L.L11 = two sDga a b
  dgb : L.L12 = two sDgb a b
  dya : L.L13 = two sDya a b
  dyb : L.L14 = two sDyb a b
  dh : L.L15 = two sDh a b
  weight : heldSum L.L16 = both sWeight a b u
  bias : heldSum L.L17 = both sBias a b v

abbrev whole1 : Rect S1x1024 := Rect.unit (s := S1x1024) ![0, 0] S1x1024.size inb_S1x1024_S1x1024_0_0

/-- The two parts' stores into a sum's block `M` that they first read as `u`. -/
abbrev steps (M : Memref sig .tc .vmem S1x1024 .f32) (f : Operands → FVec Ideal S1x1024 .f32 → FVec Ideal S1x1024 .f32) (a b : Operands)
    (u : FVec Ideal S1x1024 .f32) (L : List (View.Piece (Elt Ideal) S1x1024 .f32)) : List (View.Piece (Elt Ideal) S1x1024 .f32) :=
  ⟨whole1, f b (M.view.readCov (Val := Elt Ideal) (⟨whole1, f a u⟩ :: L) whole1.toLoadRect)⟩ :: ⟨whole1, f a u⟩ :: L

theorem held_steps (M : Memref sig .tc .vmem S1x1024 .f32) (f : Operands → FVec Ideal S1x1024 .f32 → FVec Ideal S1x1024 .f32) (a b : Operands)
    (u w : FVec Ideal S1x1024 .f32) (hu : u = w) (L K : List (View.Piece (Elt Ideal) S1x1024 .f32)) (e : K = steps M f a b u L) :
    heldSum K = both f a b w := by
  subst e hu
  unfold heldSum both
  exact (View.read_writes_full (Val := Elt Ideal) VO0_16 VO0_16.junk inb_S1x1024_S1x1024_0_0 _ _).trans
    (congrArg (f b) (View.readCov_full (Val := Elt Ideal) M.view _ _ _ L))

theorem whole_idx (i : S1x1024.Idx) : whole1.toLoadRect.idx i = i := funext fun a => Fin.ext (by fin_cases a <;> simp)

/-- The parts of the two slots as the run names them. -/
theorem readsB (c : Dev nD) (t : Fin cfg0.N) : kernelRun0_B.sl.v23 c t (V m c main_arg0) = rowsD m c t 0 (by decide) ∧ kernelRun0_B.sl.v73 c t (V m c main_arg1) = rowsA m c t 0 (by decide) ∧ kernelRun0_B.sl.v140 c t (V m c main_arg0) = rowsD m c t 256 (by decide) ∧ kernelRun0_B.sl.v190 c t (V m c main_arg1) = rowsA m c t 256 (by decide) :=
  ⟨partD m c t 0 _ _, partA m c t 0 _ _, partD m c t 256 _ _, partA m c t 256 _ _⟩

theorem storedB (c : Dev nD) (t : Fin cfg0.N) (h0 : ¬t.val % 8 = 0) (h1 : t.val < 6) (u v : FVec Ideal S1x1024 .f32) :
    Stored (listsB m c t h0 h1 u v) (first m c t) (second m c t)  u v := by
  obtain ⟨d0, a0, d1, a1⟩ := readsB m c t
  unfold first second
  rw [← d0, ← a0, ← d1, ← a1]
  refine ⟨by sl_kernel_rfl, by sl_kernel_rfl, by sl_kernel_rfl, by sl_kernel_rfl, by sl_kernel_rfl, by sl_kernel_rfl, by sl_kernel_rfl, ?_, ?_⟩
  · exact held_steps (ms0_16 t) sWeight _ _ (View.readAt (Elt Ideal) (ms0_16 t).view whole1.toLoadRect ((hs0_16 t).unread u)) _
      (funext fun i => ((hs0_16 t).readAt_unread _ _ _).trans (congrArg _ (whole_idx i))) [] _ (by sl_kernel_rfl)
  · exact held_steps (ms0_17 t) sBias _ _ (View.readAt (Elt Ideal) (ms0_17 t).view whole1.toLoadRect ((hs0_17 t).unread v)) _
      (funext fun i => ((hs0_17 t).readAt_unread _ _ _).trans (congrArg _ (whole_idx i))) [] _ (by sl_kernel_rfl)

/-- The parts of the two slots as the run names them. -/
theorem readsC (c : Dev nD) (t : Fin cfg0.N) : kernelRun0_C.sl.v23 c t (V m c main_arg0) = rowsD m c t 0 (by decide) ∧ kernelRun0_C.sl.v73 c t (V m c main_arg1) = rowsA m c t 0 (by decide) ∧ kernelRun0_C.sl.v140 c t (V m c main_arg0) = rowsD m c t 256 (by decide) ∧ kernelRun0_C.sl.v190 c t (V m c main_arg1) = rowsA m c t 256 (by decide) :=
  ⟨partD m c t 0 _ _, partA m c t 0 _ _, partD m c t 256 _ _, partA m c t 256 _ _⟩

theorem storedC (c : Dev nD) (t : Fin cfg0.N) (h0 : ¬t.val % 8 = 0) (h1 : ¬t.val < 6) (u v : FVec Ideal S1x1024 .f32) :
    Stored (listsC m c t h0 h1 u v) (first m c t) (second m c t)  u v := by
  obtain ⟨d0, a0, d1, a1⟩ := readsC m c t
  unfold first second
  rw [← d0, ← a0, ← d1, ← a1]
  refine ⟨by sl_kernel_rfl, by sl_kernel_rfl, by sl_kernel_rfl, by sl_kernel_rfl, by sl_kernel_rfl, by sl_kernel_rfl, by sl_kernel_rfl, ?_, ?_⟩
  · exact held_steps (ms0_16 t) sWeight _ _ (View.readAt (Elt Ideal) (ms0_16 t).view whole1.toLoadRect ((hs0_16 t).unread u)) _
      (funext fun i => ((hs0_16 t).readAt_unread _ _ _).trans (congrArg _ (whole_idx i))) [] _ (by sl_kernel_rfl)
  · exact held_steps (ms0_17 t) sBias _ _ (View.readAt (Elt Ideal) (ms0_17 t).view whole1.toLoadRect ((hs0_17 t).unread v)) _
      (funext fun i => ((hs0_17 t).readAt_unread _ _ _).trans (congrArg _ (whole_idx i))) [] _ (by sl_kernel_rfl)

/-- The parts of the two slots as the run names them. -/
theorem readsA (c : Dev nD) (t : Fin cfg0.N) : kernelRun0_A.sl.v23 c t (V m c main_arg0) = rowsD m c t 0 (by decide) ∧ kernelRun0_A.sl.v73 c t (V m c main_arg1) = rowsA m c t 0 (by decide) ∧ kernelRun0_A.sl.v140 c t (V m c main_arg0) = rowsD m c t 256 (by decide) ∧ kernelRun0_A.sl.v190 c t (V m c main_arg1) = rowsA m c t 256 (by decide) :=
  ⟨partD m c t 0 _ _, partA m c t 0 _ _, partD m c t 256 _ _, partA m c t 256 _ _⟩

theorem storedA (c : Dev nD) (t : Fin cfg0.N) (h0 : t.val % 8 = 0) (h1 : t.val < 6) :
    Stored (listsA m c t h0 h1) (first m c t) (second m c t) (k0_pay2 (F := Ideal)) (k0_pay3 (F := Ideal)) := by
  obtain ⟨d0, a0, d1, a1⟩ := readsA m c t
  unfold first second
  rw [← d0, ← a0, ← d1, ← a1]
  refine ⟨by sl_kernel_rfl, by sl_kernel_rfl, by sl_kernel_rfl, by sl_kernel_rfl, by sl_kernel_rfl, by sl_kernel_rfl, by sl_kernel_rfl, ?_, ?_⟩
  · exact held_steps (ms0_16 t) sWeight _ _ ((ms0_16 t).view.readCov (Val := Elt Ideal) [⟨whole1, k0_pay2 (F := Ideal)⟩] whole1.toLoadRect) _
      (View.readCov_full (Val := Elt Ideal) (ms0_16 t).view _ _ _ _) [⟨whole1, k0_pay2 (F := Ideal)⟩] _ (by sl_kernel_rfl)
  · exact held_steps (ms0_17 t) sBias _ _ ((ms0_17 t).view.readCov (Val := Elt Ideal) [⟨whole1, k0_pay3 (F := Ideal)⟩] whole1.toLoadRect) _
      (View.readCov_full (Val := Elt Ideal) (ms0_17 t).view _ _ _ _) [⟨whole1, k0_pay3 (F := Ideal)⟩] _ (by sl_kernel_rfl)

/-- What any point stores: the first one starts both sums at zero. -/
theorem stores (c : Dev nD) (t : Fin cfg0.N) (u v : FVec Ideal S1x1024 .f32) :
    Stored (step m c t u v).toLists (first m c t) (second m c t) (if t.val % 8 = 0 then k0_pay2 (F := Ideal) else u)
      (if t.val % 8 = 0 then k0_pay3 (F := Ideal) else v) := by
  unfold step
  split
  · exact storedA m c t _ _
  · split
    · exact storedB m c t _ _ u v
    · exact storedC m c t _ _ u v

end Cert.MixOutIdeal.Blocks

end
-- ==== Proof.MixOutValue.lean ====
/- The merge's gradient: what the kernel's call finds in its operands, and what each operand's block holds at a point. -/
module

public import proofs.«01_k».proof.Proof.MixOutParts
public import Idealize.ShloMosaic.Lib.Claim
public import Idealize.ShloMosaic.Lib.Pipeline.ValueKit
public import Idealize.ShloMosaic.Lib.ValueLayout

@[expose] public section

set_option maxRecDepth 16384

noncomputable section

namespace Cert.MixOutIdeal.Blocks

open Idealize.ShloMosaic Idealize.ShloMosaic.TcCoe Idealize.SL.Sem
open Cert.MixOutIdeal Cert.MixOutIdeal.Gen Cert.MixOutIdeal.Part Cert.MergeFrame

/-- The block that each operand has at each grid point. -/
theorem idx : ∀ t : Fin cfg0.N, win0_0.index t = ![5, t.val, 0] ∧ win0_1.index t = ![6, t.val, 0]
    ∧ win0_2.index t = ![t.val, 0] ∧ win0_3.index t = ![t.val, 0] ∧ win0_4.index t = ![0, 0] ∧ win0_5.index t = ![0, 0]
    ∧ win0_6.index t = ![0, 0] ∧ win0_7.index t = ![0, 0] ∧ win0_8.index t = ![0, 0]
    ∧ win0_9.index t = ![t.val, 0] ∧ win0_10.index t = ![t.val, 0] ∧ win0_11.index t = ![t.val, 0] ∧ win0_12.index t = ![t.val, 0]
    ∧ win0_13.index t = ![t.val, 0] ∧ win0_14.index t = ![t.val, 0] ∧ win0_15.index t = ![t.val, 0] ∧ win0_16.index t = ![0, 0] ∧ win0_17.index t = ![0, 0] :=
  (by decide +kernel : ∀ t : Fin grid0.N, _)

variable (m : (ℓ : Loc nD τ sig) → Buf (Elt Ideal) ℓ)

/-- The array's row that is row `r` of point `t`'s block. -/
abbrev row (t : Fin cfg0.N) (r : Fin 512) : Fin 4096 := ⟨512 * t.val + r.val, by have := points t; omega⟩

/-- The program's arguments. -/
abbrev Adh (c : Dev nD) : FVec Ideal S4096x1024 .f32 := m ((c : Thread nD τ).loc main_arg0)
abbrev Aa (c : Dev nD) : FVec Ideal S4096x1024 .f32 := m ((c : Thread nD τ).loc main_arg1)
abbrev Aq (c : Dev nD) : FVec Ideal S4096x1024 .f32 := m ((c : Thread nD τ).loc main_arg2)
abbrev Az (c : Dev nD) : FVec Ideal S4096x7168 .f32 := m ((c : Thread nD τ).loc main_arg3)
abbrev Ag (c : Dev nD) : FVec Ideal S1x1024 .f32 := m ((c : Thread nD τ).loc main_arg4)
abbrev Ab (c : Dev nD) : FVec Ideal S1x1024 .f32 := m ((c : Thread nD τ).loc main_arg5)
abbrev Awa (c : Dev nD) : FVec Ideal S1x1024x1024 .f32 := m ((c : Thread nD τ).loc main_arg6)
abbrev Awb (c : Dev nD) : FVec Ideal S1x1024x1024 .f32 := m ((c : Thread nD τ).loc main_arg7)
abbrev Awo (c : Dev nD) : FVec Ideal S1x1024x1024 .f32 := m ((c : Thread nD τ).loc main_arg8)

/-- The lines of the call to `silu`, over the call's own buffers. -/
theorem calls : (hostOps0_1 : List (HloOp τ sig (Elt Ideal))) =
    [ StableHlo.unary main_v25 main_call0_v0 (Host.negf (F := Ideal) (s := S4096x1024) (φ := .f32)),
      StableHlo.unary main_call0_v0 main_call0_v1 (Host.exp (F := Ideal) (s := S4096x1024) (φ := .f32)),
      StableHlo.nullary main_call0_cst (constant (F := Ideal) S_ .f32 0x3F800000#32),
      StableHlo.unary main_call0_cst main_call0_v2 (broadcastInDim S4096x1024 ![] bcast_S_S4096x1024 : FVec Ideal S_ .f32 → FVec Ideal S4096x1024 .f32),
      StableHlo.binary main_call0_v2 main_call0_v1 main_call0_v3 (addf (F := Ideal) (s := S4096x1024) (φ := .f32)),
      StableHlo.nullary main_call0_cst_0 (constant (F := Ideal) S_ .f32 0x3F800000#32),
      StableHlo.unary main_call0_cst_0 main_call0_v4 (broadcastInDim S4096x1024 ![] bcast_S_S4096x1024 : FVec Ideal S_ .f32 → FVec Ideal S4096x1024 .f32),
      StableHlo.binary main_call0_v4 main_call0_v3 main_call0_v5 (Host.divf (F := Ideal) (s := S4096x1024) (φ := .f32)),
      StableHlo.binary main_v25 main_call0_v5 main_v26 (mulf (F := Ideal) (s := S4096x1024) (φ := .f32)) ] := rfl

/-- What the kernel's call finds in a buffer, line by line. -/
theorem at_entry (c : Dev nD) (b : Ref sig .tc) : V m c b = StableHlo.after hostOps0_2 (StableHlo.after hostOps0_1 (StableHlo.after hostOps0 (fun b => m (c, b)))) (Proc.tc.devRef b) := by
  show StableHlo.after (hostOps0 ++ (hostOps0_1 ++ hostOps0_2)) (fun b => m (c, b)) (Proc.tc.devRef b) = _
  rw [StableHlo.after_append, StableHlo.after_append]

/-- What the kernel's call finds: the two branches' results, the two gates' groups, and the three matrices. -/
theorem saved_a (c : Dev nD) (r : Fin 4096) (x : Fin 1024) :
    V m c main_v34 (ix2 r x) = Merge.ya (Aa m c) (Ag m c) (Ab m c) (Awa m c) r x := by
  rw [at_entry, calls]
  entry_read
  pointwise
  rfl
theorem saved_b (c : Dev nD) (r : Fin 4096) (x : Fin 1024) : V m c main_v35 (ix2 r x) = Merge.yb (Aq m c) (Awb m c) r x := by
  rw [at_entry, calls]
  entry_read
  pointwise
  rfl
theorem group (c : Dev nD) (k : Fin 7) (r : Fin 4096) (x : Fin 1024) :
    V m c main_v33 (ix3 k r x) = Az m c (ix2 r ⟨1024 * k.val + x.val, by omega⟩) := by
  rw [at_entry, calls]
  entry_read
  pointwise
  exact congrArg (Az m c) (congrArg (ix2 r) (Fin.ext (by simp [Nat.mul_comm])))
theorem mat_a (c : Dev nD) (x k : Fin 1024) : V m c main_v37 (ix2 x k) = Awa m c (ix3 0 x k) := by
  rw [at_entry, calls]
  entry_read
  pointwise
theorem mat_b (c : Dev nD) (x k : Fin 1024) : V m c main_v39 (ix2 x k) = Awb m c (ix3 0 x k) := by
  rw [at_entry, calls]
  entry_read
  pointwise
theorem mat_o (c : Dev nD) (x k : Fin 1024) : V m c main_v41 (ix2 x k) = Awo m c (ix3 0 x k) := by
  rw [at_entry, calls]
  entry_read
  pointwise

/-- What each operand's block holds at a point. -/
theorem read0 (c : Dev nD) (t : Fin cfg0.N) (r : Fin 512) (x : Fin 1024) :
    iblk m c 0 t (ix3 0 r x) = Az m c (ix2 (row t r) ⟨5120 + x.val, by omega⟩) := by
  refine Eq.trans ?_ (group m c 5 (row t r) x)
  blk_point [iblk, idx t]
theorem read1 (c : Dev nD) (t : Fin cfg0.N) (r : Fin 512) (x : Fin 1024) :
    iblk m c 1 t (ix3 0 r x) = Az m c (ix2 (row t r) ⟨6144 + x.val, by omega⟩) := by
  refine Eq.trans ?_ (group m c 6 (row t r) x)
  blk_point [iblk, idx t]
theorem read2 (c : Dev nD) (t : Fin cfg0.N) (r : Fin 512) (x : Fin 1024) :
    iblk m c 2 t (ix2 r x) = Merge.ya (Aa m c) (Ag m c) (Ab m c) (Awa m c) (row t r) x := by
  refine Eq.trans ?_ (saved_a m c (row t r) x)
  blk_point [iblk, idx t]
theorem read3 (c : Dev nD) (t : Fin cfg0.N) (r : Fin 512) (x : Fin 1024) :
    iblk m c 3 t (ix2 r x) = Merge.yb (Aq m c) (Awb m c) (row t r) x := by
  refine Eq.trans ?_ (saved_b m c (row t r) x)
  blk_point [iblk, idx t]
theorem read4 (c : Dev nD) (t : Fin cfg0.N) (x : Fin 1024) : iblk m c 4 t (ix2 0 x) = Ag m c (ix2 0 x) := by
  blk_point [iblk, V, idx t]
theorem read5 (c : Dev nD) (t : Fin cfg0.N) (x : Fin 1024) : iblk m c 5 t (ix2 0 x) = Ab m c (ix2 0 x) := by
  blk_point [iblk, V, idx t]
theorem read6 (c : Dev nD) (t : Fin cfg0.N) (x k : Fin 1024) : iblk m c 6 t (ix2 x k) = Awa m c (ix3 0 x k) := by
  refine Eq.trans ?_ (mat_a m c x k)
  blk_point [iblk, idx t]
theorem read7 (c : Dev nD) (t : Fin cfg0.N) (x k : Fin 1024) : iblk m c 7 t (ix2 x k) = Awb m c (ix3 0 x k) := by
  refine Eq.trans ?_ (mat_b m c x k)
  blk_point [iblk, idx t]
theorem read8 (c : Dev nD) (t : Fin cfg0.N) (x k : Fin 1024) : iblk m c 8 t (ix2 x k) = Awo m c (ix3 0 x k) := by
  refine Eq.trans ?_ (mat_o m c x k)
  blk_point [iblk, idx t]

end Cert.MixOutIdeal.Blocks

end
-- ==== Proof.MixOutArrays.lean ====
/- The merge's gradient, array by array: what the two row parts of a point store, and the nine arrays after the run. -/
module

public import proofs.«01_k».proof.Proof.MixOutValue
public import Idealize.ShloMosaic.Lib.Claim
public import Idealize.ShloMosaic.Lib.Pipeline.ValueKit
public import Idealize.ShloMosaic.Lib.ValueLayout

@[expose] public section

set_option maxRecDepth 16384

noncomputable section

namespace Cert.MixOutIdeal.Blocks

open Idealize.ShloMosaic Idealize.ShloMosaic.TcCoe Idealize.SL.Sem
open Cert.MixOutIdeal Cert.MixOutIdeal.Gen Cert.MixOutIdeal.Part Cert.MergeFrame

variable (m : (ℓ : Loc nD τ sig) → Buf (Elt Ideal) ℓ)

/-- The array's row that is row `i` of a row part. -/
abbrev partRow (t : Fin cfg0.N) (o : Nat) (h : o + 256 ≤ 512) (i : Fin 256) : Fin 4096 := row t ⟨o + i.val, by omega⟩

/-- The places that a row part's loads read. -/
theorem load2 (o : Nat) (h : o + 256 ≤ 512) (i : Fin 256) (x : Fin 1024) :
    (Rect.unit (s := S512x1024) ![o, 0] S256x1024.size (fits2 o h)).toLoadRect.idx (ix2 i x) = ix2 ⟨o + i.val, by omega⟩ x :=
  funext fun a => Fin.ext (by fin_cases a <;> simp [ix2])
theorem load3 (o : Nat) (h : o + 256 ≤ 512) (i : Fin 256) (x : Fin 1024) :
    (Rect.unit (s := S1x512x1024) ![0, o, 0] S1x256x1024.size (fits3 o h)).toLoadRect.idx (ix3 0 i x) = ix3 0 ⟨o + i.val, by omega⟩ x :=
  funext fun a => Fin.ext (by fin_cases a <;> simp [ix3])
theorem load_row (x : Fin 1024) :
    (Rect.unit (s := S1x1024) ![0, 0] S1x1024.size inb_S1x1024_S1x1024_0_0).toLoadRect.idx (ix2 0 x) = ix2 0 x :=
  funext fun a => Fin.ext (by fin_cases a <;> simp [ix2])
theorem load_mat (x k : Fin 1024) :
    (Rect.unit (s := S1024x1024) ![0, 0] S1024x1024.size inb_S1024x1024_S1024x1024_0_0).toLoadRect.idx (ix2 x k) = ix2 x k :=
  funext fun a => Fin.ext (by fin_cases a <;> simp [ix2])

/-- The operands of a row part are the arguments' rows and what the forward part makes of them. -/
theorem op_D (c : Dev nD) (t : Fin cfg0.N) (o : Nat) (h : o + 256 ≤ 512) (i : Fin 256) (x : Fin 1024) :
    rowsD m c t o h (ix2 i x) = Adh m c (ix2 (partRow t o h i) x) := congrFun (V_main_arg0 m c) _
theorem op_A (c : Dev nD) (t : Fin cfg0.N) (o : Nat) (h : o + 256 ≤ 512) (i : Fin 256) (x : Fin 1024) :
    rowsA m c t o h (ix2 i x) = Aa m c (ix2 (partRow t o h i) x) := congrFun (V_main_arg1 m c) _
theorem op_Ga (c : Dev nD) (t : Fin cfg0.N) (o : Nat) (h : o + 256 ≤ 512) (i : Fin 256) (x : Fin 1024) :
    View.readAt (Elt Ideal) (ms0_0 t).view (Rect.unit (s := S1x512x1024) ![0, o, 0] S1x256x1024.size (fits3 o h)).toLoadRect ((hs0_0 t).unread (iblk m c 0 t)) (ix3 0 i x)
      = Az m c (ix2 (partRow t o h i) ⟨5120 + x.val, by omega⟩) :=
  ((hs0_0 t).readAt_unread _ _ _).trans (congrArg (iblk m c 0 t) (load3 o h i x)) |>.trans (read0 m c t _ x)
theorem op_Gb (c : Dev nD) (t : Fin cfg0.N) (o : Nat) (h : o + 256 ≤ 512) (i : Fin 256) (x : Fin 1024) :
    View.readAt (Elt Ideal) (ms0_1 t).view (Rect.unit (s := S1x512x1024) ![0, o, 0] S1x256x1024.size (fits3 o h)).toLoadRect ((hs0_1 t).unread (iblk m c 1 t)) (ix3 0 i x)
      = Az m c (ix2 (partRow t o h i) ⟨6144 + x.val, by omega⟩) :=
  ((hs0_1 t).readAt_unread _ _ _).trans (congrArg (iblk m c 1 t) (load3 o h i x)) |>.trans (read1 m c t _ x)
theorem op_Ya (c : Dev nD) (t : Fin cfg0.N) (o : Nat) (h : o + 256 ≤ 512) (i : Fin 256) (x : Fin 1024) :
    View.readAt (Elt Ideal) (ms0_2 t).view (Rect.unit (s := S512x1024) ![o, 0] S256x1024.size (fits2 o h)).toLoadRect ((hs0_2 t).unread (iblk m c 2 t)) (ix2 i x)
      = Merge.ya (Aa m c) (Ag m c) (Ab m c) (Awa m c) (partRow t o h i) x :=
  ((hs0_2 t).readAt_unread _ _ _).trans (congrArg (iblk m c 2 t) (load2 o h i x)) |>.trans (read2 m c t _ x)
theorem op_Yb (c : Dev nD) (t : Fin cfg0.N) (o : Nat) (h : o + 256 ≤ 512) (i : Fin 256) (x : Fin 1024) :
    View.readAt (Elt Ideal) (ms0_3 t).view (Rect.unit (s := S512x1024) ![o, 0] S256x1024.size (fits2 o h)).toLoadRect ((hs0_3 t).unread (iblk m c 3 t)) (ix2 i x)
      = Merge.yb (Aq m c) (Awb m c) (partRow t o h i) x :=
  ((hs0_3 t).readAt_unread _ _ _).trans (congrArg (iblk m c 3 t) (load2 o h i x)) |>.trans (read3 m c t _ x)
theorem op_G (c : Dev nD) (t : Fin cfg0.N) (x : Fin 1024) :
    View.readAt (Elt Ideal) (ms0_4 t).view (Rect.unit (s := S1x1024) ![0, 0] S1x1024.size inb_S1x1024_S1x1024_0_0).toLoadRect ((hs0_4 t).unread (iblk m c 4 t)) (ix2 0 x)
      = Ag m c (ix2 0 x) :=
  ((hs0_4 t).readAt_unread _ _ _).trans (congrArg (iblk m c 4 t) (load_row x)) |>.trans (read4 m c t x)
theorem op_B (c : Dev nD) (t : Fin cfg0.N) (x : Fin 1024) :
    View.readAt (Elt Ideal) (ms0_5 t).view (Rect.unit (s := S1x1024) ![0, 0] S1x1024.size inb_S1x1024_S1x1024_0_0).toLoadRect ((hs0_5 t).unread (iblk m c 5 t)) (ix2 0 x)
      = Ab m c (ix2 0 x) :=
  ((hs0_5 t).readAt_unread _ _ _).trans (congrArg (iblk m c 5 t) (load_row x)) |>.trans (read5 m c t x)
theorem op_Wa (c : Dev nD) (t : Fin cfg0.N) (x k : Fin 1024) :
    View.readAt (Elt Ideal) (ms0_6 t).view (Rect.unit (s := S1024x1024) ![0, 0] S1024x1024.size inb_S1024x1024_S1024x1024_0_0).toLoadRect ((hs0_6 t).unread (iblk m c 6 t)) (ix2 x k)
      = Awa m c (ix3 0 x k) :=
  ((hs0_6 t).readAt_unread _ _ _).trans (congrArg (iblk m c 6 t) (load_mat x k)) |>.trans (read6 m c t x k)
theorem op_Wb (c : Dev nD) (t : Fin cfg0.N) (x k : Fin 1024) :
    View.readAt (Elt Ideal) (ms0_7 t).view (Rect.unit (s := S1024x1024) ![0, 0] S1024x1024.size inb_S1024x1024_S1024x1024_0_0).toLoadRect ((hs0_7 t).unread (iblk m c 7 t)) (ix2 x k)
      = Awb m c (ix3 0 x k) :=
  ((hs0_7 t).readAt_unread _ _ _).trans (congrArg (iblk m c 7 t) (load_mat x k)) |>.trans (read7 m c t x k)
theorem op_Wo (c : Dev nD) (t : Fin cfg0.N) (x k : Fin 1024) :
    View.readAt (Elt Ideal) (ms0_8 t).view (Rect.unit (s := S1024x1024) ![0, 0] S1024x1024.size inb_S1024x1024_S1024x1024_0_0).toLoadRect ((hs0_8 t).unread (iblk m c 8 t)) (ix2 x k)
      = Awo m c (ix3 0 x k) :=
  ((hs0_8 t).readAt_unread _ _ _).trans (congrArg (iblk m c 8 t) (load_mat x k)) |>.trans (read8 m c t x k)
set_option maxHeartbeats 2000000 in
theorem holds (c : Dev nD) (t : Fin cfg0.N) (o : Nat) (h : o + 256 ≤ 512) :
    Holds (opsWith m c t o h (rowsD m c t o h) (rowsA m c t o h)) (Adh m c) (Aa m c) (Aq m c) (Az m c) (Ag m c) (Ab m c)
      (Awa m c) (Awb m c) (Awo m c) (partRow t o h) :=
  ⟨op_D m c t o h, op_A m c t o h, op_Ga m c t o h, op_Gb m c t o h, op_Ya m c t o h, op_Yb m c t o h, op_G m c t, op_B m c t,
    op_Wa m c t, op_Wb m c t, op_Wo m c t⟩

/-- An output block holds what its two parts' stores agree on. -/
theorem held_two (L : Stores (F := Ideal)) (cover : ∀ y, ∃ pc ∈ L, y ∈ pc.1.set) (f : Operands → FVec Ideal S256x1024 .bf16)
    (a b : Operands) (e : L = two f a b) (G : FVec Ideal S512x1024 .bf16)
    (ha : ∀ (i : Fin 256) (x : Fin 1024), f a (ix2 i x) = G (ix2 ⟨0 + i.val, by omega⟩ x))
    (hb : ∀ (i : Fin 256) (x : Fin 1024), f b (ix2 i x) = G (ix2 ⟨256 + i.val, by omega⟩ x)) : held L = G := by
  funext y
  refine View.read_writes_apply_of_pieces VO0_9 VO0_9.junk G L ?_ y (cover y)
  subst e
  have place (p : FVec Ideal S256x1024 .bf16) (o : Nat) (ho : o + 256 ≤ 512)
      (hp : ∀ (i : Fin 256) (x : Fin 1024), p (ix2 i x) = G (ix2 ⟨o + i.val, by omega⟩ x))
      (hq : ∀ a, (![o, 0] : Fin 2 → Nat) a + S256x1024.size a ≤ S512x1024.size a) (x : S256x1024.Idx) :
      p x = G ((Rect.unit (s := S512x1024) ![o, 0] S256x1024.size hq).emb x) := by
    have hx : x = ix2 (x 0) (x 1) := by funext a; fin_cases a <;> rfl
    refine (congrArg p hx).trans ((hp (x 0) (x 1)).trans (congrArg G ?_))
    funext a
    exact Fin.ext (by fin_cases a <;> simp [ix2])
  intro pc hpc x
  simp only [two, List.mem_cons, List.not_mem_nil, or_false] at hpc
  rcases hpc with rfl | rfl
  · exact place _ 256 (by decide) hb inb_S512x1024_S256x1024_256_0 x
  · exact place _ 0 (by decide) ha inb_S512x1024_S256x1024_0_0 x

/-- The block of an array of rows that point `t` computes. -/
abbrev blockOf (g : Fin 4096 → Fin 1024 → EReal) (t : Fin cfg0.N) : FVec Ideal S512x1024 .bf16 := fun i => g (row t (i 0)) (i 1)

theorem block (c : Dev nD) (t : Fin cfg0.N) (f : Operands → FVec Ideal S256x1024 .bf16) (g : Fin 4096 → Fin 1024 → EReal)
    (L : Stores (F := Ideal)) (cover : ∀ y, ∃ pc ∈ L, y ∈ pc.1.set) (e : L = two f (first m c t) (second m c t))
    (h : ∀ o ho (i : Fin 256) (x : Fin 1024), f (opsWith m c t o ho (rowsD m c t o ho) (rowsA m c t o ho)) (ix2 i x) = g (partRow t o ho i) x) :
    held L = blockOf g t :=
  held_two L cover f _ _ e _ (h 0 (by decide)) (h 256 (by decide))

theorem place9 (t : Fin cfg0.N) (r : Fin 512) (x : Fin 1024) : ((cfg0.win 9).blk t).view.emb (ix2 r x) = ix2 (row t r) x := by
  blk_ext [idx t]
theorem place10 (t : Fin cfg0.N) (r : Fin 512) (x : Fin 1024) : ((cfg0.win 10).blk t).view.emb (ix2 r x) = ix2 (row t r) x := by
  blk_ext [idx t]
theorem place11 (t : Fin cfg0.N) (r : Fin 512) (x : Fin 1024) : ((cfg0.win 11).blk t).view.emb (ix2 r x) = ix2 (row t r) x := by
  blk_ext [idx t]
theorem place12 (t : Fin cfg0.N) (r : Fin 512) (x : Fin 1024) : ((cfg0.win 12).blk t).view.emb (ix2 r x) = ix2 (row t r) x := by
  blk_ext [idx t]
theorem place13 (t : Fin cfg0.N) (r : Fin 512) (x : Fin 1024) : ((cfg0.win 13).blk t).view.emb (ix2 r x) = ix2 (row t r) x := by
  blk_ext [idx t]
theorem place14 (t : Fin cfg0.N) (r : Fin 512) (x : Fin 1024) : ((cfg0.win 14).blk t).view.emb (ix2 r x) = ix2 (row t r) x := by
  blk_ext [idx t]
theorem place15 (t : Fin cfg0.N) (r : Fin 512) (x : Fin 1024) : ((cfg0.win 15).blk t).view.emb (ix2 r x) = ix2 (row t r) x := by
  blk_ext [idx t]
/-- What a step of the run stores, with the sums that it finds. -/
abbrev stored_at (c : Dev nD) (t : Fin cfg0.N) := stores m c t (sums m c t.val).1 (sums m c t.val).2

/-- Eight blocks of rows make an array of rows. -/
theorem whole9 (c : Dev nD) (g : Fin 4096 → Fin 1024 → EReal) (h : ∀ t, (dats m 0 c).after 9 t = blockOf g t) :
    (dats m 0 c).arrAt 9 cfg0.N = Merge.rows g := by
  refine (dats m 0 c).arrAt_eq_of_covers 9 _ (by decide +kernel) fun t _ y => ?_
  blk_simp
  rw [h t]
  idx_vars y
  exact congrArg (Merge.rows g) (place9 t y0 y1).symm
theorem whole10 (c : Dev nD) (g : Fin 4096 → Fin 1024 → EReal) (h : ∀ t, (dats m 0 c).after 10 t = blockOf g t) :
    (dats m 0 c).arrAt 10 cfg0.N = Merge.rows g := by
  refine (dats m 0 c).arrAt_eq_of_covers 10 _ (by decide +kernel) fun t _ y => ?_
  blk_simp
  rw [h t]
  idx_vars y
  exact congrArg (Merge.rows g) (place10 t y0 y1).symm
theorem whole11 (c : Dev nD) (g : Fin 4096 → Fin 1024 → EReal) (h : ∀ t, (dats m 0 c).after 11 t = blockOf g t) :
    (dats m 0 c).arrAt 11 cfg0.N = Merge.rows g := by
  refine (dats m 0 c).arrAt_eq_of_covers 11 _ (by decide +kernel) fun t _ y => ?_
  blk_simp
  rw [h t]
  idx_vars y
  exact congrArg (Merge.rows g) (place11 t y0 y1).symm
theorem whole12 (c : Dev nD) (g : Fin 4096 → Fin 1024 → EReal) (h : ∀ t, (dats m 0 c).after 12 t = blockOf g t) :
    (dats m 0 c).arrAt 12 cfg0.N = Merge.rows g := by
  refine (dats m 0 c).arrAt_eq_of_covers 12 _ (by decide +kernel) fun t _ y => ?_
  blk_simp
  rw [h t]
  idx_vars y
  exact congrArg (Merge.rows g) (place12 t y0 y1).symm
theorem whole13 (c : Dev nD) (g : Fin 4096 → Fin 1024 → EReal) (h : ∀ t, (dats m 0 c).after 13 t = blockOf g t) :
    (dats m 0 c).arrAt 13 cfg0.N = Merge.rows g := by
  refine (dats m 0 c).arrAt_eq_of_covers 13 _ (by decide +kernel) fun t _ y => ?_
  blk_simp
  rw [h t]
  idx_vars y
  exact congrArg (Merge.rows g) (place13 t y0 y1).symm
theorem whole14 (c : Dev nD) (g : Fin 4096 → Fin 1024 → EReal) (h : ∀ t, (dats m 0 c).after 14 t = blockOf g t) :
    (dats m 0 c).arrAt 14 cfg0.N = Merge.rows g := by
  refine (dats m 0 c).arrAt_eq_of_covers 14 _ (by decide +kernel) fun t _ y => ?_
  blk_simp
  rw [h t]
  idx_vars y
  exact congrArg (Merge.rows g) (place14 t y0 y1).symm
theorem whole15 (c : Dev nD) (g : Fin 4096 → Fin 1024 → EReal) (h : ∀ t, (dats m 0 c).after 15 t = blockOf g t) :
    (dats m 0 c).arrAt 15 cfg0.N = Merge.rows g := by
  refine (dats m 0 c).arrAt_eq_of_covers 15 _ (by decide +kernel) fun t _ y => ?_
  blk_simp
  rw [h t]
  idx_vars y
  exact congrArg (Merge.rows g) (place15 t y0 y1).symm

/-- The seven arrays of rows after the run. -/
theorem final_da1 (c : Dev nD) : (dats m 0 c).arrAt 9 cfg0.N = Merge.rows (Merge.da1 (Adh m c) (Aa m c) (Az m c) (Ag m c) (Ab m c) (Awa m c) (Awo m c)) :=
  whole9 m c _ fun t => (after9 m c t).trans
    (block m c t sDa1 _ _ (taken m c t).cover9 (stored_at m c t).da1 fun o ho i x => at_da1 (holds m c t o ho) i x)
theorem final_dq (c : Dev nD) : (dats m 0 c).arrAt 10 cfg0.N = Merge.rows (Merge.dq (Adh m c) (Az m c) (Awb m c) (Awo m c)) :=
  whole10 m c _ fun t => (after10 m c t).trans
    (block m c t sDq _ _ (taken m c t).cover10 (stored_at m c t).dq fun o ho i x => at_dq (holds m c t o ho) i x)
theorem final_dga (c : Dev nD) : (dats m 0 c).arrAt 11 cfg0.N = Merge.rows (Merge.dga (Adh m c) (Aa m c) (Az m c) (Ag m c) (Ab m c) (Awa m c) (Awo m c)) :=
  whole11 m c _ fun t => (after11 m c t).trans
    (block m c t sDga _ _ (taken m c t).cover11 (stored_at m c t).dga fun o ho i x => at_dga (holds m c t o ho) i x)
theorem final_dgb (c : Dev nD) : (dats m 0 c).arrAt 12 cfg0.N = Merge.rows (Merge.dgb (Adh m c) (Aq m c) (Az m c) (Awb m c) (Awo m c)) :=
  whole12 m c _ fun t => (after12 m c t).trans
    (block m c t sDgb _ _ (taken m c t).cover12 (stored_at m c t).dgb fun o ho i x => at_dgb (holds m c t o ho) i x)
theorem final_dya (c : Dev nD) : (dats m 0 c).arrAt 13 cfg0.N = Merge.rows (Merge.dya (Adh m c) (Az m c) (Awo m c)) :=
  whole13 m c _ fun t => (after13 m c t).trans
    (block m c t sDya _ _ (taken m c t).cover13 (stored_at m c t).dya fun o ho i x => at_dya (holds m c t o ho) i x)
theorem final_dyb (c : Dev nD) : (dats m 0 c).arrAt 14 cfg0.N = Merge.rows (Merge.dyb (Adh m c) (Az m c) (Awo m c)) :=
  whole14 m c _ fun t => (after14 m c t).trans
    (block m c t sDyb _ _ (taken m c t).cover14 (stored_at m c t).dyb fun o ho i x => at_dyb (holds m c t o ho) i x)
theorem final_dh (c : Dev nD) : (dats m 0 c).arrAt 15 cfg0.N = Merge.rows (fun r x => Adh m c (ix2 r x)) :=
  whole15 m c _ fun t => (after15 m c t).trans
    (block m c t sDh _ _ (taken m c t).cover15 (stored_at m c t).dh fun o ho i x => at_dh (holds m c t o ho) i x)

/-- Adding up eight points' two parts adds up all rows. -/
theorem all_rows (s : ℕ → EReal) (f : Fin 4096 → EReal) (h0 : s 0 = 0)
    (h : ∀ t : Fin 8, s (t.val + 1) = s t.val + ∑ i : Fin 256, f ⟨512 * t.val + (0 + i.val), by omega⟩
      + ∑ i : Fin 256, f ⟨512 * t.val + (256 + i.val), by omega⟩) : s 8 = ∑ r, f r := by
  have key (t : Fin 8) : s (t.val + 1) = s t.val + ∑ j : Fin 512, f ⟨t.val * 512 + j.val, by omega⟩ := by
    rw [h t, add_assoc, Fin.sum_univ_tiles 2 256 rfl, Fin.sum_univ_two]
    refine congrArg (s t.val + ·) (congrArg₂ (· + ·) ?_ ?_) <;>
      exact Finset.sum_congr rfl fun i _ => congrArg f (Fin.ext (by simp [Nat.mul_comm]))
  rw [Fin.sum_univ_tiles 8 512 rfl, Fin.sum_univ_eight, ← zero_add (∑ t : Fin 512, _), ← h0]
  exact (key 7).trans (congrArg (· + _) ((key 6).trans (congrArg (· + _) ((key 5).trans (congrArg (· + _) ((key 4).trans
    (congrArg (· + _) ((key 3).trans (congrArg (· + _) ((key 2).trans (congrArg (· + _) ((key 1).trans (congrArg (· + _) (key 0))))))))))))))

theorem zero2 (x : Fin 1024) : k0_pay2 (F := Ideal) (ix2 0 x) = 0 := by pointwise [k0_pay2]
theorem zero3 (x : Fin 1024) : k0_pay3 (F := Ideal) (ix2 0 x) = 0 := by pointwise [k0_pay3]
theorem sums_zero (c : Dev nD) (x : Fin 1024) : (sums (F := Ideal) m c 0).1 (ix2 0 x) = 0 ∧ (sums (F := Ideal) m c 0).2 (ix2 0 x) = 0 := by
  unfold sums
  exact ⟨by pointwise, by pointwise⟩

/-- The first point's zeros are what the sums start from anyway. -/
theorem start (p u : FVec Ideal S1x1024 .f32) (c : Dev nD) (t : Fin cfg0.N) (x : Fin 1024) (hp : p (ix2 0 x) = 0) (hu : t.val = 0 → u (ix2 0 x) = 0) :
    (if t.val % 8 = 0 then p else u) (ix2 0 x) = u (ix2 0 x) := by
  have := points t
  by_cases h : t.val % 8 = 0
  · rw [if_pos h, hp, hu (by omega)]
  · rw [if_neg h]

theorem sum_weight (c : Dev nD) (t : Fin cfg0.N) (x : Fin 1024) : (sums m c (t.val + 1)).1 (ix2 0 x) = (sums m c t.val).1 (ix2 0 x)
      + ∑ i, Merge.da2 (Adh m c) (Aa m c) (Az m c) (Ag m c) (Ab m c) (Awa m c) (Awo m c) (partRow t 0 (by decide) i) x * LayerNorm.hat (Merge.arow (Aa m c) (partRow t 0 (by decide) i)) x
      + ∑ i, Merge.da2 (Adh m c) (Aa m c) (Az m c) (Ag m c) (Ab m c) (Awa m c) (Awo m c) (partRow t 256 (by decide) i) x * LayerNorm.hat (Merge.arow (Aa m c) (partRow t 256 (by decide) i)) x := by
  rw [sums_succ]
  refine (congrFun (stored_at m c t).weight _).trans ?_
  unfold both
  refine (at_weight (holds m c t 256 (by decide)) x _).trans (congrArg (· + _) ?_)
  refine (at_weight (holds m c t 0 (by decide)) x _).trans (congrArg (· + _) ?_)
  exact start _ _ c t x (zero2 x) fun h => by rw [h]; exact (sums_zero m c x).1
theorem sum_bias (c : Dev nD) (t : Fin cfg0.N) (x : Fin 1024) : (sums m c (t.val + 1)).2 (ix2 0 x) = (sums m c t.val).2 (ix2 0 x)
      + ∑ i, Merge.da2 (Adh m c) (Aa m c) (Az m c) (Ag m c) (Ab m c) (Awa m c) (Awo m c) (partRow t 0 (by decide) i) x
      + ∑ i, Merge.da2 (Adh m c) (Aa m c) (Az m c) (Ag m c) (Ab m c) (Awa m c) (Awo m c) (partRow t 256 (by decide) i) x := by
  rw [sums_succ]
  refine (congrFun (stored_at m c t).bias _).trans ?_
  unfold both
  refine (at_bias (holds m c t 256 (by decide)) x _).trans (congrArg (· + _) ?_)
  refine (at_bias (holds m c t 0 (by decide)) x _).trans (congrArg (· + _) ?_)
  exact start _ _ c t x (zero3 x) fun h => by rw [h]; exact (sums_zero m c x).2

/-- What a point leaves in a sum's block. -/
theorem left16 (c : Dev nD) (t : Fin cfg0.N) (n : ℕ) (h : t.val + 1 = n) : heldSum (taken m c t).L16 = (sums m c n).1 := by
  subst h
  exact (congrArg Prod.fst (sums_succ m c t)).symm
theorem left17 (c : Dev nD) (t : Fin cfg0.N) (n : ℕ) (h : t.val + 1 = n) : heldSum (taken m c t).L17 = (sums m c n).2 := by
  subst h
  exact (congrArg Prod.snd (sums_succ m c t)).symm
/-- After the last point a sum's array holds the sum. -/
theorem last16 (c : Dev nD) (f : FVec Ideal S1x1024 .f32) (h : ∀ x, (sums m c 8).1 (ix2 0 x) = f (ix2 0 x)) :
    (dats m 0 c).arrAt 16 cfg0.N = f := by
  refine (dats m 0 c).arrAt_eq_of_after_last 16 t0_7 (by decide +kernel) _ fun j => ?_
  blk_simp
  rw [after16]
  idx_vars j
  obtain rfl : j0 = 0 := Subsingleton.elim _ _
  exact (congrFun (left16 m c t0_7 8 rfl) (ix2 0 j1)).trans (h j1)
theorem last17 (c : Dev nD) (f : FVec Ideal S1x1024 .f32) (h : ∀ x, (sums m c 8).2 (ix2 0 x) = f (ix2 0 x)) :
    (dats m 0 c).arrAt 17 cfg0.N = f := by
  refine (dats m 0 c).arrAt_eq_of_after_last 17 t0_7 (by decide +kernel) _ fun j => ?_
  blk_simp
  rw [after17]
  idx_vars j
  obtain rfl : j0 = 0 := Subsingleton.elim _ _
  exact (congrFun (left17 m c t0_7 8 rfl) (ix2 0 j1)).trans (h j1)

/-- The two arrays of sums after the run. -/
theorem final_weight (c : Dev nD) : (dats m 0 c).arrAt 16 cfg0.N = Merge.weight (Adh m c) (Aa m c) (Az m c) (Ag m c) (Ab m c) (Awa m c) (Awo m c) :=
  last16 m c _ fun x => all_rows (fun n => (sums m c n).1 (ix2 0 x))
    (fun r => Merge.da2 (Adh m c) (Aa m c) (Az m c) (Ag m c) (Ab m c) (Awa m c) (Awo m c) r x * LayerNorm.hat (Merge.arow (Aa m c) r) x)
    (sums_zero m c x).1 fun t => sum_weight m c ⟨t.val, t.isLt.trans_eq N_0.symm⟩ x
theorem final_bias (c : Dev nD) : (dats m 0 c).arrAt 17 cfg0.N = Merge.bias (Adh m c) (Aa m c) (Az m c) (Ag m c) (Ab m c) (Awa m c) (Awo m c) :=
  last17 m c _ fun x => all_rows (fun n => (sums m c n).2 (ix2 0 x)) (fun r => Merge.da2 (Adh m c) (Aa m c) (Az m c) (Ag m c) (Ab m c) (Awa m c) (Awo m c) r x)
    (sums_zero m c x).2 fun t => sum_bias m c ⟨t.val, t.isLt.trans_eq N_0.symm⟩ x

end Cert.MixOutIdeal.Blocks

end
-- ==== Proof.MixOutClaims.lean ====
/- The claims about the gradient of the merge of the two branches: the three frames, and both programs end with the same
   nine arrays when the cotangent, the norm's weight, the first branch's matrix and the output's matrix are real. -/
module

public import proofs.«01_k».proof.Defs
public import proofs.«01_k».proof.Proof.Gen.MixOut
public import proofs.«01_k».proof.Proof.Gen.MixOutRefIdeal.Run
public import proofs.«01_k».proof.Proof.Gen.Pre_finite_merge
public import proofs.«01_k».proof.Proof.MixOutArrays
public import proofs.«01_k».proof.Proof.MixOutRef
public import proofs.«01_k».proof.Proof.Finite

@[expose] public section

set_option maxRecDepth 16384

noncomputable section

namespace Cert.MergeGrad

open Idealize.ShloMosaic Idealize.ShloMosaic.Tactic Idealize.ShloMosaic.TcCoe Idealize.SL.Sem Cert.Reals MixOutIdeal.Blocks

/-- The kernel runs, over floats: the ideal program's frame holds over any float type, and this is the same text. -/
theorem frame : quiescent_MixOut (hMixOut := MixOut.Gen.facts) := fun m g _ =>
  cast (by sl_kernel_rfl) (MergeFrame.frame (F := Bits) m g)

/-- And over the extended reals. -/
theorem ideal_frame : quiescent_MixOutIdeal (hMixOutIdeal := MixOutIdeal.Gen.facts) := fun m g _ =>
  MergeFrame.frame (F := Ideal) m g

/-- The reference runs and leaves its arguments alone; it has no semaphore. -/
theorem ref_frame : quiescent_MixOutRefIdeal (hMixOutRefIdeal := MixOutRefIdeal.Gen.facts) := fun m g _ =>
  (θ_run MixOutRefIdeal.defs _ _).mono (fun r h => ⟨fun c => (h c).2.2.2.2.2.2.2.2.2, sem_eq_zero_of_no_sems (by decide) r.2⟩)
    (MixOutRefIdeal.Value.run (F := Ideal) m g)

/-- Under the precondition the cotangent, the norm's weight and the two matrices hold real numbers. -/
theorem real_arguments (m : (ℓ : Loc MixOutIdeal.nD MixOutIdeal.τ MixOutIdeal.sig) → Buf (Elt Ideal) ℓ)
    (h : Pre_MixOutIdeal_finite_merge (hPre_finite_merge := Pre_finite_merge.Gen.facts) m) (c : Dev MixOutIdeal.nD) :
    (∀ i, IsReal (Adh m c i)) ∧ (∀ i, IsReal (Ag m c i)) ∧ (∀ i, IsReal (Awa m c i)) ∧ (∀ i, IsReal (Awo m c i)) := by
  obtain ⟨h0, h4, h6, h8⟩ := h c
  exact ⟨real_of_lt_top _ _ _ h0, real_of_lt_top _ _ _ h4, real_of_lt_top _ _ _ h6, real_of_lt_top _ _ _ h8⟩

/-- The nine arrays that the kernel's run ends with. -/
theorem run_arrays (m : (ℓ : Loc MixOutIdeal.nD MixOutIdeal.τ MixOutIdeal.sig) → Buf (Elt Ideal) ℓ) (g : Dev MixOutIdeal.nD → PrngReg) :
    θ_run MixOutIdeal.defs (onTc (τ := MixOutIdeal.τ) (MixOutIdeal.main (F := Ideal))) ⟨m, fun _ => 0, g⟩ fun r => ∀ c : Dev MixOutIdeal.nD,
      r.2.mem ((c : Thread MixOutIdeal.nD MixOutIdeal.τ).loc MixOutIdeal.main_v42_0) = (MergeFrame.dats m 0 c).arrAt 9 MixOutIdeal.cfg0.N
      ∧ r.2.mem ((c : Thread MixOutIdeal.nD MixOutIdeal.τ).loc MixOutIdeal.main_v42_1) = (MergeFrame.dats m 0 c).arrAt 10 MixOutIdeal.cfg0.N
      ∧ r.2.mem ((c : Thread MixOutIdeal.nD MixOutIdeal.τ).loc MixOutIdeal.main_v42_2) = (MergeFrame.dats m 0 c).arrAt 11 MixOutIdeal.cfg0.N
      ∧ r.2.mem ((c : Thread MixOutIdeal.nD MixOutIdeal.τ).loc MixOutIdeal.main_v42_3) = (MergeFrame.dats m 0 c).arrAt 12 MixOutIdeal.cfg0.N
      ∧ r.2.mem ((c : Thread MixOutIdeal.nD MixOutIdeal.τ).loc MixOutIdeal.main_v42_4) = (MergeFrame.dats m 0 c).arrAt 13 MixOutIdeal.cfg0.N
      ∧ r.2.mem ((c : Thread MixOutIdeal.nD MixOutIdeal.τ).loc MixOutIdeal.main_v42_5) = (MergeFrame.dats m 0 c).arrAt 14 MixOutIdeal.cfg0.N
      ∧ r.2.mem ((c : Thread MixOutIdeal.nD MixOutIdeal.τ).loc MixOutIdeal.main_v42_6) = (MergeFrame.dats m 0 c).arrAt 15 MixOutIdeal.cfg0.N
      ∧ r.2.mem ((c : Thread MixOutIdeal.nD MixOutIdeal.τ).loc MixOutIdeal.main_v42_7) = (MergeFrame.dats m 0 c).arrAt 16 MixOutIdeal.cfg0.N
      ∧ r.2.mem ((c : Thread MixOutIdeal.nD MixOutIdeal.τ).loc MixOutIdeal.main_v42_8) = (MergeFrame.dats m 0 c).arrAt 17 MixOutIdeal.cfg0.N :=
  (θ_run MixOutIdeal.defs _ _).mono (fun r h c => ⟨(h.1 c).1 9, (h.1 c).1 10, (h.1 c).1 11, (h.1 c).1 12, (h.1 c).1 13, (h.1 c).1 14, (h.1 c).1 15, (h.1 c).1 16, (h.1 c).1 17⟩) (MergeFrame.run m g)

/-- Both programs end with the same arrays. -/
theorem value : algebraic_MixOutIdeal_MixOutRefIdeal_pre_finite_merge (hMixOutIdeal := MixOutIdeal.Gen.facts)
    (hMixOutRefIdeal := MixOutRefIdeal.Gen.facts) (hPre_finite_merge := Pre_finite_merge.Gen.facts) := fun m g m' g' hp hm => by
  refine ⟨fun c => Merge.rows (Merge.da1 (Adh m c) (Aa m c) (Az m c) (Ag m c) (Ab m c) (Awa m c) (Awo m c)),
    fun c => Merge.rows (Merge.dq (Adh m c) (Az m c) (Awb m c) (Awo m c)),
    fun c => Merge.rows (Merge.dga (Adh m c) (Aa m c) (Az m c) (Ag m c) (Ab m c) (Awa m c) (Awo m c)),
    fun c => Merge.rows (Merge.dgb (Adh m c) (Aq m c) (Az m c) (Awb m c) (Awo m c)),
    fun c => Merge.rows (Merge.dya (Adh m c) (Az m c) (Awo m c)),
    fun c => Merge.rows (Merge.dyb (Adh m c) (Az m c) (Awo m c)),
    fun c => Merge.rows (fun r x => Adh m c (ix2 r x)),
    fun c => Merge.weight (Adh m c) (Aa m c) (Az m c) (Ag m c) (Ab m c) (Awa m c) (Awo m c),
    fun c => Merge.bias (Adh m c) (Aa m c) (Az m c) (Ag m c) (Ab m c) (Awa m c) (Awo m c),
    (θ_run _ _ _).mono (fun r h c => ?_) (θ_run_and (run_arrays m g) (MergeFrame.frame m g)),
    (θ_run _ _ _).mono (fun r h c => ?_) (MixOutRefIdeal.Value.run (F := Ideal) m' g')⟩
  · obtain ⟨h0, h1, h2, h3, h4, h5, h6, h7, h8⟩ := h.1 c
    exact ⟨h0.trans (final_da1 m c), h1.trans (final_dq m c), h2.trans (final_dga m c), h3.trans (final_dgb m c), h4.trans (final_dya m c), h5.trans (final_dyb m c), h6.trans (final_dh m c), h7.trans (final_weight m c), h8.trans (final_bias m c), h.2.1 c⟩
  · obtain ⟨e0, e1, e2, e3, e4, e5, e6, e7, e8⟩ := hm c
    obtain ⟨p0, p4, p6, p8⟩ := real_arguments m hp c
    obtain ⟨h0, h1, h2, h3, h4, h5, h6, h7, h8, h9⟩ := h c
    refine ⟨h0.trans ?_, h1.trans ?_, h2.trans ?_, h3.trans ?_, h4.trans ?_, h5.trans ?_, h6.trans ?_, h7.trans ?_, h8.trans ?_, h9⟩
    · refine (MixOutRefIdeal.Read.val_main_v111_eq (F := Ideal) _ _).trans ?_
      rw [e0, e1, e3, e4, e5, e6, e8]
      exact Merge.ref_da1 _ _ _ _ _ _ _ p0 p4 p6 p8
    · refine (MixOutRefIdeal.Read.val_main_v112_eq (F := Ideal) _ _ _ _).trans ?_
      rw [e0, e3, e7, e8]
      exact Merge.ref_dq _ _ _ _
    · refine (MixOutRefIdeal.Read.val_main_v113_eq (F := Ideal) _ _).trans ?_
      rw [e0, e1, e3, e4, e5, e6, e8]
      exact Merge.ref_dga _ _ _ _ _ _ _
    · refine (MixOutRefIdeal.Read.val_main_v114_eq (F := Ideal) _ _ _ _ _).trans ?_
      rw [e0, e2, e3, e7, e8]
      exact Merge.ref_dgb _ _ _ _ _
    · refine (MixOutRefIdeal.Read.val_main_v115_eq (F := Ideal) _ _ _).trans ?_
      rw [e0, e3, e8]
      exact Merge.ref_dya _ _ _
    · refine (MixOutRefIdeal.Read.val_main_v116_eq (F := Ideal) _ _ _).trans ?_
      rw [e0, e3, e8]
      exact Merge.ref_dyb _ _ _
    · refine (MixOutRefIdeal.Read.val_main_v117_eq (F := Ideal) _).trans ?_
      rw [e0]
      exact Merge.ref_dh _
    · refine (MixOutRefIdeal.Read.val_main_v110_eq (F := Ideal) _ _).trans ?_
      rw [e0, e1, e3, e4, e5, e6, e8]
      exact Merge.ref_weight _ _ _ _ _ _ _ p0 p6 p8
    · refine (MixOutRefIdeal.Read.val_main_v109_eq (F := Ideal) _ _).trans ?_
      rw [e0, e1, e3, e4, e5, e6, e8]
      exact Merge.ref_bias _ _ _ _ _ _ _ p0 p6 p8

end Cert.MergeGrad

end
-- ==== Proof.ConvFwdParts.lean ====
/- The forward convolutions, as the kernel's block runs them: eight copies of the padded gated rows, each moved up by one
   row more than the one before; a sum over 31 windows of these copies for every 64 rows; and a sum over 3 windows of the
   padded products. What the block stores is these sums. -/
module

public import proofs.«01_k».proof.Proof.Gen.ConvFwdIdeal.Value
public import Idealize.ShloMosaic.Lib.Pipeline.ValueKit
public import Idealize.ShloMosaic.Lib.Claim

@[expose] public section

set_option maxRecDepth 100000

noncomputable section

namespace Cert.ConvFwdIdeal.Parts

open Idealize.ShloMosaic Idealize.ShloMosaic.TcCoe Idealize.SL.Sem Cert.ConvFwdIdeal Cert.ConvFwdIdeal.Gen
open Idealize.ShloMosaic.Tactic

section Block
variable (c : Dev nD) (i : grid0.Coords)
  (arg2 : Memref sig .tc .vmem S5x1024x256 .bf16) (harg2 : arg2.IsWhole) (arg3 : Memref sig .tc .vmem S5x32x256 .bf16) (harg3 : arg3.IsWhole)
  (arg4 : Memref sig .tc .vmem S1x31x256 .f32) (harg4 : arg4.IsWhole) (arg5 : Memref sig .tc .vmem S1x256 .f32) (harg5 : arg5.IsWhole)
  (arg6 : Memref sig .tc .vmem S1x3x256 .f32) (harg6 : arg6.IsWhole) (arg7 : Memref sig .tc .vmem S1024x256 .f32) (harg7 : arg7.IsWhole)
  (arg8 : Memref sig .tc .vmem S1024x256 .bf16) (harg8 : arg8.IsWhole) (arg9 : Memref sig .tc .vmem S8x1056x256 .f32) (harg9 : arg9.IsWhole)
  (arg10 : Memref sig .tc .vmem S1056x256 .f32) (harg10 : arg10.IsWhole)
  (x0 : Vec Ideal S5x1024x256 .bf16) (x1 : Vec Ideal S5x32x256 .bf16) (x2 : Vec Ideal S1x31x256 .f32) (x3 : Vec Ideal S1x256 .f32)
  (x4 : Vec Ideal S1x3x256 .f32)

theorem fits_window {o : Nat} (h : o ≤ 992) : ∀ a, (![o % 8, o - o % 8, 0] : Fin 3 → Nat) a + S1x64x256.size a ≤ S8x1056x256.size a := by
  intro a
  have := Nat.mod_lt o (show 0 < 8 by decide)
  fin_cases a <;> simp [S1x64x256, S8x1056x256, Shape.size] <;> omega

theorem fits_rows {o : Nat} (h : o ≤ 992) : ∀ a, (![o, 0] : Fin 2 → Nat) a + S64x256.size a ≤ S1056x256.size a := by
  intro a; fin_cases a <;> simp [S64x256, S1056x256, Shape.size] <;> omega

theorem fits_part {o : Nat} (h : o ≤ 960) : ∀ a, (![o, 0] : Fin 2 → Nat) a + S64x256.size a ≤ S1024x256.size a := by
  intro a; fin_cases a <;> simp [S64x256, S1024x256, Shape.size] <;> omega

theorem fits_group {o : Nat} (h : o ≤ 960) : ∀ a, (![2, o, 0] : Fin 3 → Nat) a + S1x64x256.size a ≤ S5x1024x256.size a := by
  intro a; fin_cases a <;> simp [S1x64x256, S5x1024x256, Shape.size] <;> omega

theorem fits_copy {n : Nat} (h : n ≤ 7) : ∀ a, (![n, 0, 0] : Fin 3 → Nat) a + S1x1048x256.size a ≤ S8x1056x256.size a := by
  intro a; fin_cases a <;> simp [S1x1048x256, S8x1056x256, Shape.size] <;> omega

theorem fits_moved {n : Nat} (h : n ≤ 7) : ∀ a, (![0, n, 0] : Fin 3 → Nat) a + S1x1048x256.size a ≤ S8x1056x256.size a := by
  intro a; fin_cases a <;> simp [S1x1048x256, S8x1056x256, Shape.size] <;> omega

theorem fits_tap (k : Fin 31) : ∀ a, (![0, k.val, 0] : Fin 3 → Nat) a + S1x1x256.size a ≤ S1x31x256.size a := by
  intro a; have := k.isLt; fin_cases a <;> simp [S1x1x256, S1x31x256, Shape.size] <;> omega

theorem fits_tap3 (k : Fin 3) : ∀ a, (![0, k.val, 0] : Fin 3 → Nat) a + S1x1x256.size a ≤ S1x3x256.size a := by
  intro a; have := k.isLt; fin_cases a <;> simp [S1x1x256, S1x3x256, Shape.size] <;> omega

/-- A tap of each convolution, and 64 rows of what is convolved: of the right copy, or of the padded products. -/
def tap (k : Fin 31) : FVec Ideal S1x256 .f32 :=
  shapeCast S1x256 (View.readAt (Elt Ideal) arg4.view (Rect.unit (s := S1x31x256) ![0, k.val, 0] S1x1x256.size (fits_tap k)).toLoadRect
    (harg4.unread x2)) shapeCasts_S1x1x256_S1x256
def tap3 (k : Fin 3) : FVec Ideal S1x256 .f32 :=
  shapeCast S1x256 (View.readAt (Elt Ideal) arg6.view (Rect.unit (s := S1x3x256) ![0, k.val, 0] S1x1x256.size (fits_tap3 k)).toLoadRect
    (harg6.unread x4)) shapeCasts_S1x1x256_S1x256
def window (M : List (View.Piece (Elt Ideal) S8x1056x256 .f32)) (o : Nat) (h : o ≤ 992) : FVec Ideal S64x256 .f32 :=
  shapeCast S64x256 (arg9.view.readCov M (Rect.unit (s := S8x1056x256) ![o % 8, o - o % 8, 0] S1x64x256.size (fits_window h)).toLoadRect)
    shapeCasts_S1x64x256_S64x256
def rows (M : List (View.Piece (Elt Ideal) S1056x256 .f32)) (o : Nat) (h : o ≤ 992) : FVec Ideal S64x256 .f32 :=
  arg10.view.readCov M (Rect.unit (s := S1056x256) ![o, 0] S64x256.size (fits_rows h)).toLoadRect

/-- The sum over the first `n` taps at the 64 rows from `p` on: onto the bias, and onto nothing. -/
def wide (M : List (View.Piece (Elt Ideal) S8x1056x256 .f32)) (p : Nat) (hp : p ≤ 960) : (n : Nat) → n ≤ 31 → FVec Ideal S64x256 .f32
  | 0, _ => broadcastTo S64x256 (shapeCast S1x256 (View.readAt (Elt Ideal) arg5.view
      (Rect.unit (s := S1x256) ![0, 0] S1x256.size inb_S1x256_S1x256_0_0).toLoadRect (harg5.unread x3)) shapeCasts_S1x256_S1x256)
      broadcasts_S1x256_S64x256
  | n + 1, h => addf (wide M p hp n (Nat.le_of_succ_le h))
      (mulf (broadcastTo S64x256 (tap arg4 harg4 x2 ⟨n, h⟩) broadcasts_S1x256_S64x256)
        (window arg9 M (p + 2 + n) (by omega)))
def narrow (M : List (View.Piece (Elt Ideal) S1056x256 .f32)) (p : Nat) (hp : p ≤ 960) : (n : Nat) → n ≤ 3 → FVec Ideal S64x256 .f32
  | 0, _ => broadcast S64x256 (Scalar.ofBits .f32 0x00000000#32)
  | n + 1, h => addf (narrow M p hp n (Nat.le_of_succ_le h))
      (mulf (broadcastTo S64x256 (tap3 arg6 harg6 x4 ⟨n, h⟩) broadcasts_S1x256_S64x256)
        (rows arg10 M (p + 30 + n) (by omega)))

/-- What the block stores for the 64 rows from `p` on in the second result. -/
def gatedPart (M : List (View.Piece (Elt Ideal) S1056x256 .f32)) (p : Nat) (hp : p ≤ 960) : FVec Ideal S64x256 .bf16 :=
  truncf .bf16 (mulf (extf .f32 (shapeCast S64x256 (View.readAt (Elt Ideal) arg2.view
      (Rect.unit (s := S5x1024x256) ![2, p, 0] S1x64x256.size (fits_group hp)).toLoadRect (harg2.unread x0)) shapeCasts_S1x64x256_S64x256)
      bitsLt_bf16_f32) (narrow arg6 harg6 arg10 x4 M p hp 3 (le_refl 3))) bitsLt_bf16_f32

/-- The first copy, and the stores of the first `n` moved copies over it. -/
abbrev first : List (View.Piece (Elt Ideal) S8x1056x256 .f32) := kernelRun0_A.sl.HS0_2 (F := Ideal) c i arg2 harg2 arg3 harg3 x0 x1
def copies : (n : Nat) → n ≤ 7 → List (View.Piece (Elt Ideal) S8x1056x256 .f32)
  | 0, _ => first c i arg2 harg2 arg3 harg3 x0 x1
  | n + 1, h => ⟨Rect.unit (s := S8x1056x256) ![n + 1, 0, 0] S1x1048x256.size (fits_copy h),
      shapeCast S1x1048x256 (shapeCast S1048x256 (arg9.view.readCov (copies n (Nat.le_of_succ_le h))
        (Rect.unit (s := S8x1056x256) ![0, n + 1, 0] S1x1048x256.size (fits_moved h)).toLoadRect)
        shapeCasts_S1x1048x256_S1048x256) shapeCasts_S1048x256_S1x1048x256⟩ :: copies n (Nat.le_of_succ_le h)

theorem copies_eq : kernelRun0_A.sl.HS0_9 (F := Ideal) c i arg2 harg2 arg3 harg3 arg9 x0 x1
    = copies c i arg2 harg2 arg3 harg3 arg9 x0 x1 7 (le_refl 7) := by sl_kernel_rfl

/-- The stores of the first `n` parts of 64 rows in each result. -/
def wideParts (M : List (View.Piece (Elt Ideal) S8x1056x256 .f32)) : (n : Nat) → n ≤ 16 → List (View.Piece (Elt Ideal) S1024x256 .f32)
  | 0, _ => []
  | n + 1, h => ⟨Rect.unit (s := S1024x256) ![n * 64, 0] S64x256.size (fits_part (by omega)),
      wide arg4 harg4 arg5 harg5 arg9 x2 x3 M (n * 64) (by omega) 31 (le_refl 31)⟩ :: wideParts M n (Nat.le_of_succ_le h)
def narrowParts (M : List (View.Piece (Elt Ideal) S1056x256 .f32)) : (n : Nat) → n ≤ 16 → List (View.Piece (Elt Ideal) S1024x256 .bf16)
  | 0, _ => []
  | n + 1, h => ⟨Rect.unit (s := S1024x256) ![n * 64, 0] S64x256.size (fits_part (by omega)),
      gatedPart arg2 harg2 arg6 harg6 arg10 x0 x4 M (n * 64) (by omega)⟩ :: narrowParts M n (Nat.le_of_succ_le h)

theorem wide_eq : (kernelRun0_A (F := Ideal) c i arg2 harg2 arg3 harg3 arg4 harg4 arg5 harg5 arg6 harg6 arg7 harg7 arg8 harg8 arg9 harg9
      arg10 harg10 x0 x1 x2 x3 x4).1
    = wideParts arg4 harg4 arg5 harg5 arg9 x2 x3 (kernelRun0_A.sl.HS0_9 (F := Ideal) c i arg2 harg2 arg3 harg3 arg9 x0 x1) 16 (le_refl 16) := by
  sl_kernel_rfl

theorem narrow_eq : (kernelRun0_A (F := Ideal) c i arg2 harg2 arg3 harg3 arg4 harg4 arg5 harg5 arg6 harg6 arg7 harg7 arg8 harg8 arg9 harg9
      arg10 harg10 x0 x1 x2 x3 x4).2.1
    = narrowParts arg2 harg2 arg6 harg6 arg10 x0 x4 (kernelRun0_A.sl.HS1_2 (F := Ideal) c i arg2 harg2 arg3 harg3 x0 x1) 16 (le_refl 16) := by
  sl_kernel_rfl

end Block

end Cert.ConvFwdIdeal.Parts

end
-- ==== Proof.ConvFwdBlock.lean ====
/- The forward convolutions: what a block of 1024 rows and 256 columns stores, in terms of the rows it loads. -/
module

public import proofs.«01_k».proof.Proof.ConvFwdParts
public import Idealize.ShloMosaic.Lib.WholeRead
public import Idealize.ShloMosaic.Lib.Pointwise

@[expose] public section

set_option maxRecDepth 16384

noncomputable section

namespace Cert.ConvFwdIdeal.Parts

open Idealize.ShloMosaic Idealize.ShloMosaic.TcCoe Idealize.SL.Sem Cert.ConvFwdIdeal Cert.ConvFwdIdeal.Gen

section Block
variable (c : Dev nD) (i : grid0.Coords)
  (arg2 : Memref sig .tc .vmem S5x1024x256 .bf16) (harg2 : arg2.IsWhole) (arg3 : Memref sig .tc .vmem S5x32x256 .bf16) (harg3 : arg3.IsWhole)
  (arg4 : Memref sig .tc .vmem S1x31x256 .f32) (harg4 : arg4.IsWhole) (arg5 : Memref sig .tc .vmem S1x256 .f32) (harg5 : arg5.IsWhole)
  (arg6 : Memref sig .tc .vmem S1x3x256 .f32) (harg6 : arg6.IsWhole)
  (arg9 : Memref sig .tc .vmem S8x1056x256 .f32) (arg10 : Memref sig .tc .vmem S1056x256 .f32)
  (x0 : FVec Ideal S5x1024x256 .bf16) (x1 : FVec Ideal S5x32x256 .bf16) (x2 : FVec Ideal S1x31x256 .f32) (x3 : FVec Ideal S1x256 .f32)
  (x4 : FVec Ideal S1x3x256 .f32)

/-- Row `p` of the 32 rows before the block and the block's own, of what the first convolution takes, and of what the
    second takes. The rows before the block count only where there are some. -/
def gatedRow (p : Nat) (j : Fin 256) : EReal :=
  if h : p < 32 then x1 (ix3 0 ⟨p, h⟩ j) * Ideal.logistic (x1 (ix3 1 ⟨p, h⟩ j)) * k0_pay2 (F := Ideal) i
  else if h' : p - 32 < 1024 then x0 (ix3 0 ⟨p - 32, h'⟩ j) * Ideal.logistic (x0 (ix3 1 ⟨p - 32, h'⟩ j)) else 0
def productRow (p : Nat) (j : Fin 256) : EReal :=
  if h : p < 32 then x1 (ix3 3 ⟨p, h⟩ j) * x1 (ix3 4 ⟨p, h⟩ j) * k0_pay2 (F := Ideal) i
  else if h' : p - 32 < 1024 then x0 (ix3 3 ⟨p - 32, h'⟩ j) * x0 (ix3 4 ⟨p - 32, h'⟩ j) else 0

/-- Rows of a group as the block loads them: of the 32 before it, and its own. -/
theorem halo_at (k : Fin 5) (inb : ∀ a, (![k.val, 0, 0] : Fin 3 → Nat) a + (![1, 32, 256] : Fin 3 → Nat) a ≤ S5x32x256.size a)
    (p : Fin 32) (j : Fin 256) : View.readAt (Elt Ideal) arg3.view (Rect.unit (s := S5x32x256) ![k.val, 0, 0] ![1, 32, 256] inb).toLoadRect
      (harg3.unread x1) (ix3 (0 : Fin 1) p j) = x1 (ix3 k p j) :=
  (harg3.readAt_unread _ _ _).trans (congrArg x1 (funext fun a => Fin.ext (by fin_cases a <;> simp [ix3])))
theorem own_at (k : Fin 5) (inb : ∀ a, (![k.val, 0, 0] : Fin 3 → Nat) a + (![1, 1024, 256] : Fin 3 → Nat) a ≤ S5x1024x256.size a)
    (p : Fin 1024) (j : Fin 256) : View.readAt (Elt Ideal) arg2.view
      (Rect.unit (s := S5x1024x256) ![k.val, 0, 0] ![1, 1024, 256] inb).toLoadRect (harg2.unread x0) (ix3 (0 : Fin 1) p j) = x0 (ix3 k p j) :=
  (harg2.readAt_unread _ _ _).trans (congrArg x0 (funext fun a => Fin.ext (by fin_cases a <;> simp [ix3])))

theorem first_at (p : Fin 1056) (j : Fin 256) :
    View.canon (first c i arg2 harg2 arg3 harg3 x0 x1) (ix3 0 p j) = gatedRow i x0 x1 p.val j := by
  unfold first kernelRun0_A.sl.HS0_2
  by_cases h : p.val < 32
  · refine Eq.trans (congrArg (View.canon _) (?_ : ix3 0 p j = Rect.emb (Rect.unit (s := S8x1056x256) ![0, 0, 0] S1x32x256.size
      inb_S8x1056x256_S1x32x256_0_0_0) (ix3 (0 : Fin 1) (⟨p.val, h⟩ : Fin 32) j))) ?_
    · funext a; apply Fin.ext; fin_cases a <;> simp [ix3]
    refine (View.canon_cons_emb _ _ _ _).trans ?_
    pointwise [k0_pay4]
    rw [gatedRow, dif_pos h]
    exact congrArg (· * k0_pay2 (F := Ideal) i) (congrArg₂ (fun a b => a * Ideal.logistic b)
      (halo_at arg3 harg3 x1 0 _ _ _) (halo_at arg3 harg3 x1 1 _ _ _))
  · rw [View.canon_cons_of_not_mem]
    · refine Eq.trans (congrArg (View.canon _) (?_ : ix3 0 p j = Rect.emb (Rect.unit (s := S8x1056x256) ![0, 32, 0] S1x1024x256.size
        inb_S8x1056x256_S1x1024x256_0_32_0) (ix3 (0 : Fin 1) (⟨p.val - 32, by omega⟩ : Fin 1024) j))) ?_
      · funext a; apply Fin.ext; fin_cases a <;> simp [ix3]; omega
      refine (View.canon_cons_emb _ _ _ _).trans ?_
      pointwise [k0_pay3]
      rw [gatedRow, dif_neg h, dif_pos (by omega)]
      exact congrArg₂ (fun a b => a * Ideal.logistic b) (own_at arg2 harg2 x0 0 _ _ _) (own_at arg2 harg2 x0 1 _ _ _)
    · exact Rect.not_mem_set_of_axis _ _ 1 0 32 rfl rfl rfl (Or.inr (by simpa [ix3] using h))

theorem copies_at : ∀ (n : Nat) (h : n ≤ 7) (q : Fin 8) (p : Fin 1056) (j : Fin 256), q.val ≤ n → (q.val = 0 ∨ p.val < 1048) →
    View.canon (copies c i arg2 harg2 arg3 harg3 arg9 x0 x1 n h) (ix3 q p j) = gatedRow i x0 x1 (q.val + p.val) j
  | 0, h, q, p, j, hq, hp => by
    obtain rfl : q = 0 := Fin.ext (Nat.le_zero.mp hq)
    refine Eq.trans ?_ ((first_at c i arg2 harg2 arg3 harg3 x0 x1 p j).trans (congrArg (gatedRow i x0 x1 · j) (by simp)))
    rfl
  | n + 1, h, q, p, j, hq, hp => by
    by_cases e : q.val = n + 1
    · have hp' : p.val < 1048 := by omega
      refine Eq.trans (congrArg (View.canon _) (?_ : ix3 q p j = Rect.emb (Rect.unit (s := S8x1056x256) ![n + 1, 0, 0] S1x1048x256.size
        (fits_copy h)) (ix3 (0 : Fin 1) (⟨p.val, hp'⟩ : Fin 1048) j))) ?_
      · funext a; apply Fin.ext; fin_cases a <;> simp [ix3, e]
      refine (View.canon_cons_emb _ _ _ _).trans ?_
      have ih := copies_at n (Nat.le_of_succ_le h) 0 ⟨n + 1 + p.val, by omega⟩ j (Nat.zero_le _) (Or.inl rfl)
      rw [e]
      refine Eq.trans ?_ (ih.trans (congrArg (gatedRow i x0 x1 · j) (by simp)))
      pointwise
      rw [View.readCov_eq_canon']
      exact congrArg (View.canon _) (funext fun a => Fin.ext (by fin_cases a <;> simp [ix3]))
    · refine (View.canon_cons_of_not_mem _ _ (Rect.not_mem_set_of_axis _ _ 0 (n + 1) 1 rfl rfl rfl (Or.inl ?_))).trans
        (copies_at n (Nat.le_of_succ_le h) q p j (by omega) hp)
      show q.val < n + 1
      omega

theorem products_at (p : Fin 1056) (j : Fin 256) :
    View.canon (kernelRun0_A.sl.HS1_2 (F := Ideal) c i arg2 harg2 arg3 harg3 x0 x1) (ix2 p j) = productRow i x0 x1 p.val j := by
  unfold kernelRun0_A.sl.HS1_2
  by_cases h : p.val < 32
  · refine Eq.trans (congrArg (View.canon _) (?_ : ix2 p j = Rect.emb (Rect.unit (s := S1056x256) ![0, 0] S32x256.size
      inb_S1056x256_S32x256_0_0) (ix2 (⟨p.val, h⟩ : Fin 32) j))) ?_
    · funext a; apply Fin.ext; fin_cases a <;> simp [ix2]
    refine (View.canon_cons_emb _ _ _ _).trans ?_
    pointwise [k0_pay15]
    rw [productRow, dif_pos h]
    exact congrArg (· * k0_pay2 (F := Ideal) i) (congrArg₂ (· * ·) (halo_at arg3 harg3 x1 3 _ _ _) (halo_at arg3 harg3 x1 4 _ _ _))
  · rw [View.canon_cons_of_not_mem]
    · refine Eq.trans (congrArg (View.canon _) (?_ : ix2 p j = Rect.emb (Rect.unit (s := S1056x256) ![32, 0] S1024x256.size
        inb_S1056x256_S1024x256_32_0) (ix2 (⟨p.val - 32, by omega⟩ : Fin 1024) j))) ?_
      · funext a; apply Fin.ext; fin_cases a <;> simp [ix2]; omega
      refine (View.canon_cons_emb _ _ _ _).trans ?_
      pointwise [k0_pay14]
      rw [productRow, dif_neg h, dif_pos (by omega)]
      exact congrArg₂ (· * ·) (own_at arg2 harg2 x0 3 _ _ _) (own_at arg2 harg2 x0 4 _ _ _)
    · exact Rect.not_mem_set_of_axis _ _ 0 0 32 rfl rfl rfl (Or.inr (by simpa [ix2] using h))

theorem cast_at {e : EltTy} (v : Vec Ideal S1x64x256 e) (r : Fin 64) (j : Fin 256) :
    shapeCast S64x256 v shapeCasts_S1x64x256_S64x256 (ix2 r j) = v (ix3 (0 : Fin 1) r j) := by pointwise

theorem gated_at (v : Vec Ideal S1x64x256 .bf16) (w : FVec Ideal S64x256 .f32) (r : Fin 64) (j : Fin 256) :
    truncf .bf16 (mulf (extf .f32 (shapeCast S64x256 v shapeCasts_S1x64x256_S64x256) bitsLt_bf16_f32) w) bitsLt_bf16_f32 (ix2 r j)
      = v (ix3 (0 : Fin 1) r j) * w (ix2 r j) := by pointwise

/-- 64 rows of the copies and of the products, and the taps. -/
theorem window_read (M : List (View.Piece (Elt Ideal) S8x1056x256 .f32)) (o : Nat) (ho : o ≤ 992) (r : Fin 64) (j : Fin 256) :
    window arg9 M o ho (ix2 r j)
      = View.canon M (ix3 (⟨o % 8, Nat.mod_lt o (by decide)⟩ : Fin 8) (⟨o - o % 8 + r.val, by omega⟩ : Fin 1056) j) := by
  refine (cast_at _ r j).trans ?_
  rw [View.readCov_eq_canon']
  exact congrArg (View.canon M) (funext fun a => Fin.ext (by fin_cases a <;> simp [ix3]))

theorem window_at (o : Nat) (ho : o ≤ 992) (r : Fin 64) (j : Fin 256) :
    window arg9 (copies c i arg2 harg2 arg3 harg3 arg9 x0 x1 7 (le_refl 7)) o ho (ix2 r j) = gatedRow i x0 x1 (o + r.val) j := by
  have hq := Nat.mod_lt o (show 0 < 8 by decide)
  have e := Nat.mod_le o 8
  rw [window_read, copies_at _ _ _ _ _ _ _ _ _ 7 (le_refl 7) _ _ _ (Nat.le_of_lt_succ hq)]
  · exact congrArg (gatedRow i x0 x1 · j) (show o % 8 + (o - o % 8 + r.val) = o + r.val by omega)
  · show o % 8 = 0 ∨ o - o % 8 + r.val < 1048
    by_cases q : o % 8 = 0
    · exact Or.inl q
    · exact Or.inr (by omega)

theorem rows_read (M : List (View.Piece (Elt Ideal) S1056x256 .f32)) (o : Nat) (ho : o ≤ 992) (r : Fin 64) (j : Fin 256) :
    rows arg10 M o ho (ix2 r j) = View.canon M (ix2 (⟨o + r.val, by omega⟩ : Fin 1056) j) := by
  unfold rows
  rw [View.readCov_eq_canon']
  exact congrArg (View.canon M) (funext fun a => Fin.ext (by fin_cases a <;> simp [ix2]))

theorem rows_at (o : Nat) (ho : o ≤ 992) (r : Fin 64) (j : Fin 256) :
    rows arg10 (kernelRun0_A.sl.HS1_2 (F := Ideal) c i arg2 harg2 arg3 harg3 x0 x1) o ho (ix2 r j) = productRow i x0 x1 (o + r.val) j := by
  rw [rows_read, products_at]

theorem tap_at (k : Fin 31) (j : Fin 256) : tap arg4 harg4 x2 k (ix2 0 j) = x2 (ix3 0 k j) := by
  unfold tap
  pointwise
  exact (harg4.readAt_unread _ _ _).trans (congrArg x2 (funext fun a => Fin.ext (by fin_cases a <;> simp [ix3])))
theorem tap3_at (k : Fin 3) (j : Fin 256) : tap3 arg6 harg6 x4 k (ix2 0 j) = x4 (ix3 0 k j) := by
  unfold tap3
  pointwise
  exact (harg6.readAt_unread _ _ _).trans (congrArg x4 (funext fun a => Fin.ext (by fin_cases a <;> simp [ix3])))

/-- The sums over the taps. -/
theorem wide_at (p : Nat) (hp : p ≤ 960) (r : Fin 64) (j : Fin 256) : ∀ (n : Nat) (hn : n ≤ 31),
    wide arg4 harg4 arg5 harg5 arg9 x2 x3 (copies c i arg2 harg2 arg3 harg3 arg9 x0 x1 7 (le_refl 7)) p hp n hn (ix2 r j)
      = x3 (ix2 0 j) + ∑ k : Fin n, x2 (ix3 0 (Fin.castLE hn k) j) * gatedRow i x0 x1 (p + 2 + k.val + r.val) j
  | 0, hn => by
    unfold wide
    pointwise
    simp only [Finset.univ_eq_empty, Finset.sum_empty, add_zero]
    exact (harg5.readAt_unread _ _ _).trans (congrArg x3 (funext fun a => Fin.ext (by fin_cases a <;> simp [ix2])))
  | n + 1, hn => by
    rw [Fin.sum_univ_castSucc, ← add_assoc]
    have ih := wide_at p hp r j n (Nat.le_of_succ_le hn)
    unfold wide
    pointwise
    refine congrArg₂ (· + ·) ih (congrArg₂ (· * ·) (tap_at arg4 harg4 x2 ⟨n, hn⟩ j)
      (window_at c i arg2 harg2 arg3 harg3 arg9 x0 x1 (p + 2 + n) (by omega) r j))

theorem narrow_at (p : Nat) (hp : p ≤ 960) (r : Fin 64) (j : Fin 256) : ∀ (n : Nat) (hn : n ≤ 3),
    narrow arg6 harg6 arg10 x4 (kernelRun0_A.sl.HS1_2 (F := Ideal) c i arg2 harg2 arg3 harg3 x0 x1) p hp n hn (ix2 r j)
      = ∑ k : Fin n, x4 (ix3 0 (Fin.castLE hn k) j) * productRow i x0 x1 (p + 30 + k.val + r.val) j
  | 0, hn => by
    unfold narrow
    pointwise
    simp only [Finset.univ_eq_empty, Finset.sum_empty]
  | n + 1, hn => by
    rw [Fin.sum_univ_castSucc]
    have ih := narrow_at p hp r j n (Nat.le_of_succ_le hn)
    unfold narrow
    pointwise
    refine congrArg₂ (· + ·) ih (congrArg₂ (· * ·) (tap3_at arg6 harg6 x4 ⟨n, hn⟩ j)
      (rows_at c i arg2 harg2 arg3 harg3 arg10 x0 x1 (p + 30 + n) (by omega) r j))

theorem gatedPart_at (p : Nat) (hp : p ≤ 960) (r : Fin 64) (j : Fin 256) :
    gatedPart arg2 harg2 arg6 harg6 arg10 x0 x4 (kernelRun0_A.sl.HS1_2 (F := Ideal) c i arg2 harg2 arg3 harg3 x0 x1) p hp (ix2 r j)
      = x0 (ix3 2 ⟨p + r.val, by omega⟩ j) * ∑ k : Fin 3, x4 (ix3 0 k j) * productRow i x0 x1 (p + 30 + k.val + r.val) j := by
  refine (gated_at _ _ r j).trans ?_
  exact congrArg₂ (· * ·) ((harg2.readAt_unread _ _ _).trans (congrArg x0 (funext fun a => Fin.ext (by fin_cases a <;> simp [ix3]))))
    (narrow_at c i arg2 harg2 arg3 harg3 arg6 harg6 arg10 x0 x1 x4 p hp r j 3 (le_refl 3))

/-- Sixteen parts of 64 rows: at row `p` the part that holds it. -/
theorem parts_at {e : EltTy} (f : Nat → Fin 256 → Elt Ideal e) (P : (n : Nat) → n ≤ 16 → List (View.Piece (Elt Ideal) S1024x256 e))
    (w : (n : Nat) → n + 1 ≤ 16 → (S64x256.Idx → Elt Ideal e))
    (hP : ∀ n h, P (n + 1) h = ⟨Rect.unit (s := S1024x256) ![n * 64, 0] S64x256.size (fits_part (by omega)), w n h⟩ :: P n (Nat.le_of_succ_le h))
    (hw : ∀ n h (r : Fin 64) (j : Fin 256), w n h (ix2 r j) = f (n * 64 + r.val) j) :
    ∀ (n : Nat) (h : n ≤ 16) (p : Fin 1024) (j : Fin 256), p.val < n * 64 → View.canon (P n h) (ix2 p j) = f p.val j
  | 0, h, p, j, hp => absurd hp (by omega)
  | n + 1, h, p, j, hp => by
    rw [hP]
    by_cases q : n * 64 ≤ p.val
    · refine Eq.trans (congrArg (View.canon _) (?_ : ix2 p j = Rect.emb (Rect.unit (s := S1024x256) ![n * 64, 0] S64x256.size
        (fits_part (by omega))) (ix2 (⟨p.val - n * 64, by omega⟩ : Fin 64) j))) ?_
      · funext a; apply Fin.ext; fin_cases a <;> simp [ix2]; omega
      exact (View.canon_cons_emb _ _ _ _).trans ((hw n h _ j).trans (congrArg (f · j) (Nat.add_sub_cancel' q)))
    · refine (View.canon_cons_of_not_mem _ _ (Rect.not_mem_set_of_axis _ _ 0 (n * 64) 64 rfl rfl rfl (Or.inl ?_))).trans
        (parts_at f P w hP hw n (Nat.le_of_succ_le h) p j (by omega))
      show p.val < n * 64
      omega

variable (harg9 : arg9.IsWhole) (harg10 : arg10.IsWhole) (arg7 : Memref sig .tc .vmem S1024x256 .f32) (harg7 : arg7.IsWhole)
  (arg8 : Memref sig .tc .vmem S1024x256 .bf16) (harg8 : arg8.IsWhole)

/-- What the block stores in its two results. -/
theorem out_wide (p : Fin 1024) (j : Fin 256) :
    out0_A_5 (F := Ideal) c i arg2 harg2 arg3 harg3 arg4 harg4 arg5 harg5 arg6 harg6 arg7 harg7 arg8 harg8 arg9 harg9 arg10 harg10
      x0 x1 x2 x3 x4 (ix2 p j)
      = x3 (ix2 0 j) + ∑ k : Fin 31, x2 (ix3 0 k j) * gatedRow i x0 x1 (p.val + 2 + k.val) j := by
  unfold out0_A_5
  rw [View.read_writes_junk_eq_canon, wide_eq, copies_eq]
  exact parts_at (fun p j => x3 (ix2 0 j) + ∑ k : Fin 31, x2 (ix3 0 k j) * gatedRow i x0 x1 (p + 2 + k.val) j)
    (wideParts arg4 harg4 arg5 harg5 arg9 x2 x3 _) (fun n h => wide arg4 harg4 arg5 harg5 arg9 x2 x3 _ (n * 64) (by omega) 31 (le_refl 31))
    (fun n h => rfl)
    (fun n h r j => (wide_at c i arg2 harg2 arg3 harg3 arg4 harg4 arg5 harg5 arg9 x0 x1 x2 x3 (n * 64) (by omega) r j 31 (le_refl 31)).trans
      (congrArg (x3 (ix2 0 j) + ·) (Finset.sum_congr rfl fun k _ => congrArg (x2 (ix3 0 k j) * gatedRow i x0 x1 · j) (by omega))))
    16 (le_refl 16) p j p.isLt

theorem out_narrow (p : Fin 1024) (j : Fin 256) :
    out0_A_6 (F := Ideal) c i arg2 harg2 arg3 harg3 arg4 harg4 arg5 harg5 arg6 harg6 arg7 harg7 arg8 harg8 arg9 harg9 arg10 harg10
      x0 x1 x2 x3 x4 (ix2 p j)
      = x0 (ix3 2 p j) * ∑ k : Fin 3, x4 (ix3 0 k j) * productRow i x0 x1 (p.val + 30 + k.val) j := by
  unfold out0_A_6
  rw [View.read_writes_junk_eq_canon, narrow_eq]
  refine (parts_at (fun p j => (if h : p < 1024 then x0 (ix3 2 ⟨p, h⟩ j) else 0)
      * ∑ k : Fin 3, x4 (ix3 0 k j) * productRow i x0 x1 (p + 30 + k.val) j)
    (narrowParts arg2 harg2 arg6 harg6 arg10 x0 x4 _) (fun n h => gatedPart arg2 harg2 arg6 harg6 arg10 x0 x4 _ (n * 64) (by omega))
    (fun n h => rfl) (fun n h r j => ?_) 16 (le_refl 16) p j p.isLt).trans ?_
  · refine (gatedPart_at c i arg2 harg2 arg3 harg3 arg6 harg6 arg10 x0 x1 x4 (n * 64) (by omega) r j).trans ?_
    refine Eq.symm ((congrArg (· * _) (dif_pos (by omega))).trans ?_)
    refine Eq.symm ?_
    exact congrArg (_ * ·) (Finset.sum_congr rfl fun k _ => congrArg (x4 (ix3 0 k j) * productRow i x0 x1 · j) (by omega))
  · exact congrArg (· * _) (dif_pos p.isLt)

end Block

end Cert.ConvFwdIdeal.Parts

end
-- ==== Proof.ConvFwdRef.lean ====
/- The two causal convolutions going forward, as the reference computes them: a sum over the taps of rows moved down, zero
   before the first. -/
module

public import proofs.«01_k».proof.Proof.Gen.ConvFwdRefIdeal.Read
public import proofs.«01_k».proof.Proof.Swiglu
public import Idealize.ShloMosaic.Lib.Pointwise
public import Idealize.ShloMosaic.Lib.Pipeline.ValueKit

@[expose] public section

set_option maxRecDepth 100000

noncomputable section

namespace Cert.ForwardConv

open Idealize.ShloMosaic Idealize.ShloMosaic.TcCoe Idealize.SL.Sem Cert.ConvFwdRefIdeal Cert.ConvFwdRefIdeal.Read Cert.Swiglu
open Cert.ConvFwdRefIdeal.Gen
open Idealize.ShloMosaic.Tactic

/-- Entry `d` of group `k` in row `s`; the gated values and the products that are convolved; and a column of them, moved
    down by `K` rows, zero before the first. -/
abbrev group (z : FVec Ideal S4096x7168 .f32) (k : Fin 7) (s : Fin 4096) (d : Fin 1024) : EReal :=
  z (ix2 s (⟨k.val * 1024 + d.val, by omega⟩ : Fin 7168))
def gate (z : FVec Ideal S4096x7168 .f32) (d : Fin 1024) (s : Fin 4096) : EReal := group z 0 s d * Ideal.logistic (group z 1 s d)
def prod (z : FVec Ideal S4096x7168 .f32) (d : Fin 1024) (s : Fin 4096) : EReal := group z 3 s d * group z 4 s d
def padded (K : Nat) (f : Fin 4096 → EReal) (p : Nat) : EReal := if h : K ≤ p ∧ p - K < 4096 then f ⟨p - K, h.2⟩ else 0

/-- The two results. -/
def wide (z : FVec Ideal S4096x7168 .f32) (w : FVec Ideal S1x31x1024 .f32) (b : FVec Ideal S1x1024 .f32) : FVec Ideal S4096x1024 .f32 :=
  fun i => b (ix2 0 (i 1)) + ∑ k : Fin 31, w (ix3 0 k (i 1)) * padded 30 (gate z (i 1)) (k.val + (i 0).val)
def narrow (z : FVec Ideal S4096x7168 .f32) (w : FVec Ideal S1x3x1024 .f32) : FVec Ideal S4096x1024 .bf16 :=
  fun i => group z 2 (i 0) (i 1) * ∑ k : Fin 3, w (ix3 0 k (i 1)) * padded 2 (prod z (i 1)) (k.val + (i 0).val)

section Sums
variable {K L : Nat}

theorem cuts {n : Nat} (h : n + 1 ≤ K) : (⟨2, ![K, 1024]⟩ : Shape).Slices ![n, 0] S1x1024 :=
  ⟨rfl, fun a => by fin_cases a <;> simp [Shape.size] <;> omega⟩
theorem moves (hL : L + 1 = 4096 + K) {n : Nat} (h : n + 1 ≤ K) : (⟨2, ![L, 1024]⟩ : Shape).Slices ![n, 0] S4096x1024 :=
  ⟨rfl, fun a => by fin_cases a <;> simp [Shape.size] <;> omega⟩

/-- A row of weights at every row. -/
abbrev spread (v : FVec Ideal S1x1024 .f32) : FVec Ideal S4096x1024 .f32 :=
  broadcastInDim S4096x1024 ![0, 1] bcast_S1x1024_S4096x1024_0_1
    (broadcastInDim S1x1024 ![1] bcast_S1024_S1x1024_1 (shapeCast S1024 v shapeCasts_S1x1024_S1024))

/-- The sum over the first `n` taps. -/
def sums (hL : L + 1 = 4096 + K) (x : FVec Ideal ⟨2, ![L, 1024]⟩ .f32) (w : FVec Ideal ⟨2, ![K, 1024]⟩ .f32) :
    (n : Nat) → n ≤ K → FVec Ideal S4096x1024 .f32
  | 0, _ => broadcastInDim S4096x1024 ![] bcast_S_S4096x1024 (constant (F := Ideal) S_ .f32 0x00000000#32)
  | n + 1, h => addf (sums hL x w n (Nat.le_of_succ_le h))
      (mulf (spread (extractStridedSlice S1x1024 ![n, 0] w (cuts h))) (extractStridedSlice S4096x1024 ![n, 0] x (moves hL h)))

theorem spread_at (v : FVec Ideal S1x1024 .f32) (s : Fin 4096) (d : Fin 1024) : spread v (ix2 s d) = v (ix2 0 d) := by pointwise

theorem sums_at (hL : L + 1 = 4096 + K) (x : FVec Ideal ⟨2, ![L, 1024]⟩ .f32) (w : FVec Ideal ⟨2, ![K, 1024]⟩ .f32)
    (s : Fin 4096) (d : Fin 1024) : ∀ (n : Nat) (h : n ≤ K), sums hL x w n h (ix2 s d)
      = ∑ k : Fin n, w (ix2 (Fin.castLE h k) d) * x (ix2 (⟨k.val + s.val, by omega⟩ : Fin L) d)
  | 0, h => by
    unfold sums
    pointwise
    simp only [Finset.univ_eq_empty, Finset.sum_empty]
  | n + 1, h => by
    rw [Fin.sum_univ_castSucc]
    refine congrArg₂ (· + ·) (sums_at hL x w s d n (Nat.le_of_succ_le h)) (congrArg₂ (· * ·) ((spread_at _ s d).trans
      (congrArg w ?_)) (congrArg x ?_))
    · funext a; apply Fin.ext; fin_cases a <;> simp [ix2]
    · funext a; apply Fin.ext; fin_cases a <;> simp [ix2]

end Sums

variable (z : FVec Ideal S4096x7168 .f32)

theorem col0 (s : Fin 4096) (d : Fin 1024) : val_main_v0 (F := Ideal) z (ix2 s d) = group z 0 s d := by
  rw [val_main_v0_apply]
  exact congrArg z (funext fun a => Fin.ext (by fin_cases a <;> simp [ix2]))
theorem col1 (s : Fin 4096) (d : Fin 1024) : val_main_v1 (F := Ideal) z (ix2 s d) = group z 1 s d := by
  rw [val_main_v1_apply]
  exact congrArg z (funext fun a => Fin.ext (by fin_cases a <;> simp [ix2]))
theorem col2 (s : Fin 4096) (d : Fin 1024) : val_main_v2 (F := Ideal) z (ix2 s d) = group z 2 s d := by
  rw [val_main_v2_apply]
  exact congrArg z (funext fun a => Fin.ext (by fin_cases a <;> simp [ix2]))
theorem col3 (s : Fin 4096) (d : Fin 1024) : val_main_v3 (F := Ideal) z (ix2 s d) = group z 3 s d := by
  rw [val_main_v3_apply]
  exact congrArg z (funext fun a => Fin.ext (by fin_cases a <;> simp [ix2]))
theorem col4 (s : Fin 4096) (d : Fin 1024) : val_main_v4 (F := Ideal) z (ix2 s d) = group z 4 s d := by
  rw [val_main_v4_apply]
  exact congrArg z (funext fun a => Fin.ext (by fin_cases a <;> simp [ix2]))

theorem gate_at (s : Fin 4096) (d : Fin 1024) : val_main_v13 (F := Ideal) z (ix2 s d) = gate z d s := by
  pointwise [val_main_v13, val_main_v12, val_main_v11, val_main_v10, val_main_v9, val_main_v8, val_main_v7, val_main_cst, val_main_cst_0]
  simp only [col0, col1, word_one, EReal.coe_one]
  rfl

theorem prod_at (s : Fin 4096) (d : Fin 1024) : val_main_v239 (F := Ideal) z (ix2 s d) = prod z d s :=
  congrArg₂ (· * ·) (col3 z s d) (col4 z s d)

theorem gate_padded (p : Fin 4126) (d : Fin 1024) : val_main_v16 (F := Ideal) z (ix2 p d) = padded 30 (gate z d) p.val := by
  pointwise [val_main_v16, val_main_v15, val_main_cst_1]
  unfold padded
  split
  · rw [dif_neg (by omega)]
  · rw [dif_pos ⟨by omega, by omega⟩]
    exact gate_at z _ d
theorem prod_padded (p : Fin 4098) (d : Fin 1024) : val_main_v242 (F := Ideal) z (ix2 p d) = padded 2 (prod z d) p.val := by
  pointwise [val_main_v242, val_main_v241, val_main_cst_3]
  unfold padded
  split
  · rw [dif_neg (by omega)]
  · rw [dif_pos ⟨by omega, by omega⟩]
    exact prod_at z _ d

theorem sums_wide (w : FVec Ideal S1x31x1024 .f32) : val_main_v234 (F := Ideal) z w
    = sums (K := 31) (L := 4126) rfl (val_main_v16 (F := Ideal) z) (val_main_v14 (F := Ideal) w) 31 (le_refl 31) := by sl_kernel_rfl
theorem sums_narrow (w : FVec Ideal S1x3x1024 .f32) : val_main_v264 (F := Ideal) z w
    = sums (K := 3) (L := 4098) rfl (val_main_v242 (F := Ideal) z) (val_main_v240 (F := Ideal) w) 3 (le_refl 3) := by sl_kernel_rfl

theorem taps_wide (w : FVec Ideal S1x31x1024 .f32) (k : Fin 31) (d : Fin 1024) :
    val_main_v14 (F := Ideal) w (ix2 k d) = w (ix3 0 k d) := by pointwise [val_main_v14]
theorem taps_narrow (w : FVec Ideal S1x3x1024 .f32) (k : Fin 3) (d : Fin 1024) :
    val_main_v240 (F := Ideal) w (ix2 k d) = w (ix3 0 k d) := by pointwise [val_main_v240]
theorem bias_at (b : FVec Ideal S1x1024 .f32) (s : Fin 4096) (d : Fin 1024) :
    val_main_v237 (F := Ideal) b (ix2 s d) = b (ix2 0 d) := by pointwise [val_main_v237, val_main_v236, val_main_v235]

theorem ref_wide (w : FVec Ideal S1x31x1024 .f32) (b : FVec Ideal S1x1024 .f32) :
    val_main_v238 (F := Ideal) z w b = wide z w b := by
  funext i
  idx_vars i
  refine Eq.trans (congrArg₂ (· + ·) ((congrFun (sums_wide z w) _).trans (sums_at _ _ _ i0 i1 31 (le_refl 31))) (bias_at b i0 i1)) ?_
  rw [add_comm]
  exact congrArg (b (ix2 0 i1) + ·) (Finset.sum_congr rfl fun k _ => congrArg₂ (· * ·) (taps_wide w k i1) (gate_padded z _ i1))

theorem ref_narrow (w : FVec Ideal S1x3x1024 .f32) : val_main_v266 (F := Ideal) z w = narrow z w := by
  funext i
  idx_vars i
  exact congrArg₂ (· * ·) (col2 z i0 i1) (((congrFun (sums_narrow z w) _).trans (sums_at _ _ _ i0 i1 3 (le_refl 3))).trans
    (Finset.sum_congr rfl fun k _ => congrArg₂ (· * ·) (taps_narrow w k i1) (prod_padded z _ i1)))

end Cert.ForwardConv

end
-- ==== Proof.ConvFwdValue.lean ====
/- The forward convolutions, block by block of 1024 rows and 256 columns, and the two arrays after the run. The 32 rows
   before a block are those of the array, and zero before its first. -/
module

public import proofs.«01_k».proof.Proof.ConvFwdBlock
public import proofs.«01_k».proof.Proof.ConvFwdRef

@[expose] public section

set_option maxRecDepth 16384

noncomputable section

namespace Cert.ConvFwdIdeal.Blocks

open Idealize.ShloMosaic Idealize.ShloMosaic.TcCoe Idealize.SL.Sem Cert.ConvFwdIdeal Cert.ConvFwdIdeal.Gen
open Idealize.ShloMosaic.Pipeline (Dat)
open Cert.ConvFwdIdeal.Parts
open Cert.ForwardConv (group gate prod padded)

/-- The block that each operand has at each grid point. -/
theorem idx : ∀ t : Fin cfg0.N, win0_0.index t = ![0, t.val % 4, t.val / 4] ∧ win0_1.index t = ![0, t.val % 4 * 32 - 1, t.val / 4]
    ∧ win0_2.index t = ![t.val / 4, 0, 0] ∧ win0_3.index t = ![0, t.val / 4] ∧ win0_4.index t = ![t.val / 4, 0, 0]
    ∧ win0_5.index t = ![t.val % 4, t.val / 4] ∧ win0_6.index t = ![t.val % 4, t.val / 4] ∧ (grid0.coords t 1).val = t.val % 4 :=
  (by decide +kernel : ∀ t : Fin grid0.N, _)

variable (m : (ℓ : Loc nD τ sig) → Buf (Elt Ideal) ℓ)

/-- The array's row and column that are row `r` and column `j` of block `t`. -/
theorem lt16 (t : Fin cfg0.N) : t.val < 16 := lt_of_lt_of_eq t.isLt N_0
abbrev row (t : Fin cfg0.N) (r : Fin 1024) : Fin 4096 := ⟨t.val % 4 * 1024 + r.val, by omega⟩
abbrev col (t : Fin cfg0.N) (j : Fin 256) : Fin 1024 := ⟨t.val / 4 * 256 + j.val, by have := lt16 t; omega⟩

/-- The program's arguments. -/
abbrev Az (c : Dev nD) : FVec Ideal S4096x7168 .f32 := m ((c : Thread nD τ).loc main_arg0)
abbrev Aw (c : Dev nD) : FVec Ideal S1x31x1024 .f32 := m ((c : Thread nD τ).loc main_arg1)
abbrev Ab (c : Dev nD) : FVec Ideal S1x1024 .f32 := m ((c : Thread nD τ).loc main_arg2)
abbrev Av (c : Dev nD) : FVec Ideal S1x3x1024 .f32 := m ((c : Thread nD τ).loc main_arg3)

/-- What the kernel's call finds: the groups one after the other, and the taps by blocks of columns. -/
theorem groups (c : Dev nD) (k : Fin 7) (r : Fin 4096) (x : Fin 1024) : V m c main_v8 (ix3 k r x) = group (Az m c) k r x := by
  unfold V
  entry_read
  pointwise
theorem taps_wide (c : Dev nD) (b : Fin 4) (k : Fin 31) (j : Fin 256) :
    V m c main_v2 (ix3 b k j) = Aw m c (ix3 0 k (⟨b.val * 256 + j.val, by omega⟩ : Fin 1024)) := by
  unfold V
  entry_read
  pointwise
theorem taps_narrow (c : Dev nD) (b : Fin 4) (k : Fin 3) (j : Fin 256) :
    V m c main_v5 (ix3 b k j) = Av m c (ix3 0 k (⟨b.val * 256 + j.val, by omega⟩ : Fin 1024)) := by
  unfold V
  entry_read
  pointwise

/-- What each operand's block holds at a point. -/
theorem read0 (c : Dev nD) (t : Fin cfg0.N) (k : Fin 5) (r : Fin 1024) (j : Fin 256) :
    X0_0 m c t (ix3 k r j) = group (Az m c) (Fin.castLE (by decide) k) (row t r) (col t j) := by
  refine Eq.trans ?_ (groups m c _ _ _)
  unfold X0_0 Pipeline.Window.fill
  rw [dif_pos (moved0_0 t _)]
  blk_point [iblk, idx t]
  rfl
theorem read1 (c : Dev nD) (t : Fin cfg0.N) (k : Fin 5) (r : Fin 32) (j : Fin 256) :
    X0_1 m c t (ix3 k r j) = group (Az m c) (Fin.castLE (by decide) k)
      (⟨(t.val % 4 * 32 - 1) * 32 + r.val, by omega⟩ : Fin 4096) (col t j) := by
  refine Eq.trans ?_ (groups m c _ _ _)
  unfold X0_1 Pipeline.Window.fill
  rw [dif_pos (moved0_1 t _)]
  blk_point [iblk, idx t]
  rfl
theorem read2 (c : Dev nD) (t : Fin cfg0.N) (k : Fin 31) (j : Fin 256) : iblk m c 2 t (ix3 0 k j) = Aw m c (ix3 0 k (col t j)) := by
  refine Eq.trans ?_ (taps_wide m c (⟨t.val / 4, by have := lt16 t; omega⟩ : Fin 4) k j)
  blk_point [iblk, idx t]
theorem read3 (c : Dev nD) (t : Fin cfg0.N) (j : Fin 256) : iblk m c 3 t (ix2 0 j) = Ab m c (ix2 0 (col t j)) := by
  blk_point [iblk, V, idx t]
theorem read4 (c : Dev nD) (t : Fin cfg0.N) (k : Fin 3) (j : Fin 256) : iblk m c 4 t (ix3 0 k j) = Av m c (ix3 0 k (col t j)) := by
  refine Eq.trans ?_ (taps_narrow m c (⟨t.val / 4, by have := lt16 t; omega⟩ : Fin 4) k j)
  blk_point [iblk, idx t]

/-- The rows before a block count, except for the array's first block. -/
theorem keep_word (n : Nat) (b : BitVec 32) (h : (Scalar.extui (Scalar.cmpi CmpIPredicate.sgt (BitVec.ofNat 32 n) 0#32) : BitVec 32) = b)
    (i : grid0.Coords) (hi : (i 1).val = n) : k0_pay2 (F := Ideal) i = ((b.toInt : ℝ) : EReal) := by
  subst hi h
  rfl
theorem keep_first (i : grid0.Coords) (h : (i 1).val = 0) : k0_pay2 (F := Ideal) i = 0 :=
  (keep_word 0 0#32 (by decide) i h).trans (by simp)
theorem keep_later (i : grid0.Coords) (h : (i 1).val ≠ 0) : k0_pay2 (F := Ideal) i = 1 := by
  have hi : (i 1).val < 4 := (i 1).isLt
  have e : (i 1).val = 1 ∨ (i 1).val = 2 ∨ (i 1).val = 3 := by omega
  have one : (((1#32 : BitVec 32).toInt : ℝ) : EReal) = 1 := by norm_num
  rcases e with e | e | e
  · exact (keep_word 1 1#32 (by decide) i e).trans one
  · exact (keep_word 2 1#32 (by decide) i e).trans one
  · exact (keep_word 3 1#32 (by decide) i e).trans one

theorem place5 (t : Fin cfg0.N) (r : Fin 1024) (j : Fin 256) :
    ((cfg0.win 5).blk t).view.emb (ix2 r j) = ix2 (row t r) (col t j) := by blk_ext [idx t]
theorem place6 (t : Fin cfg0.N) (r : Fin 1024) (j : Fin 256) :
    ((cfg0.win 6).blk t).view.emb (ix2 r j) = ix2 (row t r) (col t j) := by blk_ext [idx t]

/-- The padded rows of a block are rows of the padded array. -/
theorem rows_of (t : Fin cfg0.N) (f : Fin 4096 → EReal) (p : Nat) (hp : p < 1056) (v : EReal)
    (before : ∀ h : p < 32, v = f (⟨(t.val % 4 * 32 - 1) * 32 + p, by omega⟩ : Fin 4096) * k0_pay2 (F := Ideal) (grid0.coords t))
    (own : ∀ h : ¬p < 32, v = f (row t ⟨p - 32, by omega⟩)) : v = padded 32 f (t.val % 4 * 1024 + p) := by
  have e : (grid0.coords t 1).val = t.val % 4 := (idx t).2.2.2.2.2.2.2
  unfold padded
  by_cases h : p < 32
  · rw [before h]
    by_cases z : t.val % 4 = 0
    · rw [keep_first _ (e.trans z), mul_zero, dif_neg (by omega)]
    · rw [keep_later _ (e ▸ z), mul_one, dif_pos ⟨by omega, by omega⟩]
      exact congrArg f (Fin.ext (by simp only []; omega))
  · rw [own h, dif_pos ⟨by omega, by omega⟩]
    exact congrArg f (Fin.ext (by simp only []; omega))

theorem gated_rows (c : Dev nD) (t : Fin cfg0.N) (p : Nat) (hp : p < 1056) (j : Fin 256) :
    gatedRow (grid0.coords t) (X0_0 m c t) (X0_1 m c t) p j = padded 32 (gate (Az m c) (col t j)) (t.val % 4 * 1024 + p) := by
  refine rows_of t _ p hp _ (fun h => ?_) (fun h => ?_)
  · rw [gatedRow, dif_pos h, read1, read1]
    rfl
  · rw [gatedRow, dif_neg h, dif_pos (by omega), read0, read0]
    rfl
theorem product_rows (c : Dev nD) (t : Fin cfg0.N) (p : Nat) (hp : p < 1056) (j : Fin 256) :
    productRow (grid0.coords t) (X0_0 m c t) (X0_1 m c t) p j = padded 32 (prod (Az m c) (col t j)) (t.val % 4 * 1024 + p) := by
  refine rows_of t _ p hp _ (fun h => ?_) (fun h => ?_)
  · rw [productRow, dif_pos h, read1, read1]
    rfl
  · rw [productRow, dif_neg h, dif_pos (by omega), read0, read0]
    rfl

/-- Padding by more rows moves the column further down. -/
theorem padded_add (f : Fin 4096 → EReal) (K a p q : Nat) (h : q = p + a) : padded (K + a) f q = padded K f p := by
  subst h
  unfold padded
  by_cases g : K ≤ p ∧ p - K < 4096
  · rw [dif_pos g, dif_pos ⟨by omega, by omega⟩]
    exact congrArg f (Fin.ext (by simp only []; omega))
  · rw [dif_neg g, dif_neg (by omega)]

/-- What a point stores. -/
theorem point_wide (c : Dev nD) (t : Fin cfg0.N) (r : Fin 1024) (j : Fin 256) :
    out0_A_5 (F := Ideal) c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) scM0_0 (Memref.isWhole_whole _) scM0_1 (Memref.isWhole_whole _)
      (X0_0 m c t) (X0_1 m c t) (iblk m c 2 t) (iblk m c 3 t) (iblk m c 4 t) (ix2 r j)
      = ForwardConv.wide (Az m c) (Aw m c) (Ab m c) (ix2 (row t r) (col t j)) :=
  (out_wide _ _ _ _ _ _ _ _ _ _ _ _ _ _ _ _ _ _ _ _ _ _ _ _ _ r j).trans (congrArg₂ (· + ·) (read3 m c t j)
    (Finset.sum_congr rfl fun k _ => congrArg₂ (· * ·) (read2 m c t k j)
      ((gated_rows m c t _ (by omega) j).trans (padded_add _ 30 2 (k.val + (row t r).val) _ (by simp only []; omega)))))
theorem point_narrow (c : Dev nD) (t : Fin cfg0.N) (r : Fin 1024) (j : Fin 256) :
    out0_A_6 (F := Ideal) c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) scM0_0 (Memref.isWhole_whole _) scM0_1 (Memref.isWhole_whole _)
      (X0_0 m c t) (X0_1 m c t) (iblk m c 2 t) (iblk m c 3 t) (iblk m c 4 t) (ix2 r j)
      = ForwardConv.narrow (Az m c) (Av m c) (ix2 (row t r) (col t j)) :=
  (out_narrow _ _ _ _ _ _ _ _ _ _ _ _ _ _ _ _ _ _ _ _ _ _ _ _ _ r j).trans (congrArg₂ (· * ·) (read0 m c t 2 r j)
    (Finset.sum_congr rfl fun k _ => congrArg₂ (· * ·) (read4 m c t k j)
      ((product_rows m c t _ (by omega) j).trans (padded_add _ 2 30 (k.val + (row t r).val) _ (by simp only []; omega)))))

theorem stored_wide (c : Dev nD) (f : FVec Ideal S4096x1024 .f32)
    (h : ∀ t (r : Fin 1024) (j : Fin 256), (outsAt0 m c t).1 (ix2 r j) = f (ix2 (row t r) (col t j))) :
    (dats m 0 c).arrAt 5 (cfgs 0).N = f := by
  refine (dats m 0 c).arrAt_eq_of_covers 5 _ (by decide +kernel) fun t _ y => ?_
  blk_simp
  rw [after0_5]
  idx_vars y
  exact (h t y0 y1).trans (congrArg _ (place5 t y0 y1).symm)
theorem final_wide (c : Dev nD) : (dats m 0 c).arrAt 5 (cfgs 0).N = ForwardConv.wide (Az m c) (Aw m c) (Ab m c) :=
  stored_wide m c _ fun t r j => by
    simp only [outsAt0]
    exact point_wide m c t r j

theorem stored_narrow (c : Dev nD) (f : FVec Ideal S4096x1024 .bf16)
    (h : ∀ t (r : Fin 1024) (j : Fin 256), (outsAt0 m c t).2 (ix2 r j) = f (ix2 (row t r) (col t j))) :
    (dats m 0 c).arrAt 6 (cfgs 0).N = f := by
  refine (dats m 0 c).arrAt_eq_of_covers 6 _ (by decide +kernel) fun t _ y => ?_
  blk_simp
  rw [after0_6]
  idx_vars y
  exact (h t y0 y1).trans (congrArg _ (place6 t y0 y1).symm)
theorem final_narrow (c : Dev nD) : (dats m 0 c).arrAt 6 (cfgs 0).N = ForwardConv.narrow (Az m c) (Av m c) :=
  stored_narrow m c _ fun t r j => by
    simp only [outsAt0]
    exact point_narrow m c t r j

end Cert.ConvFwdIdeal.Blocks

end
-- ==== Proof.ConvFwdClaims.lean ====
/- The claims about the convolutions going forward: both programs end with the same two arrays. -/
module

public import proofs.«01_k».proof.Defs
public import proofs.«01_k».proof.Proof.Gen.ConvFwd.Frame
public import proofs.«01_k».proof.Proof.Gen.ConvFwdRefIdeal.Run
public import proofs.«01_k».proof.Proof.ConvFwdValue

@[expose] public section

set_option maxRecDepth 16384

noncomputable section

namespace Cert.ForwardConv

open Idealize.ShloMosaic Idealize.SL.Sem ConvFwdIdeal.Blocks

/-- The reference runs and leaves its arguments alone; it has no semaphore. -/
theorem ref_frame : quiescent_ConvFwdRefIdeal (hConvFwdRefIdeal := ConvFwdRefIdeal.Gen.facts) := fun m g _ =>
  (θ_run ConvFwdRefIdeal.defs _ _).mono (fun r h => ⟨fun c => (h c).2.2, sem_eq_zero_of_no_sems (by decide) r.2⟩)
    (ConvFwdRefIdeal.Value.run (F := Ideal) m g)

/-- Both programs end with the same arrays. -/
theorem value : algebraic_ConvFwdIdeal_ConvFwdRefIdeal (hConvFwdIdeal := ConvFwdIdeal.Gen.facts)
    (hConvFwdRefIdeal := ConvFwdRefIdeal.Gen.facts) := fun m g m' g' _ hm => by
  refine ⟨fun c => wide (Az m c) (Aw m c) (Ab m c), fun c => narrow (Az m c) (Av m c),
    (θ_run _ _ _).mono (fun r h c => ?_) (ConvFwdIdeal.Value.run_blocks m g),
    (θ_run _ _ _).mono (fun r h c => ?_) (ConvFwdRefIdeal.Value.run (F := Ideal) m' g')⟩
  · obtain ⟨h0, h1, h2⟩ := h c
    exact ⟨h0.trans (final_wide m c), h1.trans (final_narrow m c), h2⟩
  · obtain ⟨e0, e1, e2, e3⟩ := hm c
    obtain ⟨h0, h1, h2⟩ := h c
    refine ⟨h0.trans ?_, h1.trans ?_, h2⟩
    · refine (ConvFwdRefIdeal.Read.val_main_v238_eq (F := Ideal) _).trans ?_
      exact (congr (congr (congrArg (ConvFwdRefIdeal.Read.val_main_v238 (F := Ideal)) e0) e1) e2).trans (ref_wide _ _ _)
    · refine (ConvFwdRefIdeal.Read.val_main_v266_eq (F := Ideal) _).trans ?_
      exact (congr (congrArg (ConvFwdRefIdeal.Read.val_main_v266 (F := Ideal)) e0) e3).trans (ref_narrow _ _)

end Cert.ForwardConv

end
-- ==== Proof.FfnFwdRef.lean ====
/- A feed-forward half going forward, as the reference computes it: row by row closed forms of the arguments. -/
module

public import proofs.«01_k».proof.Proof.Gen.FfnFwdRefIdeal.Read
public import proofs.«01_k».proof.Proof.Swiglu
public import Idealize.ShloMosaic.Lib.Pointwise

@[expose] public section

set_option maxRecDepth 16384

noncomputable section

namespace Cert.ForwardFfn

open Idealize.ShloMosaic Idealize.ShloMosaic.TcCoe Idealize.SL.Sem Cert.FfnFwdRefIdeal Cert.FfnFwdRefIdeal.Read Cert.Swiglu

variable (h : FVec Ideal S4096x1024 .f32) (g : FVec Ideal S1x1024 .f32) (wg wu : FVec Ideal S1x1024x2816 .f32)
  (wd : FVec Ideal S1x2816x1024 .f32)

/-- Row `r` of the hidden state, the norm's weight and a weight of the products, as functions of their last places. -/
abbrev hrow (r : Fin 4096) : Fin 1024 → EReal := fun x => h (ix2 r x)
abbrev grow : Fin 1024 → EReal := fun x => g (ix2 0 x)
abbrev mat (w : FVec Ideal S1x1024x2816 .f32) : Fin 1024 → Fin 2816 → EReal := fun x k => w (ix3 0 x k)

/-- The hidden state after the half, the normed rows, and a product before the gate. -/
def result : FVec Ideal S4096x1024 .f32 := fun i =>
  out (hrow h (i 0)) (grow g) (mat wg) (mat wu) (fun k x => wd (ix3 0 k x)) (i 1)
def scaled : FVec Ideal S4096x1024 .bf16 := fun i => normed (hrow h (i 0)) (grow g) (i 1)
def product (w : FVec Ideal S1x1024x2816 .f32) : FVec Ideal S4096x2816 .bf16 := fun i => pre (hrow h (i 0)) (grow g) (mat w) (i 1)

theorem normed_at (r : Fin 4096) (x : Fin 1024) : val_main_v13 (F := Ideal) h g (ix2 r x) = normed (hrow h r) (grow g) x := by
  pointwise [val_main_v13, val_main_v12, val_main_v11, val_main_v10, val_main_v9, val_main_v8, val_main_v7,
    val_main_v6, val_main_v5, val_main_v4, val_main_v3, val_main_v2, val_main_v1, val_main_v0, val_main_cst_1, val_main_cst_0,
    val_main_cst]
  rfl

theorem gate_at (r : Fin 4096) (k : Fin 2816) :
    val_main_v15 (F := Ideal) h g wg (ix2 r k) = pre (hrow h r) (grow g) (mat wg) k := by
  pointwise [val_main_v15, val_main_v14]
  simp only [normed_at]
  rfl

theorem up_at (r : Fin 4096) (k : Fin 2816) :
    val_main_v17 (F := Ideal) h g wu (ix2 r k) = pre (hrow h r) (grow g) (mat wu) k := by
  pointwise [val_main_v17, val_main_v16]
  simp only [normed_at]
  rfl

theorem gated_at (r : Fin 4096) (k : Fin 2816) : val_main_v19 (F := Ideal) h g wg wu (ix2 r k)
    = gated (pre (hrow h r) (grow g) (mat wg) k) (pre (hrow h r) (grow g) (mat wu) k) := by
  pointwise [val_main_v19, val_main_v18, val_main_call0_v0, val_main_call0_v1, val_main_call0_v2, val_main_call0_v3,
    val_main_call0_v4, val_main_call0_v5, val_main_call0_cst, val_main_call0_cst_0]
  simp only [gate_at, up_at, word_one, EReal.coe_one]
  rfl

theorem ref_result : val_main_v24 (F := Ideal) h g wg wu wd = result h g wg wu wd := by
  funext i
  idx_vars i
  pointwise [val_main_v24, val_main_v23, val_main_v22, val_main_cst_2, val_main_v21, val_main_v20]
  simp only [gated_at]
  rfl

theorem ref_scaled : val_main_v25 (F := Ideal) h g = scaled h g := by
  funext i
  idx_vars i
  pointwise [val_main_v25]
  exact normed_at h g _ _

theorem ref_gate : val_main_v26 (F := Ideal) h g wg = product h g wg := by
  funext i
  idx_vars i
  pointwise [val_main_v26]
  exact gate_at h g wg _ _

theorem ref_up : val_main_v27 (F := Ideal) h g wu = product h g wu := by
  funext i
  idx_vars i
  pointwise [val_main_v27]
  exact up_at h g wu _ _

end Cert.ForwardFfn

end
-- ==== Proof.FfnFwdValue.lean ====
/- A feed-forward half going forward, as the kernel computes it block by block of 512 rows, and the four arrays after the
   run. The hidden layer's 2816 entries are taken in two halves. -/
module

public import proofs.«01_k».proof.Proof.Gen.FfnFwdIdeal.Value
public import proofs.«01_k».proof.Proof.FfnFwdRef
public import Idealize.ShloMosaic.Lib.Pipeline.ValueKit
public import Idealize.ShloMosaic.Lib.Claim

@[expose] public section

set_option maxRecDepth 16384

noncomputable section

namespace Cert.FfnFwdIdeal.Blocks

open Idealize.ShloMosaic Idealize.ShloMosaic.TcCoe Idealize.SL.Sem Cert.FfnFwdIdeal Cert.FfnFwdIdeal.Gen
open Idealize.ShloMosaic.Pipeline (Dat)
open Cert.Swiglu
open Cert.ForwardFfn (hrow grow mat result scaled product)

/-- Row `r` of a block, the norm's weight, and a weight laid out by its columns. -/
abbrev brow (h : FVec Ideal S512x1024 .f32) (r : Fin 512) : Fin 1024 → EReal := fun x => h (ix2 r x)
abbrev vrow (g : FVec Ideal S1x1024 .f32) : Fin 1024 → EReal := fun x => g (ix2 0 x)
abbrev turned (w : FVec Ideal S2816x1024 .bf16) : Fin 1024 → Fin 2816 → EReal := fun x k => w (ix2 k x)

/-- The two halves of a weight's rows. -/
abbrev lo (W : FVec Ideal S2816x1024 .bf16) : FVec Ideal S1408x1024 .bf16 :=
  View.ld (Val := Elt Ideal) (e' := .bf16) (S := S2816x1024) W r0_2
abbrev hi (W : FVec Ideal S2816x1024 .bf16) : FVec Ideal S1408x1024 .bf16 :=
  View.ld (Val := Elt Ideal) (e' := .bf16) (S := S2816x1024) W r0_4

theorem lo_at (W : FVec Ideal S2816x1024 .bf16) (k : Fin 1408) (x : Fin 1024) : lo W (ix2 k x) = W (ix2 (Fin.castAdd 1408 k) x) :=
  congrArg W (funext fun i => Fin.ext (by fin_cases i <;> simp [ix2]))
theorem hi_at (W : FVec Ideal S2816x1024 .bf16) (k : Fin 1408) (x : Fin 1024) : hi W (ix2 k x) = W (ix2 (Fin.natAdd 1408 k) x) :=
  congrArg W (funext fun i => Fin.ext (by fin_cases i <;> simp [ix2, Nat.add_comm]))

section Block
variable (h : FVec Ideal S512x1024 .f32) (g : FVec Ideal S1x1024 .f32) (wg wu wd : FVec Ideal S2816x1024 .bf16)

/-- The normed block, and what the block stores as its result. -/
abbrev kn : FVec Ideal S512x1024 .bf16 := k0_pay6 (F := Ideal) h g
abbrev ko : FVec Ideal S512x1024 .f32 :=
  k0_pay5 (F := Ideal) h (kn h g) (k0_pay11 (F := Ideal) h g (lo wg) (lo wu) (lo wd)) (hi wg) (hi wu) (hi wd)

theorem normed_at (r : Fin 512) (x : Fin 1024) : kn h g (ix2 r x) = normed (brow h r) (vrow g) x := by
  pointwise [k0_pay6]
  rfl

theorem gate_lo (w : FVec Ideal S2816x1024 .bf16) (r : Fin 512) (k : Fin 1408) :
    k0_pay7 (F := Ideal) h g (lo w) (ix2 r k) = pre (brow h r) (vrow g) (turned w) (Fin.castAdd 1408 k) := by
  pointwise [k0_pay7]
  simp only [normed_at]
  exact Finset.sum_congr rfl fun x _ => congrArg (_ * ·) (lo_at w k x)
theorem up_lo (w : FVec Ideal S2816x1024 .bf16) (r : Fin 512) (k : Fin 1408) :
    k0_pay8 (F := Ideal) h g (lo w) (ix2 r k) = pre (brow h r) (vrow g) (turned w) (Fin.castAdd 1408 k) := by
  pointwise [k0_pay8]
  simp only [normed_at]
  exact Finset.sum_congr rfl fun x _ => congrArg (_ * ·) (lo_at w k x)
theorem gate_hi (w : FVec Ideal S2816x1024 .bf16) (r : Fin 512) (k : Fin 1408) :
    k0_pay1 (F := Ideal) (kn h g) (hi w) (ix2 r k) = pre (brow h r) (vrow g) (turned w) (Fin.natAdd 1408 k) := by
  pointwise [k0_pay1]
  simp only [normed_at]
  exact Finset.sum_congr rfl fun x _ => congrArg (_ * ·) (hi_at w k x)
theorem up_hi (w : FVec Ideal S2816x1024 .bf16) (r : Fin 512) (k : Fin 1408) :
    k0_pay2 (F := Ideal) (kn h g) (hi w) (ix2 r k) = pre (brow h r) (vrow g) (turned w) (Fin.natAdd 1408 k) := by
  pointwise [k0_pay2]
  simp only [normed_at]
  exact Finset.sum_congr rfl fun x _ => congrArg (_ * ·) (hi_at w k x)

theorem out_at (r : Fin 512) (x : Fin 1024) : ko h g wg wu wd (ix2 r x)
    = out (brow h r) (vrow g) (turned wg) (turned wu) (fun k x => wd (ix2 k x)) x := by
  pointwise [k0_pay5, k0_pay11]
  simp only [gate_lo, up_lo, gate_hi, up_hi]
  refine congrArg (h (ix2 r x) + Ideal.ofBits FTy.f32 0x3F000000#32 * ·) (Eq.trans (congrArg₂ (· + ·)
    (Finset.sum_congr rfl fun k _ => congrArg (_ * ·) (lo_at wd k x)) (Finset.sum_congr rfl fun k _ => congrArg (_ * ·) (hi_at wd k x)))
    (Fin.sum_univ_add (a := 1408) (b := 1408) fun k =>
    gated (pre (brow h r) (vrow g) (turned wg) k) (pre (brow h r) (vrow g) (turned wu) k) * wd (ix2 k x)).symm)

/-- A product's block is stored in two halves. -/
theorem halves (P Q : FVec Ideal S512x1408 .bf16) (r : Fin 512) (k : Fin 2816) (f : Fin 2816 → EReal)
    (hP : ∀ k : Fin 1408, P (ix2 r k) = f (Fin.natAdd 1408 k)) (hQ : ∀ k : Fin 1408, Q (ix2 r k) = f (Fin.castAdd 1408 k)) :
    View.canon (Val := Elt Ideal) (e := .bf16) (s := S512x2816) [⟨r0_5, P⟩, ⟨r0_3, Q⟩] (ix2 r k) = f k := by
  canon_tiles x h
  · idx_vars x
    obtain rfl : r = x0 := Fin.ext h0
    obtain rfl : k = Fin.natAdd 1408 x1 := Fin.ext h1
    exact hP x1
  · idx_vars x
    obtain rfl : r = x0 := Fin.ext h0
    obtain rfl : k = Fin.castAdd 1408 x1 := Fin.ext h1
    exact hQ x1

theorem gate_at (r : Fin 512) (k : Fin 2816) : View.canon (Val := Elt Ideal) (e := .bf16) (s := S512x2816)
      [⟨r0_5, k0_pay3 (F := Ideal) (kn h g) (hi wg)⟩, ⟨r0_3, k0_pay9 (F := Ideal) h g (lo wg)⟩] (ix2 r k)
      = pre (brow h r) (vrow g) (turned wg) k := by
  refine halves _ _ r k _ (fun k => ?_) (fun k => ?_)
  · pointwise [k0_pay3]
    exact gate_hi h g wg r k
  · pointwise [k0_pay9]
    exact gate_lo h g wg r k

theorem up_at (r : Fin 512) (k : Fin 2816) : View.canon (Val := Elt Ideal) (e := .bf16) (s := S512x2816)
      [⟨r0_5, k0_pay4 (F := Ideal) (kn h g) (hi wu)⟩, ⟨r0_3, k0_pay10 (F := Ideal) h g (lo wu)⟩] (ix2 r k)
      = pre (brow h r) (vrow g) (turned wu) k := by
  refine halves _ _ r k _ (fun k => ?_) (fun k => ?_)
  · pointwise [k0_pay4]
    exact up_hi h g wu r k
  · pointwise [k0_pay10]
    exact up_lo h g wu r k

end Block

/-- The block that each operand has at each grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] :=
  (by decide +kernel : ∀ t : Fin grid0.N, _)

variable (m : (ℓ : Loc nD τ sig) → Buf (Elt Ideal) ℓ)

/-- The array's row that is row `r` of block `t`. -/
abbrev row (t : Fin cfg0.N) (r : Fin 512) : Fin 4096 := ⟨t.val * 512 + r.val, by have := lt_of_lt_of_eq t.isLt N_0; omega⟩

/-- The program's arguments. -/
abbrev A0 (c : Dev nD) : FVec Ideal S4096x1024 .f32 := m ((c : Thread nD τ).loc main_arg0)
abbrev A1 (c : Dev nD) : FVec Ideal S1x1024 .f32 := m ((c : Thread nD τ).loc main_arg1)
abbrev A2 (c : Dev nD) : FVec Ideal S1x1024x2816 .f32 := m ((c : Thread nD τ).loc main_arg2)
abbrev A3 (c : Dev nD) : FVec Ideal S1x1024x2816 .f32 := m ((c : Thread nD τ).loc main_arg3)
abbrev A4 (c : Dev nD) : FVec Ideal S1x2816x1024 .f32 := m ((c : Thread nD τ).loc main_arg4)

theorem read0 (c : Dev nD) (t : Fin cfg0.N) (r : Fin 512) (x : Fin 1024) :
    iblk m c 0 t (ix2 r x) = A0 m c (ix2 (row t r) x) := by blk_ext! [iblk, V, idx t]
theorem read1 (c : Dev nD) (t : Fin cfg0.N) (x : Fin 1024) :
    iblk m c 1 t (ix2 0 x) = A1 m c (ix2 0 x) := by blk_ext! [iblk, V, idx t]
theorem read2 (c : Dev nD) (t : Fin cfg0.N) (k : Fin 2816) (x : Fin 1024) :
    iblk m c 2 t (ix2 k x) = A2 m c (ix3 0 x k) := by blk_point [iblk, V, idx t]
theorem read3 (c : Dev nD) (t : Fin cfg0.N) (k : Fin 2816) (x : Fin 1024) :
    iblk m c 3 t (ix2 k x) = A3 m c (ix3 0 x k) := by blk_point [iblk, V, idx t]
theorem read4 (c : Dev nD) (t : Fin cfg0.N) (k : Fin 2816) (x : Fin 1024) :
    iblk m c 4 t (ix2 k x) = A4 m c (ix3 0 k x) := by blk_point [iblk, V, idx t]

theorem row0 (c : Dev nD) (t : Fin cfg0.N) (r : Fin 512) : brow (iblk m c 0 t) r = hrow (A0 m c) (row t r) := funext fun x => read0 m c t r x
theorem row1 (c : Dev nD) (t : Fin cfg0.N) : vrow (iblk m c 1 t) = grow (A1 m c) := funext fun x => read1 m c t x
theorem mat2 (c : Dev nD) (t : Fin cfg0.N) : turned (iblk m c 2 t) = mat (A2 m c) := funext₂ fun x k => read2 m c t k x
theorem mat3 (c : Dev nD) (t : Fin cfg0.N) : turned (iblk m c 3 t) = mat (A3 m c) := funext₂ fun x k => read3 m c t k x

theorem place5 (t : Fin cfg0.N) (r : Fin 512) (x : Fin 1024) :
    ((cfg0.win 5).blk t).view.emb (ix2 r x) = ix2 (row t r) x := by blk_ext [idx t]
theorem place6 (t : Fin cfg0.N) (r : Fin 512) (x : Fin 1024) :
    ((cfg0.win 6).blk t).view.emb (ix2 r x) = ix2 (row t r) x := by blk_ext [idx t]
theorem place7 (t : Fin cfg0.N) (r : Fin 512) (x : Fin 2816) :
    ((cfg0.win 7).blk t).view.emb (ix2 r x) = ix2 (row t r) x := by blk_ext [idx t]
theorem place8 (t : Fin cfg0.N) (r : Fin 512) (x : Fin 2816) :
    ((cfg0.win 8).blk t).view.emb (ix2 r x) = ix2 (row t r) x := by blk_ext [idx t]

theorem point_result (c : Dev nD) (t : Fin cfg0.N) (r : Fin 512) (x : Fin 1024) :
    ko (iblk m c 0 t) (iblk m c 1 t) (iblk m c 2 t) (iblk m c 3 t) (iblk m c 4 t) (ix2 r x)
      = result (A0 m c) (A1 m c) (A2 m c) (A3 m c) (A4 m c) (ix2 (row t r) x) := by
  refine (out_at _ _ _ _ _ r x).trans ?_
  rw [row0, row1, mat2, mat3]
  simp only [read4]
  rfl

theorem point_scaled (c : Dev nD) (t : Fin cfg0.N) (r : Fin 512) (x : Fin 1024) :
    kn (iblk m c 0 t) (iblk m c 1 t) (ix2 r x) = scaled (A0 m c) (A1 m c) (ix2 (row t r) x) := by
  rw [normed_at, row0, row1]
  rfl

theorem final_result (c : Dev nD) : (dats m 0 c).arrAt 5 (cfgs 0).N = result (A0 m c) (A1 m c) (A2 m c) (A3 m c) (A4 m c) := by
  refine (dats m 0 c).arrAt_eq_of_covers 5 _ (by decide +kernel) fun t _ y => ?_
  blk_simp
  rw [after0_5]
  idx_vars y
  unfold out0_5 k0_pay12
  frame_out
  exact (point_result m c t y0 y1).trans (congrArg _ (place5 t y0 y1).symm)

theorem final_scaled (c : Dev nD) : (dats m 0 c).arrAt 6 (cfgs 0).N = scaled (A0 m c) (A1 m c) := by
  refine (dats m 0 c).arrAt_eq_of_covers 6 _ (by decide +kernel) fun t _ y => ?_
  blk_simp
  rw [after0_6]
  idx_vars y
  unfold out0_6
  frame_out
  exact (point_scaled m c t y0 y1).trans (congrArg _ (place6 t y0 y1).symm)

theorem final_gate (c : Dev nD) : (dats m 0 c).arrAt 7 (cfgs 0).N = product (A0 m c) (A1 m c) (A2 m c) := by
  refine (dats m 0 c).arrAt_eq_of_covers 7 _ (by decide +kernel) fun t _ y => ?_
  blk_simp
  rw [after0_7]
  idx_vars y
  unfold out0_7 k0_pay12
  frame_out
  refine (gate_at _ _ _ y0 y1).trans ?_
  rw [row0, row1, mat2, place7]
  rfl

theorem final_up (c : Dev nD) : (dats m 0 c).arrAt 8 (cfgs 0).N = product (A0 m c) (A1 m c) (A3 m c) := by
  refine (dats m 0 c).arrAt_eq_of_covers 8 _ (by decide +kernel) fun t _ y => ?_
  blk_simp
  rw [after0_8]
  idx_vars y
  unfold out0_8 k0_pay12
  frame_out
  refine (up_at _ _ _ y0 y1).trans ?_
  rw [row0, row1, mat3, place8]
  rfl

end Cert.FfnFwdIdeal.Blocks

end
-- ==== Proof.FfnFwdClaims.lean ====
/- The claims about a feed-forward half going forward: both programs end with the same four arrays. -/
module

public import proofs.«01_k».proof.Defs
public import proofs.«01_k».proof.Proof.Gen.FfnFwd.Frame
public import proofs.«01_k».proof.Proof.Gen.FfnFwdRefIdeal.Run
public import proofs.«01_k».proof.Proof.FfnFwdValue

@[expose] public section

set_option maxRecDepth 16384

noncomputable section

namespace Cert.ForwardFfn

open Idealize.ShloMosaic Idealize.SL.Sem FfnFwdIdeal.Blocks

/-- The reference runs and leaves its arguments alone; it has no semaphore. -/
theorem ref_frame : quiescent_FfnFwdRefIdeal (hFfnFwdRefIdeal := FfnFwdRefIdeal.Gen.facts) := fun m g _ =>
  (θ_run FfnFwdRefIdeal.defs _ _).mono (fun r h => ⟨fun c => (h c).2.2.2.2, sem_eq_zero_of_no_sems (by decide) r.2⟩)
    (FfnFwdRefIdeal.Value.run (F := Ideal) m g)

/-- Both programs end with the same arrays. -/
theorem value : algebraic_FfnFwdIdeal_FfnFwdRefIdeal (hFfnFwdIdeal := FfnFwdIdeal.Gen.facts)
    (hFfnFwdRefIdeal := FfnFwdRefIdeal.Gen.facts) := fun m g m' g' _ hm => by
  refine ⟨fun c => result (A0 m c) (A1 m c) (A2 m c) (A3 m c) (A4 m c), fun c => scaled (A0 m c) (A1 m c),
    fun c => product (A0 m c) (A1 m c) (A2 m c), fun c => product (A0 m c) (A1 m c) (A3 m c),
    (θ_run _ _ _).mono (fun r h c => ?_) (FfnFwdIdeal.Value.run_blocks m g),
    (θ_run _ _ _).mono (fun r h c => ?_) (FfnFwdRefIdeal.Value.run (F := Ideal) m' g')⟩
  · obtain ⟨h0, h1, h2, h3, h4⟩ := h c
    exact ⟨h0.trans (final_result m c), h1.trans (final_scaled m c), h2.trans (final_gate m c), h3.trans (final_up m c), h4⟩
  · obtain ⟨e0, e1, e2, e3, e4⟩ := hm c
    obtain ⟨h0, h1, h2, h3, h4⟩ := h c
    refine ⟨h0.trans ?_, h1.trans ?_, h2.trans ?_, h3.trans ?_, h4⟩
    · refine (FfnFwdRefIdeal.Read.val_main_v24_eq (F := Ideal) _ _ _ _ _).trans ?_
      rw [e0, e1, e2, e3, e4]
      exact ref_result _ _ _ _ _
    · refine (FfnFwdRefIdeal.Read.val_main_v25_eq (F := Ideal) _ _).trans ?_
      rw [e0, e1]
      exact ref_scaled _ _
    · refine (FfnFwdRefIdeal.Read.val_main_v26_eq (F := Ideal) _ _ _).trans ?_
      rw [e0, e1, e2]
      exact ref_gate _ _ _
    · refine (FfnFwdRefIdeal.Read.val_main_v27_eq (F := Ideal) _ _ _).trans ?_
      rw [e0, e1, e3]
      exact ref_up _ _ _

end Cert.ForwardFfn

end
-- ==== Proof.MergeFwdRef.lean ====
/- The gated merge going forward, as the reference computes it: entry by entry closed forms of the arguments. -/
module

public import proofs.«01_k».proof.Proof.Gen.MergeFwdRefIdeal.Read
public import proofs.«01_k».proof.Proof.MixOutRef

@[expose] public section

set_option maxRecDepth 16384

noncomputable section

namespace Cert.ForwardMerge

open Idealize.ShloMosaic Idealize.ShloMosaic.TcCoe Idealize.SL.Sem Cert.MergeFwdRefIdeal Cert.MergeFwdRefIdeal.Read
open Cert.Merge (affine ya yb sa sb arow)
open Cert.Swiglu (word_one)

variable (h a q : FVec Ideal S4096x1024 .f32) (z : FVec Ideal S4096x7168 .f32) (g b : FVec Ideal S1x1024 .f32)
  (wa wb wo : FVec Ideal S1x1024x1024 .f32) (r : Fin 4096) (x : Fin 1024)

/-- The normed branch behind its `silu`, and the two branches merged by their gates. -/
def act : EReal := affine a g b r x * Ideal.logistic (affine a g b r x)
def merged : EReal := sa z r x * ya a g b wa r x + sb z r x * yb q wb r x

/-- The five arrays. -/
def result : FVec Ideal S4096x1024 .f32 := fun i => h i + ∑ k, merged a q z g b wa wb (i 0) k * wo (ix3 0 k (i 1))
def acts : FVec Ideal S4096x1024 .bf16 := fun i => act a g b (i 0) (i 1)
def merges : FVec Ideal S4096x1024 .bf16 := fun i => merged a q z g b wa wb (i 0) (i 1)
def firsts : FVec Ideal S4096x1024 .bf16 := fun i => ya a g b wa (i 0) (i 1)
def seconds : FVec Ideal S4096x1024 .bf16 := fun i => yb q wb (i 0) (i 1)

theorem centred_at : val_main_v14 (F := Ideal) a (ix2 r x) = LayerNorm.centred (arow a r) x := by
  pointwise [val_main_v14, val_main_v13, val_main_v12, val_main_v11, val_main_v10, val_main_v9, val_main_cst, val_main_cst_0]
  rfl

theorem inv_at : val_main_v24 (F := Ideal) a (ix2 r 0) = LayerNorm.inv (arow a r) := by
  pointwise [val_main_v24, val_main_v23, val_main_v22, val_main_v19, val_main_v18, val_main_v17, val_main_v16, val_main_v15,
    val_main_cst_1, val_main_cst_2, val_main_cst_3]
  simp only [centred_at]
  rfl

theorem hat_at : val_main_v26 (F := Ideal) a (ix2 r x) = LayerNorm.hat (arow a r) x := by
  pointwise [val_main_v26, val_main_v25]
  rw [inv_at]
  exact congrArg (· * _) (centred_at a r x)

theorem affine_at : val_main_v32 (F := Ideal) a g b (ix2 r x) = affine a g b r x := by
  pointwise [val_main_v32, val_main_v31, val_main_v30, val_main_v29, val_main_v28, val_main_v27, val_main_v8, val_main_v7]
  rw [hat_at]
  rfl

theorem act_at : val_main_v33 (F := Ideal) a g b (ix2 r x) = act a g b r x := by
  pointwise [val_main_v33, val_main_call0_v5, val_main_call0_v4, val_main_call0_v3, val_main_call0_v2, val_main_call0_v1,
    val_main_call0_v0, val_main_call0_cst, val_main_call0_cst_0]
  simp only [affine_at, word_one, EReal.coe_one]
  rfl

theorem ya_at : val_main_v35 (F := Ideal) a g b wa (ix2 r x) = ya a g b wa r x := by
  pointwise [val_main_v35, val_main_v34]
  simp only [act_at]
  rfl

theorem yb_at : val_main_v37 (F := Ideal) q wb (ix2 r x) = yb q wb r x := by
  pointwise [val_main_v37, val_main_v36]
  rfl

theorem group5 : val_main_v5 (F := Ideal) z (ix2 r x) = z (ix2 r ⟨5120 + x.val, by omega⟩) :=
  congrArg z (funext fun i => Fin.ext (by fin_cases i <;> simp [ix2]))
theorem group6 : val_main_v6 (F := Ideal) z (ix2 r x) = z (ix2 r ⟨6144 + x.val, by omega⟩) :=
  congrArg z (funext fun i => Fin.ext (by fin_cases i <;> simp [ix2]))

theorem sa_at : val_main_v43 (F := Ideal) z (ix2 r x) = sa z r x := by
  pointwise [val_main_v43, val_main_v42, val_main_v41, val_main_v40, val_main_v39, val_main_v38, val_main_cst_4, val_main_cst_5]
  simp only [group5, word_one, EReal.coe_one]
  rfl
theorem sb_at : val_main_v50 (F := Ideal) z (ix2 r x) = sb z r x := by
  pointwise [val_main_v50, val_main_v49, val_main_v48, val_main_v47, val_main_v46, val_main_v45, val_main_cst_6, val_main_cst_7]
  simp only [group6, word_one, EReal.coe_one]
  rfl

theorem merged_at : val_main_v52 (F := Ideal) a q z g b wa wb (ix2 r x) = merged a q z g b wa wb r x := by
  pointwise [val_main_v52, val_main_v51, val_main_v44]
  rw [sa_at, sb_at, ya_at, yb_at]
  rfl

theorem ref_result : val_main_v55 (F := Ideal) h a q z g b wa wb wo = result h a q z g b wa wb wo := by
  funext i
  idx_vars i
  pointwise [val_main_v55, val_main_v54, val_main_v53]
  simp only [merged_at]
  rfl
theorem ref_acts : val_main_v56 (F := Ideal) a g b = acts a g b := by
  funext i
  idx_vars i
  exact act_at a g b i0 i1
theorem ref_merges : val_main_v57 (F := Ideal) a q z g b wa wb = merges a q z g b wa wb := by
  funext i
  idx_vars i
  exact merged_at a q z g b wa wb i0 i1
theorem ref_firsts : val_main_v58 (F := Ideal) a g b wa = firsts a g b wa := by
  funext i
  idx_vars i
  exact ya_at a g b wa i0 i1
theorem ref_seconds : val_main_v59 (F := Ideal) q wb = seconds q wb := by
  funext i
  idx_vars i
  exact yb_at q wb i0 i1

end Cert.ForwardMerge

end
-- ==== Proof.MergeFwdValue.lean ====
/- The gated merge going forward, as the kernel computes it block by block of 512 rows, and the five arrays after the
   run. -/
module

public import proofs.«01_k».proof.Proof.Gen.MergeFwdIdeal.Value
public import proofs.«01_k».proof.Proof.MergeFwdRef
public import Idealize.ShloMosaic.Lib.Pipeline.ValueKit
public import Idealize.ShloMosaic.Lib.Claim

@[expose] public section

set_option maxRecDepth 16384

noncomputable section

namespace Cert.MergeFwdIdeal.Blocks

open Idealize.ShloMosaic Idealize.ShloMosaic.TcCoe Idealize.SL.Sem Cert.MergeFwdIdeal Cert.MergeFwdIdeal.Gen
open Idealize.ShloMosaic.Pipeline (Dat)
open Cert.Merge (affine ya yb sa sb arow)
open Cert.ForwardMerge (act merged result acts merges firsts seconds)

/-- The block that each operand has at each grid point. -/
theorem idx : ∀ t : Fin cfg0.N, win0_0.index t = ![t.val, 0] ∧ win0_1.index t = ![t.val, 0] ∧ win0_2.index t = ![t.val, 0]
    ∧ win0_3.index t = ![5, t.val, 0] ∧ win0_4.index t = ![6, t.val, 0] ∧ win0_5.index t = ![0, 0] ∧ win0_6.index t = ![0, 0]
    ∧ win0_7.index t = ![0, 0] ∧ win0_8.index t = ![0, 0] ∧ win0_9.index t = ![0, 0] ∧ win0_10.index t = ![t.val, 0]
    ∧ win0_11.index t = ![t.val, 0] ∧ win0_12.index t = ![t.val, 0] ∧ win0_13.index t = ![t.val, 0] ∧ win0_14.index t = ![t.val, 0] :=
  (by decide +kernel : ∀ t : Fin grid0.N, _)

variable (m : (ℓ : Loc nD τ sig) → Buf (Elt Ideal) ℓ)

/-- The array's row that is row `r` of block `t`. -/
abbrev row (t : Fin cfg0.N) (r : Fin 512) : Fin 4096 := ⟨512 * t.val + r.val, by have := lt_of_lt_of_eq t.isLt N_0; omega⟩

/-- The program's arguments. -/
abbrev Ah (c : Dev nD) : FVec Ideal S4096x1024 .f32 := m ((c : Thread nD τ).loc main_arg0)
abbrev Aa (c : Dev nD) : FVec Ideal S4096x1024 .f32 := m ((c : Thread nD τ).loc main_arg1)
abbrev Aq (c : Dev nD) : FVec Ideal S4096x1024 .f32 := m ((c : Thread nD τ).loc main_arg2)
abbrev Az (c : Dev nD) : FVec Ideal S4096x7168 .f32 := m ((c : Thread nD τ).loc main_arg3)
abbrev Ag (c : Dev nD) : FVec Ideal S1x1024 .f32 := m ((c : Thread nD τ).loc main_arg4)
abbrev Ab (c : Dev nD) : FVec Ideal S1x1024 .f32 := m ((c : Thread nD τ).loc main_arg5)
abbrev Awa (c : Dev nD) : FVec Ideal S1x1024x1024 .f32 := m ((c : Thread nD τ).loc main_arg6)
abbrev Awb (c : Dev nD) : FVec Ideal S1x1024x1024 .f32 := m ((c : Thread nD τ).loc main_arg7)
abbrev Awo (c : Dev nD) : FVec Ideal S1x1024x1024 .f32 := m ((c : Thread nD τ).loc main_arg8)

/-- What each operand's block holds at a point. -/
theorem read0 (c : Dev nD) (t : Fin cfg0.N) (r : Fin 512) (x : Fin 1024) : iblk m c 0 t (ix2 r x) = Ah m c (ix2 (row t r) x) := by
  blk_point [iblk, V, idx t]
theorem read1 (c : Dev nD) (t : Fin cfg0.N) (r : Fin 512) (x : Fin 1024) : iblk m c 1 t (ix2 r x) = Aa m c (ix2 (row t r) x) := by
  blk_point [iblk, V, idx t]
theorem read2 (c : Dev nD) (t : Fin cfg0.N) (r : Fin 512) (x : Fin 1024) : iblk m c 2 t (ix2 r x) = Aq m c (ix2 (row t r) x) := by
  blk_point [iblk, V, idx t]
theorem group (c : Dev nD) (k : Fin 7) (r : Fin 4096) (x : Fin 1024) :
    V m c main_v3 (ix3 k r x) = Az m c (ix2 r ⟨1024 * k.val + x.val, by omega⟩) := by
  unfold V
  entry_read
  pointwise
  exact congrArg (Az m c) (congrArg (ix2 r) (Fin.ext (by simp [Nat.mul_comm])))
theorem read3 (c : Dev nD) (t : Fin cfg0.N) (r : Fin 512) (x : Fin 1024) :
    iblk m c 3 t (ix3 0 r x) = Az m c (ix2 (row t r) ⟨5120 + x.val, by omega⟩) := by
  refine Eq.trans ?_ (group m c 5 (row t r) x)
  blk_point [iblk, idx t]
theorem read4 (c : Dev nD) (t : Fin cfg0.N) (r : Fin 512) (x : Fin 1024) :
    iblk m c 4 t (ix3 0 r x) = Az m c (ix2 (row t r) ⟨6144 + x.val, by omega⟩) := by
  refine Eq.trans ?_ (group m c 6 (row t r) x)
  blk_point [iblk, idx t]
theorem read5 (c : Dev nD) (t : Fin cfg0.N) (x : Fin 1024) : iblk m c 5 t (ix2 0 x) = Ag m c (ix2 0 x) := by
  blk_point [iblk, V, idx t]
theorem read6 (c : Dev nD) (t : Fin cfg0.N) (x : Fin 1024) : iblk m c 6 t (ix2 0 x) = Ab m c (ix2 0 x) := by
  blk_point [iblk, V, idx t]
theorem read7 (c : Dev nD) (t : Fin cfg0.N) (x k : Fin 1024) : iblk m c 7 t (ix2 x k) = Awa m c (ix3 0 x k) := by
  blk_point [iblk, V, idx t]
theorem read8 (c : Dev nD) (t : Fin cfg0.N) (x k : Fin 1024) : iblk m c 8 t (ix2 x k) = Awb m c (ix3 0 x k) := by
  blk_point [iblk, V, idx t]
theorem read9 (c : Dev nD) (t : Fin cfg0.N) (x k : Fin 1024) : iblk m c 9 t (ix2 x k) = Awo m c (ix3 0 x k) := by
  blk_point [iblk, V, idx t]

theorem rowa (c : Dev nD) (t : Fin cfg0.N) (r : Fin 512) : (fun x => iblk m c 1 t (ix2 r x)) = arow (Aa m c) (row t r) :=
  funext fun x => read1 m c t r x

section Block
variable (a : FVec Ideal S512x1024 .f32) (g b : FVec Ideal S1x1024 .f32) (r : Fin 512) (x : Fin 1024)

/-- The normed branch behind its `silu`, of a block's rows. -/
theorem block_act : k0_pay4 (F := Ideal) a g b (ix2 r x)
    = (LayerNorm.hat (fun x => a (ix2 r x)) x * g (ix2 0 x) + b (ix2 0 x))
      * Ideal.logistic (LayerNorm.hat (fun x => a (ix2 r x)) x * g (ix2 0 x) + b (ix2 0 x)) := by
  pointwise [k0_pay4]
  rfl

end Block

theorem point_act (c : Dev nD) (t : Fin cfg0.N) (r : Fin 512) (x : Fin 1024) :
    k0_pay4 (F := Ideal) (iblk m c 1 t) (iblk m c 5 t) (iblk m c 6 t) (ix2 r x) = act (Aa m c) (Ag m c) (Ab m c) (row t r) x := by
  refine (block_act _ _ _ r x).trans ?_
  rw [rowa, read5, read6]
  rfl

/-- The two branches' products at a point. -/
abbrev first (c : Dev nD) (t : Fin cfg0.N) : FVec Ideal S512x1024 .f32 :=
  k0_pay5 (F := Ideal) (iblk m c 1 t) (iblk m c 5 t) (iblk m c 6 t) (iblk m c 7 t)
abbrev second (c : Dev nD) (t : Fin cfg0.N) : FVec Ideal S512x1024 .f32 := k0_pay6 (F := Ideal) (iblk m c 2 t) (iblk m c 8 t)

theorem point_first (c : Dev nD) (t : Fin cfg0.N) (r : Fin 512) (x : Fin 1024) :
    first m c t (ix2 r x) = ya (Aa m c) (Ag m c) (Ab m c) (Awa m c) (row t r) x := by
  pointwise [k0_pay5]
  simp only [point_act, read7]
  rfl

theorem point_second (c : Dev nD) (t : Fin cfg0.N) (r : Fin 512) (x : Fin 1024) :
    second m c t (ix2 r x) = yb (Aq m c) (Awb m c) (row t r) x := by
  pointwise [k0_pay6]
  simp only [read2, read8]
  rfl

theorem point_merged (c : Dev nD) (t : Fin cfg0.N) (r : Fin 512) (x : Fin 1024) :
    k0_pay2 (F := Ideal) (first m c t) (second m c t) (iblk m c 3 t) (iblk m c 4 t) (ix2 r x)
      = merged (Aa m c) (Aq m c) (Az m c) (Ag m c) (Ab m c) (Awa m c) (Awb m c) (row t r) x := by
  pointwise [k0_pay2]
  rw [point_first, point_second, read3, read4]
  rfl

theorem point_result (c : Dev nD) (t : Fin cfg0.N) (r : Fin 512) (x : Fin 1024) :
    k0_pay3 (F := Ideal) (first m c t) (second m c t) (iblk m c 3 t) (iblk m c 4 t) (iblk m c 0 t) (iblk m c 9 t) (ix2 r x)
      = result (Ah m c) (Aa m c) (Aq m c) (Az m c) (Ag m c) (Ab m c) (Awa m c) (Awb m c) (Awo m c) (ix2 (row t r) x) := by
  pointwise [k0_pay3]
  simp only [point_merged, read0, read9]
  rfl

theorem place10 (t : Fin cfg0.N) (r : Fin 512) (x : Fin 1024) :
    ((cfg0.win 10).blk t).view.emb (ix2 r x) = ix2 (row t r) x := by blk_ext [idx t]
theorem place11 (t : Fin cfg0.N) (r : Fin 512) (x : Fin 1024) :
    ((cfg0.win 11).blk t).view.emb (ix2 r x) = ix2 (row t r) x := by blk_ext [idx t]
theorem place12 (t : Fin cfg0.N) (r : Fin 512) (x : Fin 1024) :
    ((cfg0.win 12).blk t).view.emb (ix2 r x) = ix2 (row t r) x := by blk_ext [idx t]
theorem place13 (t : Fin cfg0.N) (r : Fin 512) (x : Fin 1024) :
    ((cfg0.win 13).blk t).view.emb (ix2 r x) = ix2 (row t r) x := by blk_ext [idx t]
theorem place14 (t : Fin cfg0.N) (r : Fin 512) (x : Fin 1024) :
    ((cfg0.win 14).blk t).view.emb (ix2 r x) = ix2 (row t r) x := by blk_ext [idx t]

/-- An array whose blocks are stored as `f` says is `f` after the run. -/
theorem stored10 (c : Dev nD) (f : FVec Ideal S4096x1024 .f32)
    (h : ∀ (t : Fin cfg0.N) (r : Fin 512) (x : Fin 1024), (dats m 0 c).after 10 t (ix2 r x) = f (ix2 (row t r) x)) :
    (dats m 0 c).arrAt 10 (cfgs 0).N = f := by
  refine (dats m 0 c).arrAt_eq_of_covers 10 _ (by decide +kernel) fun t _ y => ?_
  blk_simp
  idx_vars y
  exact (h t y0 y1).trans (congrArg f (place10 t y0 y1).symm)

@[inherit_doc stored10]
theorem stored11 (c : Dev nD) (f : FVec Ideal S4096x1024 .bf16)
    (h : ∀ (t : Fin cfg0.N) (r : Fin 512) (x : Fin 1024), (dats m 0 c).after 11 t (ix2 r x) = f (ix2 (row t r) x)) :
    (dats m 0 c).arrAt 11 (cfgs 0).N = f := by
  refine (dats m 0 c).arrAt_eq_of_covers 11 _ (by decide +kernel) fun t _ y => ?_
  blk_simp
  idx_vars y
  exact (h t y0 y1).trans (congrArg f (place11 t y0 y1).symm)

@[inherit_doc stored10]
theorem stored12 (c : Dev nD) (f : FVec Ideal S4096x1024 .bf16)
    (h : ∀ (t : Fin cfg0.N) (r : Fin 512) (x : Fin 1024), (dats m 0 c).after 12 t (ix2 r x) = f (ix2 (row t r) x)) :
    (dats m 0 c).arrAt 12 (cfgs 0).N = f := by
  refine (dats m 0 c).arrAt_eq_of_covers 12 _ (by decide +kernel) fun t _ y => ?_
  blk_simp
  idx_vars y
  exact (h t y0 y1).trans (congrArg f (place12 t y0 y1).symm)

@[inherit_doc stored10]
theorem stored13 (c : Dev nD) (f : FVec Ideal S4096x1024 .bf16)
    (h : ∀ (t : Fin cfg0.N) (r : Fin 512) (x : Fin 1024), (dats m 0 c).after 13 t (ix2 r x) = f (ix2 (row t r) x)) :
    (dats m 0 c).arrAt 13 (cfgs 0).N = f := by
  refine (dats m 0 c).arrAt_eq_of_covers 13 _ (by decide +kernel) fun t _ y => ?_
  blk_simp
  idx_vars y
  exact (h t y0 y1).trans (congrArg f (place13 t y0 y1).symm)

@[inherit_doc stored10]
theorem stored14 (c : Dev nD) (f : FVec Ideal S4096x1024 .bf16)
    (h : ∀ (t : Fin cfg0.N) (r : Fin 512) (x : Fin 1024), (dats m 0 c).after 14 t (ix2 r x) = f (ix2 (row t r) x)) :
    (dats m 0 c).arrAt 14 (cfgs 0).N = f := by
  refine (dats m 0 c).arrAt_eq_of_covers 14 _ (by decide +kernel) fun t _ y => ?_
  blk_simp
  idx_vars y
  exact (h t y0 y1).trans (congrArg f (place14 t y0 y1).symm)

theorem final_result (c : Dev nD) : (dats m 0 c).arrAt 10 (cfgs 0).N
    = result (Ah m c) (Aa m c) (Aq m c) (Az m c) (Ag m c) (Ab m c) (Awa m c) (Awb m c) (Awo m c) :=
  stored10 m c _ fun t r x => by
    rw [after0_10]
    unfold out0_10 k0_pay9 k0_pay8
    frame_out
    exact point_result m c t r x

theorem final_acts (c : Dev nD) : (dats m 0 c).arrAt 11 (cfgs 0).N
    = acts (Aa m c) (Ag m c) (Ab m c) :=
  stored11 m c _ fun t r x => by
    rw [after0_11]
    unfold out0_11
    frame_out
    exact point_act m c t r x

theorem final_merges (c : Dev nD) : (dats m 0 c).arrAt 12 (cfgs 0).N
    = merges (Aa m c) (Aq m c) (Az m c) (Ag m c) (Ab m c) (Awa m c) (Awb m c) :=
  stored12 m c _ fun t r x => by
    rw [after0_12]
    unfold out0_12 k0_pay9 k0_pay8
    frame_out
    exact point_merged m c t r x

theorem final_firsts (c : Dev nD) : (dats m 0 c).arrAt 13 (cfgs 0).N
    = firsts (Aa m c) (Ag m c) (Ab m c) (Awa m c) :=
  stored13 m c _ fun t r x => by
    rw [after0_13]
    unfold out0_13
    frame_out
    exact point_first m c t r x

theorem final_seconds (c : Dev nD) : (dats m 0 c).arrAt 14 (cfgs 0).N
    = seconds (Aq m c) (Awb m c) :=
  stored14 m c _ fun t r x => by
    rw [after0_14]
    unfold out0_14 k0_pay9
    frame_out
    exact point_second m c t r x

end Cert.MergeFwdIdeal.Blocks

end
-- ==== Proof.MergeFwdClaims.lean ====
/- The claims about the gated merge going forward: both programs end with the same five arrays. -/
module

public import proofs.«01_k».proof.Defs
public import proofs.«01_k».proof.Proof.Gen.MergeFwd.Frame
public import proofs.«01_k».proof.Proof.Gen.MergeFwdRefIdeal.Run
public import proofs.«01_k».proof.Proof.MergeFwdValue

@[expose] public section

set_option maxRecDepth 16384

noncomputable section

namespace Cert.ForwardMerge

open Idealize.ShloMosaic Idealize.SL.Sem MergeFwdIdeal.Blocks

/-- The reference runs and leaves its arguments alone; it has no semaphore. -/
theorem ref_frame : quiescent_MergeFwdRefIdeal (hMergeFwdRefIdeal := MergeFwdRefIdeal.Gen.facts) := fun m g _ =>
  (θ_run MergeFwdRefIdeal.defs _ _).mono (fun r h => ⟨fun c => (h c).2.2.2.2.2, sem_eq_zero_of_no_sems (by decide) r.2⟩)
    (MergeFwdRefIdeal.Value.run (F := Ideal) m g)

/-- Both programs end with the same arrays. -/
theorem value : algebraic_MergeFwdIdeal_MergeFwdRefIdeal (hMergeFwdIdeal := MergeFwdIdeal.Gen.facts)
    (hMergeFwdRefIdeal := MergeFwdRefIdeal.Gen.facts) := fun m g m' g' _ hm => by
  refine ⟨fun c => result (Ah m c) (Aa m c) (Aq m c) (Az m c) (Ag m c) (Ab m c) (Awa m c) (Awb m c) (Awo m c),
    fun c => acts (Aa m c) (Ag m c) (Ab m c),
    fun c => merges (Aa m c) (Aq m c) (Az m c) (Ag m c) (Ab m c) (Awa m c) (Awb m c),
    fun c => firsts (Aa m c) (Ag m c) (Ab m c) (Awa m c),
    fun c => seconds (Aq m c) (Awb m c),
    (θ_run _ _ _).mono (fun r h c => ?_) (MergeFwdIdeal.Value.run_blocks m g),
    (θ_run _ _ _).mono (fun r h c => ?_) (MergeFwdRefIdeal.Value.run (F := Ideal) m' g')⟩
  · obtain ⟨h0, h1, h2, h3, h4, h5⟩ := h c
    exact ⟨h0.trans (final_result m c), h1.trans (final_acts m c), h2.trans (final_merges m c), h3.trans (final_firsts m c), h4.trans (final_seconds m c), h5⟩
  · obtain ⟨e0, e1, e2, e3, e4, e5, e6, e7, e8⟩ := hm c
    obtain ⟨h0, h1, h2, h3, h4, h5⟩ := h c
    refine ⟨h0.trans ?_, h1.trans ?_, h2.trans ?_, h3.trans ?_, h4.trans ?_, h5⟩
    · refine (MergeFwdRefIdeal.Read.val_main_v55_eq (F := Ideal) m' c).trans ?_
      rw [e0, e1, e2, e3, e4, e5, e6, e7, e8]
      exact ref_result _ _ _ _ _ _ _ _ _
    · refine (MergeFwdRefIdeal.Read.val_main_v56_eq (F := Ideal) m' c).trans ?_
      rw [e1, e4, e5]
      exact ref_acts _ _ _
    · refine (MergeFwdRefIdeal.Read.val_main_v57_eq (F := Ideal) m' c).trans ?_
      rw [e1, e2, e3, e4, e5, e6, e7]
      exact ref_merges _ _ _ _ _ _ _
    · refine (MergeFwdRefIdeal.Read.val_main_v58_eq (F := Ideal) m' c).trans ?_
      rw [e1, e4, e5, e6]
      exact ref_firsts _ _ _ _
    · refine (MergeFwdRefIdeal.Read.val_main_v59_eq (F := Ideal) _ _).trans ?_
      rw [e2, e7]
      exact ref_seconds _ _

end Cert.ForwardMerge

end
-- ==== Proof.MixFwdRef.lean ====
/- The norm before the mixer and its input product, as the reference computes them. -/
module

public import proofs.«01_k».proof.Proof.Gen.MixFwdRefIdeal.Read
public import proofs.«01_k».proof.Proof.Swiglu
public import Idealize.ShloMosaic.Lib.Pointwise

@[expose] public section

set_option maxRecDepth 16384

noncomputable section

namespace Cert.ForwardMix

open Idealize.ShloMosaic Idealize.ShloMosaic.TcCoe Idealize.SL.Sem Cert.MixFwdRefIdeal Cert.MixFwdRefIdeal.Read Cert.Swiglu

/-- The normed rows, and the product's seven groups one after the other. -/
def scaled (h : FVec Ideal S4096x1024 .f32) (g : FVec Ideal S1x1024 .f32) : FVec Ideal S4096x1024 .bf16 := fun i =>
  normed (fun x => h (ix2 (i 0) x)) (fun x => g (ix2 0 x)) (i 1)
def groups (h : FVec Ideal S4096x1024 .f32) (g : FVec Ideal S1x1024 .f32) (w : FVec Ideal S1x1024x7168 .f32) :
    FVec Ideal S7x4096x1024 .bf16 := fun i =>
  ∑ x : Fin 1024, normed (fun x => h (ix2 (i 1) x)) (fun x => g (ix2 0 x)) x
    * w (ix3 0 x (⟨(i 0).val * 1024 + (i 2).val, by have := (i 0).isLt; have := (i 2).isLt; simp at *; omega⟩ : Fin 7168))

variable (h : FVec Ideal S4096x1024 .f32) (g : FVec Ideal S1x1024 .f32) (w : FVec Ideal S1x1024x7168 .f32)

theorem normed_at (r : Fin 4096) (x : Fin 1024) : val_main_v13 (F := Ideal) h g (ix2 r x)
    = normed (fun x => h (ix2 r x)) (fun x => g (ix2 0 x)) x := by
  pointwise [val_main_v13, val_main_v12, val_main_v11, val_main_v10, val_main_v9, val_main_v8, val_main_v7,
    val_main_v6, val_main_v5, val_main_v4, val_main_v3, val_main_v2, val_main_v1, val_main_v0, val_main_cst_1, val_main_cst_0,
    val_main_cst]
  rfl

theorem ref_scaled : val_main_v14 (F := Ideal) h g = scaled h g := by
  funext i
  idx_vars i
  exact normed_at h g i0 i1

theorem ref_groups : val_main_v19 (F := Ideal) h g w = groups h g w := by
  funext i
  idx_vars i
  pointwise [val_main_v19, val_main_v18, val_main_v17, val_main_v16, val_main_v15]
  simp only [normed_at]
  rfl

end Cert.ForwardMix

end
-- ==== Proof.MixFwdValue.lean ====
/- The norm before the mixer and its input product, as the kernel computes them block by block of 512 rows, and the two
   arrays after the run. The product is stored in ten pieces: intervals of the 7168 columns that lie in one of the result's
   seven groups of 1024 and in one of the weight's four quarters of 1792. -/
module

public import proofs.«01_k».proof.Proof.Gen.MixFwdIdeal.Value
public import proofs.«01_k».proof.Proof.MixFwdRef
public import Idealize.ShloMosaic.Lib.Pipeline.ValueKit
public import Idealize.ShloMosaic.Lib.Claim

@[expose] public section

set_option maxRecDepth 16384

noncomputable section

namespace Cert.MixFwdIdeal.Blocks

open Idealize.ShloMosaic Idealize.ShloMosaic.TcCoe Idealize.SL.Sem Cert.MixFwdIdeal Cert.MixFwdIdeal.Gen
open Idealize.ShloMosaic.Pipeline (Dat)
open Cert.Swiglu
open Cert.ForwardMix (scaled groups)

section Block
variable (h : FVec Ideal S512x1024 .f32) (g : FVec Ideal S1x1024 .f32) (W : FVec Ideal S4x1024x1792 .bf16)

theorem normed_at (r : Fin 512) (x : Fin 1024) : k0_pay5 (F := Ideal) h g (ix2 r x)
    = normed (fun x => h (ix2 r x)) (fun x => g (ix2 0 x)) x := by
  pointwise [k0_pay5]
  rfl

/-- Each of the ten products, for any part of the weight. -/
theorem pay4_at (u : FVec Ideal S512x1024 .bf16) (w : FVec Ideal S1x1024x1024 .bf16) (r : Fin 512) (k : Fin 1024) :
    k0_pay4 (F := Ideal) u w (ix3 0 r k) = ∑ x : Fin 1024, u (ix2 r x) * w (ix3 0 x k) := by pointwise [k0_pay4]
@[inherit_doc pay4_at] theorem pay3_at (u : FVec Ideal S512x1024 .bf16) (w : FVec Ideal S1x1024x768 .bf16) (r : Fin 512) (k : Fin 768) :
    k0_pay3 (F := Ideal) u w (ix3 0 r k) = ∑ x : Fin 1024, u (ix2 r x) * w (ix3 0 x k) := by pointwise [k0_pay3]
@[inherit_doc pay4_at] theorem pay2_at (u : FVec Ideal S512x1024 .bf16) (w : FVec Ideal S1x1024x256 .bf16) (r : Fin 512) (k : Fin 256) :
    k0_pay2 (F := Ideal) u w (ix3 0 r k) = ∑ x : Fin 1024, u (ix2 r x) * w (ix3 0 x k) := by pointwise [k0_pay2]
@[inherit_doc pay4_at] theorem pay1_at (u : FVec Ideal S512x1024 .bf16) (w : FVec Ideal S1x1024x1024 .bf16) (r : Fin 512) (k : Fin 1024) :
    k0_pay1 (F := Ideal) u w (ix3 0 r k) = ∑ x : Fin 1024, u (ix2 r x) * w (ix3 0 x k) := by pointwise [k0_pay1]
@[inherit_doc pay4_at] theorem pay11_at (u : FVec Ideal S512x1024 .bf16) (w : FVec Ideal S1x1024x512 .bf16) (r : Fin 512) (k : Fin 512) :
    k0_pay11 (F := Ideal) u w (ix3 0 r k) = ∑ x : Fin 1024, u (ix2 r x) * w (ix3 0 x k) := by pointwise [k0_pay11]
@[inherit_doc pay4_at] theorem pay10_at (u : FVec Ideal S512x1024 .bf16) (w : FVec Ideal S1x1024x512 .bf16) (r : Fin 512) (k : Fin 512) :
    k0_pay10 (F := Ideal) u w (ix3 0 r k) = ∑ x : Fin 1024, u (ix2 r x) * w (ix3 0 x k) := by pointwise [k0_pay10]
@[inherit_doc pay4_at] theorem pay9_at (u : FVec Ideal S512x1024 .bf16) (w : FVec Ideal S1x1024x1024 .bf16) (r : Fin 512) (k : Fin 1024) :
    k0_pay9 (F := Ideal) u w (ix3 0 r k) = ∑ x : Fin 1024, u (ix2 r x) * w (ix3 0 x k) := by pointwise [k0_pay9]
@[inherit_doc pay4_at] theorem pay8_at (u : FVec Ideal S512x1024 .bf16) (w : FVec Ideal S1x1024x256 .bf16) (r : Fin 512) (k : Fin 256) :
    k0_pay8 (F := Ideal) u w (ix3 0 r k) = ∑ x : Fin 1024, u (ix2 r x) * w (ix3 0 x k) := by pointwise [k0_pay8]
@[inherit_doc pay4_at] theorem pay7_at (w : FVec Ideal S1x1024x768 .bf16) (r : Fin 512) (k : Fin 768) :
    k0_pay7 (F := Ideal) h g w (ix3 0 r k) = ∑ x : Fin 1024, k0_pay5 (F := Ideal) h g (ix2 r x) * w (ix3 0 x k) := by
  pointwise [k0_pay7, k0_pay5]
@[inherit_doc pay4_at] theorem pay6_at (w : FVec Ideal S1x1024x1024 .bf16) (r : Fin 512) (k : Fin 1024) :
    k0_pay6 (F := Ideal) h g w (ix3 0 r k) = ∑ x : Fin 1024, k0_pay5 (F := Ideal) h g (ix2 r x) * w (ix3 0 x k) := by
  pointwise [k0_pay6, k0_pay5]

/-- Row `x` of the weight as one row of 7168 entries, and an entry of the product. -/
def flat (x : Fin 1024) (o : Nat) : EReal := if h : o / 1792 < 4 then W (ix3 ⟨o / 1792, h⟩ x ⟨o % 1792, Nat.mod_lt _ (by decide)⟩) else 0
def entry (i : S7x512x1024.Idx) : EReal :=
  ∑ x : Fin 1024, k0_pay5 (F := Ideal) h g (ix2 (i 1) x) * flat W x ((i 0).val * 1024 + (i 2).val)

/-- A part of the weight. -/
abbrev wl (off size : Fin 3 → Nat) (h : ∀ a, off a + size a ≤ S4x1024x1792.size a) :
    FVec Ideal ⟨3, size⟩ .bf16 := View.ld (Val := Elt Ideal) (e' := .bf16) (S := S4x1024x1792) W (Rect.unit (s := S4x1024x1792) off size h)

/-- A product with a part of the weight is a piece of the row's product. -/
theorem part_at (p a q b n : Nat) (hp : ∀ i, (![p, 0, a] : Fin 3 → Nat) i + (![1, 512, n] : Fin 3 → Nat) i ≤ S7x512x1024.size i)
    (hq : ∀ i, (![q, 0, b] : Fin 3 → Nat) i + (![1, 1024, n] : Fin 3 → Nat) i ≤ S4x1024x1792.size i) (e : p * 1024 + a = q * 1792 + b)
    (r : Fin 512) (k : Fin n) : (∑ x : Fin 1024, k0_pay5 (F := Ideal) h g (ix2 r x) * wl W ![q, 0, b] ![1, 1024, n] hq (ix3 0 x k))
      = entry h g W ((Rect.unit (s := S7x512x1024) ![p, 0, a] ![1, 512, n] hp).emb (ix3 0 r k)) := by
  have h0 : q < 4 := hq 0
  have h2 : b + n ≤ 1792 := hq 2
  refine Finset.sum_congr rfl fun x _ => congrArg₂ (· * ·) (congrArg (k0_pay5 (F := Ideal) h g)
    (funext fun i => Fin.ext (by fin_cases i <;> simp [ix2, ix3]))) ?_
  have o : ((Rect.unit (s := S7x512x1024) ![p, 0, a] ![1, 512, n] hp).emb (ix3 0 r k) 0).val * 1024
      + ((Rect.unit (s := S7x512x1024) ![p, 0, a] ![1, 512, n] hp).emb (ix3 0 r k) 2).val = q * 1792 + (b + k.val) := by
    simp [ix3]; omega
  unfold flat
  rw [dif_pos (by rw [o]; omega)]
  refine congrArg W (funext fun i => Fin.ext ?_)
  fin_cases i
  · simp only [o]; simp [ix3]; omega
  · simp [ix3]
  · simp only [o]; simp [ix3]; omega

@[inherit_doc part_at]
theorem piece_at (p a q b n : Nat) (hp : ∀ i, (![p, 0, a] : Fin 3 → Nat) i + (![1, 512, n] : Fin 3 → Nat) i ≤ S7x512x1024.size i)
    (hq : ∀ i, (![q, 0, b] : Fin 3 → Nat) i + (![1, 1024, n] : Fin 3 → Nat) i ≤ S4x1024x1792.size i) (e : p * 1024 + a = q * 1792 + b)
    (v : FVec Ideal ⟨3, ![1, 512, n]⟩ .bf16) (hv : ∀ (r : Fin 512) (k : Fin n), v (ix3 0 r k)
      = ∑ x : Fin 1024, k0_pay5 (F := Ideal) h g (ix2 r x) * wl W ![q, 0, b] ![1, 1024, n] hq (ix3 0 x k)) (y : S7x512x1024.Idx) :
    View.RectAt (Val := Elt Ideal) (e := .bf16) y (Rect.unit (s := S7x512x1024) ![p, 0, a] ![1, 512, n] hp) v (entry h g W y) := by
  rintro x rfl
  have ex : x = ix3 (0 : Fin 1) (x 1 : Fin 512) (x 2 : Fin n) := funext fun i => by
    fin_cases i
    · exact Subsingleton.elim (α := Fin 1) _ _
    · rfl
    · rfl
  rw [ex]
  exact (hv _ _).trans (part_at h g W p a q b n hp hq e _ _)

end Block

/-- The block that each operand has at each grid point. -/
theorem idx : ∀ t : Fin cfg0.N, win0_0.index t = ![t.val, 0] ∧ win0_1.index t = ![0, 0] ∧ win0_2.index t = ![0, 0, 0]
    ∧ win0_3.index t = ![t.val, 0] ∧ win0_4.index t = ![0, t.val, 0] :=
  (by decide +kernel : ∀ t : Fin grid0.N, _)

variable (m : (ℓ : Loc nD τ sig) → Buf (Elt Ideal) ℓ)

/-- The array's row that is row `r` of block `t`. -/
abbrev row (t : Fin cfg0.N) (r : Fin 512) : Fin 4096 := ⟨t.val * 512 + r.val, by have := lt_of_lt_of_eq t.isLt N_0; omega⟩

/-- The program's arguments. -/
abbrev A0 (c : Dev nD) : FVec Ideal S4096x1024 .f32 := m ((c : Thread nD τ).loc main_arg0)
abbrev A1 (c : Dev nD) : FVec Ideal S1x1024 .f32 := m ((c : Thread nD τ).loc main_arg1)
abbrev A2 (c : Dev nD) : FVec Ideal S1x1024x7168 .f32 := m ((c : Thread nD τ).loc main_arg2)

theorem read0 (c : Dev nD) (t : Fin cfg0.N) (r : Fin 512) (x : Fin 1024) :
    iblk m c 0 t (ix2 r x) = A0 m c (ix2 (row t r) x) := by blk_ext! [iblk, V, idx t]
theorem read1 (c : Dev nD) (t : Fin cfg0.N) (x : Fin 1024) :
    iblk m c 1 t (ix2 0 x) = A1 m c (ix2 0 x) := by blk_ext! [iblk, V, idx t]
theorem read2 (c : Dev nD) (t : Fin cfg0.N) (q : Fin 4) (x : Fin 1024) (k : Fin 1792) :
    iblk m c 2 t (ix3 q x k) = A2 m c (ix3 0 x ⟨q.val * 1792 + k.val, by omega⟩) := by blk_point [iblk, V, idx t]

theorem row0 (c : Dev nD) (t : Fin cfg0.N) (r : Fin 512) : (fun x => iblk m c 0 t (ix2 r x)) = fun x => A0 m c (ix2 (row t r) x) :=
  funext fun x => read0 m c t r x
theorem row1 (c : Dev nD) (t : Fin cfg0.N) : (fun x => iblk m c 1 t (ix2 0 x)) = fun x => A1 m c (ix2 0 x) := funext fun x => read1 m c t x

theorem place3 (t : Fin cfg0.N) (r : Fin 512) (x : Fin 1024) :
    ((cfg0.win 3).blk t).view.emb (ix2 r x) = ix2 (row t r) x := by blk_ext [idx t]
theorem place4 (t : Fin cfg0.N) (k : Fin 7) (r : Fin 512) (x : Fin 1024) :
    ((cfg0.win 4).blk t).view.emb (ix3 k r x) = ix3 k (row t r) x := by blk_ext [idx t]

theorem point_scaled (c : Dev nD) (t : Fin cfg0.N) (r : Fin 512) (x : Fin 1024) :
    k0_pay5 (F := Ideal) (iblk m c 0 t) (iblk m c 1 t) (ix2 r x) = scaled (A0 m c) (A1 m c) (ix2 (row t r) x) := by
  refine (normed_at _ _ r x).trans ?_
  rw [row0, row1]
  rfl

theorem point_groups (c : Dev nD) (t : Fin cfg0.N) (k : Fin 7) (r : Fin 512) (x : Fin 1024) :
    entry (iblk m c 0 t) (iblk m c 1 t) (iblk m c 2 t) (ix3 k r x) = groups (A0 m c) (A1 m c) (A2 m c) (ix3 k (row t r) x) := by
  refine Finset.sum_congr rfl fun y _ => congrArg₂ (· * ·) ((point_scaled m c t r y).trans rfl) ?_
  show flat (iblk m c 2 t) y (k.val * 1024 + x.val) = _
  unfold flat
  rw [dif_pos (by omega), read2]
  exact congrArg (A2 m c) (congrArg (ix3 0 y) (Fin.ext (by simp only [ix3]; omega)))

theorem final_scaled (c : Dev nD) : (dats m 0 c).arrAt 3 (cfgs 0).N = scaled (A0 m c) (A1 m c) := by
  refine (dats m 0 c).arrAt_eq_of_covers 3 _ (by decide +kernel) fun t _ y => ?_
  blk_simp
  rw [after0_3]
  idx_vars y
  unfold outsAt0 out0_A_3
  frame_out
  exact (point_scaled m c t y0 y1).trans (congrArg _ (place3 t y0 y1).symm)

theorem final_groups (c : Dev nD) : (dats m 0 c).arrAt 4 (cfgs 0).N = groups (A0 m c) (A1 m c) (A2 m c) := by
  refine (dats m 0 c).arrAt_eq_of_covers 4 _ (by decide +kernel) fun t _ y => ?_
  blk_simp
  rw [after0_4]
  idx_vars y
  unfold outsAt0 out0_A_4
  frame_out
  rw [place4]
  refine (View.canon_eq_of_allAt _ _ _ (View.cover_of_tiledBy _ ![1, 512, 256] (by sl_kernel_rfl) _) ?_).trans
    (point_groups m c t y0 y1 y2)
  generalize iblk m c 0 t = h
  generalize iblk m c 1 t = g
  generalize iblk m c 2 t = W
  exact View.allAt_cons _ _ _ (piece_at _ _ _ 6 0 3 768 1024 _ _ rfl _ (pay4_at _ _) _)
    (View.allAt_cons _ _ _ (piece_at _ _ _ 5 256 3 0 768 _ _ rfl _ (pay3_at _ _) _)
    (View.allAt_cons _ _ _ (piece_at _ _ _ 5 0 2 1536 256 _ _ rfl _ (pay2_at _ _) _)
    (View.allAt_cons _ _ _ (piece_at _ _ _ 4 0 2 512 1024 _ _ rfl _ (pay1_at _ _) _)
    (View.allAt_cons _ _ _ (piece_at _ _ _ 3 512 2 0 512 _ _ rfl _ (pay11_at _ _) _)
    (View.allAt_cons _ _ _ (piece_at _ _ _ 3 0 1 1280 512 _ _ rfl _ (pay10_at _ _) _)
    (View.allAt_cons _ _ _ (piece_at _ _ _ 2 0 1 256 1024 _ _ rfl _ (pay9_at _ _) _)
    (View.allAt_cons _ _ _ (piece_at _ _ _ 1 768 1 0 256 _ _ rfl _ (pay8_at _ _) _)
    (View.allAt_cons _ _ _ (piece_at _ _ _ 1 0 0 1024 768 _ _ rfl _ (pay7_at _ _ _) _)
    (View.allAt_cons _ _ _ (piece_at _ _ _ 0 0 0 0 1024 _ _ rfl _ (pay6_at _ _ _) _)
      (View.allAt_nil _ _))))))))))

end Cert.MixFwdIdeal.Blocks

end
-- ==== Proof.MixFwdClaims.lean ====
/- The claims about the norm before the mixer and its input product: both programs end with the same two arrays. -/
module

public import proofs.«01_k».proof.Defs
public import proofs.«01_k».proof.Proof.Gen.MixFwd.Frame
public import proofs.«01_k».proof.Proof.Gen.MixFwdRefIdeal.Run
public import proofs.«01_k».proof.Proof.MixFwdValue

@[expose] public section

set_option maxRecDepth 16384

noncomputable section

namespace Cert.ForwardMix

open Idealize.ShloMosaic Idealize.SL.Sem MixFwdIdeal.Blocks

/-- The reference runs and leaves its arguments alone; it has no semaphore. -/
theorem ref_frame : quiescent_MixFwdRefIdeal (hMixFwdRefIdeal := MixFwdRefIdeal.Gen.facts) := fun m g _ =>
  (θ_run MixFwdRefIdeal.defs _ _).mono (fun r h => ⟨fun c => (h c).2.2, sem_eq_zero_of_no_sems (by decide) r.2⟩)
    (MixFwdRefIdeal.Value.run (F := Ideal) m g)

/-- Both programs end with the same arrays. -/
theorem value : algebraic_MixFwdIdeal_MixFwdRefIdeal (hMixFwdIdeal := MixFwdIdeal.Gen.facts)
    (hMixFwdRefIdeal := MixFwdRefIdeal.Gen.facts) := fun m g m' g' _ hm => by
  refine ⟨fun c => scaled (A0 m c) (A1 m c), fun c => groups (A0 m c) (A1 m c) (A2 m c),
    (θ_run _ _ _).mono (fun r h c => ?_) (MixFwdIdeal.Value.run_blocks m g),
    (θ_run _ _ _).mono (fun r h c => ?_) (MixFwdRefIdeal.Value.run (F := Ideal) m' g')⟩
  · obtain ⟨h0, h1, h2⟩ := h c
    exact ⟨h0.trans (final_scaled m c), h1.trans (final_groups m c), h2⟩
  · obtain ⟨e0, e1, e2⟩ := hm c
    obtain ⟨h0, h1, h2⟩ := h c
    refine ⟨h0.trans ?_, h1.trans ?_, h2⟩
    · refine (MixFwdRefIdeal.Read.val_main_v14_eq (F := Ideal) _ _).trans ?_
      rw [e0, e1]
      exact ref_scaled _ _
    · refine (MixFwdRefIdeal.Read.val_main_v19_eq (F := Ideal) _ _ _).trans ?_
      rw [e0, e1, e2]
      exact ref_groups _ _ _

end Cert.ForwardMix

end
-- ==== Proof.StepClaims.lean ====
/- The optimiser's step for one weight: both programs end with the same three arrays. -/
module

public import proofs.«01_k».proof.Defs
public import proofs.«01_k».proof.Proof.Gen.Step.Frame
public import proofs.«01_k».proof.Proof.Gen.StepIdeal.Value
public import proofs.«01_k».proof.Proof.Gen.StepRefIdeal.Run
public import proofs.«01_k».proof.Proof.Gen.StepRefIdeal.Read
public import Idealize.ShloMosaic.Lib.Pointwise
public import Idealize.ShloMosaic.Lib.Pipeline.ValueKit
public import Idealize.ShloMosaic.Lib.Claim

@[expose] public section

set_option maxRecDepth 16384

noncomputable section

namespace Cert.OptimiserStep

open Idealize.ShloMosaic Idealize.ShloMosaic.TcCoe Idealize.ShloMosaic.Tactic Idealize.SL.Sem

/-- The reference runs and leaves its arguments alone; it has no semaphore. -/
theorem ref_frame : quiescent_StepRefIdeal (hStepRefIdeal := StepRefIdeal.Gen.facts) := fun m g _ =>
  (θ_run StepRefIdeal.defs _ _).mono (fun r h => ⟨fun c => (h c).2.2.2, sem_eq_zero_of_no_sems (by decide) r.2⟩)
    (StepRefIdeal.Value.run (F := Ideal) m g)

/-- The new moments and the weight's change, each as the reference writes it. -/
abbrev newM (g v : FVec Ideal ⟨3, ![1, 1024, 1792]⟩ .f32) := StepRefIdeal.Read.val_main_v8 (F := Ideal) g v
abbrev newV (g v : FVec Ideal ⟨3, ![1, 1024, 1792]⟩ .f32) := StepRefIdeal.Read.val_main_v14 (F := Ideal) g v
abbrev change (w g m v : FVec Ideal ⟨3, ![1, 1024, 1792]⟩ .f32) := StepRefIdeal.Read.val_main_v27 (F := Ideal) w g m v

section Kernel
open StepIdeal StepIdeal.Gen
open Idealize.ShloMosaic.Pipeline (Dat)
variable (m : (ℓ : Loc nD τ sig) → Buf (Elt Ideal) ℓ)

/-- The program's arguments. -/
abbrev A0 (c : Dev nD) : FVec Ideal S1x1024x1792 .f32 := m ((c : Thread nD τ).loc main_arg0)
abbrev A1 (c : Dev nD) : FVec Ideal S1x1024x1792 .f32 := m ((c : Thread nD τ).loc main_arg1)
abbrev A2 (c : Dev nD) : FVec Ideal S1x1024x1792 .f32 := m ((c : Thread nD τ).loc main_arg2)
abbrev A3 (c : Dev nD) : FVec Ideal S1x1024x1792 .f32 := m ((c : Thread nD τ).loc main_arg3)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The array's row that is row `r` of block `t`. -/
abbrev row (t : Fin cfg0.N) (r : Fin 256) : Fin 1024 := ⟨t.val * 256 + r.val, by have := lt_of_lt_of_eq t.isLt N_0; omega⟩

theorem read0 (c : Dev nD) (t : Fin cfg0.N) (r : Fin 256) (x : Fin 1792) : iblk m c 0 t (ix2 r x) = A0 m c (ix3 0 (row t r) x) := by
  blk_point [iblk, V, idx t]
theorem read1 (c : Dev nD) (t : Fin cfg0.N) (r : Fin 256) (x : Fin 1792) : iblk m c 1 t (ix2 r x) = A1 m c (ix3 0 (row t r) x) := by
  blk_point [iblk, V, idx t]
theorem read2 (c : Dev nD) (t : Fin cfg0.N) (r : Fin 256) (x : Fin 1792) : iblk m c 2 t (ix2 r x) = A2 m c (ix3 0 (row t r) x) := by
  blk_point [iblk, V, idx t]
theorem read3 (c : Dev nD) (t : Fin cfg0.N) (r : Fin 256) (x : Fin 1792) : iblk m c 3 t (ix2 r x) = A3 m c (ix3 0 (row t r) x) := by
  blk_point [iblk, V, idx t]

theorem place4 (t : Fin cfg0.N) (r : Fin 256) (x : Fin 1792) : ((cfg0.win 4).blk t).view.emb (ix2 r x) = ix2 (row t r) x := by blk_ext [idx t]
theorem place5 (t : Fin cfg0.N) (r : Fin 256) (x : Fin 1792) : ((cfg0.win 5).blk t).view.emb (ix2 r x) = ix2 (row t r) x := by blk_ext [idx t]
theorem place6 (t : Fin cfg0.N) (r : Fin 256) (x : Fin 1792) : ((cfg0.win 6).blk t).view.emb (ix2 r x) = ix2 (row t r) x := by blk_ext [idx t]

theorem newM_at (G M : FVec Ideal S1x1024x1792 .f32) (g p : FVec Ideal S256x1792 .f32) (q : Fin 1024) (r : Fin 256) (x : Fin 1792)
    (hg : g (ix2 r x) = G (ix3 0 q x)) (hp : p (ix2 r x) = M (ix3 0 q x)) :
    k0_pay2 (F := Ideal) g p (ix2 r x) = newM G M (ix2 q x) := by
  pointwise [k0_pay2, k0_pay1, newM, StepRefIdeal.Read.val_main_v8, StepRefIdeal.Read.val_main_v7, StepRefIdeal.Read.val_main_v6, StepRefIdeal.Read.val_main_cst_0, StepRefIdeal.Read.val_main_v5, StepRefIdeal.Read.val_main_v4, StepRefIdeal.Read.val_main_cst, StepRefIdeal.Read.val_main_v1, StepRefIdeal.Read.val_main_v2]
  simp only [hg, hp]

theorem newV_at (G U : FVec Ideal S1x1024x1792 .f32) (g u : FVec Ideal S256x1792 .f32) (q : Fin 1024) (r : Fin 256) (x : Fin 1792)
    (hg : g (ix2 r x) = G (ix3 0 q x)) (hu : u (ix2 r x) = U (ix3 0 q x)) :
    k0_pay3 (F := Ideal) g u (ix2 r x) = newV G U (ix2 q x) := by
  pointwise [k0_pay3, k0_pay1, newV, StepRefIdeal.Read.val_main_v14, StepRefIdeal.Read.val_main_v13, StepRefIdeal.Read.val_main_v12, StepRefIdeal.Read.val_main_v11, StepRefIdeal.Read.val_main_v10, StepRefIdeal.Read.val_main_v9, StepRefIdeal.Read.val_main_v3, StepRefIdeal.Read.val_main_v1, StepRefIdeal.Read.val_main_cst_2, StepRefIdeal.Read.val_main_cst_1]
  simp only [hg, hu]

theorem change_at (W G M U : FVec Ideal S1x1024x1792 .f32) (w g p u : FVec Ideal S256x1792 .f32) (q : Fin 1024) (r : Fin 256) (x : Fin 1792)
    (hw : w (ix2 r x) = W (ix3 0 q x)) (hg : g (ix2 r x) = G (ix3 0 q x)) (hp : p (ix2 r x) = M (ix3 0 q x)) (hu : u (ix2 r x) = U (ix3 0 q x)) :
    k0_pay4 (F := Ideal) w g p u (ix2 r x) = change W G M U (ix2 q x) := by
  pointwise [k0_pay4, k0_pay3, k0_pay2, k0_pay1, change, StepRefIdeal.Read.val_main_v27, StepRefIdeal.Read.val_main_v26, StepRefIdeal.Read.val_main_v25, StepRefIdeal.Read.val_main_v24, StepRefIdeal.Read.val_main_v23, StepRefIdeal.Read.val_main_v22, StepRefIdeal.Read.val_main_v21, StepRefIdeal.Read.val_main_v20, StepRefIdeal.Read.val_main_v19, StepRefIdeal.Read.val_main_v18, StepRefIdeal.Read.val_main_v17, StepRefIdeal.Read.val_main_v16, StepRefIdeal.Read.val_main_v15, StepRefIdeal.Read.val_main_v14, StepRefIdeal.Read.val_main_v13, StepRefIdeal.Read.val_main_v12, StepRefIdeal.Read.val_main_v11, StepRefIdeal.Read.val_main_v10, StepRefIdeal.Read.val_main_v9, StepRefIdeal.Read.val_main_v8, StepRefIdeal.Read.val_main_v7, StepRefIdeal.Read.val_main_v6, StepRefIdeal.Read.val_main_v5, StepRefIdeal.Read.val_main_v4, StepRefIdeal.Read.val_main_v3, StepRefIdeal.Read.val_main_v2, StepRefIdeal.Read.val_main_v1, StepRefIdeal.Read.val_main_v0, StepRefIdeal.Read.val_main_cst_7, StepRefIdeal.Read.val_main_cst_6, StepRefIdeal.Read.val_main_cst_5, StepRefIdeal.Read.val_main_cst_4, StepRefIdeal.Read.val_main_cst_3, StepRefIdeal.Read.val_main_cst_2, StepRefIdeal.Read.val_main_cst_1, StepRefIdeal.Read.val_main_cst_0, StepRefIdeal.Read.val_main_cst]
  simp only [hw, hg, hp, hu]

/-- Output 4 after the run. -/
theorem final4 (c : Dev nD) : (dats m 0 c).arrAt 4 (cfgs 0).N = change (A0 m c) (A1 m c) (A2 m c) (A3 m c) := by
  refine (dats m 0 c).arrAt_eq_of_covers 4 _ (by decide +kernel) fun t _ y => ?_
  blk_simp
  rw [after0_4]
  idx_vars y
  unfold out0_4
  frame_out
  rw [place4]
  exact change_at _ _ _ _ _ _ _ _ (row t y0) y0 y1 (read0 m c t y0 y1) (read1 m c t y0 y1) (read2 m c t y0 y1) (read3 m c t y0 y1)

/-- Output 5 after the run. -/
theorem final5 (c : Dev nD) : (dats m 0 c).arrAt 5 (cfgs 0).N = newM (A1 m c) (A2 m c) := by
  refine (dats m 0 c).arrAt_eq_of_covers 5 _ (by decide +kernel) fun t _ y => ?_
  blk_simp
  rw [after0_5]
  idx_vars y
  unfold out0_5
  frame_out
  rw [place5]
  exact newM_at _ _ _ _ (row t y0) y0 y1 (read1 m c t y0 y1) (read2 m c t y0 y1)

/-- Output 6 after the run. -/
theorem final6 (c : Dev nD) : (dats m 0 c).arrAt 6 (cfgs 0).N = newV (A1 m c) (A3 m c) := by
  refine (dats m 0 c).arrAt_eq_of_covers 6 _ (by decide +kernel) fun t _ y => ?_
  blk_simp
  rw [after0_6]
  idx_vars y
  unfold out0_6
  frame_out
  rw [place6]
  exact newV_at _ _ _ _ (row t y0) y0 y1 (read1 m c t y0 y1) (read3 m c t y0 y1)

end Kernel

/-- Both programs end with the same arrays. -/
theorem value : algebraic_StepIdeal_StepRefIdeal (hStepIdeal := StepIdeal.Gen.facts)
    (hStepRefIdeal := StepRefIdeal.Gen.facts) := fun m g m' g' _ hm => by
  refine ⟨fun c => change (A0 m c) (A1 m c) (A2 m c) (A3 m c), fun c => newM (A1 m c) (A2 m c), fun c => newV (A1 m c) (A3 m c),
    (θ_run _ _ _).mono (fun r h c => ?_) (StepIdeal.Value.run_blocks m g),
    (θ_run _ _ _).mono (fun r h c => ?_) (StepRefIdeal.Value.run (F := Ideal) m' g')⟩
  · obtain ⟨h0, h1, h2, h3⟩ := h c
    exact ⟨h0.trans (final4 m c), h1.trans (final5 m c), h2.trans (final6 m c), h3⟩
  · obtain ⟨e0, e1, e2, e3⟩ := hm c
    obtain ⟨h0, h1, h2, h3⟩ := h c
    refine ⟨h0.trans ?_, h1.trans ?_, h2.trans ?_, h3⟩
    · refine (StepRefIdeal.Read.val_main_v27_eq (F := Ideal) _ _ _ _).trans ?_
      exact congr (congr (congr (congrArg (StepRefIdeal.Read.val_main_v27 (F := Ideal)) e0) e1) e2) e3
    · refine (StepRefIdeal.Read.val_main_v8_eq (F := Ideal) _ _).trans ?_
      exact congr (congrArg (StepRefIdeal.Read.val_main_v8 (F := Ideal)) e1) e2
    · refine (StepRefIdeal.Read.val_main_v14_eq (F := Ideal) _ _).trans ?_
      exact congr (congrArg (StepRefIdeal.Read.val_main_v14 (F := Ideal)) e1) e3

end Cert.OptimiserStep

end
-- ==== Proof.MixGradClaims.lean ====
/- The gradients of the mixer's three square weights: both programs end with the same arrays. -/
module

public import proofs.«01_k».proof.Defs
public import proofs.«01_k».proof.Proof.Gen.MixGrad.Frame
public import proofs.«01_k».proof.Proof.Gen.MixGradIdeal.Value
public import proofs.«01_k».proof.Proof.Gen.MixGradRefIdeal.Run
public import proofs.«01_k».proof.Proof.Gen.MixGradRefIdeal.Read
public import Idealize.ShloMosaic.Lib.Pointwise
public import Idealize.ShloMosaic.Lib.Pipeline.ValueKit
public import Idealize.ShloMosaic.Lib.Claim

@[expose] public section

set_option maxRecDepth 16384

noncomputable section

namespace Cert.MixerWeights

open Idealize.ShloMosaic Idealize.ShloMosaic.TcCoe Idealize.ShloMosaic.Tactic Idealize.SL.Sem

/-- The gradient of a weight between a layer's input and its output's cotangent: the sum over the rows. -/
def product (x d : FVec Ideal ⟨2, ![4096, 1024]⟩ .f32) : FVec Ideal ⟨2, ![1024, 1024]⟩ .f32 := fun i =>
  ∑ s : Fin 4096, x (ix2 s (i 0)) * d (ix2 s (i 1))

section Reference
open MixGradRefIdeal MixGradRefIdeal.Read

/-- The first branch after SiLU, and the merged branches, both as the reference writes them. -/
abbrev act (a1 : FVec Ideal S4096x1024 .f32) (g b : FVec Ideal S1x1024 .f32) : FVec Ideal S4096x1024 .f32 :=
  val_main_v26 (F := Ideal) a1 g b
abbrev merged (a1 q : FVec Ideal S4096x1024 .f32) (z : FVec Ideal S4096x7168 .f32) (g b : FVec Ideal S1x1024 .f32)
    (wa wb : FVec Ideal S1x1024x1024 .f32) : FVec Ideal S4096x1024 .f32 := val_main_v52 (F := Ideal) a1 q z g b wa wb

theorem ref0 (a1 d : FVec Ideal S4096x1024 .f32) (g b : FVec Ideal S1x1024 .f32) :
    val_main_v56 (F := Ideal) a1 g b d = product (act a1 g b) d := by
  funext i
  idx_vars i
  pointwise [val_main_v56, val_main_v55]
  exact Finset.sum_congr rfl fun s _ => mul_comm _ _

theorem ref1 (q d : FVec Ideal S4096x1024 .f32) : val_main_v59 (F := Ideal) q d = product q d := by
  funext i
  idx_vars i
  pointwise [val_main_v59, val_main_v58]
  exact Finset.sum_congr rfl fun s _ => mul_comm _ _

theorem ref2 (a1 q d : FVec Ideal S4096x1024 .f32) (z : FVec Ideal S4096x7168 .f32) (g b : FVec Ideal S1x1024 .f32)
    (wa wb : FVec Ideal S1x1024x1024 .f32) :
    val_main_v62 (F := Ideal) a1 q z g b wa wb d = product (merged a1 q z g b wa wb) d := by
  funext i
  idx_vars i
  pointwise [val_main_v62, val_main_v61]
  exact Finset.sum_congr rfl fun s _ => mul_comm _ _

end Reference

/-- The reference runs and leaves its arguments alone; it has no semaphore. -/
theorem ref_frame : quiescent_MixGradRefIdeal (hMixGradRefIdeal := MixGradRefIdeal.Gen.facts) := fun m g _ =>
  (θ_run MixGradRefIdeal.defs _ _).mono (fun r h => ⟨fun c => (h c).2.2.2, sem_eq_zero_of_no_sems (by decide) r.2⟩)
    (MixGradRefIdeal.Value.run (F := Ideal) m g)

section Kernel
open MixGradIdeal MixGradIdeal.Gen
open Idealize.ShloMosaic.Pipeline (Dat)
variable (m : (ℓ : Loc nD τ sig) → Buf (Elt Ideal) ℓ)

/-- The program's arguments. -/
abbrev A0 (c : Dev nD) : FVec Ideal S4096x1024 .f32 := m ((c : Thread nD τ).loc main_arg0)
abbrev A1 (c : Dev nD) : FVec Ideal S4096x1024 .f32 := m ((c : Thread nD τ).loc main_arg1)
abbrev A2 (c : Dev nD) : FVec Ideal S4096x7168 .f32 := m ((c : Thread nD τ).loc main_arg2)
abbrev A3 (c : Dev nD) : FVec Ideal S1x1024 .f32 := m ((c : Thread nD τ).loc main_arg3)
abbrev A4 (c : Dev nD) : FVec Ideal S1x1024 .f32 := m ((c : Thread nD τ).loc main_arg4)
abbrev A5 (c : Dev nD) : FVec Ideal S1x1024x1024 .f32 := m ((c : Thread nD τ).loc main_arg5)
abbrev A6 (c : Dev nD) : FVec Ideal S1x1024x1024 .f32 := m ((c : Thread nD τ).loc main_arg6)
abbrev A7 (c : Dev nD) : FVec Ideal S4096x1024 .f32 := m ((c : Thread nD τ).loc main_arg7)
abbrev A8 (c : Dev nD) : FVec Ideal S4096x1024 .f32 := m ((c : Thread nD τ).loc main_arg8)
abbrev A9 (c : Dev nD) : FVec Ideal S4096x1024 .f32 := m ((c : Thread nD τ).loc main_arg9)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0]
    ∧ win0_6.index t = ![0, 0] ∧ win0_7.index t = ![0, 0] ∧ win0_8.index t = ![0, 0] :=
  (by decide +kernel : ∀ t : Fin grid0.N, _)

/-- The array's row that is row `r` of block `t`. -/
abbrev row (t : Fin cfg0.N) (r : Fin 512) : Fin 4096 := ⟨t.val * 512 + r.val, by have := lt_of_lt_of_eq t.isLt N_0; omega⟩

/- What the kernel finds in each operand, and what a block has of it. -/
theorem found0 (c : Dev nD) (s : Fin 4096) (x : Fin 1024) : V m c main_v53 (ix2 s x) = act (A0 m c) (A3 m c) (A4 m c) (ix2 s x) := by
  unfold V
  entry_read
  rfl
theorem read0 (c : Dev nD) (t : Fin cfg0.N) (r : Fin 512) (x : Fin 1024) : iblk m c 0 t (ix2 r x)
    = act (A0 m c) (A3 m c) (A4 m c) (ix2 (row t r) x) := by
  refine Eq.trans ?_ (found0 m c _ _)
  blk_point [iblk, idx t]
theorem found1 (c : Dev nD) (s : Fin 4096) (x : Fin 1024) : V m c main_v54 (ix2 s x) = A7 m c (ix2 s x) := by
  unfold V
  entry_read
  rfl
theorem read1 (c : Dev nD) (t : Fin cfg0.N) (r : Fin 512) (x : Fin 1024) : iblk m c 1 t (ix2 r x)
    = A7 m c (ix2 (row t r) x) := by
  refine Eq.trans ?_ (found1 m c _ _)
  blk_point [iblk, idx t]
theorem found2 (c : Dev nD) (s : Fin 4096) (x : Fin 1024) : V m c main_v55 (ix2 s x) = A1 m c (ix2 s x) := by
  unfold V
  entry_read
  rfl
theorem read2 (c : Dev nD) (t : Fin cfg0.N) (r : Fin 512) (x : Fin 1024) : iblk m c 2 t (ix2 r x)
    = A1 m c (ix2 (row t r) x) := by
  refine Eq.trans ?_ (found2 m c _ _)
  blk_point [iblk, idx t]
theorem found3 (c : Dev nD) (s : Fin 4096) (x : Fin 1024) : V m c main_v56 (ix2 s x) = A8 m c (ix2 s x) := by
  unfold V
  entry_read
  rfl
theorem read3 (c : Dev nD) (t : Fin cfg0.N) (r : Fin 512) (x : Fin 1024) : iblk m c 3 t (ix2 r x)
    = A8 m c (ix2 (row t r) x) := by
  refine Eq.trans ?_ (found3 m c _ _)
  blk_point [iblk, idx t]
theorem found4 (c : Dev nD) (s : Fin 4096) (x : Fin 1024) : V m c main_v57 (ix2 s x) = merged (A0 m c) (A1 m c) (A2 m c) (A3 m c) (A4 m c) (A5 m c) (A6 m c) (ix2 s x) := by
  unfold V
  entry_read
  rfl
theorem read4 (c : Dev nD) (t : Fin cfg0.N) (r : Fin 512) (x : Fin 1024) : iblk m c 4 t (ix2 r x)
    = merged (A0 m c) (A1 m c) (A2 m c) (A3 m c) (A4 m c) (A5 m c) (A6 m c) (ix2 (row t r) x) := by
  refine Eq.trans ?_ (found4 m c _ _)
  blk_point [iblk, idx t]
theorem found5 (c : Dev nD) (s : Fin 4096) (x : Fin 1024) : V m c main_v58 (ix2 s x) = A9 m c (ix2 s x) := by
  unfold V
  entry_read
  rfl
theorem read5 (c : Dev nD) (t : Fin cfg0.N) (r : Fin 512) (x : Fin 1024) : iblk m c 5 t (ix2 r x)
    = A9 m c (ix2 (row t r) x) := by
  refine Eq.trans ?_ (found5 m c _ _)
  blk_point [iblk, idx t]

/- What a block adds to an entry of each gradient, and what is there before the first block. -/
theorem pay4 (acc : FVec Ideal S1024x1024 .f32) (x d : FVec Ideal S512x1024 .bf16) (a b : Fin 1024) :
    k0_pay4 (F := Ideal) acc x d (ix2 a b) = acc (ix2 a b) + ∑ r : Fin 512, x (ix2 r a) * d (ix2 r b) := by pointwise [k0_pay4]
theorem zero1 (a b : Fin 1024) : k0_pay1 (F := Ideal) (ix2 a b) = 0 := by pointwise [k0_pay1]
theorem pay5 (acc : FVec Ideal S1024x1024 .f32) (x d : FVec Ideal S512x1024 .bf16) (a b : Fin 1024) :
    k0_pay5 (F := Ideal) acc x d (ix2 a b) = acc (ix2 a b) + ∑ r : Fin 512, x (ix2 r a) * d (ix2 r b) := by pointwise [k0_pay5]
theorem zero2 (a b : Fin 1024) : k0_pay2 (F := Ideal) (ix2 a b) = 0 := by pointwise [k0_pay2]
theorem pay6 (acc : FVec Ideal S1024x1024 .f32) (x d : FVec Ideal S512x1024 .bf16) (a b : Fin 1024) :
    k0_pay6 (F := Ideal) acc x d (ix2 a b) = acc (ix2 a b) + ∑ r : Fin 512, x (ix2 r a) * d (ix2 r b) := by pointwise [k0_pay6]
theorem zero3 (a b : Fin 1024) : k0_pay3 (F := Ideal) (ix2 a b) = 0 := by pointwise [k0_pay3]

/-- The gradient of the weight of the first branch, after the run. -/
theorem final6 (c : Dev nD) : (dats m 0 c).arrAt 6 (cfgs 0).N
    = product (act (A0 m c) (A3 m c) (A4 m c)) (A7 m c) := by
  refine (dats m 0 c).arrAt_eq_of_after_last 6 t0_7 (by decide +kernel) _ fun j => ?_
  blk_simp
  rw [after0_6, Pipeline.eq_sum_fin_of_reset_step_apply_last (fun n h => (outsAt0 m c n h).1) 8 (fun _ => 0)
    (fun t j => ∑ r : Fin 512, (act (A0 m c) (A3 m c) (A4 m c)) (ix2 (row t r) (j 0)) * (A7 m c) (ix2 (row t r) (j 1)))
    (fun t h j => by
      idx_vars j
      rw [outsAt0_A m c t h]; frame_out; rw [pay4, zero1]; simp only [read0, read1])
    (fun t h j => by
      idx_vars j
      rw [outsAt0_B m c t h]; frame_out; rw [pay4]; simp only [read0, read1]) (le_of_eq N_0) t0_7 rfl _, zero_add]
  exact Fin.sum_mul_add_congr fun s k hl => rfl

/-- The gradient of the weight of the second branch, after the run. -/
theorem final7 (c : Dev nD) : (dats m 0 c).arrAt 7 (cfgs 0).N
    = product (A1 m c) (A8 m c) := by
  refine (dats m 0 c).arrAt_eq_of_after_last 7 t0_7 (by decide +kernel) _ fun j => ?_
  blk_simp
  rw [after0_7, Pipeline.eq_sum_fin_of_reset_step_apply_last (fun n h => (outsAt0 m c n h).2.1) 8 (fun _ => 0)
    (fun t j => ∑ r : Fin 512, (A1 m c) (ix2 (row t r) (j 0)) * (A8 m c) (ix2 (row t r) (j 1)))
    (fun t h j => by
      idx_vars j
      rw [outsAt0_A m c t h]; frame_out; rw [pay5, zero2]; simp only [read2, read3])
    (fun t h j => by
      idx_vars j
      rw [outsAt0_B m c t h]; frame_out; rw [pay5]; simp only [read2, read3]) (le_of_eq N_0) t0_7 rfl _, zero_add]
  exact Fin.sum_mul_add_congr fun s k hl => rfl

/-- The gradient of the weight of the merge, after the run. -/
theorem final8 (c : Dev nD) : (dats m 0 c).arrAt 8 (cfgs 0).N
    = product (merged (A0 m c) (A1 m c) (A2 m c) (A3 m c) (A4 m c) (A5 m c) (A6 m c)) (A9 m c) := by
  refine (dats m 0 c).arrAt_eq_of_after_last 8 t0_7 (by decide +kernel) _ fun j => ?_
  blk_simp
  rw [after0_8, Pipeline.eq_sum_fin_of_reset_step_apply_last (fun n h => (outsAt0 m c n h).2.2) 8 (fun _ => 0)
    (fun t j => ∑ r : Fin 512, (merged (A0 m c) (A1 m c) (A2 m c) (A3 m c) (A4 m c) (A5 m c) (A6 m c)) (ix2 (row t r) (j 0)) * (A9 m c) (ix2 (row t r) (j 1)))
    (fun t h j => by
      idx_vars j
      rw [outsAt0_A m c t h]; frame_out; rw [pay6, zero3]; simp only [read4, read5])
    (fun t h j => by
      idx_vars j
      rw [outsAt0_B m c t h]; frame_out; rw [pay6]; simp only [read4, read5]) (le_of_eq N_0) t0_7 rfl _, zero_add]
  exact Fin.sum_mul_add_congr fun s k hl => rfl

end Kernel

/-- Both programs end with the same arrays. -/
theorem value : algebraic_MixGradIdeal_MixGradRefIdeal (hMixGradIdeal := MixGradIdeal.Gen.facts)
    (hMixGradRefIdeal := MixGradRefIdeal.Gen.facts) := fun m g m' g' _ hm => by
  refine ⟨fun c => product (act (A0 m c) (A3 m c) (A4 m c)) (A7 m c), fun c => product (A1 m c) (A8 m c),
    fun c => product (merged (A0 m c) (A1 m c) (A2 m c) (A3 m c) (A4 m c) (A5 m c) (A6 m c)) (A9 m c),
    (θ_run _ _ _).mono (fun r h c => ?_) (MixGradIdeal.Value.run_blocks m g),
    (θ_run _ _ _).mono (fun r h c => ?_) (MixGradRefIdeal.Value.run (F := Ideal) m' g')⟩
  · obtain ⟨h0, h1, h2, h3⟩ := h c
    exact ⟨h0.trans (final6 m c), h1.trans (final7 m c), h2.trans (final8 m c), h3⟩
  · obtain ⟨e0, e1, e2, e3, e4, e5, e6, e7, e8, e9⟩ := hm c
    obtain ⟨h0, h1, h2, h3⟩ := h c
    refine ⟨h0.trans ?_, h1.trans ?_, h2.trans ?_, h3⟩
    · refine (MixGradRefIdeal.Read.val_main_v56_eq (F := Ideal) _ _).trans ?_
      exact (congr (congr (congr (congrArg (MixGradRefIdeal.Read.val_main_v56 (F := Ideal)) e0) e3) e4) e7).trans (ref0 _ _ _ _)
    · refine (MixGradRefIdeal.Read.val_main_v59_eq (F := Ideal) _ _).trans ?_
      exact (congr (congrArg (MixGradRefIdeal.Read.val_main_v59 (F := Ideal)) e1) e8).trans (ref1 _ _)
    · refine (MixGradRefIdeal.Read.val_main_v62_eq (F := Ideal) _ _).trans ?_
      exact (congr (congr (congr (congr (congr (congr (congr (congrArg (MixGradRefIdeal.Read.val_main_v62 (F := Ideal)) e0) e1) e2) e3) e4)
        e5) e6) e9).trans (ref2 _ _ _ _ _ _ _ _)

end Cert.MixerWeights

end
-- ==== Proof.InGradClaims.lean ====
/- The mixer's input weight's gradient, a product over all rows: both programs end with the same array. -/
module

public import proofs.«01_k».proof.Defs
public import proofs.«01_k».proof.Proof.Gen.InGrad.Frame
public import proofs.«01_k».proof.Proof.Gen.InGradIdeal.Value
public import proofs.«01_k».proof.Proof.Gen.InGradRefIdeal.Run
public import proofs.«01_k».proof.Proof.Gen.InGradRefIdeal.Read
public import proofs.«01_k».proof.Proof.Swiglu
public import Idealize.ShloMosaic.Lib.Pointwise
public import Idealize.ShloMosaic.Lib.Pipeline.ValueKit
public import Idealize.ShloMosaic.Lib.Claim

@[expose] public section

set_option maxRecDepth 16384

noncomputable section

namespace Cert.ProductIn

open Idealize.ShloMosaic Idealize.ShloMosaic.TcCoe Idealize.ShloMosaic.Tactic Idealize.SL.Sem
open Cert.Swiglu

/-- The gradient. -/
def grad (h : FVec Ideal ⟨2, ![4096, 1024]⟩ .f32) (g : FVec Ideal ⟨2, ![1, 1024]⟩ .f32) (d : FVec Ideal ⟨2, ![4096, 7168]⟩ .f32) :
    FVec Ideal ⟨2, ![1024, 7168]⟩ .f32 := fun i =>
  ∑ s : Fin 4096, normed (fun x => h (ix2 s x)) (fun x => g (ix2 0 x)) (i 0) * d (ix2 s (i 1))

section Reference
open InGradRefIdeal InGradRefIdeal.Read
variable (h : FVec Ideal S4096x1024 .f32) (g : FVec Ideal S1x1024 .f32) (d : FVec Ideal S4096x7168 .f32)

theorem normed_at (r : Fin 4096) (x : Fin 1024) : val_main_v13 (F := Ideal) h g (ix2 r x)
    = normed (fun x => h (ix2 r x)) (fun x => g (ix2 0 x)) x := by
  pointwise [val_main_v13, val_main_v12, val_main_v11, val_main_v10, val_main_v9, val_main_v8, val_main_v7,
    val_main_v6, val_main_v5, val_main_v4, val_main_v3, val_main_v2, val_main_v1, val_main_v0, val_main_cst_1, val_main_cst_0,
    val_main_cst]
  rfl

theorem ref_grad : val_main_v17 (F := Ideal) h g d = grad h g d := by
  funext i
  idx_vars i
  pointwise [val_main_v17, val_main_v16]
  simp only [normed_at]
  exact Finset.sum_congr rfl fun s _ => mul_comm _ _

end Reference

/-- The reference runs and leaves its arguments alone; it has no semaphore. -/
theorem ref_frame : quiescent_InGradRefIdeal (hInGradRefIdeal := InGradRefIdeal.Gen.facts) := fun m g _ =>
  (θ_run InGradRefIdeal.defs _ _).mono (fun r h => ⟨fun c => (h c).2, sem_eq_zero_of_no_sems (by decide) r.2⟩)
    (InGradRefIdeal.Value.run (F := Ideal) m g)

section Kernel
open InGradIdeal InGradIdeal.Gen
open Idealize.ShloMosaic.Pipeline (Dat)
variable (m : (ℓ : Loc nD τ sig) → Buf (Elt Ideal) ℓ)

/-- The program's arguments. -/
abbrev A0 (c : Dev nD) : FVec Ideal S4096x1024 .f32 := m ((c : Thread nD τ).loc main_arg0)
abbrev A1 (c : Dev nD) : FVec Ideal S1x1024 .f32 := m ((c : Thread nD τ).loc main_arg1)
abbrev A2 (c : Dev nD) : FVec Ideal S4096x7168 .f32 := m ((c : Thread nD τ).loc main_arg2)

theorem idx : ∀ t : Fin cfg0.N, win0_0.index t = ![0, 0] ∧ win0_1.index t = ![t.val, 0, 0] ∧ win0_2.index t = ![0, t.val] :=
  (by decide +kernel : ∀ t : Fin grid0.N, _)

/-- The group of columns at a point, and the array's column that is column `k` of it. -/
abbrev part (t : Fin cfg0.N) : Fin 7 := ⟨t.val, lt_of_lt_of_eq t.isLt N_0⟩
abbrev col (t : Fin cfg0.N) (k : Fin 1024) : Fin 7168 := ⟨t.val * 1024 + k.val, by have := lt_of_lt_of_eq t.isLt N_0; omega⟩

theorem turn (v : FVec Ideal S4096x7168 .f32) (k : Fin 7) (r : Fin 4096) (x : Fin 1024) :
    (truncf .bf16 (transpose S7x4096x1024 [1, 0, 2] (shapeCast S4096x7x1024 v shapeCasts_S4096x7168_S4096x7x1024)
      transposes_S4096x7x1024_S7x4096x1024_1_0_2) bitsLt_bf16_f32 : FVec Ideal S7x4096x1024 .bf16) (ix3 k r x)
      = v (ix2 r (⟨k.val * 1024 + x.val, by omega⟩ : Fin 7168)) := by
  pointwise
theorem found_groups (c : Dev nD) (k : Fin 7) (s : Fin 4096) (x : Fin 1024) :
    V m c main_v16 (ix3 k s x) = A2 m c (ix2 s (⟨k.val * 1024 + x.val, by omega⟩ : Fin 7168)) := by
  unfold V
  entry_read
  exact turn _ k s x
theorem found_normed (c : Dev nD) (s : Fin 4096) (x : Fin 1024) : V m c main_v17 (ix2 s x)
    = normed (fun x => A0 m c (ix2 s x)) (fun x => A1 m c (ix2 0 x)) x := by
  unfold V
  entry_read
  exact normed_at (A0 m c) (A1 m c) s x
theorem read0 (c : Dev nD) (t : Fin cfg0.N) (s : Fin 4096) (x : Fin 1024) : iblk m c 0 t (ix2 s x)
    = normed (fun x => A0 m c (ix2 s x)) (fun x => A1 m c (ix2 0 x)) x := by
  refine Eq.trans ?_ (found_normed m c _ _)
  blk_point [iblk, idx t]
theorem read1 (c : Dev nD) (t : Fin cfg0.N) (s : Fin 4096) (k : Fin 1024) : iblk m c 1 t (ix3 0 s k) = A2 m c (ix2 s (col t k)) := by
  refine Eq.trans ?_ (found_groups m c (part t) s k)
  blk_point [iblk, idx t]

theorem product_at (n : FVec Ideal S4096x1024 .bf16) (d : FVec Ideal S1x4096x1024 .bf16) (x k : Fin 1024) :
    k0_pay1 (F := Ideal) n d (ix2 x k) = ∑ s : Fin 4096, n (ix2 s x) * d (ix3 0 s k) := by pointwise [k0_pay1]
theorem place (t : Fin cfg0.N) (x k : Fin 1024) : ((cfg0.win 2).blk t).view.emb (ix2 x k) = ix2 x (col t k) := by
  blk_ext [idx t]

/-- The array after the run. -/
theorem final (c : Dev nD) : (dats m 0 c).arrAt 2 (cfgs 0).N = grad (A0 m c) (A1 m c) (A2 m c) := by
  refine (dats m 0 c).arrAt_eq_of_covers 2 _ (by decide +kernel) fun t _ y => ?_
  blk_simp
  rw [after0_2]
  idx_vars y
  unfold out0_2
  frame_out
  rw [place, product_at]
  simp only [read0, read1]
  rfl

end Kernel

/-- Both programs end with the same array. -/
theorem value : algebraic_InGradIdeal_InGradRefIdeal (hInGradIdeal := InGradIdeal.Gen.facts)
    (hInGradRefIdeal := InGradRefIdeal.Gen.facts) := fun m g m' g' _ hm => by
  refine ⟨fun c => grad (A0 m c) (A1 m c) (A2 m c),
    (θ_run _ _ _).mono (fun r h c => ?_) (InGradIdeal.Value.run_blocks m g),
    (θ_run _ _ _).mono (fun r h c => ?_) (InGradRefIdeal.Value.run (F := Ideal) m' g')⟩
  · obtain ⟨h0, h1⟩ := h c
    exact ⟨h0.trans (final m c), h1⟩
  · obtain ⟨e0, e1, e2⟩ := hm c
    obtain ⟨h0, h1⟩ := h c
    refine ⟨h0.trans ?_, h1⟩
    refine (InGradRefIdeal.Read.val_main_v17_eq (F := Ideal) _ _ _).trans ?_
    exact (congr (congr (congrArg (InGradRefIdeal.Read.val_main_v17 (F := Ideal)) e0) e1) e2).trans (ref_grad _ _ _)

end Cert.ProductIn

end
-- ==== Proof.FfnGradClaims.lean ====
/- A feed-forward weight's gradient, a product over all rows: both programs end with the same array. -/
module

public import proofs.«01_k».proof.Defs
public import proofs.«01_k».proof.Proof.Gen.FfnGrad.Frame
public import proofs.«01_k».proof.Proof.Gen.FfnGradIdeal.Value
public import proofs.«01_k».proof.Proof.Gen.FfnGradRefIdeal.Run
public import proofs.«01_k».proof.Proof.Gen.FfnGradRefIdeal.Read
public import proofs.«01_k».proof.Proof.Swiglu
public import Idealize.ShloMosaic.Lib.Pointwise
public import Idealize.ShloMosaic.Lib.Pipeline.ValueKit
public import Idealize.ShloMosaic.Lib.Claim

@[expose] public section

set_option maxRecDepth 16384

noncomputable section

namespace Cert.ProductFfn

open Idealize.ShloMosaic Idealize.ShloMosaic.TcCoe Idealize.ShloMosaic.Tactic Idealize.SL.Sem
open Cert.Swiglu

/-- The gradient, transposed as the kernel stores it. -/
def grad (h : FVec Ideal ⟨2, ![4096, 1024]⟩ .f32) (g : FVec Ideal ⟨2, ![1, 1024]⟩ .f32) (d : FVec Ideal ⟨2, ![4096, 2816]⟩ .f32) :
    FVec Ideal ⟨2, ![2816, 1024]⟩ .f32 := fun i =>
  ∑ s : Fin 4096, d (ix2 s (i 0)) * normed (fun x => h (ix2 s x)) (fun x => g (ix2 0 x)) (i 1)

section Reference
open FfnGradRefIdeal FfnGradRefIdeal.Read
variable (h : FVec Ideal S4096x1024 .f32) (g : FVec Ideal S1x1024 .f32) (d : FVec Ideal S4096x2816 .f32)

theorem normed_at (r : Fin 4096) (x : Fin 1024) : val_main_v13 (F := Ideal) h g (ix2 r x)
    = normed (fun x => h (ix2 r x)) (fun x => g (ix2 0 x)) x := by
  pointwise [val_main_v13, val_main_v12, val_main_v11, val_main_v10, val_main_v9, val_main_v8, val_main_v7,
    val_main_v6, val_main_v5, val_main_v4, val_main_v3, val_main_v2, val_main_v1, val_main_v0, val_main_cst_1, val_main_cst_0,
    val_main_cst]
  rfl

theorem ref_grad : val_main_v18 (F := Ideal) h g d = grad h g d := by
  funext i
  idx_vars i
  pointwise [val_main_v18, val_main_v17, val_main_v16]
  simp only [normed_at]
  rfl

end Reference

/-- The reference runs and leaves its arguments alone; it has no semaphore. -/
theorem ref_frame : quiescent_FfnGradRefIdeal (hFfnGradRefIdeal := FfnGradRefIdeal.Gen.facts) := fun m g _ =>
  (θ_run FfnGradRefIdeal.defs _ _).mono (fun r h => ⟨fun c => (h c).2, sem_eq_zero_of_no_sems (by decide) r.2⟩)
    (FfnGradRefIdeal.Value.run (F := Ideal) m g)

section Kernel
open FfnGradIdeal FfnGradIdeal.Gen
open Idealize.ShloMosaic.Pipeline (Dat)
variable (m : (ℓ : Loc nD τ sig) → Buf (Elt Ideal) ℓ)

/-- The program's arguments. -/
abbrev A0 (c : Dev nD) : FVec Ideal S4096x1024 .f32 := m ((c : Thread nD τ).loc main_arg0)
abbrev A1 (c : Dev nD) : FVec Ideal S1x1024 .f32 := m ((c : Thread nD τ).loc main_arg1)
abbrev A2 (c : Dev nD) : FVec Ideal S4096x2816 .f32 := m ((c : Thread nD τ).loc main_arg2)

theorem idx : ∀ t : Fin cfg0.N, win0_0.index t = ![0, t.val] ∧ win0_1.index t = ![0, 0] ∧ win0_2.index t = ![t.val, 0] :=
  (by decide +kernel : ∀ t : Fin grid0.N, _)

/-- The array's column that is column `k` of block `t`. -/
abbrev col (t : Fin cfg0.N) (k : Fin 1408) : Fin 2816 := ⟨t.val * 1408 + k.val, by have := lt_of_lt_of_eq t.isLt N_0; omega⟩

theorem found_grad (c : Dev nD) (s : Fin 4096) (k : Fin 2816) : V m c main_v14 (ix2 s k) = A2 m c (ix2 s k) := by
  unfold V
  entry_read
  pointwise
theorem found_normed (c : Dev nD) (s : Fin 4096) (x : Fin 1024) : V m c main_v15 (ix2 s x)
    = normed (fun x => A0 m c (ix2 s x)) (fun x => A1 m c (ix2 0 x)) x := by
  unfold V
  entry_read
  exact normed_at (A0 m c) (A1 m c) s x
theorem read0 (c : Dev nD) (t : Fin cfg0.N) (s : Fin 4096) (k : Fin 1408) : iblk m c 0 t (ix2 s k) = A2 m c (ix2 s (col t k)) := by
  refine Eq.trans ?_ (found_grad m c _ _)
  blk_point [iblk, idx t]
theorem read1 (c : Dev nD) (t : Fin cfg0.N) (s : Fin 4096) (x : Fin 1024) : iblk m c 1 t (ix2 s x)
    = normed (fun x => A0 m c (ix2 s x)) (fun x => A1 m c (ix2 0 x)) x := by
  refine Eq.trans ?_ (found_normed m c _ _)
  blk_point [iblk, idx t]

theorem product_at (d : FVec Ideal S4096x1408 .bf16) (n : FVec Ideal S4096x1024 .bf16) (k : Fin 1408) (x : Fin 1024) :
    k0_pay1 (F := Ideal) d n (ix2 k x) = ∑ s : Fin 4096, d (ix2 s k) * n (ix2 s x) := by pointwise [k0_pay1]
theorem place (t : Fin cfg0.N) (k : Fin 1408) (x : Fin 1024) : ((cfg0.win 2).blk t).view.emb (ix2 k x) = ix2 (col t k) x := by
  blk_ext [idx t]

/-- The array after the run. -/
theorem final (c : Dev nD) : (dats m 0 c).arrAt 2 (cfgs 0).N = grad (A0 m c) (A1 m c) (A2 m c) := by
  refine (dats m 0 c).arrAt_eq_of_covers 2 _ (by decide +kernel) fun t _ y => ?_
  blk_simp
  rw [after0_2]
  idx_vars y
  unfold out0_2
  frame_out
  rw [place, product_at]
  simp only [read0, read1]
  rfl

end Kernel

/-- Both programs end with the same array. -/
theorem value : algebraic_FfnGradIdeal_FfnGradRefIdeal (hFfnGradIdeal := FfnGradIdeal.Gen.facts)
    (hFfnGradRefIdeal := FfnGradRefIdeal.Gen.facts) := fun m g m' g' _ hm => by
  refine ⟨fun c => grad (A0 m c) (A1 m c) (A2 m c),
    (θ_run _ _ _).mono (fun r h c => ?_) (FfnGradIdeal.Value.run_blocks m g),
    (θ_run _ _ _).mono (fun r h c => ?_) (FfnGradRefIdeal.Value.run (F := Ideal) m' g')⟩
  · obtain ⟨h0, h1⟩ := h c
    exact ⟨h0.trans (final m c), h1⟩
  · obtain ⟨e0, e1, e2⟩ := hm c
    obtain ⟨h0, h1⟩ := h c
    refine ⟨h0.trans ?_, h1⟩
    refine (FfnGradRefIdeal.Read.val_main_v18_eq (F := Ideal) _ _ _).trans ?_
    exact (congr (congr (congrArg (FfnGradRefIdeal.Read.val_main_v18 (F := Ideal)) e0) e1) e2).trans (ref_grad _ _ _)

end Cert.ProductFfn

end
-- ==== Proof.FfnFirstRef.lean ====
/- The first feed-forward layer's norm: the reference computes the gradients `hidden` and `weight` of FfnInputRef.lean. -/
module

public import proofs.«01_k».proof.Proof.Gen.FfnFirstRefIdeal.Read
public import proofs.«01_k».proof.Proof.FfnInputRef
public import Idealize.ShloMosaic.Lib.Pointwise

@[expose] public section

set_option maxRecDepth 16384

noncomputable section

namespace Cert.FirstNorm

open Idealize.ShloMosaic Idealize.ShloMosaic.TcCoe Idealize.SL.Sem Cert.FfnFirstRefIdeal Cert.FfnFirstRefIdeal.Read
open Cert.FfnInput (hidden weight share)

variable (dh h : FVec Ideal S4096x1024 .f32) (g : FVec Ideal S1x1024 .f32) (dgp dup : FVec Ideal S4096x2816 .f32)
  (wg wu : FVec Ideal S1x1024x2816 .f32)

/-- The reference's first result. -/
theorem ref_hidden :
    val_main_v44 (F := Ideal) dh h g dgp dup wg wu = hidden dh h g dgp dup wg wu := by
  funext i
  idx_vars i
  refine Eq.trans ?_ (Rms.byHand_eq _ _ _ _).symm
  pointwise [val_main_v44, val_main_v43, val_main_v42, val_main_v41, val_main_v40, val_main_v39, val_main_v38, val_main_v37,
    val_main_v36, val_main_v35, val_main_v34, val_main_v33, val_main_v32, val_main_v31, val_main_v30, val_main_v28, val_main_v27,
    val_main_v23, val_main_v22, val_main_v21, val_main_v19, val_main_v17, val_main_v14, val_main_v11, val_main_v10, val_main_v9,
    val_main_v8, val_main_v7, val_main_v6, val_main_v5, val_main_v4, val_main_v3, val_main_v2, val_main_v1, val_main_v0,
    val_main_cst_7, val_main_cst_6, val_main_cst_5, val_main_cst_2, val_main_cst_1, val_main_cst_0, val_main_cst]
  simp only [add_comm (∑ k : Fin 2816, dup _ * wu _)]
  rfl

/-- The reference's second result. -/
theorem ref_weight : val_main_v45 (F := Ideal) h dgp dup wg wu = weight h dgp dup wg wu := by
  funext i
  idx_vars i
  pointwise [val_main_v45, val_main_v29, val_main_cst_4, val_main_v26, val_main_v25, val_main_cst_3, val_main_v24, val_main_v23,
    val_main_v22, val_main_v21, val_main_v19, val_main_v17, val_main_v13, val_main_v12, val_main_v8, val_main_v7, val_main_v6,
    val_main_v5, val_main_v4, val_main_v3, val_main_v2, val_main_v1, val_main_cst_1, val_main_cst_0, val_main_cst]
  simp only [add_comm (∑ k : Fin 2816, dup _ * wu _), mul_comm (h _ * _) (_ + _), Fin.sum_univ_one]
  rfl

end Cert.FirstNorm

end
-- ==== Proof.FfnFirstHalves.lean ====
/- The first feed-forward layer's norm, whose gradient the kernel computes in two halves of the rows: what each half
   leaves, whatever the buffers hold at its beginning. -/
module

public import proofs.«01_k».proof.Proof.Gen.FfnFirstIdeal.Frame
public import proofs.«01_k».proof.Proof.FfnInputRef
public import Idealize.ShloMosaic.Lib.Pointwise
public import Idealize.ShloMosaic.Lib.Pipeline.ValueKit
public import Idealize.ShloMosaic.Lib.Claim

@[expose] public section

set_option maxRecDepth 16384

noncomputable section

namespace Cert.FirstNorm

open Idealize.ShloMosaic Idealize.ShloMosaic.TcCoe Idealize.ShloMosaic.Tactic Idealize.SL.Sem Cert.FfnFirstIdeal Cert.FfnFirstIdeal.Gen
open Cert.FfnInput (hidden weight share)

variable (dh h : FVec Ideal S4096x1024 .f32) (g : FVec Ideal S1x1024 .f32) (dgp dup : FVec Ideal S4096x2816 .f32)
  (wg wu : FVec Ideal S1x1024x2816 .f32)
variable (V : (c : Dev nD) → (b : Ref sig .tc) → Buf (Elt Ideal) ((c : Thread nD τ).loc b))

/-- The operands that both halves find: the arguments, cast and transposed. -/
structure Entry (c : Dev nD) : Prop where
  a0 : ∀ (r : Fin 4096) (x : Fin 1024), V c main_arg0 (ix2 r x) = dh (ix2 r x)
  a1 : ∀ (r : Fin 4096) (x : Fin 1024), V c main_arg1 (ix2 r x) = h (ix2 r x)
  a2 : ∀ x : Fin 1024, V c main_arg2 (ix2 0 x) = g (ix2 0 x)
  v6 : ∀ (r : Fin 4096) (k : Fin 2816), V c main_v6 (ix2 r k) = dgp (ix2 r k)
  v7 : ∀ (r : Fin 4096) (k : Fin 2816), V c main_v7 (ix2 r k) = dup (ix2 r k)
  v2 : ∀ (k : Fin 2816) (x : Fin 1024), V c main_v2 (ix2 k x) = wg (ix3 0 x k)
  v5 : ∀ (k : Fin 2816) (x : Fin 1024), V c main_v5 (ix2 k x) = wu (ix3 0 x k)

/-- The sum of the shares of some of the rows. -/
def sumOver (f : Fin 2048 → Fin 4096) : FVec Ideal S1x1024 .f32 := fun i => ∑ r : Fin 2048, share h dgp dup wg wu (f r) (i 1)

/-- The rows of both halves. -/
abbrev lower (r : Fin 2048) : Fin 4096 := ⟨r.val, by omega⟩
abbrev upper (r : Fin 2048) : Fin 4096 := ⟨2048 + r.val, by omega⟩

section Half0

/-- What a block stores at an entry of the gradient with respect to the hidden state. -/
theorem pay_hidden0 (dh h : FVec Ideal S512x1024 .f32) (g : FVec Ideal S1x1024 .f32) (dgp dup : FVec Ideal S512x2816 .bf16)
    (wg wu : FVec Ideal S2816x1024 .bf16) (r : Fin 512) (l : Fin 1024) :
    k0_pay1 (F := Ideal) (k0_pay9 dgp wg dup wu h g) (k0_pay10 h) (k0_pay11 dgp wg dup wu h g) dh (ix2 r l) =
      dh (ix2 r l) + Rms.byHand (fun x => h (ix2 r x))
        (fun x => (∑ k : Fin 2816, dgp (ix2 r k) * wg (ix2 k x) + ∑ k : Fin 2816, dup (ix2 r k) * wu (ix2 k x)) * g (ix2 0 x)) l := by
  pointwise [k0_pay1, k0_pay9, k0_pay10, k0_pay11, k0_pay8, k0_pay6, k0_pay5, k0_pay4]
  rfl

/-- What a block adds to an entry of the gradient with respect to the norm's weight. -/
theorem pay_weight0 (h : FVec Ideal S512x1024 .f32) (acc : FVec Ideal S1x1024 .f32) (dgp dup : FVec Ideal S512x2816 .bf16)
    (wg wu : FVec Ideal S2816x1024 .bf16) (l : Fin 1024) :
    k0_pay2 (F := Ideal) (k0_pay7 dgp wg dup wu h) acc (ix2 0 l) = acc (ix2 0 l) +
      ∑ r : Fin 512, (∑ k : Fin 2816, dgp (ix2 r k) * wg (ix2 k l) + ∑ k : Fin 2816, dup (ix2 r k) * wu (ix2 k l))
        * (h (ix2 r l) * Rms.inv fun x => h (ix2 r x)) := by
  pointwise [k0_pay2, k0_pay7, k0_pay6, k0_pay5, k0_pay4]
  rfl

/-- Before the first block that gradient is zero. -/
theorem pay_zero0 (l : Fin 1024) : k0_pay3 (F := Ideal) (ix2 0 l) = 0 := by pointwise [k0_pay3]

/-- The block that each operand has at each grid point. -/
theorem idx0 : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![0, 0]
    ∧ win0_7.index t = ![t.val, 0] ∧ win0_8.index t = ![0, 0] :=
  (by decide +kernel : ∀ t : Fin grid0.N, _)

/-- The array's row that is row `r` of block `t` of this half. -/
abbrev row0 (t : Fin cfg0.N) (r : Fin 512) : Fin 4096 := ⟨t.val * 512 + r.val, by have := lt_of_lt_of_eq t.isLt N_0; omega⟩

theorem read0_0 (c : Dev nD) (t : Fin cfg0.N) (r : Fin 512) (x : Fin 1024) :
    iblk0 V c 0 t (ix2 r x) = V c main_arg0 (ix2 (row0 t r) x) := by blk_ext! [iblk0, idx0 t]
theorem read0_1 (c : Dev nD) (t : Fin cfg0.N) (r : Fin 512) (x : Fin 1024) :
    iblk0 V c 1 t (ix2 r x) = V c main_arg1 (ix2 (row0 t r) x) := by blk_ext! [iblk0, idx0 t]
theorem read0_2 (c : Dev nD) (t : Fin cfg0.N) (x : Fin 1024) :
    iblk0 V c 2 t (ix2 0 x) = V c main_arg2 (ix2 0 x) := by blk_ext! [iblk0, idx0 t]
theorem read0_3 (c : Dev nD) (t : Fin cfg0.N) (r : Fin 512) (x : Fin 2816) :
    iblk0 V c 3 t (ix2 r x) = V c main_v6 (ix2 (row0 t r) x) := by blk_ext! [iblk0, idx0 t]
theorem read0_4 (c : Dev nD) (t : Fin cfg0.N) (r : Fin 512) (x : Fin 2816) :
    iblk0 V c 4 t (ix2 r x) = V c main_v7 (ix2 (row0 t r) x) := by blk_ext! [iblk0, idx0 t]
theorem read0_5 (c : Dev nD) (t : Fin cfg0.N) (k : Fin 2816) (x : Fin 1024) :
    iblk0 V c 5 t (ix2 k x) = V c main_v2 (ix2 k x) := by blk_ext! [iblk0, idx0 t]
theorem read0_6 (c : Dev nD) (t : Fin cfg0.N) (k : Fin 2816) (x : Fin 1024) :
    iblk0 V c 6 t (ix2 k x) = V c main_v5 (ix2 k x) := by blk_ext! [iblk0, idx0 t]
theorem place0 (t : Fin cfg0.N) (r : Fin 512) (x : Fin 1024) :
    ((cfg0.win 7).blk t).view.emb (ix2 r x) = ix2 (row0 t r) x := by
  blk_ext [idx0 t]

/-- What a block stores is the gradient's block. -/
theorem point_hidden0 (c : Dev nD) (E : Entry dh h g dgp dup wg wu V c) (t : Fin cfg0.N) (r : Fin 512) (x : Fin 1024) :
    k0_pay1 (F := Ideal) (k0_pay9 (iblk0 V c 3 t) (iblk0 V c 5 t) (iblk0 V c 4 t) (iblk0 V c 6 t) (iblk0 V c 1 t) (iblk0 V c 2 t))
      (k0_pay10 (iblk0 V c 1 t))
      (k0_pay11 (iblk0 V c 3 t) (iblk0 V c 5 t) (iblk0 V c 4 t) (iblk0 V c 6 t) (iblk0 V c 1 t) (iblk0 V c 2 t)) (iblk0 V c 0 t) (ix2 r x)
      = hidden dh h g dgp dup wg wu (((cfg0.win 7).blk t).view.emb (ix2 r x)) := by
  rw [place0, pay_hidden0]
  simp only [read0_0, read0_1, read0_2, read0_3, read0_4, read0_5, read0_6, E.a0, E.a1, E.a2, E.v6, E.v7, E.v2, E.v5]
  rfl

/-- What a block adds is the sum of its rows' shares. -/
theorem point_weight0 (c : Dev nD) (E : Entry dh h g dgp dup wg wu V c) (t : Fin cfg0.N) (acc : FVec Ideal S1x1024 .f32) (l : Fin 1024) :
    k0_pay2 (F := Ideal) (k0_pay7 (iblk0 V c 3 t) (iblk0 V c 5 t) (iblk0 V c 4 t) (iblk0 V c 6 t) (iblk0 V c 1 t)) acc (ix2 0 l)
      = acc (ix2 0 l) + ∑ r : Fin 512, share h dgp dup wg wu (row0 t r) l := by
  rw [pay_weight0]
  simp only [read0_1, read0_3, read0_4, read0_5, read0_6, E.a1, E.v6, E.v7, E.v2, E.v5]
  rfl

/-- What a block leaves, whether it is the first or a later one. -/
theorem left0 (c : Dev nD) (E : Entry dh h g dgp dup wg wu V c) (t : Fin cfg0.N) (r : Fin 512) (x : Fin 1024) :
    (outsAt0 V c t.val t.isLt).1 (ix2 r x) = hidden dh h g dgp dup wg wu (((cfg0.win 7).blk t).view.emb (ix2 r x)) := by
  by_cases hz : t.val % 4 = 0
  · rw [outsAt0_A V c t hz]; frame_out
    exact point_hidden0 dh h g dgp dup wg wu V c E t r x
  · rw [outsAt0_B V c t hz]; frame_out
    exact point_hidden0 dh h g dgp dup wg wu V c E t r x

/-- The first half of the rows after the first kernel. -/
theorem half0 (c : Dev nD) (E : Entry dh h g dgp dup wg wu V c) (r : Fin 4096) (hr : r.val < 2048) (x : Fin 1024) :
    (dat0 V c).arrAt 7 cfg0.N (ix2 r x) = hidden dh h g dgp dup wg wu (ix2 r x) := by
  refine ((dat0 V c).arrAt_apply_of_coversWhere 7 (hidden dh h g dgp dup wg wu) (P := fun i => (i (0 : Fin 2)).val / 512 < 4)
    (fun β => β (0 : Fin 2) < 4) (by decide +kernel) (fun t _ y => ?_) (fun j => Iff.rfl) (ix2 r x)).trans (if_pos ?_)
  · blk_simp
    rw [after0_7]
    idx_vars y
    exact left0 dh h g dgp dup wg wu V c E t y0 y1
  · exact (by omega : r.val / 512 < 4)

/-- This half's share of the norm's weight's gradient. -/
theorem part0 (c : Dev nD) (E : Entry dh h g dgp dup wg wu V c) (l : Fin 1024) :
    (dat0 V c).arrAt 8 cfg0.N (ix2 0 l) = sumOver h dgp dup wg wu lower (ix2 0 l) := by
  refine congrFun ((dat0 V c).arrAt_eq_of_after_last 8 t0_3 (by decide +kernel)
    (sumOver h dgp dup wg wu lower) fun j => ?_) (ix2 0 l)
  blk_simp
  rw [after0_8, Pipeline.eq_sum_fin_of_reset_step_apply_last (fun n h => (outsAt0 V c n h).2) 4 (fun _ => 0)
    (fun t j => ∑ r : Fin 512, share h dgp dup wg wu (row0 t r) (j 1))
    (fun t hz j => by
      idx_vars j
      obtain rfl : j0 = 0 := Subsingleton.elim _ _
      rw [outsAt0_A V c t hz]; frame_out; rw [point_weight0 dh h g dgp dup wg wu V c E, pay_zero0])
    (fun t hz j => by
      idx_vars j
      obtain rfl : j0 = 0 := Subsingleton.elim _ _
      rw [outsAt0_B V c t hz]; frame_out; rw [point_weight0 dh h g dgp dup wg wu V c E]) (le_of_eq N_0) t0_3 rfl _, zero_add]
  refine Fin.sum_mul_add_congr fun s k hl => rfl

end Half0

section Half1

/-- What a block stores at an entry of the gradient with respect to the hidden state. -/
theorem pay_hidden1 (dh h : FVec Ideal S512x1024 .f32) (g : FVec Ideal S1x1024 .f32) (dgp dup : FVec Ideal S512x2816 .bf16)
    (wg wu : FVec Ideal S2816x1024 .bf16) (r : Fin 512) (l : Fin 1024) :
    k1_pay1 (F := Ideal) (k1_pay9 dgp wg dup wu h g) (k1_pay10 h) (k1_pay11 dgp wg dup wu h g) dh (ix2 r l) =
      dh (ix2 r l) + Rms.byHand (fun x => h (ix2 r x))
        (fun x => (∑ k : Fin 2816, dgp (ix2 r k) * wg (ix2 k x) + ∑ k : Fin 2816, dup (ix2 r k) * wu (ix2 k x)) * g (ix2 0 x)) l := by
  pointwise [k1_pay1, k1_pay9, k1_pay10, k1_pay11, k1_pay8, k1_pay6, k1_pay5, k1_pay4]
  rfl

/-- What a block adds to an entry of the gradient with respect to the norm's weight. -/
theorem pay_weight1 (h : FVec Ideal S512x1024 .f32) (acc : FVec Ideal S1x1024 .f32) (dgp dup : FVec Ideal S512x2816 .bf16)
    (wg wu : FVec Ideal S2816x1024 .bf16) (l : Fin 1024) :
    k1_pay2 (F := Ideal) (k1_pay7 dgp wg dup wu h) acc (ix2 0 l) = acc (ix2 0 l) +
      ∑ r : Fin 512, (∑ k : Fin 2816, dgp (ix2 r k) * wg (ix2 k l) + ∑ k : Fin 2816, dup (ix2 r k) * wu (ix2 k l))
        * (h (ix2 r l) * Rms.inv fun x => h (ix2 r x)) := by
  pointwise [k1_pay2, k1_pay7, k1_pay6, k1_pay5, k1_pay4]
  rfl

/-- Before the first block that gradient is zero. -/
theorem pay_zero1 (l : Fin 1024) : k1_pay3 (F := Ideal) (ix2 0 l) = 0 := by pointwise [k1_pay3]

/-- The block that each operand has at each grid point. -/
theorem idx1 : ∀ t : Fin cfg1.N, win1_0.index t = ![4 + t.val, 0] ∧ win1_1.index t = ![4 + t.val, 0] ∧ win1_2.index t = ![0, 0]
    ∧ win1_3.index t = ![4 + t.val, 0] ∧ win1_4.index t = ![4 + t.val, 0] ∧ win1_5.index t = ![0, 0] ∧ win1_6.index t = ![0, 0]
    ∧ win1_7.index t = ![4 + t.val, 0] ∧ win1_8.index t = ![0, 0] :=
  (by decide +kernel : ∀ t : Fin grid1.N, _)

/-- The array's row that is row `r` of block `t` of this half. -/
abbrev row1 (t : Fin cfg1.N) (r : Fin 512) : Fin 4096 := ⟨(4 + t.val) * 512 + r.val, by have := lt_of_lt_of_eq t.isLt N_1; omega⟩

theorem read1_0 (c : Dev nD) (t : Fin cfg1.N) (r : Fin 512) (x : Fin 1024) :
    iblk1 V c 0 t (ix2 r x) = V c main_arg0 (ix2 (row1 t r) x) := by blk_ext! [iblk1, idx1 t]
theorem read1_1 (c : Dev nD) (t : Fin cfg1.N) (r : Fin 512) (x : Fin 1024) :
    iblk1 V c 1 t (ix2 r x) = V c main_arg1 (ix2 (row1 t r) x) := by blk_ext! [iblk1, idx1 t]
theorem read1_2 (c : Dev nD) (t : Fin cfg1.N) (x : Fin 1024) :
    iblk1 V c 2 t (ix2 0 x) = V c main_arg2 (ix2 0 x) := by blk_ext! [iblk1, idx1 t]
theorem read1_3 (c : Dev nD) (t : Fin cfg1.N) (r : Fin 512) (x : Fin 2816) :
    iblk1 V c 3 t (ix2 r x) = V c main_v6 (ix2 (row1 t r) x) := by blk_ext! [iblk1, idx1 t]
theorem read1_4 (c : Dev nD) (t : Fin cfg1.N) (r : Fin 512) (x : Fin 2816) :
    iblk1 V c 4 t (ix2 r x) = V c main_v7 (ix2 (row1 t r) x) := by blk_ext! [iblk1, idx1 t]
theorem read1_5 (c : Dev nD) (t : Fin cfg1.N) (k : Fin 2816) (x : Fin 1024) :
    iblk1 V c 5 t (ix2 k x) = V c main_v2 (ix2 k x) := by blk_ext! [iblk1, idx1 t]
theorem read1_6 (c : Dev nD) (t : Fin cfg1.N) (k : Fin 2816) (x : Fin 1024) :
    iblk1 V c 6 t (ix2 k x) = V c main_v5 (ix2 k x) := by blk_ext! [iblk1, idx1 t]
theorem place1 (t : Fin cfg1.N) (r : Fin 512) (x : Fin 1024) :
    ((cfg1.win 7).blk t).view.emb (ix2 r x) = ix2 (row1 t r) x := by
  blk_ext [idx1 t]

/-- What a block stores is the gradient's block. -/
theorem point_hidden1 (c : Dev nD) (E : Entry dh h g dgp dup wg wu V c) (t : Fin cfg1.N) (r : Fin 512) (x : Fin 1024) :
    k1_pay1 (F := Ideal) (k1_pay9 (iblk1 V c 3 t) (iblk1 V c 5 t) (iblk1 V c 4 t) (iblk1 V c 6 t) (iblk1 V c 1 t) (iblk1 V c 2 t))
      (k1_pay10 (iblk1 V c 1 t))
      (k1_pay11 (iblk1 V c 3 t) (iblk1 V c 5 t) (iblk1 V c 4 t) (iblk1 V c 6 t) (iblk1 V c 1 t) (iblk1 V c 2 t)) (iblk1 V c 0 t) (ix2 r x)
      = hidden dh h g dgp dup wg wu (((cfg1.win 7).blk t).view.emb (ix2 r x)) := by
  rw [place1, pay_hidden1]
  simp only [read1_0, read1_1, read1_2, read1_3, read1_4, read1_5, read1_6, E.a0, E.a1, E.a2, E.v6, E.v7, E.v2, E.v5]
  rfl

/-- What a block adds is the sum of its rows' shares. -/
theorem point_weight1 (c : Dev nD) (E : Entry dh h g dgp dup wg wu V c) (t : Fin cfg1.N) (acc : FVec Ideal S1x1024 .f32) (l : Fin 1024) :
    k1_pay2 (F := Ideal) (k1_pay7 (iblk1 V c 3 t) (iblk1 V c 5 t) (iblk1 V c 4 t) (iblk1 V c 6 t) (iblk1 V c 1 t)) acc (ix2 0 l)
      = acc (ix2 0 l) + ∑ r : Fin 512, share h dgp dup wg wu (row1 t r) l := by
  rw [pay_weight1]
  simp only [read1_1, read1_3, read1_4, read1_5, read1_6, E.a1, E.v6, E.v7, E.v2, E.v5]
  rfl

/-- What a block leaves, whether it is the first or a later one. -/
theorem left1 (c : Dev nD) (E : Entry dh h g dgp dup wg wu V c) (t : Fin cfg1.N) (r : Fin 512) (x : Fin 1024) :
    (outsAt1 V c t.val t.isLt).1 (ix2 r x) = hidden dh h g dgp dup wg wu (((cfg1.win 7).blk t).view.emb (ix2 r x)) := by
  by_cases hz : t.val % 4 = 0
  · rw [outsAt1_A V c t hz]; frame_out
    exact point_hidden1 dh h g dgp dup wg wu V c E t r x
  · rw [outsAt1_B V c t hz]; frame_out
    exact point_hidden1 dh h g dgp dup wg wu V c E t r x

/-- All rows after the second kernel, when the first half is there before it. -/
theorem half1 (c : Dev nD) (E : Entry dh h g dgp dup wg wu V c)
    (H : ∀ (r : Fin 4096) (_ : r.val < 2048) (x : Fin 1024), V c main_v9_0 (ix2 r x) = hidden dh h g dgp dup wg wu (ix2 r x)) :
    (dat1 V c).arrAt 7 cfg1.N = hidden dh h g dgp dup wg wu := by
  refine (dat1 V c).arrAt_eq_of_coversWhere_of_agree 7 _ (fun β => 4 ≤ β (0 : Fin 2)) (by decide +kernel) (fun t _ y => ?_) fun j hj => ?_
  · blk_simp
    rw [after1_7]
    idx_vars y
    exact left1 dh h g dgp dup wg wu V c E t y0 y1
  · rw [A_eq1]
    idx_vars j
    exact H j0 (by have h : ¬ 4 ≤ j0.val / 512 := hj; omega) j1

/-- This half's share of the norm's weight's gradient. -/
theorem part1 (c : Dev nD) (E : Entry dh h g dgp dup wg wu V c) (l : Fin 1024) :
    (dat1 V c).arrAt 8 cfg1.N (ix2 0 l) = sumOver h dgp dup wg wu upper (ix2 0 l) := by
  refine congrFun ((dat1 V c).arrAt_eq_of_after_last 8 t1_3 (by decide +kernel)
    (sumOver h dgp dup wg wu upper) fun j => ?_) (ix2 0 l)
  blk_simp
  rw [after1_8, Pipeline.eq_sum_fin_of_reset_step_apply_last (fun n h => (outsAt1 V c n h).2) 4 (fun _ => 0)
    (fun t j => ∑ r : Fin 512, share h dgp dup wg wu (row1 t r) (j 1))
    (fun t hz j => by
      idx_vars j
      obtain rfl : j0 = 0 := Subsingleton.elim _ _
      rw [outsAt1_A V c t hz]; frame_out; rw [point_weight1 dh h g dgp dup wg wu V c E, pay_zero1])
    (fun t hz j => by
      idx_vars j
      obtain rfl : j0 = 0 := Subsingleton.elim _ _
      rw [outsAt1_B V c t hz]; frame_out; rw [point_weight1 dh h g dgp dup wg wu V c E]) (le_of_eq N_1) t1_3 rfl _, zero_add]
  refine Fin.sum_mul_add_congr fun s k hl => ?_
  exact congrArg (fun q => share h dgp dup wg wu q (j 1)) (Fin.ext (by simp only; omega))

end Half1

end Cert.FirstNorm

end
-- ==== Proof.FfnFirstClaims.lean ====
/- The first feed-forward layer's norm, whose gradient the kernel computes in two halves of the rows: both programs end
   with the same arrays. -/
module

public import proofs.«01_k».proof.Defs
public import proofs.«01_k».proof.Proof.Gen.FfnFirst.Frame
public import proofs.«01_k».proof.Proof.Gen.FfnFirstRefIdeal.Run
public import proofs.«01_k».proof.Proof.FfnFirstRef
public import proofs.«01_k».proof.Proof.FfnFirstHalves

@[expose] public section

set_option maxRecDepth 16384

noncomputable section

namespace Cert.FirstNorm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnInput (hidden weight share)

/-- The reference runs and leaves its arguments alone; it has no semaphore. -/
theorem ref_frame : quiescent_FfnFirstRefIdeal (hFfnFirstRefIdeal := FfnFirstRefIdeal.Gen.facts) := fun m g _ =>
  (θ_run FfnFirstRefIdeal.defs _ _).mono (fun r h => ⟨fun c => (h c).2.2, sem_eq_zero_of_no_sems (by decide) r.2⟩)
    (FfnFirstRefIdeal.Value.run (F := Ideal) m g)

section Kernel
open FfnFirstIdeal FfnFirstIdeal.Gen
open Idealize.ShloMosaic.Rounds
open Idealize.ShloMosaic.Pipeline (cellOf)
variable (m : (ℓ : Loc nD τ sig) → Buf (Elt Ideal) ℓ) (g : Dev nD → PrngReg)

set_option backward.isDefEq.respectTransparency.types false in
/-- The kernel's program ends with every buffer as the last of its five parts leaves it. -/
theorem run_all : θ_run defs (onTc (τ := τ) (main (F := Ideal))) ⟨m, fun _ => 0, g⟩ (fun r => ∀ c : Dev nD,
      ∀ b ∈ Pipeline.ucRefs τ sig, r.2.mem (((c : Thread nD τ)).1, b) = W5 m g c b) :=
  Pipeline.θ_run_regions_kit_sems (pcfgs (F := Ideal)) adm (pdats m g) () cellOf_inj emb₁ defs₀ 𝒱₀ L lv m g main (segs m g)
    (fun c Q => by rw [main_run m g c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m g c) ∗ R c)) (Tₙ := Tₙ m g)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m g c)
        from Pipeline.unscopedBufs_held c (W0 m g c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m g c b)
    (hfin := fun c s' => by
      iintro ⟨⟨Hh, -⟩, HSI⟩
      unfold StableHlo.held
      imodintro
      iapply (pointsTo_read_all (Pipeline.ucRefs τ sig) (fun b => (((c : Thread nD τ)).1, b)) (W5 m g c) s')
      isplitl [Hh] <;> iassumption)
    (hQ := fun s h hz c b hb => h c b hb)

/-- The program's arguments. -/
abbrev A0 (c : Dev nD) : FVec Ideal S4096x1024 .f32 := m ((c : Thread nD τ).loc main_arg0)
abbrev A1 (c : Dev nD) : FVec Ideal S4096x1024 .f32 := m ((c : Thread nD τ).loc main_arg1)
abbrev A2 (c : Dev nD) : FVec Ideal S1x1024 .f32 := m ((c : Thread nD τ).loc main_arg2)
abbrev A3 (c : Dev nD) : FVec Ideal S4096x2816 .f32 := m ((c : Thread nD τ).loc main_arg3)
abbrev A4 (c : Dev nD) : FVec Ideal S4096x2816 .f32 := m ((c : Thread nD τ).loc main_arg4)
abbrev A5 (c : Dev nD) : FVec Ideal S1x1024x2816 .f32 := m ((c : Thread nD τ).loc main_arg5)
abbrev A6 (c : Dev nD) : FVec Ideal S1x1024x2816 .f32 := m ((c : Thread nD τ).loc main_arg6)

/-- The weights as the host lays them out. -/
theorem turn (v : FVec Ideal S1x1024x2816 .f32) (k : Fin 2816) (x : Fin 1024) :
    (truncf .bf16 (transpose S2816x1024 [1, 0] (shapeCast S1024x2816 v shapeCasts_S1x1024x2816_S1024x2816)
      transposes_S1024x2816_S2816x1024_1_0) bitsLt_bf16_f32 : FVec Ideal S2816x1024 .bf16) (ix2 k x) = v (ix3 0 x k) := by
  pointwise

/-- What the first half finds. -/
theorem entry0 (c : Dev nD) : Entry (A0 m c) (A1 m c) (A2 m c) (A3 m c) (A4 m c) (A5 m c) (A6 m c) (V1 m g) c where
  a0 r x := congrFun (W1_args m g c main_arg0 (by decide)) _
  a1 r x := congrFun (W1_args m g c main_arg1 (by decide)) _
  a2 x := congrFun (W1_args m g c main_arg2 (by decide)) _
  v6 r k := by unfold V1 W1; entry_read; pointwise
  v7 r k := by unfold V1 W1; entry_read; pointwise
  v2 k x := by unfold V1 W1; entry_read; exact turn _ k x
  v5 k x := by unfold V1 W1; entry_read; exact turn _ k x

/-- A buffer that neither the first kernel nor the copy after it writes. -/
theorem kept (c : Dev nD) (b : Ref sig .tc) (h : b ∉ hostOps1_W)
    (h' : ∀ w : Fin cfg0.W, Pipeline.arrRef spec0 w = b → (cfg0.win w).isOut = false) : V3 m g c b = V1 m g c b :=
  (W3_of m g c b h).trans (W2_of m g c b h')

/-- What the second half finds: the same. -/
theorem entry1 (c : Dev nD) : Entry (A0 m c) (A1 m c) (A2 m c) (A3 m c) (A4 m c) (A5 m c) (A6 m c) (V3 m g) c where
  a0 r x := congrFun (W3_args m g c main_arg0 (by decide)) _
  a1 r x := congrFun (W3_args m g c main_arg1 (by decide)) _
  a2 x := congrFun (W3_args m g c main_arg2 (by decide)) _
  v6 r k := (congrFun (kept m g c main_v6 (by decide) (by decide +kernel)) _).trans ((entry0 m g c).v6 r k)
  v7 r k := (congrFun (kept m g c main_v7 (by decide) (by decide +kernel)) _).trans ((entry0 m g c).v7 r k)
  v2 k x := (congrFun (kept m g c main_v2 (by decide) (by decide +kernel)) _).trans ((entry0 m g c).v2 k x)
  v5 k x := (congrFun (kept m g c main_v5 (by decide) (by decide +kernel)) _).trans ((entry0 m g c).v5 k x)

/-- The second half is stored into a copy of what the first half left. -/
theorem copied (c : Dev nD) : V3 m g c main_v9_0 = (dat0 (V1 m g) c).arrAt 7 cfg0.N := by
  refine Eq.trans ?_ (W2_arr m g c 7)
  unfold V3 W3
  entry_read
  rfl

/-- The first result after the run. -/
theorem final_hidden (c : Dev nD) : W5 m g c (Proc.devRef .tc main_v9_0)
    = hidden (A0 m c) (A1 m c) (A2 m c) (A3 m c) (A4 m c) (A5 m c) (A6 m c) :=
  (W5_of m g c main_v9_0 (by decide)).trans ((W4_arr m g c 7).trans (half1 _ _ _ _ _ _ _ _ c (entry1 m g c) fun r hr x =>
    (congrFun (copied m g c) _).trans (half0 _ _ _ _ _ _ _ _ c (entry0 m g c) r hr x)))

/-- The second result: the sum of what both halves left. -/
theorem added (c : Dev nD) (l : Fin 1024) : (W5 m g c (Proc.devRef .tc main_v10) : FVec Ideal S1x1024 .f32) (ix2 0 l)
    = (fun a b : EReal => a + b) ((W4 m g c (Proc.devRef .tc main_v8_1) : FVec Ideal S1x1024 .f32) (ix2 0 l))
      ((W4 m g c (Proc.devRef .tc main_v9_1) : FVec Ideal S1x1024 .f32) (ix2 0 l)) := by
  unfold W5
  entry_read
  rfl

/-- The first half's share is still there after the second. -/
theorem first_kept (c : Dev nD) : W4 m g c (Proc.devRef .tc main_v8_1) = (dat0 (V1 m g) c).arrAt 8 cfg0.N :=
  (W4_of m g c main_v8_1 (by decide +kernel)).trans ((W3_of m g c main_v8_1 (by decide)).trans (W2_arr m g c 8))

/-- The second result after the run. -/
theorem final_weight (c : Dev nD) : W5 m g c (Proc.devRef .tc main_v10)
    = weight (A1 m c) (A3 m c) (A4 m c) (A5 m c) (A6 m c) := by
  funext j
  idx_vars j
  obtain rfl : j0 = 0 := Subsingleton.elim _ _
  refine (added m g c j1).trans ?_
  refine (congrArg₂ (fun a b : EReal => a + b)
    ((congrFun (first_kept m g c) _).trans (part0 _ _ _ _ _ _ _ _ c (entry0 m g c) j1))
    ((congrFun (W4_arr m g c 8) _).trans (part1 _ _ _ _ _ _ _ _ c (entry1 m g c) j1))).trans ?_
  exact (Fin.sum_univ_add (a := 2048) (b := 2048) (fun r : Fin (2048 + 2048) => share (A1 m c) (A3 m c) (A4 m c) (A5 m c) (A6 m c) r j1)).symm

/-- The kernel's program ends with both gradients, its arguments as they were. -/
theorem run_kernel : θ_run defs (onTc (τ := τ) (main (F := Ideal))) ⟨m, fun _ => 0, g⟩ (fun r => ∀ c : Dev nD,
      r.2.mem ((c.tc : Thread nD τ).loc main_v9_0) = hidden (A0 m c) (A1 m c) (A2 m c) (A3 m c) (A4 m c) (A5 m c) (A6 m c)
      ∧ r.2.mem ((c.tc : Thread nD τ).loc main_v10) = weight (A1 m c) (A3 m c) (A4 m c) (A5 m c) (A6 m c)
      ∧ ∀ a ∈ argRefs, r.2.mem ((c.tc : Thread nD τ).loc a) = m ((c.tc : Thread nD τ).loc a)) :=
  (θ_run defs _ _).mono (fun r h c =>
    ⟨(h c _ (mem_uc main_v9_0 (by decide))).trans (final_hidden m g c),
     (h c _ (mem_uc main_v10 (by decide))).trans (final_weight m g c),
     fun a ha => (h c _ (mem_uc a ((by decide : ∀ a ∈ argRefs, ¬ (Proc.devRef .tc a : DevRef τ sig).isScoped) a ha))).trans (W5_args m g c a ha)⟩) (run_all m g)

end Kernel

/-- Both programs end with the same arrays. -/
theorem value : algebraic_FfnFirstIdeal_FfnFirstRefIdeal (hFfnFirstIdeal := FfnFirstIdeal.Gen.facts)
    (hFfnFirstRefIdeal := FfnFirstRefIdeal.Gen.facts) := fun m g m' g' _ hm => by
  refine ⟨fun c => hidden (A0 m c) (A1 m c) (A2 m c) (A3 m c) (A4 m c) (A5 m c) (A6 m c),
    fun c => weight (A1 m c) (A3 m c) (A4 m c) (A5 m c) (A6 m c),
    (θ_run _ _ _).mono (fun r h c => ?_) (run_kernel m g),
    (θ_run _ _ _).mono (fun r h c => ?_) (FfnFirstRefIdeal.Value.run (F := Ideal) m' g')⟩
  · obtain ⟨h0, h1, h2⟩ := h c
    exact ⟨h0, h1, h2 _ (by decide), h2 _ (by decide), h2 _ (by decide), h2 _ (by decide), h2 _ (by decide), h2 _ (by decide),
      h2 _ (by decide)⟩
  · obtain ⟨e0, e1, e2, e3, e4, e5, e6⟩ := hm c
    refine ⟨(h c).1.trans ?_, (h c).2.1.trans ?_, (h c).2.2⟩
    · rw [FfnFirstRefIdeal.Read.val_main_v44_eq, e0, e1, e2, e3, e4, e5, e6]
      exact ref_hidden _ _ _ _ _ _ _
    · refine (FfnFirstRefIdeal.Read.val_main_v45_eq (F := Ideal) _ _ _ _ _).trans ?_
      rw [e1, e3, e4, e5, e6]
      exact ref_weight _ _ _ _ _

end Cert.FirstNorm

end
-- ==== Proof.lean ====
/- Everything that the certificate claims, put together from the modules of proof/Proof. -/
module

public import proofs.«01_k».proof.Defs

public import proofs.«01_k».proof.Proof.Gen.FfnInIdeal.Value
public import proofs.«01_k».proof.Proof.Gen.FfnInRefIdeal.Read
public import proofs.«01_k».proof.Proof.Gen.Pre_finite_hidden
public import proofs.«01_k».proof.Proof.FfnInputClaims
public import proofs.«01_k».proof.Proof.FfnHiddenClaims
public import proofs.«01_k».proof.Proof.HeadClaims
public import proofs.«01_k».proof.Proof.MixInClaims
public import proofs.«01_k».proof.Proof.ConvClaims
public import proofs.«01_k».proof.Proof.MixOutClaims
public import proofs.«01_k».proof.Proof.ConvFwdClaims
public import proofs.«01_k».proof.Proof.FfnFwdClaims
public import proofs.«01_k».proof.Proof.MergeFwdClaims
public import proofs.«01_k».proof.Proof.MixFwdClaims
public import proofs.«01_k».proof.Proof.StepClaims
public import proofs.«01_k».proof.Proof.MixGradClaims
public import proofs.«01_k».proof.Proof.InGradClaims
public import proofs.«01_k».proof.Proof.FfnGradClaims
public import proofs.«01_k».proof.Proof.FfnFirstClaims

@[expose] public section

noncomputable section

namespace Cert.Proof

open Idealize.ShloMosaic Idealize.SL.Sem

theorem claim : Cert.Claim :=
  ⟨Cert.FfnIn.Gen.facts, Cert.FfnInIdeal.Gen.facts, Cert.FfnInRefIdeal.Gen.facts,
    Cert.FfnHidden.Gen.facts, Cert.FfnHiddenIdeal.Gen.facts, Cert.FfnHiddenRefIdeal.Gen.facts,
    Cert.Head.Gen.facts, Cert.HeadIdeal.Gen.facts, Cert.HeadRefIdeal.Gen.facts,
    Cert.MixIn.Gen.facts, Cert.MixInIdeal.Gen.facts, Cert.MixInRefIdeal.Gen.facts,
    Cert.Conv.Gen.facts, Cert.ConvIdeal.Gen.facts, Cert.ConvRefIdeal.Gen.facts,
    Cert.MixOut.Gen.facts, Cert.MixOutIdeal.Gen.facts, Cert.MixOutRefIdeal.Gen.facts,
    Cert.ConvFwd.Gen.facts, Cert.ConvFwdIdeal.Gen.facts, Cert.ConvFwdRefIdeal.Gen.facts,
    Cert.FfnFwd.Gen.facts, Cert.FfnFwdIdeal.Gen.facts, Cert.FfnFwdRefIdeal.Gen.facts,
    Cert.MergeFwd.Gen.facts, Cert.MergeFwdIdeal.Gen.facts, Cert.MergeFwdRefIdeal.Gen.facts,
    Cert.MixFwd.Gen.facts, Cert.MixFwdIdeal.Gen.facts, Cert.MixFwdRefIdeal.Gen.facts,
    Cert.FfnFirst.Gen.facts, Cert.FfnFirstIdeal.Gen.facts, Cert.FfnFirstRefIdeal.Gen.facts,
    Cert.FfnGrad.Gen.facts, Cert.FfnGradIdeal.Gen.facts, Cert.FfnGradRefIdeal.Gen.facts,
    Cert.InGrad.Gen.facts, Cert.InGradIdeal.Gen.facts, Cert.InGradRefIdeal.Gen.facts,
    Cert.Step.Gen.facts, Cert.StepIdeal.Gen.facts, Cert.StepRefIdeal.Gen.facts,
    Cert.MixGrad.Gen.facts, Cert.MixGradIdeal.Gen.facts, Cert.MixGradRefIdeal.Gen.facts,
    Cert.Pre_finite_hidden.Gen.facts, Cert.Pre_finite_merge.Gen.facts,
    fun m g _ => Cert.FfnIn.Gen.frame m g, fun m g _ => Cert.FfnInIdeal.Gen.frame m g, Cert.FfnInput.ref_frame,
    Cert.GatedHidden.frame, Cert.GatedHidden.ideal_frame, fun m g _ => Cert.GatedHidden.ideal_frame m g trivial,
    Cert.GatedHidden.ref_frame, fun m g _ => Cert.GatedHidden.ref_frame m g trivial,
    fun m g _ => Cert.Head.Gen.frame m g, fun m g _ => Cert.HeadIdeal.Gen.frame m g, Cert.LossHead.ref_frame,
    fun m g _ => Cert.MixIn.Gen.frame m g, fun m g _ => Cert.MixInIdeal.Gen.frame m g, Cert.MixInput.ref_frame,
    Cert.ConvGrad.frame, Cert.ConvGrad.ideal_frame, Cert.ConvGrad.ref_frame,
    Cert.MergeGrad.frame, Cert.MergeGrad.ideal_frame, fun m g _ => Cert.MergeGrad.ideal_frame m g trivial,
    Cert.MergeGrad.ref_frame, fun m g _ => Cert.MergeGrad.ref_frame m g trivial,
    fun m g _ => Cert.ConvFwd.Gen.frame m g, fun m g _ => Cert.ConvFwdIdeal.Gen.frame m g, Cert.ForwardConv.ref_frame,
    fun m g _ => Cert.FfnFwd.Gen.frame m g, fun m g _ => Cert.FfnFwdIdeal.Gen.frame m g, Cert.ForwardFfn.ref_frame,
    fun m g _ => Cert.MergeFwd.Gen.frame m g, fun m g _ => Cert.MergeFwdIdeal.Gen.frame m g, Cert.ForwardMerge.ref_frame,
    fun m g _ => Cert.MixFwd.Gen.frame m g, fun m g _ => Cert.MixFwdIdeal.Gen.frame m g, Cert.ForwardMix.ref_frame,
    fun m g _ => Cert.FfnFirst.Gen.frame m g, fun m g _ => Cert.FfnFirstIdeal.Gen.frame m g, Cert.FirstNorm.ref_frame,
    fun m g _ => Cert.FfnGrad.Gen.frame m g, fun m g _ => Cert.FfnGradIdeal.Gen.frame m g, Cert.ProductFfn.ref_frame,
    fun m g _ => Cert.InGrad.Gen.frame m g, fun m g _ => Cert.InGradIdeal.Gen.frame m g, Cert.ProductIn.ref_frame,
    fun m g _ => Cert.Step.Gen.frame m g, fun m g _ => Cert.StepIdeal.Gen.frame m g, Cert.OptimiserStep.ref_frame,
    fun m g _ => Cert.MixGrad.Gen.frame m g, fun m g _ => Cert.MixGradIdeal.Gen.frame m g, Cert.MixerWeights.ref_frame,
    trivial, Cert.FfnInput.value, trivial, Cert.GatedHidden.value, trivial, Cert.LossHead.value, trivial, Cert.MixInput.value,
    trivial, Cert.ConvGrad.value, trivial, Cert.MergeGrad.value, trivial, Cert.ForwardConv.value, trivial, Cert.ForwardFfn.value,
    trivial, Cert.ForwardMerge.value, trivial, Cert.ForwardMix.value,
    trivial, Cert.FirstNorm.value, trivial, Cert.ProductFfn.value, trivial, Cert.ProductIn.value, trivial, Cert.OptimiserStep.value,
    trivial, Cert.MixerWeights.value⟩

end Cert.Proof

end
